-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_PeerQ (m : (ℓ : Loc Cert.PeerQ.nD Cert.PeerQ.τ Cert.PeerQ.sig) → Buf (Elt Bits) ℓ) : Prop :=
  True

def Pre_PeerQIdeal (m : (ℓ : Loc Cert.PeerQIdeal.nD Cert.PeerQIdeal.τ Cert.PeerQIdeal.sig) → Buf (Elt Ideal) ℓ) : Prop :=
  True

def Pre_PeerQRefIdeal (m : (ℓ : Loc Cert.PeerQRefIdeal.nD Cert.PeerQRefIdeal.τ Cert.PeerQRefIdeal.sig) → Buf (Elt Ideal) ℓ) : Prop :=
  True

def Pre_InProjCtx (m : (ℓ : Loc Cert.InProjCtx.nD Cert.InProjCtx.τ Cert.InProjCtx.sig) → Buf (Elt Bits) ℓ) : Prop :=
  True

def Pre_InProjCtxIdeal (m : (ℓ : Loc Cert.InProjCtxIdeal.nD Cert.InProjCtxIdeal.τ Cert.InProjCtxIdeal.sig) → Buf (Elt Ideal) ℓ) : Prop :=
  True

def Pre_InProjCtxRefIdeal (m : (ℓ : Loc Cert.InProjCtxRefIdeal.nD Cert.InProjCtxRefIdeal.τ Cert.InProjCtxRefIdeal.sig) → Buf (Elt Ideal) ℓ) : Prop :=
  True

def Pre_Conformer (m : (ℓ : Loc Cert.Conformer.nD Cert.Conformer.τ Cert.Conformer.sig) → Buf (Elt Bits) ℓ) : Prop :=
  True

def Pre_ConformerIdeal (m : (ℓ : Loc Cert.ConformerIdeal.nD Cert.ConformerIdeal.τ Cert.ConformerIdeal.sig) → Buf (Elt Ideal) ℓ) : Prop :=
  True

def Pre_ConformerRefIdeal (m : (ℓ : Loc Cert.ConformerRefIdeal.nD Cert.ConformerRefIdeal.τ Cert.ConformerRefIdeal.sig) → Buf (Elt Ideal) ℓ) : Prop :=
  True

def Pre_Tables (m : (ℓ : Loc Cert.Tables.nD Cert.Tables.τ Cert.Tables.sig) → Buf (Elt Bits) ℓ) : Prop :=
  True

def Pre_TablesIdeal (m : (ℓ : Loc Cert.TablesIdeal.nD Cert.TablesIdeal.τ Cert.TablesIdeal.sig) → Buf (Elt Ideal) ℓ) : Prop :=
  True

def Pre_TablesRefIdeal (m : (ℓ : Loc Cert.TablesRefIdeal.nD Cert.TablesRefIdeal.τ Cert.TablesRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_PrepCtx (m : (ℓ : Loc Cert.PrepCtx.nD Cert.PrepCtx.τ Cert.PrepCtx.sig) → Buf (Elt Bits) ℓ) : Prop :=
  True

def Pre_PrepCtxIdeal (m : (ℓ : Loc Cert.PrepCtxIdeal.nD Cert.PrepCtxIdeal.τ Cert.PrepCtxIdeal.sig) → Buf (Elt Ideal) ℓ) : Prop :=
  True

def Pre_PrepCtxRefIdeal (m : (ℓ : Loc Cert.PrepCtxRefIdeal.nD Cert.PrepCtxRefIdeal.τ Cert.PrepCtxRefIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsIdeal_above_minus_infinity [hPre_above_minus_infinity : Cert.Pre_above_minus_infinity.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_above_minus_infinity.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_above_minus_infinity [hPre_above_minus_infinity : Cert.Pre_above_minus_infinity.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_above_minus_infinity.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_PeerQ [hPeerQ : Cert.PeerQ.Facts] : Prop :=
  ∀ (m : (ℓ : Loc Cert.PeerQ.nD Cert.PeerQ.τ Cert.PeerQ.sig) → Buf (Elt Bits) ℓ) (g : Dev Cert.PeerQ.nD → PrngReg), Pre_PeerQ m →
    θ_run (Cert.PeerQ.defs (F := Bits)) (onTc (τ := Cert.PeerQ.τ) (Cert.PeerQ.main (F := Bits))) ⟨m, fun _ => 0, g⟩ (fun r => (∀ c : Dev Cert.PeerQ.nD,
      r.2.mem ((c.tc : Thread Cert.PeerQ.nD Cert.PeerQ.τ).loc Cert.PeerQ.main_arg0) = m ((c.tc : Thread Cert.PeerQ.nD Cert.PeerQ.τ).loc Cert.PeerQ.main_arg0)
      ∧ r.2.mem ((c.tc : Thread Cert.PeerQ.nD Cert.PeerQ.τ).loc Cert.PeerQ.main_arg1) = m ((c.tc : Thread Cert.PeerQ.nD Cert.PeerQ.τ).loc Cert.PeerQ.main_arg1)
      ∧ r.2.mem ((c.tc : Thread Cert.PeerQ.nD Cert.PeerQ.τ).loc Cert.PeerQ.main_arg2) = m ((c.tc : Thread Cert.PeerQ.nD Cert.PeerQ.τ).loc Cert.PeerQ.main_arg2)
      ∧ r.2.mem ((c.tc : Thread Cert.PeerQ.nD Cert.PeerQ.τ).loc Cert.PeerQ.main_arg3) = m ((c.tc : Thread Cert.PeerQ.nD Cert.PeerQ.τ).loc Cert.PeerQ.main_arg3))
      ∧ r.2.sem = fun _ => 0)

def quiescent_PeerQIdeal [hPeerQIdeal : Cert.PeerQIdeal.Facts] : Prop :=
  ∀ (m : (ℓ : Loc Cert.PeerQIdeal.nD Cert.PeerQIdeal.τ Cert.PeerQIdeal.sig) → Buf (Elt Ideal) ℓ) (g : Dev Cert.PeerQIdeal.nD → PrngReg), Pre_PeerQIdeal m →
    θ_run (Cert.PeerQIdeal.defs (F := Ideal)) (onTc (τ := Cert.PeerQIdeal.τ) (Cert.PeerQIdeal.main (F := Ideal))) ⟨m, fun _ => 0, g⟩ (fun r => (∀ c : Dev Cert.PeerQIdeal.nD,
      r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
      ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1)
      ∧ r.2.mem ((c.tc : Thread Cert.PeerQIdeal.nD Cert.PeerQIdeal.τ).loc Cert.PeerQIdeal.main_arg2) = m ((c.tc : Thread Cert.PeerQIdeal.nD Cert.PeerQIdeal.τ).loc Cert.PeerQIdeal.main_arg2)
      ∧ r.2.mem ((c.tc : Thread Cert.PeerQIdeal.nD Cert.PeerQIdeal.τ).loc Cert.PeerQIdeal.main_arg3) = m ((c.tc : Thread Cert.PeerQIdeal.nD Cert.PeerQIdeal.τ).loc Cert.PeerQIdeal.main_arg3))
      ∧ r.2.sem = fun _ => 0)

def quiescent_PeerQRefIdeal [hPeerQRefIdeal : Cert.PeerQRefIdeal.Facts] : Prop :=
  ∀ (m : (ℓ : Loc Cert.PeerQRefIdeal.nD Cert.PeerQRefIdeal.τ Cert.PeerQRefIdeal.sig) → Buf (Elt Ideal) ℓ) (g : Dev Cert.PeerQRefIdeal.nD → PrngReg), Pre_PeerQRefIdeal m →
    θ_run (Cert.PeerQRefIdeal.defs (F := Ideal)) (onTc (τ := Cert.PeerQRefIdeal.τ) (Cert.PeerQRefIdeal.main (F := Ideal))) ⟨m, fun _ => 0, g⟩ (fun r => (∀ c : Dev Cert.PeerQRefIdeal.nD,
      r.2.mem ((c.tc : Thread Cert.PeerQRefIdeal.nD Cert.PeerQRefIdeal.τ).loc Cert.PeerQRefIdeal.main_arg0) = m ((c.tc : Thread Cert.PeerQRefIdeal.nD Cert.PeerQRefIdeal.τ).loc Cert.PeerQRefIdeal.main_arg0)
      ∧ r.2.mem ((c.tc : Thread Cert.PeerQRefIdeal.nD Cert.PeerQRefIdeal.τ).loc Cert.PeerQRefIdeal.main_arg1) = m ((c.tc : Thread Cert.PeerQRefIdeal.nD Cert.PeerQRefIdeal.τ).loc Cert.PeerQRefIdeal.main_arg1)
      ∧ r.2.mem ((c.tc : Thread Cert.PeerQRefIdeal.nD Cert.PeerQRefIdeal.τ).loc Cert.PeerQRefIdeal.main_arg2) = m ((c.tc : Thread Cert.PeerQRefIdeal.nD Cert.PeerQRefIdeal.τ).loc Cert.PeerQRefIdeal.main_arg2)
      ∧ r.2.mem ((c.tc : Thread Cert.PeerQRefIdeal.nD Cert.PeerQRefIdeal.τ).loc Cert.PeerQRefIdeal.main_arg3) = m ((c.tc : Thread Cert.PeerQRefIdeal.nD Cert.PeerQRefIdeal.τ).loc Cert.PeerQRefIdeal.main_arg3))
      ∧ r.2.sem = fun _ => 0)

def quiescent_InProjCtx [hInProjCtx : Cert.InProjCtx.Facts] : Prop :=
  ∀ (m : (ℓ : Loc Cert.InProjCtx.nD Cert.InProjCtx.τ Cert.InProjCtx.sig) → Buf (Elt Bits) ℓ) (g : Dev Cert.InProjCtx.nD → PrngReg), Pre_InProjCtx m →
    θ_run (Cert.InProjCtx.defs (F := Bits)) (onTc (τ := Cert.InProjCtx.τ) (Cert.InProjCtx.main (F := Bits))) ⟨m, fun _ => 0, g⟩ (fun r => (∀ c : Dev Cert.InProjCtx.nD,
      r.2.mem ((c.tc : Thread Cert.InProjCtx.nD Cert.InProjCtx.τ).loc Cert.InProjCtx.main_arg0) = m ((c.tc : Thread Cert.InProjCtx.nD Cert.InProjCtx.τ).loc Cert.InProjCtx.main_arg0)
      ∧ r.2.mem ((c.tc : Thread Cert.InProjCtx.nD Cert.InProjCtx.τ).loc Cert.InProjCtx.main_arg1) = m ((c.tc : Thread Cert.InProjCtx.nD Cert.InProjCtx.τ).loc Cert.InProjCtx.main_arg1)
      ∧ r.2.mem ((c.tc : Thread Cert.InProjCtx.nD Cert.InProjCtx.τ).loc Cert.InProjCtx.main_arg2) = m ((c.tc : Thread Cert.InProjCtx.nD Cert.InProjCtx.τ).loc Cert.InProjCtx.main_arg2)
      ∧ r.2.mem ((c.tc : Thread Cert.InProjCtx.nD Cert.InProjCtx.τ).loc Cert.InProjCtx.main_arg3) = m ((c.tc : Thread Cert.InProjCtx.nD Cert.InProjCtx.τ).loc Cert.InProjCtx.main_arg3)
      ∧ r.2.mem ((c.tc : Thread Cert.InProjCtx.nD Cert.InProjCtx.τ).loc Cert.InProjCtx.main_arg4) = m ((c.tc : Thread Cert.InProjCtx.nD Cert.InProjCtx.τ).loc Cert.InProjCtx.main_arg4))
      ∧ r.2.sem = fun _ => 0)

def quiescent_InProjCtxIdeal [hInProjCtxIdeal : Cert.InProjCtxIdeal.Facts] : Prop :=
  ∀ (m : (ℓ : Loc Cert.InProjCtxIdeal.nD Cert.InProjCtxIdeal.τ Cert.InProjCtxIdeal.sig) → Buf (Elt Ideal) ℓ) (g : Dev Cert.InProjCtxIdeal.nD → PrngReg), Pre_InProjCtxIdeal m →
    θ_run (Cert.InProjCtxIdeal.defs (F := Ideal)) (onTc (τ := Cert.InProjCtxIdeal.τ) (Cert.InProjCtxIdeal.main (F := Ideal))) ⟨m, fun _ => 0, g⟩ (fun r => (∀ c : Dev Cert.InProjCtxIdeal.nD,
      r.2.mem ((c.tc : Thread Cert.InProjCtxIdeal.nD Cert.InProjCtxIdeal.τ).loc Cert.InProjCtxIdeal.main_arg0) = m ((c.tc : Thread Cert.InProjCtxIdeal.nD Cert.InProjCtxIdeal.τ).loc Cert.InProjCtxIdeal.main_arg0)
      ∧ r.2.mem ((c.tc : Thread Cert.InProjCtxIdeal.nD Cert.InProjCtxIdeal.τ).loc Cert.InProjCtxIdeal.main_arg1) = m ((c.tc : Thread Cert.InProjCtxIdeal.nD Cert.InProjCtxIdeal.τ).loc Cert.InProjCtxIdeal.main_arg1)
      ∧ r.2.mem ((c.tc : Thread Cert.InProjCtxIdeal.nD Cert.InProjCtxIdeal.τ).loc Cert.InProjCtxIdeal.main_arg2) = m ((c.tc : Thread Cert.InProjCtxIdeal.nD Cert.InProjCtxIdeal.τ).loc Cert.InProjCtxIdeal.main_arg2)
      ∧ r.2.mem ((c.tc : Thread Cert.InProjCtxIdeal.nD Cert.InProjCtxIdeal.τ).loc Cert.InProjCtxIdeal.main_arg3) = m ((c.tc : Thread Cert.InProjCtxIdeal.nD Cert.InProjCtxIdeal.τ).loc Cert.InProjCtxIdeal.main_arg3)
      ∧ r.2.mem ((c.tc : Thread Cert.InProjCtxIdeal.nD Cert.InProjCtxIdeal.τ).loc Cert.InProjCtxIdeal.main_arg4) = m ((c.tc : Thread Cert.InProjCtxIdeal.nD Cert.InProjCtxIdeal.τ).loc Cert.InProjCtxIdeal.main_arg4))
      ∧ r.2.sem = fun _ => 0)

def quiescent_InProjCtxRefIdeal [hInProjCtxRefIdeal : Cert.InProjCtxRefIdeal.Facts] : Prop :=
  ∀ (m : (ℓ : Loc Cert.InProjCtxRefIdeal.nD Cert.InProjCtxRefIdeal.τ Cert.InProjCtxRefIdeal.sig) → Buf (Elt Ideal) ℓ) (g : Dev Cert.InProjCtxRefIdeal.nD → PrngReg), Pre_InProjCtxRefIdeal m →
    θ_run (Cert.InProjCtxRefIdeal.defs (F := Ideal)) (onTc (τ := Cert.InProjCtxRefIdeal.τ) (Cert.InProjCtxRefIdeal.main (F := Ideal))) ⟨m, fun _ => 0, g⟩ (fun r => (∀ c : Dev Cert.InProjCtxRefIdeal.nD,
      r.2.mem ((c.tc : Thread Cert.InProjCtxRefIdeal.nD Cert.InProjCtxRefIdeal.τ).loc Cert.InProjCtxRefIdeal.main_arg0) = m ((c.tc : Thread Cert.InProjCtxRefIdeal.nD Cert.InProjCtxRefIdeal.τ).loc Cert.InProjCtxRefIdeal.main_arg0)
      ∧ r.2.mem ((c.tc : Thread Cert.InProjCtxRefIdeal.nD Cert.InProjCtxRefIdeal.τ).loc Cert.InProjCtxRefIdeal.main_arg1) = m ((c.tc : Thread Cert.InProjCtxRefIdeal.nD Cert.InProjCtxRefIdeal.τ).loc Cert.InProjCtxRefIdeal.main_arg1)
      ∧ r.2.mem ((c.tc : Thread Cert.InProjCtxRefIdeal.nD Cert.InProjCtxRefIdeal.τ).loc Cert.InProjCtxRefIdeal.main_arg2) = m ((c.tc : Thread Cert.InProjCtxRefIdeal.nD Cert.InProjCtxRefIdeal.τ).loc Cert.InProjCtxRefIdeal.main_arg2)
      ∧ r.2.mem ((c.tc : Thread Cert.InProjCtxRefIdeal.nD Cert.InProjCtxRefIdeal.τ).loc Cert.InProjCtxRefIdeal.main_arg3) = m ((c.tc : Thread Cert.InProjCtxRefIdeal.nD Cert.InProjCtxRefIdeal.τ).loc Cert.InProjCtxRefIdeal.main_arg3)
      ∧ r.2.mem ((c.tc : Thread Cert.InProjCtxRefIdeal.nD Cert.InProjCtxRefIdeal.τ).loc Cert.InProjCtxRefIdeal.main_arg4) = m ((c.tc : Thread Cert.InProjCtxRefIdeal.nD Cert.InProjCtxRefIdeal.τ).loc Cert.InProjCtxRefIdeal.main_arg4))
      ∧ r.2.sem = fun _ => 0)

def quiescent_Conformer [hConformer : Cert.Conformer.Facts] : Prop :=
  ∀ (m : (ℓ : Loc Cert.Conformer.nD Cert.Conformer.τ Cert.Conformer.sig) → Buf (Elt Bits) ℓ) (g : Dev Cert.Conformer.nD → PrngReg), Pre_Conformer m →
    θ_run (Cert.Conformer.defs (F := Bits)) (onTc (τ := Cert.Conformer.τ) (Cert.Conformer.main (F := Bits))) ⟨m, fun _ => 0, g⟩ (fun r => (∀ c : Dev Cert.Conformer.nD,
      r.2.mem ((c.tc : Thread Cert.Conformer.nD Cert.Conformer.τ).loc Cert.Conformer.main_arg0) = m ((c.tc : Thread Cert.Conformer.nD Cert.Conformer.τ).loc Cert.Conformer.main_arg0)
      ∧ r.2.mem ((c.tc : Thread Cert.Conformer.nD Cert.Conformer.τ).loc Cert.Conformer.main_arg1) = m ((c.tc : Thread Cert.Conformer.nD Cert.Conformer.τ).loc Cert.Conformer.main_arg1)
      ∧ r.2.mem ((c.tc : Thread Cert.Conformer.nD Cert.Conformer.τ).loc Cert.Conformer.main_arg2) = m ((c.tc : Thread Cert.Conformer.nD Cert.Conformer.τ).loc Cert.Conformer.main_arg2)
      ∧ r.2.mem ((c.tc : Thread Cert.Conformer.nD Cert.Conformer.τ).loc Cert.Conformer.main_arg3) = m ((c.tc : Thread Cert.Conformer.nD Cert.Conformer.τ).loc Cert.Conformer.main_arg3)
      ∧ r.2.mem ((c.tc : Thread Cert.Conformer.nD Cert.Conformer.τ).loc Cert.Conformer.main_arg4) = m ((c.tc : Thread Cert.Conformer.nD Cert.Conformer.τ).loc Cert.Conformer.main_arg4)
      ∧ r.2.mem ((c.tc : Thread Cert.Conformer.nD Cert.Conformer.τ).loc Cert.Conformer.main_arg5) = m ((c.tc : Thread Cert.Conformer.nD Cert.Conformer.τ).loc Cert.Conformer.main_arg5))
      ∧ r.2.sem = fun _ => 0)

def quiescent_ConformerIdeal [hConformerIdeal : Cert.ConformerIdeal.Facts] : Prop :=
  ∀ (m : (ℓ : Loc Cert.ConformerIdeal.nD Cert.ConformerIdeal.τ Cert.ConformerIdeal.sig) → Buf (Elt Ideal) ℓ) (g : Dev Cert.ConformerIdeal.nD → PrngReg), Pre_ConformerIdeal m →
    θ_run (Cert.ConformerIdeal.defs (F := Ideal)) (onTc (τ := Cert.ConformerIdeal.τ) (Cert.ConformerIdeal.main (F := Ideal))) ⟨m, fun _ => 0, g⟩ (fun r => (∀ c : Dev Cert.ConformerIdeal.nD,
      r.2.mem ((c.tc : Thread Cert.ConformerIdeal.nD Cert.ConformerIdeal.τ).loc Cert.ConformerIdeal.main_arg0) = m ((c.tc : Thread Cert.ConformerIdeal.nD Cert.ConformerIdeal.τ).loc Cert.ConformerIdeal.main_arg0)
      ∧ r.2.mem ((c.tc : Thread Cert.ConformerIdeal.nD Cert.ConformerIdeal.τ).loc Cert.ConformerIdeal.main_arg1) = m ((c.tc : Thread Cert.ConformerIdeal.nD Cert.ConformerIdeal.τ).loc Cert.ConformerIdeal.main_arg1)
      ∧ r.2.mem ((c.tc : Thread Cert.ConformerIdeal.nD Cert.ConformerIdeal.τ).loc Cert.ConformerIdeal.main_arg2) = m ((c.tc : Thread Cert.ConformerIdeal.nD Cert.ConformerIdeal.τ).loc Cert.ConformerIdeal.main_arg2)
      ∧ r.2.mem ((c.tc : Thread Cert.ConformerIdeal.nD Cert.ConformerIdeal.τ).loc Cert.ConformerIdeal.main_arg3) = m ((c.tc : Thread Cert.ConformerIdeal.nD Cert.ConformerIdeal.τ).loc Cert.ConformerIdeal.main_arg3)
      ∧ r.2.mem ((c.tc : Thread Cert.ConformerIdeal.nD Cert.ConformerIdeal.τ).loc Cert.ConformerIdeal.main_arg4) = m ((c.tc : Thread Cert.ConformerIdeal.nD Cert.ConformerIdeal.τ).loc Cert.ConformerIdeal.main_arg4)
      ∧ r.2.mem ((c.tc : Thread Cert.ConformerIdeal.nD Cert.ConformerIdeal.τ).loc Cert.ConformerIdeal.main_arg5) = m ((c.tc : Thread Cert.ConformerIdeal.nD Cert.ConformerIdeal.τ).loc Cert.ConformerIdeal.main_arg5))
      ∧ r.2.sem = fun _ => 0)

def quiescent_ConformerRefIdeal [hConformerRefIdeal : Cert.ConformerRefIdeal.Facts] : Prop :=
  ∀ (m : (ℓ : Loc Cert.ConformerRefIdeal.nD Cert.ConformerRefIdeal.τ Cert.ConformerRefIdeal.sig) → Buf (Elt Ideal) ℓ) (g : Dev Cert.ConformerRefIdeal.nD → PrngReg), Pre_ConformerRefIdeal m →
    θ_run (Cert.ConformerRefIdeal.defs (F := Ideal)) (onTc (τ := Cert.ConformerRefIdeal.τ) (Cert.ConformerRefIdeal.main (F := Ideal))) ⟨m, fun _ => 0, g⟩ (fun r => (∀ c : Dev Cert.ConformerRefIdeal.nD,
      r.2.mem ((c.tc : Thread Cert.ConformerRefIdeal.nD Cert.ConformerRefIdeal.τ).loc Cert.ConformerRefIdeal.main_arg0) = m ((c.tc : Thread Cert.ConformerRefIdeal.nD Cert.ConformerRefIdeal.τ).loc Cert.ConformerRefIdeal.main_arg0)
      ∧ r.2.mem ((c.tc : Thread Cert.ConformerRefIdeal.nD Cert.ConformerRefIdeal.τ).loc Cert.ConformerRefIdeal.main_arg1) = m ((c.tc : Thread Cert.ConformerRefIdeal.nD Cert.ConformerRefIdeal.τ).loc Cert.ConformerRefIdeal.main_arg1)
      ∧ r.2.mem ((c.tc : Thread Cert.ConformerRefIdeal.nD Cert.ConformerRefIdeal.τ).loc Cert.ConformerRefIdeal.main_arg2) = m ((c.tc : Thread Cert.ConformerRefIdeal.nD Cert.ConformerRefIdeal.τ).loc Cert.ConformerRefIdeal.main_arg2)
      ∧ r.2.mem ((c.tc : Thread Cert.ConformerRefIdeal.nD Cert.ConformerRefIdeal.τ).loc Cert.ConformerRefIdeal.main_arg3) = m ((c.tc : Thread Cert.ConformerRefIdeal.nD Cert.ConformerRefIdeal.τ).loc Cert.ConformerRefIdeal.main_arg3)
      ∧ r.2.mem ((c.tc : Thread Cert.ConformerRefIdeal.nD Cert.ConformerRefIdeal.τ).loc Cert.ConformerRefIdeal.main_arg4) = m ((c.tc : Thread Cert.ConformerRefIdeal.nD Cert.ConformerRefIdeal.τ).loc Cert.ConformerRefIdeal.main_arg4)
      ∧ r.2.mem ((c.tc : Thread Cert.ConformerRefIdeal.nD Cert.ConformerRefIdeal.τ).loc Cert.ConformerRefIdeal.main_arg5) = m ((c.tc : Thread Cert.ConformerRefIdeal.nD Cert.ConformerRefIdeal.τ).loc Cert.ConformerRefIdeal.main_arg5))
      ∧ r.2.sem = fun _ => 0)

def quiescent_Tables [hTables : Cert.Tables.Facts] : Prop :=
  ∀ (m : (ℓ : Loc Cert.Tables.nD Cert.Tables.τ Cert.Tables.sig) → Buf (Elt Bits) ℓ) (g : Dev Cert.Tables.nD → PrngReg), Pre_Tables m →
    θ_run (Cert.Tables.defs (F := Bits)) (onTc (τ := Cert.Tables.τ) (Cert.Tables.main (F := Bits))) ⟨m, fun _ => 0, g⟩ (fun r => (∀ c : Dev Cert.Tables.nD,
      r.2.mem ((c.tc : Thread Cert.Tables.nD Cert.Tables.τ).loc Cert.Tables.main_arg0) = m ((c.tc : Thread Cert.Tables.nD Cert.Tables.τ).loc Cert.Tables.main_arg0)
      ∧ r.2.mem ((c.tc : Thread Cert.Tables.nD Cert.Tables.τ).loc Cert.Tables.main_arg1) = m ((c.tc : Thread Cert.Tables.nD Cert.Tables.τ).loc Cert.Tables.main_arg1))
      ∧ r.2.sem = fun _ => 0)

def quiescent_TablesIdeal [hTablesIdeal : Cert.TablesIdeal.Facts] : Prop :=
  ∀ (m : (ℓ : Loc Cert.TablesIdeal.nD Cert.TablesIdeal.τ Cert.TablesIdeal.sig) → Buf (Elt Ideal) ℓ) (g : Dev Cert.TablesIdeal.nD → PrngReg), Pre_TablesIdeal m →
    θ_run (Cert.TablesIdeal.defs (F := Ideal)) (onTc (τ := Cert.TablesIdeal.τ) (Cert.TablesIdeal.main (F := Ideal))) ⟨m, fun _ => 0, g⟩ (fun r => (∀ c : Dev Cert.TablesIdeal.nD,
      r.2.mem ((c.tc : Thread Cert.TablesIdeal.nD Cert.TablesIdeal.τ).loc Cert.TablesIdeal.main_arg0) = m ((c.tc : Thread Cert.TablesIdeal.nD Cert.TablesIdeal.τ).loc Cert.TablesIdeal.main_arg0)
      ∧ r.2.mem ((c.tc : Thread Cert.TablesIdeal.nD Cert.TablesIdeal.τ).loc Cert.TablesIdeal.main_arg1) = m ((c.tc : Thread Cert.TablesIdeal.nD Cert.TablesIdeal.τ).loc Cert.TablesIdeal.main_arg1))
      ∧ r.2.sem = fun _ => 0)

def quiescent_TablesRefIdeal [hTablesRefIdeal : Cert.TablesRefIdeal.Facts] : Prop :=
  ∀ (m : (ℓ : Loc Cert.TablesRefIdeal.nD Cert.TablesRefIdeal.τ Cert.TablesRefIdeal.sig) → Buf (Elt Ideal) ℓ) (g : Dev Cert.TablesRefIdeal.nD → PrngReg), Pre_TablesRefIdeal m →
    θ_run (Cert.TablesRefIdeal.defs (F := Ideal)) (onTc (τ := Cert.TablesRefIdeal.τ) (Cert.TablesRefIdeal.main (F := Ideal))) ⟨m, fun _ => 0, g⟩ (fun r => (∀ c : Dev Cert.TablesRefIdeal.nD,
      r.2.mem ((c.tc : Thread Cert.TablesRefIdeal.nD Cert.TablesRefIdeal.τ).loc Cert.TablesRefIdeal.main_arg0) = m ((c.tc : Thread Cert.TablesRefIdeal.nD Cert.TablesRefIdeal.τ).loc Cert.TablesRefIdeal.main_arg0)
      ∧ r.2.mem ((c.tc : Thread Cert.TablesRefIdeal.nD Cert.TablesRefIdeal.τ).loc Cert.TablesRefIdeal.main_arg1) = m ((c.tc : Thread Cert.TablesRefIdeal.nD Cert.TablesRefIdeal.τ).loc Cert.TablesRefIdeal.main_arg1))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1))
      ∧ r.2.sem = fun _ => 0)

def quiescent_PrepCtx [hPrepCtx : Cert.PrepCtx.Facts] : Prop :=
  ∀ (m : (ℓ : Loc Cert.PrepCtx.nD Cert.PrepCtx.τ Cert.PrepCtx.sig) → Buf (Elt Bits) ℓ) (g : Dev Cert.PrepCtx.nD → PrngReg), Pre_PrepCtx m →
    θ_run (Cert.PrepCtx.defs (F := Bits)) (onTc (τ := Cert.PrepCtx.τ) (Cert.PrepCtx.main (F := Bits))) ⟨m, fun _ => 0, g⟩ (fun r => (∀ c : Dev Cert.PrepCtx.nD,
      r.2.mem ((c.tc : Thread Cert.PrepCtx.nD Cert.PrepCtx.τ).loc Cert.PrepCtx.main_arg0) = m ((c.tc : Thread Cert.PrepCtx.nD Cert.PrepCtx.τ).loc Cert.PrepCtx.main_arg0)
      ∧ r.2.mem ((c.tc : Thread Cert.PrepCtx.nD Cert.PrepCtx.τ).loc Cert.PrepCtx.main_arg1) = m ((c.tc : Thread Cert.PrepCtx.nD Cert.PrepCtx.τ).loc Cert.PrepCtx.main_arg1))
      ∧ r.2.sem = fun _ => 0)

def quiescent_PrepCtxIdeal [hPrepCtxIdeal : Cert.PrepCtxIdeal.Facts] : Prop :=
  ∀ (m : (ℓ : Loc Cert.PrepCtxIdeal.nD Cert.PrepCtxIdeal.τ Cert.PrepCtxIdeal.sig) → Buf (Elt Ideal) ℓ) (g : Dev Cert.PrepCtxIdeal.nD → PrngReg), Pre_PrepCtxIdeal m →
    θ_run (Cert.PrepCtxIdeal.defs (F := Ideal)) (onTc (τ := Cert.PrepCtxIdeal.τ) (Cert.PrepCtxIdeal.main (F := Ideal))) ⟨m, fun _ => 0, g⟩ (fun r => (∀ c : Dev Cert.PrepCtxIdeal.nD,
      r.2.mem ((c.tc : Thread Cert.PrepCtxIdeal.nD Cert.PrepCtxIdeal.τ).loc Cert.PrepCtxIdeal.main_arg0) = m ((c.tc : Thread Cert.PrepCtxIdeal.nD Cert.PrepCtxIdeal.τ).loc Cert.PrepCtxIdeal.main_arg0)
      ∧ r.2.mem ((c.tc : Thread Cert.PrepCtxIdeal.nD Cert.PrepCtxIdeal.τ).loc Cert.PrepCtxIdeal.main_arg1) = m ((c.tc : Thread Cert.PrepCtxIdeal.nD Cert.PrepCtxIdeal.τ).loc Cert.PrepCtxIdeal.main_arg1))
      ∧ r.2.sem = fun _ => 0)

def quiescent_PrepCtxRefIdeal [hPrepCtxRefIdeal : Cert.PrepCtxRefIdeal.Facts] : Prop :=
  ∀ (m : (ℓ : Loc Cert.PrepCtxRefIdeal.nD Cert.PrepCtxRefIdeal.τ Cert.PrepCtxRefIdeal.sig) → Buf (Elt Ideal) ℓ) (g : Dev Cert.PrepCtxRefIdeal.nD → PrngReg), Pre_PrepCtxRefIdeal m →
    θ_run (Cert.PrepCtxRefIdeal.defs (F := Ideal)) (onTc (τ := Cert.PrepCtxRefIdeal.τ) (Cert.PrepCtxRefIdeal.main (F := Ideal))) ⟨m, fun _ => 0, g⟩ (fun r => (∀ c : Dev Cert.PrepCtxRefIdeal.nD,
      r.2.mem ((c.tc : Thread Cert.PrepCtxRefIdeal.nD Cert.PrepCtxRefIdeal.τ).loc Cert.PrepCtxRefIdeal.main_arg0) = m ((c.tc : Thread Cert.PrepCtxRefIdeal.nD Cert.PrepCtxRefIdeal.τ).loc Cert.PrepCtxRefIdeal.main_arg0)
      ∧ r.2.mem ((c.tc : Thread Cert.PrepCtxRefIdeal.nD Cert.PrepCtxRefIdeal.τ).loc Cert.PrepCtxRefIdeal.main_arg1) = m ((c.tc : Thread Cert.PrepCtxRefIdeal.nD Cert.PrepCtxRefIdeal.τ).loc Cert.PrepCtxRefIdeal.main_arg1))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsIdeal_pre_above_minus_infinity [hExpertsIdeal : Cert.ExpertsIdeal.Facts] [hPre_above_minus_infinity : Cert.Pre_above_minus_infinity.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_above_minus_infinity m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ExpertsRefIdeal_pre_above_minus_infinity [hExpertsRefIdeal : Cert.ExpertsRefIdeal.Facts] [hPre_above_minus_infinity : Cert.Pre_above_minus_infinity.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_above_minus_infinity m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v3_0)) (v1 : (c : Dev Cert.InProjIdeal.nD) → Buf (Elt Ideal) ((c.tc : Thread Cert.InProjIdeal.nD Cert.InProjIdeal.τ).loc Cert.InProjIdeal.main_v3_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3_0) = v0 c
          ∧ r.2.mem ((c.tc : Thread Cert.InProjIdeal.nD Cert.InProjIdeal.τ).loc Cert.InProjIdeal.main_v3_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v32) = v0 c
          ∧ r.2.mem ((c.tc : Thread Cert.InProjRefIdeal.nD Cert.InProjRefIdeal.τ).loc Cert.InProjRefIdeal.main_v35) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v28) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v10)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v57) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v8)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v8) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v10) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_PeerQ_PeerQIdeal : Prop :=
  True

def algebraic_PeerQIdeal_PeerQRefIdeal [hPeerQIdeal : Cert.PeerQIdeal.Facts] [hPeerQRefIdeal : Cert.PeerQRefIdeal.Facts] : Prop :=
  ∀ (m : (ℓ : Loc Cert.PeerQIdeal.nD Cert.PeerQIdeal.τ Cert.PeerQIdeal.sig) → Buf (Elt Ideal) ℓ) (g : Dev Cert.PeerQIdeal.nD → PrngReg)
    (m' : (ℓ : Loc Cert.PeerQRefIdeal.nD Cert.PeerQRefIdeal.τ Cert.PeerQRefIdeal.sig) → Buf (Elt Ideal) ℓ) (g' : Dev Cert.PeerQRefIdeal.nD → PrngReg), Pre_PeerQIdeal m →
    (∀ c : Dev Cert.PeerQIdeal.nD,
      m' ((c.tc : Thread Cert.PeerQRefIdeal.nD Cert.PeerQRefIdeal.τ).loc Cert.PeerQRefIdeal.main_arg0) = m ((c.tc : Thread Cert.PeerQIdeal.nD Cert.PeerQIdeal.τ).loc Cert.PeerQIdeal.main_arg0)
      ∧ m' ((c.tc : Thread Cert.PeerQRefIdeal.nD Cert.PeerQRefIdeal.τ).loc Cert.PeerQRefIdeal.main_arg1) = m ((c.tc : Thread Cert.PeerQIdeal.nD Cert.PeerQIdeal.τ).loc Cert.PeerQIdeal.main_arg1)
      ∧ m' ((c.tc : Thread Cert.PeerQRefIdeal.nD Cert.PeerQRefIdeal.τ).loc Cert.PeerQRefIdeal.main_arg2) = m ((c.tc : Thread Cert.PeerQIdeal.nD Cert.PeerQIdeal.τ).loc Cert.PeerQIdeal.main_arg2)
      ∧ m' ((c.tc : Thread Cert.PeerQRefIdeal.nD Cert.PeerQRefIdeal.τ).loc Cert.PeerQRefIdeal.main_arg3) = m ((c.tc : Thread Cert.PeerQIdeal.nD Cert.PeerQIdeal.τ).loc Cert.PeerQIdeal.main_arg3)) →
    ∃ (v0 : (c : Dev Cert.PeerQIdeal.nD) → Buf (Elt Ideal) ((c.tc : Thread Cert.PeerQIdeal.nD Cert.PeerQIdeal.τ).loc Cert.PeerQIdeal.main_v4_0)) (v1 : (c : Dev Cert.PeerQIdeal.nD) → Buf (Elt Ideal) ((c.tc : Thread Cert.PeerQIdeal.nD Cert.PeerQIdeal.τ).loc Cert.PeerQIdeal.main_v4_1)),
      θ_run (Cert.PeerQIdeal.defs (F := Ideal)) (onTc (τ := Cert.PeerQIdeal.τ) (Cert.PeerQIdeal.main (F := Ideal))) ⟨m, fun _ => 0, g⟩ (fun r => ∀ c : Dev Cert.PeerQIdeal.nD,
          r.2.mem ((c.tc : Thread Cert.PeerQIdeal.nD Cert.PeerQIdeal.τ).loc Cert.PeerQIdeal.main_v4_0) = v0 c
          ∧ r.2.mem ((c.tc : Thread Cert.PeerQIdeal.nD Cert.PeerQIdeal.τ).loc Cert.PeerQIdeal.main_v4_1) = v1 c
          ∧ r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
          ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1)
          ∧ r.2.mem ((c.tc : Thread Cert.PeerQIdeal.nD Cert.PeerQIdeal.τ).loc Cert.PeerQIdeal.main_arg2) = m ((c.tc : Thread Cert.PeerQIdeal.nD Cert.PeerQIdeal.τ).loc Cert.PeerQIdeal.main_arg2)
          ∧ r.2.mem ((c.tc : Thread Cert.PeerQIdeal.nD Cert.PeerQIdeal.τ).loc Cert.PeerQIdeal.main_arg3) = m ((c.tc : Thread Cert.PeerQIdeal.nD Cert.PeerQIdeal.τ).loc Cert.PeerQIdeal.main_arg3))
      ∧ θ_run (Cert.PeerQRefIdeal.defs (F := Ideal)) (onTc (τ := Cert.PeerQRefIdeal.τ) (Cert.PeerQRefIdeal.main (F := Ideal))) ⟨m', fun _ => 0, g'⟩ (fun r => ∀ c : Dev Cert.PeerQRefIdeal.nD,
          r.2.mem ((c.tc : Thread Cert.PeerQRefIdeal.nD Cert.PeerQRefIdeal.τ).loc Cert.PeerQRefIdeal.main_v33) = v0 c
          ∧ r.2.mem ((c.tc : Thread Cert.PeerQRefIdeal.nD Cert.PeerQRefIdeal.τ).loc Cert.PeerQRefIdeal.main_v35) = v1 c
          ∧ r.2.mem ((c.tc : Thread Cert.PeerQRefIdeal.nD Cert.PeerQRefIdeal.τ).loc Cert.PeerQRefIdeal.main_arg0) = m' ((c.tc : Thread Cert.PeerQRefIdeal.nD Cert.PeerQRefIdeal.τ).loc Cert.PeerQRefIdeal.main_arg0)
          ∧ r.2.mem ((c.tc : Thread Cert.PeerQRefIdeal.nD Cert.PeerQRefIdeal.τ).loc Cert.PeerQRefIdeal.main_arg1) = m' ((c.tc : Thread Cert.PeerQRefIdeal.nD Cert.PeerQRefIdeal.τ).loc Cert.PeerQRefIdeal.main_arg1)
          ∧ r.2.mem ((c.tc : Thread Cert.PeerQRefIdeal.nD Cert.PeerQRefIdeal.τ).loc Cert.PeerQRefIdeal.main_arg2) = m' ((c.tc : Thread Cert.PeerQRefIdeal.nD Cert.PeerQRefIdeal.τ).loc Cert.PeerQRefIdeal.main_arg2)
          ∧ r.2.mem ((c.tc : Thread Cert.PeerQRefIdeal.nD Cert.PeerQRefIdeal.τ).loc Cert.PeerQRefIdeal.main_arg3) = m' ((c.tc : Thread Cert.PeerQRefIdeal.nD Cert.PeerQRefIdeal.τ).loc Cert.PeerQRefIdeal.main_arg3))

def preserves_InProjCtx_InProjCtxIdeal : Prop :=
  True

def algebraic_InProjCtxIdeal_InProjCtxRefIdeal [hInProjCtxIdeal : Cert.InProjCtxIdeal.Facts] [hInProjCtxRefIdeal : Cert.InProjCtxRefIdeal.Facts] : Prop :=
  ∀ (m : (ℓ : Loc Cert.InProjCtxIdeal.nD Cert.InProjCtxIdeal.τ Cert.InProjCtxIdeal.sig) → Buf (Elt Ideal) ℓ) (g : Dev Cert.InProjCtxIdeal.nD → PrngReg)
    (m' : (ℓ : Loc Cert.InProjCtxRefIdeal.nD Cert.InProjCtxRefIdeal.τ Cert.InProjCtxRefIdeal.sig) → Buf (Elt Ideal) ℓ) (g' : Dev Cert.InProjCtxRefIdeal.nD → PrngReg), Pre_InProjCtxIdeal m →
    (∀ c : Dev Cert.InProjCtxIdeal.nD,
      m' ((c.tc : Thread Cert.InProjCtxRefIdeal.nD Cert.InProjCtxRefIdeal.τ).loc Cert.InProjCtxRefIdeal.main_arg0) = m ((c.tc : Thread Cert.InProjCtxIdeal.nD Cert.InProjCtxIdeal.τ).loc Cert.InProjCtxIdeal.main_arg0)
      ∧ m' ((c.tc : Thread Cert.InProjCtxRefIdeal.nD Cert.InProjCtxRefIdeal.τ).loc Cert.InProjCtxRefIdeal.main_arg1) = m ((c.tc : Thread Cert.InProjCtxIdeal.nD Cert.InProjCtxIdeal.τ).loc Cert.InProjCtxIdeal.main_arg1)
      ∧ m' ((c.tc : Thread Cert.InProjCtxRefIdeal.nD Cert.InProjCtxRefIdeal.τ).loc Cert.InProjCtxRefIdeal.main_arg2) = m ((c.tc : Thread Cert.InProjCtxIdeal.nD Cert.InProjCtxIdeal.τ).loc Cert.InProjCtxIdeal.main_arg2)
      ∧ m' ((c.tc : Thread Cert.InProjCtxRefIdeal.nD Cert.InProjCtxRefIdeal.τ).loc Cert.InProjCtxRefIdeal.main_arg3) = m ((c.tc : Thread Cert.InProjCtxIdeal.nD Cert.InProjCtxIdeal.τ).loc Cert.InProjCtxIdeal.main_arg3)
      ∧ m' ((c.tc : Thread Cert.InProjCtxRefIdeal.nD Cert.InProjCtxRefIdeal.τ).loc Cert.InProjCtxRefIdeal.main_arg4) = m ((c.tc : Thread Cert.InProjCtxIdeal.nD Cert.InProjCtxIdeal.τ).loc Cert.InProjCtxIdeal.main_arg4)) →
    ∃ (v0 : (c : Dev Cert.InProjCtxIdeal.nD) → Buf (Elt Ideal) ((c.tc : Thread Cert.InProjCtxIdeal.nD Cert.InProjCtxIdeal.τ).loc Cert.InProjCtxIdeal.main_v3_0)) (v1 : (c : Dev Cert.InProjCtxIdeal.nD) → Buf (Elt Ideal) ((c.tc : Thread Cert.InProjCtxIdeal.nD Cert.InProjCtxIdeal.τ).loc Cert.InProjCtxIdeal.main_v3_1)),
      θ_run (Cert.InProjCtxIdeal.defs (F := Ideal)) (onTc (τ := Cert.InProjCtxIdeal.τ) (Cert.InProjCtxIdeal.main (F := Ideal))) ⟨m, fun _ => 0, g⟩ (fun r => ∀ c : Dev Cert.InProjCtxIdeal.nD,
          r.2.mem ((c.tc : Thread Cert.InProjCtxIdeal.nD Cert.InProjCtxIdeal.τ).loc Cert.InProjCtxIdeal.main_v3_0) = v0 c
          ∧ r.2.mem ((c.tc : Thread Cert.InProjCtxIdeal.nD Cert.InProjCtxIdeal.τ).loc Cert.InProjCtxIdeal.main_v3_1) = v1 c
          ∧ r.2.mem ((c.tc : Thread Cert.InProjCtxIdeal.nD Cert.InProjCtxIdeal.τ).loc Cert.InProjCtxIdeal.main_arg0) = m ((c.tc : Thread Cert.InProjCtxIdeal.nD Cert.InProjCtxIdeal.τ).loc Cert.InProjCtxIdeal.main_arg0)
          ∧ r.2.mem ((c.tc : Thread Cert.InProjCtxIdeal.nD Cert.InProjCtxIdeal.τ).loc Cert.InProjCtxIdeal.main_arg1) = m ((c.tc : Thread Cert.InProjCtxIdeal.nD Cert.InProjCtxIdeal.τ).loc Cert.InProjCtxIdeal.main_arg1)
          ∧ r.2.mem ((c.tc : Thread Cert.InProjCtxIdeal.nD Cert.InProjCtxIdeal.τ).loc Cert.InProjCtxIdeal.main_arg2) = m ((c.tc : Thread Cert.InProjCtxIdeal.nD Cert.InProjCtxIdeal.τ).loc Cert.InProjCtxIdeal.main_arg2)
          ∧ r.2.mem ((c.tc : Thread Cert.InProjCtxIdeal.nD Cert.InProjCtxIdeal.τ).loc Cert.InProjCtxIdeal.main_arg3) = m ((c.tc : Thread Cert.InProjCtxIdeal.nD Cert.InProjCtxIdeal.τ).loc Cert.InProjCtxIdeal.main_arg3)
          ∧ r.2.mem ((c.tc : Thread Cert.InProjCtxIdeal.nD Cert.InProjCtxIdeal.τ).loc Cert.InProjCtxIdeal.main_arg4) = m ((c.tc : Thread Cert.InProjCtxIdeal.nD Cert.InProjCtxIdeal.τ).loc Cert.InProjCtxIdeal.main_arg4))
      ∧ θ_run (Cert.InProjCtxRefIdeal.defs (F := Ideal)) (onTc (τ := Cert.InProjCtxRefIdeal.τ) (Cert.InProjCtxRefIdeal.main (F := Ideal))) ⟨m', fun _ => 0, g'⟩ (fun r => ∀ c : Dev Cert.InProjCtxRefIdeal.nD,
          r.2.mem ((c.tc : Thread Cert.InProjCtxRefIdeal.nD Cert.InProjCtxRefIdeal.τ).loc Cert.InProjCtxRefIdeal.main_v33) = v0 c
          ∧ r.2.mem ((c.tc : Thread Cert.InProjCtxRefIdeal.nD Cert.InProjCtxRefIdeal.τ).loc Cert.InProjCtxRefIdeal.main_v36) = v1 c
          ∧ r.2.mem ((c.tc : Thread Cert.InProjCtxRefIdeal.nD Cert.InProjCtxRefIdeal.τ).loc Cert.InProjCtxRefIdeal.main_arg0) = m' ((c.tc : Thread Cert.InProjCtxRefIdeal.nD Cert.InProjCtxRefIdeal.τ).loc Cert.InProjCtxRefIdeal.main_arg0)
          ∧ r.2.mem ((c.tc : Thread Cert.InProjCtxRefIdeal.nD Cert.InProjCtxRefIdeal.τ).loc Cert.InProjCtxRefIdeal.main_arg1) = m' ((c.tc : Thread Cert.InProjCtxRefIdeal.nD Cert.InProjCtxRefIdeal.τ).loc Cert.InProjCtxRefIdeal.main_arg1)
          ∧ r.2.mem ((c.tc : Thread Cert.InProjCtxRefIdeal.nD Cert.InProjCtxRefIdeal.τ).loc Cert.InProjCtxRefIdeal.main_arg2) = m' ((c.tc : Thread Cert.InProjCtxRefIdeal.nD Cert.InProjCtxRefIdeal.τ).loc Cert.InProjCtxRefIdeal.main_arg2)
          ∧ r.2.mem ((c.tc : Thread Cert.InProjCtxRefIdeal.nD Cert.InProjCtxRefIdeal.τ).loc Cert.InProjCtxRefIdeal.main_arg3) = m' ((c.tc : Thread Cert.InProjCtxRefIdeal.nD Cert.InProjCtxRefIdeal.τ).loc Cert.InProjCtxRefIdeal.main_arg3)
          ∧ r.2.mem ((c.tc : Thread Cert.InProjCtxRefIdeal.nD Cert.InProjCtxRefIdeal.τ).loc Cert.InProjCtxRefIdeal.main_arg4) = m' ((c.tc : Thread Cert.InProjCtxRefIdeal.nD Cert.InProjCtxRefIdeal.τ).loc Cert.InProjCtxRefIdeal.main_arg4))

def preserves_Conformer_ConformerIdeal : Prop :=
  True

def algebraic_ConformerIdeal_ConformerRefIdeal [hConformerIdeal : Cert.ConformerIdeal.Facts] [hConformerRefIdeal : Cert.ConformerRefIdeal.Facts] : Prop :=
  ∀ (m : (ℓ : Loc Cert.ConformerIdeal.nD Cert.ConformerIdeal.τ Cert.ConformerIdeal.sig) → Buf (Elt Ideal) ℓ) (g : Dev Cert.ConformerIdeal.nD → PrngReg)
    (m' : (ℓ : Loc Cert.ConformerRefIdeal.nD Cert.ConformerRefIdeal.τ Cert.ConformerRefIdeal.sig) → Buf (Elt Ideal) ℓ) (g' : Dev Cert.ConformerRefIdeal.nD → PrngReg), Pre_ConformerIdeal m →
    (∀ c : Dev Cert.ConformerIdeal.nD,
      m' ((c.tc : Thread Cert.ConformerRefIdeal.nD Cert.ConformerRefIdeal.τ).loc Cert.ConformerRefIdeal.main_arg0) = m ((c.tc : Thread Cert.ConformerIdeal.nD Cert.ConformerIdeal.τ).loc Cert.ConformerIdeal.main_arg0)
      ∧ m' ((c.tc : Thread Cert.ConformerRefIdeal.nD Cert.ConformerRefIdeal.τ).loc Cert.ConformerRefIdeal.main_arg1) = m ((c.tc : Thread Cert.ConformerIdeal.nD Cert.ConformerIdeal.τ).loc Cert.ConformerIdeal.main_arg1)
      ∧ m' ((c.tc : Thread Cert.ConformerRefIdeal.nD Cert.ConformerRefIdeal.τ).loc Cert.ConformerRefIdeal.main_arg2) = m ((c.tc : Thread Cert.ConformerIdeal.nD Cert.ConformerIdeal.τ).loc Cert.ConformerIdeal.main_arg2)
      ∧ m' ((c.tc : Thread Cert.ConformerRefIdeal.nD Cert.ConformerRefIdeal.τ).loc Cert.ConformerRefIdeal.main_arg3) = m ((c.tc : Thread Cert.ConformerIdeal.nD Cert.ConformerIdeal.τ).loc Cert.ConformerIdeal.main_arg3)
      ∧ m' ((c.tc : Thread Cert.ConformerRefIdeal.nD Cert.ConformerRefIdeal.τ).loc Cert.ConformerRefIdeal.main_arg4) = m ((c.tc : Thread Cert.ConformerIdeal.nD Cert.ConformerIdeal.τ).loc Cert.ConformerIdeal.main_arg4)
      ∧ m' ((c.tc : Thread Cert.ConformerRefIdeal.nD Cert.ConformerRefIdeal.τ).loc Cert.ConformerRefIdeal.main_arg5) = m ((c.tc : Thread Cert.ConformerIdeal.nD Cert.ConformerIdeal.τ).loc Cert.ConformerIdeal.main_arg5)) →
    ∃ (v0 : (c : Dev Cert.ConformerIdeal.nD) → Buf (Elt Ideal) ((c.tc : Thread Cert.ConformerIdeal.nD Cert.ConformerIdeal.τ).loc Cert.ConformerIdeal.main_v12)),
      θ_run (Cert.ConformerIdeal.defs (F := Ideal)) (onTc (τ := Cert.ConformerIdeal.τ) (Cert.ConformerIdeal.main (F := Ideal))) ⟨m, fun _ => 0, g⟩ (fun r => ∀ c : Dev Cert.ConformerIdeal.nD,
          r.2.mem ((c.tc : Thread Cert.ConformerIdeal.nD Cert.ConformerIdeal.τ).loc Cert.ConformerIdeal.main_v12) = v0 c
          ∧ r.2.mem ((c.tc : Thread Cert.ConformerIdeal.nD Cert.ConformerIdeal.τ).loc Cert.ConformerIdeal.main_arg0) = m ((c.tc : Thread Cert.ConformerIdeal.nD Cert.ConformerIdeal.τ).loc Cert.ConformerIdeal.main_arg0)
          ∧ r.2.mem ((c.tc : Thread Cert.ConformerIdeal.nD Cert.ConformerIdeal.τ).loc Cert.ConformerIdeal.main_arg1) = m ((c.tc : Thread Cert.ConformerIdeal.nD Cert.ConformerIdeal.τ).loc Cert.ConformerIdeal.main_arg1)
          ∧ r.2.mem ((c.tc : Thread Cert.ConformerIdeal.nD Cert.ConformerIdeal.τ).loc Cert.ConformerIdeal.main_arg2) = m ((c.tc : Thread Cert.ConformerIdeal.nD Cert.ConformerIdeal.τ).loc Cert.ConformerIdeal.main_arg2)
          ∧ r.2.mem ((c.tc : Thread Cert.ConformerIdeal.nD Cert.ConformerIdeal.τ).loc Cert.ConformerIdeal.main_arg3) = m ((c.tc : Thread Cert.ConformerIdeal.nD Cert.ConformerIdeal.τ).loc Cert.ConformerIdeal.main_arg3)
          ∧ r.2.mem ((c.tc : Thread Cert.ConformerIdeal.nD Cert.ConformerIdeal.τ).loc Cert.ConformerIdeal.main_arg4) = m ((c.tc : Thread Cert.ConformerIdeal.nD Cert.ConformerIdeal.τ).loc Cert.ConformerIdeal.main_arg4)
          ∧ r.2.mem ((c.tc : Thread Cert.ConformerIdeal.nD Cert.ConformerIdeal.τ).loc Cert.ConformerIdeal.main_arg5) = m ((c.tc : Thread Cert.ConformerIdeal.nD Cert.ConformerIdeal.τ).loc Cert.ConformerIdeal.main_arg5))
      ∧ θ_run (Cert.ConformerRefIdeal.defs (F := Ideal)) (onTc (τ := Cert.ConformerRefIdeal.τ) (Cert.ConformerRefIdeal.main (F := Ideal))) ⟨m', fun _ => 0, g'⟩ (fun r => ∀ c : Dev Cert.ConformerRefIdeal.nD,
          r.2.mem ((c.tc : Thread Cert.ConformerRefIdeal.nD Cert.ConformerRefIdeal.τ).loc Cert.ConformerRefIdeal.main_v266) = v0 c
          ∧ r.2.mem ((c.tc : Thread Cert.ConformerRefIdeal.nD Cert.ConformerRefIdeal.τ).loc Cert.ConformerRefIdeal.main_arg0) = m' ((c.tc : Thread Cert.ConformerRefIdeal.nD Cert.ConformerRefIdeal.τ).loc Cert.ConformerRefIdeal.main_arg0)
          ∧ r.2.mem ((c.tc : Thread Cert.ConformerRefIdeal.nD Cert.ConformerRefIdeal.τ).loc Cert.ConformerRefIdeal.main_arg1) = m' ((c.tc : Thread Cert.ConformerRefIdeal.nD Cert.ConformerRefIdeal.τ).loc Cert.ConformerRefIdeal.main_arg1)
          ∧ r.2.mem ((c.tc : Thread Cert.ConformerRefIdeal.nD Cert.ConformerRefIdeal.τ).loc Cert.ConformerRefIdeal.main_arg2) = m' ((c.tc : Thread Cert.ConformerRefIdeal.nD Cert.ConformerRefIdeal.τ).loc Cert.ConformerRefIdeal.main_arg2)
          ∧ r.2.mem ((c.tc : Thread Cert.ConformerRefIdeal.nD Cert.ConformerRefIdeal.τ).loc Cert.ConformerRefIdeal.main_arg3) = m' ((c.tc : Thread Cert.ConformerRefIdeal.nD Cert.ConformerRefIdeal.τ).loc Cert.ConformerRefIdeal.main_arg3)
          ∧ r.2.mem ((c.tc : Thread Cert.ConformerRefIdeal.nD Cert.ConformerRefIdeal.τ).loc Cert.ConformerRefIdeal.main_arg4) = m' ((c.tc : Thread Cert.ConformerRefIdeal.nD Cert.ConformerRefIdeal.τ).loc Cert.ConformerRefIdeal.main_arg4)
          ∧ r.2.mem ((c.tc : Thread Cert.ConformerRefIdeal.nD Cert.ConformerRefIdeal.τ).loc Cert.ConformerRefIdeal.main_arg5) = m' ((c.tc : Thread Cert.ConformerRefIdeal.nD Cert.ConformerRefIdeal.τ).loc Cert.ConformerRefIdeal.main_arg5))

def preserves_Tables_TablesIdeal : Prop :=
  True

def algebraic_TablesIdeal_TablesRefIdeal [hTablesIdeal : Cert.TablesIdeal.Facts] [hTablesRefIdeal : Cert.TablesRefIdeal.Facts] : Prop :=
  ∀ (m : (ℓ : Loc Cert.TablesIdeal.nD Cert.TablesIdeal.τ Cert.TablesIdeal.sig) → Buf (Elt Ideal) ℓ) (g : Dev Cert.TablesIdeal.nD → PrngReg)
    (m' : (ℓ : Loc Cert.TablesRefIdeal.nD Cert.TablesRefIdeal.τ Cert.TablesRefIdeal.sig) → Buf (Elt Ideal) ℓ) (g' : Dev Cert.TablesRefIdeal.nD → PrngReg), Pre_TablesIdeal m →
    (∀ c : Dev Cert.TablesIdeal.nD,
      m' ((c.tc : Thread Cert.TablesRefIdeal.nD Cert.TablesRefIdeal.τ).loc Cert.TablesRefIdeal.main_arg0) = m ((c.tc : Thread Cert.TablesIdeal.nD Cert.TablesIdeal.τ).loc Cert.TablesIdeal.main_arg0)
      ∧ m' ((c.tc : Thread Cert.TablesRefIdeal.nD Cert.TablesRefIdeal.τ).loc Cert.TablesRefIdeal.main_arg1) = m ((c.tc : Thread Cert.TablesIdeal.nD Cert.TablesIdeal.τ).loc Cert.TablesIdeal.main_arg1)) →
    ∃ (v0 : (c : Dev Cert.TablesIdeal.nD) → Buf (Elt Ideal) ((c.tc : Thread Cert.TablesIdeal.nD Cert.TablesIdeal.τ).loc Cert.TablesIdeal.main_v2_0)) (v1 : (c : Dev Cert.TablesIdeal.nD) → Buf (Elt Ideal) ((c.tc : Thread Cert.TablesIdeal.nD Cert.TablesIdeal.τ).loc Cert.TablesIdeal.main_v2_1)),
      θ_run (Cert.TablesIdeal.defs (F := Ideal)) (onTc (τ := Cert.TablesIdeal.τ) (Cert.TablesIdeal.main (F := Ideal))) ⟨m, fun _ => 0, g⟩ (fun r => ∀ c : Dev Cert.TablesIdeal.nD,
          r.2.mem ((c.tc : Thread Cert.TablesIdeal.nD Cert.TablesIdeal.τ).loc Cert.TablesIdeal.main_v2_0) = v0 c
          ∧ r.2.mem ((c.tc : Thread Cert.TablesIdeal.nD Cert.TablesIdeal.τ).loc Cert.TablesIdeal.main_v2_1) = v1 c
          ∧ r.2.mem ((c.tc : Thread Cert.TablesIdeal.nD Cert.TablesIdeal.τ).loc Cert.TablesIdeal.main_arg0) = m ((c.tc : Thread Cert.TablesIdeal.nD Cert.TablesIdeal.τ).loc Cert.TablesIdeal.main_arg0)
          ∧ r.2.mem ((c.tc : Thread Cert.TablesIdeal.nD Cert.TablesIdeal.τ).loc Cert.TablesIdeal.main_arg1) = m ((c.tc : Thread Cert.TablesIdeal.nD Cert.TablesIdeal.τ).loc Cert.TablesIdeal.main_arg1))
      ∧ θ_run (Cert.TablesRefIdeal.defs (F := Ideal)) (onTc (τ := Cert.TablesRefIdeal.τ) (Cert.TablesRefIdeal.main (F := Ideal))) ⟨m', fun _ => 0, g'⟩ (fun r => ∀ c : Dev Cert.TablesRefIdeal.nD,
          r.2.mem ((c.tc : Thread Cert.TablesRefIdeal.nD Cert.TablesRefIdeal.τ).loc Cert.TablesRefIdeal.main_v1) = v0 c
          ∧ r.2.mem ((c.tc : Thread Cert.TablesRefIdeal.nD Cert.TablesRefIdeal.τ).loc Cert.TablesRefIdeal.main_v4) = v1 c
          ∧ r.2.mem ((c.tc : Thread Cert.TablesRefIdeal.nD Cert.TablesRefIdeal.τ).loc Cert.TablesRefIdeal.main_arg0) = m' ((c.tc : Thread Cert.TablesRefIdeal.nD Cert.TablesRefIdeal.τ).loc Cert.TablesRefIdeal.main_arg0)
          ∧ r.2.mem ((c.tc : Thread Cert.TablesRefIdeal.nD Cert.TablesRefIdeal.τ).loc Cert.TablesRefIdeal.main_arg1) = m' ((c.tc : Thread Cert.TablesRefIdeal.nD Cert.TablesRefIdeal.τ).loc Cert.TablesRefIdeal.main_arg1))

def preserves_Prep_PrepIdeal : Prop :=
  IdealRules.named_const.Statement Cert.PrepIdeal.κ "inv_sqrt_dk" .f32 0x3DB504F3#32 (((Real.sqrt 128)⁻¹ : ℝ) : EReal)

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)) →
    ∃ (v0 : (c : Dev Cert.PrepIdeal.nD) → Buf (Elt Ideal) ((c.tc : Thread Cert.PrepIdeal.nD Cert.PrepIdeal.τ).loc Cert.PrepIdeal.main_v2_0)) (v1 : (c : Dev Cert.PrepIdeal.nD) → Buf (Elt Ideal) ((c.tc : Thread Cert.PrepIdeal.nD Cert.PrepIdeal.τ).loc Cert.PrepIdeal.main_v2_1)) (v2 : (c : Dev Cert.PrepIdeal.nD) → Buf (Elt Ideal) ((c.tc : Thread Cert.PrepIdeal.nD Cert.PrepIdeal.τ).loc Cert.PrepIdeal.main_v2_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v2_0) = v0 c
          ∧ r.2.mem ((c.tc : Thread Cert.PrepIdeal.nD Cert.PrepIdeal.τ).loc Cert.PrepIdeal.main_v2_1) = v1 c
          ∧ r.2.mem ((c.tc : Thread Cert.PrepIdeal.nD Cert.PrepIdeal.τ).loc Cert.PrepIdeal.main_v2_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v66) = v0 c
          ∧ r.2.mem ((c.tc : Thread Cert.PrepRefIdeal.nD Cert.PrepRefIdeal.τ).loc Cert.PrepRefIdeal.main_v68) = v1 c
          ∧ r.2.mem ((c.tc : Thread Cert.PrepRefIdeal.nD Cert.PrepRefIdeal.τ).loc Cert.PrepRefIdeal.main_v69) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1))

def preserves_PrepCtx_PrepCtxIdeal : Prop :=
  IdealRules.named_const.Statement Cert.PrepCtxIdeal.κ "inv_sqrt_dk" .f32 0x3DB504F3#32 (((Real.sqrt 128)⁻¹ : ℝ) : EReal)

def algebraic_PrepCtxIdeal_PrepCtxRefIdeal [hPrepCtxIdeal : Cert.PrepCtxIdeal.Facts] [hPrepCtxRefIdeal : Cert.PrepCtxRefIdeal.Facts] : Prop :=
  ∀ (m : (ℓ : Loc Cert.PrepCtxIdeal.nD Cert.PrepCtxIdeal.τ Cert.PrepCtxIdeal.sig) → Buf (Elt Ideal) ℓ) (g : Dev Cert.PrepCtxIdeal.nD → PrngReg)
    (m' : (ℓ : Loc Cert.PrepCtxRefIdeal.nD Cert.PrepCtxRefIdeal.τ Cert.PrepCtxRefIdeal.sig) → Buf (Elt Ideal) ℓ) (g' : Dev Cert.PrepCtxRefIdeal.nD → PrngReg), Pre_PrepCtxIdeal m →
    (∀ c : Dev Cert.PrepCtxIdeal.nD,
      m' ((c.tc : Thread Cert.PrepCtxRefIdeal.nD Cert.PrepCtxRefIdeal.τ).loc Cert.PrepCtxRefIdeal.main_arg0) = m ((c.tc : Thread Cert.PrepCtxIdeal.nD Cert.PrepCtxIdeal.τ).loc Cert.PrepCtxIdeal.main_arg0)
      ∧ m' ((c.tc : Thread Cert.PrepCtxRefIdeal.nD Cert.PrepCtxRefIdeal.τ).loc Cert.PrepCtxRefIdeal.main_arg1) = m ((c.tc : Thread Cert.PrepCtxIdeal.nD Cert.PrepCtxIdeal.τ).loc Cert.PrepCtxIdeal.main_arg1)) →
    ∃ (v0 : (c : Dev Cert.PrepCtxIdeal.nD) → Buf (Elt Ideal) ((c.tc : Thread Cert.PrepCtxIdeal.nD Cert.PrepCtxIdeal.τ).loc Cert.PrepCtxIdeal.main_v2_0)) (v1 : (c : Dev Cert.PrepCtxIdeal.nD) → Buf (Elt Ideal) ((c.tc : Thread Cert.PrepCtxIdeal.nD Cert.PrepCtxIdeal.τ).loc Cert.PrepCtxIdeal.main_v2_1)) (v2 : (c : Dev Cert.PrepCtxIdeal.nD) → Buf (Elt Ideal) ((c.tc : Thread Cert.PrepCtxIdeal.nD Cert.PrepCtxIdeal.τ).loc Cert.PrepCtxIdeal.main_v2_2)),
      θ_run (Cert.PrepCtxIdeal.defs (F := Ideal)) (onTc (τ := Cert.PrepCtxIdeal.τ) (Cert.PrepCtxIdeal.main (F := Ideal))) ⟨m, fun _ => 0, g⟩ (fun r => ∀ c : Dev Cert.PrepCtxIdeal.nD,
          r.2.mem ((c.tc : Thread Cert.PrepCtxIdeal.nD Cert.PrepCtxIdeal.τ).loc Cert.PrepCtxIdeal.main_v2_0) = v0 c
          ∧ r.2.mem ((c.tc : Thread Cert.PrepCtxIdeal.nD Cert.PrepCtxIdeal.τ).loc Cert.PrepCtxIdeal.main_v2_1) = v1 c
          ∧ r.2.mem ((c.tc : Thread Cert.PrepCtxIdeal.nD Cert.PrepCtxIdeal.τ).loc Cert.PrepCtxIdeal.main_v2_2) = v2 c
          ∧ r.2.mem ((c.tc : Thread Cert.PrepCtxIdeal.nD Cert.PrepCtxIdeal.τ).loc Cert.PrepCtxIdeal.main_arg0) = m ((c.tc : Thread Cert.PrepCtxIdeal.nD Cert.PrepCtxIdeal.τ).loc Cert.PrepCtxIdeal.main_arg0)
          ∧ r.2.mem ((c.tc : Thread Cert.PrepCtxIdeal.nD Cert.PrepCtxIdeal.τ).loc Cert.PrepCtxIdeal.main_arg1) = m ((c.tc : Thread Cert.PrepCtxIdeal.nD Cert.PrepCtxIdeal.τ).loc Cert.PrepCtxIdeal.main_arg1))
      ∧ θ_run (Cert.PrepCtxRefIdeal.defs (F := Ideal)) (onTc (τ := Cert.PrepCtxRefIdeal.τ) (Cert.PrepCtxRefIdeal.main (F := Ideal))) ⟨m', fun _ => 0, g'⟩ (fun r => ∀ c : Dev Cert.PrepCtxRefIdeal.nD,
          r.2.mem ((c.tc : Thread Cert.PrepCtxRefIdeal.nD Cert.PrepCtxRefIdeal.τ).loc Cert.PrepCtxRefIdeal.main_v65) = v0 c
          ∧ r.2.mem ((c.tc : Thread Cert.PrepCtxRefIdeal.nD Cert.PrepCtxRefIdeal.τ).loc Cert.PrepCtxRefIdeal.main_v67) = v1 c
          ∧ r.2.mem ((c.tc : Thread Cert.PrepCtxRefIdeal.nD Cert.PrepCtxRefIdeal.τ).loc Cert.PrepCtxRefIdeal.main_v68) = v2 c
          ∧ r.2.mem ((c.tc : Thread Cert.PrepCtxRefIdeal.nD Cert.PrepCtxRefIdeal.τ).loc Cert.PrepCtxRefIdeal.main_arg0) = m' ((c.tc : Thread Cert.PrepCtxRefIdeal.nD Cert.PrepCtxRefIdeal.τ).loc Cert.PrepCtxRefIdeal.main_arg0)
          ∧ r.2.mem ((c.tc : Thread Cert.PrepCtxRefIdeal.nD Cert.PrepCtxRefIdeal.τ).loc Cert.PrepCtxRefIdeal.main_arg1) = m' ((c.tc : Thread Cert.PrepCtxRefIdeal.nD Cert.PrepCtxRefIdeal.τ).loc Cert.PrepCtxRefIdeal.main_arg1))

def preserves_Experts_ExpertsIdeal : Prop :=
  IdealRules.named_const.Statement Cert.ExpertsIdeal.κ "gelu_cubic" .f32 0x3D122279#32 ((80338380498831 / 2251799813685248 : ℝ) : EReal)

def algebraic_ExpertsIdeal_ExpertsRefIdeal_pre_above_minus_infinity [hExpertsIdeal : Cert.ExpertsIdeal.Facts] [hExpertsRefIdeal : Cert.ExpertsRefIdeal.Facts] [hPre_above_minus_infinity : Cert.Pre_above_minus_infinity.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal_above_minus_infinity m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v31) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hFinal : Cert.Final.Facts) (hFinalIdeal : Cert.FinalIdeal.Facts) (hFinalRefIdeal : Cert.FinalRefIdeal.Facts) (hMerge : Cert.Merge.Facts) (hMergeIdeal : Cert.MergeIdeal.Facts) (hMergeRefIdeal : Cert.MergeRefIdeal.Facts) (hMod : Cert.Mod.Facts) (hModIdeal : Cert.ModIdeal.Facts) (hModRefIdeal : Cert.ModRefIdeal.Facts) (hPeerQ : Cert.PeerQ.Facts) (hPeerQIdeal : Cert.PeerQIdeal.Facts) (hPeerQRefIdeal : Cert.PeerQRefIdeal.Facts) (hInProjCtx : Cert.InProjCtx.Facts) (hInProjCtxIdeal : Cert.InProjCtxIdeal.Facts) (hInProjCtxRefIdeal : Cert.InProjCtxRefIdeal.Facts) (hConformer : Cert.Conformer.Facts) (hConformerIdeal : Cert.ConformerIdeal.Facts) (hConformerRefIdeal : Cert.ConformerRefIdeal.Facts) (hTables : Cert.Tables.Facts) (hTablesIdeal : Cert.TablesIdeal.Facts) (hTablesRefIdeal : Cert.TablesRefIdeal.Facts) (hPrep : Cert.Prep.Facts) (hPrepIdeal : Cert.PrepIdeal.Facts) (hPrepRefIdeal : Cert.PrepRefIdeal.Facts) (hPrepCtx : Cert.PrepCtx.Facts) (hPrepCtxIdeal : Cert.PrepCtxIdeal.Facts) (hPrepCtxRefIdeal : Cert.PrepCtxRefIdeal.Facts) (hExperts : Cert.Experts.Facts) (hExpertsIdeal : Cert.ExpertsIdeal.Facts) (hExpertsRefIdeal : Cert.ExpertsRefIdeal.Facts) (hPre_above_minus_infinity : Cert.Pre_above_minus_infinity.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjRefIdeal (hInProjRefIdeal := hInProjRefIdeal)
    ∧ quiescent_Final (hFinal := hFinal)
    ∧ quiescent_FinalIdeal (hFinalIdeal := hFinalIdeal)
    ∧ quiescent_FinalRefIdeal (hFinalRefIdeal := hFinalRefIdeal)
    ∧ quiescent_Merge (hMerge := hMerge)
    ∧ quiescent_MergeIdeal (hMergeIdeal := hMergeIdeal)
    ∧ quiescent_MergeRefIdeal (hMergeRefIdeal := hMergeRefIdeal)
    ∧ quiescent_Mod (hMod := hMod)
    ∧ quiescent_ModIdeal (hModIdeal := hModIdeal)
    ∧ quiescent_ModRefIdeal (hModRefIdeal := hModRefIdeal)
    ∧ quiescent_PeerQ (hPeerQ := hPeerQ)
    ∧ quiescent_PeerQIdeal (hPeerQIdeal := hPeerQIdeal)
    ∧ quiescent_PeerQRefIdeal (hPeerQRefIdeal := hPeerQRefIdeal)
    ∧ quiescent_InProjCtx (hInProjCtx := hInProjCtx)
    ∧ quiescent_InProjCtxIdeal (hInProjCtxIdeal := hInProjCtxIdeal)
    ∧ quiescent_InProjCtxRefIdeal (hInProjCtxRefIdeal := hInProjCtxRefIdeal)
    ∧ quiescent_Conformer (hConformer := hConformer)
    ∧ quiescent_ConformerIdeal (hConformerIdeal := hConformerIdeal)
    ∧ quiescent_ConformerRefIdeal (hConformerRefIdeal := hConformerRefIdeal)
    ∧ quiescent_Tables (hTables := hTables)
    ∧ quiescent_TablesIdeal (hTablesIdeal := hTablesIdeal)
    ∧ quiescent_TablesRefIdeal (hTablesRefIdeal := hTablesRefIdeal)
    ∧ quiescent_Prep (hPrep := hPrep)
    ∧ quiescent_PrepIdeal (hPrepIdeal := hPrepIdeal)
    ∧ quiescent_PrepRefIdeal (hPrepRefIdeal := hPrepRefIdeal)
    ∧ quiescent_PrepCtx (hPrepCtx := hPrepCtx)
    ∧ quiescent_PrepCtxIdeal (hPrepCtxIdeal := hPrepCtxIdeal)
    ∧ quiescent_PrepCtxRefIdeal (hPrepCtxRefIdeal := hPrepCtxRefIdeal)
    ∧ quiescent_Experts (hExperts := hExperts)
    ∧ quiescent_ExpertsIdeal (hExpertsIdeal := hExpertsIdeal)
    ∧ quiescent_ExpertsIdeal_pre_above_minus_infinity (hExpertsIdeal := hExpertsIdeal) (hPre_above_minus_infinity := hPre_above_minus_infinity)
    ∧ quiescent_ExpertsRefIdeal (hExpertsRefIdeal := hExpertsRefIdeal)
    ∧ quiescent_ExpertsRefIdeal_pre_above_minus_infinity (hExpertsRefIdeal := hExpertsRefIdeal) (hPre_above_minus_infinity := hPre_above_minus_infinity)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InProjRefIdeal (hInProjIdeal := hInProjIdeal) (hInProjRefIdeal := hInProjRefIdeal)
    ∧ preserves_Final_FinalIdeal
    ∧ algebraic_FinalIdeal_FinalRefIdeal (hFinalIdeal := hFinalIdeal) (hFinalRefIdeal := hFinalRefIdeal)
    ∧ preserves_Merge_MergeIdeal
    ∧ algebraic_MergeIdeal_MergeRefIdeal (hMergeIdeal := hMergeIdeal) (hMergeRefIdeal := hMergeRefIdeal)
    ∧ preserves_Mod_ModIdeal
    ∧ algebraic_ModIdeal_ModRefIdeal (hModIdeal := hModIdeal) (hModRefIdeal := hModRefIdeal)
    ∧ preserves_PeerQ_PeerQIdeal
    ∧ algebraic_PeerQIdeal_PeerQRefIdeal (hPeerQIdeal := hPeerQIdeal) (hPeerQRefIdeal := hPeerQRefIdeal)
    ∧ preserves_InProjCtx_InProjCtxIdeal
    ∧ algebraic_InProjCtxIdeal_InProjCtxRefIdeal (hInProjCtxIdeal := hInProjCtxIdeal) (hInProjCtxRefIdeal := hInProjCtxRefIdeal)
    ∧ preserves_Conformer_ConformerIdeal
    ∧ algebraic_ConformerIdeal_ConformerRefIdeal (hConformerIdeal := hConformerIdeal) (hConformerRefIdeal := hConformerRefIdeal)
    ∧ preserves_Tables_TablesIdeal
    ∧ algebraic_TablesIdeal_TablesRefIdeal (hTablesIdeal := hTablesIdeal) (hTablesRefIdeal := hTablesRefIdeal)
    ∧ preserves_Prep_PrepIdeal
    ∧ algebraic_PrepIdeal_PrepRefIdeal (hPrepIdeal := hPrepIdeal) (hPrepRefIdeal := hPrepRefIdeal)
    ∧ preserves_PrepCtx_PrepCtxIdeal
    ∧ algebraic_PrepCtxIdeal_PrepCtxRefIdeal (hPrepCtxIdeal := hPrepCtxIdeal) (hPrepCtxRefIdeal := hPrepCtxRefIdeal)
    ∧ preserves_Experts_ExpertsIdeal
    ∧ algebraic_ExpertsIdeal_ExpertsRefIdeal_pre_above_minus_infinity (hExpertsIdeal := hExpertsIdeal) (hExpertsRefIdeal := hExpertsRefIdeal) (hPre_above_minus_infinity := hPre_above_minus_infinity)
-- ==== Pre_above_minus_infinity.lean ====
abbrev S2048x8192 : Shape := ⟨2, ![2048, 8192]⟩
abbrev S16384x2048 : Shape := ⟨2, ![16384, 2048]⟩
abbrev S2048x16384 : Shape := ⟨2, ![2048, 16384]⟩
abbrev S8x128x8192 : Shape := ⟨3, ![8, 128, 8192]⟩
abbrev S16384x8192 : Shape := ⟨2, ![16384, 8192]⟩
abbrev S_ : Shape := ⟨0, ![]⟩

class Facts : Prop where
  bitsLt_bf16_f32 : FTy.bits .bf16 < FTy.bits .f32
  bcast_S_S16384x8192 : S_.BroadcastsInDim S16384x8192 (![] : Fin 0 → Fin S16384x8192.rank)
  dot_S16384x2048_S2048x8192_S16384x8192_1_0_0_1_n_n_wf : DotDims.WF S16384x2048 S2048x8192 S16384x8192 [1] [0] [0] [1] [] []

variable [Facts]

def dot_S16384x2048_S2048x8192_S16384x8192_1_0_0_1_n_n : DotDims S16384x2048 S2048x8192 S16384x8192 where
  lhsContracting := [1]
  rhsContracting := [0]
  lhsNonContracting := [0]
  rhsNonContracting := [1]
  lhsBatch := []
  rhsBatch := []
  wf := dot_S16384x2048_S2048x8192_S16384x8192_1_0_0_1_n_n_wf
def fn {F : FTy → Type} [FloatOps F] (main_arg0 : FVec F S2048x8192 .bf16) (main_arg1 : FVec F S16384x2048 .bf16) (main_arg2 : FVec F S2048x16384 .bf16) (main_arg3 : FVec F S8x128x8192 .f32) (main_arg4 : FVec F S8x128x8192 .f32) (main_arg5 : FVec F S8x128x8192 .f32) (main_arg6 : FVec F S8x128x8192 .f32) : IVec S16384x8192 1 :=
  let main_v0 : FVec F S16384x2048 .f32 := (extf .f32 · bitsLt_bf16_f32) main_arg1
  let main_v1 : FVec F S2048x8192 .f32 := (extf .f32 · bitsLt_bf16_f32) main_arg0
  let main_v2 : FVec F S16384x8192 .f32 := (fun l r => Host.dotGeneral dot_S16384x2048_S2048x8192_S16384x8192_1_0_0_1_n_n none l r) main_v0 main_v1
  let main_cst : FVec F S_ .f32 := constant S_ .f32 0xFF800000#32
  let main_v3 : FVec F S16384x8192 .f32 := broadcastInDim S16384x8192 ![] bcast_S_S16384x8192 main_cst
  let main_v4 : IVec S16384x8192 1 := cmpf .ogt main_v2 main_v3
  main_v4
-- ==== Kernel.lean ====
abbrev S1x2048x16448 : Shape := ⟨3, ![1, 2048, 16448]⟩
abbrev S2048x16448 : Shape := ⟨2, ![2048, 16448]⟩
abbrev S16448x2048 : Shape := ⟨2, ![16448, 2048]⟩
abbrev S2048x16384 : Shape := ⟨2, ![2048, 16384]⟩
abbrev S2048x128 : Shape := ⟨2, ![2048, 128]⟩
abbrev S512x2048 : Shape := ⟨2, ![512, 2048]⟩
abbrev S64x2048 : Shape := ⟨2, ![64, 2048]⟩
abbrev S2048x512 : Shape := ⟨2, ![2048, 512]⟩
abbrev S128x2048 : Shape := ⟨2, ![128, 2048]⟩

abbrev nBuf : Space → Nat
  | .hbm => 5
  | .vmem => 6
  | .smem => 0
  | _ => 0

abbrev bufTy : (tb : Table) → Fin (tcTables nBuf tb) → BufTy
  | .hbm, ⟨0, _⟩ => ⟨S1x2048x16448, .f32⟩
  | .hbm, ⟨1, _⟩ => ⟨S2048x16448, .f32⟩
  | .hbm, ⟨2, _⟩ => ⟨S16448x2048, .f32⟩
  | .hbm, ⟨3, _⟩ => ⟨S2048x16384, .bf16⟩
  | .hbm, ⟨4, _⟩ => ⟨S2048x128, .bf16⟩
  | .local _ .vmem, ⟨0, _⟩ => ⟨S512x2048, .f32⟩
  | .local _ .vmem, ⟨1, _⟩ => ⟨S512x2048, .f32⟩
  | .local _ .vmem, ⟨2, _⟩ => ⟨S64x2048, .f32⟩
  | .local _ .vmem, ⟨3, _⟩ => ⟨S2048x512, .bf16⟩
  | .local _ .vmem, ⟨4, _⟩ => ⟨S2048x512, .bf16⟩
  | .local _ .vmem, ⟨5, _⟩ => ⟨S2048x128, .bf16⟩
  | _, _ => ⟨S1x2048x16448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c24_i32 : BitVec 32 := 24#32
  let v0 : BitVec 1 := Scalar.cmpi .slt arg0 c24_i32
  let c512_i32 : BitVec 32 := 512#32
  let v1 : BitVec 32 := Scalar.muli arg0 c512_i32
  let c12352_i32 : BitVec 32 := 12352#32
  let c24_i32_0 : BitVec 32 := 24#32
  let v2 : BitVec 32 := Scalar.subi arg0 c24_i32_0
  let c512_i32_1 : BitVec 32 := 512#32
  let v3 : BitVec 32 := Scalar.muli v2 c512_i32_1
  let v4 : BitVec 32 := Scalar.addi c12352_i32 v3
  let v5 : BitVec 32 := Scalar.select v0 v1 v4
  v5
def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let c24_i32 : BitVec 32 := 24#32
  let v0 : BitVec 1 := Scalar.cmpi .slt arg0 c24_i32
  let c512_i32 : BitVec 32 := 512#32
  let v1 : BitVec 32 := Scalar.muli arg0 c512_i32
  let c24_i32_0 : BitVec 32 := 24#32
  let v2 : BitVec 32 := Scalar.subi arg0 c24_i32_0
  let c512_i32_1 : BitVec 32 := 512#32
  let v3 : BitVec 32 := Scalar.muli v2 c512_i32_1
  let c12352_i32 : BitVec 32 := 12352#32
  let v4 : BitVec 32 := Scalar.addi c12352_i32 v3
  let v5 : BitVec 32 := Scalar.select v0 v1 v4
  let v6 : BitVec 32 := v5
  let c0_i32 : BitVec 32 := 0#32
  let c0_i32_2 : BitVec 32 := 0#32
  ![v6.toNat, c0_i32.toNat]

def cc0_transform_1 (i : grid0.Coords) : Fin 2 → Nat :=
  let arg0 : BitVec 32 := BitVec.ofNat 32 (i 0).val
  let c12288_i32 : BitVec 32 := 12288#32
  let c0_i32 : BitVec 32 := 0#32
  let c0_i32_0 : BitVec 32 := 0#32
  ![c12288_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1x2048x16448 : Shape := ⟨3, ![1, 2048, 16448]⟩
abbrev S2048x16448 : Shape := ⟨2, ![2048, 16448]⟩
abbrev S2048x12288 : Shape := ⟨2, ![2048, 12288]⟩
abbrev S2048x4096 : Shape := ⟨2, ![2048, 4096]⟩
abbrev S2048x16384 : Shape := ⟨2, ![2048, 16384]⟩
abbrev S2048x64 : Shape := ⟨2, ![2048, 64]⟩
abbrev S_ : Shape := ⟨0, ![]⟩
abbrev S2048x128 : Shape := ⟨2, ![2048, 128]⟩

abbrev nBuf : Space → Nat
  | .hbm => 10
  | .vmem => 0
  | .smem => 0
  | _ => 0

abbrev bufTy : (tb : Table) → Fin (tcTables nBuf tb) → BufTy
  | .hbm, ⟨0, _⟩ => ⟨S1x2048x16448, .f32⟩
  | .hbm, ⟨1, _⟩ => ⟨S2048x16448, .f32⟩
  | .hbm, ⟨2, _⟩ => ⟨S2048x16448, .bf16⟩
  | .hbm, ⟨3, _⟩ => ⟨S2048x12288, .bf16⟩
  | .hbm, ⟨4, _⟩ => ⟨S2048x4096, .bf16⟩
  | .hbm, ⟨5, _⟩ => ⟨S2048x16384, .bf16⟩
  | .hbm, ⟨6, _⟩ => ⟨S2048x64, .bf16⟩
  | .hbm, ⟨7, _⟩ => ⟨S_, .bf16⟩
  | .hbm, ⟨8, _⟩ => ⟨S2048x64, .bf16⟩
  | .hbm, ⟨9, _⟩ => ⟨S2048x128, .bf16⟩
  | _, _ => ⟨S1x2048x16448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== InProj.lean ====
abbrev S4x2048x2048 : Shape := ⟨3, ![4, 2048, 2048]⟩
abbrev S1x2048 : Shape := ⟨2, ![1, 2048]⟩
abbrev S8x1x12288 : Shape := ⟨3, ![8, 1, 12288]⟩
abbrev S2048x16384 : Shape := ⟨2, ![2048, 16384]⟩
abbrev S2048x128 : Shape := ⟨2, ![2048, 128]⟩
abbrev S8192x2048 : Shape := ⟨2, ![8192, 2048]⟩
abbrev S2048 : Shape := ⟨1, ![2048]⟩
abbrev S8192x16384 : Shape := ⟨2, ![8192, 16384]⟩
abbrev S8192x128 : Shape := ⟨2, ![8192, 128]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 10
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S8x1x12288, .f32⟩
  | .hbm, ⟨3, _⟩ => ⟨S2048x16384, .bf16⟩
  | .hbm, ⟨4, _⟩ => ⟨S2048x128, .bf16⟩
  | .hbm, ⟨5, _⟩ => ⟨S8192x2048, .f32⟩
  | .hbm, ⟨6, _⟩ => ⟨S2048, .f32⟩
  | .hbm, ⟨7, _⟩ => ⟨S1x2048, .f32⟩
  | .hbm, ⟨8, _⟩ => ⟨S8192x16384, .f32⟩
  | .hbm, ⟨9, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S2048x128, .bf16⟩
  | .local _ .vmem, ⟨10, _⟩ => ⟨S1024x1024, .f32⟩
  | .local _ .vmem, ⟨11, _⟩ => ⟨S1024x1024, .f32⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c1_i32_6 : BitVec 32 := 1#32
  let c0_i32_7 : BitVec 32 := 0#32
  ![v18.toNat, c0_i32_5.toNat, c1_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InProjRefIdeal.lean ====
abbrev S4x2048x2048 : Shape := ⟨3, ![4, 2048, 2048]⟩
abbrev S1x2048 : Shape := ⟨2, ![1, 2048]⟩
abbrev S8x1x12288 : Shape := ⟨3, ![8, 1, 12288]⟩
abbrev S2048x16384 : Shape := ⟨2, ![2048, 16384]⟩
abbrev S2048x128 : Shape := ⟨2, ![2048, 128]⟩
abbrev S4x1x12288 : Shape := ⟨3, ![4, 1, 12288]⟩
abbrev S4x12288 : Shape := ⟨2, ![4, 12288]⟩
abbrev S4x2048 : Shape := ⟨2, ![4, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S4x1x2048 : Shape := ⟨3, ![4, 1, 2048]⟩
abbrev S4x2048x16384 : Shape := ⟨3, ![4, 2048, 16384]⟩
abbrev S8192x16384 : Shape := ⟨2, ![8192, 16384]⟩
abbrev S4x2048x128 : Shape := ⟨3, ![4, 2048, 128]⟩
abbrev S8192x128 : Shape := ⟨2, ![8192, 128]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S8x1x12288, .f32⟩
  | .hbm, ⟨3, _⟩ => ⟨S2048x16384, .bf16⟩
  | .hbm, ⟨4, _⟩ => ⟨S2048x128, .bf16⟩
  | .hbm, ⟨5, _⟩ => ⟨S4x1x12288, .f32⟩
  | .hbm, ⟨6, _⟩ => ⟨S4x12288, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S2048, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S4x1x2048, .f32⟩
  | .hbm, ⟨31, _⟩ => ⟨S_, .f32⟩
  | .hbm, ⟨32, _⟩ => ⟨S4x1x2048, .f32⟩
  | .hbm, ⟨33, _⟩ => ⟨S4x1x2048, .f32⟩
  | .hbm, ⟨34, _⟩ => ⟨S4x2048x2048, .f32⟩
  | .hbm, ⟨35, _⟩ => ⟨S4x2048x2048, .f32⟩
  | .hbm, ⟨36, _⟩ => ⟨S4x1x2048, .f32⟩
  | .hbm, ⟨37, _⟩ => ⟨S4x2048x2048, .f32⟩
  | .hbm, ⟨38, _⟩ => ⟨S4x2048x2048, .f32⟩
  | .hbm, ⟨39, _⟩ => ⟨S2048x16384, .f32⟩
  | .hbm, ⟨40, _⟩ => ⟨S4x2048x16384, .f32⟩
  | .hbm, ⟨41, _⟩ => ⟨S8192x16384, .f32⟩
  | .hbm, ⟨42, _⟩ => ⟨S2048x128, .f32⟩
  | .hbm, ⟨43, _⟩ => ⟨S4x2048x128, .f32⟩
  | .hbm, ⟨44, _⟩ => ⟨S8192x128, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Final.lean ====
abbrev S8192x2048 : Shape := ⟨2, ![8192, 2048]⟩
abbrev S2048x8192 : Shape := ⟨2, ![2048, 8192]⟩
abbrev S8x1x12288 : Shape := ⟨3, ![8, 1, 12288]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S1x1x2048 : Shape := ⟨3, ![1, 1, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8x1x12288, .f32⟩
  | .hbm, ⟨3, _⟩ => ⟨S2048, .f32⟩
  | .hbm, ⟨4, _⟩ => ⟨S1x2048, .f32⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .f32⟩
  | .local _ .vmem, ⟨3, _⟩ => ⟨S2048x512, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c5_i32 : BitVec 32 := 5#32
  let c0_i32_5 : BitVec 32 := 0#32
  ![v17.toNat, c0_i32_4.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalRefIdeal.lean ====
abbrev S8192x2048 : Shape := ⟨2, ![8192, 2048]⟩
abbrev S2048x8192 : Shape := ⟨2, ![2048, 8192]⟩
abbrev S8x1x12288 : Shape := ⟨3, ![8, 1, 12288]⟩
abbrev S2048 : Shape := ⟨1, ![2048]⟩
abbrev S4x1x12288 : Shape := ⟨3, ![4, 1, 12288]⟩
abbrev S4x12288 : Shape := ⟨2, ![4, 12288]⟩
abbrev S4x2048 : Shape := ⟨2, ![4, 2048]⟩
abbrev S4x2048x2048 : Shape := ⟨3, ![4, 2048, 2048]⟩
abbrev S4x1x2048 : Shape := ⟨3, ![4, 1, 2048]⟩
abbrev S_ : Shape := ⟨0, ![]⟩
abbrev S4x2048x1 : Shape := ⟨3, ![4, 2048, 1]⟩
abbrev S1x1x2048 : Shape := ⟨3, ![1, 1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8x1x12288, .f32⟩
  | .hbm, ⟨3, _⟩ => ⟨S2048, .f32⟩
  | .hbm, ⟨4, _⟩ => ⟨S4x1x12288, .f32⟩
  | .hbm, ⟨5, _⟩ => ⟨S4x12288, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x2048x2048, .f32⟩
  | .hbm, ⟨13, _⟩ => ⟨S4x1x2048, .f32⟩
  | .hbm, ⟨14, _⟩ => ⟨S8192x2048, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S1x1x2048, .f32⟩
  | .hbm, ⟨33, _⟩ => ⟨S4x2048x2048, .f32⟩
  | .hbm, ⟨34, _⟩ => ⟨S4x2048x2048, .f32⟩
  | .hbm, ⟨35, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Merge.lean ====
abbrev S8192x2048 : Shape := ⟨2, ![8192, 2048]⟩
abbrev S2x8192x2048 : Shape := ⟨3, ![2, 8192, 2048]⟩
abbrev S8192x16384 : Shape := ⟨2, ![8192, 16384]⟩
abbrev S1x128 : Shape := ⟨2, ![1, 128]⟩
abbrev S1x2048x2048 : Shape := ⟨3, ![1, 2048, 2048]⟩
abbrev S4x2048x2048 : Shape := ⟨3, ![4, 2048, 2048]⟩
abbrev S8x1x12288 : Shape := ⟨3, ![8, 1, 12288]⟩
abbrev S128 : Shape := ⟨1, ![128]⟩
abbrev S16x128 : Shape := ⟨2, ![16, 128]⟩
abbrev S2048 : Shape := ⟨1, ![2048]⟩
abbrev S1x2048 : Shape := ⟨2, ![1, 2048]⟩
abbrev S2048x2048 : Shape := ⟨2, ![2048, 2048]⟩
abbrev S256x2048 : Shape := ⟨2, ![256, 2048]⟩
abbrev S1x256x2048 : Shape := ⟨3, ![1, 256, 2048]⟩
abbrev S1x1x2048 : Shape := ⟨3, ![1, 1, 2048]⟩
abbrev S256x128 : Shape := ⟨2, ![256, 128]⟩
abbrev S256 : Shape := ⟨1, ![256]⟩
abbrev S256x1 : Shape := ⟨2, ![256, 1]⟩

abbrev nBuf : Space → Nat
  | .hbm => 19
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S2x8192x2048, .bf16⟩
  | .hbm, ⟨2, _⟩ => ⟨S8192x16384, .f32⟩
  | .hbm, ⟨3, _⟩ => ⟨S1x128, .f32⟩
  | .hbm, ⟨4, _⟩ => ⟨S1x2048x2048, .f32⟩
  | .hbm, ⟨5, _⟩ => ⟨S1x2048x2048, .f32⟩
  | .hbm, ⟨6, _⟩ => ⟨S4x2048x2048, .f32⟩
  | .hbm, ⟨7, _⟩ => ⟨S8x1x12288, .f32⟩
  | .hbm, ⟨8, _⟩ => ⟨S8192x2048, .f32⟩
  | .hbm, ⟨9, _⟩ => ⟨S128, .f32⟩
  | .hbm, ⟨10, _⟩ => ⟨S1x128, .f32⟩
  | .hbm, ⟨11, _⟩ => ⟨S16x128, .f32⟩
  | .hbm, ⟨12, _⟩ => ⟨S2048, .f32⟩
  | .hbm, ⟨13, _⟩ => ⟨S1x2048, .f32⟩
  | .hbm, ⟨14, _⟩ => ⟨S2048x2048, .f32⟩
  | .hbm, ⟨15, _⟩ => ⟨S2048x2048, .bf16⟩
  | .hbm, ⟨16, _⟩ => ⟨S2048x2048, .f32⟩
  | .hbm, ⟨17, _⟩ => ⟨S2048x2048, .bf16⟩
  | .hbm, ⟨18, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S2048x2048, .bf16⟩
  | .local _ .vmem, ⟨14, _⟩ => ⟨S2048x2048, .bf16⟩
  | .local _ .vmem, ⟨15, _⟩ => ⟨S256x2048, .f32⟩
  | .local _ .vmem, ⟨16, _⟩ => ⟨S256x2048, .f32⟩
  | .local _ .vmem, ⟨17, _⟩ => ⟨S1x1x2048, .f32⟩
  | .local _ .vmem, ⟨18, _⟩ => ⟨S1x1x2048, .f32⟩
  | .local _ .vmem, ⟨19, _⟩ => ⟨S256x2048, .f32⟩
  | .local _ .vmem, ⟨20, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c2_i32 : BitVec 32 := 2#32
  let c0_i32_5 : BitVec 32 := 0#32
  ![v17.toNat, c0_i32_4.toNat, c2_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S8192x2048 : Shape := ⟨2, ![8192, 2048]⟩
abbrev S2x8192x2048 : Shape := ⟨3, ![2, 8192, 2048]⟩
abbrev S8192x16384 : Shape := ⟨2, ![8192, 16384]⟩
abbrev S1x128 : Shape := ⟨2, ![1, 128]⟩
abbrev S1x2048x2048 : Shape := ⟨3, ![1, 2048, 2048]⟩
abbrev S4x2048x2048 : Shape := ⟨3, ![4, 2048, 2048]⟩
abbrev S8x1x12288 : Shape := ⟨3, ![8, 1, 12288]⟩
abbrev S4x2048x16x128 : Shape := ⟨4, ![4, 2048, 16, 128]⟩
abbrev S8192x4096 : Shape := ⟨2, ![8192, 4096]⟩
abbrev S4x2048x4096 : Shape := ⟨3, ![4, 2048, 4096]⟩
abbrev S1x8192x2048 : Shape := ⟨3, ![1, 8192, 2048]⟩
abbrev S128 : Shape := ⟨1, ![128]⟩
abbrev S_ : Shape := ⟨0, ![]⟩
abbrev S4x2048x16 : Shape := ⟨3, ![4, 2048, 16]⟩
abbrev S4x2048x16x1 : Shape := ⟨4, ![4, 2048, 16, 1]⟩
abbrev S1x1x1x128 : Shape := ⟨4, ![1, 1, 1, 128]⟩
abbrev S2048x2048 : Shape := ⟨2, ![2048, 2048]⟩
abbrev S4x1x12288 : Shape := ⟨3, ![4, 1, 12288]⟩
abbrev S4x12288 : Shape := ⟨2, ![4, 12288]⟩
abbrev S4x2048 : Shape := ⟨2, ![4, 2048]⟩
abbrev S4x1x2048 : Shape := ⟨3, ![4, 1, 2048]⟩

abbrev nBuf : Space → Nat
  | .hbm => 79
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x8192x2048, .bf16⟩
  | .hbm, ⟨2, _⟩ => ⟨S8192x16384, .f32⟩
  | .hbm, ⟨3, _⟩ => ⟨S1x128, .f32⟩
  | .hbm, ⟨4, _⟩ => ⟨S1x2048x2048, .f32⟩
  | .hbm, ⟨5, _⟩ => ⟨S1x2048x2048, .f32⟩
  | .hbm, ⟨6, _⟩ => ⟨S4x2048x2048, .f32⟩
  | .hbm, ⟨7, _⟩ => ⟨S8x1x12288, .f32⟩
  | .hbm, ⟨8, _⟩ => ⟨S8192x2048, .f32⟩
  | .hbm, ⟨9, _⟩ => ⟨S4x2048x16x128, .f32⟩
  | .hbm, ⟨10, _⟩ => ⟨S8192x4096, .f32⟩
  | .hbm, ⟨11, _⟩ => ⟨S4x2048x4096, .f32⟩
  | .hbm, ⟨12, _⟩ => ⟨S1x8192x2048, .bf16⟩
  | .hbm, ⟨13, _⟩ => ⟨S8192x2048, .bf16⟩
  | .hbm, ⟨14, _⟩ => ⟨S8192x2048, .f32⟩
  | .hbm, ⟨15, _⟩ => ⟨S1x8192x2048, .bf16⟩
  | .hbm, ⟨16, _⟩ => ⟨S8192x2048, .bf16⟩
  | .hbm, ⟨17, _⟩ => ⟨S8192x2048, .f32⟩
  | .hbm, ⟨18, _⟩ => ⟨S8192x2048, .f32⟩
  | .hbm, ⟨19, _⟩ => ⟨S4x2048x16x128, .f32⟩
  | .hbm, ⟨20, _⟩ => ⟨S128, .f32⟩
  | .hbm, ⟨21, _⟩ => ⟨S4x2048x16x128, .f32⟩
  | .hbm, ⟨22, _⟩ => ⟨S_, .f32⟩
  | .hbm, ⟨23, _⟩ => ⟨S4x2048x16, .f32⟩
  | .hbm, ⟨24, _⟩ => ⟨S4x2048x16x1, .f32⟩
  | .hbm, ⟨25, _⟩ => ⟨S_, .f32⟩
  | .hbm, ⟨26, _⟩ => ⟨S4x2048x16x1, .f32⟩
  | .hbm, ⟨27, _⟩ => ⟨S4x2048x16x1, .f32⟩
  | .hbm, ⟨28, _⟩ => ⟨S_, .f32⟩
  | .hbm, ⟨29, _⟩ => ⟨S4x2048x16x1, .f32⟩
  | .hbm, ⟨30, _⟩ => ⟨S4x2048x16x1, .f32⟩
  | .hbm, ⟨31, _⟩ => ⟨S4x2048x16x1, .f32⟩
  | .hbm, ⟨32, _⟩ => ⟨S4x2048x16x128, .f32⟩
  | .hbm, ⟨33, _⟩ => ⟨S4x2048x16x128, .f32⟩
  | .hbm, ⟨34, _⟩ => ⟨S1x1x1x128, .f32⟩
  | .hbm, ⟨35, _⟩ => ⟨S4x2048x16x128, .f32⟩
  | .hbm, ⟨36, _⟩ => ⟨S4x2048x16x128, .f32⟩
  | .hbm, ⟨37, _⟩ => ⟨S4x2048x16x128, .f32⟩
  | .hbm, ⟨38, _⟩ => ⟨S4x2048x16x128, .f32⟩
  | .hbm, ⟨39, _⟩ => ⟨S_, .f32⟩
  | .hbm, ⟨40, _⟩ => ⟨S4x2048x16x128, .f32⟩
  | .hbm, ⟨41, _⟩ => ⟨S4x2048x16x128, .f32⟩
  | .hbm, ⟨42, _⟩ => ⟨S_, .f32⟩
  | .hbm, ⟨43, _⟩ => ⟨S4x2048x16x128, .f32⟩
  | .hbm, ⟨44, _⟩ => ⟨S4x2048x16x128, .f32⟩
  | .hbm, ⟨45, _⟩ => ⟨S4x2048x16x128, .f32⟩
  | .hbm, ⟨46, _⟩ => ⟨S4x2048x16x128, .f32⟩
  | .hbm, ⟨47, _⟩ => ⟨S4x2048x2048, .f32⟩
  | .hbm, ⟨48, _⟩ => ⟨S2048x2048, .f32⟩
  | .hbm, ⟨49, _⟩ => ⟨S4x2048x2048, .f32⟩
  | .hbm, ⟨50, _⟩ => ⟨S4x2048x4096, .f32⟩
  | .hbm, ⟨51, _⟩ => ⟨S4x2048x4096, .f32⟩
  | .hbm, ⟨52, _⟩ => ⟨S_, .f32⟩
  | .hbm, ⟨53, _⟩ => ⟨S4x2048x4096, .f32⟩
  | .hbm, ⟨54, _⟩ => ⟨S4x2048x4096, .f32⟩
  | .hbm, ⟨55, _⟩ => ⟨S_, .f32⟩
  | .hbm, ⟨56, _⟩ => ⟨S4x2048x4096, .f32⟩
  | .hbm, ⟨57, _⟩ => ⟨S4x2048x4096, .f32⟩
  | .hbm, ⟨58, _⟩ => ⟨S4x2048x2048, .f32⟩
  | .hbm, ⟨59, _⟩ => ⟨S4x2048x2048, .f32⟩
  | .hbm, ⟨60, _⟩ => ⟨S4x2048x2048, .f32⟩
  | .hbm, ⟨61, _⟩ => ⟨S4x2048x2048, .f32⟩
  | .hbm, ⟨62, _⟩ => ⟨S4x2048x2048, .f32⟩
  | .hbm, ⟨63, _⟩ => ⟨S4x2048x2048, .f32⟩
  | .hbm, ⟨64, _⟩ => ⟨S2048x2048, .f32⟩
  | .hbm, ⟨65, _⟩ => ⟨S4x2048x2048, .f32⟩
  | .hbm, ⟨66, _⟩ => ⟨S4x1x12288, .f32⟩
  | .hbm, ⟨67, _⟩ => ⟨S4x12288, .f32⟩
  | .hbm, ⟨68, _⟩ => ⟨S4x2048, .f32⟩
  | .hbm, ⟨69, _⟩ => ⟨S4x2048, .f32⟩
  | .hbm, ⟨70, _⟩ => ⟨S4x2048, .f32⟩
  | .hbm, ⟨71, _⟩ => ⟨S4x2048, .f32⟩
  | .hbm, ⟨72, _⟩ => ⟨S4x2048, .f32⟩
  | .hbm, ⟨73, _⟩ => ⟨S4x2048, .f32⟩
  | .hbm, ⟨74, _⟩ => ⟨S4x1x2048, .f32⟩
  | .hbm, ⟨75, _⟩ => ⟨S4x2048x2048, .f32⟩
  | .hbm, ⟨76, _⟩ => ⟨S4x2048x2048, .f32⟩
  | .hbm, ⟨77, _⟩ => ⟨S4x2048x2048, .f32⟩
  | .hbm, ⟨78, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_2 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Mod.lean ====
abbrev S4x2048 : Shape := ⟨2, ![4, 2048]⟩
abbrev S2048 : Shape := ⟨1, ![2048]⟩
abbrev S1x2048x12288 : Shape := ⟨3, ![1, 2048, 12288]⟩
abbrev S1x12288 : Shape := ⟨2, ![1, 12288]⟩
abbrev S_ : Shape := ⟨0, ![]⟩
abbrev S8x2048 : Shape := ⟨2, ![8, 2048]⟩
abbrev S1 : Shape := ⟨1, ![1]⟩
abbrev S2048x12288 : Shape := ⟨2, ![2048, 12288]⟩
abbrev S12288 : Shape := ⟨1, ![12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 16
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S1x2048x12288, .f32⟩
  | .hbm, ⟨3, _⟩ => ⟨S1x12288, .f32⟩
  | .hbm, ⟨4, _⟩ => ⟨S_, .f32⟩
  | .hbm, ⟨5, _⟩ => ⟨S8x2048, .f32⟩
  | .hbm, ⟨6, _⟩ => ⟨S_, .i32⟩
  | .hbm, ⟨7, _⟩ => ⟨S1, .i32⟩
  | .hbm, ⟨8, _⟩ => ⟨S8x2048, .f32⟩
  | .hbm, ⟨9, _⟩ => ⟨S_, .i32⟩
  | .hbm, ⟨10, _⟩ => ⟨S1, .i32⟩
  | .hbm, ⟨11, _⟩ => ⟨S8x2048, .f32⟩
  | .hbm, ⟨12, _⟩ => ⟨S2048x12288, .f32⟩
  | .hbm, ⟨13, _⟩ => ⟨S12288, .f32⟩
  | .hbm, ⟨14, _⟩ => ⟨S1x12288, .f32⟩
  | .hbm, ⟨15, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S4x2048 : Shape := ⟨2, ![4, 2048]⟩
abbrev S2048 : Shape := ⟨1, ![2048]⟩
abbrev S1x2048x12288 : Shape := ⟨3, ![1, 2048, 12288]⟩
abbrev S1x12288 : Shape := ⟨2, ![1, 12288]⟩
abbrev S_ : Shape := ⟨0, ![]⟩
abbrev S1x2048 : Shape := ⟨2, ![1, 2048]⟩
abbrev S3x2048 : Shape := ⟨2, ![3, 2048]⟩
abbrev S8x2048 : Shape := ⟨2, ![8, 2048]⟩
abbrev S2048x12288 : Shape := ⟨2, ![2048, 12288]⟩
abbrev S8x12288 : Shape := ⟨2, ![8, 12288]⟩
abbrev S12288 : Shape := ⟨1, ![12288]⟩

abbrev nBuf : Space → Nat
  | .hbm => 32
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S1x2048x12288, .f32⟩
  | .hbm, ⟨3, _⟩ => ⟨S1x12288, .f32⟩
  | .hbm, ⟨4, _⟩ => ⟨S4x2048, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S1x2048, .f32⟩
  | .hbm, ⟨23, _⟩ => ⟨S_, .f32⟩
  | .hbm, ⟨24, _⟩ => ⟨S3x2048, .f32⟩
  | .hbm, ⟨25, _⟩ => ⟨S8x2048, .f32⟩
  | .hbm, ⟨26, _⟩ => ⟨S2048x12288, .f32⟩
  | .hbm, ⟨27, _⟩ => ⟨S8x12288, .f32⟩
  | .hbm, ⟨28, _⟩ => ⟨S12288, .f32⟩
  | .hbm, ⟨29, _⟩ => ⟨S1x12288, .f32⟩
  | .hbm, ⟨30, _⟩ => ⟨S8x12288, .f32⟩
  | .hbm, ⟨31, _⟩ => ⟨S8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩

abbrev nD : Nat := 1
abbrev τ : Topo := Topo.v7x

variable {F : FTy → Type} [FloatOps F]
-- ==== PeerQ.lean ====
abbrev S8192x2048 : Shape := ⟨2, ![8192, 2048]⟩
abbrev S1x2048 : Shape := ⟨2, ![1, 2048]⟩
abbrev S8x1x12288 : Shape := ⟨3, ![8, 1, 12288]⟩
abbrev S1x2048x2048 : Shape := ⟨3, ![1, 2048, 2048]⟩
abbrev S2048 : Shape := ⟨1, ![2048]⟩
abbrev S2048x2048 : Shape := ⟨2, ![2048, 2048]⟩
abbrev S2048x8192 : Shape := ⟨2, ![2048, 8192]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8x1x12288, .f32⟩
  | .hbm, ⟨3, _⟩ => ⟨S1x2048x2048, .f32⟩
  | .hbm, ⟨4, _⟩ => ⟨S2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S8192x2048, .f32⟩
  | .hbm, ⟨9, _⟩ => ⟨S2048x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x1024, .f32⟩
  | .local _ .vmem, ⟨10, _⟩ => ⟨S1024x1024, .f32⟩
  | .local _ .vmem, ⟨11, _⟩ => ⟨S2048x1024, .bf16⟩
  | .local _ .vmem, ⟨12, _⟩ => ⟨S2048x1024, .bf16⟩
  | .local _ .vmem, ⟨13, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c3_i32 : BitVec 32 := 3#32
  let c0_i32_6 : BitVec 32 := 0#32
  ![v18.toNat, c0_i32_5.toNat, c3_i32.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c4_i32 : BitVec 32 := 4#32
  let c0_i32_6 : BitVec 32 := 0#32
  ![v18.toNat, c0_i32_5.toNat, c4_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== PeerQRefIdeal.lean ====
abbrev S8192x2048 : Shape := ⟨2, ![8192, 2048]⟩
abbrev S1x2048 : Shape := ⟨2, ![1, 2048]⟩
abbrev S8x1x12288 : Shape := ⟨3, ![8, 1, 12288]⟩
abbrev S1x2048x2048 : Shape := ⟨3, ![1, 2048, 2048]⟩
abbrev S4x1x12288 : Shape := ⟨3, ![4, 1, 12288]⟩
abbrev S4x12288 : Shape := ⟨2, ![4, 12288]⟩
abbrev S4x2048 : Shape := ⟨2, ![4, 2048]⟩
abbrev S4x2048x2048 : Shape := ⟨3, ![4, 2048, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S4x1x2048 : Shape := ⟨3, ![4, 1, 2048]⟩
abbrev S2048x2048 : Shape := ⟨2, ![2048, 2048]⟩
abbrev S2048x8192 : Shape := ⟨2, ![2048, 8192]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8x1x12288, .f32⟩
  | .hbm, ⟨3, _⟩ => ⟨S1x2048x2048, .f32⟩
  | .hbm, ⟨4, _⟩ => ⟨S4x1x12288, .f32⟩
  | .hbm, ⟨5, _⟩ => ⟨S4x12288, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x2048x2048, .f32⟩
  | .hbm, ⟨13, _⟩ => ⟨S2048, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S4x1x2048, .f32⟩
  | .hbm, ⟨31, _⟩ => ⟨S_, .f32⟩
  | .hbm, ⟨32, _⟩ => ⟨S4x1x2048, .f32⟩
  | .hbm, ⟨33, _⟩ => ⟨S4x1x2048, .f32⟩
  | .hbm, ⟨34, _⟩ => ⟨S4x2048x2048, .f32⟩
  | .hbm, ⟨35, _⟩ => ⟨S4x2048x2048, .f32⟩
  | .hbm, ⟨36, _⟩ => ⟨S4x1x2048, .f32⟩
  | .hbm, ⟨37, _⟩ => ⟨S4x2048x2048, .f32⟩
  | .hbm, ⟨38, _⟩ => ⟨S4x2048x2048, .f32⟩
  | .hbm, ⟨39, _⟩ => ⟨S8192x2048, .f32⟩
  | .hbm, ⟨40, _⟩ => ⟨S2048x2048, .f32⟩
  | .hbm, ⟨41, _⟩ => ⟨S8192x2048, .f32⟩
  | .hbm, ⟨42, _⟩ => ⟨S2048x8192, .f32⟩
  | .hbm, ⟨43, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== InProjCtx.lean ====
abbrev S4x256x2048 : Shape := ⟨3, ![4, 256, 2048]⟩
abbrev S1x2048 : Shape := ⟨2, ![1, 2048]⟩
abbrev S8x1x12288 : Shape := ⟨3, ![8, 1, 12288]⟩
abbrev S2048x16384 : Shape := ⟨2, ![2048, 16384]⟩
abbrev S2048x128 : Shape := ⟨2, ![2048, 128]⟩
abbrev S1024x2048 : Shape := ⟨2, ![1024, 2048]⟩
abbrev S2048 : Shape := ⟨1, ![2048]⟩
abbrev S1024x6144 : Shape := ⟨2, ![1024, 6144]⟩
abbrev S1024x128 : Shape := ⟨2, ![1024, 128]⟩
abbrev S1x1x2048 : Shape := ⟨3, ![1, 1, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S8x1x12288, .f32⟩
  | .hbm, ⟨3, _⟩ => ⟨S2048x16384, .bf16⟩
  | .hbm, ⟨4, _⟩ => ⟨S2048x128, .bf16⟩
  | .hbm, ⟨5, _⟩ => ⟨S1024x2048, .f32⟩
  | .hbm, ⟨6, _⟩ => ⟨S2048, .f32⟩
  | .hbm, ⟨7, _⟩ => ⟨S1x2048, .f32⟩
  | .hbm, ⟨8, _⟩ => ⟨S1024x6144, .f32⟩
  | .hbm, ⟨9, _⟩ => ⟨S1024x128, .f32⟩
  | .local _ .vmem, ⟨0, _⟩ => ⟨S1024x2048, .f32⟩
  | .local _ .vmem, ⟨1, _⟩ => ⟨S1x2048, .f32⟩
  | .local _ .vmem, ⟨2, _⟩ => ⟨S1x1x2048, .f32⟩
  | .local _ .vmem, ⟨3, _⟩ => ⟨S1x1x2048, .f32⟩
  | .local _ .vmem, ⟨4, _⟩ => ⟨S2048x1024, .bf16⟩
  | .local _ .vmem, ⟨5, _⟩ => ⟨S2048x1024, .bf16⟩
  | .local _ .vmem, ⟨6, _⟩ => ⟨S2048x128, .bf16⟩
  | .local _ .vmem, ⟨7, _⟩ => ⟨S1024x1024, .f32⟩
  | .local _ .vmem, ⟨8, _⟩ => ⟨S1024x1024, .f32⟩
  | .local _ .vmem, ⟨9, _⟩ => ⟨S1024x128, .f32⟩
  | .local _ .vmem, ⟨10, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨2, ![1, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.addi c4_i32 v17
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.addi c4_i32 v17
  let c0_i32_5 : BitVec 32 := 0#32
  let c1_i32_6 : BitVec 32 := 1#32
  let c0_i32_7 : BitVec 32 := 0#32
  ![v18.toNat, c0_i32_5.toNat, c1_i32_6.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== InProjCtxRefIdeal.lean ====
abbrev S4x256x2048 : Shape := ⟨3, ![4, 256, 2048]⟩
abbrev S1x2048 : Shape := ⟨2, ![1, 2048]⟩
abbrev S8x1x12288 : Shape := ⟨3, ![8, 1, 12288]⟩
abbrev S2048x16384 : Shape := ⟨2, ![2048, 16384]⟩
abbrev S2048x128 : Shape := ⟨2, ![2048, 128]⟩
abbrev S1x1x12288 : Shape := ⟨3, ![1, 1, 12288]⟩
abbrev S1x12288 : Shape := ⟨2, ![1, 12288]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S2048x6144 : Shape := ⟨2, ![2048, 6144]⟩
abbrev S4x256x6144 : Shape := ⟨3, ![4, 256, 6144]⟩
abbrev S1024x6144 : Shape := ⟨2, ![1024, 6144]⟩
abbrev S4x256x128 : Shape := ⟨3, ![4, 256, 128]⟩
abbrev S1024x128 : Shape := ⟨2, ![1024, 128]⟩

abbrev nBuf : Space → Nat
  | .hbm => 46
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S8x1x12288, .f32⟩
  | .hbm, ⟨3, _⟩ => ⟨S2048x16384, .bf16⟩
  | .hbm, ⟨4, _⟩ => ⟨S2048x128, .bf16⟩
  | .hbm, ⟨5, _⟩ => ⟨S1x1x12288, .f32⟩
  | .hbm, ⟨6, _⟩ => ⟨S1x12288, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S2048, .f32⟩
  | .hbm, ⟨14, _⟩ => ⟨S4x256x2048, .f32⟩
  | .hbm, ⟨15, _⟩ => ⟨S_, .f32⟩
  | .hbm, ⟨16, _⟩ => ⟨S4x256, .f32⟩
  | .hbm, ⟨17, _⟩ => ⟨S4x256x1, .f32⟩
  | .hbm, ⟨18, _⟩ => ⟨S_, .f32⟩
  | .hbm, ⟨19, _⟩ => ⟨S4x256x1, .f32⟩
  | .hbm, ⟨20, _⟩ => ⟨S4x256x1, .f32⟩
  | .hbm, ⟨21, _⟩ => ⟨S_, .f32⟩
  | .hbm, ⟨22, _⟩ => ⟨S4x256x1, .f32⟩
  | .hbm, ⟨23, _⟩ => ⟨S4x256x1, .f32⟩
  | .hbm, ⟨24, _⟩ => ⟨S4x256x1, .f32⟩
  | .hbm, ⟨25, _⟩ => ⟨S4x256x2048, .f32⟩
  | .hbm, ⟨26, _⟩ => ⟨S4x256x2048, .f32⟩
  | .hbm, ⟨27, _⟩ => ⟨S1x1x2048, .f32⟩
  | .hbm, ⟨28, _⟩ => ⟨S4x256x2048, .f32⟩
  | .hbm, ⟨29, _⟩ => ⟨S4x256x2048, .f32⟩
  | .hbm, ⟨30, _⟩ => ⟨S1x1x2048, .f32⟩
  | .hbm, ⟨31, _⟩ => ⟨S_, .f32⟩
  | .hbm, ⟨32, _⟩ => ⟨S1x1x2048, .f32⟩
  | .hbm, ⟨33, _⟩ => ⟨S1x1x2048, .f32⟩
  | .hbm, ⟨34, _⟩ => ⟨S4x256x2048, .f32⟩
  | .hbm, ⟨35, _⟩ => ⟨S4x256x2048, .f32⟩
  | .hbm, ⟨36, _⟩ => ⟨S1x1x2048, .f32⟩
  | .hbm, ⟨37, _⟩ => ⟨S4x256x2048, .f32⟩
  | .hbm, ⟨38, _⟩ => ⟨S4x256x2048, .f32⟩
  | .hbm, ⟨39, _⟩ => ⟨S2048x6144, .bf16⟩
  | .hbm, ⟨40, _⟩ => ⟨S2048x6144, .f32⟩
  | .hbm, ⟨41, _⟩ => ⟨S4x256x6144, .f32⟩
  | .hbm, ⟨42, _⟩ => ⟨S1024x6144, .f32⟩
  | .hbm, ⟨43, _⟩ => ⟨S2048x128, .f32⟩
  | .hbm, ⟨44, _⟩ => ⟨S4x256x128, .f32⟩
  | .hbm, ⟨45, _⟩ => ⟨S1024x128, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Conformer.lean ====
abbrev S8192x16384 : Shape := ⟨2, ![8192, 16384]⟩
abbrev S1x31x2048 : Shape := ⟨3, ![1, 31, 2048]⟩
abbrev S1x2048 : Shape := ⟨2, ![1, 2048]⟩
abbrev S1x2048x2048 : Shape := ⟨3, ![1, 2048, 2048]⟩
abbrev S31x2048 : Shape := ⟨2, ![31, 2048]⟩
abbrev S2048 : Shape := ⟨1, ![2048]⟩
abbrev S2048x2048 : Shape := ⟨2, ![2048, 2048]⟩
abbrev S_ : Shape := ⟨0, ![]⟩
abbrev S32x2048 : Shape := ⟨2, ![32, 2048]⟩
abbrev S32x8x256 : Shape := ⟨3, ![32, 8, 256]⟩
abbrev S8x32x256 : Shape := ⟨3, ![8, 32, 256]⟩
abbrev S8192x2048 : Shape := ⟨2, ![8192, 2048]⟩
abbrev S256x2048 : Shape := ⟨2, ![256, 2048]⟩
abbrev S4x8x96x256 : Shape := ⟨4, ![4, 8, 96, 256]⟩
abbrev S8x256x256 : Shape := ⟨3, ![8, 256, 256]⟩
abbrev S7x88x256 : Shape := ⟨3, ![7, 88, 256]⟩
abbrev S16x256 : Shape := ⟨2, ![16, 256]⟩
abbrev S1x1x16x256 : Shape := ⟨4, ![1, 1, 16, 256]⟩
abbrev S64x256 : Shape := ⟨2, ![64, 256]⟩
abbrev S1x1x64x256 : Shape := ⟨4, ![1, 1, 64, 256]⟩
abbrev S1x1x88x256 : Shape := ⟨4, ![1, 1, 88, 256]⟩
abbrev S88x256 : Shape := ⟨2, ![88, 256]⟩
abbrev S1x88x256 : Shape := ⟨3, ![1, 88, 256]⟩
abbrev S1x64x256 : Shape := ⟨3, ![1, 64, 256]⟩
abbrev S1x1x256 : Shape := ⟨3, ![1, 1, 256]⟩
abbrev S1x256 : Shape := ⟨2, ![1, 256]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩

abbrev nBuf : Space → Nat
  | .hbm => 21
  | .vmem => 14
  | .smem => 0
  | _ => 0

abbrev bufTy : (tb : Table) → Fin (tcTables nBuf tb) → BufTy
  | .hbm, ⟨0, _⟩ => ⟨S8192x16384, .f32⟩
  | .hbm, ⟨1, _⟩ => ⟨S1x31x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048x2048, .f32⟩
  | .hbm, ⟨6, _⟩ => ⟨S31x2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048x2048, .f32⟩
  | .hbm, ⟨11, _⟩ => ⟨S2048x2048, .bf16⟩
  | .hbm, ⟨12, _⟩ => ⟨S_, .i32⟩
  | .hbm, ⟨13, _⟩ => ⟨S_, .f32⟩
  | .hbm, ⟨14, _⟩ => ⟨S32x2048, .f32⟩
  | .hbm, ⟨15, _⟩ => ⟨S32x8x256, .f32⟩
  | .hbm, ⟨16, _⟩ => ⟨S8x32x256, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S8x32x256, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S2048x2048, .bf16⟩
  | .local _ .vmem, ⟨9, _⟩ => ⟨S256x2048, .f32⟩
  | .local _ .vmem, ⟨10, _⟩ => ⟨S256x2048, .f32⟩
  | .local _ .vmem, ⟨11, _⟩ => ⟨S4x8x96x256, .f32⟩
  | .local _ .vmem, ⟨12, _⟩ => ⟨S8x256x256, .f32⟩
  | .local _ .vmem, ⟨13, _⟩ => ⟨S7x88x256, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c32_i32 : BitVec 32 := 32#32
  let v331 : BitVec 32 := Scalar.addi c0_i32 c32_i32
  let c1_i32 : BitVec 32 := 1#32
  ⟨c0_i32, v331, c1_i32⟩
def k0_off1 (k0_t1 : Fin k0_t1_loop.trips) : Fin 4 → Nat :=
  let c0_i32 : BitVec 32 := 0#32
  let c1_i32 : BitVec 32 := 1#32
  let arg12 : BitVec 32 := Scf.iv c0_i32 c1_i32 k0_t1
  let c0_i32_425 : BitVec 32 := 0#32
  let v391 : BitVec 1 := Scalar.cmpi .sgt arg12 c0_i32_425
  let v392 : BitVec 32 := Scalar.extui v391
  let c0_i32_426 : BitVec 32 := 0#32
  let v393 : BitVec 1 := Scalar.cmpi .slt arg12 c0_i32_426
  let v394 : BitVec 32 := Scalar.extui v393
  let v395 : BitVec 32 := Scalar.subi v392 v394
  let c8_i32 : BitVec 32 := 8#32
  let c0_i32_427 : BitVec 32 := 0#32
  let v396 : BitVec 1 := Scalar.cmpi .sgt c8_i32 c0_i32_427
  let v397 : BitVec 32 := Scalar.extui v396
  let c0_i32_428 : BitVec 32 := 0#32
  let v398 : BitVec 1 := Scalar.cmpi .slt c8_i32 c0_i32_428
  let v399 : BitVec 32 := Scalar.extui v398
  let v400 : BitVec 32 := Scalar.subi v397 v399
  let v401 : BitVec 1 := Scalar.cmpi .ne v395 v400
  let v402 : BitVec 32 := Scalar.remsi arg12 c8_i32
  let c0_i32_429 : BitVec 32 := 0#32
  let v403 : BitVec 1 := Scalar.cmpi .ne v402 c0_i32_429
  let v404 : BitVec 1 := Scalar.andi v401 v403
  let v390 : BitVec 32 := Scalar.divsi arg12 c8_i32
  let c1_i32_430 : BitVec 32 := 1#32
  let v405 : BitVec 32 := Scalar.subi v390 c1_i32_430
  let v406 : BitVec 32 := Scalar.select v404 v405 v390
  let v417 : Index := Scalar.indexCast v406
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v418 : Index := Scalar.indexCast v416
  let c1_437 : Index := 1#32
  let c0_438 : Index := 0#32
  ![v417.toNat, v418.toNat, 1, 0]
def k0_off2 (k0_t1 : Fin k0_t1_loop.trips) : Fin 4 → Nat :=
  let c0_i32 : BitVec 32 := 0#32
  let c1_i32 : BitVec 32 := 1#32
  let arg12 : BitVec 32 := Scf.iv c0_i32 c1_i32 k0_t1
  let c0_i32_425 : BitVec 32 := 0#32
  let v391 : BitVec 1 := Scalar.cmpi .sgt arg12 c0_i32_425
  let v392 : BitVec 32 := Scalar.extui v391
  let c0_i32_426 : BitVec 32 := 0#32
  let v393 : BitVec 1 := Scalar.cmpi .slt arg12 c0_i32_426
  let v394 : BitVec 32 := Scalar.extui v393
  let v395 : BitVec 32 := Scalar.subi v392 v394
  let c8_i32 : BitVec 32 := 8#32
  let c0_i32_427 : BitVec 32 := 0#32
  let v396 : BitVec 1 := Scalar.cmpi .sgt c8_i32 c0_i32_427
  let v397 : BitVec 32 := Scalar.extui v396
  let c0_i32_428 : BitVec 32 := 0#32
  let v398 : BitVec 1 := Scalar.cmpi .slt c8_i32 c0_i32_428
  let v399 : BitVec 32 := Scalar.extui v398
  let v400 : BitVec 32 := Scalar.subi v397 v399
  let v401 : BitVec 1 := Scalar.cmpi .ne v395 v400
  let v402 : BitVec 32 := Scalar.remsi arg12 c8_i32
  let c0_i32_429 : BitVec 32 := 0#32
  let v403 : BitVec 1 := Scalar.cmpi .ne v402 c0_i32_429
  let v404 : BitVec 1 := Scalar.andi v401 v403
  let v390 : BitVec 32 := Scalar.divsi arg12 c8_i32
  let c1_i32_430 : BitVec 32 := 1#32
  let v405 : BitVec 32 := Scalar.subi v390 c1_i32_430
  let v406 : BitVec 32 := Scalar.select v404 v405 v390
  let v424 : Index := Scalar.indexCast v406
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v425 : Index := Scalar.indexCast v416
  let c2_442 : Index := 2#32
  let c0_443 : Index := 0#32
  ![v424.toNat, v425.toNat, 2, 0]
def k0_off3 (k0_t1 : Fin k0_t1_loop.trips) : Fin 4 → Nat :=
  let c0_i32 : BitVec 32 := 0#32
  let c1_i32 : BitVec 32 := 1#32
  let arg12 : BitVec 32 := Scf.iv c0_i32 c1_i32 k0_t1
  let c0_i32_425 : BitVec 32 := 0#32
  let v391 : BitVec 1 := Scalar.cmpi .sgt arg12 c0_i32_425
  let v392 : BitVec 32 := Scalar.extui v391
  let c0_i32_426 : BitVec 32 := 0#32
  let v393 : BitVec 1 := Scalar.cmpi .slt arg12 c0_i32_426
  let v394 : BitVec 32 := Scalar.extui v393
  let v395 : BitVec 32 := Scalar.subi v392 v394
  let c8_i32 : BitVec 32 := 8#32
  let c0_i32_427 : BitVec 32 := 0#32
  let v396 : BitVec 1 := Scalar.cmpi .sgt c8_i32 c0_i32_427
  let v397 : BitVec 32 := Scalar.extui v396
  let c0_i32_428 : BitVec 32 := 0#32
  let v398 : BitVec 1 := Scalar.cmpi .slt c8_i32 c0_i32_428
  let v399 : BitVec 32 := Scalar.extui v398
  let v400 : BitVec 32 := Scalar.subi v397 v399
  let v401 : BitVec 1 := Scalar.cmpi .ne v395 v400
  let v402 : BitVec 32 := Scalar.remsi arg12 c8_i32
  let c0_i32_429 : BitVec 32 := 0#32
  let v403 : BitVec 1 := Scalar.cmpi .ne v402 c0_i32_429
  let v404 : BitVec 1 := Scalar.andi v401 v403
  let v390 : BitVec 32 := Scalar.divsi arg12 c8_i32
  let c1_i32_430 : BitVec 32 := 1#32
  let v405 : BitVec 32 := Scalar.subi v390 c1_i32_430
  let v406 : BitVec 32 := Scalar.select v404 v405 v390
  let v431 : Index := Scalar.indexCast v406
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v432 : Index := Scalar.indexCast v416
  let c3_447 : Index := 3#32
  let c0_448 : Index := 0#32
  ![v431.toNat, v432.toNat, 3, 0]
def k0_off4 (k0_t1 : Fin k0_t1_loop.trips) : Fin 4 → Nat :=
  let c0_i32 : BitVec 32 := 0#32
  let c1_i32 : BitVec 32 := 1#32
  let arg12 : BitVec 32 := Scf.iv c0_i32 c1_i32 k0_t1
  let c0_i32_425 : BitVec 32 := 0#32
  let v391 : BitVec 1 := Scalar.cmpi .sgt arg12 c0_i32_425
  let v392 : BitVec 32 := Scalar.extui v391
  let c0_i32_426 : BitVec 32 := 0#32
  let v393 : BitVec 1 := Scalar.cmpi .slt arg12 c0_i32_426
  let v394 : BitVec 32 := Scalar.extui v393
  let v395 : BitVec 32 := Scalar.subi v392 v394
  let c8_i32 : BitVec 32 := 8#32
  let c0_i32_427 : BitVec 32 := 0#32
  let v396 : BitVec 1 := Scalar.cmpi .sgt c8_i32 c0_i32_427
  let v397 : BitVec 32 := Scalar.extui v396
  let c0_i32_428 : BitVec 32 := 0#32
  let v398 : BitVec 1 := Scalar.cmpi .slt c8_i32 c0_i32_428
  let v399 : BitVec 32 := Scalar.extui v398
  let v400 : BitVec 32 := Scalar.subi v397 v399
  let v401 : BitVec 1 := Scalar.cmpi .ne v395 v400
  let v402 : BitVec 32 := Scalar.remsi arg12 c8_i32
  let c0_i32_429 : BitVec 32 := 0#32
  let v403 : BitVec 1 := Scalar.cmpi .ne v402 c0_i32_429
  let v404 : BitVec 1 := Scalar.andi v401 v403
  let v390 : BitVec 32 := Scalar.divsi arg12 c8_i32
  let c1_i32_430 : BitVec 32 := 1#32
  let v405 : BitVec 32 := Scalar.subi v390 c1_i32_430
  let v406 : BitVec 32 := Scalar.select v404 v405 v390
  let v438 : Index := Scalar.indexCast v406
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v439 : Index := Scalar.indexCast v416
  let c4_452 : Index := 4#32
  let c0_453 : Index := 0#32
  ![v438.toNat, v439.toNat, 4, 0]
def k0_off5 (k0_t1 : Fin k0_t1_loop.trips) : Fin 4 → Nat :=
  let c0_i32 : BitVec 32 := 0#32
  let c1_i32 : BitVec 32 := 1#32
  let arg12 : BitVec 32 := Scf.iv c0_i32 c1_i32 k0_t1
  let c0_i32_425 : BitVec 32 := 0#32
  let v391 : BitVec 1 := Scalar.cmpi .sgt arg12 c0_i32_425
  let v392 : BitVec 32 := Scalar.extui v391
  let c0_i32_426 : BitVec 32 := 0#32
  let v393 : BitVec 1 := Scalar.cmpi .slt arg12 c0_i32_426
  let v394 : BitVec 32 := Scalar.extui v393
  let v395 : BitVec 32 := Scalar.subi v392 v394
  let c8_i32 : BitVec 32 := 8#32
  let c0_i32_427 : BitVec 32 := 0#32
  let v396 : BitVec 1 := Scalar.cmpi .sgt c8_i32 c0_i32_427
  let v397 : BitVec 32 := Scalar.extui v396
  let c0_i32_428 : BitVec 32 := 0#32
  let v398 : BitVec 1 := Scalar.cmpi .slt c8_i32 c0_i32_428
  let v399 : BitVec 32 := Scalar.extui v398
  let v400 : BitVec 32 := Scalar.subi v397 v399
  let v401 : BitVec 1 := Scalar.cmpi .ne v395 v400
  let v402 : BitVec 32 := Scalar.remsi arg12 c8_i32
  let c0_i32_429 : BitVec 32 := 0#32
  let v403 : BitVec 1 := Scalar.cmpi .ne v402 c0_i32_429
  let v404 : BitVec 1 := Scalar.andi v401 v403
  let v390 : BitVec 32 := Scalar.divsi arg12 c8_i32
  let c1_i32_430 : BitVec 32 := 1#32
  let v405 : BitVec 32 := Scalar.subi v390 c1_i32_430
  let v406 : BitVec 32 := Scalar.select v404 v405 v390
  let v445 : Index := Scalar.indexCast v406
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v446 : Index := Scalar.indexCast v416
  let c5_457 : Index := 5#32
  let c0_458 : Index := 0#32
  ![v445.toNat, v446.toNat, 5, 0]
def k0_off6 (k0_t1 : Fin k0_t1_loop.trips) : Fin 4 → Nat :=
  let c0_i32 : BitVec 32 := 0#32
  let c1_i32 : BitVec 32 := 1#32
  let arg12 : BitVec 32 := Scf.iv c0_i32 c1_i32 k0_t1
  let c0_i32_425 : BitVec 32 := 0#32
  let v391 : BitVec 1 := Scalar.cmpi .sgt arg12 c0_i32_425
  let v392 : BitVec 32 := Scalar.extui v391
  let c0_i32_426 : BitVec 32 := 0#32
  let v393 : BitVec 1 := Scalar.cmpi .slt arg12 c0_i32_426
  let v394 : BitVec 32 := Scalar.extui v393
  let v395 : BitVec 32 := Scalar.subi v392 v394
  let c8_i32 : BitVec 32 := 8#32
  let c0_i32_427 : BitVec 32 := 0#32
  let v396 : BitVec 1 := Scalar.cmpi .sgt c8_i32 c0_i32_427
  let v397 : BitVec 32 := Scalar.extui v396
  let c0_i32_428 : BitVec 32 := 0#32
  let v398 : BitVec 1 := Scalar.cmpi .slt c8_i32 c0_i32_428
  let v399 : BitVec 32 := Scalar.extui v398
  let v400 : BitVec 32 := Scalar.subi v397 v399
  let v401 : BitVec 1 := Scalar.cmpi .ne v395 v400
  let v402 : BitVec 32 := Scalar.remsi arg12 c8_i32
  let c0_i32_429 : BitVec 32 := 0#32
  let v403 : BitVec 1 := Scalar.cmpi .ne v402 c0_i32_429
  let v404 : BitVec 1 := Scalar.andi v401 v403
  let v390 : BitVec 32 := Scalar.divsi arg12 c8_i32
  let c1_i32_430 : BitVec 32 := 1#32
  let v405 : BitVec 32 := Scalar.subi v390 c1_i32_430
  let v406 : BitVec 32 := Scalar.select v404 v405 v390
  let v452 : Index := Scalar.indexCast v406
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v453 : Index := Scalar.indexCast v416
  let c6_462 : Index := 6#32
  let c0_463 : Index := 0#32
  ![v452.toNat, v453.toNat, 6, 0]
def k0_off7 (k0_t1 : Fin k0_t1_loop.trips) : Fin 4 → Nat :=
  let c0_i32 : BitVec 32 := 0#32
  let c1_i32 : BitVec 32 := 1#32
  let arg12 : BitVec 32 := Scf.iv c0_i32 c1_i32 k0_t1
  let c0_i32_425 : BitVec 32 := 0#32
  let v391 : BitVec 1 := Scalar.cmpi .sgt arg12 c0_i32_425
  let v392 : BitVec 32 := Scalar.extui v391
  let c0_i32_426 : BitVec 32 := 0#32
  let v393 : BitVec 1 := Scalar.cmpi .slt arg12 c0_i32_426
  let v394 : BitVec 32 := Scalar.extui v393
  let v395 : BitVec 32 := Scalar.subi v392 v394
  let c8_i32 : BitVec 32 := 8#32
  let c0_i32_427 : BitVec 32 := 0#32
  let v396 : BitVec 1 := Scalar.cmpi .sgt c8_i32 c0_i32_427
  let v397 : BitVec 32 := Scalar.extui v396
  let c0_i32_428 : BitVec 32 := 0#32
  let v398 : BitVec 1 := Scalar.cmpi .slt c8_i32 c0_i32_428
  let v399 : BitVec 32 := Scalar.extui v398
  let v400 : BitVec 32 := Scalar.subi v397 v399
  let v401 : BitVec 1 := Scalar.cmpi .ne v395 v400
  let v402 : BitVec 32 := Scalar.remsi arg12 c8_i32
  let c0_i32_429 : BitVec 32 := 0#32
  let v403 : BitVec 1 := Scalar.cmpi .ne v402 c0_i32_429
  let v404 : BitVec 1 := Scalar.andi v401 v403
  let v390 : BitVec 32 := Scalar.divsi arg12 c8_i32
  let c1_i32_430 : BitVec 32 := 1#32
  let v405 : BitVec 32 := Scalar.subi v390 c1_i32_430
  let v406 : BitVec 32 := Scalar.select v404 v405 v390
  let v459 : Index := Scalar.indexCast v406
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v460 : Index := Scalar.indexCast v416
  let c7_467 : Index := 7#32
  let c0_468 : Index := 0#32
  ![v459.toNat, v460.toNat, 7, 0]
def k0_off8 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v469 : Index := Scalar.indexCast v416
  let c0_476 : Index := 0#32
  let c0_477 : Index := 0#32
  ![v469.toNat, 0, 0]
def k0_off9 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v477 : Index := Scalar.indexCast v416
  let c1_481 : Index := 1#32
  let c0_482 : Index := 0#32
  ![v477.toNat, 1, 0]
def k0_off10 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v485 : Index := Scalar.indexCast v416
  let c2_486 : Index := 2#32
  let c0_487 : Index := 0#32
  ![v485.toNat, 2, 0]
def k0_off11 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v493 : Index := Scalar.indexCast v416
  let c3_491 : Index := 3#32
  let c0_492 : Index := 0#32
  ![v493.toNat, 3, 0]
def k0_off12 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v501 : Index := Scalar.indexCast v416
  let c4_496 : Index := 4#32
  let c0_497 : Index := 0#32
  ![v501.toNat, 4, 0]
def k0_off13 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v509 : Index := Scalar.indexCast v416
  let c5_501 : Index := 5#32
  let c0_502 : Index := 0#32
  ![v509.toNat, 5, 0]
def k0_off14 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v517 : Index := Scalar.indexCast v416
  let c6_506 : Index := 6#32
  let c0_507 : Index := 0#32
  ![v517.toNat, 6, 0]
def k0_off15 (k0_t1 : Fin k0_t1_loop.trips) : Fin 4 → Nat :=
  let c0_i32 : BitVec 32 := 0#32
  let c1_i32 : BitVec 32 := 1#32
  let arg12 : BitVec 32 := Scf.iv c0_i32 c1_i32 k0_t1
  let c0_i32_425 : BitVec 32 := 0#32
  let v391 : BitVec 1 := Scalar.cmpi .sgt arg12 c0_i32_425
  let v392 : BitVec 32 := Scalar.extui v391
  let c0_i32_426 : BitVec 32 := 0#32
  let v393 : BitVec 1 := Scalar.cmpi .slt arg12 c0_i32_426
  let v394 : BitVec 32 := Scalar.extui v393
  let v395 : BitVec 32 := Scalar.subi v392 v394
  let c8_i32 : BitVec 32 := 8#32
  let c0_i32_427 : BitVec 32 := 0#32
  let v396 : BitVec 1 := Scalar.cmpi .sgt c8_i32 c0_i32_427
  let v397 : BitVec 32 := Scalar.extui v396
  let c0_i32_428 : BitVec 32 := 0#32
  let v398 : BitVec 1 := Scalar.cmpi .slt c8_i32 c0_i32_428
  let v399 : BitVec 32 := Scalar.extui v398
  let v400 : BitVec 32 := Scalar.subi v397 v399
  let v401 : BitVec 1 := Scalar.cmpi .ne v395 v400
  let v402 : BitVec 32 := Scalar.remsi arg12 c8_i32
  let c0_i32_429 : BitVec 32 := 0#32
  let v403 : BitVec 1 := Scalar.cmpi .ne v402 c0_i32_429
  let v404 : BitVec 1 := Scalar.andi v401 v403
  let v390 : BitVec 32 := Scalar.divsi arg12 c8_i32
  let c1_i32_430 : BitVec 32 := 1#32
  let v405 : BitVec 32 := Scalar.subi v390 c1_i32_430
  let v406 : BitVec 32 := Scalar.select v404 v405 v390
  let v523 : Index := Scalar.indexCast v406
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v524 : Index := Scalar.indexCast v416
  let c8 : Index := 8#32
  let c0_508 : Index := 0#32
  ![v523.toNat, v524.toNat, 8, 0]
def k0_off16 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v527 : Index := Scalar.indexCast v416
  let c7_509 : Index := 7#32
  let c0_510 : Index := 0#32
  ![v527.toNat, 7, 0]
def k0_off17 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v535 : Index := Scalar.indexCast v416
  let c8_514 : Index := 8#32
  let c0_515 : Index := 0#32
  ![v535.toNat, 8, 0]
def k0_off18 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v543 : Index := Scalar.indexCast v416
  let c9 : Index := 9#32
  let c0_519 : Index := 0#32
  ![v543.toNat, 9, 0]
def k0_off19 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v551 : Index := Scalar.indexCast v416
  let c10 : Index := 10#32
  let c0_523 : Index := 0#32
  ![v551.toNat, 10, 0]
def k0_off20 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v559 : Index := Scalar.indexCast v416
  let c11 : Index := 11#32
  let c0_527 : Index := 0#32
  ![v559.toNat, 11, 0]
def k0_off21 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v567 : Index := Scalar.indexCast v416
  let c12 : Index := 12#32
  let c0_531 : Index := 0#32
  ![v567.toNat, 12, 0]
def k0_off22 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v575 : Index := Scalar.indexCast v416
  let c13 : Index := 13#32
  let c0_535 : Index := 0#32
  ![v575.toNat, 13, 0]
def k0_off23 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v583 : Index := Scalar.indexCast v416
  let c14 : Index := 14#32
  let c0_539 : Index := 0#32
  ![v583.toNat, 14, 0]
def k0_off24 (k0_t1 : Fin k0_t1_loop.trips) : Fin 4 → Nat :=
  let c0_i32 : BitVec 32 := 0#32
  let c1_i32 : BitVec 32 := 1#32
  let arg12 : BitVec 32 := Scf.iv c0_i32 c1_i32 k0_t1
  let c0_i32_425 : BitVec 32 := 0#32
  let v391 : BitVec 1 := Scalar.cmpi .sgt arg12 c0_i32_425
  let v392 : BitVec 32 := Scalar.extui v391
  let c0_i32_426 : BitVec 32 := 0#32
  let v393 : BitVec 1 := Scalar.cmpi .slt arg12 c0_i32_426
  let v394 : BitVec 32 := Scalar.extui v393
  let v395 : BitVec 32 := Scalar.subi v392 v394
  let c8_i32 : BitVec 32 := 8#32
  let c0_i32_427 : BitVec 32 := 0#32
  let v396 : BitVec 1 := Scalar.cmpi .sgt c8_i32 c0_i32_427
  let v397 : BitVec 32 := Scalar.extui v396
  let c0_i32_428 : BitVec 32 := 0#32
  let v398 : BitVec 1 := Scalar.cmpi .slt c8_i32 c0_i32_428
  let v399 : BitVec 32 := Scalar.extui v398
  let v400 : BitVec 32 := Scalar.subi v397 v399
  let v401 : BitVec 1 := Scalar.cmpi .ne v395 v400
  let v402 : BitVec 32 := Scalar.remsi arg12 c8_i32
  let c0_i32_429 : BitVec 32 := 0#32
  let v403 : BitVec 1 := Scalar.cmpi .ne v402 c0_i32_429
  let v404 : BitVec 1 := Scalar.andi v401 v403
  let v390 : BitVec 32 := Scalar.divsi arg12 c8_i32
  let c1_i32_430 : BitVec 32 := 1#32
  let v405 : BitVec 32 := Scalar.subi v390 c1_i32_430
  let v406 : BitVec 32 := Scalar.select v404 v405 v390
  let v589 : Index := Scalar.indexCast v406
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v590 : Index := Scalar.indexCast v416
  let c16_540 : Index := 16#32
  let c0_541 : Index := 0#32
  ![v589.toNat, v590.toNat, 16, 0]
def k0_off25 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v593 : Index := Scalar.indexCast v416
  let c15 : Index := 15#32
  let c0_542 : Index := 0#32
  ![v593.toNat, 15, 0]
def k0_off26 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v601 : Index := Scalar.indexCast v416
  let c16_546 : Index := 16#32
  let c0_547 : Index := 0#32
  ![v601.toNat, 16, 0]
def k0_off27 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v609 : Index := Scalar.indexCast v416
  let c17 : Index := 17#32
  let c0_551 : Index := 0#32
  ![v609.toNat, 17, 0]
def k0_off28 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v617 : Index := Scalar.indexCast v416
  let c18 : Index := 18#32
  let c0_555 : Index := 0#32
  ![v617.toNat, 18, 0]
def k0_off29 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v625 : Index := Scalar.indexCast v416
  let c19 : Index := 19#32
  let c0_559 : Index := 0#32
  ![v625.toNat, 19, 0]
def k0_off30 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v633 : Index := Scalar.indexCast v416
  let c20 : Index := 20#32
  let c0_563 : Index := 0#32
  ![v633.toNat, 20, 0]
def k0_off31 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v641 : Index := Scalar.indexCast v416
  let c21 : Index := 21#32
  let c0_567 : Index := 0#32
  ![v641.toNat, 21, 0]
def k0_off32 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v649 : Index := Scalar.indexCast v416
  let c22 : Index := 22#32
  let c0_571 : Index := 0#32
  ![v649.toNat, 22, 0]
def k0_off33 (k0_t1 : Fin k0_t1_loop.trips) : Fin 4 → Nat :=
  let c0_i32 : BitVec 32 := 0#32
  let c1_i32 : BitVec 32 := 1#32
  let arg12 : BitVec 32 := Scf.iv c0_i32 c1_i32 k0_t1
  let c0_i32_425 : BitVec 32 := 0#32
  let v391 : BitVec 1 := Scalar.cmpi .sgt arg12 c0_i32_425
  let v392 : BitVec 32 := Scalar.extui v391
  let c0_i32_426 : BitVec 32 := 0#32
  let v393 : BitVec 1 := Scalar.cmpi .slt arg12 c0_i32_426
  let v394 : BitVec 32 := Scalar.extui v393
  let v395 : BitVec 32 := Scalar.subi v392 v394
  let c8_i32 : BitVec 32 := 8#32
  let c0_i32_427 : BitVec 32 := 0#32
  let v396 : BitVec 1 := Scalar.cmpi .sgt c8_i32 c0_i32_427
  let v397 : BitVec 32 := Scalar.extui v396
  let c0_i32_428 : BitVec 32 := 0#32
  let v398 : BitVec 1 := Scalar.cmpi .slt c8_i32 c0_i32_428
  let v399 : BitVec 32 := Scalar.extui v398
  let v400 : BitVec 32 := Scalar.subi v397 v399
  let v401 : BitVec 1 := Scalar.cmpi .ne v395 v400
  let v402 : BitVec 32 := Scalar.remsi arg12 c8_i32
  let c0_i32_429 : BitVec 32 := 0#32
  let v403 : BitVec 1 := Scalar.cmpi .ne v402 c0_i32_429
  let v404 : BitVec 1 := Scalar.andi v401 v403
  let v390 : BitVec 32 := Scalar.divsi arg12 c8_i32
  let c1_i32_430 : BitVec 32 := 1#32
  let v405 : BitVec 32 := Scalar.subi v390 c1_i32_430
  let v406 : BitVec 32 := Scalar.select v404 v405 v390
  let v655 : Index := Scalar.indexCast v406
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v656 : Index := Scalar.indexCast v416
  let c24 : Index := 24#32
  let c0_572 : Index := 0#32
  ![v655.toNat, v656.toNat, 24, 0]
def k0_off34 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v659 : Index := Scalar.indexCast v416
  let c23 : Index := 23#32
  let c0_573 : Index := 0#32
  ![v659.toNat, 23, 0]
def k0_off35 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v667 : Index := Scalar.indexCast v416
  let c24_577 : Index := 24#32
  let c0_578 : Index := 0#32
  ![v667.toNat, 24, 0]
def k0_off36 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v675 : Index := Scalar.indexCast v416
  let c25 : Index := 25#32
  let c0_582 : Index := 0#32
  ![v675.toNat, 25, 0]
def k0_off37 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v683 : Index := Scalar.indexCast v416
  let c26 : Index := 26#32
  let c0_586 : Index := 0#32
  ![v683.toNat, 26, 0]
def k0_off38 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v691 : Index := Scalar.indexCast v416
  let c27 : Index := 27#32
  let c0_590 : Index := 0#32
  ![v691.toNat, 27, 0]
def k0_off39 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v699 : Index := Scalar.indexCast v416
  let c28 : Index := 28#32
  let c0_594 : Index := 0#32
  ![v699.toNat, 28, 0]
def k0_off40 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v707 : Index := Scalar.indexCast v416
  let c29 : Index := 29#32
  let c0_598 : Index := 0#32
  ![v707.toNat, 29, 0]
def k0_off41 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v715 : Index := Scalar.indexCast v416
  let c30 : Index := 30#32
  let c0_602 : Index := 0#32
  ![v715.toNat, 30, 0]
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c0_i32_425 : BitVec 32 := 0#32
  let v391 : BitVec 1 := Scalar.cmpi .sgt arg12 c0_i32_425
  let v392 : BitVec 32 := Scalar.extui v391
  let c0_i32_426 : BitVec 32 := 0#32
  let v393 : BitVec 1 := Scalar.cmpi .slt arg12 c0_i32_426
  let v394 : BitVec 32 := Scalar.extui v393
  let v395 : BitVec 32 := Scalar.subi v392 v394
  let c8_i32 : BitVec 32 := 8#32
  let c0_i32_427 : BitVec 32 := 0#32
  let v396 : BitVec 1 := Scalar.cmpi .sgt c8_i32 c0_i32_427
  let v397 : BitVec 32 := Scalar.extui v396
  let c0_i32_428 : BitVec 32 := 0#32
  let v398 : BitVec 1 := Scalar.cmpi .slt c8_i32 c0_i32_428
  let v399 : BitVec 32 := Scalar.extui v398
  let v400 : BitVec 32 := Scalar.subi v397 v399
  let v401 : BitVec 1 := Scalar.cmpi .ne v395 v400
  let v402 : BitVec 32 := Scalar.remsi arg12 c8_i32
  let c0_i32_429 : BitVec 32 := 0#32
  let v403 : BitVec 1 := Scalar.cmpi .ne v402 c0_i32_429
  let v404 : BitVec 1 := Scalar.andi v401 v403
  let v390 : BitVec 32 := Scalar.divsi arg12 c8_i32
  let c1_i32_430 : BitVec 32 := 1#32
  let v405 : BitVec 32 := Scalar.subi v390 c1_i32_430
  let v406 : BitVec 32 := Scalar.select v404 v405 v390
  let c64_i32 : BitVec 32 := 64#32
  let v721 : BitVec 32 := Scalar.muli v406 c64_i32
  v721
def k0_off42 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_431 : BitVec 32 := 8#32
  let c0_i32_432 : BitVec 32 := 0#32
  let v407 : BitVec 1 := Scalar.cmpi .eq c8_i32_431 c0_i32_432
  let c1_i32_433 : BitVec 32 := 1#32
  let v408 : BitVec 32 := Scalar.select v407 c1_i32_433 c8_i32_431
  let v409 : BitVec 32 := Scalar.remsi arg12 v408
  let c0_i32_435 : BitVec 32 := 0#32
  let v411 : BitVec 1 := Scalar.cmpi .slt v409 c0_i32_435
  let c0_i32_436 : BitVec 32 := 0#32
  let v412 : BitVec 1 := Scalar.cmpi .slt v408 c0_i32_436
  let v413 : BitVec 1 := Scalar.xori v411 v412
  let c0_i32_434 : BitVec 32 := 0#32
  let v410 : BitVec 1 := Scalar.cmpi .ne v409 c0_i32_434
  let v414 : BitVec 1 := Scalar.andi v413 v410
  let v415 : BitVec 32 := Scalar.addi v409 v408
  let v416 : BitVec 32 := Scalar.select v414 v415 v409
  let v723 : Index := Scalar.indexCast v416
  let c0_i32_425 : BitVec 32 := 0#32
  let v391 : BitVec 1 := Scalar.cmpi .sgt arg12 c0_i32_425
  let v392 : BitVec 32 := Scalar.extui v391
  let c0_i32_426 : BitVec 32 := 0#32
  let v393 : BitVec 1 := Scalar.cmpi .slt arg12 c0_i32_426
  let v394 : BitVec 32 := Scalar.extui v393
  let v395 : BitVec 32 := Scalar.subi v392 v394
  let c8_i32 : BitVec 32 := 8#32
  let c0_i32_427 : BitVec 32 := 0#32
  let v396 : BitVec 1 := Scalar.cmpi .sgt c8_i32 c0_i32_427
  let v397 : BitVec 32 := Scalar.extui v396
  let c0_i32_428 : BitVec 32 := 0#32
  let v398 : BitVec 1 := Scalar.cmpi .slt c8_i32 c0_i32_428
  let v399 : BitVec 32 := Scalar.extui v398
  let v400 : BitVec 32 := Scalar.subi v397 v399
  let v401 : BitVec 1 := Scalar.cmpi .ne v395 v400
  let v402 : BitVec 32 := Scalar.remsi arg12 c8_i32
  let c0_i32_429 : BitVec 32 := 0#32
  let v403 : BitVec 1 := Scalar.cmpi .ne v402 c0_i32_429
  let v404 : BitVec 1 := Scalar.andi v401 v403
  let v390 : BitVec 32 := Scalar.divsi arg12 c8_i32
  let c1_i32_430 : BitVec 32 := 1#32
  let v405 : BitVec 32 := Scalar.subi v390 c1_i32_430
  let v406 : BitVec 32 := Scalar.select v404 v405 v390
  let c64_i32 : BitVec 32 := 64#32
  let v721 : BitVec 32 := Scalar.muli v406 c64_i32
  let v722 : BitVec 32 := v721
  let v724 : Index := Scalar.indexCast v722
  let c0_603 : Index := 0#32
  ![v723.toNat, v724.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConformerRefIdeal.lean ====
abbrev S8192x16384 : Shape := ⟨2, ![8192, 16384]⟩
abbrev S1x31x2048 : Shape := ⟨3, ![1, 31, 2048]⟩
abbrev S1x2048 : Shape := ⟨2, ![1, 2048]⟩
abbrev S1x2048x2048 : Shape := ⟨3, ![1, 2048, 2048]⟩
abbrev S8192x4096 : Shape := ⟨2, ![8192, 4096]⟩
abbrev S4x2048x4096 : Shape := ⟨3, ![4, 2048, 4096]⟩
abbrev S4x2048x2048 : Shape := ⟨3, ![4, 2048, 2048]⟩
abbrev S_ : Shape := ⟨0, ![]⟩
abbrev S128x64x2048 : Shape := ⟨3, ![128, 64, 2048]⟩
abbrev S31x2048 : Shape := ⟨2, ![31, 2048]⟩
abbrev S128x94x2048 : Shape := ⟨3, ![128, 94, 2048]⟩
abbrev S2048 : Shape := ⟨1, ![2048]⟩
abbrev S1x1x2048 : Shape := ⟨3, ![1, 1, 2048]⟩
abbrev S4x2048 : Shape := ⟨2, ![4, 2048]⟩
abbrev S4x2048x1 : Shape := ⟨3, ![4, 2048, 1]⟩
abbrev S2048x2048 : Shape := ⟨2, ![2048, 2048]⟩
abbrev S8192x2048 : Shape := ⟨2, ![8192, 2048]⟩

abbrev nBuf : Space → Nat
  | .hbm => 291
  | .vmem => 0
  | .smem => 0
  | _ => 0

abbrev hbmTy0_0 (i : Nat) : BufTy := match i % 128 with
  | 0 => ⟨S8192x16384, .f32⟩
  | 1 => ⟨S1x31x2048, .f32⟩
  | 2 => ⟨S1x2048, .f32⟩
  | 3 => ⟨S1x2048, .f32⟩
  | 4 => ⟨S1x2048, .f32⟩
  | 5 => ⟨S1x2048x2048, .f32⟩
  | 6 => ⟨S8192x4096, .f32⟩
  | 7 => ⟨S4x2048x4096, .f32⟩
  | 8 => ⟨S4x2048x2048, .f32⟩
  | 9 => ⟨S4x2048x2048, .f32⟩
  | 10 => ⟨S4x2048x2048, .f32⟩
  | 11 => ⟨S4x2048x2048, .f32⟩
  | 12 => ⟨S_, .f32⟩
  | 13 => ⟨S4x2048x2048, .f32⟩
  | 14 => ⟨S4x2048x2048, .f32⟩
  | 15 => ⟨S_, .f32⟩
  | 16 => ⟨S4x2048x2048, .f32⟩
  | 17 => ⟨S4x2048x2048, .f32⟩
  | 18 => ⟨S4x2048x2048, .f32⟩
  | 19 => ⟨S128x64x2048, .f32⟩
  | 20 => ⟨S31x2048, .f32⟩
  | 21 => ⟨S_, .i32⟩
  | 22 => ⟨S_, .f32⟩
  | 23 => ⟨S128x94x2048, .f32⟩
  | 24 => ⟨S128x64x2048, .f32⟩
  | 25 => ⟨S1x2048, .f32⟩
  | 26 => ⟨S2048, .f32⟩
  | 27 => ⟨S1x1x2048, .f32⟩
  | 28 => ⟨S128x64x2048, .f32⟩
  | 29 => ⟨S128x64x2048, .f32⟩
  | 30 => ⟨S_, .f32⟩
  | 31 => ⟨S128x64x2048, .f32⟩
  | 32 => ⟨S128x64x2048, .f32⟩
  | 33 => ⟨S128x64x2048, .f32⟩
  | 34 => ⟨S1x2048, .f32⟩
  | 35 => ⟨S2048, .f32⟩
  | 36 => ⟨S1x1x2048, .f32⟩
  | 37 => ⟨S128x64x2048, .f32⟩
  | 38 => ⟨S128x64x2048, .f32⟩
  | 39 => ⟨S128x64x2048, .f32⟩
  | 40 => ⟨S128x64x2048, .f32⟩
  | 41 => ⟨S1x2048, .f32⟩
  | 42 => ⟨S2048, .f32⟩
  | 43 => ⟨S1x1x2048, .f32⟩
  | 44 => ⟨S128x64x2048, .f32⟩
  | 45 => ⟨S128x64x2048, .f32⟩
  | 46 => ⟨S128x64x2048, .f32⟩
  | 47 => ⟨S128x64x2048, .f32⟩
  | 48 => ⟨S1x2048, .f32⟩
  | 49 => ⟨S2048, .f32⟩
  | 50 => ⟨S1x1x2048, .f32⟩
  | 51 => ⟨S128x64x2048, .f32⟩
  | 52 => ⟨S128x64x2048, .f32⟩
  | 53 => ⟨S128x64x2048, .f32⟩
  | 54 => ⟨S128x64x2048, .f32⟩
  | 55 => ⟨S1x2048, .f32⟩
  | 56 => ⟨S2048, .f32⟩
  | 57 => ⟨S1x1x2048, .f32⟩
  | 58 => ⟨S128x64x2048, .f32⟩
  | 59 => ⟨S128x64x2048, .f32⟩
  | 60 => ⟨S128x64x2048, .f32⟩
  | 61 => ⟨S128x64x2048, .f32⟩
  | 62 => ⟨S1x2048, .f32⟩
  | 63 => ⟨S2048, .f32⟩
  | 64 => ⟨S1x1x2048, .f32⟩
  | 65 => ⟨S128x64x2048, .f32⟩
  | 66 => ⟨S128x64x2048, .f32⟩
  | 67 => ⟨S128x64x2048, .f32⟩
  | 68 => ⟨S128x64x2048, .f32⟩
  | 69 => ⟨S1x2048, .f32⟩
  | 70 => ⟨S2048, .f32⟩
  | 71 => ⟨S1x1x2048, .f32⟩
  | 72 => ⟨S128x64x2048, .f32⟩
  | 73 => ⟨S128x64x2048, .f32⟩
  | 74 => ⟨S128x64x2048, .f32⟩
  | 75 => ⟨S128x64x2048, .f32⟩
  | 76 => ⟨S1x2048, .f32⟩
  | 77 => ⟨S2048, .f32⟩
  | 78 => ⟨S1x1x2048, .f32⟩
  | 79 => ⟨S128x64x2048, .f32⟩
  | 80 => ⟨S128x64x2048, .f32⟩
  | 81 => ⟨S128x64x2048, .f32⟩
  | 82 => ⟨S128x64x2048, .f32⟩
  | 83 => ⟨S1x2048, .f32⟩
  | 84 => ⟨S2048, .f32⟩
  | 85 => ⟨S1x1x2048, .f32⟩
  | 86 => ⟨S128x64x2048, .f32⟩
  | 87 => ⟨S128x64x2048, .f32⟩
  | 88 => ⟨S128x64x2048, .f32⟩
  | 89 => ⟨S128x64x2048, .f32⟩
  | 90 => ⟨S1x2048, .f32⟩
  | 91 => ⟨S2048, .f32⟩
  | 92 => ⟨S1x1x2048, .f32⟩
  | 93 => ⟨S128x64x2048, .f32⟩
  | 94 => ⟨S128x64x2048, .f32⟩
  | 95 => ⟨S128x64x2048, .f32⟩
  | 96 => ⟨S128x64x2048, .f32⟩
  | 97 => ⟨S1x2048, .f32⟩
  | 98 => ⟨S2048, .f32⟩
  | 99 => ⟨S1x1x2048, .f32⟩
  | 100 => ⟨S128x64x2048, .f32⟩
  | 101 => ⟨S128x64x2048, .f32⟩
  | 102 => ⟨S128x64x2048, .f32⟩
  | 103 => ⟨S128x64x2048, .f32⟩
  | 104 => ⟨S1x2048, .f32⟩
  | 105 => ⟨S2048, .f32⟩
  | 106 => ⟨S1x1x2048, .f32⟩
  | 107 => ⟨S128x64x2048, .f32⟩
  | 108 => ⟨S128x64x2048, .f32⟩
  | 109 => ⟨S128x64x2048, .f32⟩
  | 110 => ⟨S128x64x2048, .f32⟩
  | 111 => ⟨S1x2048, .f32⟩
  | 112 => ⟨S2048, .f32⟩
  | 113 => ⟨S1x1x2048, .f32⟩
  | 114 => ⟨S128x64x2048, .f32⟩
  | 115 => ⟨S128x64x2048, .f32⟩
  | 116 => ⟨S128x64x2048, .f32⟩
  | 117 => ⟨S128x64x2048, .f32⟩
  | 118 => ⟨S1x2048, .f32⟩
  | 119 => ⟨S2048, .f32⟩
  | 120 => ⟨S1x1x2048, .f32⟩
  | 121 => ⟨S128x64x2048, .f32⟩
  | 122 => ⟨S128x64x2048, .f32⟩
  | 123 => ⟨S128x64x2048, .f32⟩
  | 124 => ⟨S128x64x2048, .f32⟩
  | 125 => ⟨S1x2048, .f32⟩
  | 126 => ⟨S2048, .f32⟩
  | 127 => ⟨S1x1x2048, .f32⟩
  | _ => ⟨S8192x16384, .f32⟩

abbrev hbmTy0_1 (i : Nat) : BufTy := match i % 128 with
  | 0 => ⟨S128x64x2048, .f32⟩
  | 1 => ⟨S128x64x2048, .f32⟩
  | 2 => ⟨S128x64x2048, .f32⟩
  | 3 => ⟨S128x64x2048, .f32⟩
  | 4 => ⟨S1x2048, .f32⟩
  | 5 => ⟨S2048, .f32⟩
  | 6 => ⟨S1x1x2048, .f32⟩
  | 7 => ⟨S128x64x2048, .f32⟩
  | 8 => ⟨S128x64x2048, .f32⟩
  | 9 => ⟨S128x64x2048, .f32⟩
  | 10 => ⟨S128x64x2048, .f32⟩
  | 11 => ⟨S1x2048, .f32⟩
  | 12 => ⟨S2048, .f32⟩
  | 13 => ⟨S1x1x2048, .f32⟩
  | 14 => ⟨S128x64x2048, .f32⟩
  | 15 => ⟨S128x64x2048, .f32⟩
  | 16 => ⟨S128x64x2048, .f32⟩
  | 17 => ⟨S128x64x2048, .f32⟩
  | 18 => ⟨S1x2048, .f32⟩
  | 19 => ⟨S2048, .f32⟩
  | 20 => ⟨S1x1x2048, .f32⟩
  | 21 => ⟨S128x64x2048, .f32⟩
  | 22 => ⟨S128x64x2048, .f32⟩
  | 23 => ⟨S128x64x2048, .f32⟩
  | 24 => ⟨S128x64x2048, .f32⟩
  | 25 => ⟨S1x2048, .f32⟩
  | 26 => ⟨S2048, .f32⟩
  | 27 => ⟨S1x1x2048, .f32⟩
  | 28 => ⟨S128x64x2048, .f32⟩
  | 29 => ⟨S128x64x2048, .f32⟩
  | 30 => ⟨S128x64x2048, .f32⟩
  | 31 => ⟨S128x64x2048, .f32⟩
  | 32 => ⟨S1x2048, .f32⟩
  | 33 => ⟨S2048, .f32⟩
  | 34 => ⟨S1x1x2048, .f32⟩
  | 35 => ⟨S128x64x2048, .f32⟩
  | 36 => ⟨S128x64x2048, .f32⟩
  | 37 => ⟨S128x64x2048, .f32⟩
  | 38 => ⟨S128x64x2048, .f32⟩
  | 39 => ⟨S1x2048, .f32⟩
  | 40 => ⟨S2048, .f32⟩
  | 41 => ⟨S1x1x2048, .f32⟩
  | 42 => ⟨S128x64x2048, .f32⟩
  | 43 => ⟨S128x64x2048, .f32⟩
  | 44 => ⟨S128x64x2048, .f32⟩
  | 45 => ⟨S128x64x2048, .f32⟩
  | 46 => ⟨S1x2048, .f32⟩
  | 47 => ⟨S2048, .f32⟩
  | 48 => ⟨S1x1x2048, .f32⟩
  | 49 => ⟨S128x64x2048, .f32⟩
  | 50 => ⟨S128x64x2048, .f32⟩
  | 51 => ⟨S128x64x2048, .f32⟩
  | 52 => ⟨S128x64x2048, .f32⟩
  | 53 => ⟨S1x2048, .f32⟩
  | 54 => ⟨S2048, .f32⟩
  | 55 => ⟨S1x1x2048, .f32⟩
  | 56 => ⟨S128x64x2048, .f32⟩
  | 57 => ⟨S128x64x2048, .f32⟩
  | 58 => ⟨S128x64x2048, .f32⟩
  | 59 => ⟨S128x64x2048, .f32⟩
  | 60 => ⟨S1x2048, .f32⟩
  | 61 => ⟨S2048, .f32⟩
  | 62 => ⟨S1x1x2048, .f32⟩
  | 63 => ⟨S128x64x2048, .f32⟩
  | 64 => ⟨S128x64x2048, .f32⟩
  | 65 => ⟨S128x64x2048, .f32⟩
  | 66 => ⟨S128x64x2048, .f32⟩
  | 67 => ⟨S1x2048, .f32⟩
  | 68 => ⟨S2048, .f32⟩
  | 69 => ⟨S1x1x2048, .f32⟩
  | 70 => ⟨S128x64x2048, .f32⟩
  | 71 => ⟨S128x64x2048, .f32⟩
  | 72 => ⟨S128x64x2048, .f32⟩
  | 73 => ⟨S128x64x2048, .f32⟩
  | 74 => ⟨S1x2048, .f32⟩
  | 75 => ⟨S2048, .f32⟩
  | 76 => ⟨S1x1x2048, .f32⟩
  | 77 => ⟨S128x64x2048, .f32⟩
  | 78 => ⟨S128x64x2048, .f32⟩
  | 79 => ⟨S128x64x2048, .f32⟩
  | 80 => ⟨S128x64x2048, .f32⟩
  | 81 => ⟨S1x2048, .f32⟩
  | 82 => ⟨S2048, .f32⟩
  | 83 => ⟨S1x1x2048, .f32⟩
  | 84 => ⟨S128x64x2048, .f32⟩
  | 85 => ⟨S128x64x2048, .f32⟩
  | 86 => ⟨S128x64x2048, .f32⟩
  | 87 => ⟨S128x64x2048, .f32⟩
  | 88 => ⟨S1x2048, .f32⟩
  | 89 => ⟨S2048, .f32⟩
  | 90 => ⟨S1x1x2048, .f32⟩
  | 91 => ⟨S128x64x2048, .f32⟩
  | 92 => ⟨S128x64x2048, .f32⟩
  | 93 => ⟨S128x64x2048, .f32⟩
  | 94 => ⟨S128x64x2048, .f32⟩
  | 95 => ⟨S1x2048, .f32⟩
  | 96 => ⟨S2048, .f32⟩
  | 97 => ⟨S1x1x2048, .f32⟩
  | 98 => ⟨S128x64x2048, .f32⟩
  | 99 => ⟨S128x64x2048, .f32⟩
  | 100 => ⟨S128x64x2048, .f32⟩
  | 101 => ⟨S128x64x2048, .f32⟩
  | 102 => ⟨S1x2048, .f32⟩
  | 103 => ⟨S2048, .f32⟩
  | 104 => ⟨S1x1x2048, .f32⟩
  | 105 => ⟨S128x64x2048, .f32⟩
  | 106 => ⟨S128x64x2048, .f32⟩
  | 107 => ⟨S128x64x2048, .f32⟩
  | 108 => ⟨S128x64x2048, .f32⟩
  | 109 => ⟨S1x2048, .f32⟩
  | 110 => ⟨S2048, .f32⟩
  | 111 => ⟨S1x1x2048, .f32⟩
  | 112 => ⟨S128x64x2048, .f32⟩
  | 113 => ⟨S128x64x2048, .f32⟩
  | 114 => ⟨S128x64x2048, .f32⟩
  | 115 => ⟨S2048, .f32⟩
  | 116 => ⟨S1x1x2048, .f32⟩
  | 117 => ⟨S128x64x2048, .f32⟩
  | 118 => ⟨S128x64x2048, .f32⟩
  | 119 => ⟨S4x2048x2048, .f32⟩
  | 120 => ⟨S2048, .f32⟩
  | 121 => ⟨S2048, .f32⟩
  | 122 => ⟨S_, .f32⟩
  | 123 => ⟨S4x2048, .f32⟩
  | 124 => ⟨S4x2048x1, .f32⟩
  | 125 => ⟨S_, .f32⟩
  | 126 => ⟨S4x2048x1, .f32⟩
  | 127 => ⟨S4x2048x1, .f32⟩
  | _ => ⟨S8192x16384, .f32⟩

abbrev hbmTy0_2 (i : Nat) : BufTy := match i % 128 with
  | 0 => ⟨S4x2048x2048, .f32⟩
  | 1 => ⟨S4x2048x2048, .f32⟩
  | 2 => ⟨S4x2048x2048, .f32⟩
  | 3 => ⟨S_, .f32⟩
  | 4 => ⟨S4x2048, .f32⟩
  | 5 => ⟨S4x2048x1, .f32⟩
  | 6 => ⟨S_, .f32⟩
  | 7 => ⟨S4x2048x1, .f32⟩
  | 8 => ⟨S4x2048x1, .f32⟩
  | 9 => ⟨S4x2048x2048, .f32⟩
  | 10 => ⟨S4x2048x2048, .f32⟩
  | 11 => ⟨S_, .f32⟩
  | 12 => ⟨S4x2048x1, .f32⟩
  | 13 => ⟨S4x2048x1, .f32⟩
  | 14 => ⟨S4x2048x1, .f32⟩
  | 15 => ⟨S4x2048x2048, .f32⟩
  | 16 => ⟨S4x2048x2048, .f32⟩
  | 17 => ⟨S1x1x2048, .f32⟩
  | 18 => ⟨S4x2048x2048, .f32⟩
  | 19 => ⟨S4x2048x2048, .f32⟩
  | 20 => ⟨S1x1x2048, .f32⟩
  | 21 => ⟨S4x2048x2048, .f32⟩
  | 22 => ⟨S4x2048x2048, .f32⟩
  | 23 => ⟨S4x2048x2048, .f32⟩
  | 24 => ⟨S4x2048x2048, .f32⟩
  | 25 => ⟨S_, .f32⟩
  | 26 => ⟨S4x2048x2048, .f32⟩
  | 27 => ⟨S4x2048x2048, .f32⟩
  | 28 => ⟨S_, .f32⟩
  | 29 => ⟨S4x2048x2048, .f32⟩
  | 30 => ⟨S4x2048x2048, .f32⟩
  | 31 => ⟨S4x2048x2048, .f32⟩
  | 32 => ⟨S2048x2048, .f32⟩
  | 33 => ⟨S4x2048x2048, .f32⟩
  | 34 => ⟨S8192x2048, .f32⟩
  | _ => ⟨S8192x16384, .f32⟩

abbrev hbmTy (i : Nat) : BufTy := match i / 128 with
  | 0 => hbmTy0_0 i
  | 1 => hbmTy0_1 i
  | 2 => hbmTy0_2 i
  | _ => ⟨S8192x16384, .f32⟩

abbrev bufTy : (tb : Table) → Fin (tcTables nBuf tb) → BufTy
  | .hbm, ⟨i, _⟩ => hbmTy i
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_cst_2 : Ref sig .tc := ⟨.hbm, 250, rfl⟩
abbrev main_v239 : Ref sig .tc := ⟨.hbm, 251, rfl⟩
abbrev main_v240 : Ref sig .tc := ⟨.hbm, 252, rfl⟩
abbrev main_cst_3 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_cst_4 : Ref sig .tc := ⟨.hbm, 259, rfl⟩
abbrev main_v246 : Ref sig .tc := ⟨.hbm, 260, rfl⟩
abbrev main_v247 : Ref sig .tc := ⟨.hbm, 261, rfl⟩
abbrev main_cst_5 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_cst_6 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_call1_v0 : Ref sig .tc := ⟨.hbm, 279, rfl⟩
abbrev main_call1_v1 : Ref sig .tc := ⟨.hbm, 280, rfl⟩
abbrev main_call1_cst : Ref sig .tc := ⟨.hbm, 281, rfl⟩
abbrev main_call1_v2 : Ref sig .tc := ⟨.hbm, 282, rfl⟩
abbrev main_call1_v3 : Ref sig .tc := ⟨.hbm, 283, rfl⟩
abbrev main_call1_cst_0 : Ref sig .tc := ⟨.hbm, 284, rfl⟩
abbrev main_call1_v4 : Ref sig .tc := ⟨.hbm, 285, rfl⟩
abbrev main_call1_v5 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩

abbrev nD : Nat := 1
abbrev τ : Topo := Topo.v7x

variable {F : FTy → Type} [FloatOps F]
-- ==== Tables.lean ====
abbrev S1x16384x2048 : Shape := ⟨3, ![1, 16384, 2048]⟩
abbrev S16384x2048 : Shape := ⟨2, ![16384, 2048]⟩
abbrev S2048x16384 : Shape := ⟨2, ![2048, 16384]⟩
abbrev S512x2048 : Shape := ⟨2, ![512, 2048]⟩
abbrev S2048x512 : Shape := ⟨2, ![2048, 512]⟩

abbrev nBuf : Space → Nat
  | .hbm => 6
  | .vmem => 8
  | .smem => 0
  | _ => 0

abbrev bufTy : (tb : Table) → Fin (tcTables nBuf tb) → BufTy
  | .hbm, ⟨0, _⟩ => ⟨S1x16384x2048, .f32⟩
  | .hbm, ⟨1, _⟩ => ⟨S1x16384x2048, .f32⟩
  | .hbm, ⟨2, _⟩ => ⟨S16384x2048, .f32⟩
  | .hbm, ⟨3, _⟩ => ⟨S16384x2048, .f32⟩
  | .hbm, ⟨4, _⟩ => ⟨S16384x2048, .bf16⟩
  | .hbm, ⟨5, _⟩ => ⟨S2048x16384, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .bf16⟩
  | .local _ .vmem, ⟨5, _⟩ => ⟨S512x2048, .bf16⟩
  | .local _ .vmem, ⟨6, _⟩ => ⟨S2048x512, .bf16⟩
  | .local _ .vmem, ⟨7, _⟩ => ⟨S2048x512, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== TablesRefIdeal.lean ====
abbrev S1x16384x2048 : Shape := ⟨3, ![1, 16384, 2048]⟩
abbrev S16384x2048 : Shape := ⟨2, ![16384, 2048]⟩
abbrev S2048x16384 : Shape := ⟨2, ![2048, 16384]⟩

abbrev nBuf : Space → Nat
  | .hbm => 7
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x16384x2048, .f32⟩
  | .hbm, ⟨2, _⟩ => ⟨S16384x2048, .f32⟩
  | .hbm, ⟨3, _⟩ => ⟨S16384x2048, .bf16⟩
  | .hbm, ⟨4, _⟩ => ⟨S16384x2048, .f32⟩
  | .hbm, ⟨5, _⟩ => ⟨S2048x16384, .f32⟩
  | .hbm, ⟨6, _⟩ => ⟨S2048x16384, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Prep.lean ====
abbrev S8192x16384 : Shape := ⟨2, ![8192, 16384]⟩
abbrev S1x5x6144 : Shape := ⟨3, ![1, 5, 6144]⟩
abbrev S5x6144 : Shape := ⟨2, ![5, 6144]⟩
abbrev S_ : Shape := ⟨0, ![]⟩
abbrev S8x6144 : Shape := ⟨2, ![8, 6144]⟩
abbrev S4x2048x2048 : Shape := ⟨3, ![4, 2048, 2048]⟩
abbrev S2048x128 : Shape := ⟨2, ![2048, 128]⟩
abbrev S8x128 : Shape := ⟨2, ![8, 128]⟩
abbrev S1x2048x128 : Shape := ⟨3, ![1, 2048, 128]⟩
abbrev S2064x128 : Shape := ⟨2, ![2064, 128]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S1x256x128 : Shape := ⟨3, ![1, 256, 128]⟩

abbrev nBuf : Space → Nat
  | .hbm => 9
  | .vmem => 19
  | .smem => 0
  | _ => 0

abbrev bufTy : (tb : Table) → Fin (tcTables nBuf tb) → BufTy
  | .hbm, ⟨0, _⟩ => ⟨S8192x16384, .f32⟩
  | .hbm, ⟨1, _⟩ => ⟨S1x5x6144, .f32⟩
  | .hbm, ⟨2, _⟩ => ⟨S5x6144, .f32⟩
  | .hbm, ⟨3, _⟩ => ⟨S_, .i32⟩
  | .hbm, ⟨4, _⟩ => ⟨S_, .f32⟩
  | .hbm, ⟨5, _⟩ => ⟨S8x6144, .f32⟩
  | .hbm, ⟨6, _⟩ => ⟨S4x2048x2048, .bf16⟩
  | .hbm, ⟨7, _⟩ => ⟨S4x2048x2048, .bf16⟩
  | .hbm, ⟨8, _⟩ => ⟨S4x2048x2048, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S2064x128, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PrepIdeal.lean ====
variable {F : FTy → Type} [FloatOps F] [Named F]
def κ : String → Option EReal := fun
  | "inv_sqrt_dk" => some (((Real.sqrt 128)⁻¹ : ℝ) : EReal)
  | _ => none
-- ==== PrepRefIdeal.lean ====
abbrev S8192x16384 : Shape := ⟨2, ![8192, 16384]⟩
abbrev S1x5x6144 : Shape := ⟨3, ![1, 5, 6144]⟩
abbrev S8192x6144 : Shape := ⟨2, ![8192, 6144]⟩
abbrev S4x2048x6144 : Shape := ⟨3, ![4, 2048, 6144]⟩
abbrev S5x6144 : Shape := ⟨2, ![5, 6144]⟩
abbrev S_ : Shape := ⟨0, ![]⟩
abbrev S4x2052x6144 : Shape := ⟨3, ![4, 2052, 6144]⟩
abbrev S1x6144 : Shape := ⟨2, ![1, 6144]⟩
abbrev S6144 : Shape := ⟨1, ![6144]⟩
abbrev S1x1x6144 : Shape := ⟨3, ![1, 1, 6144]⟩
abbrev S4x2048x2048 : Shape := ⟨3, ![4, 2048, 2048]⟩
abbrev S4x2048x16x128 : Shape := ⟨4, ![4, 2048, 16, 128]⟩
abbrev S4x2048x16 : Shape := ⟨3, ![4, 2048, 16]⟩
abbrev S4x2048x16x1 : Shape := ⟨4, ![4, 2048, 16, 1]⟩

abbrev nBuf : Space → Nat
  | .hbm => 88
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S1x5x6144, .f32⟩
  | .hbm, ⟨2, _⟩ => ⟨S8192x6144, .f32⟩
  | .hbm, ⟨3, _⟩ => ⟨S4x2048x6144, .f32⟩
  | .hbm, ⟨4, _⟩ => ⟨S5x6144, .f32⟩
  | .hbm, ⟨5, _⟩ => ⟨S_, .i32⟩
  | .hbm, ⟨6, _⟩ => ⟨S_, .f32⟩
  | .hbm, ⟨7, _⟩ => ⟨S4x2052x6144, .f32⟩
  | .hbm, ⟨8, _⟩ => ⟨S4x2048x6144, .f32⟩
  | .hbm, ⟨9, _⟩ => ⟨S1x6144, .f32⟩
  | .hbm, ⟨10, _⟩ => ⟨S6144, .f32⟩
  | .hbm, ⟨11, _⟩ => ⟨S1x1x6144, .f32⟩
  | .hbm, ⟨12, _⟩ => ⟨S4x2048x6144, .f32⟩
  | .hbm, ⟨13, _⟩ => ⟨S4x2048x6144, .f32⟩
  | .hbm, ⟨14, _⟩ => ⟨S_, .f32⟩
  | .hbm, ⟨15, _⟩ => ⟨S4x2048x6144, .f32⟩
  | .hbm, ⟨16, _⟩ => ⟨S4x2048x6144, .f32⟩
  | .hbm, ⟨17, _⟩ => ⟨S4x2048x6144, .f32⟩
  | .hbm, ⟨18, _⟩ => ⟨S1x6144, .f32⟩
  | .hbm, ⟨19, _⟩ => ⟨S6144, .f32⟩
  | .hbm, ⟨20, _⟩ => ⟨S1x1x6144, .f32⟩
  | .hbm, ⟨21, _⟩ => ⟨S4x2048x6144, .f32⟩
  | .hbm, ⟨22, _⟩ => ⟨S4x2048x6144, .f32⟩
  | .hbm, ⟨23, _⟩ => ⟨S4x2048x6144, .f32⟩
  | .hbm, ⟨24, _⟩ => ⟨S4x2048x6144, .f32⟩
  | .hbm, ⟨25, _⟩ => ⟨S1x6144, .f32⟩
  | .hbm, ⟨26, _⟩ => ⟨S6144, .f32⟩
  | .hbm, ⟨27, _⟩ => ⟨S1x1x6144, .f32⟩
  | .hbm, ⟨28, _⟩ => ⟨S4x2048x6144, .f32⟩
  | .hbm, ⟨29, _⟩ => ⟨S4x2048x6144, .f32⟩
  | .hbm, ⟨30, _⟩ => ⟨S4x2048x6144, .f32⟩
  | .hbm, ⟨31, _⟩ => ⟨S4x2048x6144, .f32⟩
  | .hbm, ⟨32, _⟩ => ⟨S1x6144, .f32⟩
  | .hbm, ⟨33, _⟩ => ⟨S6144, .f32⟩
  | .hbm, ⟨34, _⟩ => ⟨S1x1x6144, .f32⟩
  | .hbm, ⟨35, _⟩ => ⟨S4x2048x6144, .f32⟩
  | .hbm, ⟨36, _⟩ => ⟨S4x2048x6144, .f32⟩
  | .hbm, ⟨37, _⟩ => ⟨S4x2048x6144, .f32⟩
  | .hbm, ⟨38, _⟩ => ⟨S4x2048x6144, .f32⟩
  | .hbm, ⟨39, _⟩ => ⟨S1x6144, .f32⟩
  | .hbm, ⟨40, _⟩ => ⟨S6144, .f32⟩
  | .hbm, ⟨41, _⟩ => ⟨S1x1x6144, .f32⟩
  | .hbm, ⟨42, _⟩ => ⟨S4x2048x6144, .f32⟩
  | .hbm, ⟨43, _⟩ => ⟨S4x2048x6144, .f32⟩
  | .hbm, ⟨44, _⟩ => ⟨S4x2048x6144, .f32⟩
  | .hbm, ⟨45, _⟩ => ⟨S4x2048x6144, .f32⟩
  | .hbm, ⟨46, _⟩ => ⟨S4x2048x6144, .f32⟩
  | .hbm, ⟨47, _⟩ => ⟨S_, .f32⟩
  | .hbm, ⟨48, _⟩ => ⟨S4x2048x6144, .f32⟩
  | .hbm, ⟨49, _⟩ => ⟨S4x2048x6144, .f32⟩
  | .hbm, ⟨50, _⟩ => ⟨S_, .f32⟩
  | .hbm, ⟨51, _⟩ => ⟨S4x2048x6144, .f32⟩
  | .hbm, ⟨52, _⟩ => ⟨S4x2048x6144, .f32⟩
  | .hbm, ⟨53, _⟩ => ⟨S4x2048x6144, .f32⟩
  | .hbm, ⟨54, _⟩ => ⟨S4x2048x2048, .f32⟩
  | .hbm, ⟨55, _⟩ => ⟨S4x2048x2048, .f32⟩
  | .hbm, ⟨56, _⟩ => ⟨S4x2048x2048, .f32⟩
  | .hbm, ⟨57, _⟩ => ⟨S4x2048x16x128, .f32⟩
  | .hbm, ⟨58, _⟩ => ⟨S4x2048x16x128, .f32⟩
  | .hbm, ⟨59, _⟩ => ⟨S_, .f32⟩
  | .hbm, ⟨60, _⟩ => ⟨S4x2048x16, .f32⟩
  | .hbm, ⟨61, _⟩ => ⟨S4x2048x16x1, .f32⟩
  | .hbm, ⟨62, _⟩ => ⟨S_, .f32⟩
  | .hbm, ⟨63, _⟩ => ⟨S4x2048x16x1, .f32⟩
  | .hbm, ⟨64, _⟩ => ⟨S4x2048x16x1, .f32⟩
  | .hbm, ⟨65, _⟩ => ⟨S4x2048x16x1, .f32⟩
  | .hbm, ⟨66, _⟩ => ⟨S4x2048x16x128, .f32⟩
  | .hbm, ⟨67, _⟩ => ⟨S4x2048x16x128, .f32⟩
  | .hbm, ⟨68, _⟩ => ⟨S_, .f32⟩
  | .hbm, ⟨69, _⟩ => ⟨S_, .f32⟩
  | .hbm, ⟨70, _⟩ => ⟨S4x2048x16x128, .f32⟩
  | .hbm, ⟨71, _⟩ => ⟨S4x2048x16x128, .f32⟩
  | .hbm, ⟨72, _⟩ => ⟨S4x2048x16x128, .f32⟩
  | .hbm, ⟨73, _⟩ => ⟨S4x2048x16x128, .f32⟩
  | .hbm, ⟨74, _⟩ => ⟨S_, .f32⟩
  | .hbm, ⟨75, _⟩ => ⟨S4x2048x16, .f32⟩
  | .hbm, ⟨76, _⟩ => ⟨S4x2048x16x1, .f32⟩
  | .hbm, ⟨77, _⟩ => ⟨S_, .f32⟩
  | .hbm, ⟨78, _⟩ => ⟨S4x2048x16x1, .f32⟩
  | .hbm, ⟨79, _⟩ => ⟨S4x2048x16x1, .f32⟩
  | .hbm, ⟨80, _⟩ => ⟨S4x2048x16x1, .f32⟩
  | .hbm, ⟨81, _⟩ => ⟨S4x2048x16x128, .f32⟩
  | .hbm, ⟨82, _⟩ => ⟨S4x2048x16x128, .f32⟩
  | .hbm, ⟨83, _⟩ => ⟨S4x2048x2048, .f32⟩
  | .hbm, ⟨84, _⟩ => ⟨S4x2048x2048, .bf16⟩
  | .hbm, ⟨85, _⟩ => ⟨S4x2048x2048, .f32⟩
  | .hbm, ⟨86, _⟩ => ⟨S4x2048x2048, .bf16⟩
  | .hbm, ⟨87, _⟩ => ⟨S4x2048x2048, .bf16⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_0 : Ref sig .tc := ⟨.hbm, 59, rfl⟩
abbrev main_v46 : Ref sig .tc := ⟨.hbm, 60, rfl⟩
abbrev main_v47 : Ref sig .tc := ⟨.hbm, 61, rfl⟩
abbrev main_cst_1 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_2 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_3 : Ref sig .tc := ⟨.hbm, 74, rfl⟩
abbrev main_v58 : Ref sig .tc := ⟨.hbm, 75, rfl⟩
abbrev main_v59 : Ref sig .tc := ⟨.hbm, 76, rfl⟩
abbrev main_cst_4 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== PrepCtx.lean ====
abbrev S1024x6144 : Shape := ⟨2, ![1024, 6144]⟩
abbrev S1x5x6144 : Shape := ⟨3, ![1, 5, 6144]⟩
abbrev S5x6144 : Shape := ⟨2, ![5, 6144]⟩
abbrev S_ : Shape := ⟨0, ![]⟩
abbrev S8x6144 : Shape := ⟨2, ![8, 6144]⟩
abbrev S4x256x2048 : Shape := ⟨3, ![4, 256, 2048]⟩
abbrev S256x128 : Shape := ⟨2, ![256, 128]⟩
abbrev S8x128 : Shape := ⟨2, ![8, 128]⟩
abbrev S1x256x128 : Shape := ⟨3, ![1, 256, 128]⟩
abbrev S272x128 : Shape := ⟨2, ![272, 128]⟩
abbrev S1x128 : Shape := ⟨2, ![1, 128]⟩
abbrev S256 : Shape := ⟨1, ![256]⟩
abbrev S256x1 : Shape := ⟨2, ![256, 1]⟩

abbrev nBuf : Space → Nat
  | .hbm => 9
  | .vmem => 19
  | .smem => 0
  | _ => 0

abbrev bufTy : (tb : Table) → Fin (tcTables nBuf tb) → BufTy
  | .hbm, ⟨0, _⟩ => ⟨S1024x6144, .f32⟩
  | .hbm, ⟨1, _⟩ => ⟨S1x5x6144, .f32⟩
  | .hbm, ⟨2, _⟩ => ⟨S5x6144, .f32⟩
  | .hbm, ⟨3, _⟩ => ⟨S_, .i32⟩
  | .hbm, ⟨4, _⟩ => ⟨S_, .f32⟩
  | .hbm, ⟨5, _⟩ => ⟨S8x6144, .f32⟩
  | .hbm, ⟨6, _⟩ => ⟨S4x256x2048, .bf16⟩
  | .hbm, ⟨7, _⟩ => ⟨S4x256x2048, .bf16⟩
  | .hbm, ⟨8, _⟩ => ⟨S4x256x2048, .bf16⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S1x256x128, .bf16⟩
  | .local _ .vmem, ⟨13, _⟩ => ⟨S1x256x128, .bf16⟩
  | .local _ .vmem, ⟨14, _⟩ => ⟨S1x256x128, .bf16⟩
  | .local _ .vmem, ⟨15, _⟩ => ⟨S1x256x128, .bf16⟩
  | .local _ .vmem, ⟨16, _⟩ => ⟨S1x256x128, .bf16⟩
  | .local _ .vmem, ⟨17, _⟩ => ⟨S1x256x128, .bf16⟩
  | .local _ .vmem, ⟨18, _⟩ => ⟨S272x128, .f32⟩
  | _, _ => ⟨S1024x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PrepCtxIdeal.lean ====
variable {F : FTy → Type} [FloatOps F] [Named F]
def κ : String → Option EReal := fun
  | "inv_sqrt_dk" => some (((Real.sqrt 128)⁻¹ : ℝ) : EReal)
  | _ => none
-- ==== PrepCtxRefIdeal.lean ====
abbrev S1024x6144 : Shape := ⟨2, ![1024, 6144]⟩
abbrev S1x5x6144 : Shape := ⟨3, ![1, 5, 6144]⟩
abbrev S4x256x6144 : Shape := ⟨3, ![4, 256, 6144]⟩
abbrev S5x6144 : Shape := ⟨2, ![5, 6144]⟩
abbrev S_ : Shape := ⟨0, ![]⟩
abbrev S4x260x6144 : Shape := ⟨3, ![4, 260, 6144]⟩
abbrev S1x6144 : Shape := ⟨2, ![1, 6144]⟩
abbrev S6144 : Shape := ⟨1, ![6144]⟩
abbrev S1x1x6144 : Shape := ⟨3, ![1, 1, 6144]⟩
abbrev S4x256x2048 : Shape := ⟨3, ![4, 256, 2048]⟩
abbrev S4x256x16x128 : Shape := ⟨4, ![4, 256, 16, 128]⟩
abbrev S4x256x16 : Shape := ⟨3, ![4, 256, 16]⟩
abbrev S4x256x16x1 : Shape := ⟨4, ![4, 256, 16, 1]⟩

abbrev nBuf : Space → Nat
  | .hbm => 87
  | .vmem => 0
  | .smem => 0
  | _ => 0

abbrev bufTy : (tb : Table) → Fin (tcTables nBuf tb) → BufTy
  | .hbm, ⟨0, _⟩ => ⟨S1024x6144, .f32⟩
  | .hbm, ⟨1, _⟩ => ⟨S1x5x6144, .f32⟩
  | .hbm, ⟨2, _⟩ => ⟨S4x256x6144, .f32⟩
  | .hbm, ⟨3, _⟩ => ⟨S5x6144, .f32⟩
  | .hbm, ⟨4, _⟩ => ⟨S_, .i32⟩
  | .hbm, ⟨5, _⟩ => ⟨S_, .f32⟩
  | .hbm, ⟨6, _⟩ => ⟨S4x260x6144, .f32⟩
  | .hbm, ⟨7, _⟩ => ⟨S4x256x6144, .f32⟩
  | .hbm, ⟨8, _⟩ => ⟨S1x6144, .f32⟩
  | .hbm, ⟨9, _⟩ => ⟨S6144, .f32⟩
  | .hbm, ⟨10, _⟩ => ⟨S1x1x6144, .f32⟩
  | .hbm, ⟨11, _⟩ => ⟨S4x256x6144, .f32⟩
  | .hbm, ⟨12, _⟩ => ⟨S4x256x6144, .f32⟩
  | .hbm, ⟨13, _⟩ => ⟨S_, .f32⟩
  | .hbm, ⟨14, _⟩ => ⟨S4x256x6144, .f32⟩
  | .hbm, ⟨15, _⟩ => ⟨S4x256x6144, .f32⟩
  | .hbm, ⟨16, _⟩ => ⟨S4x256x6144, .f32⟩
  | .hbm, ⟨17, _⟩ => ⟨S1x6144, .f32⟩
  | .hbm, ⟨18, _⟩ => ⟨S6144, .f32⟩
  | .hbm, ⟨19, _⟩ => ⟨S1x1x6144, .f32⟩
  | .hbm, ⟨20, _⟩ => ⟨S4x256x6144, .f32⟩
  | .hbm, ⟨21, _⟩ => ⟨S4x256x6144, .f32⟩
  | .hbm, ⟨22, _⟩ => ⟨S4x256x6144, .f32⟩
  | .hbm, ⟨23, _⟩ => ⟨S4x256x6144, .f32⟩
  | .hbm, ⟨24, _⟩ => ⟨S1x6144, .f32⟩
  | .hbm, ⟨25, _⟩ => ⟨S6144, .f32⟩
  | .hbm, ⟨26, _⟩ => ⟨S1x1x6144, .f32⟩
  | .hbm, ⟨27, _⟩ => ⟨S4x256x6144, .f32⟩
  | .hbm, ⟨28, _⟩ => ⟨S4x256x6144, .f32⟩
  | .hbm, ⟨29, _⟩ => ⟨S4x256x6144, .f32⟩
  | .hbm, ⟨30, _⟩ => ⟨S4x256x6144, .f32⟩
  | .hbm, ⟨31, _⟩ => ⟨S1x6144, .f32⟩
  | .hbm, ⟨32, _⟩ => ⟨S6144, .f32⟩
  | .hbm, ⟨33, _⟩ => ⟨S1x1x6144, .f32⟩
  | .hbm, ⟨34, _⟩ => ⟨S4x256x6144, .f32⟩
  | .hbm, ⟨35, _⟩ => ⟨S4x256x6144, .f32⟩
  | .hbm, ⟨36, _⟩ => ⟨S4x256x6144, .f32⟩
  | .hbm, ⟨37, _⟩ => ⟨S4x256x6144, .f32⟩
  | .hbm, ⟨38, _⟩ => ⟨S1x6144, .f32⟩
  | .hbm, ⟨39, _⟩ => ⟨S6144, .f32⟩
  | .hbm, ⟨40, _⟩ => ⟨S1x1x6144, .f32⟩
  | .hbm, ⟨41, _⟩ => ⟨S4x256x6144, .f32⟩
  | .hbm, ⟨42, _⟩ => ⟨S4x256x6144, .f32⟩
  | .hbm, ⟨43, _⟩ => ⟨S4x256x6144, .f32⟩
  | .hbm, ⟨44, _⟩ => ⟨S4x256x6144, .f32⟩
  | .hbm, ⟨45, _⟩ => ⟨S4x256x6144, .f32⟩
  | .hbm, ⟨46, _⟩ => ⟨S_, .f32⟩
  | .hbm, ⟨47, _⟩ => ⟨S4x256x6144, .f32⟩
  | .hbm, ⟨48, _⟩ => ⟨S4x256x6144, .f32⟩
  | .hbm, ⟨49, _⟩ => ⟨S_, .f32⟩
  | .hbm, ⟨50, _⟩ => ⟨S4x256x6144, .f32⟩
  | .hbm, ⟨51, _⟩ => ⟨S4x256x6144, .f32⟩
  | .hbm, ⟨52, _⟩ => ⟨S4x256x6144, .f32⟩
  | .hbm, ⟨53, _⟩ => ⟨S4x256x2048, .f32⟩
  | .hbm, ⟨54, _⟩ => ⟨S4x256x2048, .f32⟩
  | .hbm, ⟨55, _⟩ => ⟨S4x256x2048, .f32⟩
  | .hbm, ⟨56, _⟩ => ⟨S4x256x16x128, .f32⟩
  | .hbm, ⟨57, _⟩ => ⟨S4x256x16x128, .f32⟩
  | .hbm, ⟨58, _⟩ => ⟨S_, .f32⟩
  | .hbm, ⟨59, _⟩ => ⟨S4x256x16, .f32⟩
  | .hbm, ⟨60, _⟩ => ⟨S4x256x16x1, .f32⟩
  | .hbm, ⟨61, _⟩ => ⟨S_, .f32⟩
  | .hbm, ⟨62, _⟩ => ⟨S4x256x16x1, .f32⟩
  | .hbm, ⟨63, _⟩ => ⟨S4x256x16x1, .f32⟩
  | .hbm, ⟨64, _⟩ => ⟨S4x256x16x1, .f32⟩
  | .hbm, ⟨65, _⟩ => ⟨S4x256x16x128, .f32⟩
  | .hbm, ⟨66, _⟩ => ⟨S4x256x16x128, .f32⟩
  | .hbm, ⟨67, _⟩ => ⟨S_, .f32⟩
  | .hbm, ⟨68, _⟩ => ⟨S_, .f32⟩
  | .hbm, ⟨69, _⟩ => ⟨S4x256x16x128, .f32⟩
  | .hbm, ⟨70, _⟩ => ⟨S4x256x16x128, .f32⟩
  | .hbm, ⟨71, _⟩ => ⟨S4x256x16x128, .f32⟩
  | .hbm, ⟨72, _⟩ => ⟨S4x256x16x128, .f32⟩
  | .hbm, ⟨73, _⟩ => ⟨S_, .f32⟩
  | .hbm, ⟨74, _⟩ => ⟨S4x256x16, .f32⟩
  | .hbm, ⟨75, _⟩ => ⟨S4x256x16x1, .f32⟩
  | .hbm, ⟨76, _⟩ => ⟨S_, .f32⟩
  | .hbm, ⟨77, _⟩ => ⟨S4x256x16x1, .f32⟩
  | .hbm, ⟨78, _⟩ => ⟨S4x256x16x1, .f32⟩
  | .hbm, ⟨79, _⟩ => ⟨S4x256x16x1, .f32⟩
  | .hbm, ⟨80, _⟩ => ⟨S4x256x16x128, .f32⟩
  | .hbm, ⟨81, _⟩ => ⟨S4x256x16x128, .f32⟩
  | .hbm, ⟨82, _⟩ => ⟨S4x256x2048, .f32⟩
  | .hbm, ⟨83, _⟩ => ⟨S4x256x2048, .bf16⟩
  | .hbm, ⟨84, _⟩ => ⟨S4x256x2048, .f32⟩
  | .hbm, ⟨85, _⟩ => ⟨S4x256x2048, .bf16⟩
  | .hbm, ⟨86, _⟩ => ⟨S4x256x2048, .bf16⟩
  | _, _ => ⟨S1024x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_0 : Ref sig .tc := ⟨.hbm, 58, rfl⟩
abbrev main_v45 : Ref sig .tc := ⟨.hbm, 59, rfl⟩
abbrev main_v46 : Ref sig .tc := ⟨.hbm, 60, rfl⟩
abbrev main_cst_1 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_2 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_3 : Ref sig .tc := ⟨.hbm, 73, rfl⟩
abbrev main_v57 : Ref sig .tc := ⟨.hbm, 74, rfl⟩
abbrev main_v58 : Ref sig .tc := ⟨.hbm, 75, rfl⟩
abbrev main_cst_4 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Experts.lean ====
abbrev S2048x8192 : Shape := ⟨2, ![2048, 8192]⟩
abbrev S16384x2048 : Shape := ⟨2, ![16384, 2048]⟩
abbrev S2048x16384 : Shape := ⟨2, ![2048, 16384]⟩
abbrev S8x128x8192 : Shape := ⟨3, ![8, 128, 8192]⟩
abbrev S2048x512 : Shape := ⟨2, ![2048, 512]⟩
abbrev S1024x2048 : Shape := ⟨2, ![1024, 2048]⟩
abbrev S2048x1024 : Shape := ⟨2, ![2048, 1024]⟩
abbrev S8x8x512 : Shape := ⟨3, ![8, 8, 512]⟩
abbrev S8x128x512 : Shape := ⟨3, ![8, 128, 512]⟩
abbrev S1024x512 : Shape := ⟨2, ![1024, 512]⟩
abbrev S128x256 : Shape := ⟨2, ![128, 256]⟩
abbrev S1x1x256 : Shape := ⟨3, ![1, 1, 256]⟩
abbrev S1x256 : Shape := ⟨2, ![1, 256]⟩
abbrev S1x128x256 : Shape := ⟨3, ![1, 128, 256]⟩

abbrev nBuf : Space → Nat
  | .hbm => 8
  | .vmem => 18
  | .smem => 0
  | _ => 0

abbrev bufTy : (tb : Table) → Fin (tcTables nBuf tb) → BufTy
  | .hbm, ⟨0, _⟩ => ⟨S2048x8192, .bf16⟩
  | .hbm, ⟨1, _⟩ => ⟨S16384x2048, .bf16⟩
  | .hbm, ⟨2, _⟩ => ⟨S2048x16384, .bf16⟩
  | .hbm, ⟨3, _⟩ => ⟨S8x128x8192, .f32⟩
  | .hbm, ⟨4, _⟩ => ⟨S8x128x8192, .f32⟩
  | .hbm, ⟨5, _⟩ => ⟨S8x128x8192, .f32⟩
  | .hbm, ⟨6, _⟩ => ⟨S8x128x8192, .f32⟩
  | .hbm, ⟨7, _⟩ => ⟨S2048x8192, .f32⟩
  | .local _ .vmem, ⟨0, _⟩ => ⟨S2048x512, .bf16⟩
  | .local _ .vmem, ⟨1, _⟩ => ⟨S2048x512, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S8x8x512, .f32⟩
  | .local _ .vmem, ⟨7, _⟩ => ⟨S8x8x512, .f32⟩
  | .local _ .vmem, ⟨8, _⟩ => ⟨S8x128x512, .f32⟩
  | .local _ .vmem, ⟨9, _⟩ => ⟨S8x128x512, .f32⟩
  | .local _ .vmem, ⟨10, _⟩ => ⟨S8x8x512, .f32⟩
  | .local _ .vmem, ⟨11, _⟩ => ⟨S8x8x512, .f32⟩
  | .local _ .vmem, ⟨12, _⟩ => ⟨S8x128x512, .f32⟩
  | .local _ .vmem, ⟨13, _⟩ => ⟨S8x128x512, .f32⟩
  | .local _ .vmem, ⟨14, _⟩ => ⟨S2048x512, .f32⟩
  | .local _ .vmem, ⟨15, _⟩ => ⟨S2048x512, .f32⟩
  | .local _ .vmem, ⟨16, _⟩ => ⟨S2048x512, .f32⟩
  | .local _ .vmem, ⟨17, _⟩ => ⟨S1024x512, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v2222 : BitVec 1 := Scalar.cmpi .eq arg1 c15_i32
  let v2223 : BitVec 32 := Scalar.extui v2222
  let c0_i32_1759 : BitVec 32 := 0#32
  let v2224 : BitVec 1 := Scalar.cmpi .ne v2223 c0_i32_1759
  v2224

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ExpertsIdeal.lean ====
variable {F : FTy → Type} [FloatOps F] [Named F]
def κ : String → Option EReal := fun
  | "gelu_cubic" => some ((80338380498831 / 2251799813685248 : ℝ) : EReal)
  | _ => none
-- ==== ExpertsRefIdeal.lean ====
abbrev S2048x8192 : Shape := ⟨2, ![2048, 8192]⟩
abbrev S16384x2048 : Shape := ⟨2, ![16384, 2048]⟩
abbrev S2048x16384 : Shape := ⟨2, ![2048, 16384]⟩
abbrev S8x128x8192 : Shape := ⟨3, ![8, 128, 8192]⟩
abbrev S8x1x128x8192 : Shape := ⟨4, ![8, 1, 128, 8192]⟩
abbrev S8x128x1x8192 : Shape := ⟨4, ![8, 128, 1, 8192]⟩
abbrev S8x128x128x8192 : Shape := ⟨4, ![8, 128, 128, 8192]⟩
abbrev S_ : Shape := ⟨0, ![]⟩
abbrev S128x128x8192 : Shape := ⟨3, ![128, 128, 8192]⟩
abbrev S16384x8192 : Shape := ⟨2, ![16384, 8192]⟩

abbrev nBuf : Space → Nat
  | .hbm => 47
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S16384x2048, .bf16⟩
  | .hbm, ⟨2, _⟩ => ⟨S2048x16384, .bf16⟩
  | .hbm, ⟨3, _⟩ => ⟨S8x128x8192, .f32⟩
  | .hbm, ⟨4, _⟩ => ⟨S8x128x8192, .f32⟩
  | .hbm, ⟨5, _⟩ => ⟨S8x128x8192, .f32⟩
  | .hbm, ⟨6, _⟩ => ⟨S8x128x8192, .f32⟩
  | .hbm, ⟨7, _⟩ => ⟨S8x1x128x8192, .f32⟩
  | .hbm, ⟨8, _⟩ => ⟨S8x128x1x8192, .f32⟩
  | .hbm, ⟨9, _⟩ => ⟨S8x128x128x8192, .f32⟩
  | .hbm, ⟨10, _⟩ => ⟨S8x128x128x8192, .f32⟩
  | .hbm, ⟨11, _⟩ => ⟨S8x128x128x8192, .i1⟩
  | .hbm, ⟨12, _⟩ => ⟨S8x128x1x8192, .f32⟩
  | .hbm, ⟨13, _⟩ => ⟨S8x1x128x8192, .f32⟩
  | .hbm, ⟨14, _⟩ => ⟨S8x128x128x8192, .f32⟩
  | .hbm, ⟨15, _⟩ => ⟨S8x128x128x8192, .f32⟩
  | .hbm, ⟨16, _⟩ => ⟨S8x128x128x8192, .f32⟩
  | .hbm, ⟨17, _⟩ => ⟨S_, .f32⟩
  | .hbm, ⟨18, _⟩ => ⟨S_, .f32⟩
  | .hbm, ⟨19, _⟩ => ⟨S8x128x128x8192, .f32⟩
  | .hbm, ⟨20, _⟩ => ⟨S8x128x128x8192, .f32⟩
  | .hbm, ⟨21, _⟩ => ⟨S_, .f32⟩
  | .hbm, ⟨22, _⟩ => ⟨S128x128x8192, .f32⟩
  | .hbm, ⟨23, _⟩ => ⟨S16384x2048, .f32⟩
  | .hbm, ⟨24, _⟩ => ⟨S2048x8192, .f32⟩
  | .hbm, ⟨25, _⟩ => ⟨S16384x8192, .f32⟩
  | .hbm, ⟨26, _⟩ => ⟨S16384x8192, .f32⟩
  | .hbm, ⟨27, _⟩ => ⟨S16384x8192, .f32⟩
  | .hbm, ⟨28, _⟩ => ⟨S_, .f32⟩
  | .hbm, ⟨29, _⟩ => ⟨S16384x8192, .f32⟩
  | .hbm, ⟨30, _⟩ => ⟨S16384x8192, .f32⟩
  | .hbm, ⟨31, _⟩ => ⟨S16384x8192, .f32⟩
  | .hbm, ⟨32, _⟩ => ⟨S_, .f32⟩
  | .hbm, ⟨33, _⟩ => ⟨S16384x8192, .f32⟩
  | .hbm, ⟨34, _⟩ => ⟨S16384x8192, .f32⟩
  | .hbm, ⟨35, _⟩ => ⟨S16384x8192, .f32⟩
  | .hbm, ⟨36, _⟩ => ⟨S_, .f32⟩
  | .hbm, ⟨37, _⟩ => ⟨S16384x8192, .f32⟩
  | .hbm, ⟨38, _⟩ => ⟨S16384x8192, .f32⟩
  | .hbm, ⟨39, _⟩ => ⟨S_, .f32⟩
  | .hbm, ⟨40, _⟩ => ⟨S16384x8192, .f32⟩
  | .hbm, ⟨41, _⟩ => ⟨S16384x8192, .f32⟩
  | .hbm, ⟨42, _⟩ => ⟨S16384x8192, .f32⟩
  | .hbm, ⟨43, _⟩ => ⟨S2048x16384, .f32⟩
  | .hbm, ⟨44, _⟩ => ⟨S16384x8192, .f32⟩
  | .hbm, ⟨45, _⟩ => ⟨S16384x8192, .f32⟩
  | .hbm, ⟨46, _⟩ => ⟨S2048x8192, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Proof.Weights.Run.lean ====
/- The launch of the weight-layout call: what each grid point leaves in its buffers, and the run of the whole
   program with the arrays it ends with named. Written over any interpretation of the floating-point types. -/
module

public import proofs.«01_k».proof.Proof.Gen.KernelIdeal.Frame
public import proofs.«01_k».proof.Proof.Gen.KernelIdeal.Skeleton
public import Idealize.ShloMosaic.Lib.Pipeline.ValueKit
public import Idealize.ShloMosaic.Lib.Pipeline.Value
public import Idealize.ShloMosaic.Lib.Claim
public import Idealize.ShloMosaic.Lib.Pipeline.TableIdle

@[expose] public section

set_option maxRecDepth 16384

noncomputable section

namespace Cert.Weights

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's branch is taken at the first point only. -/
abbrev first (i : grid0.Coords) : Prop := k0_cond1 i = 1#1

theorem first_iff : ∀ t : Fin cfg0.N, first (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    simp only [first, k0_cond1, e0]
    word_cmp
   : ∀ t : Fin grid0.N, first (grid0.coords t) ↔ t.val = 0)

set_option maxHeartbeats 1000000 in
/-- The body at the first point: both outputs are stored whole. -/
theorem body_first (c : Dev nD) (i : grid0.Coords) (arg1 : Memref sig .tc .vmem S512x2048 .f32) (harg1 : arg1.IsWhole) (arg2 : Memref sig .tc .vmem S64x2048 .f32) (harg2 : arg2.IsWhole) (arg3 : Memref sig .tc .vmem S2048x512 .bf16) (harg3 : arg3.IsWhole) (arg4 : Memref sig .tc .vmem S2048x128 .bf16) (harg4 : arg4.IsWhole) (hc0 : first i)
    (x0 : Vec F S512x2048 .f32) (x1 : Vec F S64x2048 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (k0_pay1 x0) ∗ owns (c : Thread nD τ) arg4 fullShare (k0_pay2 x1)) -∗ K ⟨⟩))
      ⊢ wp frame (wpE (defs₀ (F := F)) Variants.none c none) E (cc0_in_weights i arg1 harg1 arg2 harg2 arg3 harg3 arg4 harg4) K := by
  simp only [cc0_in_weights_eq_skeleton]; unfold cc0_in_weights_skel
  unfold owns
  iintro ⟨⟨%f0, %hf0, H0⟩, ⟨%f1, %hf1, H1⟩, ⟨%d2, %f2, -, H2⟩, ⟨%d3, %f3, -, H3⟩, Hk⟩
  subst hf0 hf1
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists _; isplitr; swap; · iexact H2
    ipureintro
    refine (View.read_writes_eq_canon _ _ _ (View.cover_of_tiled _ S2048x512.size (by rfl))).trans ?_
    rw [View.canon_cons_unit_lit _ _ _ (by decide)]
    exact congrArg k0_pay1 (View.ld_unit_lit _ _ (by decide))
  iexists _; isplitr; swap; · iexact H3
  ipureintro
  refine (View.read_writes_eq_canon _ _ _ (View.cover_of_tiled _ S2048x128.size (by rfl))).trans ?_
  rw [View.canon_cons_unit_lit _ _ _ (by decide)]
  exact congrArg k0_pay2 (View.ld_unit_lit _ _ (by decide))

set_option maxHeartbeats 1000000 in
/-- The body at a later point: the second output is left as it was. -/
theorem body_later (c : Dev nD) (i : grid0.Coords) (arg1 : Memref sig .tc .vmem S512x2048 .f32) (harg1 : arg1.IsWhole) (arg2 : Memref sig .tc .vmem S64x2048 .f32) (harg2 : arg2.IsWhole) (arg3 : Memref sig .tc .vmem S2048x512 .bf16) (harg3 : arg3.IsWhole) (arg4 : Memref sig .tc .vmem S2048x128 .bf16) (harg4 : arg4.IsWhole) (hc0 : ¬ first i)
    (x0 : Vec F S512x2048 .f32) (E : Set ℕ) (K : PUnit → sProp 𝕄) :
    iprop(owns (c : Thread nD τ) arg1 fullShare x0 ∗ (∃ d, owns (c : Thread nD τ) arg3 fullShare d)
        ∗ (iprop(owns (c : Thread nD τ) arg1 fullShare x0 ∗ owns (c : Thread nD τ) arg3 fullShare (k0_pay1 x0)) -∗ K ⟨⟩))
      ⊢ wp frame (wpE (defs₀ (F := F)) Variants.none c none) E (cc0_in_weights i arg1 harg1 arg2 harg2 arg3 harg3 arg4 harg4) K := by
  simp only [cc0_in_weights_eq_skeleton]; unfold cc0_in_weights_skel
  unfold owns
  iintro ⟨⟨%f0, %hf0, H0⟩, ⟨%d2, %f2, -, H2⟩, Hk⟩
  subst hf0
  sl_exec (disch := first | sl_exact hc0)
  sl_step
  iapply Hk
  isplitl [H0]
  · iexists f0; isplitr; · ipureintro; rfl
    iexact H0
  iexists _; isplitr; swap; · iexact H2
  ipureintro
  refine (View.read_writes_eq_canon _ _ _ (View.cover_of_tiled _ S2048x512.size (by rfl))).trans ?_
  rw [View.canon_cons_unit_lit _ _ _ (by decide)]
  exact congrArg k0_pay1 (View.ld_unit_lit _ _ (by decide))

/-- The first point. -/
abbrev t0 : Fin cfg0.N := ⟨0, by decide⟩

/-- The proof data: each input's buffer keeps its block; the first output's buffer holds the transposed block of the
    point; the second output's holds, from the first point on, what the first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 t)
    | ⟨3, _⟩ => k0_pay2 (iblk m c 1 t0)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay1 (iblk m c 0 t) := by dsimp only [dats]
theorem after_3 (c : Dev nD) (t : Fin cfg0.N) : (dats m 0 c).after 3 t = k0_pay2 (iblk m c 1 t0) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

theorem idle_3 : ∀ t : Fin cfg0.N, cfg0.idle 3 (grid0.coords t) = decide (t.val ≠ 0) :=
  (by decide +kernel : ∀ t : Fin grid0.N, cfg0.idle 3 (grid0.coords t) = decide (t.val ≠ 0))

theorem live_2 : ∀ t : Fin cfg0.N, cfg0.idle 2 (grid0.coords t) = false :=
  (by decide +kernel : ∀ t : Fin grid0.N, cfg0.idle 2 (grid0.coords t) = false)

/-- The second output's buffer is unwritten at the first point only. -/
theorem fresh_3 (n : ℕ) (h : n ≤ cfg0.N) : cfg0.fresh 3 n = (decide (n = 0) || decide (n = 32)) :=
  cfg0.fresh_tab 3 (fun n => decide (n = 0) || decide (n = 32)) rfl
    (fun t => by
      have ht : t.val < 32 := Nat.lt_of_lt_of_eq t.isLt N_0
      have hfl := flush0_3 t
      have e : cfg0.idle 3 (cfg0.grid.coords t) = decide (t.val ≠ 0) := idle_3 t
      rw [e]
      by_cases h31 : t.val = 31
      · rw [hfl.mpr (by omega)]; simp [h31]
      · have : (cfg0.win 3).flush t = false := by
          rw [Bool.eq_false_iff]; exact fun hh => h31 (by have := hfl.mp hh; omega)
        rw [this]
        by_cases h0 : t.val = 0
        · simp [h0]
        · have h1 : t.val ≠ 32 := by omega
          simp [h0, h1, h31]) n h

/-- At a later point the second output's buffer is found holding what the first point stored. -/
theorem before_3 (c : Dev nD) (t : Fin cfg0.N) (h : t.val ≠ 0) (d) :
    (dats m 0 c).before 3 t d = k0_pay2 (iblk m c 1 t0) := by
  have ht : t.val < 32 := Nat.lt_of_lt_of_eq t.isLt N_0
  rw [(dats m 0 c).before_out_traj 3 rfl (fun _ _ => rfl) (fun _ _ _ _ => by rw [after_3, after_3]) t.val t rfl d,
    fresh_3 t.val (Nat.le_of_lt t.isLt), after_3, decide_eq_false h, decide_eq_false (by omega), Bool.or_false,
    if_neg Bool.false_ne_true]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

/-- At a later point the second output's buffer, at what the first point stored, is what the point has to leave. -/
theorem keep_3 (c : Dev nD) (t : Fin cfg0.N) (h : t.val ≠ 0) :
    owns (c : Thread nD τ) (st0_3 t) fullShare (k0_pay2 (iblk m c 1 t0)) ⊢ (dats m 0 c).leavesExact 3 t := by
  cases hf : (cfg0.win 3).flush t
  · rw [(dats m 0 c).leavesExact_idle 3 t ((idle_3 t).trans (decide_eq_true h)) hf]
    iintro H
    iexists k0_pay2 (iblk m c 1 t0)
    rw [before_3 m c t h]
    iexact H
  · rw [show (dats m 0 c).leavesExact 3 t = owns (c : Thread nD τ) (st0_3 t) fullShare ((dats m 0 c).after 3 t) from by
      unfold Dat.leavesExact; rw [hf]; cases cfg0.idle 3 (cfg0.grid.coords t) <;> rfl, after_3]

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (st0_0 t) fullShare ((dats m 0 c).after 0 t) from rfl, after_0,
    show (dats m 0 c).leavesExact 1 t = owns (c : Thread nD τ) (st0_1 t) fullShare ((dats m 0 c).after 1 t) from rfl, after_1,
    show (dats m 0 c).leavesExact 2 t = owns (c : Thread nD τ) (st0_2 t) fullShare ((dats m 0 c).after 2 t) from by
      unfold Dat.leavesExact; rw [live_2 t], after_2]
  by_cases h0 : t.val = 0
  · rw [show (dats m 0 c).leavesExact 3 t = owns (c : Thread nD τ) (st0_3 t) fullShare ((dats m 0 c).after 3 t) from by
      unfold Dat.leavesExact; rw [idle_3 t, decide_eq_false (not_not.mpr h0)], after_3]
    obtain rfl : t = t0 := Fin.ext h0
    iintro ⟨HΦ, Ho, ⟨%d0, H0⟩, ⟨%d1, H1⟩, ⟨%d2, H2⟩, ⟨%d3, H3⟩⟩
    iapply (body_first c (grid0.coords t0) _ _ _ _ _ _ _ _ ((first_iff t0).mpr rfl) (iblk m c 0 t0) (iblk m c 1 t0) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before_3 m c t h0]
    iintro ⟨HΦ, Ho, ⟨%d0, H0⟩, ⟨%d1, H1⟩, ⟨%d2, H2⟩, ⟨%d3, H3⟩⟩
    iapply (body_later c (grid0.coords t) _ _ _ _ _ _ _ _ (fun h => h0 ((first_iff t).mp h)) (iblk m c 0 t) Set.univ _)
    isplitl [H0]; · iexact H0
    isplitl [H2]; · iexists _; iexact H2
    iintro ⟨H0, H2⟩
    isplitl [HΦ]; · iexact HΦ
    isplitl [Ho]; · iexact Ho
    isplitl [H0]; · iexact H0
    isplitl [H1]; · iexact H1
    isplitl [H2]; · iexact H2
    iapply keep_3 m c t h0
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every output array at what the pipeline writes back, every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_main_quiescent m ρ))

end Cert.Weights

end
-- ==== Proof.Weights.Value.lean ====
/- What the weight-layout call computes: its two result arrays as functions of the weight, and the reference's. -/
module

public import proofs.«01_k».proof.Defs
public import proofs.«01_k».proof.Proof.Weights.Run
public import proofs.«01_k».proof.Proof.Gen.ReferenceIdeal.Run
public import Idealize.ShloMosaic.Lib.Pointwise

@[expose] public section

set_option maxRecDepth 16384

noncomputable section

namespace Cert.Weights

open Cert.KernelIdeal Cert.KernelIdeal.Gen
open Idealize.ShloMosaic Idealize.ShloMosaic.TcCoe Idealize.SL.Sem
open Idealize.ShloMosaic.Pipeline (Dat)

/-- Column `j` of the main layout is column `col j` of the weight: the columns before the gate, then those after. -/
def col (j : ℕ) : ℕ := if j < 12288 then j else j + 64

theorem col_lt {j : ℕ} (h : j < 16384) : col j < 16448 := by unfold col; split <;> omega

/-- The main layout: the weight without its gate columns. -/
def mainOf (w : S1x2048x16448.Idx → EReal) : S2048x16384.Idx → EReal :=
  fun i => w (ix3 0 (i 0) ⟨col (i 1).val, col_lt (i 1).isLt⟩)

/-- The gate's columns, zeros to the right of them. -/
def gateOf (w : S1x2048x16448.Idx → EReal) : S2048x128.Idx → EReal :=
  fun i => if h : (i 1).val < 64 then w (ix3 0 (i 0) ⟨12288 + (i 1).val, by omega⟩) else 0

theorem mainOf_apply (w : S1x2048x16448.Idx → EReal) (r : Fin 2048) (q : Fin 16384) :
    mainOf w (ix2 r q) = w (ix3 0 r ⟨col q.val, col_lt q.isLt⟩) := rfl

theorem gateOf_apply (w : S1x2048x16448.Idx → EReal) (r : Fin 2048) (q : Fin 128) :
    gateOf w (ix2 r q) = if h : q.val < 64 then w (ix3 0 r ⟨12288 + q.val, by omega⟩) else 0 := rfl

variable (m : (ℓ : Loc nD τ sig) → Buf (Elt Ideal) ℓ) (ρ : Dev nD → PrngReg)

/-- The weight as launched. -/
abbrev W (c : Dev nD) : S1x2048x16448.Idx → EReal := m ((c : Thread nD τ).loc main_arg0)

/-- The array both input windows read is the weight transposed. -/
theorem V_v1 (c : Dev nD) (q : Fin 16448) (r : Fin 2048) : V m c main_v1 (ix2 q r) = W m c (ix3 0 r q) := by
  have e : V m c main_v1 = transpose S16448x2048 [1, 0] (shapeCast S2048x16448 (W m c) shapeCasts_S1x2048x16448_S2048x16448) transposes_S2048x16448_S16448x2048_1_0 := by
    unfold V; after_results <;> rfl
  rw [e]
  pointwise

theorem pay1_apply (x : Vec Ideal S512x2048 .f32) (r : Fin 2048) (q : Fin 512) : k0_pay1 x (ix2 r q) = x (ix2 q r) := by
  pointwise [k0_pay1]

theorem pay2_apply (x : Vec Ideal S64x2048 .f32) (r : Fin 2048) (q : Fin 128) :
    k0_pay2 x (ix2 r q) = if h : q.val < 64 then x (ix2 ⟨q.val, h⟩ r) else 0 := by
  pointwise [k0_pay2]

/-- Where the first input's block begins. -/
theorem off_0 : ∀ t : Fin cfg0.N, cc0_transform_0 (grid0.coords t) 0 = col (512 * t.val) ∧ cc0_transform_0 (grid0.coords t) 1 = 0 :=
  (by decide +kernel : ∀ t : Fin grid0.N, cc0_transform_0 (grid0.coords t) 0 = col (512 * t.val) ∧ cc0_transform_0 (grid0.coords t) 1 = 0)
theorem off_1 : ∀ t : Fin cfg0.N, cc0_transform_1 (grid0.coords t) 0 = 12288 ∧ cc0_transform_1 (grid0.coords t) 1 = 0 :=
  (by decide +kernel : ∀ t : Fin grid0.N, cc0_transform_1 (grid0.coords t) 0 = 12288 ∧ cc0_transform_1 (grid0.coords t) 1 = 0)
theorem idx_2 : ∀ t : Fin cfg0.N, win0_2.index t 0 = 0 ∧ win0_2.index t 1 = t.val :=
  (by decide +kernel : ∀ t : Fin grid0.N, win0_2.index t 0 = 0 ∧ win0_2.index t 1 = t.val)
theorem idx_3 : ∀ t : Fin cfg0.N, win0_3.index t 0 = 0 ∧ win0_3.index t 1 = 0 :=
  (by decide +kernel : ∀ t : Fin grid0.N, win0_3.index t 0 = 0 ∧ win0_3.index t 1 = 0)

theorem col_block (t : Fin cfg0.N) (q : Fin 512) : col (512 * t.val) + q.val = col (512 * t.val + q.val) := by
  unfold col; split <;> split <;> omega

theorem iblk_0 (c : Dev nD) (t : Fin cfg0.N) (q : Fin 512) (r : Fin 2048) (h : col (512 * t.val + q.val) < 16448) :
    (iblk m c 0 t : Vec Ideal S512x2048 .f32) (ix2 q r) = W m c (ix3 0 r ⟨col (512 * t.val + q.val), h⟩) := by
  rw [← V_v1]
  unfold iblk
  rw [View.read_apply]
  show V m c main_v1 _ = _
  congr 1
  funext a
  apply Fin.ext
  match a with
  | ⟨0, _⟩ => show cc0_transform_0 (grid0.coords t) 0 + 1 * q.val = col (512 * t.val + q.val); rw [(off_0 t).1, ← col_block]; omega
  | ⟨1, _⟩ => show cc0_transform_0 (grid0.coords t) 1 + 1 * r.val = r.val; rw [(off_0 t).2]; omega

theorem iblk_1 (c : Dev nD) (t : Fin cfg0.N) (q : Fin 64) (r : Fin 2048) (h : 12288 + q.val < 16448) :
    (iblk m c 1 t : Vec Ideal S64x2048 .f32) (ix2 q r) = W m c (ix3 0 r ⟨12288 + q.val, h⟩) := by
  rw [← V_v1]
  unfold iblk
  rw [View.read_apply]
  show V m c main_v1 _ = _
  congr 1
  funext a
  apply Fin.ext
  match a with
  | ⟨0, _⟩ => show cc0_transform_1 (grid0.coords t) 0 + 1 * q.val = 12288 + q.val; rw [(off_1 t).1]; omega
  | ⟨1, _⟩ => show cc0_transform_1 (grid0.coords t) 1 + 1 * r.val = r.val; rw [(off_1 t).2]; omega

theorem flushed_2 (c : Dev nD) (t : Fin cfg0.N) :
    (dats m 0 c).flushed 2 t = ((cfg0.win 2).blk t).view.read (Elt Ideal) (mainOf (W m c)) := by
  show (cfg0.win 2).cut (grid0.coords t) ((dats m 0 c).after 2 t) = _
  rw [after_2]
  funext j
  rw [View.read_apply]
  have ht : t.val < 32 := Nat.lt_of_lt_of_eq t.isLt N_0
  obtain ⟨r, q, rfl⟩ : ∃ (r : Fin 2048) (q : Fin 512), j = ix2 r q := ⟨j 0, j 1, eq_ix2 j⟩
  show k0_pay1 (iblk m c 0 t) (ix2 r q) = mainOf (W m c) _
  have hc : col (512 * t.val + q.val) < 16448 := col_lt (by omega)
  rw [pay1_apply, iblk_0 m c t q r hc]
  unfold mainOf
  congr 1
  funext a
  apply Fin.ext
  match a with
  | ⟨0, _⟩ => rfl
  | ⟨1, _⟩ => show r.val = win0_2.index t 0 * 2048 + 1 * r.val; rw [(idx_2 t).1]; omega
  | ⟨2, _⟩ => show col (512 * t.val + q.val) = col (win0_2.index t 1 * 512 + 1 * q.val); rw [(idx_2 t).2]; congr 1; omega

theorem final_2 (c : Dev nD) : (dats m 0 c).arrAt 2 cfg0.N = mainOf (W m c) :=
  (dats m 0 c).arrAt_eq_of_cover 2 (mainOf (W m c)) (fun t _ => flushed_2 m c t) fun i => by
    have h0 : (i 0 : Nat) < 2048 := (i 0).isLt
    have h1 : (i 1 : Nat) < 16384 := (i 1).isLt
    have ht : (i 1 : Nat) / 512 < cfg0.N := by rw [show cfg0.N = 32 from N_0]; omega
    refine ⟨⟨(i 1 : Nat) / 512, ht⟩, flush0_2 _, ?_⟩
    show i ∈ ((View.whole main_v2_0).slice (win0_2.rect ⟨(i 1 : Nat) / 512, ht⟩)).set
    rw [View.set_slice_whole, Rect.mem_set_unit]
    have hi := idx_2 ⟨(i 1 : Nat) / 512, ht⟩
    intro a
    match a with
    | ⟨0, _⟩ => show win0_2.index ⟨(i 1 : Nat) / 512, ht⟩ 0 * 2048 ≤ (i 0 : Nat) ∧ (i 0 : Nat) < win0_2.index ⟨(i 1 : Nat) / 512, ht⟩ 0 * 2048 + 2048
                rw [hi.1]; omega
    | ⟨1, _⟩ => show win0_2.index ⟨(i 1 : Nat) / 512, ht⟩ 1 * 512 ≤ (i 1 : Nat) ∧ (i 1 : Nat) < win0_2.index ⟨(i 1 : Nat) / 512, ht⟩ 1 * 512 + 512
                rw [hi.2]; dsimp only; omega

theorem flushed_3 (c : Dev nD) (t : Fin cfg0.N) :
    (dats m 0 c).flushed 3 t = ((cfg0.win 3).blk t).view.read (Elt Ideal) (gateOf (W m c)) := by
  show (cfg0.win 3).cut (grid0.coords t) ((dats m 0 c).after 3 t) = _
  rw [after_3]
  funext j
  rw [View.read_apply]
  obtain ⟨r, q, rfl⟩ : ∃ (r : Fin 2048) (q : Fin 128), j = ix2 r q := ⟨j 0, j 1, eq_ix2 j⟩
  show k0_pay2 (iblk m c 1 t0) (ix2 r q) = gateOf (W m c) _
  rw [show (((cfg0.win 3).blk t).view.emb (ix2 r q) : S2048x128.Idx) = ix2 r q from by
    funext a
    apply Fin.ext
    match a with
    | ⟨0, _⟩ => show win0_3.index t 0 * 2048 + 1 * r.val = r.val; rw [(idx_3 t).1]; omega
    | ⟨1, _⟩ => show win0_3.index t 1 * 128 + 1 * q.val = q.val; rw [(idx_3 t).2]; omega]
  rw [pay2_apply]
  refine Eq.trans ?_ (gateOf_apply (W m c) r q).symm
  by_cases h : q.val < 64
  · rw [dif_pos h, dif_pos h, iblk_1 m c t0 _ r (by dsimp only; omega)]
  · rw [dif_neg h, dif_neg h]

theorem final_3 (c : Dev nD) : (dats m 0 c).arrAt 3 cfg0.N = gateOf (W m c) :=
  (dats m 0 c).arrAt_eq_of_cover 3 (gateOf (W m c)) (fun t _ => flushed_3 m c t) fun i => by
    have h0 : (i 0 : Nat) < 2048 := (i 0).isLt
    have h1 : (i 1 : Nat) < 128 := (i 1).isLt
    have ht : 31 < cfg0.N := by rw [show cfg0.N = 32 from N_0]; omega
    refine ⟨⟨31, ht⟩, (flush0_3 _).mpr rfl, ?_⟩
    show i ∈ ((View.whole main_v2_1).slice (win0_3.rect ⟨31, ht⟩)).set
    rw [View.set_slice_whole, Rect.mem_set_unit]
    have hi := idx_3 ⟨31, ht⟩
    intro a
    match a with
    | ⟨0, _⟩ => show win0_3.index ⟨31, ht⟩ 0 * 2048 ≤ (i 0 : Nat) ∧ (i 0 : Nat) < win0_3.index ⟨31, ht⟩ 0 * 2048 + 2048
                rw [hi.1]; omega
    | ⟨1, _⟩ => show win0_3.index ⟨31, ht⟩ 1 * 128 ≤ (i 1 : Nat) ∧ (i 1 : Nat) < win0_3.index ⟨31, ht⟩ 1 * 128 + 128
                rw [hi.2]; omega

/-- The run read: both results, and the weight unchanged. -/
theorem run : θ_run defs (onTc (τ := τ) (main (F := Ideal))) ⟨m, fun _ => 0, ρ⟩ fun r => ∀ c : Dev nD,
      r.2.mem ((c : Thread nD τ).loc main_v2_0) = mainOf (W m c)
      ∧ r.2.mem ((c : Thread nD τ).loc main_v2_1) = gateOf (W m c)
      ∧ r.2.mem ((c : Thread nD τ).loc main_arg0) = m ((c : Thread nD τ).loc main_arg0) :=
  (θ_run defs _ _).mono (fun _ h c => ⟨((h c).1 2).trans (final_2 m c), ((h c).1 3).trans (final_3 m c),
      ((h c).2 main_arg0 (Pipeline.mem_restRefs_of main_arg0 (by decide) (by decide))).trans (V_main_arg0 m c)⟩)
    (run_main m ρ)

end Cert.Weights

/-! ## The reference -/

namespace Cert.Weights.Ref

open Cert.ReferenceIdeal Cert.ReferenceIdeal.Gen
open Idealize.ShloMosaic Idealize.ShloMosaic.TcCoe Idealize.SL.Sem

/-- The two layouts as the reference takes them: slices of the weight, side by side. -/
theorem main_eq (w : S1x2048x16448.Idx → EReal) (r : Fin 2048) (q : Fin 16384) :
    (concatenate S2048x16384 1 [⟨S2048x12288, (extractStridedSlice S2048x12288 ![0, 0] (truncf (F := Ideal) (φ := .f32) .bf16 (shapeCast _ w shapeCasts_S1x2048x16448_S2048x16448) bitsLt_bf16_f32) slices_S2048x16448_S2048x12288_0_0)⟩, ⟨S2048x4096, (extractStridedSlice S2048x4096 ![0, 12352] (truncf (F := Ideal) (φ := .f32) .bf16 (shapeCast _ w shapeCasts_S1x2048x16448_S2048x16448) bitsLt_bf16_f32) slices_S2048x16448_S2048x4096_0_12352)⟩] concatenates_S2048x12288_S2048x4096_S2048x16384_d1 : S2048x16384.Idx → EReal) (ix2 r q) = mainOf w (ix2 r q) := by
  rw [mainOf_apply]
  pointwise [col]
  by_cases h : q.val < 12288
  · rw [dif_pos h]
    exact congrArg (fun k => w (ix3 0 r k)) (Fin.ext (if_pos h).symm)
  · rw [dif_neg h]
    exact congrArg (fun k => w (ix3 0 r k)) (Fin.ext (Eq.trans (show 12352 + (q.val - 12288) = q.val + 64 by omega) (if_neg h).symm))

theorem gate_eq (w : S1x2048x16448.Idx → EReal) (r : Fin 2048) (q : Fin 128) :
    (concatenate S2048x128 1 [⟨S2048x64, (extractStridedSlice S2048x64 ![0, 12288] (truncf (F := Ideal) (φ := .f32) .bf16 (shapeCast _ w shapeCasts_S1x2048x16448_S2048x16448) bitsLt_bf16_f32) slices_S2048x16448_S2048x64_0_12288)⟩, ⟨S2048x64, (broadcastInDim S2048x64 ![] bcast_S_S2048x64 (constant (F := Ideal) S_ .bf16 0x0000#16))⟩] concatenates_S2048x64_S2048x64_S2048x128_d1 : S2048x128.Idx → EReal) (ix2 r q) = gateOf w (ix2 r q) := by
  rw [gateOf_apply]
  pointwise

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) = mainOf (m ((c : Thread nD τ).loc main_arg0))
      ∧ r.2.mem ((c : Thread nD τ).loc main_v7) = gateOf (m ((c : Thread nD τ).loc main_arg0))
      ∧ r.2.mem ((c : Thread nD τ).loc main_arg0) = m ((c : Thread nD τ).loc main_arg0) :=
  (θ_run defs _ _).mono (fun _ h c => ⟨(h c).1.trans (funext fun i => by
      obtain ⟨r, q, rfl⟩ : ∃ (r : Fin 2048) (q : Fin 16384), i = ix2 r q := ⟨i 0, i 1, eq_ix2 i⟩
      exact main_eq _ r q),
      (h c).2.1.trans (funext fun i => by
      obtain ⟨r, q, rfl⟩ : ∃ (r : Fin 2048) (q : Fin 128), i = ix2 r q := ⟨i 0, i 1, eq_ix2 i⟩
      exact gate_eq _ r q), (h c).2.2⟩)
    (Cert.ReferenceIdeal.Value.run m ρ)

end Cert.Weights.Ref

end
-- ==== Proof.InProj.Run.lean ====
/- The launch of the input-projection call: what each grid point leaves in its buffers and in the carried
   activations, and the run of the whole program with the arrays it ends with named. Written over any interpretation of the floating-point types. -/
module

public import proofs.«01_k».proof.Proof.Gen.InProjIdeal.Frame
public import proofs.«01_k».proof.Proof.Gen.InProjIdeal.Skeleton
public import Idealize.ShloMosaic.Lib.Pipeline.ValueKit
public import Idealize.ShloMosaic.Lib.Pipeline.Value
public import Idealize.ShloMosaic.Lib.Claim
public import Idealize.ShloMosaic.Lib.Pipeline.TableIdle

@[expose] public section

set_option maxRecDepth 16384

noncomputable section

namespace Cert.InProjRun

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's branch is taken at the first column block of a row block. -/
abbrev first (i : grid0.Coords) : Prop := k0_cond1 i = 1#1

theorem first_iff : ∀ t : Fin cfg0.N, first (grid0.coords t) ↔ t.val % 16 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [first, k0_cond1, e0, e1]
    word_cmp
   : ∀ t : Fin grid0.N, first (grid0.coords t) ↔ t.val % 16 = 0)

/-- The scratch buffer holding the modulated activations of a row block. -/
abbrev acts : Memref sig .tc .vmem S1024x2048 .bf16 := Memref.whole (cc0_scratch0)

theorem invariant_eq (c : Dev nD) :
    (Pipeline.ΦA spec0 c : sProp 𝕄)
      = iprop(iprop((∃ d, owns (c : Thread nD τ) acts fullShare d)) ∗ (∃ r, prngReg c r)) := by
  unfold Pipeline.ΦA; rw [scopedRest0_eq]; simp only [acts, owns_whole]; try rfl

set_option maxHeartbeats 2000000 in
/-- The body at the first column block: the activations are computed and kept, both outputs are stored whole. -/
theorem body_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x2048 .bf16) (harg10 : arg10.IsWhole) (hc0 : first i)
    (x0 : Vec F S1024x2048 .f32) (x1 : Vec F S1x2048 .f32) (x2 : Vec F S1x1x2048 .f32) (x3 : Vec F S1x1x2048 .f32) (x4 : Vec F S2048x1024 .bf16) (x5 : Vec F S2048x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 (k0_pay2 x0 x1 x3 x2) x4) ∗ owns (c : Thread nD τ) arg9 fullShare (k0_pay3 x0 x1 x3 x2 x5) ∗ owns (c : Thread nD τ) arg10 fullShare (k0_pay2 x0 x1 x3 x2)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS⟩, Hk⟩
  subst hf0 hf1 hf2 hf3 hf4 hf5
  have e0 : View.readAt (Elt F) arg2.view (Rect.unit ![0, 0] S1024x2048.size inb_S1024x2048_S1024x2048_0_0).toLoadRect f0 = View.read (Elt F) arg2.view f0 := View.ld_unit_lit _ _ (by decide)
  have e1 : View.readAt (Elt F) arg3.view (Rect.unit ![0, 0] S1x2048.size inb_S1x2048_S1x2048_0_0).toLoadRect f1 = View.read (Elt F) arg3.view f1 := View.ld_unit_lit _ _ (by decide)
  have e2 : View.readAt (Elt F) arg4.view (Rect.unit ![0, 0, 0] S1x1x2048.size inb_S1x1x2048_S1x1x2048_0_0_0).toLoadRect f2 = View.read (Elt F) arg4.view f2 := View.ld_unit_lit _ _ (by decide)
  have e3 : View.readAt (Elt F) arg5.view (Rect.unit ![0, 0, 0] S1x1x2048.size inb_S1x1x2048_S1x1x2048_0_0_0).toLoadRect f3 = View.read (Elt F) arg5.view f3 := View.ld_unit_lit _ _ (by decide)
  have e5 : View.readAt (Elt F) arg7.view (Rect.unit ![0, 0] S2048x128.size inb_S2048x128_S2048x128_0_0).toLoadRect f5 = View.read (Elt F) arg7.view f5 := View.ld_unit_lit _ _ (by decide)
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    refine (View.read_writes_eq_canon _ _ _ (View.cover_of_tiled _ S1024x1024.size (by rfl))).trans ?_
    rw [View.canon_cons_unit_lit _ _ _ (by decide)]
    unfold body_first.sl.v3 body_first.sl.HS_1
    refine congrArg₂ k0_pay4 ?_ (View.ld_unit_lit _ _ (by decide))
    exact View.readCov_unit_lit _ _ _ (by decide)
  isplitl [H7]
  · iexists _; isplitr; swap; · iexact H7
    ipureintro
    refine (View.read_writes_eq_canon _ _ _ (View.cover_of_tiled _ S1024x128.size (by rfl))).trans ?_
    rw [View.canon_cons_unit_lit _ _ _ (by decide)]
  iexists _; isplitr; swap; · iexact HS
  ipureintro
  refine (View.read_writes_eq_canon _ _ _ (View.cover_of_tiled _ S1024x2048.size (by rfl))).trans ?_
  unfold body_first.sl.HS_1
  rw [View.canon_cons_unit_lit _ _ _ (by decide)]

set_option maxHeartbeats 1000000 in
/-- The body at a later column block: the kept activations meet the next weights; the second output is left as it was. -/
theorem body_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x2048 .bf16) (harg10 : arg10.IsWhole) (hc0 : ¬ first i)
    (h : Vec F S1024x2048 .bf16) (x4 : Vec F S2048x1024 .bf16) (E : Set ℕ) (K : PUnit → sProp 𝕄) :
    iprop(owns (c : Thread nD τ) arg6 fullShare x4 ∗ (∃ d, owns (c : Thread nD τ) arg8 fullShare d) ∗ owns (c : Thread nD τ) arg10 fullShare h
        ∗ (iprop(owns (c : Thread nD τ) arg6 fullShare x4 ∗ owns (c : Thread nD τ) arg8 fullShare (k0_pay4 h x4) ∗ owns (c : Thread nD τ) arg10 fullShare h) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f4, %hf4, H4⟩, ⟨%d6, %f6, -, H6⟩, ⟨%fs, %hfs, HS⟩, Hk⟩
  subst hf4 hfs
  sl_exec (disch := first | sl_exact hc0)
  sl_step
  iapply Hk
  isplitl [H4]
  · iexists f4; isplitr; · ipureintro; rfl
    iexact H4
  isplitl [H6]
  · iexists _; isplitr; swap; · iexact H6
    ipureintro
    refine (View.read_writes_eq_canon _ _ _ (View.cover_of_tiled _ S1024x1024.size (by rfl))).trans ?_
    rw [View.canon_cons_unit_lit _ _ _ (by decide)]
    exact congrArg₂ k0_pay4 (View.ld_unit_lit _ _ (by decide)) (View.ld_unit_lit _ _ (by decide))
  iexists fs; isplitr; · ipureintro; rfl
  iexact HS

/-- The first point of the row block that point `t` is in. -/
abbrev start (t : Fin cfg0.N) : Fin cfg0.N := ⟨t.val / 16 * 16, Nat.lt_of_le_of_lt (Nat.div_mul_le_self _ _) t.isLt⟩

theorem start_of_first (t : Fin cfg0.N) (h : t.val % 16 = 0) : start t = t := Fin.ext (by
  show t.val / 16 * 16 = t.val; omega)

/-- The modulated activations of the row block that point `t` is in. -/
def actsOf (c : Dev nD) (t : Fin cfg0.N) : Vec F S1024x2048 .bf16 :=
  k0_pay2 (iblk m c 0 (start t)) (iblk m c 1 (start t)) (iblk m c 3 (start t)) (iblk m c 2 (start t))

/-- The row block's second output. -/
def sideOf (c : Dev nD) (t : Fin cfg0.N) : Vec F S1024x128 .f32 :=
  k0_pay3 (iblk m c 0 (start t)) (iblk m c 1 (start t)) (iblk m c 3 (start t)) (iblk m c 2 (start t)) (iblk m c 5 (start t))

theorem actsOf_congr (c : Dev nD) (t u : Fin cfg0.N) (h : t.val / 16 = u.val / 16) : actsOf m c t = actsOf m c u := by
  unfold actsOf; rw [show start t = start u from Fin.ext (by show t.val / 16 * 16 = u.val / 16 * 16; rw [h])]
theorem sideOf_congr (c : Dev nD) (t u : Fin cfg0.N) (h : t.val / 16 = u.val / 16) : sideOf m c t = sideOf m c u := by
  unfold sideOf; rw [show start t = start u from Fin.ext (by show t.val / 16 * 16 = u.val / 16 * 16; rw [h])]

/-- What the body holds beside its windows: before the first point anything in the scratch; after point `n` the
    activations of that point's row block. -/
def held (c : Dev nD) : (n : ℕ) → n ≤ cfg0.N → sProp 𝕄
  | 0, _ => Pipeline.ΦA spec0 c
  | n + 1, hn => iprop(owns (c : Thread nD τ) acts fullShare (actsOf m c ⟨n, hn⟩) ∗ (∃ r, prngReg c r))

theorem held_pos (c : Dev nD) (t : Fin cfg0.N) (hz : t.val ≠ 0) :
    held m c t.val (Nat.le_of_lt t.isLt) = iprop(owns (c : Thread nD τ) acts fullShare (actsOf m c ⟨t.val - 1, by omega⟩) ∗ (∃ r, prngReg c r)) := by
  obtain ⟨n, hn⟩ := t
  cases n with
  | zero => exact absurd rfl hz
  | succ n => rfl

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (actsOf m c t) (iblk m c 4 t)
    | ⟨7, _⟩ => sideOf m c t
  Φ t := held m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = k0_pay4 (actsOf m c t) (iblk m c 4 t) := by dsimp only [dats]
theorem after_7 (c : Dev nD) (t : Fin cfg0.N) : (dats m 0 c).after 7 t = sideOf m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem idle_7 : ∀ t : Fin cfg0.N, cfg0.idle 7 (grid0.coords t) = decide (t.val % 16 ≠ 0) :=
  (by decide +kernel : ∀ t : Fin grid0.N, cfg0.idle 7 (grid0.coords t) = decide (t.val % 16 ≠ 0))

theorem live_6 : ∀ t : Fin cfg0.N, cfg0.idle 6 (grid0.coords t) = false :=
  (by decide +kernel : ∀ t : Fin grid0.N, cfg0.idle 6 (grid0.coords t) = false)

/-- The second output's buffer is unwritten at the start of each row block only. -/
theorem fresh_7 (n : ℕ) (h : n ≤ cfg0.N) : cfg0.fresh 7 n = decide (n % 16 = 0) :=
  cfg0.fresh_tab 7 (fun n => decide (n % 16 = 0)) rfl
    (fun t => by
      have hfl := flush0_7 t
      have e : cfg0.idle 7 (cfg0.grid.coords t) = decide (t.val % 16 ≠ 0) := idle_7 t
      rw [e]
      by_cases h15 : t.val % 16 = 15
      · rw [hfl.mpr h15]; simp; omega
      · have : (cfg0.win 7).flush t = false := by
          rw [Bool.eq_false_iff]; exact fun hh => h15 (hfl.mp hh)
        rw [this]
        by_cases h0 : t.val % 16 = 0
        · simp [h0]; omega
        · simp [h0]; omega) n h

/-- At a later column block the second output's buffer is found holding the row block's. -/
theorem before_7 (c : Dev nD) (t : Fin cfg0.N) (h : t.val % 16 ≠ 0) (d) :
    (dats m 0 c).before 7 t d = sideOf m c t := by
  rw [(dats m 0 c).before_out_traj 7 rfl (fun _ _ => rfl) (fun t hz hi _ => by
      have hm : t.val % 16 ≠ 0 := by
        have e : cfg0.idle 7 (cfg0.grid.coords t) = decide (t.val % 16 ≠ 0) := idle_7 t
        rw [e] at hi; exact of_decide_eq_true hi
      rw [after_7, after_7]
      exact sideOf_congr m c _ _ (by show t.val / 16 = (t.val - 1) / 16; omega)) t.val t rfl d,
    fresh_7 t.val (Nat.le_of_lt t.isLt), after_7, decide_eq_false h, if_neg Bool.false_ne_true]
  exact sideOf_congr m c _ _ (by show (t.val - 1) / 16 = t.val / 16; omega)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t
    ∗ (dats m 0 c).leavesExact 4 t ∗ (dats m 0 c).leavesExact 5 t
    ∗ (dats m 0 c).leavesExact 6 t ∗ (dats m 0 c).leavesExact 7 t)

/-- At a later column block the second output's buffer is what the point has to leave. -/
theorem keep_7 (c : Dev nD) (t : Fin cfg0.N) (h : t.val % 16 ≠ 0) :
    owns (c : Thread nD τ) (st0_7 t) fullShare (sideOf m c t) ⊢ (dats m 0 c).leavesExact 7 t := by
  cases hf : (cfg0.win 7).flush t
  · rw [(dats m 0 c).leavesExact_idle 7 t ((idle_7 t).trans (decide_eq_true h)) hf]
    iintro H
    iexists sideOf m c t
    rw [before_7 m c t h]
    iexact H
  · rw [show (dats m 0 c).leavesExact 7 t = owns (c : Thread nD τ) (st0_7 t) fullShare ((dats m 0 c).after 7 t) from by
      unfold Dat.leavesExact; rw [hf]; cases cfg0.idle 7 (cfg0.grid.coords t) <;> rfl, after_7]

/-- Before the first column block of a row block the scratch holds something. -/
theorem held_some (c : Dev nD) (t : Fin cfg0.N) :
    held m c t.val (Nat.le_of_lt t.isLt) ⊢ iprop((∃ d, owns (c : Thread nD τ) acts fullShare d) ∗ (∃ r, prngReg c r)) := by
  by_cases hz : t.val = 0
  · obtain ⟨n, hn⟩ := t
    subst hz
    show Pipeline.ΦA spec0 c ⊢ _
    rw [invariant_eq]
  · rw [held_pos m c t hz]
    iintro ⟨HS, Hg⟩
    isplitl [HS]
    · iexists _; iexact HS
    iexact Hg

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = iprop(owns (c : Thread nD τ) acts fullShare (actsOf m c t) ∗ (∃ r, prngReg c r)) from rfl,
    show (dats m 0 c).Φ t.castSucc = held m c t.val (Nat.le_of_lt t.isLt) from by
      dsimp only [dats]; exact Pipeline.Dat.Φ_castSucc (held m c) t,
    show (dats m 0 c).owesAt () t.succ = (dats m 0 c).owesAt () t.castSucc from rfl,
    show (dats m 0 c).leavesExact 0 t = owns (c : Thread nD τ) (st0_0 t) fullShare ((dats m 0 c).after 0 t) from rfl, after_0,
    show (dats m 0 c).leavesExact 1 t = owns (c : Thread nD τ) (st0_1 t) fullShare ((dats m 0 c).after 1 t) from rfl, after_1,
    show (dats m 0 c).leavesExact 2 t = owns (c : Thread nD τ) (st0_2 t) fullShare ((dats m 0 c).after 2 t) from rfl, after_2,
    show (dats m 0 c).leavesExact 3 t = owns (c : Thread nD τ) (st0_3 t) fullShare ((dats m 0 c).after 3 t) from rfl, after_3,
    show (dats m 0 c).leavesExact 4 t = owns (c : Thread nD τ) (st0_4 t) fullShare ((dats m 0 c).after 4 t) from rfl, after_4,
    show (dats m 0 c).leavesExact 5 t = owns (c : Thread nD τ) (st0_5 t) fullShare ((dats m 0 c).after 5 t) from rfl, after_5,
    show (dats m 0 c).leavesExact 6 t = owns (c : Thread nD τ) (st0_6 t) fullShare ((dats m 0 c).after 6 t) from by
      unfold Dat.leavesExact; rw [live_6 t], after_6]
  by_cases h0 : t.val % 16 = 0
  · rw [show (dats m 0 c).leavesExact 7 t = owns (c : Thread nD τ) (st0_7 t) fullShare ((dats m 0 c).after 7 t) from by
      unfold Dat.leavesExact; rw [idle_7 t, decide_eq_false (not_not.mpr h0)], after_7]
    unfold actsOf sideOf
    rw [start_of_first t h0]
    refine (sep_mono_left (held_some m c t)).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t) _ _ _ _ _ _ _ _ _ _ _ _ _ _ _ _ _ _ ((first_iff t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [before_7 m c t h0]
    rw [held_pos m c t (by omega), actsOf_congr m c ⟨t.val - 1, by omega⟩ t (by show (t.val - 1) / 16 = t.val / 16; omega)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) _ _ _ _ _ _ _ _ _ _ _ _ _ _ _ _ _ _ (fun h => h0 ((first_iff t).mp h)) (actsOf m c t) (iblk m c 4 t) Set.univ _)
    isplitl [H4]; · iexact H4
    isplitl [H6]; · iexists _; iexact H6
    isplitl [HS]; · iexact HS
    iintro ⟨H4, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply keep_7 m c t h0
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem held_in (c : Dev nD) : Pipeline.ΦA spec0 c ⊢ (dats m 0 c).Φ 0 := by
  rw [show (dats m 0 c).Φ 0 = Pipeline.ΦA spec0 c from rfl]

theorem held_out (c : Dev nD) : (dats m 0 c).Φ (Fin.last cfg0.N) ⊢ Pipeline.ΦA spec0 c := by
  rw [show (dats m 0 c).Φ (Fin.last cfg0.N) = iprop(owns (c : Thread nD τ) acts fullShare (actsOf m c ⟨127, by decide⟩) ∗ (∃ r, prngReg c r)) from rfl,
    invariant_eq]
  iintro ⟨HS, Hg⟩
  isplitl [HS]
  · iexists _; iexact HS
  iexact Hg

set_option backward.isDefEq.respectTransparency.types false in
/-- The run: every output array at what the pipeline writes back, every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := held_in m) (hout := held_out m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.InProjRun

end
-- ==== Proof.InProj.Value.lean ====
/- What the input projection computes: its two result arrays as functions of the arguments, and the reference's. -/
module

public import proofs.«01_k».proof.Defs
public import proofs.«01_k».proof.Proof.InProj.Run
public import proofs.«01_k».proof.Proof.Gen.InProjRefIdeal.Run
public import Idealize.ShloMosaic.Lib.Pointwise

@[expose] public section

set_option maxRecDepth 16384

noncomputable section

namespace Cert.InProjRun

open Cert.InProjIdeal Cert.InProjIdeal.Gen
open Idealize.ShloMosaic Idealize.ShloMosaic.TcCoe Idealize.SL.Sem
open Idealize.ShloMosaic.Pipeline (Dat)

/-- A number scaled by the root mean square of its row `x`, then by a gain, then modulated. -/
def normed (x : Fin 2048 → EReal) (k : Fin 2048) (gain scale shift : EReal) : EReal :=
  x k * Ideal.rsqrt (Ideal.div (∑ j, x j * x j) (Ideal.ofBits FTy.f32 1157627904#32) + Ideal.ofBits FTy.f32 897988541#32) * gain
    * (1 + scale) + shift

/-- The modulated, normalised activation of token `l` of sequence `b`, at feature `k`. -/
def modulated (x : S4x2048x2048.Idx → EReal) (g : S1x2048.Idx → EReal) (md : S8x1x12288.Idx → EReal) (b : Fin 4) (l k : Fin 2048) : EReal :=
  normed (fun j => x (ix3 b l j)) k (g (ix2 0 k)) (md (ix3 ⟨b.val, by omega⟩ 0 ⟨2048 + k.val, by omega⟩))
    (md (ix3 ⟨b.val, by omega⟩ 0 ⟨k.val, by omega⟩))

/-- The activations of the flattened tokens times a weight of `n` columns. -/
def projected {n : ℕ} (x : S4x2048x2048.Idx → EReal) (g : S1x2048.Idx → EReal) (md : S8x1x12288.Idx → EReal)
    (w : Shape.Idx ⟨2, ![2048, n]⟩ → EReal) : Shape.Idx ⟨2, ![8192, n]⟩ → EReal := fun i =>
  have h : (i 0).val < 8192 := (i 0).isLt
  ∑ k : Fin 2048, modulated x g md ⟨(i 0).val / 2048, by omega⟩ ⟨(i 0).val % 2048, by omega⟩ k * w (ix2 k (i 1))

theorem projected_apply {n : ℕ} (x : S4x2048x2048.Idx → EReal) (g : S1x2048.Idx → EReal) (md : S8x1x12288.Idx → EReal)
    (w : Shape.Idx ⟨2, ![2048, n]⟩ → EReal) (r : Fin 8192) (q : Fin n) :
    projected x g md w (ix2 r q) = ∑ k : Fin 2048, modulated x g md ⟨r.val / 2048, by omega⟩ ⟨r.val % 2048, by omega⟩ k * w (ix2 k q) := rfl

theorem pay2_apply (x : Vec Ideal S1024x2048 .f32) (g : Vec Ideal S1x2048 .f32) (sc sh : Vec Ideal S1x1x2048 .f32) (r : Fin 1024) (k : Fin 2048) :
    k0_pay2 x g sc sh (ix2 r k) = normed (fun j => x (ix2 r j)) k (g (ix2 0 k)) (sc (ix3 0 0 k)) (sh (ix3 0 0 k)) := by
  pointwise [k0_pay2, k0_pay1, normed]

theorem pay4_apply (h : Vec Ideal S1024x2048 .bf16) (w : Vec Ideal S2048x1024 .bf16) (r : Fin 1024) (q : Fin 1024) :
    k0_pay4 h w (ix2 r q) = ∑ k : Fin 2048, h (ix2 r k) * w (ix2 k q) := by
  pointwise [k0_pay4]

theorem pay3_apply (x : Vec Ideal S1024x2048 .f32) (g : Vec Ideal S1x2048 .f32) (sc sh : Vec Ideal S1x1x2048 .f32) (w : Vec Ideal S2048x128 .bf16) (r : Fin 1024) (q : Fin 128) :
    k0_pay3 x g sc sh w (ix2 r q) = ∑ k : Fin 2048, k0_pay2 x g sc sh (ix2 r k) * w (ix2 k q) := by
  pointwise [k0_pay3, k0_pay2]

variable (m : (ℓ : Loc nD τ sig) → Buf (Elt Ideal) ℓ) (ρ : Dev nD → PrngReg)

/-- The arguments as launched. -/
abbrev X (c : Dev nD) : S4x2048x2048.Idx → EReal := m ((c : Thread nD τ).loc main_arg0)
abbrev Gain (c : Dev nD) : S1x2048.Idx → EReal := m ((c : Thread nD τ).loc main_arg1)
abbrev Mods (c : Dev nD) : S8x1x12288.Idx → EReal := m ((c : Thread nD τ).loc main_arg2)
abbrev WMain (c : Dev nD) : S2048x16384.Idx → EReal := m ((c : Thread nD τ).loc main_arg3)
abbrev WSide (c : Dev nD) : S2048x128.Idx → EReal := m ((c : Thread nD τ).loc main_arg4)

/-- The tokens of all sequences, one after another. -/
theorem V_v0 (c : Dev nD) (r : Fin 8192) (k : Fin 2048) :
    V m c main_v0 (ix2 r k) = X m c (ix3 ⟨r.val / 2048, by omega⟩ ⟨r.val % 2048, by omega⟩ k) := by
  have e : V m c main_v0 = shapeCast S8192x2048 (X m c) shapeCasts_S4x2048x2048_S8192x2048 := by
    unfold V; after_results <;> rfl
  rw [e]
  pointwise

theorem V_v2 (c : Dev nD) (k : Fin 2048) : V m c main_v2 (ix2 0 k) = Gain m c (ix2 0 k) := by
  have e : V m c main_v2 = shapeCast S1x2048 (shapeCast S2048 (Gain m c) shapeCasts_S1x2048_S2048) shapeCasts_S2048_S1x2048 := by
    unfold V; after_results <;> rfl
  rw [e]
  pointwise

/-- Where each window's block begins. -/
theorem idx_0 : ∀ t : Fin cfg0.N, win0_0.index t 0 = t.val / 16 ∧ win0_0.index t 1 = 0 :=
  (by decide +kernel : ∀ t : Fin grid0.N, win0_0.index t 0 = t.val / 16 ∧ win0_0.index t 1 = 0)
theorem idx_1 : ∀ t : Fin cfg0.N, win0_1.index t 0 = 0 ∧ win0_1.index t 1 = 0 :=
  (by decide +kernel : ∀ t : Fin grid0.N, win0_1.index t 0 = 0 ∧ win0_1.index t 1 = 0)
theorem idx_2 : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)
theorem idx_3 : ∀ t : Fin cfg0.N, win0_3.index t 0 = t.val / 32 ∧ win0_3.index t 1 = 0 ∧ win0_3.index t 2 = 1 :=
  (by decide +kernel : ∀ t : Fin grid0.N, win0_3.index t 0 = t.val / 32 ∧ win0_3.index t 1 = 0 ∧ win0_3.index t 2 = 1)
theorem idx_4 : ∀ t : Fin cfg0.N, win0_4.index t 0 = 0 ∧ win0_4.index t 1 = t.val % 16 :=
  (by decide +kernel : ∀ t : Fin grid0.N, win0_4.index t 0 = 0 ∧ win0_4.index t 1 = t.val % 16)
theorem idx_5 : ∀ t : Fin cfg0.N, win0_5.index t 0 = 0 ∧ win0_5.index t 1 = 0 :=
  (by decide +kernel : ∀ t : Fin grid0.N, win0_5.index t 0 = 0 ∧ win0_5.index t 1 = 0)
theorem idx_6 : ∀ t : Fin cfg0.N, win0_6.index t 0 = t.val / 16 ∧ win0_6.index t 1 = t.val % 16 :=
  (by decide +kernel : ∀ t : Fin grid0.N, win0_6.index t 0 = t.val / 16 ∧ win0_6.index t 1 = t.val % 16)
theorem idx_7 : ∀ t : Fin cfg0.N, win0_7.index t 0 = t.val / 16 ∧ win0_7.index t 1 = 0 :=
  (by decide +kernel : ∀ t : Fin grid0.N, win0_7.index t 0 = t.val / 16 ∧ win0_7.index t 1 = 0)

theorem lt_N (t : Fin cfg0.N) : t.val < 128 := Nat.lt_of_lt_of_eq t.isLt N_0

theorem iblk_0 (c : Dev nD) (t : Fin cfg0.N) (r : Fin 1024) (k : Fin 2048) (h : 1024 * (t.val / 16) + r.val < 8192) :
    (iblk m c 0 t : Vec Ideal S1024x2048 .f32) (ix2 r k) = V m c main_v0 (ix2 ⟨1024 * (t.val / 16) + r.val, h⟩ k) := by
  unfold iblk
  rw [View.read_apply]
  show V m c main_v0 _ = _
  congr 1
  funext a
  apply Fin.ext
  match a with
  | ⟨0, _⟩ => show win0_0.index t 0 * 1024 + 1 * r.val = 1024 * (t.val / 16) + r.val; rw [(idx_0 t).1]; omega
  | ⟨1, _⟩ => show win0_0.index t 1 * 2048 + 1 * k.val = k.val; rw [(idx_0 t).2]; omega

theorem iblk_1 (c : Dev nD) (t : Fin cfg0.N) (k : Fin 2048) :
    (iblk m c 1 t : Vec Ideal S1x2048 .f32) (ix2 0 k) = Gain m c (ix2 0 k) := by
  rw [← V_v2]
  unfold iblk
  rw [View.read_apply]
  show V m c main_v2 _ = _
  congr 1
  funext a
  apply Fin.ext
  match a with
  | ⟨0, _⟩ => show win0_1.index t 0 * 1 + 1 * 0 = 0; rw [(idx_1 t).1]
  | ⟨1, _⟩ => show win0_1.index t 1 * 2048 + 1 * k.val = k.val; rw [(idx_1 t).2]; omega

theorem iblk_2 (c : Dev nD) (t : Fin cfg0.N) (k : Fin 2048) (h : t.val / 32 < 8) (hk : k.val < 12288) :
    (iblk m c 2 t : Vec Ideal S1x1x2048 .f32) (ix3 0 0 k) = Mods m c (ix3 ⟨t.val / 32, h⟩ 0 ⟨k.val, hk⟩) := by
  rw [show Mods m c = V m c main_arg2 from (V_main_arg2 m c).symm]
  unfold iblk
  rw [View.read_apply]
  show V m c main_arg2 _ = _
  congr 1
  funext a
  apply Fin.ext
  match a with
  | ⟨0, _⟩ => show win0_2.index t 0 * 1 + 1 * 0 = t.val / 32; rw [(idx_2 t).1]; omega
  | ⟨1, _⟩ => show win0_2.index t 1 * 1 + 1 * 0 = 0; rw [(idx_2 t).2.1]
  | ⟨2, _⟩ => show win0_2.index t 2 * 2048 + 1 * k.val = k.val; rw [(idx_2 t).2.2]; omega

theorem iblk_3 (c : Dev nD) (t : Fin cfg0.N) (k : Fin 2048) (h : t.val / 32 < 8) (hk : 2048 + k.val < 12288) :
    (iblk m c 3 t : Vec Ideal S1x1x2048 .f32) (ix3 0 0 k) = Mods m c (ix3 ⟨t.val / 32, h⟩ 0 ⟨2048 + k.val, hk⟩) := by
  rw [show Mods m c = V m c main_arg2 from (V_main_arg2 m c).symm]
  unfold iblk
  rw [View.read_apply]
  show V m c main_arg2 _ = _
  congr 1
  funext a
  apply Fin.ext
  match a with
  | ⟨0, _⟩ => show win0_3.index t 0 * 1 + 1 * 0 = t.val / 32; rw [(idx_3 t).1]; omega
  | ⟨1, _⟩ => show win0_3.index t 1 * 1 + 1 * 0 = 0; rw [(idx_3 t).2.1]
  | ⟨2, _⟩ => show win0_3.index t 2 * 2048 + 1 * k.val = 2048 + k.val; rw [(idx_3 t).2.2]; omega

theorem iblk_4 (c : Dev nD) (t : Fin cfg0.N) (k : Fin 2048) (q : Fin 1024) (h : 1024 * (t.val % 16) + q.val < 16384) :
    (iblk m c 4 t : Vec Ideal S2048x1024 .bf16) (ix2 k q) = WMain m c (ix2 k ⟨1024 * (t.val % 16) + q.val, h⟩) := by
  rw [show WMain m c = V m c main_arg3 from (V_main_arg3 m c).symm]
  unfold iblk
  rw [View.read_apply]
  show V m c main_arg3 _ = _
  congr 1
  funext a
  apply Fin.ext
  match a with
  | ⟨0, _⟩ => show win0_4.index t 0 * 2048 + 1 * k.val = k.val; rw [(idx_4 t).1]; omega
  | ⟨1, _⟩ => show win0_4.index t 1 * 1024 + 1 * q.val = 1024 * (t.val % 16) + q.val; rw [(idx_4 t).2]; omega

theorem iblk_5 (c : Dev nD) (t : Fin cfg0.N) (k : Fin 2048) (q : Fin 128) :
    (iblk m c 5 t : Vec Ideal S2048x128 .bf16) (ix2 k q) = WSide m c (ix2 k q) := by
  rw [show WSide m c = V m c main_arg4 from (V_main_arg4 m c).symm]
  unfold iblk
  rw [View.read_apply]
  show V m c main_arg4 _ = _
  congr 1
  funext a
  apply Fin.ext
  match a with
  | ⟨0, _⟩ => show win0_5.index t 0 * 2048 + 1 * k.val = k.val; rw [(idx_5 t).1]; omega
  | ⟨1, _⟩ => show win0_5.index t 1 * 128 + 1 * q.val = q.val; rw [(idx_5 t).2]; omega

/-- The kept activations are the modulated ones of the row block's tokens. -/
theorem actsOf_apply (c : Dev nD) (t : Fin cfg0.N) (r : Fin 1024) (k : Fin 2048)
    (hb : (1024 * (t.val / 16) + r.val) / 2048 < 4) (hl : (1024 * (t.val / 16) + r.val) % 2048 < 2048) :
    actsOf m c t (ix2 r k) = modulated (X m c) (Gain m c) (Mods m c) ⟨_, hb⟩ ⟨_, hl⟩ k := by
  have ht := lt_N t
  have hs : (start t).val = t.val / 16 * 16 := rfl
  have e0 : (start t).val / 16 = t.val / 16 := by omega
  have e1 : (start t).val / 32 = (1024 * (t.val / 16) + r.val) / 2048 := by omega
  unfold actsOf modulated
  rw [pay2_apply, iblk_1, iblk_2 m c (start t) k (by omega) (by omega), iblk_3 m c (start t) k (by omega) (by omega)]
  simp only [e1]
  congr 1
  funext j
  rw [iblk_0 m c (start t) r j (by omega), V_v0]
  simp only [e0]

theorem flushed_6 (c : Dev nD) (t : Fin cfg0.N) :
    (dats m 0 c).flushed 6 t = ((cfg0.win 6).blk t).view.read (Elt Ideal) (projected (X m c) (Gain m c) (Mods m c) (WMain m c)) := by
  show (cfg0.win 6).cut (grid0.coords t) ((dats m 0 c).after 6 t) = _
  rw [after_6]
  funext j
  rw [View.read_apply]
  have ht := lt_N t
  obtain ⟨r, q, rfl⟩ : ∃ (r : Fin 1024) (q : Fin 1024), j = ix2 r q := ⟨j 0, j 1, eq_ix2 j⟩
  have hr : 1024 * (t.val / 16) + r.val < 8192 := by omega
  have hq : 1024 * (t.val % 16) + q.val < 16384 := by omega
  show k0_pay4 (actsOf m c t) (iblk m c 4 t) (ix2 r q) = _
  rw [show (((cfg0.win 6).blk t).view.emb (ix2 r q) : S8192x16384.Idx) = ix2 ⟨1024 * (t.val / 16) + r.val, hr⟩ ⟨1024 * (t.val % 16) + q.val, hq⟩ from by
    funext a
    apply Fin.ext
    match a with
    | ⟨0, _⟩ => show win0_6.index t 0 * 1024 + 1 * r.val = 1024 * (t.val / 16) + r.val; rw [(idx_6 t).1]; omega
    | ⟨1, _⟩ => show win0_6.index t 1 * 1024 + 1 * q.val = 1024 * (t.val % 16) + q.val; rw [(idx_6 t).2]; omega]
  rw [pay4_apply]
  refine Eq.trans ?_ (projected_apply _ _ _ _ _ _).symm
  refine Finset.sum_congr rfl fun k _ => ?_
  rw [iblk_4 m c t k q hq, actsOf_apply m c t r k (by omega) (by omega)]

theorem final_6 (c : Dev nD) : (dats m 0 c).arrAt 6 cfg0.N = projected (X m c) (Gain m c) (Mods m c) (WMain m c) :=
  (dats m 0 c).arrAt_eq_of_cover 6 _ (fun t _ => flushed_6 m c t) fun i => by
    have h0 : (i 0 : Nat) < 8192 := (i 0).isLt
    have h1 : (i 1 : Nat) < 16384 := (i 1).isLt
    have ht : 16 * ((i 0 : Nat) / 1024) + (i 1 : Nat) / 1024 < cfg0.N := by rw [show cfg0.N = 128 from N_0]; omega
    refine ⟨⟨16 * ((i 0 : Nat) / 1024) + (i 1 : Nat) / 1024, ht⟩, flush0_6 _, ?_⟩
    show i ∈ ((View.whole main_v3_0).slice (win0_6.rect ⟨16 * ((i 0 : Nat) / 1024) + (i 1 : Nat) / 1024, ht⟩)).set
    rw [View.set_slice_whole, Rect.mem_set_unit]
    have hi := idx_6 ⟨16 * ((i 0 : Nat) / 1024) + (i 1 : Nat) / 1024, ht⟩
    dsimp only at hi
    intro a
    match a with
    | ⟨0, _⟩ => show win0_6.index ⟨_, ht⟩ 0 * 1024 ≤ (i 0 : Nat) ∧ (i 0 : Nat) < win0_6.index ⟨_, ht⟩ 0 * 1024 + 1024
                rw [hi.1]; omega
    | ⟨1, _⟩ => show win0_6.index ⟨_, ht⟩ 1 * 1024 ≤ (i 1 : Nat) ∧ (i 1 : Nat) < win0_6.index ⟨_, ht⟩ 1 * 1024 + 1024
                rw [hi.2]; omega

theorem flushed_7 (c : Dev nD) (t : Fin cfg0.N) :
    (dats m 0 c).flushed 7 t = ((cfg0.win 7).blk t).view.read (Elt Ideal) (projected (X m c) (Gain m c) (Mods m c) (WSide m c)) := by
  show (cfg0.win 7).cut (grid0.coords t) ((dats m 0 c).after 7 t) = _
  rw [after_7]
  funext j
  rw [View.read_apply]
  have ht := lt_N t
  obtain ⟨r, q, rfl⟩ : ∃ (r : Fin 1024) (q : Fin 128), j = ix2 r q := ⟨j 0, j 1, eq_ix2 j⟩
  have hr : 1024 * (t.val / 16) + r.val < 8192 := by omega
  show sideOf m c t (ix2 r q) = _
  rw [show (((cfg0.win 7).blk t).view.emb (ix2 r q) : S8192x128.Idx) = ix2 ⟨1024 * (t.val / 16) + r.val, hr⟩ q from by
    funext a
    apply Fin.ext
    match a with
    | ⟨0, _⟩ => show win0_7.index t 0 * 1024 + 1 * r.val = 1024 * (t.val / 16) + r.val; rw [(idx_7 t).1]; omega
    | ⟨1, _⟩ => show win0_7.index t 1 * 128 + 1 * q.val = q.val; rw [(idx_7 t).2]; omega]
  unfold sideOf
  rw [pay3_apply]
  refine Eq.trans ?_ (projected_apply _ _ _ _ _ _).symm
  refine Finset.sum_congr rfl fun k _ => ?_
  rw [iblk_5]
  exact congrArg (· * WSide m c (ix2 k q)) (actsOf_apply m c t r k (by omega) (by omega))

theorem final_7 (c : Dev nD) : (dats m 0 c).arrAt 7 cfg0.N = projected (X m c) (Gain m c) (Mods m c) (WSide m c) :=
  (dats m 0 c).arrAt_eq_of_cover 7 _ (fun t _ => flushed_7 m c t) fun i => by
    have h0 : (i 0 : Nat) < 8192 := (i 0).isLt
    have h1 : (i 1 : Nat) < 128 := (i 1).isLt
    have ht : 16 * ((i 0 : Nat) / 1024) + 15 < cfg0.N := by rw [show cfg0.N = 128 from N_0]; omega
    refine ⟨⟨16 * ((i 0 : Nat) / 1024) + 15, ht⟩, (flush0_7 _).mpr (by dsimp only; omega), ?_⟩
    show i ∈ ((View.whole main_v3_1).slice (win0_7.rect ⟨16 * ((i 0 : Nat) / 1024) + 15, ht⟩)).set
    rw [View.set_slice_whole, Rect.mem_set_unit]
    have hi := idx_7 ⟨16 * ((i 0 : Nat) / 1024) + 15, ht⟩
    dsimp only at hi
    intro a
    match a with
    | ⟨0, _⟩ => show win0_7.index ⟨_, ht⟩ 0 * 1024 ≤ (i 0 : Nat) ∧ (i 0 : Nat) < win0_7.index ⟨_, ht⟩ 0 * 1024 + 1024
                rw [hi.1]; omega
    | ⟨1, _⟩ => show win0_7.index ⟨_, ht⟩ 1 * 128 ≤ (i 1 : Nat) ∧ (i 1 : Nat) < win0_7.index ⟨_, ht⟩ 1 * 128 + 128
                rw [hi.2]; omega

/-- The run read: both results, and the arguments unchanged. -/
theorem run : θ_run defs (onTc (τ := τ) (main (F := Ideal))) ⟨m, fun _ => 0, ρ⟩ fun r => ∀ c : Dev nD,
      r.2.mem ((c : Thread nD τ).loc main_v3_0) = projected (X m c) (Gain m c) (Mods m c) (WMain m c)
      ∧ r.2.mem ((c : Thread nD τ).loc main_v3_1) = projected (X m c) (Gain m c) (Mods m c) (WSide m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.2 c).1 6).trans (final_6 m c), ((h.2 c).1 7).trans (final_7 m c), h.1.1 c⟩)
    (θ_run_and (frame m ρ) (run_main m ρ))

end Cert.InProjRun

/-! ## The reference -/

namespace Cert.InProjRun.Ref

open Cert.InProjRefIdeal Cert.InProjRefIdeal.Gen
open Idealize.ShloMosaic Idealize.ShloMosaic.TcCoe Idealize.SL.Sem

/-- The activations as the reference's lines compute them. -/
def acts (x : S4x2048x2048.Idx → EReal) (g : S1x2048.Idx → EReal) (md : S8x1x12288.Idx → EReal) : S4x2048x2048.Idx → EReal :=
  addf (F := Ideal) (mulf (mulf (mulf (φ := .f32) x (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf x x) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ g shapeCasts_S1x2048_S2048)))) (broadcastInDim S4x2048x2048 ![0, 1, 2] bcast_S4x1x2048_S4x2048x2048_0_1_2 (addf (broadcastInDim S4x1x2048 ![] bcast_S_S4x1x2048 (constant S_ .f32 0x3F800000#32)) (broadcastInDim S4x1x2048 ![0, 2] bcast_S4x2048_S4x1x2048_0_2 (extractStridedSlice S4x2048 ![0, 2048] (shapeCast _ (extractStridedSlice S4x1x12288 ![0, 0, 0] md slices_S8x1x12288_S4x1x12288_0_0_0) shapeCasts_S4x1x12288_S4x12288) slices_S4x12288_S4x2048_0_2048))))) (broadcastInDim S4x2048x2048 ![0, 1, 2] bcast_S4x1x2048_S4x2048x2048_0_1_2 (broadcastInDim S4x1x2048 ![0, 2] bcast_S4x2048_S4x1x2048_0_2 (extractStridedSlice S4x2048 ![0, 0] (shapeCast _ (extractStridedSlice S4x1x12288 ![0, 0, 0] md slices_S8x1x12288_S4x1x12288_0_0_0) shapeCasts_S4x1x12288_S4x12288) slices_S4x12288_S4x2048_0_0)))

theorem acts_apply (x : S4x2048x2048.Idx → EReal) (g : S1x2048.Idx → EReal) (md : S8x1x12288.Idx → EReal) (b : Fin 4) (l k : Fin 2048) :
    acts x g md (ix3 b l k) = modulated x g md b l k := by
  pointwise [acts, modulated, normed]

theorem main_apply (h : S4x2048x2048.Idx → EReal) (w : S2048x16384.Idx → EReal) (r : Fin 8192) (q : Fin 16384) :
    (shapeCast S8192x16384 (Host.dotGeneral (F := Ideal) (φ₁ := .f32) (φ₂ := .f32) dot_S4x2048x2048_S2048x16384_S4x2048x16384_2_0_01_1_n_n none h (extf (φ := .bf16) .f32 w bitsLt_bf16_f32)) shapeCasts_S4x2048x16384_S8192x16384 : S8192x16384.Idx → EReal) (ix2 r q)
      = ∑ k : Fin 2048, h (ix3 ⟨r.val / 2048, by omega⟩ ⟨r.val % 2048, by omega⟩ k) * w (ix2 k q) := by
  pointwise

theorem side_apply (h : S4x2048x2048.Idx → EReal) (w : S2048x128.Idx → EReal) (r : Fin 8192) (q : Fin 128) :
    (shapeCast S8192x128 (Host.dotGeneral (F := Ideal) (φ₁ := .f32) (φ₂ := .f32) dot_S4x2048x2048_S2048x128_S4x2048x128_2_0_01_1_n_n none h (extf (φ := .bf16) .f32 w bitsLt_bf16_f32)) shapeCasts_S4x2048x128_S8192x128 : S8192x128.Idx → EReal) (ix2 r q)
      = ∑ k : Fin 2048, h (ix3 ⟨r.val / 2048, by omega⟩ ⟨r.val % 2048, by omega⟩ k) * w (ix2 k q) := by
  pointwise

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v32) = projected (m ((c : Thread nD τ).loc main_arg0)) (m ((c : Thread nD τ).loc main_arg1)) (m ((c : Thread nD τ).loc main_arg2)) (m ((c : Thread nD τ).loc main_arg3))
      ∧ r.2.mem ((c : Thread nD τ).loc main_v35) = projected (m ((c : Thread nD τ).loc main_arg0)) (m ((c : Thread nD τ).loc main_arg1)) (m ((c : Thread nD τ).loc main_arg2)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (funext fun i => by
      obtain ⟨r, q, rfl⟩ : ∃ (r : Fin 8192) (q : Fin 16384), i = ix2 r q := ⟨i 0, i 1, eq_ix2 i⟩
      refine (main_apply (acts _ _ _) _ r q).trans (Eq.trans ?_ (projected_apply _ _ _ _ r q).symm)
      exact Finset.sum_congr rfl fun k _ => congrArg (· * _) (acts_apply _ _ _ _ _ k)),
      (h c).2.1.trans (funext fun i => by
      obtain ⟨r, q, rfl⟩ : ∃ (r : Fin 8192) (q : Fin 128), i = ix2 r q := ⟨i 0, i 1, eq_ix2 i⟩
      refine (side_apply (acts _ _ _) _ r q).trans (Eq.trans ?_ (projected_apply _ _ _ _ r q).symm)
      exact Finset.sum_congr rfl fun k _ => congrArg (· * _) (acts_apply _ _ _ _ _ k)), (h c).2.2⟩)
    (Cert.InProjRefIdeal.Value.run m ρ)

end Cert.InProjRun.Ref

end
-- ==== Proof.Final.Value.lean ====
/- What the last call computes: the residual and the final normalisation, as a function of the arguments, and the reference's. -/
module

public import proofs.«01_k».proof.Defs
public import proofs.«01_k».proof.Proof.Gen.FinalIdeal.Value
public import proofs.«01_k».proof.Proof.Gen.FinalRefIdeal.Run
public import Idealize.ShloMosaic.Lib.Pipeline.ValueKit
public import Idealize.ShloMosaic.Lib.Pipeline.Value
public import Idealize.ShloMosaic.Lib.Pointwise

@[expose] public section

set_option maxRecDepth 16384

noncomputable section

namespace Cert.FinalRun

open Cert.FinalIdeal Cert.FinalIdeal.Gen
open Idealize.ShloMosaic Idealize.ShloMosaic.TcCoe Idealize.SL.Sem
open Idealize.ShloMosaic.Pipeline (Dat)

/-- Entry `k` of the row `x` scaled by its root mean square, times a gain. -/
def normed (x : Fin 2048 → EReal) (k : Fin 2048) (gain : EReal) : EReal :=
  x k * Ideal.rsqrt (Ideal.div (∑ j, x j * x j) (Ideal.ofBits FTy.f32 1157627904#32) + Ideal.ofBits FTy.f32 897988541#32) * gain

/-- The residual stream after the channel mixer, token `r`, feature `k`. -/
def residual (x : S8192x2048.Idx → EReal) (y : S2048x8192.Idx → EReal) (md : S8x1x12288.Idx → EReal) (r : Fin 8192) (k : Fin 2048) : EReal :=
  x (ix2 r k) + md (ix3 ⟨r.val / 2048, by omega⟩ 0 ⟨10240 + k.val, by omega⟩) * y (ix2 k r)

/-- The layer's output. -/
def outOf (x : S8192x2048.Idx → EReal) (y : S2048x8192.Idx → EReal) (md : S8x1x12288.Idx → EReal) (g : S2048.Idx → EReal) : S8192x2048.Idx → EReal :=
  fun i => normed (residual x y md (i 0)) (i 1) (g (ix1 (i 1)))

theorem outOf_apply (x : S8192x2048.Idx → EReal) (y : S2048x8192.Idx → EReal) (md : S8x1x12288.Idx → EReal) (g : S2048.Idx → EReal) (r : Fin 8192) (k : Fin 2048) :
    outOf x y md g (ix2 r k) = normed (residual x y md r) k (g (ix1 k)) := rfl

theorem pay1_apply (x : Vec Ideal S512x2048 .f32) (gate : Vec Ideal S1x1x2048 .f32) (y : Vec Ideal S2048x512 .f32) (g : Vec Ideal S1x2048 .f32) (r : Fin 512) (k : Fin 2048) :
    k0_pay1 x gate y g (ix2 r k) = normed (fun j => x (ix2 r j) + gate (ix3 0 0 j) * y (ix2 j r)) k (g (ix2 0 k)) := by
  pointwise [k0_pay1, normed]

/-- What the body leaves in its output block. -/
theorem out_eq (x : Vec Ideal S512x2048 .f32) (y : Vec Ideal S2048x512 .f32) (gate : Vec Ideal S1x1x2048 .f32) (g : Vec Ideal S1x2048 .f32) :
    out0_4 x y gate g = k0_pay1 x gate y g := by
  have e0 : View.ld x r0_0 = x := View.ld_unit_lit _ _ (by decide)
  have e1 : View.ld gate r0_1 = gate := View.ld_unit_lit _ _ (by decide)
  have e2 : View.ld y r0_2 = y := View.ld_unit_lit _ _ (by decide)
  have e3 : View.ld g r0_3 = g := View.ld_unit_lit _ _ (by decide)
  unfold out0_4
  rw [e0, e1, e2, e3]
  exact View.canon_cons_unit_lit _ _ _ (by decide)

variable (m : (ℓ : Loc nD τ sig) → Buf (Elt Ideal) ℓ) (ρ : Dev nD → PrngReg)

/-- The arguments as launched. -/
abbrev X (c : Dev nD) : S8192x2048.Idx → EReal := m ((c : Thread nD τ).loc main_arg0)
abbrev Y (c : Dev nD) : S2048x8192.Idx → EReal := m ((c : Thread nD τ).loc main_arg1)
abbrev Mods (c : Dev nD) : S8x1x12288.Idx → EReal := m ((c : Thread nD τ).loc main_arg2)
abbrev Gain (c : Dev nD) : S2048.Idx → EReal := m ((c : Thread nD τ).loc main_arg3)

theorem V_v0 (c : Dev nD) (k : Fin 2048) : V m c main_v0 (ix2 0 k) = Gain m c (ix1 k) := by
  have e : V m c main_v0 = shapeCast S1x2048 (Gain m c) shapeCasts_S2048_S1x2048 := by
    unfold V; after_results <;> rfl
  rw [e]
  pointwise

/-- Where each window's block begins. -/
theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = 0 ∧ win0_1.index t 1 = t.val :=
  (by decide +kernel : ∀ t : Fin grid0.N, win0_1.index t 0 = 0 ∧ win0_1.index t 1 = t.val)
theorem idx_2 : ∀ t : Fin cfg0.N, win0_2.index t 0 = t.val / 4 ∧ win0_2.index t 1 = 0 ∧ win0_2.index t 2 = 5 :=
  (by decide +kernel : ∀ t : Fin grid0.N, win0_2.index t 0 = t.val / 4 ∧ win0_2.index t 1 = 0 ∧ win0_2.index t 2 = 5)
theorem idx_3 : ∀ t : Fin cfg0.N, win0_3.index t 0 = 0 ∧ win0_3.index t 1 = 0 :=
  (by decide +kernel : ∀ t : Fin grid0.N, win0_3.index t 0 = 0 ∧ win0_3.index t 1 = 0)
theorem idx_4 : ∀ t : Fin cfg0.N, win0_4.index t 0 = t.val ∧ win0_4.index t 1 = 0 :=
  (by decide +kernel : ∀ t : Fin grid0.N, win0_4.index t 0 = t.val ∧ win0_4.index t 1 = 0)

theorem lt_N (t : Fin cfg0.N) : t.val < 16 := Nat.lt_of_lt_of_eq t.isLt N_0

theorem iblk_0 (c : Dev nD) (t : Fin cfg0.N) (r : Fin 512) (k : Fin 2048) (h : 512 * t.val + r.val < 8192) :
    (iblk m c 0 t : Vec Ideal S512x2048 .f32) (ix2 r k) = X m c (ix2 ⟨512 * t.val + r.val, h⟩ k) := by
  rw [show X m c = V m c main_arg0 from (V_main_arg0 m c).symm]
  unfold iblk
  rw [View.read_apply]
  show V m c main_arg0 _ = _
  congr 1
  funext a
  apply Fin.ext
  match a with
  | ⟨0, _⟩ => show win0_0.index t 0 * 512 + 1 * r.val = 512 * t.val + r.val; rw [(idx_0 t).1]; omega
  | ⟨1, _⟩ => show win0_0.index t 1 * 2048 + 1 * k.val = k.val; rw [(idx_0 t).2]; omega

theorem iblk_1 (c : Dev nD) (t : Fin cfg0.N) (r : Fin 512) (k : Fin 2048) (h : 512 * t.val + r.val < 8192) :
    (iblk m c 1 t : Vec Ideal S2048x512 .f32) (ix2 k r) = Y m c (ix2 k ⟨512 * t.val + r.val, h⟩) := by
  rw [show Y m c = V m c main_arg1 from (V_main_arg1 m c).symm]
  unfold iblk
  rw [View.read_apply]
  show V m c main_arg1 _ = _
  congr 1
  funext a
  apply Fin.ext
  match a with
  | ⟨0, _⟩ => show win0_1.index t 0 * 2048 + 1 * k.val = k.val; rw [(idx_1 t).1]; omega
  | ⟨1, _⟩ => show win0_1.index t 1 * 512 + 1 * r.val = 512 * t.val + r.val; rw [(idx_1 t).2]; omega

theorem iblk_2 (c : Dev nD) (t : Fin cfg0.N) (k : Fin 2048) (h : t.val / 4 < 8) (hk : 10240 + k.val < 12288) :
    (iblk m c 2 t : Vec Ideal S1x1x2048 .f32) (ix3 0 0 k) = Mods m c (ix3 ⟨t.val / 4, h⟩ 0 ⟨10240 + k.val, hk⟩) := by
  rw [show Mods m c = V m c main_arg2 from (V_main_arg2 m c).symm]
  unfold iblk
  rw [View.read_apply]
  show V m c main_arg2 _ = _
  congr 1
  funext a
  apply Fin.ext
  match a with
  | ⟨0, _⟩ => show win0_2.index t 0 * 1 + 1 * 0 = t.val / 4; rw [(idx_2 t).1]; omega
  | ⟨1, _⟩ => show win0_2.index t 1 * 1 + 1 * 0 = 0; rw [(idx_2 t).2.1]
  | ⟨2, _⟩ => show win0_2.index t 2 * 2048 + 1 * k.val = 10240 + k.val; rw [(idx_2 t).2.2]; omega

theorem iblk_3 (c : Dev nD) (t : Fin cfg0.N) (k : Fin 2048) :
    (iblk m c 3 t : Vec Ideal S1x2048 .f32) (ix2 0 k) = Gain m c (ix1 k) := by
  rw [← V_v0]
  unfold iblk
  rw [View.read_apply]
  show V m c main_v0 _ = _
  congr 1
  funext a
  apply Fin.ext
  match a with
  | ⟨0, _⟩ => show win0_3.index t 0 * 1 + 1 * 0 = 0; rw [(idx_3 t).1]
  | ⟨1, _⟩ => show win0_3.index t 1 * 2048 + 1 * k.val = k.val; rw [(idx_3 t).2]; omega

theorem flushed_4 (c : Dev nD) (t : Fin cfg0.N) :
    (dats m 0 c).flushed 4 t = ((cfg0.win 4).blk t).view.read (Elt Ideal) (outOf (X m c) (Y m c) (Mods m c) (Gain m c)) := by
  show (cfg0.win 4).cut (grid0.coords t) ((dats m 0 c).after 4 t) = _
  rw [after0_4, out_eq]
  funext j
  rw [View.read_apply]
  have ht := lt_N t
  obtain ⟨r, k, rfl⟩ : ∃ (r : Fin 512) (k : Fin 2048), j = ix2 r k := ⟨j 0, j 1, eq_ix2 j⟩
  have hr : 512 * t.val + r.val < 8192 := by omega
  show k0_pay1 (iblk m c 0 t) (iblk m c 2 t) (iblk m c 1 t) (iblk m c 3 t) (ix2 r k) = _
  rw [show (((cfg0.win 4).blk t).view.emb (ix2 r k) : S8192x2048.Idx) = ix2 ⟨512 * t.val + r.val, hr⟩ k from by
    funext a
    apply Fin.ext
    match a with
    | ⟨0, _⟩ => show win0_4.index t 0 * 512 + 1 * r.val = 512 * t.val + r.val; rw [(idx_4 t).1]; omega
    | ⟨1, _⟩ => show win0_4.index t 1 * 2048 + 1 * k.val = k.val; rw [(idx_4 t).2]; omega]
  rw [pay1_apply, outOf_apply, iblk_3]
  congr 1
  funext j
  have hb : t.val / 4 = (512 * t.val + r.val) / 2048 := by omega
  rw [iblk_0 m c t r j hr, iblk_1 m c t r j hr, iblk_2 m c t j (by omega) (by omega)]
  unfold residual
  simp only [hb]

theorem final_4 (c : Dev nD) : (dats m 0 c).arrAt 4 cfg0.N = outOf (X m c) (Y m c) (Mods m c) (Gain m c) :=
  (dats m 0 c).arrAt_eq_of_cover 4 _ (fun t _ => flushed_4 m c t) fun i => by
    have h0 : (i 0 : Nat) < 8192 := (i 0).isLt
    have h1 : (i 1 : Nat) < 2048 := (i 1).isLt
    have ht : (i 0 : Nat) / 512 < cfg0.N := by rw [show cfg0.N = 16 from N_0]; omega
    refine ⟨⟨(i 0 : Nat) / 512, ht⟩, flush0_4 _, ?_⟩
    show i ∈ ((View.whole main_v1).slice (win0_4.rect ⟨(i 0 : Nat) / 512, ht⟩)).set
    rw [View.set_slice_whole, Rect.mem_set_unit]
    have hi := idx_4 ⟨(i 0 : Nat) / 512, ht⟩
    dsimp only at hi
    intro a
    match a with
    | ⟨0, _⟩ => show win0_4.index ⟨_, ht⟩ 0 * 512 ≤ (i 0 : Nat) ∧ (i 0 : Nat) < win0_4.index ⟨_, ht⟩ 0 * 512 + 512
                rw [hi.1]; omega
    | ⟨1, _⟩ => show win0_4.index ⟨_, ht⟩ 1 * 2048 ≤ (i 1 : Nat) ∧ (i 1 : Nat) < win0_4.index ⟨_, ht⟩ 1 * 2048 + 2048
                rw [hi.2]; omega

/-- The run read: the output, and every argument unchanged. -/
theorem run : θ_run defs (onTc (τ := τ) (main (F := Ideal))) ⟨m, fun _ => 0, ρ⟩ fun r => ∀ c : Dev nD,
      r.2.mem ((c : Thread nD τ).loc main_v1) = outOf (X m c) (Y m c) (Mods m c) (Gain m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_4 m c), (h c).2⟩) (Cert.FinalIdeal.Value.run_blocks m ρ)

end Cert.FinalRun

/-! ## The reference -/

namespace Cert.FinalRun.Ref

open Cert.FinalRefIdeal Cert.FinalRefIdeal.Gen
open Idealize.ShloMosaic Idealize.ShloMosaic.TcCoe Idealize.SL.Sem

/-- The reference's lines, read at one token and feature. -/
theorem out_apply (x : S8192x2048.Idx → EReal) (y : S2048x8192.Idx → EReal) (md : S8x1x12288.Idx → EReal) (g : S2048.Idx → EReal) (r : Fin 8192) (k : Fin 2048) :
    (shapeCast _ (mulf (F := Ideal) (φ := .f32) (mulf (addf (shapeCast _ x shapeCasts_S8192x2048_S4x2048x2048) (mulf (broadcastInDim S4x2048x2048 ![0, 1, 2] bcast_S4x1x2048_S4x2048x2048_0_1_2 (broadcastInDim S4x1x2048 ![0, 2] bcast_S4x2048_S4x1x2048_0_2 (extractStridedSlice S4x2048 ![0, 10240] (shapeCast _ (extractStridedSlice S4x1x12288 ![0, 0, 0] md slices_S8x1x12288_S4x1x12288_0_0_0) shapeCasts_S4x1x12288_S4x12288) slices_S4x12288_S4x2048_0_10240))) (shapeCast _ (transpose S8192x2048 [1, 0] y transposes_S2048x8192_S8192x2048_1_0) shapeCasts_S8192x2048_S4x2048x2048))) (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf (addf (shapeCast _ x shapeCasts_S8192x2048_S4x2048x2048) (mulf (broadcastInDim S4x2048x2048 ![0, 1, 2] bcast_S4x1x2048_S4x2048x2048_0_1_2 (broadcastInDim S4x1x2048 ![0, 2] bcast_S4x2048_S4x1x2048_0_2 (extractStridedSlice S4x2048 ![0, 10240] (shapeCast _ (extractStridedSlice S4x1x12288 ![0, 0, 0] md slices_S8x1x12288_S4x1x12288_0_0_0) shapeCasts_S4x1x12288_S4x12288) slices_S4x12288_S4x2048_0_10240))) (shapeCast _ (transpose S8192x2048 [1, 0] y transposes_S2048x8192_S8192x2048_1_0) shapeCasts_S8192x2048_S4x2048x2048))) (addf (shapeCast _ x shapeCasts_S8192x2048_S4x2048x2048) (mulf (broadcastInDim S4x2048x2048 ![0, 1, 2] bcast_S4x1x2048_S4x2048x2048_0_1_2 (broadcastInDim S4x1x2048 ![0, 2] bcast_S4x2048_S4x1x2048_0_2 (extractStridedSlice S4x2048 ![0, 10240] (shapeCast _ (extractStridedSlice S4x1x12288 ![0, 0, 0] md slices_S8x1x12288_S4x1x12288_0_0_0) shapeCasts_S4x1x12288_S4x12288) slices_S4x12288_S4x2048_0_10240))) (shapeCast _ (transpose S8192x2048 [1, 0] y transposes_S2048x8192_S8192x2048_1_0) shapeCasts_S8192x2048_S4x2048x2048)))) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 g))) shapeCasts_S4x2048x2048_S8192x2048 : S8192x2048.Idx → EReal) (ix2 r k) = outOf x y md g (ix2 r k) := by
  rw [outOf_apply]
  pointwise [normed, residual]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v28) = outOf (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (funext fun i => by
      obtain ⟨r, k, rfl⟩ : ∃ (r : Fin 8192) (k : Fin 2048), i = ix2 r k := ⟨i 0, i 1, eq_ix2 i⟩
      exact out_apply _ _ _ _ r k), (h c).2⟩)
    (Cert.FinalRefIdeal.Value.run m ρ)

end Cert.FinalRun.Ref

end
-- ==== Proof.Merge.Body.lean ====
/- What the merge call's body computes, read at one token and feature. -/
module

public import proofs.«01_k».proof.Defs
public import proofs.«01_k».proof.Proof.Gen.MergeIdeal.Value
public import Idealize.ShloMosaic.Lib.Pipeline.ValueKit
public import Idealize.ShloMosaic.Lib.Pipeline.Value
public import Idealize.ShloMosaic.Lib.Pointwise

@[expose] public section

set_option maxRecDepth 16384

noncomputable section

namespace Cert.MergeRun

open Cert.MergeIdeal Cert.MergeIdeal.Gen
open Idealize.ShloMosaic Idealize.ShloMosaic.TcCoe Idealize.SL.Sem
open Idealize.ShloMosaic.Pipeline (Dat)

/-- The logistic. -/
def squash (x : EReal) : EReal := Ideal.div 1 (1 + Ideal.exp (-x))

/-- Feature `j` of the head that begins at feature `off`, scaled by that head's root mean square. -/
def headAt (o : Fin 2048 → EReal) (off : ℕ) (h : off + 128 ≤ 2048) (j : Fin 128) : EReal :=
  o ⟨off + j.val, by omega⟩ * Ideal.rsqrt (Ideal.div (∑ i : Fin 128, o ⟨off + i.val, by omega⟩ * o ⟨off + i.val, by omega⟩) (Ideal.ofBits FTy.f32 1124073472#32) + Ideal.ofBits FTy.f32 897988541#32)

/-- Every head of the row scaled by its own root mean square. -/
def headNorm (o : Fin 2048 → EReal) (k : Fin 2048) : EReal :=
  headAt o (128 * (k.val / 128)) (by omega) ⟨k.val % 128, by omega⟩

/-- A head's block scaled row by row by its root mean square, as the body computes it. -/
def scaled (s : FVec Ideal S256x128 .f32) : FVec Ideal S256x128 .f32 :=
  mulf s (broadcastTo S256x128 (rsqrt (addf (divf (shapeCast S256x1 (multiReduction .add [1] S256 (mulf s s) 0x00000000#32 reduces_S256x128_S256 (.inl rfl) rfl) shapeCasts_S256_S256x1)
    (broadcast S256x1 (Scalar.ofBits (F := Ideal) .f32 0x43000000#32))) (broadcast S256x1 (Scalar.ofBits (F := Ideal) .f32 0x358637BD#32)))) broadcasts_S256x1_S256x128)

theorem scaled_apply (s : FVec Ideal S256x128 .f32) (r : Fin 256) (j : Fin 128) :
    scaled s (ix2 r j) = s (ix2 r j) * Ideal.rsqrt (Ideal.div (∑ i : Fin 128, s (ix2 r i) * s (ix2 r i)) (Ideal.ofBits FTy.f32 1124073472#32) + Ideal.ofBits FTy.f32 897988541#32) := by
  pointwise [scaled]

theorem slices_head (n : Fin 16) : S256x2048.Slices ![0, 128 * n.val] S256x128 :=
  (by decide : ∀ n : Fin 16, S256x2048.Slices ![0, 128 * n.val] S256x128) n

/-- Head `n` of the rows. -/
def head (o : FVec Ideal S256x2048 .f32) (n : Fin 16) : FVec Ideal S256x128 .f32 :=
  extractStridedSlice S256x128 ![0, 128 * n.val] o (slices_head n)

theorem head_apply (o : FVec Ideal S256x2048 .f32) (n : Fin 16) (r : Fin 256) (j : Fin 128) :
    head o n (ix2 r j) = o (ix2 r ⟨128 * n.val + j.val, by omega⟩) :=
  extractStridedSlice_apply _ o _ _ _ fun a => by
    match a with
    | ⟨0, _⟩ => show r.val = 0 + r.val; omega
    | ⟨1, _⟩ => rfl

theorem concatenates_heads : Shape.Concatenates ((List.ofFn fun _ : Fin 16 => S256x128)) S256x2048 1 := by decide

theorem heads_eq (a b : Vec Ideal S1x256x2048 .bf16) :
    k0_pay20 (k0_pay2 a b) (k0_pay3 a b) (k0_pay4 a b) (k0_pay5 a b) (k0_pay8 (k0_pay6 a b) (k0_pay7 a b)) (k0_pay9 (k0_pay2 a b)) (k0_pay10 (k0_pay2 a b)) (k0_pay11 (k0_pay2 a b))
      (k0_pay14 (k0_pay12 (k0_pay2 a b)) (k0_pay13 (k0_pay2 a b))) (k0_pay15 (k0_pay2 a b)) (k0_pay16 (k0_pay2 a b)) (k0_pay17 (k0_pay2 a b)) (k0_pay18 (k0_pay2 a b)) (k0_pay19 (k0_pay2 a b))
      = concatenate S256x2048 1 (List.ofFn fun n : Fin 16 => (⟨S256x128, scaled (head (k0_pay2 a b) n)⟩ : (s : Shape) × (s.Idx → EReal))) concatenates_heads := rfl

theorem heads_apply (a b : Vec Ideal S1x256x2048 .bf16) (r : Fin 256) (k : Fin 2048) :
    k0_pay20 (k0_pay2 a b) (k0_pay3 a b) (k0_pay4 a b) (k0_pay5 a b) (k0_pay8 (k0_pay6 a b) (k0_pay7 a b)) (k0_pay9 (k0_pay2 a b)) (k0_pay10 (k0_pay2 a b)) (k0_pay11 (k0_pay2 a b))
      (k0_pay14 (k0_pay12 (k0_pay2 a b)) (k0_pay13 (k0_pay2 a b))) (k0_pay15 (k0_pay2 a b)) (k0_pay16 (k0_pay2 a b)) (k0_pay17 (k0_pay2 a b)) (k0_pay18 (k0_pay2 a b)) (k0_pay19 (k0_pay2 a b)) (ix2 r k)
      = headNorm (fun j => k0_pay2 a b (ix2 r j)) k := by
  rw [heads_eq]
  refine (concatenate_ofFn_apply (t := S256x2048) (s₁ := S256x128) 1 (fun n : Fin 16 => scaled (head (k0_pay2 a b) n)) _ rfl 128 rfl (ix2 r k) ⟨k.val / 128, by omega⟩ rfl (ix2 r ⟨k.val % 128, by omega⟩) rfl ?_).trans ?_
  · intro x hx
    match x with
    | ⟨0, _⟩ => rfl
    | ⟨1, _⟩ => exact absurd rfl hx
  · rw [scaled_apply]
    simp only [head_apply]
    rfl

/-- The two scan directions added. -/
theorem pay2_apply (a b : Vec Ideal S1x256x2048 .bf16) (r : Fin 256) (k : Fin 2048) :
    k0_pay2 a b (ix2 r k) = a (ix3 0 r k) + b (ix3 0 r k) := by
  pointwise [k0_pay2]

/-- A row of the mixed branches before the output weight. -/
def mixed (yc o z brc brd g : Fin 2048 → EReal) (wdn : Fin 2048 → Fin 2048 → EReal) (q : Fin 2048) : EReal :=
  squash (brc q) * yc q + squash (brd q) * ∑ k, headNorm o k * g k * (z k * squash (z k)) * wdn k q

theorem pay21_apply (h : FVec Ideal S256x2048 .f32) (g : Vec Ideal S1x2048 .f32) (z : Vec Ideal S256x2048 .f32) (wdn : Vec Ideal S2048x2048 .bf16) (brc yc brd : Vec Ideal S256x2048 .f32) (r : Fin 256) (q : Fin 2048) :
    k0_pay21 h g z wdn brc yc brd (ix2 r q)
      = squash (brc (ix2 r q)) * yc (ix2 r q) + squash (brd (ix2 r q)) * ∑ k, h (ix2 r k) * g (ix2 0 k) * (z (ix2 r k) * squash (z (ix2 r k))) * wdn (ix2 k q) := by
  pointwise [k0_pay21, squash]
  simp only [zero_sub]

theorem pay1_apply (y : FVec Ideal S256x2048 .bf16) (w : Vec Ideal S2048x2048 .bf16) (x : Vec Ideal S256x2048 .f32) (gate : Vec Ideal S1x1x2048 .f32) (r : Fin 256) (q : Fin 2048) :
    k0_pay1 y w x gate (ix2 r q) = x (ix2 r q) + gate (ix3 0 0 q) * ∑ k, y (ix2 r k) * w (ix2 k q) := by
  pointwise [k0_pay1]

/-- The body's output block, read at one token and feature. -/
theorem out_apply (yc : Vec Ideal S256x2048 .f32) (a b : Vec Ideal S1x256x2048 .bf16) (z brc brd : Vec Ideal S256x2048 .f32) (g : Vec Ideal S1x2048 .f32) (wdn wout : Vec Ideal S2048x2048 .bf16)
    (x : Vec Ideal S256x2048 .f32) (gate : Vec Ideal S1x1x2048 .f32) (r : Fin 256) (q : Fin 2048) :
    out0_11 yc a b z brc brd g wdn wout x gate (ix2 r q)
      = x (ix2 r q) + gate (ix3 0 0 q) * ∑ k, mixed (fun k => yc (ix2 r k)) (fun k => a (ix3 0 r k) + b (ix3 0 r k)) (fun k => z (ix2 r k)) (fun k => brc (ix2 r k)) (fun k => brd (ix2 r k))
          (fun k => g (ix2 0 k)) (fun k q => wdn (ix2 k q)) k * wout (ix2 k q) := by
  have e0 : ∀ v : Vec Ideal S1x256x2048 .bf16, View.ld v r0_0 = v := fun v => View.ld_unit_lit _ _ (by decide)
  have e1 : View.ld g r0_1 = g := View.ld_unit_lit _ _ (by decide)
  have e2 : ∀ v : Vec Ideal S256x2048 .f32, View.ld v r0_2 = v := fun v => View.ld_unit_lit _ _ (by decide)
  have e3 : ∀ v : Vec Ideal S2048x2048 .bf16, View.ld v r0_3 = v := fun v => View.ld_unit_lit _ _ (by decide)
  have e4 : View.ld gate r0_4 = gate := View.ld_unit_lit _ _ (by decide)
  unfold out0_11 k0_pay22
  rw [e0, e0, e1, e2, e2, e2, e2, e2, e3, e3, e4]
  refine (congrFun (View.canon_cons_unit_lit _ _ _ (by decide)) (ix2 r q)).trans ?_
  refine (pay1_apply _ _ _ _ r q).trans ?_
  refine congrArg (fun s => x (ix2 r q) + gate (ix3 0 0 q) * s) (Finset.sum_congr rfl fun k _ => congrArg (· * wout (ix2 k q)) ?_)
  refine (pay21_apply _ _ _ _ _ _ _ r k).trans ?_
  refine congrArg (fun s => squash (brc (ix2 r k)) * yc (ix2 r k) + squash (brd (ix2 r k)) * s) (Finset.sum_congr rfl fun j _ => ?_)
  rw [heads_apply]
  simp only [pay2_apply]

end Cert.MergeRun

end
-- ==== Proof.Merge.Value.lean ====
/- What the merge call computes: the two branches mixed by their gates, through the output weight, onto the residual. -/
module

public import proofs.«01_k».proof.Proof.Merge.Body

@[expose] public section

set_option maxRecDepth 16384

noncomputable section

namespace Cert.MergeRun

open Cert.MergeIdeal Cert.MergeIdeal.Gen
open Idealize.ShloMosaic Idealize.ShloMosaic.TcCoe Idealize.SL.Sem
open Idealize.ShloMosaic.Pipeline (Dat)

/-- Token `r`'s mixed branches, feature `q`. -/
def mixedOf (yc : S8192x2048.Idx → EReal) (o : S2x8192x2048.Idx → EReal) (p : S8192x16384.Idx → EReal) (g : S1x128.Idx → EReal) (wdn : S1x2048x2048.Idx → EReal)
    (r : Fin 8192) (q : Fin 2048) : EReal :=
  mixed (fun k => yc (ix2 r k)) (fun k => o (ix3 0 r k) + o (ix3 1 r k)) (fun k => p (ix2 r ⟨10240 + k.val, by omega⟩)) (fun k => p (ix2 r ⟨12288 + k.val, by omega⟩))
    (fun k => p (ix2 r ⟨14336 + k.val, by omega⟩)) (fun k => g (ix2 0 ⟨k.val % 128, by omega⟩)) (fun k q => wdn (ix3 0 k q)) q

/-- Token `r`'s residual stream after the merge, feature `q`. -/
def merged (yc : S8192x2048.Idx → EReal) (o : S2x8192x2048.Idx → EReal) (p : S8192x16384.Idx → EReal) (g : S1x128.Idx → EReal) (wdn wout : S1x2048x2048.Idx → EReal)
    (x : S4x2048x2048.Idx → EReal) (md : S8x1x12288.Idx → EReal) (r : Fin 8192) (q : Fin 2048) : EReal :=
  x (ix3 ⟨r.val / 2048, by omega⟩ ⟨r.val % 2048, by omega⟩ q)
    + md (ix3 ⟨r.val / 2048, by omega⟩ 0 ⟨4096 + q.val, by omega⟩) * ∑ k, mixedOf yc o p g wdn r k * wout (ix3 0 k q)

/-- The residual stream after the merge. -/
def outOf (yc : S8192x2048.Idx → EReal) (o : S2x8192x2048.Idx → EReal) (p : S8192x16384.Idx → EReal) (g : S1x128.Idx → EReal) (wdn wout : S1x2048x2048.Idx → EReal)
    (x : S4x2048x2048.Idx → EReal) (md : S8x1x12288.Idx → EReal) : S8192x2048.Idx → EReal :=
  fun i => merged yc o p g wdn wout x md (i 0) (i 1)

variable (m : (ℓ : Loc nD τ sig) → Buf (Elt Ideal) ℓ) (ρ : Dev nD → PrngReg)

/-- The arguments as launched. -/
abbrev Yc (c : Dev nD) : S8192x2048.Idx → EReal := m ((c : Thread nD τ).loc main_arg0)
abbrev O2 (c : Dev nD) : S2x8192x2048.Idx → EReal := m ((c : Thread nD τ).loc main_arg1)
abbrev P (c : Dev nD) : S8192x16384.Idx → EReal := m ((c : Thread nD τ).loc main_arg2)
abbrev G (c : Dev nD) : S1x128.Idx → EReal := m ((c : Thread nD τ).loc main_arg3)
abbrev Wdn (c : Dev nD) : S1x2048x2048.Idx → EReal := m ((c : Thread nD τ).loc main_arg4)
abbrev Wout (c : Dev nD) : S1x2048x2048.Idx → EReal := m ((c : Thread nD τ).loc main_arg5)
abbrev X (c : Dev nD) : S4x2048x2048.Idx → EReal := m ((c : Thread nD τ).loc main_arg6)
abbrev Mods (c : Dev nD) : S8x1x12288.Idx → EReal := m ((c : Thread nD τ).loc main_arg7)

theorem V_v0 (c : Dev nD) (r : Fin 8192) (q : Fin 2048) : V m c main_v0 (ix2 r q) = X m c (ix3 ⟨r.val / 2048, by omega⟩ ⟨r.val % 2048, by omega⟩ q) := by
  have e : V m c main_v0 = shapeCast S8192x2048 (X m c) shapeCasts_S4x2048x2048_S8192x2048 := by
    unfold V; after_results <;> rfl
  rw [e]
  pointwise

theorem V_v5 (c : Dev nD) (k : Fin 2048) : V m c main_v5 (ix2 0 k) = G m c (ix2 0 ⟨k.val % 128, by omega⟩) := by
  have e : V m c main_v5 = shapeCast S1x2048 (shapeCast S2048 (broadcastInDim S16x128 ![0, 1] bcast_S1x128_S16x128_0_1 (shapeCast S1x128 (shapeCast S128 (G m c) shapeCasts_S1x128_S128) shapeCasts_S128_S1x128))
      shapeCasts_S16x128_S2048) shapeCasts_S2048_S1x2048 := by
    unfold V; after_results <;> rfl
  rw [e]
  pointwise

theorem V_v7 (c : Dev nD) (k q : Fin 2048) : V m c main_v7 (ix2 k q) = Wdn m c (ix3 0 k q) := by
  have e : V m c main_v7 = truncf (F := Ideal) (φ := .f32) .bf16 (shapeCast S2048x2048 (Wdn m c) shapeCasts_S1x2048x2048_S2048x2048) bitsLt_bf16_f32 := by
    unfold V; after_results <;> rfl
  rw [e]
  pointwise

theorem V_v9 (c : Dev nD) (k q : Fin 2048) : V m c main_v9 (ix2 k q) = Wout m c (ix3 0 k q) := by
  have e : V m c main_v9 = truncf (F := Ideal) (φ := .f32) .bf16 (shapeCast S2048x2048 (Wout m c) shapeCasts_S1x2048x2048_S2048x2048) bitsLt_bf16_f32 := by
    unfold V; after_results <;> rfl
  rw [e]
  pointwise

/-- Where each window's block begins. -/
theorem idx_rows : ∀ t : Fin cfg0.N, (win0_0.index t 0 = t.val ∧ win0_0.index t 1 = 0) ∧ (win0_3.index t 0 = t.val ∧ win0_3.index t 1 = 5)
      ∧ (win0_4.index t 0 = t.val ∧ win0_4.index t 1 = 6) ∧ (win0_5.index t 0 = t.val ∧ win0_5.index t 1 = 7)
      ∧ (win0_9.index t 0 = t.val ∧ win0_9.index t 1 = 0) ∧ (win0_11.index t 0 = t.val ∧ win0_11.index t 1 = 0) :=
  (by decide +kernel : ∀ t : Fin grid0.N, (win0_0.index t 0 = t.val ∧ win0_0.index t 1 = 0) ∧ (win0_3.index t 0 = t.val ∧ win0_3.index t 1 = 5)
      ∧ (win0_4.index t 0 = t.val ∧ win0_4.index t 1 = 6) ∧ (win0_5.index t 0 = t.val ∧ win0_5.index t 1 = 7)
      ∧ (win0_9.index t 0 = t.val ∧ win0_9.index t 1 = 0) ∧ (win0_11.index t 0 = t.val ∧ win0_11.index t 1 = 0))
theorem idx_whole : ∀ t : Fin cfg0.N, (win0_6.index t 0 = 0 ∧ win0_6.index t 1 = 0) ∧ (win0_7.index t 0 = 0 ∧ win0_7.index t 1 = 0) ∧ (win0_8.index t 0 = 0 ∧ win0_8.index t 1 = 0) :=
  (by decide +kernel : ∀ t : Fin grid0.N, (win0_6.index t 0 = 0 ∧ win0_6.index t 1 = 0) ∧ (win0_7.index t 0 = 0 ∧ win0_7.index t 1 = 0) ∧ (win0_8.index t 0 = 0 ∧ win0_8.index t 1 = 0))
theorem idx_scan : ∀ t : Fin cfg0.N, (win0_1.index t 0 = 0 ∧ win0_1.index t 1 = t.val ∧ win0_1.index t 2 = 0) ∧ (win0_2.index t 0 = 1 ∧ win0_2.index t 1 = t.val ∧ win0_2.index t 2 = 0)
      ∧ (win0_10.index t 0 = t.val / 8 ∧ win0_10.index t 1 = 0 ∧ win0_10.index t 2 = 2) :=
  (by decide +kernel : ∀ t : Fin grid0.N, (win0_1.index t 0 = 0 ∧ win0_1.index t 1 = t.val ∧ win0_1.index t 2 = 0) ∧ (win0_2.index t 0 = 1 ∧ win0_2.index t 1 = t.val ∧ win0_2.index t 2 = 0)
      ∧ (win0_10.index t 0 = t.val / 8 ∧ win0_10.index t 1 = 0 ∧ win0_10.index t 2 = 2))

theorem lt_N (t : Fin cfg0.N) : t.val < 32 := Nat.lt_of_lt_of_eq t.isLt N_0

/-- An index whose coordinates are `a` and `b`. -/
theorem eq_at2 {A B : ℕ} (i : (⟨2, ![A, B]⟩ : Shape).Idx) (a : Fin A) (b : Fin B) (h0 : (i 0).val = a.val) (h1 : (i 1).val = b.val) : i = ix2 a b := by
  funext x
  match x with
  | ⟨0, _⟩ => exact Fin.ext h0
  | ⟨1, _⟩ => exact Fin.ext h1

/-- An index whose coordinates are `a`, `b` and `d`. -/
theorem eq_at3 {A B C : ℕ} (i : (⟨3, ![A, B, C]⟩ : Shape).Idx) (a : Fin A) (b : Fin B) (d : Fin C) (h0 : (i 0).val = a.val) (h1 : (i 1).val = b.val) (h2 : (i 2).val = d.val) : i = ix3 a b d := by
  funext x
  match x with
  | ⟨0, _⟩ => exact Fin.ext h0
  | ⟨1, _⟩ => exact Fin.ext h1
  | ⟨2, _⟩ => exact Fin.ext h2

/-- A block read: the array at an index whose coordinates are the block's origin plus the block's. -/
theorem iblk_0 (c : Dev nD) (t : Fin cfg0.N) (r : Fin 256) (k : Fin 2048) (h : 256 * t.val + r.val < 8192) :
    (iblk m c 0 t : Vec Ideal S256x2048 .f32) (ix2 r k) = Yc m c (ix2 ⟨256 * t.val + r.val, h⟩ k) := by
  rw [show Yc m c = V m c main_arg0 from (V_main_arg0 m c).symm]
  have e := (idx_rows t).1
  refine congrArg (V m c main_arg0) (eq_at2 _ _ _ ?_ ?_)
  · show win0_0.index t 0 * 256 + 1 * r.val = 256 * t.val + r.val; rw [e.1]; omega
  · show win0_0.index t 1 * 2048 + 1 * k.val = k.val; rw [e.2]; omega

theorem iblk_1 (c : Dev nD) (t : Fin cfg0.N) (r : Fin 256) (k : Fin 2048) (h : 256 * t.val + r.val < 8192) :
    (iblk m c 1 t : Vec Ideal S1x256x2048 .bf16) (ix3 0 r k) = O2 m c (ix3 0 ⟨256 * t.val + r.val, h⟩ k) := by
  rw [show O2 m c = V m c main_arg1 from (V_main_arg1 m c).symm]
  have e := (idx_scan t).1
  refine congrArg (V m c main_arg1) (eq_at3 _ _ _ _ ?_ ?_ ?_)
  · show win0_1.index t 0 * 1 + 1 * 0 = 0; rw [e.1]
  · show win0_1.index t 1 * 256 + 1 * r.val = 256 * t.val + r.val; rw [e.2.1]; omega
  · show win0_1.index t 2 * 2048 + 1 * k.val = k.val; rw [e.2.2]; omega

theorem iblk_2 (c : Dev nD) (t : Fin cfg0.N) (r : Fin 256) (k : Fin 2048) (h : 256 * t.val + r.val < 8192) :
    (iblk m c 2 t : Vec Ideal S1x256x2048 .bf16) (ix3 0 r k) = O2 m c (ix3 1 ⟨256 * t.val + r.val, h⟩ k) := by
  rw [show O2 m c = V m c main_arg1 from (V_main_arg1 m c).symm]
  have e := (idx_scan t).2.1
  refine congrArg (V m c main_arg1) (eq_at3 _ _ _ _ ?_ ?_ ?_)
  · show win0_2.index t 0 * 1 + 1 * 0 = 1; rw [e.1]
  · show win0_2.index t 1 * 256 + 1 * r.val = 256 * t.val + r.val; rw [e.2.1]; omega
  · show win0_2.index t 2 * 2048 + 1 * k.val = k.val; rw [e.2.2]; omega

theorem iblk_3 (c : Dev nD) (t : Fin cfg0.N) (r : Fin 256) (k : Fin 2048) (h : 256 * t.val + r.val < 8192) :
    (iblk m c 3 t : Vec Ideal S256x2048 .f32) (ix2 r k) = P m c (ix2 ⟨256 * t.val + r.val, h⟩ ⟨10240 + k.val, by omega⟩) := by
  rw [show P m c = V m c main_arg2 from (V_main_arg2 m c).symm]
  have e := (idx_rows t).2.1
  refine congrArg (V m c main_arg2) (eq_at2 _ _ _ ?_ ?_)
  · show win0_3.index t 0 * 256 + 1 * r.val = 256 * t.val + r.val; rw [e.1]; omega
  · show win0_3.index t 1 * 2048 + 1 * k.val = 10240 + k.val; rw [e.2]; omega

theorem iblk_4 (c : Dev nD) (t : Fin cfg0.N) (r : Fin 256) (k : Fin 2048) (h : 256 * t.val + r.val < 8192) :
    (iblk m c 4 t : Vec Ideal S256x2048 .f32) (ix2 r k) = P m c (ix2 ⟨256 * t.val + r.val, h⟩ ⟨12288 + k.val, by omega⟩) := by
  rw [show P m c = V m c main_arg2 from (V_main_arg2 m c).symm]
  have e := (idx_rows t).2.2.1
  refine congrArg (V m c main_arg2) (eq_at2 _ _ _ ?_ ?_)
  · show win0_4.index t 0 * 256 + 1 * r.val = 256 * t.val + r.val; rw [e.1]; omega
  · show win0_4.index t 1 * 2048 + 1 * k.val = 12288 + k.val; rw [e.2]; omega

theorem iblk_5 (c : Dev nD) (t : Fin cfg0.N) (r : Fin 256) (k : Fin 2048) (h : 256 * t.val + r.val < 8192) :
    (iblk m c 5 t : Vec Ideal S256x2048 .f32) (ix2 r k) = P m c (ix2 ⟨256 * t.val + r.val, h⟩ ⟨14336 + k.val, by omega⟩) := by
  rw [show P m c = V m c main_arg2 from (V_main_arg2 m c).symm]
  have e := (idx_rows t).2.2.2.1
  refine congrArg (V m c main_arg2) (eq_at2 _ _ _ ?_ ?_)
  · show win0_5.index t 0 * 256 + 1 * r.val = 256 * t.val + r.val; rw [e.1]; omega
  · show win0_5.index t 1 * 2048 + 1 * k.val = 14336 + k.val; rw [e.2]; omega

theorem iblk_6 (c : Dev nD) (t : Fin cfg0.N) (k : Fin 2048) :
    (iblk m c 6 t : Vec Ideal S1x2048 .f32) (ix2 0 k) = G m c (ix2 0 ⟨k.val % 128, by omega⟩) := by
  rw [← V_v5]
  have e := (idx_whole t).1
  refine congrArg (V m c main_v5) (eq_at2 _ _ _ ?_ ?_)
  · show win0_6.index t 0 * 1 + 1 * 0 = 0; rw [e.1]
  · show win0_6.index t 1 * 2048 + 1 * k.val = k.val; rw [e.2]; omega

theorem iblk_7 (c : Dev nD) (t : Fin cfg0.N) (k q : Fin 2048) : (iblk m c 7 t : Vec Ideal S2048x2048 .bf16) (ix2 k q) = Wdn m c (ix3 0 k q) := by
  rw [← V_v7]
  have e := (idx_whole t).2.1
  refine congrArg (V m c main_v7) (eq_at2 _ _ _ ?_ ?_)
  · show win0_7.index t 0 * 2048 + 1 * k.val = k.val; rw [e.1]; omega
  · show win0_7.index t 1 * 2048 + 1 * q.val = q.val; rw [e.2]; omega

theorem iblk_8 (c : Dev nD) (t : Fin cfg0.N) (k q : Fin 2048) : (iblk m c 8 t : Vec Ideal S2048x2048 .bf16) (ix2 k q) = Wout m c (ix3 0 k q) := by
  rw [← V_v9]
  have e := (idx_whole t).2.2
  refine congrArg (V m c main_v9) (eq_at2 _ _ _ ?_ ?_)
  · show win0_8.index t 0 * 2048 + 1 * k.val = k.val; rw [e.1]; omega
  · show win0_8.index t 1 * 2048 + 1 * q.val = q.val; rw [e.2]; omega

theorem iblk_9 (c : Dev nD) (t : Fin cfg0.N) (r : Fin 256) (k : Fin 2048) (h : 256 * t.val + r.val < 8192) :
    (iblk m c 9 t : Vec Ideal S256x2048 .f32) (ix2 r k) = X m c (ix3 ⟨(256 * t.val + r.val) / 2048, by omega⟩ ⟨(256 * t.val + r.val) % 2048, by omega⟩ k) := by
  refine Eq.trans ?_ (V_v0 m c ⟨256 * t.val + r.val, h⟩ k)
  have e := (idx_rows t).2.2.2.2.1
  refine congrArg (V m c main_v0) (eq_at2 _ _ _ ?_ ?_)
  · show win0_9.index t 0 * 256 + 1 * r.val = 256 * t.val + r.val; rw [e.1]; omega
  · show win0_9.index t 1 * 2048 + 1 * k.val = k.val; rw [e.2]; omega

theorem iblk_10 (c : Dev nD) (t : Fin cfg0.N) (r : Fin 256) (k : Fin 2048) (h : 256 * t.val + r.val < 8192) :
    (iblk m c 10 t : Vec Ideal S1x1x2048 .f32) (ix3 0 0 k) = Mods m c (ix3 ⟨(256 * t.val + r.val) / 2048, by omega⟩ 0 ⟨4096 + k.val, by omega⟩) := by
  rw [show Mods m c = V m c main_arg7 from (V_main_arg7 m c).symm]
  have e := (idx_scan t).2.2
  refine congrArg (V m c main_arg7) (eq_at3 _ _ _ _ ?_ ?_ ?_)
  · show win0_10.index t 0 * 1 + 1 * 0 = (256 * t.val + r.val) / 2048; rw [e.1]; omega
  · show win0_10.index t 1 * 1 + 1 * 0 = 0; rw [e.2.1]
  · show win0_10.index t 2 * 2048 + 1 * k.val = 4096 + k.val; rw [e.2.2]; omega

/-- The output array. -/
abbrev Out (c : Dev nD) : S8192x2048.Idx → EReal := outOf (Yc m c) (O2 m c) (P m c) (G m c) (Wdn m c) (Wout m c) (X m c) (Mods m c)

theorem flushed_11 (c : Dev nD) (t : Fin cfg0.N) :
    (dats m 0 c).flushed 11 t = ((cfg0.win 11).blk t).view.read (Elt Ideal) (Out m c) := by
  show (cfg0.win 11).cut (grid0.coords t) ((dats m 0 c).after 11 t) = _
  rw [after0_11]
  funext j
  rw [View.read_apply]
  have ht := lt_N t
  obtain ⟨r, q, rfl⟩ : ∃ (r : Fin 256) (q : Fin 2048), j = ix2 r q := ⟨j 0, j 1, eq_ix2 j⟩
  have h : 256 * t.val + r.val < 8192 := by omega
  have e := (idx_rows t).2.2.2.2.2
  have hemb : (((cfg0.win 11).blk t).view.emb (ix2 r q) : S8192x2048.Idx) = ix2 ⟨256 * t.val + r.val, h⟩ q := by
    refine eq_at2 _ _ _ ?_ ?_
    · show win0_11.index t 0 * 256 + 1 * r.val = 256 * t.val + r.val; rw [e.1]; omega
    · show win0_11.index t 1 * 2048 + 1 * q.val = q.val; rw [e.2]; omega
  refine Eq.trans ?_ (congrArg (Out m c) hemb).symm
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) r q).trans ?_
  show _ = merged (Yc m c) (O2 m c) (P m c) (G m c) (Wdn m c) (Wout m c) (X m c) (Mods m c) ⟨256 * t.val + r.val, h⟩ q
  unfold merged mixedOf
  simp only [iblk_0 m c t _ _ h, iblk_1 m c t _ _ h, iblk_2 m c t _ _ h, iblk_3 m c t _ _ h, iblk_4 m c t _ _ h, iblk_5 m c t _ _ h, iblk_6, iblk_7, iblk_8, iblk_9 m c t _ _ h, iblk_10 m c t r _ h]

theorem final_11 (c : Dev nD) : (dats m 0 c).arrAt 11 cfg0.N = Out m c :=
  (dats m 0 c).arrAt_eq_of_cover 11 _ (fun t _ => flushed_11 m c t) fun i => by
    have h0 : (i 0 : Nat) < 8192 := (i 0).isLt
    have h1 : (i 1 : Nat) < 2048 := (i 1).isLt
    have ht : (i 0 : Nat) / 256 < cfg0.N := by rw [show cfg0.N = 32 from N_0]; omega
    refine ⟨⟨(i 0 : Nat) / 256, ht⟩, flush0_11 _, ?_⟩
    show i ∈ ((View.whole main_v10).slice (win0_11.rect ⟨(i 0 : Nat) / 256, ht⟩)).set
    rw [View.set_slice_whole, Rect.mem_set_unit]
    have hi := (idx_rows ⟨(i 0 : Nat) / 256, ht⟩).2.2.2.2.2
    dsimp only at hi
    intro a
    match a with
    | ⟨0, _⟩ => show win0_11.index ⟨_, ht⟩ 0 * 256 ≤ (i 0 : Nat) ∧ (i 0 : Nat) < win0_11.index ⟨_, ht⟩ 0 * 256 + 256
                rw [hi.1]; omega
    | ⟨1, _⟩ => show win0_11.index ⟨_, ht⟩ 1 * 2048 ≤ (i 1 : Nat) ∧ (i 1 : Nat) < win0_11.index ⟨_, ht⟩ 1 * 2048 + 2048
                rw [hi.2]; omega

/-- The run read: the residual stream after the merge, and every argument unchanged. -/
theorem run : θ_run defs (onTc (τ := τ) (main (F := Ideal))) ⟨m, fun _ => 0, ρ⟩ fun r => ∀ c : Dev nD,
      r.2.mem ((c : Thread nD τ).loc main_v10) = Out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final_11 m c), (h c).2⟩) (Cert.MergeIdeal.Value.run_blocks m ρ)

end Cert.MergeRun

end
-- ==== Proof.Merge.Reference.lean ====
/- What the merge call's reference computes. -/
module

public import proofs.«01_k».proof.Proof.Merge.Value
public import proofs.«01_k».proof.Proof.Gen.MergeRefIdeal.Run

@[expose] public section

set_option maxRecDepth 16384

noncomputable section

namespace Cert.MergeRun.Ref

open Cert.MergeRefIdeal Cert.MergeRefIdeal.Gen
open Idealize.ShloMosaic Idealize.ShloMosaic.TcCoe Idealize.SL.Sem

/-- The two directions' outputs added, one row of 128 per head. -/
def heads (o : S2x8192x2048.Idx → EReal) : FVec Ideal S4x2048x16x128 .f32 :=
  shapeCast _ (addf (F := Ideal) (φ := .f32) (extf (F := Ideal) (φ := .bf16) .f32 (shapeCast _ (extractStridedSlice S1x8192x2048 ![0, 0, 0] o slices_S2x8192x2048_S1x8192x2048_0_0_0) shapeCasts_S1x8192x2048_S8192x2048) bitsLt_bf16_f32) (extf (F := Ideal) (φ := .bf16) .f32 (shapeCast _ (extractStridedSlice S1x8192x2048 ![1, 0, 0] o slices_S2x8192x2048_S1x8192x2048_1_0_0) shapeCasts_S1x8192x2048_S8192x2048) bitsLt_bf16_f32)) shapeCasts_S8192x2048_S4x2048x16x128

/-- Each head's row over its root mean square, times the gain. -/
def rms (h : FVec Ideal S4x2048x16x128 .f32) (g : S1x128.Idx → EReal) : FVec Ideal S4x2048x16x128 .f32 :=
  mulf (F := Ideal) (φ := .f32) (mulf (F := Ideal) (φ := .f32) h (broadcastInDim S4x2048x16x128 ![0, 1, 2, 3] bcast_S4x2048x16x1_S4x2048x16x128_0_1_2_3 (Host.rsqrt (addf (F := Ideal) (φ := .f32) (Host.divf (broadcastInDim S4x2048x16x1 ![0, 1, 2] bcast_S4x2048x16_S4x2048x16x1_0_1_2 (Host.reduceAdd (mulf (F := Ideal) (φ := .f32) h h) (constant (F := Ideal) S_ .f32 0x00000000#32) reducesTo_S4x2048x16x128_S4x2048x16_d3 h_S_)) (broadcastInDim S4x2048x16x1 ![] bcast_S_S4x2048x16x1 (constant (F := Ideal) S_ .f32 0x43000000#32))) (broadcastInDim S4x2048x16x1 ![] bcast_S_S4x2048x16x1 (constant (F := Ideal) S_ .f32 0x358637BD#32)))))) (broadcastInDim S4x2048x16x128 ![0, 1, 2, 3] bcast_S1x1x1x128_S4x2048x16x128_0_1_2_3 (broadcastInDim S1x1x1x128 ![3] bcast_S128_S1x1x1x128_3 (shapeCast _ g shapeCasts_S1x128_S128)))

/-- The gate's logistic linear unit, one row of 128 per head. -/
def swish (p : S8192x16384.Idx → EReal) : FVec Ideal S4x2048x16x128 .f32 :=
  mulf (F := Ideal) (φ := .f32) (shapeCast _ (extractStridedSlice S8192x2048 ![0, 10240] p slices_S8192x16384_S8192x2048_0_10240) shapeCasts_S8192x2048_S4x2048x16x128) (Host.divf (broadcastInDim S4x2048x16x128 ![] bcast_S_S4x2048x16x128 (constant (F := Ideal) S_ .f32 0x3F800000#32)) (addf (F := Ideal) (φ := .f32) (broadcastInDim S4x2048x16x128 ![] bcast_S_S4x2048x16x128 (constant (F := Ideal) S_ .f32 0x3F800000#32)) (Host.exp (Host.negf (shapeCast _ (extractStridedSlice S8192x2048 ![0, 10240] p slices_S8192x16384_S8192x2048_0_10240) shapeCasts_S8192x2048_S4x2048x16x128)))))

/-- The two branches' gates. -/
def gates (p : S8192x16384.Idx → EReal) : FVec Ideal S4x2048x4096 .f32 :=
  Host.divf (broadcastInDim S4x2048x4096 ![] bcast_S_S4x2048x4096 (constant (F := Ideal) S_ .f32 0x3F800000#32)) (addf (F := Ideal) (φ := .f32) (broadcastInDim S4x2048x4096 ![] bcast_S_S4x2048x4096 (constant (F := Ideal) S_ .f32 0x3F800000#32)) (Host.exp (Host.negf (shapeCast _ (extractStridedSlice S8192x4096 ![0, 12288] p slices_S8192x16384_S8192x4096_0_12288) shapeCasts_S8192x4096_S4x2048x4096))))

/-- The branches mixed by their gates, where `h` holds the second branch before its output weight. -/
def mixture (h : FVec Ideal S4x2048x16x128 .f32) (p : S8192x16384.Idx → EReal) (yc : S8192x2048.Idx → EReal) (wdn : S1x2048x2048.Idx → EReal) : FVec Ideal S4x2048x2048 .f32 :=
  addf (F := Ideal) (φ := .f32) (mulf (F := Ideal) (φ := .f32) (extractStridedSlice S4x2048x2048 ![0, 0, 0] (gates p) slices_S4x2048x4096_S4x2048x2048_0_0_0) (shapeCast _ yc shapeCasts_S8192x2048_S4x2048x2048)) (mulf (F := Ideal) (φ := .f32) (extractStridedSlice S4x2048x2048 ![0, 0, 2048] (gates p) slices_S4x2048x4096_S4x2048x2048_0_0_2048) (Host.dotGeneral (φ₁ := .f32) (φ₂ := .f32) dot_S4x2048x2048_S2048x2048_S4x2048x2048_2_0_01_1_n_n none (shapeCast _ h shapeCasts_S4x2048x16x128_S4x2048x2048) (shapeCast _ wdn shapeCasts_S1x2048x2048_S2048x2048)))

/-- The residual plus the gated output product. -/
def residual (y : FVec Ideal S4x2048x2048 .f32) (wout : S1x2048x2048.Idx → EReal) (x : S4x2048x2048.Idx → EReal) (md : S8x1x12288.Idx → EReal) : FVec Ideal S8192x2048 .f32 :=
  shapeCast _ (addf (F := Ideal) (φ := .f32) x (mulf (F := Ideal) (φ := .f32) (broadcastInDim S4x2048x2048 ![0, 1, 2] bcast_S4x1x2048_S4x2048x2048_0_1_2 (broadcastInDim S4x1x2048 ![0, 2] bcast_S4x2048_S4x1x2048_0_2 (extractStridedSlice S4x2048 ![0, 4096] (shapeCast _ (extractStridedSlice S4x1x12288 ![0, 0, 0] md slices_S8x1x12288_S4x1x12288_0_0_0) shapeCasts_S4x1x12288_S4x12288) slices_S4x12288_S4x2048_0_4096))) (Host.dotGeneral (φ₁ := .f32) (φ₂ := .f32) dot_S4x2048x2048_S2048x2048_S4x2048x2048_2_0_01_1_n_n none y (shapeCast _ wout shapeCasts_S1x2048x2048_S2048x2048)))) shapeCasts_S4x2048x2048_S8192x2048

theorem heads_apply (o : S2x8192x2048.Idx → EReal) (b : Fin 4) (s : Fin 2048) (h : Fin 16) (j : Fin 128) :
    heads o (ix4 b s h j) = o (ix3 0 ⟨b.val * 2048 + s.val, by omega⟩ ⟨h.val * 128 + j.val, by omega⟩) + o (ix3 1 ⟨b.val * 2048 + s.val, by omega⟩ ⟨h.val * 128 + j.val, by omega⟩) := by
  pointwise [heads]

theorem rms_apply (v : FVec Ideal S4x2048x16x128 .f32) (g : S1x128.Idx → EReal) (b : Fin 4) (s : Fin 2048) (h : Fin 16) (j : Fin 128) :
    rms v g (ix4 b s h j) = v (ix4 b s h j) * Ideal.rsqrt (Ideal.div (∑ i : Fin 128, v (ix4 b s h i) * v (ix4 b s h i)) (Ideal.ofBits FTy.f32 1124073472#32) + Ideal.ofBits FTy.f32 897988541#32) * g (ix2 0 j) := by
  pointwise [rms]

theorem swish_apply (p : S8192x16384.Idx → EReal) (b : Fin 4) (s : Fin 2048) (h : Fin 16) (j : Fin 128) :
    swish p (ix4 b s h j) = p (ix2 ⟨b.val * 2048 + s.val, by omega⟩ ⟨10240 + (h.val * 128 + j.val), by omega⟩) * squash (p (ix2 ⟨b.val * 2048 + s.val, by omega⟩ ⟨10240 + (h.val * 128 + j.val), by omega⟩)) := by
  pointwise [swish, squash]

theorem gates_apply (p : S8192x16384.Idx → EReal) (b : Fin 4) (s : Fin 2048) (k : Fin 4096) :
    gates p (ix3 b s k) = squash (p (ix2 ⟨b.val * 2048 + s.val, by omega⟩ ⟨12288 + k.val, by omega⟩)) := by
  pointwise [gates, squash]

theorem mixture_apply (h : FVec Ideal S4x2048x16x128 .f32) (p : S8192x16384.Idx → EReal) (yc : S8192x2048.Idx → EReal) (wdn : S1x2048x2048.Idx → EReal) (b : Fin 4) (s q : Fin 2048) :
    mixture h p yc wdn (ix3 b s q) = gates p (ix3 b s ⟨q.val, by omega⟩) * yc (ix2 ⟨b.val * 2048 + s.val, by omega⟩ q)
      + gates p (ix3 b s ⟨2048 + q.val, by omega⟩) * ∑ k : Fin 2048, h (ix4 b s ⟨k.val / 128, by omega⟩ ⟨k.val % 128, by omega⟩) * wdn (ix3 0 k q) := by
  pointwise [mixture]

theorem residual_apply (y : FVec Ideal S4x2048x2048 .f32) (wout : S1x2048x2048.Idx → EReal) (x : S4x2048x2048.Idx → EReal) (md : S8x1x12288.Idx → EReal) (r : Fin 8192) (q : Fin 2048) :
    residual y wout x md (ix2 r q) = x (ix3 ⟨r.val / 2048, by omega⟩ ⟨r.val % 2048, by omega⟩ q)
      + md (ix3 ⟨r.val / 2048, by omega⟩ 0 ⟨4096 + q.val, by omega⟩) * ∑ k : Fin 2048, y (ix3 ⟨r.val / 2048, by omega⟩ ⟨r.val % 2048, by omega⟩ k) * wout (ix3 0 k q) := by
  pointwise [residual]

variable (m : (ℓ : Loc nD τ sig) → Buf (Elt Ideal) ℓ)

theorem result_eq (c : Dev nD) : (Cert.MergeRefIdeal.Value.res_main_v57 m c : S8192x2048.Idx → EReal)
    = residual (mixture (mulf (F := Ideal) (φ := .f32) (rms (heads (m ((c : Thread nD τ).loc main_arg1))) (m ((c : Thread nD τ).loc main_arg3))) (swish (m ((c : Thread nD τ).loc main_arg2))))
        (m ((c : Thread nD τ).loc main_arg2)) (m ((c : Thread nD τ).loc main_arg0)) (m ((c : Thread nD τ).loc main_arg4)))
      (m ((c : Thread nD τ).loc main_arg5)) (m ((c : Thread nD τ).loc main_arg6)) (m ((c : Thread nD τ).loc main_arg7)) := rfl

/-- The row whose batch and position are `r`'s is `r`. -/
theorem row_eq (r : Fin 8192) (h : r.val / 2048 * 2048 + r.val % 2048 < 8192) : (⟨r.val / 2048 * 2048 + r.val % 2048, h⟩ : Fin 8192) = r := Fin.ext (by show r.val / 2048 * 2048 + r.val % 2048 = r.val; omega)

/-- The feature whose head and place are `k`'s is `k`. -/
theorem feature_eq (k : Fin 2048) (h : k.val / 128 * 128 + k.val % 128 < 2048) : (⟨k.val / 128 * 128 + k.val % 128, h⟩ : Fin 2048) = k := Fin.ext (by show k.val / 128 * 128 + k.val % 128 = k.val; omega)

/-- The same written with the head's number on the right of the product. -/
theorem headNorm_eq (o : Fin 2048 → EReal) (k : Fin 2048) : headNorm o k
    = o k * Ideal.rsqrt (Ideal.div (∑ i : Fin 128, o ⟨k.val / 128 * 128 + i.val, by omega⟩ * o ⟨k.val / 128 * 128 + i.val, by omega⟩) (Ideal.ofBits FTy.f32 1124073472#32) + Ideal.ofBits FTy.f32 897988541#32) := by
  unfold headNorm headAt
  have e : (⟨128 * (k.val / 128) + k.val % 128, by omega⟩ : Fin 2048) = k := Fin.ext (by show 128 * (k.val / 128) + k.val % 128 = k.val; omega)
  have e' : ∀ i : Fin 128, (⟨128 * (k.val / 128) + i.val, by omega⟩ : Fin 2048) = ⟨k.val / 128 * 128 + i.val, by omega⟩ := fun i => Fin.ext (by show 128 * (k.val / 128) + i.val = k.val / 128 * 128 + i.val; omega)
  dsimp only
  rw [e]
  simp only [e']

/-- The reference's lines, read at one token and feature. -/
theorem out_apply (c : Dev nD) (r : Fin 8192) (q : Fin 2048) : (Cert.MergeRefIdeal.Value.res_main_v57 m c : S8192x2048.Idx → EReal) (ix2 r q)
    = merged (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) r q := by
  rw [result_eq, residual_apply]
  unfold merged
  refine congrArg₂ (· + ·) rfl (congrArg₂ (· * ·) rfl (Finset.sum_congr rfl fun k _ => congrArg₂ (· * ·) ?_ rfl))
  rw [mixture_apply, gates_apply, gates_apply]
  unfold mixedOf mixed
  simp only [row_eq]
  refine congrArg₂ (· + ·) (congrArg₂ (· * ·) rfl rfl) (congrArg₂ (· * ·) (congrArg (fun n => squash (m ((c : Thread nD τ).loc main_arg2) n)) ?_) (Finset.sum_congr rfl fun j _ => congrArg₂ (· * ·) ?_ rfl))
  · exact congrArg (ix2 r) (Fin.ext (by show 12288 + (2048 + k.val) = 14336 + k.val; omega))
  · rw [headNorm_eq]
    refine congrArg₂ (· * ·) ((rms_apply ..).trans ?_) ((swish_apply ..).trans ?_)
    · simp only [heads_apply, row_eq, feature_eq]
    · have e : j.val / 128 * 128 + j.val % 128 = j.val := by omega
      simp only [row_eq, e]

variable (ρ : Dev nD → PrngReg)

/-- The reference's run: the residual stream after the merge, and every argument unchanged. -/
theorem run : θ_run defs (onTc (τ := τ) (main (F := Ideal))) ⟨m, fun _ => 0, ρ⟩ fun r => ∀ c : Dev nD,
      r.2.mem ((c : Thread nD τ).loc main_v57) = outOf (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (funext fun i => by
    obtain ⟨r, k, rfl⟩ : ∃ (r : Fin 8192) (k : Fin 2048), i = ix2 r k := ⟨i 0, i 1, eq_ix2 i⟩
    exact out_apply m c r k), (h c).2⟩) (Cert.MergeRefIdeal.Value.run m ρ)

end Cert.MergeRun.Ref

end
-- ==== Proof.Mod.Value.lean ====
/- What the modulation call computes: silu of the conditioning rows against a weight, plus a bias; and the reference's. -/
module

public import proofs.«01_k».proof.Defs
public import proofs.«01_k».proof.Proof.Gen.ModIdeal.Value
public import proofs.«01_k».proof.Proof.Gen.ModRefIdeal.Run
public import Idealize.ShloMosaic.Lib.Pipeline.ValueKit
public import Idealize.ShloMosaic.Lib.Pipeline.Value
public import Idealize.ShloMosaic.Lib.Routing.OpsOne
public import Idealize.ShloMosaic.Lib.Pointwise

@[expose] public section

set_option maxRecDepth 16384

noncomputable section

namespace Cert.ModRun

open Cert.ModIdeal Cert.ModIdeal.Gen
open Idealize.ShloMosaic Idealize.ShloMosaic.TcCoe Idealize.SL.Sem
open Idealize.ShloMosaic.Pipeline (Dat)

/-- `x` times its logistic. -/
def silu (x : EReal) : EReal := x * Ideal.div 1 (1 + Ideal.exp (-x))

theorem silu_zero : silu 0 = 0 := zero_mul _

/-- The eight conditioning rows: four of the tokens' batches, one of the context's, and three rows of zeros. -/
def rows (x : S4x2048.Idx → EReal) (cc : S2048.Idx → EReal) (r : Fin 8) (k : Fin 2048) : EReal :=
  if h : r.val < 4 then x (ix2 ⟨r.val, h⟩ k) else if r.val = 4 then cc (ix1 k) else 0

/-- The modulation. -/
def outOf (x : S4x2048.Idx → EReal) (cc : S2048.Idx → EReal) (w : S1x2048x12288.Idx → EReal) (b : S1x12288.Idx → EReal) : S8x12288.Idx → EReal :=
  fun i => (∑ k, silu (rows x cc (i 0) k) * w (ix3 0 k (i 1))) + b (ix2 0 (i 1))

theorem outOf_apply (x : S4x2048.Idx → EReal) (cc : S2048.Idx → EReal) (w : S1x2048x12288.Idx → EReal) (b : S1x12288.Idx → EReal) (r : Fin 8) (q : Fin 12288) :
    outOf x cc w b (ix2 r q) = (∑ k, silu (rows x cc r k) * w (ix3 0 k q)) + b (ix2 0 q) := rfl

theorem pay1_apply (x : Vec Ideal S8x2048 .f32) (w : Vec Ideal S2048x1024 .f32) (b : Vec Ideal S1x1024 .f32) (r : Fin 8) (q : Fin 1024) :
    k0_pay1 x w b (ix2 r q) = (∑ k, silu (x (ix2 r k)) * w (ix2 k q)) + b (ix2 0 q) := by
  pointwise [k0_pay1, silu]
  simp only [zero_sub]

/-! ## Rows set into an array of zeros -/

/-- Row `a` of the update that sets rows 0 to 4 lands at row `a`. -/
theorem lands_rows (idx : IVec S1 32) (h0 : (idx (ix1 0)).toInt = 0) (a : Fin 4) (e : Fin 2048) (r : Fin 8) (k : Fin 2048) :
    scatter_S8x2048_S1_S4x2048_01_n_0_0.resultIdx? (ix2 a e) idx = some (ix2 r k) ↔ a.val = r.val ∧ e.val = k.val := by
  have s0 : scatter_S8x2048_S1_S4x2048_01_n_0_0.start (ix2 a e) idx 0 = 0 := by
    unfold ScatterDims.start
    rw [dif_pos (by decide)]
    refine Eq.trans (congrArg (fun j => (idx j).toInt) ?_) h0
    funext b
    match b with
    | ⟨0, _⟩ => exact Subsingleton.elim (α := Fin 1) _ _
  have s1 : scatter_S8x2048_S1_S4x2048_01_n_0_0.start (ix2 a e) idx 1 = 0 := by
    unfold ScatterDims.start
    rw [dif_neg (by decide)]
  have w0 : scatter_S8x2048_S1_S4x2048_01_n_0_0.window (ix2 a e) 0 = a.val := by
    unfold ScatterDims.window
    rw [dif_pos (by decide)]
    rfl
  have w1 : scatter_S8x2048_S1_S4x2048_01_n_0_0.window (ix2 a e) 1 = e.val := by
    unfold ScatterDims.window
    rw [dif_pos (by decide)]
    rfl
  refine (Routing.resultIdx?_ix2 _ _ idx r k).trans ?_
  rw [s0, s1, w0, w1]
  omega

/-- The update that sets row 4 lands there. -/
theorem lands_row (idx : IVec S1 32) (h0 : (idx (ix1 0)).toInt = 4) (e : Fin 2048) (r : Fin 8) (k : Fin 2048) :
    scatter_S8x2048_S1_S2048_0_0_0_0.resultIdx? (ix1 e) idx = some (ix2 r k) ↔ r.val = 4 ∧ e.val = k.val := by
  have s0 : scatter_S8x2048_S1_S2048_0_0_0_0.start (ix1 e) idx 0 = 4 := by
    unfold ScatterDims.start
    rw [dif_pos (by decide)]
    refine Eq.trans (congrArg (fun j => (idx j).toInt) ?_) h0
    funext b
    match b with
    | ⟨0, _⟩ => exact Subsingleton.elim (α := Fin 1) _ _
  have s1 : scatter_S8x2048_S1_S2048_0_0_0_0.start (ix1 e) idx 1 = 0 := by
    unfold ScatterDims.start
    rw [dif_neg (by decide)]
  have w0 : scatter_S8x2048_S1_S2048_0_0_0_0.window (ix1 e) 0 = 0 := by
    unfold ScatterDims.window
    rw [dif_neg (by decide)]
  have w1 : scatter_S8x2048_S1_S2048_0_0_0_0.window (ix1 e) 1 = e.val := by
    unfold ScatterDims.window
    rw [dif_pos (by decide)]
    rfl
  refine (Routing.resultIdx?_ix2 _ _ idx r k).trans ?_
  rw [s0, s1, w0, w1]
  omega

theorem scatter_rows (z : S8x2048.Idx → EReal) (idx : IVec S1 32) (h0 : (idx (ix1 0)).toInt = 0) (x : S4x2048.Idx → EReal) (r : Fin 8) (k : Fin 2048) :
    Host.scatter scatter_S8x2048_S1_S4x2048_01_n_0_0 (fun _ b => b) z idx x (ix2 r k) = if h : r.val < 4 then x (ix2 ⟨r.val, h⟩ k) else z (ix2 r k) := by
  have lands : ∀ j : S4x2048.Idx, scatter_S8x2048_S1_S4x2048_01_n_0_0.resultIdx? j idx = some (ix2 r k) → (j 0).val = r.val ∧ (j 1).val = k.val := fun j hj =>
    (lands_rows idx h0 (j 0) (j 1) r k).1 ((congrArg (fun t => scatter_S8x2048_S1_S4x2048_01_n_0_0.resultIdx? t idx) (eq_ix2 j).symm).trans hj)
  by_cases h : r.val < 4
  · rw [dif_pos h]
    refine Routing.scatter_set_hit _ z idx x _ _ (fun j hj => ?_) (ix2 ⟨r.val, h⟩ k) ((lands_rows idx h0 ⟨r.val, h⟩ k r k).2 ⟨rfl, rfl⟩)
    have e := lands j hj
    rw [eq_ix2 j]
    exact congrArg₂ (fun a b => x (ix2 a b)) (Fin.ext e.1) (Fin.ext e.2)
  · rw [dif_neg h]
    exact Routing.scatter_set_miss _ z idx x _ fun j hj => h (by have := lands j hj; have h4 : (j 0).val < 4 := (j 0).isLt; omega)

theorem scatter_row (z : S8x2048.Idx → EReal) (idx : IVec S1 32) (h0 : (idx (ix1 0)).toInt = 4) (x : S2048.Idx → EReal) (r : Fin 8) (k : Fin 2048) :
    Host.scatter scatter_S8x2048_S1_S2048_0_0_0_0 (fun _ b => b) z idx x (ix2 r k) = if r.val = 4 then x (ix1 k) else z (ix2 r k) := by
  have lands : ∀ j : S2048.Idx, scatter_S8x2048_S1_S2048_0_0_0_0.resultIdx? j idx = some (ix2 r k) → r.val = 4 ∧ (j 0).val = k.val := fun j hj =>
    (lands_row idx h0 (j 0) r k).1 ((congrArg (fun t => scatter_S8x2048_S1_S2048_0_0_0_0.resultIdx? t idx) (eq_ix1 j).symm).trans hj)
  by_cases h : r.val = 4
  · rw [if_pos h]
    refine Routing.scatter_set_hit _ z idx x _ _ (fun j hj => ?_) (ix1 k) ((lands_row idx h0 k r k).2 ⟨h, rfl⟩)
    rw [eq_ix1 j]
    exact congrArg (fun a => x (ix1 a)) (Fin.ext (lands j hj).2)
  · rw [if_neg h]
    exact Routing.scatter_set_miss _ z idx x _ fun j hj => h (lands j hj).1

/-- What the body leaves in its output block. -/
theorem out_eq (x : Vec Ideal S8x2048 .f32) (w : Vec Ideal S2048x1024 .f32) (b : Vec Ideal S1x1024 .f32) :
    out0_3 x w b = k0_pay1 x w b := by
  have e0 : View.ld x r0_0 = x := View.ld_unit_lit _ _ (by decide)
  have e1 : View.ld w r0_1 = w := View.ld_unit_lit _ _ (by decide)
  have e2 : View.ld b r0_2 = b := View.ld_unit_lit _ _ (by decide)
  unfold out0_3
  rw [e0, e1, e2]
  exact View.canon_cons_unit_lit _ _ _ (by decide)

variable (m : (ℓ : Loc nD τ sig) → Buf (Elt Ideal) ℓ) (ρ : Dev nD → PrngReg)

/-- The arguments as launched. -/
abbrev X (c : Dev nD) : S4x2048.Idx → EReal := m ((c : Thread nD τ).loc main_arg0)
abbrev Ctx (c : Dev nD) : S2048.Idx → EReal := m ((c : Thread nD τ).loc main_arg1)
abbrev W (c : Dev nD) : S1x2048x12288.Idx → EReal := m ((c : Thread nD τ).loc main_arg2)
abbrev B (c : Dev nD) : S1x12288.Idx → EReal := m ((c : Thread nD τ).loc main_arg3)

theorem V_v4 (c : Dev nD) (r : Fin 8) (k : Fin 2048) : V m c main_v4 (ix2 r k) = rows (X m c) (Ctx m c) r k := by
  have e : V m c main_v4 = Host.scatter scatter_S8x2048_S1_S2048_0_0_0_0 (fun _ b => b)
      (Host.scatter scatter_S8x2048_S1_S4x2048_01_n_0_0 (fun _ b => b) (broadcastInDim S8x2048 ![] bcast_S_S8x2048 (constant (F := Ideal) S_ .f32 0x00000000#32))
        (broadcastInDim S1 ![] bcast_S_S1 (constantI S_ 32 0#32)) (X m c))
      (broadcastInDim S1 ![] bcast_S_S1 (constantI S_ 32 4#32)) (Ctx m c) := by
    unfold V; after_results <;> rfl
  rw [e]
  refine (scatter_row _ _ rfl _ r k).trans ?_
  rw [scatter_rows _ _ rfl]
  unfold rows
  have z : (broadcastInDim S8x2048 ![] bcast_S_S8x2048 (constant (F := Ideal) S_ .f32 0x00000000#32) : S8x2048.Idx → EReal) (ix2 r k) = 0 := by pointwise
  rw [z]
  by_cases h : r.val < 4
  · rw [dif_pos h, dif_pos h, if_neg (by omega)]
  · rw [dif_neg h, dif_neg h]

theorem V_v5 (c : Dev nD) (k : Fin 2048) (q : Fin 12288) : V m c main_v5 (ix2 k q) = W m c (ix3 0 k q) := by
  have e : V m c main_v5 = shapeCast S2048x12288 (W m c) shapeCasts_S1x2048x12288_S2048x12288 := by
    unfold V; after_results <;> rfl
  rw [e]
  pointwise

theorem V_v7 (c : Dev nD) (q : Fin 12288) : V m c main_v7 (ix2 0 q) = B m c (ix2 0 q) := by
  have e : V m c main_v7 = shapeCast S1x12288 (shapeCast S12288 (B m c) shapeCasts_S1x12288_S12288) shapeCasts_S12288_S1x12288 := by
    unfold V; after_results <;> rfl
  rw [e]
  pointwise

/-- Where each window's block begins. -/
theorem idx_0 : ∀ t : Fin cfg0.N, win0_0.index t 0 = 0 ∧ win0_0.index t 1 = 0 :=
  (by decide +kernel : ∀ t : Fin grid0.N, win0_0.index t 0 = 0 ∧ win0_0.index t 1 = 0)
theorem idx_1 : ∀ t : Fin cfg0.N, win0_1.index t 0 = 0 ∧ win0_1.index t 1 = t.val :=
  (by decide +kernel : ∀ t : Fin grid0.N, win0_1.index t 0 = 0 ∧ win0_1.index t 1 = t.val)
theorem idx_2 : ∀ t : Fin cfg0.N, win0_2.index t 0 = 0 ∧ win0_2.index t 1 = t.val :=
  (by decide +kernel : ∀ t : Fin grid0.N, win0_2.index t 0 = 0 ∧ win0_2.index t 1 = t.val)
theorem idx_3 : ∀ t : Fin cfg0.N, win0_3.index t 0 = 0 ∧ win0_3.index t 1 = t.val :=
  (by decide +kernel : ∀ t : Fin grid0.N, win0_3.index t 0 = 0 ∧ win0_3.index t 1 = t.val)

theorem lt_N (t : Fin cfg0.N) : t.val < 12 := Nat.lt_of_lt_of_eq t.isLt N_0

theorem iblk_0 (c : Dev nD) (t : Fin cfg0.N) (r : Fin 8) (k : Fin 2048) :
    (iblk m c 0 t : Vec Ideal S8x2048 .f32) (ix2 r k) = rows (X m c) (Ctx m c) r k := by
  rw [← V_v4]
  unfold iblk
  rw [View.read_apply]
  show V m c main_v4 _ = _
  congr 1
  funext a
  apply Fin.ext
  match a with
  | ⟨0, _⟩ => show win0_0.index t 0 * 8 + 1 * r.val = r.val; rw [(idx_0 t).1]; omega
  | ⟨1, _⟩ => show win0_0.index t 1 * 2048 + 1 * k.val = k.val; rw [(idx_0 t).2]; omega

theorem iblk_1 (c : Dev nD) (t : Fin cfg0.N) (k : Fin 2048) (q : Fin 1024) (h : 1024 * t.val + q.val < 12288) :
    (iblk m c 1 t : Vec Ideal S2048x1024 .f32) (ix2 k q) = W m c (ix3 0 k ⟨1024 * t.val + q.val, h⟩) := by
  rw [← V_v5]
  unfold iblk
  rw [View.read_apply]
  show V m c main_v5 _ = _
  congr 1
  funext a
  apply Fin.ext
  match a with
  | ⟨0, _⟩ => show win0_1.index t 0 * 2048 + 1 * k.val = k.val; rw [(idx_1 t).1]; omega
  | ⟨1, _⟩ => show win0_1.index t 1 * 1024 + 1 * q.val = 1024 * t.val + q.val; rw [(idx_1 t).2]; omega

theorem iblk_2 (c : Dev nD) (t : Fin cfg0.N) (q : Fin 1024) (h : 1024 * t.val + q.val < 12288) :
    (iblk m c 2 t : Vec Ideal S1x1024 .f32) (ix2 0 q) = B m c (ix2 0 ⟨1024 * t.val + q.val, h⟩) := by
  rw [← V_v7]
  unfold iblk
  rw [View.read_apply]
  show V m c main_v7 _ = _
  congr 1
  funext a
  apply Fin.ext
  match a with
  | ⟨0, _⟩ => show win0_2.index t 0 * 1 + 1 * 0 = 0; rw [(idx_2 t).1]
  | ⟨1, _⟩ => show win0_2.index t 1 * 1024 + 1 * q.val = 1024 * t.val + q.val; rw [(idx_2 t).2]; omega

theorem flushed_3 (c : Dev nD) (t : Fin cfg0.N) :
    (dats m 0 c).flushed 3 t = ((cfg0.win 3).blk t).view.read (Elt Ideal) (outOf (X m c) (Ctx m c) (W m c) (B m c)) := by
  show (cfg0.win 3).cut (grid0.coords t) ((dats m 0 c).after 3 t) = _
  rw [after0_3, out_eq]
  funext j
  rw [View.read_apply]
  have ht := lt_N t
  obtain ⟨r, q, rfl⟩ : ∃ (r : Fin 8) (q : Fin 1024), j = ix2 r q := ⟨j 0, j 1, eq_ix2 j⟩
  have hq : 1024 * t.val + q.val < 12288 := by omega
  show k0_pay1 (iblk m c 0 t) (iblk m c 1 t) (iblk m c 2 t) (ix2 r q) = _
  rw [show (((cfg0.win 3).blk t).view.emb (ix2 r q) : S8x12288.Idx) = ix2 r ⟨1024 * t.val + q.val, hq⟩ from by
    funext a
    apply Fin.ext
    match a with
    | ⟨0, _⟩ => show win0_3.index t 0 * 8 + 1 * r.val = r.val; rw [(idx_3 t).1]; omega
    | ⟨1, _⟩ => show win0_3.index t 1 * 1024 + 1 * q.val = 1024 * t.val + q.val; rw [(idx_3 t).2]; omega]
  refine (pay1_apply _ _ _ r q).trans (Eq.trans ?_ (outOf_apply _ _ _ _ r ⟨1024 * t.val + q.val, hq⟩).symm)
  exact congrArg₂ (· + ·) (Finset.sum_congr rfl fun k _ => congrArg₂ (· * ·) (congrArg silu (iblk_0 m c t r k)) (iblk_1 m c t k q hq)) (iblk_2 m c t q hq)

theorem final_3 (c : Dev nD) : (dats m 0 c).arrAt 3 cfg0.N = outOf (X m c) (Ctx m c) (W m c) (B m c) :=
  (dats m 0 c).arrAt_eq_of_cover 3 _ (fun t _ => flushed_3 m c t) fun i => by
    have h0 : (i 0 : Nat) < 8 := (i 0).isLt
    have h1 : (i 1 : Nat) < 12288 := (i 1).isLt
    have ht : (i 1 : Nat) / 1024 < cfg0.N := by rw [show cfg0.N = 12 from N_0]; omega
    refine ⟨⟨(i 1 : Nat) / 1024, ht⟩, flush0_3 _, ?_⟩
    show i ∈ ((View.whole main_v8).slice (win0_3.rect ⟨(i 1 : Nat) / 1024, ht⟩)).set
    rw [View.set_slice_whole, Rect.mem_set_unit]
    have hi := idx_3 ⟨(i 1 : Nat) / 1024, ht⟩
    dsimp only at hi
    intro a
    match a with
    | ⟨0, _⟩ => show win0_3.index ⟨_, ht⟩ 0 * 8 ≤ (i 0 : Nat) ∧ (i 0 : Nat) < win0_3.index ⟨_, ht⟩ 0 * 8 + 8
                rw [hi.1]; omega
    | ⟨1, _⟩ => show win0_3.index ⟨_, ht⟩ 1 * 1024 ≤ (i 1 : Nat) ∧ (i 1 : Nat) < win0_3.index ⟨_, ht⟩ 1 * 1024 + 1024
                rw [hi.2]; omega

/-- The run read: the modulation, and every argument unchanged. -/
theorem run : θ_run defs (onTc (τ := τ) (main (F := Ideal))) ⟨m, fun _ => 0, ρ⟩ fun r => ∀ c : Dev nD,
      r.2.mem ((c : Thread nD τ).loc main_v8) = outOf (X m c) (Ctx m c) (W m c) (B m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_3 m c), (h c).2⟩) (Cert.ModIdeal.Value.run_blocks m ρ)

end Cert.ModRun

/-! ## The reference -/

namespace Cert.ModRun.Ref

open Cert.ModRefIdeal Cert.ModRefIdeal.Gen
open Idealize.ShloMosaic Idealize.ShloMosaic.TcCoe Idealize.SL.Sem

/-- The reference's lines, read at one row and column. -/
theorem out_apply (x : S4x2048.Idx → EReal) (cc : S2048.Idx → EReal) (w : S1x2048x12288.Idx → EReal) (b : S1x12288.Idx → EReal) (r : Fin 8) (q : Fin 12288) :
    (addf (F := Ideal) (φ := .f32) (Host.dotGeneral (φ₁ := .f32) (φ₂ := .f32) dot_S8x2048_S2048x12288_S8x12288_1_0_0_1_n_n none ((concatenate S8x2048 0 [⟨S4x2048, ((mulf (F := Ideal) (φ := .f32) x (Host.divf (broadcastInDim S4x2048 ![] bcast_S_S4x2048 (constant (F := Ideal) S_ .f32 0x3F800000#32)) (addf (broadcastInDim S4x2048 ![] bcast_S_S4x2048 (constant (F := Ideal) S_ .f32 0x3F800000#32)) (Host.exp (Host.negf x))))) : (⟨S4x2048, .f32⟩ : BufTy).Contents (Elt Ideal))⟩, ⟨S1x2048, ((broadcastInDim S1x2048 ![1] bcast_S2048_S1x2048_1 (mulf (F := Ideal) (φ := .f32) cc (Host.divf (broadcastInDim S2048 ![] bcast_S_S2048 (constant (F := Ideal) S_ .f32 0x3F800000#32)) (addf (broadcastInDim S2048 ![] bcast_S_S2048 (constant (F := Ideal) S_ .f32 0x3F800000#32)) (Host.exp (Host.negf cc)))))) : (⟨S1x2048, .f32⟩ : BufTy).Contents (Elt Ideal))⟩, ⟨S3x2048, ((broadcastInDim S3x2048 ![] bcast_S_S3x2048 (constant (F := Ideal) S_ .f32 0x00000000#32)) : (⟨S3x2048, .f32⟩ : BufTy).Contents (Elt Ideal))⟩] concatenates_S4x2048_S1x2048_S3x2048_S8x2048_d0 : (⟨S8x2048, .f32⟩ : BufTy).Contents (Elt Ideal))) (shapeCast _ w shapeCasts_S1x2048x12288_S2048x12288)) (broadcastInDim S8x12288 ![0, 1] bcast_S1x12288_S8x12288_0_1 (broadcastInDim S1x12288 ![1] bcast_S12288_S1x12288_1 (shapeCast _ b shapeCasts_S1x12288_S12288))) : S8x12288.Idx → EReal) (ix2 r q) = outOf x cc w b (ix2 r q) := by
  rw [outOf_apply]
  pointwise
  refine congrArg (· + b (ix2 0 q)) ?_
  refine Finset.sum_congr rfl fun k _ => ?_
  congr 1
  unfold rows
  by_cases h : r.val < 4
  · rw [dif_pos h, dif_pos h]; rfl
  · rw [dif_neg h, dif_neg h]
    by_cases h' : r.val = 4
    · rw [if_pos h', dif_pos (by omega)]; rfl
    · rw [if_neg h', dif_neg (by omega), silu_zero]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v10) = outOf (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (funext fun i => by
      obtain ⟨r, q, rfl⟩ : ∃ (r : Fin 8) (q : Fin 12288), i = ix2 r q := ⟨i 0, i 1, eq_ix2 i⟩
      exact out_apply _ _ _ _ r q), (h c).2⟩)
    (Cert.ModRefIdeal.Value.run m ρ)

end Cert.ModRun.Ref

end
-- ==== Proof.PeerQ.Run.lean ====
/- The launch of the query-projection call: what each grid point leaves in its buffers and in the carried
   activations, and the run of the whole program with the arrays it ends with named. Written over any interpretation of the floating-point types. -/
module

public import proofs.«01_k».proof.Proof.Gen.PeerQIdeal.Frame
public import proofs.«01_k».proof.Proof.Gen.PeerQIdeal.Skeleton
public import Idealize.ShloMosaic.Lib.Pipeline.ValueKit
public import Idealize.ShloMosaic.Lib.Pipeline.Value
public import Idealize.ShloMosaic.Lib.Claim
public import Idealize.ShloMosaic.Lib.Pipeline.TableIdle

@[expose] public section

set_option maxRecDepth 16384

noncomputable section

namespace Cert.PeerQRun

open Cert.PeerQIdeal Cert.PeerQIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's branch is taken at the first column block of a row block. -/
abbrev first (i : grid0.Coords) : Prop := k0_cond1 i = 1#1

theorem first_iff : ∀ t : Fin cfg0.N, first (grid0.coords t) ↔ t.val % 2 = 0 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 1 % 2 := Pipeline.Grid.coords_val t 1 (by decide) rfl
    simp only [first, k0_cond1, e0, e1]
    word_cmp
   : ∀ t : Fin grid0.N, first (grid0.coords t) ↔ t.val % 2 = 0)

/-- The scratch buffer holding the modulated activations of a row block. -/
abbrev acts : Memref sig .tc .vmem S1024x2048 .bf16 := Memref.whole (cc0_scratch0)

theorem invariant_eq (c : Dev nD) :
    (Pipeline.ΦA spec0 c : sProp 𝕄)
      = iprop(iprop((∃ d, owns (c : Thread nD τ) acts fullShare d)) ∗ (∃ r, prngReg c r)) := by
  unfold Pipeline.ΦA; rw [scopedRest0_eq]; simp only [acts, owns_whole]; try rfl

set_option maxHeartbeats 2000000 in
/-- The body at the first column block: the activations are computed and kept, both outputs are stored whole. -/
theorem body_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S2048x1024 .bf16) (harg8 : arg8.IsWhole) (arg9 : Memref sig .tc .vmem S1024x2048 .bf16) (harg9 : arg9.IsWhole) (hc0 : first i)
    (x0 : Vec F S1024x2048 .f32) (x1 : Vec F S1x2048 .f32) (x2 : Vec F S1x1x2048 .f32) (x3 : Vec F S1x1x2048 .f32) (x4 : Vec F S2048x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 (k0_pay2 x0 x1 x3 x2) x4) ∗ owns (c : Thread nD τ) arg8 fullShare (k0_pay3 x0 x1 x3 x2) ∗ owns (c : Thread nD τ) arg9 fullShare (k0_pay2 x0 x1 x3 x2)) -∗ K ⟨⟩))
      ⊢ wp frame (wpE (defs₀ (F := F)) Variants.none c none) E (cc0_peer_q i arg2 harg2 arg3 harg3 arg4 harg4 arg5 harg5 arg6 harg6 arg7 harg7 arg8 harg8 arg9 harg9) K := by
  simp only [cc0_peer_q_eq_skeleton]; unfold cc0_peer_q_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS⟩, Hk⟩
  subst hf0 hf1 hf2 hf3 hf4
  have e0 : View.readAt (Elt F) arg2.view (Rect.unit ![0, 0] S1024x2048.size inb_S1024x2048_S1024x2048_0_0).toLoadRect f0 = View.read (Elt F) arg2.view f0 := View.ld_unit_lit _ _ (by decide)
  have e1 : View.readAt (Elt F) arg3.view (Rect.unit ![0, 0] S1x2048.size inb_S1x2048_S1x2048_0_0).toLoadRect f1 = View.read (Elt F) arg3.view f1 := View.ld_unit_lit _ _ (by decide)
  have e2 : View.readAt (Elt F) arg4.view (Rect.unit ![0, 0, 0] S1x1x2048.size inb_S1x1x2048_S1x1x2048_0_0_0).toLoadRect f2 = View.read (Elt F) arg4.view f2 := View.ld_unit_lit _ _ (by decide)
  have e3 : View.readAt (Elt F) arg5.view (Rect.unit ![0, 0, 0] S1x1x2048.size inb_S1x1x2048_S1x1x2048_0_0_0).toLoadRect f3 = View.read (Elt F) arg5.view f3 := View.ld_unit_lit _ _ (by decide)
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr; swap; · iexact H5
    ipureintro
    refine (View.read_writes_eq_canon _ _ _ (View.cover_of_tiled _ S1024x1024.size (by rfl))).trans ?_
    rw [View.canon_cons_unit_lit _ _ _ (by decide)]
    unfold body_first.sl.v3 body_first.sl.HS_1
    refine congrArg₂ k0_pay4 ?_ (View.ld_unit_lit _ _ (by decide))
    exact View.readCov_unit_lit _ _ _ (by decide)
  isplitl [H6]
  · iexists _; isplitr; swap; · iexact H6
    ipureintro
    refine (View.read_writes_eq_canon _ _ _ (View.cover_of_tiled _ S2048x1024.size (by rfl))).trans ?_
    rw [View.canon_cons_unit_lit _ _ _ (by decide)]
  iexists _; isplitr; swap; · iexact HS
  ipureintro
  refine (View.read_writes_eq_canon _ _ _ (View.cover_of_tiled _ S1024x2048.size (by rfl))).trans ?_
  unfold body_first.sl.HS_1
  rw [View.canon_cons_unit_lit _ _ _ (by decide)]

set_option maxHeartbeats 1000000 in
/-- The body at a later column block: the kept activations meet the next weights; the second output is left as it was. -/
theorem body_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S2048x1024 .bf16) (harg8 : arg8.IsWhole) (arg9 : Memref sig .tc .vmem S1024x2048 .bf16) (harg9 : arg9.IsWhole) (hc0 : ¬ first i)
    (h : Vec F S1024x2048 .bf16) (x4 : Vec F S2048x1024 .bf16) (E : Set ℕ) (K : PUnit → sProp 𝕄) :
    iprop(owns (c : Thread nD τ) arg6 fullShare x4 ∗ (∃ d, owns (c : Thread nD τ) arg7 fullShare d) ∗ owns (c : Thread nD τ) arg9 fullShare h
        ∗ (iprop(owns (c : Thread nD τ) arg6 fullShare x4 ∗ owns (c : Thread nD τ) arg7 fullShare (k0_pay4 h x4) ∗ owns (c : Thread nD τ) arg9 fullShare h) -∗ K ⟨⟩))
      ⊢ wp frame (wpE (defs₀ (F := F)) Variants.none c none) E (cc0_peer_q i arg2 harg2 arg3 harg3 arg4 harg4 arg5 harg5 arg6 harg6 arg7 harg7 arg8 harg8 arg9 harg9) K := by
  simp only [cc0_peer_q_eq_skeleton]; unfold cc0_peer_q_skel
  unfold owns
  iintro ⟨⟨%f4, %hf4, H4⟩, ⟨%d5, %f5, -, H5⟩, ⟨%fs, %hfs, HS⟩, Hk⟩
  subst hf4 hfs
  sl_exec (disch := first | sl_exact hc0)
  sl_step
  iapply Hk
  isplitl [H4]
  · iexists f4; isplitr; · ipureintro; rfl
    iexact H4
  isplitl [H5]
  · iexists _; isplitr; swap; · iexact H5
    ipureintro
    refine (View.read_writes_eq_canon _ _ _ (View.cover_of_tiled _ S1024x1024.size (by rfl))).trans ?_
    rw [View.canon_cons_unit_lit _ _ _ (by decide)]
    exact congrArg₂ k0_pay4 (View.ld_unit_lit _ _ (by decide)) (View.ld_unit_lit _ _ (by decide))
  iexists fs; isplitr; · ipureintro; rfl
  iexact HS

/-- The first point of the row block that point `t` is in. -/
abbrev start (t : Fin cfg0.N) : Fin cfg0.N := ⟨t.val / 2 * 2, Nat.lt_of_le_of_lt (Nat.div_mul_le_self _ _) t.isLt⟩

theorem start_of_first (t : Fin cfg0.N) (h : t.val % 2 = 0) : start t = t := Fin.ext (by
  show t.val / 2 * 2 = t.val; omega)

/-- The modulated activations of the row block that point `t` is in. -/
def actsOf (c : Dev nD) (t : Fin cfg0.N) : Vec F S1024x2048 .bf16 :=
  k0_pay2 (iblk m c 0 (start t)) (iblk m c 1 (start t)) (iblk m c 3 (start t)) (iblk m c 2 (start t))

/-- The row block's second output. -/
def sideOf (c : Dev nD) (t : Fin cfg0.N) : Vec F S2048x1024 .bf16 :=
  k0_pay3 (iblk m c 0 (start t)) (iblk m c 1 (start t)) (iblk m c 3 (start t)) (iblk m c 2 (start t))

theorem actsOf_congr (c : Dev nD) (t u : Fin cfg0.N) (h : t.val / 2 = u.val / 2) : actsOf m c t = actsOf m c u := by
  unfold actsOf; rw [show start t = start u from Fin.ext (by show t.val / 2 * 2 = u.val / 2 * 2; rw [h])]
theorem sideOf_congr (c : Dev nD) (t u : Fin cfg0.N) (h : t.val / 2 = u.val / 2) : sideOf m c t = sideOf m c u := by
  unfold sideOf; rw [show start t = start u from Fin.ext (by show t.val / 2 * 2 = u.val / 2 * 2; rw [h])]

/-- What the body holds beside its windows: before the first point anything in the scratch; after point `n` the
    activations of that point's row block. -/
def held (c : Dev nD) : (n : ℕ) → n ≤ cfg0.N → sProp 𝕄
  | 0, _ => Pipeline.ΦA spec0 c
  | n + 1, hn => iprop(owns (c : Thread nD τ) acts fullShare (actsOf m c ⟨n, hn⟩) ∗ (∃ r, prngReg c r))

theorem held_pos (c : Dev nD) (t : Fin cfg0.N) (hz : t.val ≠ 0) :
    held m c t.val (Nat.le_of_lt t.isLt) = iprop(owns (c : Thread nD τ) acts fullShare (actsOf m c ⟨t.val - 1, by omega⟩) ∗ (∃ r, prngReg c r)) := by
  obtain ⟨n, hn⟩ := t
  cases n with
  | zero => exact absurd rfl hz
  | succ n => rfl

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay4 (actsOf m c t) (iblk m c 4 t)
    | ⟨6, _⟩ => sideOf m c t
  Φ t := held m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = k0_pay4 (actsOf m c t) (iblk m c 4 t) := by dsimp only [dats]
theorem after_6 (c : Dev nD) (t : Fin cfg0.N) : (dats m 0 c).after 6 t = sideOf m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem idle_6 : ∀ t : Fin cfg0.N, cfg0.idle 6 (grid0.coords t) = decide (t.val % 2 ≠ 0) :=
  (by decide +kernel : ∀ t : Fin grid0.N, cfg0.idle 6 (grid0.coords t) = decide (t.val % 2 ≠ 0))

theorem live_5 : ∀ t : Fin cfg0.N, cfg0.idle 5 (grid0.coords t) = false :=
  (by decide +kernel : ∀ t : Fin grid0.N, cfg0.idle 5 (grid0.coords t) = false)

/-- The second output's buffer is unwritten at the start of each row block only. -/
theorem fresh_6 (n : ℕ) (h : n ≤ cfg0.N) : cfg0.fresh 6 n = decide (n % 2 = 0) :=
  cfg0.fresh_tab 6 (fun n => decide (n % 2 = 0)) rfl
    (fun t => by
      have hfl := flush0_6 t
      have e : cfg0.idle 6 (cfg0.grid.coords t) = decide (t.val % 2 ≠ 0) := idle_6 t
      rw [e]
      by_cases h1 : t.val % 2 = 1
      · rw [hfl.mpr h1]; simp; omega
      · have : (cfg0.win 6).flush t = false := by
          rw [Bool.eq_false_iff]; exact fun hh => h1 (hfl.mp hh)
        rw [this]
        by_cases h0 : t.val % 2 = 0
        · simp [h0]; omega
        · simp [h0]; omega) n h

/-- At a later column block the second output's buffer is found holding the row block's. -/
theorem before_6 (c : Dev nD) (t : Fin cfg0.N) (h : t.val % 2 ≠ 0) (d) :
    (dats m 0 c).before 6 t d = sideOf m c t := by
  rw [(dats m 0 c).before_out_traj 6 rfl (fun _ _ => rfl) (fun t hz hi _ => by
      have hm : t.val % 2 ≠ 0 := by
        have e : cfg0.idle 6 (cfg0.grid.coords t) = decide (t.val % 2 ≠ 0) := idle_6 t
        rw [e] at hi; exact of_decide_eq_true hi
      rw [after_6, after_6]
      exact sideOf_congr m c _ _ (by show t.val / 2 = (t.val - 1) / 2; omega)) t.val t rfl d,
    fresh_6 t.val (Nat.le_of_lt t.isLt), after_6, decide_eq_false h, if_neg Bool.false_ne_true]
  exact sideOf_congr m c _ _ (by show (t.val - 1) / 2 = t.val / 2; omega)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t
    ∗ (dats m 0 c).leavesExact 4 t ∗ (dats m 0 c).leavesExact 5 t
    ∗ (dats m 0 c).leavesExact 6 t)

/-- At a later column block the second output's buffer is what the point has to leave. -/
theorem keep_6 (c : Dev nD) (t : Fin cfg0.N) (h : t.val % 2 ≠ 0) :
    owns (c : Thread nD τ) (st0_6 t) fullShare (sideOf m c t) ⊢ (dats m 0 c).leavesExact 6 t := by
  cases hf : (cfg0.win 6).flush t
  · rw [(dats m 0 c).leavesExact_idle 6 t ((idle_6 t).trans (decide_eq_true h)) hf]
    iintro H
    iexists sideOf m c t
    rw [before_6 m c t h]
    iexact H
  · rw [show (dats m 0 c).leavesExact 6 t = owns (c : Thread nD τ) (st0_6 t) fullShare ((dats m 0 c).after 6 t) from by
      unfold Dat.leavesExact; rw [hf]; cases cfg0.idle 6 (cfg0.grid.coords t) <;> rfl, after_6]

/-- Before the first column block of a row block the scratch holds something. -/
theorem held_some (c : Dev nD) (t : Fin cfg0.N) :
    held m c t.val (Nat.le_of_lt t.isLt) ⊢ iprop((∃ d, owns (c : Thread nD τ) acts fullShare d) ∗ (∃ r, prngReg c r)) := by
  by_cases hz : t.val = 0
  · obtain ⟨n, hn⟩ := t
    subst hz
    show Pipeline.ΦA spec0 c ⊢ _
    rw [invariant_eq]
  · rw [held_pos m c t hz]
    iintro ⟨HS, Hg⟩
    isplitl [HS]
    · iexists _; iexact HS
    iexact Hg

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = iprop(owns (c : Thread nD τ) acts fullShare (actsOf m c t) ∗ (∃ r, prngReg c r)) from rfl,
    show (dats m 0 c).Φ t.castSucc = held m c t.val (Nat.le_of_lt t.isLt) from by
      dsimp only [dats]; exact Pipeline.Dat.Φ_castSucc (held m c) t,
    show (dats m 0 c).owesAt () t.succ = (dats m 0 c).owesAt () t.castSucc from rfl,
    show (dats m 0 c).leavesExact 0 t = owns (c : Thread nD τ) (st0_0 t) fullShare ((dats m 0 c).after 0 t) from rfl, after_0,
    show (dats m 0 c).leavesExact 1 t = owns (c : Thread nD τ) (st0_1 t) fullShare ((dats m 0 c).after 1 t) from rfl, after_1,
    show (dats m 0 c).leavesExact 2 t = owns (c : Thread nD τ) (st0_2 t) fullShare ((dats m 0 c).after 2 t) from rfl, after_2,
    show (dats m 0 c).leavesExact 3 t = owns (c : Thread nD τ) (st0_3 t) fullShare ((dats m 0 c).after 3 t) from rfl, after_3,
    show (dats m 0 c).leavesExact 4 t = owns (c : Thread nD τ) (st0_4 t) fullShare ((dats m 0 c).after 4 t) from rfl, after_4,
    show (dats m 0 c).leavesExact 5 t = owns (c : Thread nD τ) (st0_5 t) fullShare ((dats m 0 c).after 5 t) from by
      unfold Dat.leavesExact; rw [live_5 t], after_5]
  by_cases h0 : t.val % 2 = 0
  · rw [show (dats m 0 c).leavesExact 6 t = owns (c : Thread nD τ) (st0_6 t) fullShare ((dats m 0 c).after 6 t) from by
      unfold Dat.leavesExact; rw [idle_6 t, decide_eq_false (not_not.mpr h0)], after_6]
    unfold actsOf sideOf
    rw [start_of_first t h0]
    refine (sep_mono_left (held_some m c t)).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (body_first c (grid0.coords t) _ _ _ _ _ _ _ _ _ _ _ _ _ _ _ _ ((first_iff t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before_6 m c t h0]
    rw [held_pos m c t (by omega), actsOf_congr m c ⟨t.val - 1, by omega⟩ t (by show (t.val - 1) / 2 = t.val / 2; omega)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (body_later c (grid0.coords t) _ _ _ _ _ _ _ _ _ _ _ _ _ _ _ _ (fun h => h0 ((first_iff t).mp h)) (actsOf m c t) (iblk m c 4 t) Set.univ _)
    isplitl [H4]; · iexact H4
    isplitl [H5]; · iexists _; iexact H5
    isplitl [HS]; · iexact HS
    iintro ⟨H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply keep_6 m c t h0
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem held_in (c : Dev nD) : Pipeline.ΦA spec0 c ⊢ (dats m 0 c).Φ 0 := by
  rw [show (dats m 0 c).Φ 0 = Pipeline.ΦA spec0 c from rfl]

theorem held_out (c : Dev nD) : (dats m 0 c).Φ (Fin.last cfg0.N) ⊢ Pipeline.ΦA spec0 c := by
  rw [show (dats m 0 c).Φ (Fin.last cfg0.N) = iprop(owns (c : Thread nD τ) acts fullShare (actsOf m c ⟨15, by decide⟩) ∗ (∃ r, prngReg c r)) from rfl,
    invariant_eq]
  iintro ⟨HS, Hg⟩
  isplitl [HS]
  · iexists _; iexact HS
  iexact Hg

set_option backward.isDefEq.respectTransparency.types false in
/-- The run: every output array at what the pipeline writes back, every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := held_in m) (hout := held_out m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.PeerQRun

end
-- ==== Proof.PeerQ.Value.lean ====
/- What the query projection computes: its two result arrays as functions of the arguments, and the reference's. -/
module

public import proofs.«01_k».proof.Defs
public import proofs.«01_k».proof.Proof.InProj.Value
public import proofs.«01_k».proof.Proof.PeerQ.Run
public import proofs.«01_k».proof.Proof.Gen.PeerQRefIdeal.Run
public import Idealize.ShloMosaic.Lib.Pointwise

@[expose] public section

set_option maxRecDepth 16384

noncomputable section

namespace Cert.PeerQRun

open Cert.PeerQIdeal Cert.PeerQIdeal.Gen
open Idealize.ShloMosaic Idealize.ShloMosaic.TcCoe Idealize.SL.Sem
open Idealize.ShloMosaic.Pipeline (Dat)
open Cert.InProjRun (normed)

/-- The normalised and modulated activation of flattened token `r`, at feature `k`: the modulation row is the token's sequence. -/
def modulated (x : S8192x2048.Idx → EReal) (g : S1x2048.Idx → EReal) (md : S8x1x12288.Idx → EReal) (r : Fin 8192) (k : Fin 2048) : EReal :=
  normed (fun j => x (ix2 r j)) k (g (ix2 0 k)) (md (ix3 ⟨r.val / 2048, by omega⟩ 0 ⟨8192 + k.val, by omega⟩))
    (md (ix3 ⟨r.val / 2048, by omega⟩ 0 ⟨6144 + k.val, by omega⟩))

/-- The queries: the activations times the weight. -/
def queries (x : S8192x2048.Idx → EReal) (g : S1x2048.Idx → EReal) (md : S8x1x12288.Idx → EReal) (w : S1x2048x2048.Idx → EReal) :
    S8192x2048.Idx → EReal := fun i => ∑ k : Fin 2048, modulated x g md (i 0) k * w (ix3 0 k (i 1))

/-- The activations, one token per column. -/
def columns (x : S8192x2048.Idx → EReal) (g : S1x2048.Idx → EReal) (md : S8x1x12288.Idx → EReal) : S2048x8192.Idx → EReal :=
  fun i => modulated x g md (i 1) (i 0)

theorem pay2_apply (x : Vec Ideal S1024x2048 .f32) (g : Vec Ideal S1x2048 .f32) (sc sh : Vec Ideal S1x1x2048 .f32) (r : Fin 1024) (k : Fin 2048) :
    k0_pay2 x g sc sh (ix2 r k) = normed (fun j => x (ix2 r j)) k (g (ix2 0 k)) (sc (ix3 0 0 k)) (sh (ix3 0 0 k)) := by
  pointwise [k0_pay2, k0_pay1, normed]

theorem pay3_apply (x : Vec Ideal S1024x2048 .f32) (g : Vec Ideal S1x2048 .f32) (sc sh : Vec Ideal S1x1x2048 .f32) (k : Fin 2048) (r : Fin 1024) :
    k0_pay3 x g sc sh (ix2 k r) = k0_pay2 x g sc sh (ix2 r k) := by
  pointwise [k0_pay3, k0_pay2]

theorem pay4_apply (h : Vec Ideal S1024x2048 .bf16) (w : Vec Ideal S2048x1024 .bf16) (r : Fin 1024) (q : Fin 1024) :
    k0_pay4 h w (ix2 r q) = ∑ k : Fin 2048, h (ix2 r k) * w (ix2 k q) := by
  pointwise [k0_pay4]

variable (m : (ℓ : Loc nD τ sig) → Buf (Elt Ideal) ℓ) (ρ : Dev nD → PrngReg)

/-- The arguments as launched. -/
abbrev X (c : Dev nD) : S8192x2048.Idx → EReal := m ((c : Thread nD τ).loc main_arg0)
abbrev Gain (c : Dev nD) : S1x2048.Idx → EReal := m ((c : Thread nD τ).loc main_arg1)
abbrev Mods (c : Dev nD) : S8x1x12288.Idx → EReal := m ((c : Thread nD τ).loc main_arg2)
abbrev Weight (c : Dev nD) : S1x2048x2048.Idx → EReal := m ((c : Thread nD τ).loc main_arg3)

theorem V_v2 (c : Dev nD) (k q : Fin 2048) : V m c main_v2 (ix2 k q) = Weight m c (ix3 0 k q) := by
  have e : V m c main_v2 = truncf (F := Ideal) (φ := .f32) .bf16 (shapeCast S2048x2048 (Weight m c) shapeCasts_S1x2048x2048_S2048x2048) bitsLt_bf16_f32 := by
    unfold V; after_results <;> rfl
  rw [e]
  pointwise

theorem V_v3 (c : Dev nD) (k : Fin 2048) : V m c main_v3 (ix2 0 k) = Gain m c (ix2 0 k) := by
  have e : V m c main_v3 = shapeCast S1x2048 (shapeCast S2048 (Gain m c) shapeCasts_S1x2048_S2048) shapeCasts_S2048_S1x2048 := by
    unfold V; after_results <;> rfl
  rw [e]
  pointwise

/-- Where each window's block begins. -/
theorem idx_0 : ∀ t : Fin cfg0.N, win0_0.index t 0 = t.val / 2 ∧ win0_0.index t 1 = 0 :=
  (by decide +kernel : ∀ t : Fin grid0.N, win0_0.index t 0 = t.val / 2 ∧ win0_0.index t 1 = 0)
theorem idx_1 : ∀ t : Fin cfg0.N, win0_1.index t 0 = 0 ∧ win0_1.index t 1 = 0 :=
  (by decide +kernel : ∀ t : Fin grid0.N, win0_1.index t 0 = 0 ∧ win0_1.index t 1 = 0)
theorem idx_2 : ∀ t : Fin cfg0.N, win0_2.index t 0 = t.val / 4 ∧ win0_2.index t 1 = 0 ∧ win0_2.index t 2 = 3 :=
  (by decide +kernel : ∀ t : Fin grid0.N, win0_2.index t 0 = t.val / 4 ∧ win0_2.index t 1 = 0 ∧ win0_2.index t 2 = 3)
theorem idx_3 : ∀ t : Fin cfg0.N, win0_3.index t 0 = t.val / 4 ∧ win0_3.index t 1 = 0 ∧ win0_3.index t 2 = 4 :=
  (by decide +kernel : ∀ t : Fin grid0.N, win0_3.index t 0 = t.val / 4 ∧ win0_3.index t 1 = 0 ∧ win0_3.index t 2 = 4)
theorem idx_4 : ∀ t : Fin cfg0.N, win0_4.index t 0 = 0 ∧ win0_4.index t 1 = t.val % 2 :=
  (by decide +kernel : ∀ t : Fin grid0.N, win0_4.index t 0 = 0 ∧ win0_4.index t 1 = t.val % 2)
theorem idx_5 : ∀ t : Fin cfg0.N, win0_5.index t 0 = t.val / 2 ∧ win0_5.index t 1 = t.val % 2 :=
  (by decide +kernel : ∀ t : Fin grid0.N, win0_5.index t 0 = t.val / 2 ∧ win0_5.index t 1 = t.val % 2)
theorem idx_6 : ∀ t : Fin cfg0.N, win0_6.index t 0 = 0 ∧ win0_6.index t 1 = t.val / 2 :=
  (by decide +kernel : ∀ t : Fin grid0.N, win0_6.index t 0 = 0 ∧ win0_6.index t 1 = t.val / 2)

theorem lt_N (t : Fin cfg0.N) : t.val < 16 := Nat.lt_of_lt_of_eq t.isLt N_0

theorem iblk_0 (c : Dev nD) (t : Fin cfg0.N) (r : Fin 1024) (k : Fin 2048) (h : 1024 * (t.val / 2) + r.val < 8192) :
    (iblk m c 0 t : Vec Ideal S1024x2048 .f32) (ix2 r k) = X m c (ix2 ⟨1024 * (t.val / 2) + r.val, h⟩ k) := by
  rw [show X m c = V m c main_arg0 from (V_main_arg0 m c).symm]
  unfold iblk
  rw [View.read_apply]
  show V m c main_arg0 _ = _
  congr 1
  funext a
  apply Fin.ext
  match a with
  | ⟨0, _⟩ => show win0_0.index t 0 * 1024 + 1 * r.val = 1024 * (t.val / 2) + r.val; rw [(idx_0 t).1]; omega
  | ⟨1, _⟩ => show win0_0.index t 1 * 2048 + 1 * k.val = k.val; rw [(idx_0 t).2]; omega

theorem iblk_1 (c : Dev nD) (t : Fin cfg0.N) (k : Fin 2048) :
    (iblk m c 1 t : Vec Ideal S1x2048 .f32) (ix2 0 k) = Gain m c (ix2 0 k) := by
  rw [← V_v3]
  unfold iblk
  rw [View.read_apply]
  show V m c main_v3 _ = _
  congr 1
  funext a
  apply Fin.ext
  match a with
  | ⟨0, _⟩ => show win0_1.index t 0 * 1 + 1 * 0 = 0; rw [(idx_1 t).1]
  | ⟨1, _⟩ => show win0_1.index t 1 * 2048 + 1 * k.val = k.val; rw [(idx_1 t).2]; omega

theorem iblk_2 (c : Dev nD) (t : Fin cfg0.N) (k : Fin 2048) (h : t.val / 4 < 8) (hk : 6144 + k.val < 12288) :
    (iblk m c 2 t : Vec Ideal S1x1x2048 .f32) (ix3 0 0 k) = Mods m c (ix3 ⟨t.val / 4, h⟩ 0 ⟨6144 + k.val, hk⟩) := by
  rw [show Mods m c = V m c main_arg2 from (V_main_arg2 m c).symm]
  unfold iblk
  rw [View.read_apply]
  show V m c main_arg2 _ = _
  congr 1
  funext a
  apply Fin.ext
  match a with
  | ⟨0, _⟩ => show win0_2.index t 0 * 1 + 1 * 0 = t.val / 4; rw [(idx_2 t).1]; omega
  | ⟨1, _⟩ => show win0_2.index t 1 * 1 + 1 * 0 = 0; rw [(idx_2 t).2.1]
  | ⟨2, _⟩ => show win0_2.index t 2 * 2048 + 1 * k.val = 6144 + k.val; rw [(idx_2 t).2.2]; omega

theorem iblk_3 (c : Dev nD) (t : Fin cfg0.N) (k : Fin 2048) (h : t.val / 4 < 8) (hk : 8192 + k.val < 12288) :
    (iblk m c 3 t : Vec Ideal S1x1x2048 .f32) (ix3 0 0 k) = Mods m c (ix3 ⟨t.val / 4, h⟩ 0 ⟨8192 + k.val, hk⟩) := by
  rw [show Mods m c = V m c main_arg2 from (V_main_arg2 m c).symm]
  unfold iblk
  rw [View.read_apply]
  show V m c main_arg2 _ = _
  congr 1
  funext a
  apply Fin.ext
  match a with
  | ⟨0, _⟩ => show win0_3.index t 0 * 1 + 1 * 0 = t.val / 4; rw [(idx_3 t).1]; omega
  | ⟨1, _⟩ => show win0_3.index t 1 * 1 + 1 * 0 = 0; rw [(idx_3 t).2.1]
  | ⟨2, _⟩ => show win0_3.index t 2 * 2048 + 1 * k.val = 8192 + k.val; rw [(idx_3 t).2.2]; omega

theorem iblk_4 (c : Dev nD) (t : Fin cfg0.N) (k : Fin 2048) (q : Fin 1024) (h : 1024 * (t.val % 2) + q.val < 2048) :
    (iblk m c 4 t : Vec Ideal S2048x1024 .bf16) (ix2 k q) = Weight m c (ix3 0 k ⟨1024 * (t.val % 2) + q.val, h⟩) := by
  rw [← V_v2]
  unfold iblk
  rw [View.read_apply]
  show V m c main_v2 _ = _
  congr 1
  funext a
  apply Fin.ext
  match a with
  | ⟨0, _⟩ => show win0_4.index t 0 * 2048 + 1 * k.val = k.val; rw [(idx_4 t).1]; omega
  | ⟨1, _⟩ => show win0_4.index t 1 * 1024 + 1 * q.val = 1024 * (t.val % 2) + q.val; rw [(idx_4 t).2]; omega

/-- The kept activations are the modulated ones of the row block's tokens. -/
theorem actsOf_apply (c : Dev nD) (t : Fin cfg0.N) (r : Fin 1024) (k : Fin 2048) (h : 1024 * (t.val / 2) + r.val < 8192) :
    actsOf m c t (ix2 r k) = modulated (X m c) (Gain m c) (Mods m c) ⟨1024 * (t.val / 2) + r.val, h⟩ k := by
  have ht := lt_N t
  have hs : (start t).val = t.val / 2 * 2 := rfl
  have e0 : (start t).val / 2 = t.val / 2 := by omega
  have e1 : (start t).val / 4 = (1024 * (t.val / 2) + r.val) / 2048 := by omega
  unfold actsOf modulated
  rw [pay2_apply, iblk_1, iblk_2 m c (start t) k (by omega) (by omega), iblk_3 m c (start t) k (by omega) (by omega)]
  simp only [e1]
  congr 1
  funext j
  rw [iblk_0 m c (start t) r j (by omega)]
  simp only [e0]

theorem flushed_5 (c : Dev nD) (t : Fin cfg0.N) :
    (dats m 0 c).flushed 5 t = ((cfg0.win 5).blk t).view.read (Elt Ideal) (queries (X m c) (Gain m c) (Mods m c) (Weight m c)) := by
  show (cfg0.win 5).cut (grid0.coords t) ((dats m 0 c).after 5 t) = _
  rw [after_5]
  funext j
  rw [View.read_apply]
  have ht := lt_N t
  obtain ⟨r, q, rfl⟩ : ∃ (r : Fin 1024) (q : Fin 1024), j = ix2 r q := ⟨j 0, j 1, eq_ix2 j⟩
  have hr : 1024 * (t.val / 2) + r.val < 8192 := by omega
  have hq : 1024 * (t.val % 2) + q.val < 2048 := by omega
  show k0_pay4 (actsOf m c t) (iblk m c 4 t) (ix2 r q) = _
  rw [show (((cfg0.win 5).blk t).view.emb (ix2 r q) : S8192x2048.Idx) = ix2 ⟨1024 * (t.val / 2) + r.val, hr⟩ ⟨1024 * (t.val % 2) + q.val, hq⟩ from by
    funext a
    apply Fin.ext
    match a with
    | ⟨0, _⟩ => show win0_5.index t 0 * 1024 + 1 * r.val = 1024 * (t.val / 2) + r.val; rw [(idx_5 t).1]; omega
    | ⟨1, _⟩ => show win0_5.index t 1 * 1024 + 1 * q.val = 1024 * (t.val % 2) + q.val; rw [(idx_5 t).2]; omega]
  rw [pay4_apply]
  unfold queries
  refine Finset.sum_congr rfl fun k _ => ?_
  rw [iblk_4 m c t k q hq, actsOf_apply m c t r k hr]
  rfl

theorem final_5 (c : Dev nD) : (dats m 0 c).arrAt 5 cfg0.N = queries (X m c) (Gain m c) (Mods m c) (Weight m c) :=
  (dats m 0 c).arrAt_eq_of_cover 5 _ (fun t _ => flushed_5 m c t) fun i => by
    have h0 : (i 0 : Nat) < 8192 := (i 0).isLt
    have h1 : (i 1 : Nat) < 2048 := (i 1).isLt
    have ht : 2 * ((i 0 : Nat) / 1024) + (i 1 : Nat) / 1024 < cfg0.N := by rw [show cfg0.N = 16 from N_0]; omega
    refine ⟨⟨2 * ((i 0 : Nat) / 1024) + (i 1 : Nat) / 1024, ht⟩, flush0_5 _, ?_⟩
    show i ∈ ((View.whole main_v4_0).slice (win0_5.rect ⟨2 * ((i 0 : Nat) / 1024) + (i 1 : Nat) / 1024, ht⟩)).set
    rw [View.set_slice_whole, Rect.mem_set_unit]
    have hi := idx_5 ⟨2 * ((i 0 : Nat) / 1024) + (i 1 : Nat) / 1024, ht⟩
    dsimp only at hi
    intro a
    match a with
    | ⟨0, _⟩ => show win0_5.index ⟨_, ht⟩ 0 * 1024 ≤ (i 0 : Nat) ∧ (i 0 : Nat) < win0_5.index ⟨_, ht⟩ 0 * 1024 + 1024
                rw [hi.1]; omega
    | ⟨1, _⟩ => show win0_5.index ⟨_, ht⟩ 1 * 1024 ≤ (i 1 : Nat) ∧ (i 1 : Nat) < win0_5.index ⟨_, ht⟩ 1 * 1024 + 1024
                rw [hi.2]; omega

theorem flushed_6 (c : Dev nD) (t : Fin cfg0.N) :
    (dats m 0 c).flushed 6 t = ((cfg0.win 6).blk t).view.read (Elt Ideal) (columns (X m c) (Gain m c) (Mods m c)) := by
  show (cfg0.win 6).cut (grid0.coords t) ((dats m 0 c).after 6 t) = _
  rw [after_6]
  funext j
  rw [View.read_apply]
  have ht := lt_N t
  obtain ⟨k, r, rfl⟩ : ∃ (k : Fin 2048) (r : Fin 1024), j = ix2 k r := ⟨j 0, j 1, eq_ix2 j⟩
  have hr : 1024 * (t.val / 2) + r.val < 8192 := by omega
  show sideOf m c t (ix2 k r) = _
  rw [show (((cfg0.win 6).blk t).view.emb (ix2 k r) : S2048x8192.Idx) = ix2 k ⟨1024 * (t.val / 2) + r.val, hr⟩ from by
    funext a
    apply Fin.ext
    match a with
    | ⟨0, _⟩ => show win0_6.index t 0 * 2048 + 1 * k.val = k.val; rw [(idx_6 t).1]; omega
    | ⟨1, _⟩ => show win0_6.index t 1 * 1024 + 1 * r.val = 1024 * (t.val / 2) + r.val; rw [(idx_6 t).2]; omega]
  unfold sideOf
  rw [pay3_apply]
  exact actsOf_apply m c t r k hr

theorem final_6 (c : Dev nD) : (dats m 0 c).arrAt 6 cfg0.N = columns (X m c) (Gain m c) (Mods m c) :=
  (dats m 0 c).arrAt_eq_of_cover 6 _ (fun t _ => flushed_6 m c t) fun i => by
    have h0 : (i 0 : Nat) < 2048 := (i 0).isLt
    have h1 : (i 1 : Nat) < 8192 := (i 1).isLt
    have ht : 2 * ((i 1 : Nat) / 1024) + 1 < cfg0.N := by rw [show cfg0.N = 16 from N_0]; omega
    refine ⟨⟨2 * ((i 1 : Nat) / 1024) + 1, ht⟩, (flush0_6 _).mpr (by dsimp only; omega), ?_⟩
    show i ∈ ((View.whole main_v4_1).slice (win0_6.rect ⟨2 * ((i 1 : Nat) / 1024) + 1, ht⟩)).set
    rw [View.set_slice_whole, Rect.mem_set_unit]
    have hi := idx_6 ⟨2 * ((i 1 : Nat) / 1024) + 1, ht⟩
    dsimp only at hi
    intro a
    match a with
    | ⟨0, _⟩ => show win0_6.index ⟨_, ht⟩ 0 * 2048 ≤ (i 0 : Nat) ∧ (i 0 : Nat) < win0_6.index ⟨_, ht⟩ 0 * 2048 + 2048
                rw [hi.1]; omega
    | ⟨1, _⟩ => show win0_6.index ⟨_, ht⟩ 1 * 1024 ≤ (i 1 : Nat) ∧ (i 1 : Nat) < win0_6.index ⟨_, ht⟩ 1 * 1024 + 1024
                rw [hi.2]; omega

/-- The run read: both results, and the arguments unchanged. -/
theorem run : θ_run defs (onTc (τ := τ) (main (F := Ideal))) ⟨m, fun _ => 0, ρ⟩ fun r => ∀ c : Dev nD,
      r.2.mem ((c : Thread nD τ).loc main_v4_0) = queries (X m c) (Gain m c) (Mods m c) (Weight m c)
      ∧ r.2.mem ((c : Thread nD τ).loc main_v4_1) = columns (X m c) (Gain m c) (Mods m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.2 c).1 5).trans (final_5 m c), ((h.2 c).1 6).trans (final_6 m c), h.1.1 c⟩)
    (θ_run_and (frame m ρ) (run_main m ρ))

end Cert.PeerQRun

/-! ## The reference -/

namespace Cert.PeerQRun.Ref

open Cert.PeerQRefIdeal Cert.PeerQRefIdeal.Gen
open Idealize.ShloMosaic Idealize.ShloMosaic.TcCoe Idealize.SL.Sem
open Cert.InProjRun (normed)

/-- The activations as the reference's lines compute them. -/
def acts (y : S8192x2048.Idx → EReal) (g : S1x2048.Idx → EReal) (md : S8x1x12288.Idx → EReal) : S8192x2048.Idx → EReal :=
  have x : FVec Ideal S4x2048x2048 .f32 := shapeCast _ y shapeCasts_S8192x2048_S4x2048x2048
  shapeCast _ (addf (F := Ideal) (mulf (mulf (mulf (φ := .f32) x (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf x x) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ g shapeCasts_S1x2048_S2048)))) (broadcastInDim S4x2048x2048 ![0, 1, 2] bcast_S4x1x2048_S4x2048x2048_0_1_2 (addf (broadcastInDim S4x1x2048 ![] bcast_S_S4x1x2048 (constant S_ .f32 0x3F800000#32)) (broadcastInDim S4x1x2048 ![0, 2] bcast_S4x2048_S4x1x2048_0_2 (extractStridedSlice S4x2048 ![0, 8192] (shapeCast _ (extractStridedSlice S4x1x12288 ![0, 0, 0] md slices_S8x1x12288_S4x1x12288_0_0_0) shapeCasts_S4x1x12288_S4x12288) slices_S4x12288_S4x2048_0_8192))))) (broadcastInDim S4x2048x2048 ![0, 1, 2] bcast_S4x1x2048_S4x2048x2048_0_1_2 (broadcastInDim S4x1x2048 ![0, 2] bcast_S4x2048_S4x1x2048_0_2 (extractStridedSlice S4x2048 ![0, 6144] (shapeCast _ (extractStridedSlice S4x1x12288 ![0, 0, 0] md slices_S8x1x12288_S4x1x12288_0_0_0) shapeCasts_S4x1x12288_S4x12288) slices_S4x12288_S4x2048_0_6144)))) shapeCasts_S4x2048x2048_S8192x2048

theorem acts_apply (x : S8192x2048.Idx → EReal) (g : S1x2048.Idx → EReal) (md : S8x1x12288.Idx → EReal) (r : Fin 8192) (k : Fin 2048) :
    acts x g md (ix2 r k) = modulated x g md r k := by
  pointwise [acts, modulated, normed]

theorem main_apply (h : S8192x2048.Idx → EReal) (w : S1x2048x2048.Idx → EReal) (r : Fin 8192) (q : Fin 2048) :
    (Host.dotGeneral (F := Ideal) (φ₁ := .f32) (φ₂ := .f32) dot_S8192x2048_S2048x2048_S8192x2048_1_0_0_1_n_n none h (shapeCast S2048x2048 w shapeCasts_S1x2048x2048_S2048x2048) : S8192x2048.Idx → EReal) (ix2 r q)
      = ∑ k : Fin 2048, h (ix2 r k) * w (ix3 0 k q) := by
  pointwise

theorem side_apply (h : S8192x2048.Idx → EReal) (k : Fin 2048) (r : Fin 8192) :
    (truncf (F := Ideal) (φ := .f32) .bf16 (transpose S2048x8192 [1, 0] h transposes_S8192x2048_S2048x8192_1_0) bitsLt_bf16_f32 : S2048x8192.Idx → EReal) (ix2 k r)
      = h (ix2 r k) := by
  pointwise

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v33) = queries (m ((c : Thread nD τ).loc main_arg0)) (m ((c : Thread nD τ).loc main_arg1)) (m ((c : Thread nD τ).loc main_arg2)) (m ((c : Thread nD τ).loc main_arg3))
      ∧ r.2.mem ((c : Thread nD τ).loc main_v35) = columns (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (funext fun i => by
      obtain ⟨r, q, rfl⟩ : ∃ (r : Fin 8192) (q : Fin 2048), i = ix2 r q := ⟨i 0, i 1, eq_ix2 i⟩
      refine (main_apply (acts _ _ _) _ r q).trans ?_
      exact Finset.sum_congr rfl fun k _ => congrArg (· * _) (acts_apply _ _ _ _ k)),
      (h c).2.1.trans (funext fun i => by
      obtain ⟨k, r, rfl⟩ : ∃ (k : Fin 2048) (r : Fin 8192), i = ix2 k r := ⟨i 0, i 1, eq_ix2 i⟩
      exact (side_apply (acts _ _ _) k r).trans (acts_apply _ _ _ r k)), (h c).2.2⟩)
    (Cert.PeerQRefIdeal.Value.run m ρ)

end Cert.PeerQRun.Ref

end
-- ==== Proof.InProjCtx.Run.lean ====
/- The launch of the context-projection call: what each grid point leaves in its buffers and in the carried
   activations, and the run of the whole program with the arrays it ends with named. Written over any interpretation of the floating-point types. -/
module

public import proofs.«01_k».proof.Proof.Gen.InProjCtxIdeal.Frame
public import proofs.«01_k».proof.Proof.Gen.InProjCtxIdeal.Skeleton
public import Idealize.ShloMosaic.Lib.Pipeline.ValueKit
public import Idealize.ShloMosaic.Lib.Pipeline.Value
public import Idealize.ShloMosaic.Lib.Claim
public import Idealize.ShloMosaic.Lib.Pipeline.TableIdle

@[expose] public section

set_option maxRecDepth 16384

noncomputable section

namespace Cert.InProjCtxRun

open Cert.InProjCtxIdeal Cert.InProjCtxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's branch is taken at the first column block of a row block. -/
abbrev first (i : grid0.Coords) : Prop := k0_cond1 i = 1#1

theorem first_iff : ∀ t : Fin cfg0.N, first (grid0.coords t) ↔ t.val % 6 = 0 :=
  (fun t => by
    have ht : t.val < 6 := Nat.lt_of_lt_of_eq t.isLt N_0
    have e0 : (grid0.coords t 0).val = t.val / 6 % 1 := Pipeline.Grid.coords_val t 0 (by decide) rfl
    have e1 : (grid0.coords t 1).val = t.val / 1 % 6 := Pipeline.Grid.coords_val t 1 (by decide) rfl
    simp only [first, k0_cond1, e0, e1]
    word_cmp
   : ∀ t : Fin grid0.N, first (grid0.coords t) ↔ t.val % 6 = 0)

/-- The scratch buffer holding the modulated activations of a row block. -/
abbrev acts : Memref sig .tc .vmem S1024x2048 .bf16 := Memref.whole (cc0_scratch0)

theorem invariant_eq (c : Dev nD) :
    (Pipeline.ΦA spec0 c : sProp 𝕄)
      = iprop(iprop((∃ d, owns (c : Thread nD τ) acts fullShare d)) ∗ (∃ r, prngReg c r)) := by
  unfold Pipeline.ΦA; rw [scopedRest0_eq]; simp only [acts, owns_whole]; try rfl

set_option maxHeartbeats 2000000 in
/-- The body at the first column block: the activations are computed and kept, both outputs are stored whole. -/
theorem body_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x2048 .bf16) (harg10 : arg10.IsWhole) (hc0 : first i)
    (x0 : Vec F S1024x2048 .f32) (x1 : Vec F S1x2048 .f32) (x2 : Vec F S1x1x2048 .f32) (x3 : Vec F S1x1x2048 .f32) (x4 : Vec F S2048x1024 .bf16) (x5 : Vec F S2048x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 (k0_pay2 x0 x1 x3 x2) x4) ∗ owns (c : Thread nD τ) arg9 fullShare (k0_pay3 x0 x1 x3 x2 x5) ∗ owns (c : Thread nD τ) arg10 fullShare (k0_pay2 x0 x1 x3 x2)) -∗ K ⟨⟩))
      ⊢ wp frame (wpE (defs₀ (F := F)) Variants.none c none) E (cc0_in_proj_ctx i arg2 harg2 arg3 harg3 arg4 harg4 arg5 harg5 arg6 harg6 arg7 harg7 arg8 harg8 arg9 harg9 arg10 harg10) K := by
  simp only [cc0_in_proj_ctx_eq_skeleton]; unfold cc0_in_proj_ctx_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS⟩, Hk⟩
  subst hf0 hf1 hf2 hf3 hf4 hf5
  have e0 : View.readAt (Elt F) arg2.view (Rect.unit ![0, 0] S1024x2048.size inb_S1024x2048_S1024x2048_0_0).toLoadRect f0 = View.read (Elt F) arg2.view f0 := View.ld_unit_lit _ _ (by decide)
  have e1 : View.readAt (Elt F) arg3.view (Rect.unit ![0, 0] S1x2048.size inb_S1x2048_S1x2048_0_0).toLoadRect f1 = View.read (Elt F) arg3.view f1 := View.ld_unit_lit _ _ (by decide)
  have e2 : View.readAt (Elt F) arg4.view (Rect.unit ![0, 0, 0] S1x1x2048.size inb_S1x1x2048_S1x1x2048_0_0_0).toLoadRect f2 = View.read (Elt F) arg4.view f2 := View.ld_unit_lit _ _ (by decide)
  have e3 : View.readAt (Elt F) arg5.view (Rect.unit ![0, 0, 0] S1x1x2048.size inb_S1x1x2048_S1x1x2048_0_0_0).toLoadRect f3 = View.read (Elt F) arg5.view f3 := View.ld_unit_lit _ _ (by decide)
  have e5 : View.readAt (Elt F) arg7.view (Rect.unit ![0, 0] S2048x128.size inb_S2048x128_S2048x128_0_0).toLoadRect f5 = View.read (Elt F) arg7.view f5 := View.ld_unit_lit _ _ (by decide)
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    refine (View.read_writes_eq_canon _ _ _ (View.cover_of_tiled _ S1024x1024.size (by rfl))).trans ?_
    rw [View.canon_cons_unit_lit _ _ _ (by decide)]
    unfold body_first.sl.v3 body_first.sl.HS_1
    refine congrArg₂ k0_pay4 ?_ (View.ld_unit_lit _ _ (by decide))
    exact View.readCov_unit_lit _ _ _ (by decide)
  isplitl [H7]
  · iexists _; isplitr; swap; · iexact H7
    ipureintro
    refine (View.read_writes_eq_canon _ _ _ (View.cover_of_tiled _ S1024x128.size (by rfl))).trans ?_
    rw [View.canon_cons_unit_lit _ _ _ (by decide)]
  iexists _; isplitr; swap; · iexact HS
  ipureintro
  refine (View.read_writes_eq_canon _ _ _ (View.cover_of_tiled _ S1024x2048.size (by rfl))).trans ?_
  unfold body_first.sl.HS_1
  rw [View.canon_cons_unit_lit _ _ _ (by decide)]

set_option maxHeartbeats 1000000 in
/-- The body at a later column block: the kept activations meet the next weights; the second output is left as it was. -/
theorem body_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x2048 .bf16) (harg10 : arg10.IsWhole) (hc0 : ¬ first i)
    (h : Vec F S1024x2048 .bf16) (x4 : Vec F S2048x1024 .bf16) (E : Set ℕ) (K : PUnit → sProp 𝕄) :
    iprop(owns (c : Thread nD τ) arg6 fullShare x4 ∗ (∃ d, owns (c : Thread nD τ) arg8 fullShare d) ∗ owns (c : Thread nD τ) arg10 fullShare h
        ∗ (iprop(owns (c : Thread nD τ) arg6 fullShare x4 ∗ owns (c : Thread nD τ) arg8 fullShare (k0_pay4 h x4) ∗ owns (c : Thread nD τ) arg10 fullShare h) -∗ K ⟨⟩))
      ⊢ wp frame (wpE (defs₀ (F := F)) Variants.none c none) E (cc0_in_proj_ctx i arg2 harg2 arg3 harg3 arg4 harg4 arg5 harg5 arg6 harg6 arg7 harg7 arg8 harg8 arg9 harg9 arg10 harg10) K := by
  simp only [cc0_in_proj_ctx_eq_skeleton]; unfold cc0_in_proj_ctx_skel
  unfold owns
  iintro ⟨⟨%f4, %hf4, H4⟩, ⟨%d6, %f6, -, H6⟩, ⟨%fs, %hfs, HS⟩, Hk⟩
  subst hf4 hfs
  sl_exec (disch := first | sl_exact hc0)
  sl_step
  iapply Hk
  isplitl [H4]
  · iexists f4; isplitr; · ipureintro; rfl
    iexact H4
  isplitl [H6]
  · iexists _; isplitr; swap; · iexact H6
    ipureintro
    refine (View.read_writes_eq_canon _ _ _ (View.cover_of_tiled _ S1024x1024.size (by rfl))).trans ?_
    rw [View.canon_cons_unit_lit _ _ _ (by decide)]
    exact congrArg₂ k0_pay4 (View.ld_unit_lit _ _ (by decide)) (View.ld_unit_lit _ _ (by decide))
  iexists fs; isplitr; · ipureintro; rfl
  iexact HS

/-- The first point of the row block that point `t` is in. -/
abbrev start (t : Fin cfg0.N) : Fin cfg0.N := ⟨t.val / 6 * 6, Nat.lt_of_le_of_lt (Nat.div_mul_le_self _ _) t.isLt⟩

theorem start_of_first (t : Fin cfg0.N) (h : t.val % 6 = 0) : start t = t := Fin.ext (by
  show t.val / 6 * 6 = t.val; omega)

/-- The modulated activations of the row block that point `t` is in. -/
def actsOf (c : Dev nD) (t : Fin cfg0.N) : Vec F S1024x2048 .bf16 :=
  k0_pay2 (iblk m c 0 (start t)) (iblk m c 1 (start t)) (iblk m c 3 (start t)) (iblk m c 2 (start t))

/-- The row block's second output. -/
def sideOf (c : Dev nD) (t : Fin cfg0.N) : Vec F S1024x128 .f32 :=
  k0_pay3 (iblk m c 0 (start t)) (iblk m c 1 (start t)) (iblk m c 3 (start t)) (iblk m c 2 (start t)) (iblk m c 5 (start t))

theorem actsOf_congr (c : Dev nD) (t u : Fin cfg0.N) (h : t.val / 6 = u.val / 6) : actsOf m c t = actsOf m c u := by
  unfold actsOf; rw [show start t = start u from Fin.ext (by show t.val / 6 * 6 = u.val / 6 * 6; rw [h])]
theorem sideOf_congr (c : Dev nD) (t u : Fin cfg0.N) (h : t.val / 6 = u.val / 6) : sideOf m c t = sideOf m c u := by
  unfold sideOf; rw [show start t = start u from Fin.ext (by show t.val / 6 * 6 = u.val / 6 * 6; rw [h])]

/-- What the body holds beside its windows: before the first point anything in the scratch; after point `n` the
    activations of that point's row block. -/
def held (c : Dev nD) : (n : ℕ) → n ≤ cfg0.N → sProp 𝕄
  | 0, _ => Pipeline.ΦA spec0 c
  | n + 1, hn => iprop(owns (c : Thread nD τ) acts fullShare (actsOf m c ⟨n, hn⟩) ∗ (∃ r, prngReg c r))

theorem held_pos (c : Dev nD) (t : Fin cfg0.N) (hz : t.val ≠ 0) :
    held m c t.val (Nat.le_of_lt t.isLt) = iprop(owns (c : Thread nD τ) acts fullShare (actsOf m c ⟨t.val - 1, by omega⟩) ∗ (∃ r, prngReg c r)) := by
  obtain ⟨n, hn⟩ := t
  cases n with
  | zero => exact absurd rfl hz
  | succ n => rfl

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (actsOf m c t) (iblk m c 4 t)
    | ⟨7, _⟩ => sideOf m c t
  Φ t := held m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = k0_pay4 (actsOf m c t) (iblk m c 4 t) := by dsimp only [dats]
theorem after_7 (c : Dev nD) (t : Fin cfg0.N) : (dats m 0 c).after 7 t = sideOf m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem idle_7 : ∀ t : Fin cfg0.N, cfg0.idle 7 (grid0.coords t) = decide (t.val % 6 ≠ 0) :=
  (by decide +kernel : ∀ t : Fin grid0.N, cfg0.idle 7 (grid0.coords t) = decide (t.val % 6 ≠ 0))

theorem live_6 : ∀ t : Fin cfg0.N, cfg0.idle 6 (grid0.coords t) = false :=
  (by decide +kernel : ∀ t : Fin grid0.N, cfg0.idle 6 (grid0.coords t) = false)

/-- The second output's buffer is unwritten at the start of each row block only. -/
theorem fresh_7 (n : ℕ) (h : n ≤ cfg0.N) : cfg0.fresh 7 n = decide (n % 6 = 0) :=
  cfg0.fresh_tab 7 (fun n => decide (n % 6 = 0)) rfl
    (fun t => by
      have hfl := flush0_7 t
      have e : cfg0.idle 7 (cfg0.grid.coords t) = decide (t.val % 6 ≠ 0) := idle_7 t
      rw [e]
      by_cases h5 : t.val % 6 = 5
      · rw [hfl.mpr h5]; simp; omega
      · have : (cfg0.win 7).flush t = false := by
          rw [Bool.eq_false_iff]; exact fun hh => h5 (hfl.mp hh)
        rw [this]
        by_cases h0 : t.val % 6 = 0
        · simp [h0]; omega
        · simp [h0]; omega) n h

/-- At a later column block the second output's buffer is found holding the row block's. -/
theorem before_7 (c : Dev nD) (t : Fin cfg0.N) (h : t.val % 6 ≠ 0) (d) :
    (dats m 0 c).before 7 t d = sideOf m c t := by
  rw [(dats m 0 c).before_out_traj 7 rfl (fun _ _ => rfl) (fun t hz hi _ => by
      have hm : t.val % 6 ≠ 0 := by
        have e : cfg0.idle 7 (cfg0.grid.coords t) = decide (t.val % 6 ≠ 0) := idle_7 t
        rw [e] at hi; exact of_decide_eq_true hi
      rw [after_7, after_7]
      exact sideOf_congr m c _ _ (by show t.val / 6 = (t.val - 1) / 6; omega)) t.val t rfl d,
    fresh_7 t.val (Nat.le_of_lt t.isLt), after_7, decide_eq_false h, if_neg Bool.false_ne_true]
  exact sideOf_congr m c _ _ (by show (t.val - 1) / 6 = t.val / 6; omega)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t
    ∗ (dats m 0 c).leavesExact 4 t ∗ (dats m 0 c).leavesExact 5 t
    ∗ (dats m 0 c).leavesExact 6 t ∗ (dats m 0 c).leavesExact 7 t)

/-- At a later column block the second output's buffer is what the point has to leave. -/
theorem keep_7 (c : Dev nD) (t : Fin cfg0.N) (h : t.val % 6 ≠ 0) :
    owns (c : Thread nD τ) (st0_7 t) fullShare (sideOf m c t) ⊢ (dats m 0 c).leavesExact 7 t := by
  cases hf : (cfg0.win 7).flush t
  · rw [(dats m 0 c).leavesExact_idle 7 t ((idle_7 t).trans (decide_eq_true h)) hf]
    iintro H
    iexists sideOf m c t
    rw [before_7 m c t h]
    iexact H
  · rw [show (dats m 0 c).leavesExact 7 t = owns (c : Thread nD τ) (st0_7 t) fullShare ((dats m 0 c).after 7 t) from by
      unfold Dat.leavesExact; rw [hf]; cases cfg0.idle 7 (cfg0.grid.coords t) <;> rfl, after_7]

/-- Before the first column block of a row block the scratch holds something. -/
theorem held_some (c : Dev nD) (t : Fin cfg0.N) :
    held m c t.val (Nat.le_of_lt t.isLt) ⊢ iprop((∃ d, owns (c : Thread nD τ) acts fullShare d) ∗ (∃ r, prngReg c r)) := by
  by_cases hz : t.val = 0
  · obtain ⟨n, hn⟩ := t
    subst hz
    show Pipeline.ΦA spec0 c ⊢ _
    rw [invariant_eq]
  · rw [held_pos m c t hz]
    iintro ⟨HS, Hg⟩
    isplitl [HS]
    · iexists _; iexact HS
    iexact Hg

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = iprop(owns (c : Thread nD τ) acts fullShare (actsOf m c t) ∗ (∃ r, prngReg c r)) from rfl,
    show (dats m 0 c).Φ t.castSucc = held m c t.val (Nat.le_of_lt t.isLt) from by
      dsimp only [dats]; exact Pipeline.Dat.Φ_castSucc (held m c) t,
    show (dats m 0 c).owesAt () t.succ = (dats m 0 c).owesAt () t.castSucc from rfl,
    show (dats m 0 c).leavesExact 0 t = owns (c : Thread nD τ) (st0_0 t) fullShare ((dats m 0 c).after 0 t) from rfl, after_0,
    show (dats m 0 c).leavesExact 1 t = owns (c : Thread nD τ) (st0_1 t) fullShare ((dats m 0 c).after 1 t) from rfl, after_1,
    show (dats m 0 c).leavesExact 2 t = owns (c : Thread nD τ) (st0_2 t) fullShare ((dats m 0 c).after 2 t) from rfl, after_2,
    show (dats m 0 c).leavesExact 3 t = owns (c : Thread nD τ) (st0_3 t) fullShare ((dats m 0 c).after 3 t) from rfl, after_3,
    show (dats m 0 c).leavesExact 4 t = owns (c : Thread nD τ) (st0_4 t) fullShare ((dats m 0 c).after 4 t) from rfl, after_4,
    show (dats m 0 c).leavesExact 5 t = owns (c : Thread nD τ) (st0_5 t) fullShare ((dats m 0 c).after 5 t) from rfl, after_5,
    show (dats m 0 c).leavesExact 6 t = owns (c : Thread nD τ) (st0_6 t) fullShare ((dats m 0 c).after 6 t) from by
      unfold Dat.leavesExact; rw [live_6 t], after_6]
  by_cases h0 : t.val % 6 = 0
  · rw [show (dats m 0 c).leavesExact 7 t = owns (c : Thread nD τ) (st0_7 t) fullShare ((dats m 0 c).after 7 t) from by
      unfold Dat.leavesExact; rw [idle_7 t, decide_eq_false (not_not.mpr h0)], after_7]
    unfold actsOf sideOf
    rw [start_of_first t h0]
    refine (sep_mono_left (held_some m c t)).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t) _ _ _ _ _ _ _ _ _ _ _ _ _ _ _ _ _ _ ((first_iff t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [before_7 m c t h0]
    rw [held_pos m c t (by omega), actsOf_congr m c ⟨t.val - 1, by omega⟩ t (by show (t.val - 1) / 6 = t.val / 6; omega)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) _ _ _ _ _ _ _ _ _ _ _ _ _ _ _ _ _ _ (fun h => h0 ((first_iff t).mp h)) (actsOf m c t) (iblk m c 4 t) Set.univ _)
    isplitl [H4]; · iexact H4
    isplitl [H6]; · iexists _; iexact H6
    isplitl [HS]; · iexact HS
    iintro ⟨H4, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply keep_7 m c t h0
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem held_in (c : Dev nD) : Pipeline.ΦA spec0 c ⊢ (dats m 0 c).Φ 0 := by
  rw [show (dats m 0 c).Φ 0 = Pipeline.ΦA spec0 c from rfl]

theorem held_out (c : Dev nD) : (dats m 0 c).Φ (Fin.last cfg0.N) ⊢ Pipeline.ΦA spec0 c := by
  rw [show (dats m 0 c).Φ (Fin.last cfg0.N) = iprop(owns (c : Thread nD τ) acts fullShare (actsOf m c ⟨5, by decide⟩) ∗ (∃ r, prngReg c r)) from rfl,
    invariant_eq]
  iintro ⟨HS, Hg⟩
  isplitl [HS]
  · iexists _; iexact HS
  iexact Hg

set_option backward.isDefEq.respectTransparency.types false in
/-- The run: every output array at what the pipeline writes back, every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := held_in m) (hout := held_out m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.InProjCtxRun

end
-- ==== Proof.InProjCtx.Value.lean ====
/- What the context projection computes: its two result arrays as functions of the arguments, and the reference's. -/
module

public import proofs.«01_k».proof.Defs
public import proofs.«01_k».proof.Proof.InProj.Value
public import proofs.«01_k».proof.Proof.InProjCtx.Run
public import proofs.«01_k».proof.Proof.Gen.InProjCtxRefIdeal.Run
public import Idealize.ShloMosaic.Lib.Pointwise

@[expose] public section

set_option maxRecDepth 16384

noncomputable section

namespace Cert.InProjCtxRun

open Cert.InProjCtxIdeal Cert.InProjCtxIdeal.Gen
open Idealize.ShloMosaic Idealize.ShloMosaic.TcCoe Idealize.SL.Sem
open Idealize.ShloMosaic.Pipeline (Dat)
open Cert.InProjRun (normed)

/-- The modulated, normalised activation of context token `l` of sequence `b`, at feature `k`. -/
def modulated (x : S4x256x2048.Idx → EReal) (g : S1x2048.Idx → EReal) (md : S8x1x12288.Idx → EReal) (b : Fin 4) (l : Fin 256) (k : Fin 2048) : EReal :=
  normed (fun j => x (ix3 b l j)) k (g (ix2 0 k)) (md (ix3 4 0 ⟨2048 + k.val, by omega⟩))
    (md (ix3 4 0 ⟨k.val, by omega⟩))

/-- The columns of the big weight the call reads: 4096 to 10239. -/
def columns (w : S2048x16384.Idx → EReal) : Shape.Idx ⟨2, ![2048, 6144]⟩ → EReal := fun i =>
  have h : (i 1).val < 6144 := (i 1).isLt
  w (ix2 (i 0) ⟨4096 + (i 1).val, by omega⟩)

/-- The activations of the flattened tokens times a weight of `n` columns. -/
def projected {n : ℕ} (x : S4x256x2048.Idx → EReal) (g : S1x2048.Idx → EReal) (md : S8x1x12288.Idx → EReal)
    (w : Shape.Idx ⟨2, ![2048, n]⟩ → EReal) : Shape.Idx ⟨2, ![1024, n]⟩ → EReal := fun i =>
  have h : (i 0).val < 1024 := (i 0).isLt
  ∑ k : Fin 2048, modulated x g md ⟨(i 0).val / 256, by omega⟩ ⟨(i 0).val % 256, by omega⟩ k * w (ix2 k (i 1))

theorem projected_apply {n : ℕ} (x : S4x256x2048.Idx → EReal) (g : S1x2048.Idx → EReal) (md : S8x1x12288.Idx → EReal)
    (w : Shape.Idx ⟨2, ![2048, n]⟩ → EReal) (r : Fin 1024) (q : Fin n) :
    projected x g md w (ix2 r q) = ∑ k : Fin 2048, modulated x g md ⟨r.val / 256, by omega⟩ ⟨r.val % 256, by omega⟩ k * w (ix2 k q) := rfl

theorem pay2_apply (x : Vec Ideal S1024x2048 .f32) (g : Vec Ideal S1x2048 .f32) (sc sh : Vec Ideal S1x1x2048 .f32) (r : Fin 1024) (k : Fin 2048) :
    k0_pay2 x g sc sh (ix2 r k) = normed (fun j => x (ix2 r j)) k (g (ix2 0 k)) (sc (ix3 0 0 k)) (sh (ix3 0 0 k)) := by
  pointwise [k0_pay2, k0_pay1, normed]

theorem pay4_apply (h : Vec Ideal S1024x2048 .bf16) (w : Vec Ideal S2048x1024 .bf16) (r : Fin 1024) (q : Fin 1024) :
    k0_pay4 h w (ix2 r q) = ∑ k : Fin 2048, h (ix2 r k) * w (ix2 k q) := by
  pointwise [k0_pay4]

theorem pay3_apply (x : Vec Ideal S1024x2048 .f32) (g : Vec Ideal S1x2048 .f32) (sc sh : Vec Ideal S1x1x2048 .f32) (w : Vec Ideal S2048x128 .bf16) (r : Fin 1024) (q : Fin 128) :
    k0_pay3 x g sc sh w (ix2 r q) = ∑ k : Fin 2048, k0_pay2 x g sc sh (ix2 r k) * w (ix2 k q) := by
  pointwise [k0_pay3, k0_pay2]

variable (m : (ℓ : Loc nD τ sig) → Buf (Elt Ideal) ℓ) (ρ : Dev nD → PrngReg)

/-- The arguments as launched. -/
abbrev X (c : Dev nD) : S4x256x2048.Idx → EReal := m ((c : Thread nD τ).loc main_arg0)
abbrev Gain (c : Dev nD) : S1x2048.Idx → EReal := m ((c : Thread nD τ).loc main_arg1)
abbrev Mods (c : Dev nD) : S8x1x12288.Idx → EReal := m ((c : Thread nD τ).loc main_arg2)
abbrev WMain (c : Dev nD) : S2048x16384.Idx → EReal := m ((c : Thread nD τ).loc main_arg3)
abbrev WSide (c : Dev nD) : S2048x128.Idx → EReal := m ((c : Thread nD τ).loc main_arg4)

/-- The tokens of all sequences, one after another. -/
theorem V_v0 (c : Dev nD) (r : Fin 1024) (k : Fin 2048) :
    V m c main_v0 (ix2 r k) = X m c (ix3 ⟨r.val / 256, by omega⟩ ⟨r.val % 256, by omega⟩ k) := by
  have e : V m c main_v0 = shapeCast S1024x2048 (X m c) shapeCasts_S4x256x2048_S1024x2048 := by
    unfold V; after_results <;> rfl
  rw [e]
  pointwise

theorem V_v2 (c : Dev nD) (k : Fin 2048) : V m c main_v2 (ix2 0 k) = Gain m c (ix2 0 k) := by
  have e : V m c main_v2 = shapeCast S1x2048 (shapeCast S2048 (Gain m c) shapeCasts_S1x2048_S2048) shapeCasts_S2048_S1x2048 := by
    unfold V; after_results <;> rfl
  rw [e]
  pointwise

/-- Where each window's block begins. -/
theorem idx_0 : ∀ t : Fin cfg0.N, win0_0.index t 0 = t.val / 6 ∧ win0_0.index t 1 = 0 :=
  (by decide +kernel : ∀ t : Fin grid0.N, win0_0.index t 0 = t.val / 6 ∧ win0_0.index t 1 = 0)
theorem idx_1 : ∀ t : Fin cfg0.N, win0_1.index t 0 = 0 ∧ win0_1.index t 1 = 0 :=
  (by decide +kernel : ∀ t : Fin grid0.N, win0_1.index t 0 = 0 ∧ win0_1.index t 1 = 0)
theorem idx_2 : ∀ t : Fin cfg0.N, win0_2.index t 0 = 4 ∧ win0_2.index t 1 = 0 ∧ win0_2.index t 2 = 0 :=
  (by decide +kernel : ∀ t : Fin grid0.N, win0_2.index t 0 = 4 ∧ win0_2.index t 1 = 0 ∧ win0_2.index t 2 = 0)
theorem idx_3 : ∀ t : Fin cfg0.N, win0_3.index t 0 = 4 ∧ win0_3.index t 1 = 0 ∧ win0_3.index t 2 = 1 :=
  (by decide +kernel : ∀ t : Fin grid0.N, win0_3.index t 0 = 4 ∧ win0_3.index t 1 = 0 ∧ win0_3.index t 2 = 1)
theorem idx_4 : ∀ t : Fin cfg0.N, win0_4.index t 0 = 0 ∧ win0_4.index t 1 = 4 + t.val % 6 :=
  (by decide +kernel : ∀ t : Fin grid0.N, win0_4.index t 0 = 0 ∧ win0_4.index t 1 = 4 + t.val % 6)
theorem idx_5 : ∀ t : Fin cfg0.N, win0_5.index t 0 = 0 ∧ win0_5.index t 1 = 0 :=
  (by decide +kernel : ∀ t : Fin grid0.N, win0_5.index t 0 = 0 ∧ win0_5.index t 1 = 0)
theorem idx_6 : ∀ t : Fin cfg0.N, win0_6.index t 0 = t.val / 6 ∧ win0_6.index t 1 = t.val % 6 :=
  (by decide +kernel : ∀ t : Fin grid0.N, win0_6.index t 0 = t.val / 6 ∧ win0_6.index t 1 = t.val % 6)
theorem idx_7 : ∀ t : Fin cfg0.N, win0_7.index t 0 = t.val / 6 ∧ win0_7.index t 1 = 0 :=
  (by decide +kernel : ∀ t : Fin grid0.N, win0_7.index t 0 = t.val / 6 ∧ win0_7.index t 1 = 0)

theorem lt_N (t : Fin cfg0.N) : t.val < 6 := Nat.lt_of_lt_of_eq t.isLt N_0

theorem iblk_0 (c : Dev nD) (t : Fin cfg0.N) (r : Fin 1024) (k : Fin 2048) (h : 1024 * (t.val / 6) + r.val < 1024) :
    (iblk m c 0 t : Vec Ideal S1024x2048 .f32) (ix2 r k) = V m c main_v0 (ix2 ⟨1024 * (t.val / 6) + r.val, h⟩ k) := by
  unfold iblk
  rw [View.read_apply]
  show V m c main_v0 _ = _
  congr 1
  funext a
  apply Fin.ext
  match a with
  | ⟨0, _⟩ => show win0_0.index t 0 * 1024 + 1 * r.val = 1024 * (t.val / 6) + r.val; rw [(idx_0 t).1]; omega
  | ⟨1, _⟩ => show win0_0.index t 1 * 2048 + 1 * k.val = k.val; rw [(idx_0 t).2]; omega

theorem iblk_1 (c : Dev nD) (t : Fin cfg0.N) (k : Fin 2048) :
    (iblk m c 1 t : Vec Ideal S1x2048 .f32) (ix2 0 k) = Gain m c (ix2 0 k) := by
  rw [← V_v2]
  unfold iblk
  rw [View.read_apply]
  show V m c main_v2 _ = _
  congr 1
  funext a
  apply Fin.ext
  match a with
  | ⟨0, _⟩ => show win0_1.index t 0 * 1 + 1 * 0 = 0; rw [(idx_1 t).1]
  | ⟨1, _⟩ => show win0_1.index t 1 * 2048 + 1 * k.val = k.val; rw [(idx_1 t).2]; omega

theorem iblk_2 (c : Dev nD) (t : Fin cfg0.N) (k : Fin 2048) (hk : k.val < 12288) :
    (iblk m c 2 t : Vec Ideal S1x1x2048 .f32) (ix3 0 0 k) = Mods m c (ix3 4 0 ⟨k.val, hk⟩) := by
  rw [show Mods m c = V m c main_arg2 from (V_main_arg2 m c).symm]
  unfold iblk
  rw [View.read_apply]
  show V m c main_arg2 _ = _
  congr 1
  funext a
  apply Fin.ext
  match a with
  | ⟨0, _⟩ => show win0_2.index t 0 * 1 + 1 * 0 = 4; rw [(idx_2 t).1]
  | ⟨1, _⟩ => show win0_2.index t 1 * 1 + 1 * 0 = 0; rw [(idx_2 t).2.1]
  | ⟨2, _⟩ => show win0_2.index t 2 * 2048 + 1 * k.val = k.val; rw [(idx_2 t).2.2]; omega

theorem iblk_3 (c : Dev nD) (t : Fin cfg0.N) (k : Fin 2048) (hk : 2048 + k.val < 12288) :
    (iblk m c 3 t : Vec Ideal S1x1x2048 .f32) (ix3 0 0 k) = Mods m c (ix3 4 0 ⟨2048 + k.val, hk⟩) := by
  rw [show Mods m c = V m c main_arg2 from (V_main_arg2 m c).symm]
  unfold iblk
  rw [View.read_apply]
  show V m c main_arg2 _ = _
  congr 1
  funext a
  apply Fin.ext
  match a with
  | ⟨0, _⟩ => show win0_3.index t 0 * 1 + 1 * 0 = 4; rw [(idx_3 t).1]
  | ⟨1, _⟩ => show win0_3.index t 1 * 1 + 1 * 0 = 0; rw [(idx_3 t).2.1]
  | ⟨2, _⟩ => show win0_3.index t 2 * 2048 + 1 * k.val = 2048 + k.val; rw [(idx_3 t).2.2]; omega

theorem iblk_4 (c : Dev nD) (t : Fin cfg0.N) (k : Fin 2048) (q : Fin 1024) (h : 4096 + (1024 * (t.val % 6) + q.val) < 16384) :
    (iblk m c 4 t : Vec Ideal S2048x1024 .bf16) (ix2 k q) = WMain m c (ix2 k ⟨4096 + (1024 * (t.val % 6) + q.val), h⟩) := by
  rw [show WMain m c = V m c main_arg3 from (V_main_arg3 m c).symm]
  unfold iblk
  rw [View.read_apply]
  show V m c main_arg3 _ = _
  congr 1
  funext a
  apply Fin.ext
  match a with
  | ⟨0, _⟩ => show win0_4.index t 0 * 2048 + 1 * k.val = k.val; rw [(idx_4 t).1]; omega
  | ⟨1, _⟩ => show win0_4.index t 1 * 1024 + 1 * q.val = 4096 + (1024 * (t.val % 6) + q.val); rw [(idx_4 t).2]; omega

theorem iblk_5 (c : Dev nD) (t : Fin cfg0.N) (k : Fin 2048) (q : Fin 128) :
    (iblk m c 5 t : Vec Ideal S2048x128 .bf16) (ix2 k q) = WSide m c (ix2 k q) := by
  rw [show WSide m c = V m c main_arg4 from (V_main_arg4 m c).symm]
  unfold iblk
  rw [View.read_apply]
  show V m c main_arg4 _ = _
  congr 1
  funext a
  apply Fin.ext
  match a with
  | ⟨0, _⟩ => show win0_5.index t 0 * 2048 + 1 * k.val = k.val; rw [(idx_5 t).1]; omega
  | ⟨1, _⟩ => show win0_5.index t 1 * 128 + 1 * q.val = q.val; rw [(idx_5 t).2]; omega

/-- The kept activations are the modulated ones of the row block's tokens. -/
theorem actsOf_apply (c : Dev nD) (t : Fin cfg0.N) (r : Fin 1024) (k : Fin 2048)
    (hb : (1024 * (t.val / 6) + r.val) / 256 < 4) (hl : (1024 * (t.val / 6) + r.val) % 256 < 256) :
    actsOf m c t (ix2 r k) = modulated (X m c) (Gain m c) (Mods m c) ⟨_, hb⟩ ⟨_, hl⟩ k := by
  have ht := lt_N t
  have hs : (start t).val = t.val / 6 * 6 := rfl
  have e0 : (start t).val / 6 = t.val / 6 := by omega
  unfold actsOf modulated
  rw [pay2_apply, iblk_1, iblk_2 m c (start t) k (by omega), iblk_3 m c (start t) k (by omega)]
  congr 1
  funext j
  rw [iblk_0 m c (start t) r j (by omega), V_v0]
  simp only [e0]

theorem flushed_6 (c : Dev nD) (t : Fin cfg0.N) :
    (dats m 0 c).flushed 6 t = ((cfg0.win 6).blk t).view.read (Elt Ideal) (projected (X m c) (Gain m c) (Mods m c) (columns (WMain m c))) := by
  show (cfg0.win 6).cut (grid0.coords t) ((dats m 0 c).after 6 t) = _
  rw [after_6]
  funext j
  rw [View.read_apply]
  have ht := lt_N t
  obtain ⟨r, q, rfl⟩ : ∃ (r : Fin 1024) (q : Fin 1024), j = ix2 r q := ⟨j 0, j 1, eq_ix2 j⟩
  have hr : 1024 * (t.val / 6) + r.val < 1024 := by omega
  have hq : 1024 * (t.val % 6) + q.val < 6144 := by omega
  show k0_pay4 (actsOf m c t) (iblk m c 4 t) (ix2 r q) = _
  rw [show (((cfg0.win 6).blk t).view.emb (ix2 r q) : S1024x6144.Idx) = ix2 ⟨1024 * (t.val / 6) + r.val, hr⟩ ⟨1024 * (t.val % 6) + q.val, hq⟩ from by
    funext a
    apply Fin.ext
    match a with
    | ⟨0, _⟩ => show win0_6.index t 0 * 1024 + 1 * r.val = 1024 * (t.val / 6) + r.val; rw [(idx_6 t).1]; omega
    | ⟨1, _⟩ => show win0_6.index t 1 * 1024 + 1 * q.val = 1024 * (t.val % 6) + q.val; rw [(idx_6 t).2]; omega]
  rw [pay4_apply]
  refine Eq.trans ?_ (projected_apply _ _ _ _ _ _).symm
  refine Finset.sum_congr rfl fun k _ => ?_
  rw [iblk_4 m c t k q (by omega), actsOf_apply m c t r k (by omega) (by omega)]
  rfl

theorem final_6 (c : Dev nD) : (dats m 0 c).arrAt 6 cfg0.N = projected (X m c) (Gain m c) (Mods m c) (columns (WMain m c)) :=
  (dats m 0 c).arrAt_eq_of_cover 6 _ (fun t _ => flushed_6 m c t) fun i => by
    have h0 : (i 0 : Nat) < 1024 := (i 0).isLt
    have h1 : (i 1 : Nat) < 6144 := (i 1).isLt
    have ht : 6 * ((i 0 : Nat) / 1024) + (i 1 : Nat) / 1024 < cfg0.N := by rw [show cfg0.N = 6 from N_0]; omega
    refine ⟨⟨6 * ((i 0 : Nat) / 1024) + (i 1 : Nat) / 1024, ht⟩, flush0_6 _, ?_⟩
    show i ∈ ((View.whole main_v3_0).slice (win0_6.rect ⟨6 * ((i 0 : Nat) / 1024) + (i 1 : Nat) / 1024, ht⟩)).set
    rw [View.set_slice_whole, Rect.mem_set_unit]
    have hi := idx_6 ⟨6 * ((i 0 : Nat) / 1024) + (i 1 : Nat) / 1024, ht⟩
    dsimp only at hi
    intro a
    match a with
    | ⟨0, _⟩ => show win0_6.index ⟨_, ht⟩ 0 * 1024 ≤ (i 0 : Nat) ∧ (i 0 : Nat) < win0_6.index ⟨_, ht⟩ 0 * 1024 + 1024
                rw [hi.1]; omega
    | ⟨1, _⟩ => show win0_6.index ⟨_, ht⟩ 1 * 1024 ≤ (i 1 : Nat) ∧ (i 1 : Nat) < win0_6.index ⟨_, ht⟩ 1 * 1024 + 1024
                rw [hi.2]; omega

theorem flushed_7 (c : Dev nD) (t : Fin cfg0.N) :
    (dats m 0 c).flushed 7 t = ((cfg0.win 7).blk t).view.read (Elt Ideal) (projected (X m c) (Gain m c) (Mods m c) (WSide m c)) := by
  show (cfg0.win 7).cut (grid0.coords t) ((dats m 0 c).after 7 t) = _
  rw [after_7]
  funext j
  rw [View.read_apply]
  have ht := lt_N t
  obtain ⟨r, q, rfl⟩ : ∃ (r : Fin 1024) (q : Fin 128), j = ix2 r q := ⟨j 0, j 1, eq_ix2 j⟩
  have hr : 1024 * (t.val / 6) + r.val < 1024 := by omega
  show sideOf m c t (ix2 r q) = _
  rw [show (((cfg0.win 7).blk t).view.emb (ix2 r q) : S1024x128.Idx) = ix2 ⟨1024 * (t.val / 6) + r.val, hr⟩ q from by
    funext a
    apply Fin.ext
    match a with
    | ⟨0, _⟩ => show win0_7.index t 0 * 1024 + 1 * r.val = 1024 * (t.val / 6) + r.val; rw [(idx_7 t).1]; omega
    | ⟨1, _⟩ => show win0_7.index t 1 * 128 + 1 * q.val = q.val; rw [(idx_7 t).2]; omega]
  unfold sideOf
  rw [pay3_apply]
  refine Eq.trans ?_ (projected_apply _ _ _ _ _ _).symm
  refine Finset.sum_congr rfl fun k _ => ?_
  rw [iblk_5]
  exact congrArg (· * WSide m c (ix2 k q)) (actsOf_apply m c t r k (by omega) (by omega))

theorem final_7 (c : Dev nD) : (dats m 0 c).arrAt 7 cfg0.N = projected (X m c) (Gain m c) (Mods m c) (WSide m c) :=
  (dats m 0 c).arrAt_eq_of_cover 7 _ (fun t _ => flushed_7 m c t) fun i => by
    have h0 : (i 0 : Nat) < 1024 := (i 0).isLt
    have h1 : (i 1 : Nat) < 128 := (i 1).isLt
    have ht : 6 * ((i 0 : Nat) / 1024) + 5 < cfg0.N := by rw [show cfg0.N = 6 from N_0]; omega
    refine ⟨⟨6 * ((i 0 : Nat) / 1024) + 5, ht⟩, (flush0_7 _).mpr (by dsimp only; omega), ?_⟩
    show i ∈ ((View.whole main_v3_1).slice (win0_7.rect ⟨6 * ((i 0 : Nat) / 1024) + 5, ht⟩)).set
    rw [View.set_slice_whole, Rect.mem_set_unit]
    have hi := idx_7 ⟨6 * ((i 0 : Nat) / 1024) + 5, ht⟩
    dsimp only at hi
    intro a
    match a with
    | ⟨0, _⟩ => show win0_7.index ⟨_, ht⟩ 0 * 1024 ≤ (i 0 : Nat) ∧ (i 0 : Nat) < win0_7.index ⟨_, ht⟩ 0 * 1024 + 1024
                rw [hi.1]; omega
    | ⟨1, _⟩ => show win0_7.index ⟨_, ht⟩ 1 * 128 ≤ (i 1 : Nat) ∧ (i 1 : Nat) < win0_7.index ⟨_, ht⟩ 1 * 128 + 128
                rw [hi.2]; omega

/-- The run read: both results, and the arguments unchanged. -/
theorem run : θ_run defs (onTc (τ := τ) (main (F := Ideal))) ⟨m, fun _ => 0, ρ⟩ fun r => ∀ c : Dev nD,
      r.2.mem ((c : Thread nD τ).loc main_v3_0) = projected (X m c) (Gain m c) (Mods m c) (columns (WMain m c))
      ∧ r.2.mem ((c : Thread nD τ).loc main_v3_1) = projected (X m c) (Gain m c) (Mods m c) (WSide m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.2 c).1 6).trans (final_6 m c), ((h.2 c).1 7).trans (final_7 m c), h.1.1 c⟩)
    (θ_run_and (frame m ρ) (run_main m ρ))

end Cert.InProjCtxRun

/-! ## The reference -/

namespace Cert.InProjCtxRun.Ref

open Cert.InProjRun (normed)
open Cert.InProjCtxRefIdeal Cert.InProjCtxRefIdeal.Gen
open Idealize.ShloMosaic Idealize.ShloMosaic.TcCoe Idealize.SL.Sem

/-- The activations as the reference's lines compute them. -/
def acts (x : S4x256x2048.Idx → EReal) (g : S1x2048.Idx → EReal) (md : S8x1x12288.Idx → EReal) : S4x256x2048.Idx → EReal :=
  addf (F := Ideal) (mulf (mulf (mulf (φ := .f32) x (broadcastInDim S4x256x2048 ![0, 1, 2] bcast_S4x256x1_S4x256x2048_0_1_2 (Host.rsqrt (addf (Host.divf (broadcastInDim S4x256x1 ![0, 1] bcast_S4x256_S4x256x1_0_1 (Host.reduceAdd (mulf x x) (constant S_ .f32 0x00000000#32) reducesTo_S4x256x2048_S4x256_d2 h_S_)) (broadcastInDim S4x256x1 ![] bcast_S_S4x256x1 (constant S_ .f32 0x45000000#32))) (broadcastInDim S4x256x1 ![] bcast_S_S4x256x1 (constant S_ .f32 0x358637BD#32)))))) (broadcastInDim S4x256x2048 ![0, 1, 2] bcast_S1x1x2048_S4x256x2048_0_1_2 (broadcastInDim S1x1x2048 ![2] bcast_S2048_S1x1x2048_2 (shapeCast _ g shapeCasts_S1x2048_S2048)))) (broadcastInDim S4x256x2048 ![0, 1, 2] bcast_S1x1x2048_S4x256x2048_0_1_2 (addf (broadcastInDim S1x1x2048 ![] bcast_S_S1x1x2048 (constant S_ .f32 0x3F800000#32)) (broadcastInDim S1x1x2048 ![0, 2] bcast_S1x2048_S1x1x2048_0_2 (extractStridedSlice S1x2048 ![0, 2048] (shapeCast _ (extractStridedSlice S1x1x12288 ![4, 0, 0] md slices_S8x1x12288_S1x1x12288_4_0_0) shapeCasts_S1x1x12288_S1x12288) slices_S1x12288_S1x2048_0_2048))))) (broadcastInDim S4x256x2048 ![0, 1, 2] bcast_S1x1x2048_S4x256x2048_0_1_2 (broadcastInDim S1x1x2048 ![0, 2] bcast_S1x2048_S1x1x2048_0_2 (extractStridedSlice S1x2048 ![0, 0] (shapeCast _ (extractStridedSlice S1x1x12288 ![4, 0, 0] md slices_S8x1x12288_S1x1x12288_4_0_0) shapeCasts_S1x1x12288_S1x12288) slices_S1x12288_S1x2048_0_0)))

theorem acts_apply (x : S4x256x2048.Idx → EReal) (g : S1x2048.Idx → EReal) (md : S8x1x12288.Idx → EReal) (b : Fin 4) (l : Fin 256) (k : Fin 2048) :
    acts x g md (ix3 b l k) = modulated x g md b l k := by
  pointwise [acts, modulated, normed]

theorem main_apply (h : S4x256x2048.Idx → EReal) (w : S2048x16384.Idx → EReal) (r : Fin 1024) (q : Fin 6144) :
    (shapeCast S1024x6144 (Host.dotGeneral (F := Ideal) (φ₁ := .f32) (φ₂ := .f32) dot_S4x256x2048_S2048x6144_S4x256x6144_2_0_01_1_n_n none h (extf (φ := .bf16) .f32 (extractStridedSlice S2048x6144 ![0, 4096] w slices_S2048x16384_S2048x6144_0_4096) bitsLt_bf16_f32)) shapeCasts_S4x256x6144_S1024x6144 : S1024x6144.Idx → EReal) (ix2 r q)
      = ∑ k : Fin 2048, h (ix3 ⟨r.val / 256, by omega⟩ ⟨r.val % 256, by omega⟩ k) * w (ix2 k ⟨4096 + q.val, by omega⟩) := by
  pointwise

theorem side_apply (h : S4x256x2048.Idx → EReal) (w : S2048x128.Idx → EReal) (r : Fin 1024) (q : Fin 128) :
    (shapeCast S1024x128 (Host.dotGeneral (F := Ideal) (φ₁ := .f32) (φ₂ := .f32) dot_S4x256x2048_S2048x128_S4x256x128_2_0_01_1_n_n none h (extf (φ := .bf16) .f32 w bitsLt_bf16_f32)) shapeCasts_S4x256x128_S1024x128 : S1024x128.Idx → EReal) (ix2 r q)
      = ∑ k : Fin 2048, h (ix3 ⟨r.val / 256, by omega⟩ ⟨r.val % 256, by omega⟩ k) * w (ix2 k q) := by
  pointwise

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v33) = projected (m ((c : Thread nD τ).loc main_arg0)) (m ((c : Thread nD τ).loc main_arg1)) (m ((c : Thread nD τ).loc main_arg2)) (columns (m ((c : Thread nD τ).loc main_arg3)))
      ∧ r.2.mem ((c : Thread nD τ).loc main_v36) = projected (m ((c : Thread nD τ).loc main_arg0)) (m ((c : Thread nD τ).loc main_arg1)) (m ((c : Thread nD τ).loc main_arg2)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (funext fun i => by
      obtain ⟨r, q, rfl⟩ : ∃ (r : Fin 1024) (q : Fin 6144), i = ix2 r q := ⟨i 0, i 1, eq_ix2 i⟩
      refine (main_apply (acts _ _ _) _ r q).trans (Eq.trans ?_ (projected_apply _ _ _ _ r q).symm)
      exact Finset.sum_congr rfl fun k _ => congrArg (· * _) (acts_apply _ _ _ _ _ k)),
      (h c).2.1.trans (funext fun i => by
      obtain ⟨r, q, rfl⟩ : ∃ (r : Fin 1024) (q : Fin 128), i = ix2 r q := ⟨i 0, i 1, eq_ix2 i⟩
      refine (side_apply (acts _ _ _) _ r q).trans (Eq.trans ?_ (projected_apply _ _ _ _ r q).symm)
      exact Finset.sum_congr rfl fun k _ => congrArg (· * _) (acts_apply _ _ _ _ _ k)), (h c).2.2⟩)
    (Cert.InProjCtxRefIdeal.Value.run m ρ)

end Cert.InProjCtxRun.Ref

end
-- ==== Proof.Conformer.Trip.lean ====
/- One trip of the conformer's convolution loop: from the padded rows and the taps to one 64 by 256 block of the
   convolution. Written over any interpretation of the floating-point types. -/
module

public import proofs.«01_k».proof.Proof.Gen.ConformerIdeal.Frame
public import proofs.«01_k».proof.Proof.Gen.ConformerIdeal.Skeleton
public import proofs.«01_k».proof.Proof.Gen.ConformerIdeal.Loops
public import Idealize.ShloMosaic.Lib.WritesUnit
public import Idealize.ShloMosaic.Lib.Pipeline.ValueKit
public import Idealize.ShloMosaic.Lib.Pipeline.Value
public import Idealize.ShloMosaic.Lib.Claim
public import Idealize.ShloMosaic.Lib.PointwiseCore

@[expose] public section

set_option maxRecDepth 16384

noncomputable section

namespace Cert.ConformerRun

open Cert.ConformerIdeal Cert.ConformerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The row and column block that trip `k` works on, in its padded rows: 64 rows from row `n + 1`. -/
def rowsAt {α : Type} (P : S4x8x96x256.Idx → α) (k n : ℕ) (l : ℕ) (q : Fin 256) : α :=
  P (ix4 (⟨k / 8 % 4, by show k / 8 % 4 < 4; omega⟩ : Fin 4) (⟨k % 8, by show k % 8 < 8; omega⟩ : Fin 8) (⟨(n + 1 + l) % 96, by show (n + 1 + l) % 96 < 96; omega⟩ : Fin 96) q)

/-- The rows tap `n` multiplies, as read from the shifted copies. -/
def sh (P : Vec F S4x8x96x256 .f32) (k n : ℕ) : Vec F S1x64x256 .f32 := fun j => rowsAt P k n (j 1).val (j 2)

/-- The rows tap `n` multiplies, as read from the padded rows themselves. -/
def al (P : Vec F S4x8x96x256 .f32) (k n : ℕ) : Vec F S1x1x64x256 .f32 := fun j => rowsAt P k n (j 2).val (j 3)

/-- Tap `n` of the columns trip `k` works on. -/
def wt (W : Vec F S8x32x256 .f32) (k n : ℕ) : Vec F S1x1x256 .f32 := fun j =>
  W (ix3 (⟨k % 8, by show k % 8 < 8; omega⟩ : Fin 8) (⟨n % 32, by show n % 32 < 32; omega⟩ : Fin 32) (j 2 : Fin 256))

/-- The 31 taps of trip `k`, summed in the kernel's order. -/
def convBlock (P : Vec F S4x8x96x256 .f32) (W : Vec F S8x32x256 .f32) (k : ℕ) : FVec F S64x256 .f32 :=
  have a1 : FVec F S64x256 .f32 := k0_pay12 (k0_pay10 (sh P k (0 + 0)) (wt W k 0) (sh P k (1 + 0)) (wt W k 1) (sh P k (2 + 0)) (wt W k 2)) (k0_pay11 (sh P k (3 + 0))) (wt W k 3) (sh P k (4 + 0)) (wt W k 4) (sh P k (5 + 0)) (wt W k 5) (sh P k (6 + 0)) (wt W k 6) (al P k 7) (wt W k 7)
  have a2 : FVec F S64x256 .f32 := k0_pay13 a1 (sh P k (0 + 8)) (wt W k 8) (sh P k (1 + 8)) (wt W k 9) (sh P k (2 + 8)) (wt W k 10) (sh P k (3 + 8)) (wt W k 11)
  have a3 : FVec F S64x256 .f32 := k0_pay15 a2 (k0_pay14 (sh P k (4 + 8))) (wt W k 12) (sh P k (5 + 8)) (wt W k 13) (sh P k (6 + 8)) (wt W k 14) (al P k 15) (wt W k 15) (sh P k (0 + 16)) (wt W k 16)
  have a4 : FVec F S64x256 .f32 := k0_pay16 a3 (sh P k (1 + 16)) (wt W k 17) (sh P k (2 + 16)) (wt W k 18) (sh P k (3 + 16)) (wt W k 19) (sh P k (4 + 16)) (wt W k 20)
  have a5 : FVec F S64x256 .f32 := k0_pay19 a4 (k0_pay17 (sh P k (5 + 16))) (k0_pay18 (wt W k 21)) (sh P k (6 + 16)) (wt W k 22) (al P k 23) (wt W k 23) (sh P k (0 + 24)) (wt W k 24) (sh P k (1 + 24)) (wt W k 25)
  k0_pay21 a5 (k0_pay20 (sh P k (2 + 24))) (wt W k 26) (sh P k (3 + 24)) (wt W k 27) (sh P k (4 + 24)) (wt W k 28) (sh P k (5 + 24)) (wt W k 29) (sh P k (6 + 24)) (wt W k 30)

theorem off1 : ∀ t, k0_off1 t = ![t.val / 8 % 4, t.val % 8, 0 + 1, 0] := by decide +kernel
theorem off2 : ∀ t, k0_off2 t = ![t.val / 8 % 4, t.val % 8, 1 + 1, 0] := by decide +kernel
theorem off3 : ∀ t, k0_off3 t = ![t.val / 8 % 4, t.val % 8, 2 + 1, 0] := by decide +kernel
theorem off4 : ∀ t, k0_off4 t = ![t.val / 8 % 4, t.val % 8, 3 + 1, 0] := by decide +kernel
theorem off5 : ∀ t, k0_off5 t = ![t.val / 8 % 4, t.val % 8, 4 + 1, 0] := by decide +kernel
theorem off6 : ∀ t, k0_off6 t = ![t.val / 8 % 4, t.val % 8, 5 + 1, 0] := by decide +kernel
theorem off7 : ∀ t, k0_off7 t = ![t.val / 8 % 4, t.val % 8, 6 + 1, 0] := by decide +kernel
theorem off15 : ∀ t, k0_off15 t = ![t.val / 8 % 4, t.val % 8, 7 + 1, 0] := by decide +kernel
theorem off24 : ∀ t, k0_off24 t = ![t.val / 8 % 4, t.val % 8, 15 + 1, 0] := by decide +kernel
theorem off33 : ∀ t, k0_off33 t = ![t.val / 8 % 4, t.val % 8, 23 + 1, 0] := by decide +kernel
theorem off8 : ∀ t, k0_off8 t = ![t.val % 8, 0, 0] := by decide +kernel
theorem off9 : ∀ t, k0_off9 t = ![t.val % 8, 1, 0] := by decide +kernel
theorem off10 : ∀ t, k0_off10 t = ![t.val % 8, 2, 0] := by decide +kernel
theorem off11 : ∀ t, k0_off11 t = ![t.val % 8, 3, 0] := by decide +kernel
theorem off12 : ∀ t, k0_off12 t = ![t.val % 8, 4, 0] := by decide +kernel
theorem off13 : ∀ t, k0_off13 t = ![t.val % 8, 5, 0] := by decide +kernel
theorem off14 : ∀ t, k0_off14 t = ![t.val % 8, 6, 0] := by decide +kernel
theorem off16 : ∀ t, k0_off16 t = ![t.val % 8, 7, 0] := by decide +kernel
theorem off17 : ∀ t, k0_off17 t = ![t.val % 8, 8, 0] := by decide +kernel
theorem off18 : ∀ t, k0_off18 t = ![t.val % 8, 9, 0] := by decide +kernel
theorem off19 : ∀ t, k0_off19 t = ![t.val % 8, 10, 0] := by decide +kernel
theorem off20 : ∀ t, k0_off20 t = ![t.val % 8, 11, 0] := by decide +kernel
theorem off21 : ∀ t, k0_off21 t = ![t.val % 8, 12, 0] := by decide +kernel
theorem off22 : ∀ t, k0_off22 t = ![t.val % 8, 13, 0] := by decide +kernel
theorem off23 : ∀ t, k0_off23 t = ![t.val % 8, 14, 0] := by decide +kernel
theorem off25 : ∀ t, k0_off25 t = ![t.val % 8, 15, 0] := by decide +kernel
theorem off26 : ∀ t, k0_off26 t = ![t.val % 8, 16, 0] := by decide +kernel
theorem off27 : ∀ t, k0_off27 t = ![t.val % 8, 17, 0] := by decide +kernel
theorem off28 : ∀ t, k0_off28 t = ![t.val % 8, 18, 0] := by decide +kernel
theorem off29 : ∀ t, k0_off29 t = ![t.val % 8, 19, 0] := by decide +kernel
theorem off30 : ∀ t, k0_off30 t = ![t.val % 8, 20, 0] := by decide +kernel
theorem off31 : ∀ t, k0_off31 t = ![t.val % 8, 21, 0] := by decide +kernel
theorem off32 : ∀ t, k0_off32 t = ![t.val % 8, 22, 0] := by decide +kernel
theorem off34 : ∀ t, k0_off34 t = ![t.val % 8, 23, 0] := by decide +kernel
theorem off35 : ∀ t, k0_off35 t = ![t.val % 8, 24, 0] := by decide +kernel
theorem off36 : ∀ t, k0_off36 t = ![t.val % 8, 25, 0] := by decide +kernel
theorem off37 : ∀ t, k0_off37 t = ![t.val % 8, 26, 0] := by decide +kernel
theorem off38 : ∀ t, k0_off38 t = ![t.val % 8, 27, 0] := by decide +kernel
theorem off39 : ∀ t, k0_off39 t = ![t.val % 8, 28, 0] := by decide +kernel
theorem off40 : ∀ t, k0_off40 t = ![t.val % 8, 29, 0] := by decide +kernel
theorem off41 : ∀ t, k0_off41 t = ![t.val % 8, 30, 0] := by decide +kernel
theorem off42 : ∀ t, k0_off42 t = ![t.val % 8, t.val / 8 * 64, 0] := by decide +kernel

theorem load_wt (v : View sig .tc .vmem S8x32x256 .f32) (X : v.ty.Contents (Elt F)) (k n : ℕ) (hn : n < 32) (off : Fin 3 → ℕ) (h : off = ![k % 8, n, 0]) (inb : ∀ a, off a + S1x1x256.size a ≤ S8x32x256.size a) :
    View.readAt (Elt F) v (Rect.unit (s := S8x32x256) off S1x1x256.size inb).toLoadRect X = wt (v.read (Elt F) X) k n := by
  subst h
  funext x
  show v.read (Elt F) X _ = v.read (Elt F) X _
  congr 1
  funext a
  apply Fin.ext
  have h0 : (x 0).val < 1 := (x 0).isLt
  have h1 : (x 1).val < 1 := (x 1).isLt
  fin_cases a
  · show k % 8 + 1 * (x 0).val = k % 8; omega
  · show n + 1 * (x 1).val = n % 32; omega
  · show 0 + 1 * (x 2).val = (x 2).val; omega

theorem load_al (v : View sig .tc .vmem S4x8x96x256 .f32) (X : v.ty.Contents (Elt F)) (k n : ℕ) (hn : n < 31) (off : Fin 4 → ℕ) (h : off = ![k / 8 % 4, k % 8, n + 1, 0]) (inb : ∀ a, off a + S1x1x64x256.size a ≤ S4x8x96x256.size a) :
    View.readAt (Elt F) v (Rect.unit (s := S4x8x96x256) off S1x1x64x256.size inb).toLoadRect X = al (v.read (Elt F) X) k n := by
  subst h
  funext x
  show v.read (Elt F) X _ = v.read (Elt F) X _
  congr 1
  funext a
  apply Fin.ext
  have h0 : (x 0).val < 1 := (x 0).isLt
  have h1 : (x 1).val < 1 := (x 1).isLt
  have h2 : (x 2).val < 64 := (x 2).isLt
  fin_cases a
  · show k / 8 % 4 + 1 * (x 0).val = k / 8 % 4; omega
  · show k % 8 + 1 * (x 1).val = k % 8; omega
  · show n + 1 + 1 * (x 2).val = (n + 1 + (x 2).val) % 96; omega
  · show 0 + 1 * (x 3).val = (x 3).val; omega

/-- One shifted copy, as it is stored. -/
theorem shifted (v : View sig .tc .vmem S4x8x96x256 .f32) (X : v.ty.Contents (Elt F)) (k n : ℕ) (hn : n < 7) (off : Fin 4 → ℕ) (h : off = ![k / 8 % 4, k % 8, n + 1, 0]) (inb : ∀ a, off a + S1x1x88x256.size a ≤ S4x8x96x256.size a) (x : S1x88x256.Idx) :
    k0_pay2 (View.readAt (Elt F) v (Rect.unit (s := S4x8x96x256) off S1x1x88x256.size inb).toLoadRect X) x = rowsAt (v.read (Elt F) X) k n (x 1).val (x 2) := by
  subst h
  rw [← ix3_eta x]
  generalize (x 0) = x0
  generalize (x 1) = x1
  generalize (x 2) = x2
  have h0 : x0.val < 1 := x0.isLt
  have h1 : x1.val < 88 := x1.isLt
  refine Eq.trans (b := View.readAt (Elt F) v (Rect.unit (s := S4x8x96x256) ![k / 8 % 4, k % 8, n + 1, 0] S1x1x88x256.size inb).toLoadRect X (ix4 (0 : Fin 1) (0 : Fin 1) x1 x2)) ?_ ?_
  · generalize View.readAt (Elt F) v (Rect.unit (s := S4x8x96x256) ![k / 8 % 4, k % 8, n + 1, 0] S1x1x88x256.size inb).toLoadRect X = g
    pointwise [k0_pay2]
  show v.read (Elt F) X _ = v.read (Elt F) X _
  congr 1
  funext a
  apply Fin.ext
  fin_cases a
  · show k / 8 % 4 + 1 * 0 = k / 8 % 4; omega
  · show k % 8 + 1 * 0 = k % 8; omega
  · show n + 1 + 1 * x1.val = (n + 1 + x1.val) % 96; omega
  · show 0 + 1 * x2.val = x2.val; omega

/-- A read of the seven shifted copies. -/
theorem load_sh (v : View sig .tc .vmem S7x88x256 .f32) (P : Vec F S4x8x96x256 .f32) (k : ℕ) (L) (hL : ∀ y, v.read (Elt F) (v.writes (Elt F) v.junk L) y = rowsAt P k (y 0).val (y 1).val (y 2))
    (s b : ℕ) (inb : ∀ a, (![s, b, 0] : Fin 3 → ℕ) a + S1x64x256.size a ≤ S7x88x256.size a) :
    v.readCov L (Rect.unit (s := S7x88x256) ![s, b, 0] S1x64x256.size inb).toLoadRect = sh P k (s + b) := by
  funext x
  refine (hL _).trans ?_
  have h0 : (x 0).val < 1 := (x 0).isLt
  show rowsAt P k (s + 1 * (x 0).val) (b + 1 * (x 1).val) ⟨0 + 1 * (x 2).val, _⟩ = rowsAt P k (s + b) (x 1).val (x 2)
  unfold rowsAt
  congr 1
  funext a
  apply Fin.ext
  fin_cases a
  · rfl
  · rfl
  · show (s + 1 * (x 0).val + 1 + (b + 1 * (x 1).val)) % 96 = (s + b + 1 + (x 1).val) % 96
    congr 1; omega
  · show 0 + 1 * (x 2).val = (x 2).val; omega

theorem copy_at (P : Vec F S4x8x96x256 .f32) (k s : ℕ) (inb : ∀ a, (![s, 0, 0] : Fin 3 → ℕ) a + S1x88x256.size a ≤ S7x88x256.size a) (x : S1x88x256.Idx) :
    rowsAt P k s (x 1).val (x 2) = rowsAt P k ((Rect.unit (s := S7x88x256) ![s, 0, 0] S1x88x256.size inb).emb x 0).val ((Rect.unit (s := S7x88x256) ![s, 0, 0] S1x88x256.size inb).emb x 1).val ((Rect.unit (s := S7x88x256) ![s, 0, 0] S1x88x256.size inb).emb x 2) := by
  have h0 : (x 0).val < 1 := (x 0).isLt
  show rowsAt P k s (x 1).val (x 2) = rowsAt P k (s + 1 * (x 0).val) (0 + 1 * (x 1).val) ⟨0 + 1 * (x 2).val, _⟩
  have e0 : s + 1 * (x 0).val = s := by omega
  have e1 : 0 + 1 * (x 1).val = (x 1).val := by omega
  have e2 : (x 2 : Fin 256) = ⟨0 + 1 * (x 2).val, by have := (x 2).isLt; omega⟩ := Fin.ext (by show (x 2).val = 0 + 1 * (x 2).val; omega)
  rw [e0, e1]
  exact congrArg (rowsAt P k s (x 1).val) e2

/-- The seven shifted copies together. -/
theorem copies (v9 : View sig .tc .vmem S4x8x96x256 .f32) (X9 : v9.ty.Contents (Elt F)) (v11 : View sig .tc .vmem S7x88x256 .f32) (f : v11.ty.Contents (Elt F)) (k : Fin k0_t1_loop.trips) (y : S7x88x256.Idx) :
    v11.read (Elt F) (v11.writes (Elt F) f [
        ⟨Rect.unit (s := S7x88x256) ![6, 0, 0] S1x88x256.size inb_S7x88x256_S1x88x256_6_0_0, k0_pay9 (View.readAt (Elt F) v9 (Rect.unit (s := S4x8x96x256) (k0_off7 k) S1x1x88x256.size (k0_off7_inb k)).toLoadRect X9)⟩,
        ⟨Rect.unit (s := S7x88x256) ![5, 0, 0] S1x88x256.size inb_S7x88x256_S1x88x256_5_0_0, k0_pay8 (View.readAt (Elt F) v9 (Rect.unit (s := S4x8x96x256) (k0_off6 k) S1x1x88x256.size (k0_off6_inb k)).toLoadRect X9)⟩,
        ⟨Rect.unit (s := S7x88x256) ![4, 0, 0] S1x88x256.size inb_S7x88x256_S1x88x256_4_0_0, k0_pay7 (View.readAt (Elt F) v9 (Rect.unit (s := S4x8x96x256) (k0_off5 k) S1x1x88x256.size (k0_off5_inb k)).toLoadRect X9)⟩,
        ⟨Rect.unit (s := S7x88x256) ![3, 0, 0] S1x88x256.size inb_S7x88x256_S1x88x256_3_0_0, k0_pay6 (View.readAt (Elt F) v9 (Rect.unit (s := S4x8x96x256) (k0_off4 k) S1x1x88x256.size (k0_off4_inb k)).toLoadRect X9)⟩,
        ⟨Rect.unit (s := S7x88x256) ![2, 0, 0] S1x88x256.size inb_S7x88x256_S1x88x256_2_0_0, k0_pay5 (View.readAt (Elt F) v9 (Rect.unit (s := S4x8x96x256) (k0_off3 k) S1x1x88x256.size (k0_off3_inb k)).toLoadRect X9)⟩,
        ⟨Rect.unit (s := S7x88x256) ![1, 0, 0] S1x88x256.size inb_S7x88x256_S1x88x256_1_0_0, k0_pay4 (k0_pay3 (View.readAt (Elt F) v9 (Rect.unit (s := S4x8x96x256) (k0_off2 k) S1x1x88x256.size (k0_off2_inb k)).toLoadRect X9))⟩,
        ⟨Rect.unit (s := S7x88x256) ![0, 0, 0] S1x88x256.size inb_S7x88x256_S1x88x256_0_0_0, k0_pay2 (View.readAt (Elt F) v9 (Rect.unit (s := S4x8x96x256) (k0_off1 k) S1x1x88x256.size (k0_off1_inb k)).toLoadRect X9)⟩]) y = rowsAt (v9.read (Elt F) X9) k.val (y 0).val (y 1).val (y 2) := by
  refine View.read_writes_apply_of_pieces v11 f (fun y => rowsAt (v9.read (Elt F) X9) k.val (y 0).val (y 1).val (y 2)) _ ?_ y ?_
  · intro p hp
    simp only [List.mem_cons, List.not_mem_nil, _root_.or_false] at hp
    rcases hp with rfl | rfl | rfl | rfl | rfl | rfl | rfl <;> intro x

    · exact (shifted v9 X9 k.val 6 (by omega) _ (off7 k) _ x).trans (copy_at _ _ 6 inb_S7x88x256_S1x88x256_6_0_0 x)
    · exact (shifted v9 X9 k.val 5 (by omega) _ (off6 k) _ x).trans (copy_at _ _ 5 inb_S7x88x256_S1x88x256_5_0_0 x)
    · exact (shifted v9 X9 k.val 4 (by omega) _ (off5 k) _ x).trans (copy_at _ _ 4 inb_S7x88x256_S1x88x256_4_0_0 x)
    · exact (shifted v9 X9 k.val 3 (by omega) _ (off4 k) _ x).trans (copy_at _ _ 3 inb_S7x88x256_S1x88x256_3_0_0 x)
    · exact (shifted v9 X9 k.val 2 (by omega) _ (off3 k) _ x).trans (copy_at _ _ 2 inb_S7x88x256_S1x88x256_2_0_0 x)
    · exact (shifted v9 X9 k.val 1 (by omega) _ (off2 k) _ x).trans (copy_at _ _ 1 inb_S7x88x256_S1x88x256_1_0_0 x)
    · exact (shifted v9 X9 k.val 0 (by omega) _ (off1 k) _ x).trans (copy_at _ _ 0 inb_S7x88x256_S1x88x256_0_0_0 x)
  · have h0 : (y 0).val < 7 := (y 0).isLt
    have h1 : (y 1).val < 88 := (y 1).isLt
    have h2 : (y 2).val < 256 := (y 2).isLt
    simp only [List.exists_mem_cons_iff, List.not_mem_nil, _root_.false_and, exists_false, _root_.or_false, Rect.mem_set_unit]

    have key : ∀ s : ℕ, (y 0).val = s → ∀ a : Fin 3, (![s, 0, 0] : Fin 3 → ℕ) a ≤ (y a).val ∧ (y a).val < (![s, 0, 0] : Fin 3 → ℕ) a + S1x88x256.size a := by
      intro s hs a
      fin_cases a
      · show s ≤ (y 0).val ∧ (y 0).val < s + 1; omega
      · show 0 ≤ (y 1).val ∧ (y 1).val < 0 + 88; omega
      · show 0 ≤ (y 2).val ∧ (y 2).val < 0 + 256; omega
    rcases (show (y 0).val = 6 ∨ (y 0).val = 5 ∨ (y 0).val = 4 ∨ (y 0).val = 3 ∨ (y 0).val = 2 ∨ (y 0).val = 1 ∨ (y 0).val = 0 by omega) with h | h | h | h | h | h | h
    · exact .inl (key _ h)
    · exact .inr (.inl (key _ h))
    · exact .inr (.inr (.inl (key _ h)))
    · exact .inr (.inr (.inr (.inl (key _ h))))
    · exact .inr (.inr (.inr (.inr (.inl (key _ h)))))
    · exact .inr (.inr (.inr (.inr (.inr (.inl (key _ h))))))
    · exact .inr (.inr (.inr (.inr (.inr (.inr (key _ h))))))

/-- What one trip touches. -/
abbrev Held (c : Dev nD) (arg3 : Memref sig .tc .vmem S8x32x256 .f32) (arg9 : Memref sig .tc .vmem S4x8x96x256 .f32) (arg10 : Memref sig .tc .vmem S8x256x256 .f32) (arg11 : Memref sig .tc .vmem S7x88x256 .f32)
    (X3 : BufTy.Contents (Elt F) arg3.view.ty) (X9 : BufTy.Contents (Elt F) arg9.view.ty) (f10 : BufTy.Contents (Elt F) arg10.view.ty) (f11 : BufTy.Contents (Elt F) arg11.view.ty) : sProp 𝕄 :=
  iprop((arg3.view.loc (c : Thread nD τ) ↦[arg3.view.set]{fullShare} X3) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11))

theorem trip (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S8x32x256 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x2048 .bf16) (harg7 : arg7.IsWhole) (arg8 : Memref sig .tc .vmem S256x2048 .f32) (harg8 : arg8.IsWhole) (arg9 : Memref sig .tc .vmem S4x8x96x256 .f32) (harg9 : arg9.IsWhole) (arg10 : Memref sig .tc .vmem S8x256x256 .f32) (harg10 : arg10.IsWhole) (arg11 : Memref sig .tc .vmem S7x88x256 .f32) (harg11 : arg11.IsWhole) (v9 : FVec F S256x2048 .f32) (v10 : FVec F S16x256 .f32) (v314 : FVec F S64x256 .f32) (X3 : BufTy.Contents (Elt F) arg3.view.ty) (X9 : BufTy.Contents (Elt F) arg9.view.ty) (f10 : BufTy.Contents (Elt F) arg10.view.ty) (f11 : BufTy.Contents (Elt F) arg11.view.ty) (k : Fin k0_t1_loop.trips) (E : Set ℕ) :
    Held (F := F) c arg3 arg9 arg10 arg11 X3 X9 f10 f11
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 v9 v10 v314 k PUnit.unit)
          (fun _ => iprop(∃ g11, Held (F := F) c arg3 arg9 arg10 arg11 X3 X9 (arg10.view.writes (Elt F) f10 [⟨Rect.unit (s := S8x256x256) (k0_off42 k) S1x64x256.size (k0_off42_inb k), k0_pay126 (convBlock (arg9.view.read (Elt F) X9) (arg3.view.read (Elt F) X3) k.val)⟩]) g11)) := by
  have hk : k.val < 32 := Nat.lt_of_lt_of_le k.isLt k0_t1_abs.2.1
  unfold k0_t1_body
  iintro ⟨H3, H9, H10, H11⟩
  sl_exec
  sl_step
  have e : trip.sl.r_12 arg3 arg9 arg11 X3 X9 k = convBlock (arg9.view.read (Elt F) X9) (arg3.view.read (Elt F) X3) k.val := by
    have hL := copies arg9.view X9 arg11.view arg11.view.junk k
    have hs : ∀ (s b : ℕ) (inb : ∀ a, (![s, b, 0] : Fin 3 → ℕ) a + S1x64x256.size a ≤ S7x88x256.size a), arg11.view.readCov (trip.sl.H11_7 arg9 X9 k) (Rect.unit (s := S7x88x256) ![s, b, 0] S1x64x256.size inb).toLoadRect = sh (arg9.view.read (Elt F) X9) k.val (s + b) :=
      fun s b inb => load_sh arg11.view _ k.val (trip.sl.H11_7 arg9 X9 k) hL s b inb
    repeat delta trip.sl.r_12 trip.sl.r_11 trip.sl.r_10 trip.sl.r_9 trip.sl.r_8 trip.sl.r_7 trip.sl.r_6 trip.sl.r_5 trip.sl.r_4 trip.sl.r_3 trip.sl.r_2 trip.sl.r_1 trip.sl.r
    delta trip.sl.v467 trip.sl.v475 trip.sl.v483 trip.sl.v491 trip.sl.v499 trip.sl.v507 trip.sl.v515 trip.sl.v533 trip.sl.v541 trip.sl.v549 trip.sl.v557 trip.sl.v565 trip.sl.v573 trip.sl.v581 trip.sl.v599 trip.sl.v607 trip.sl.v615 trip.sl.v623 trip.sl.v631 trip.sl.v639 trip.sl.v647 trip.sl.v665 trip.sl.v673 trip.sl.v681 trip.sl.v689 trip.sl.v697 trip.sl.v705 trip.sl.v713
    simp only [hs,
      load_wt arg3.view X3 k.val 0 (by omega) _ (off8 k) (k0_off8_inb k),
      load_wt arg3.view X3 k.val 1 (by omega) _ (off9 k) (k0_off9_inb k),
      load_wt arg3.view X3 k.val 2 (by omega) _ (off10 k) (k0_off10_inb k),
      load_wt arg3.view X3 k.val 3 (by omega) _ (off11 k) (k0_off11_inb k),
      load_wt arg3.view X3 k.val 4 (by omega) _ (off12 k) (k0_off12_inb k),
      load_wt arg3.view X3 k.val 5 (by omega) _ (off13 k) (k0_off13_inb k),
      load_wt arg3.view X3 k.val 6 (by omega) _ (off14 k) (k0_off14_inb k),
      load_wt arg3.view X3 k.val 7 (by omega) _ (off16 k) (k0_off16_inb k),
      load_wt arg3.view X3 k.val 8 (by omega) _ (off17 k) (k0_off17_inb k),
      load_wt arg3.view X3 k.val 9 (by omega) _ (off18 k) (k0_off18_inb k),
      load_wt arg3.view X3 k.val 10 (by omega) _ (off19 k) (k0_off19_inb k),
      load_wt arg3.view X3 k.val 11 (by omega) _ (off20 k) (k0_off20_inb k),
      load_wt arg3.view X3 k.val 12 (by omega) _ (off21 k) (k0_off21_inb k),
      load_wt arg3.view X3 k.val 13 (by omega) _ (off22 k) (k0_off22_inb k),
      load_wt arg3.view X3 k.val 14 (by omega) _ (off23 k) (k0_off23_inb k),
      load_wt arg3.view X3 k.val 15 (by omega) _ (off25 k) (k0_off25_inb k),
      load_wt arg3.view X3 k.val 16 (by omega) _ (off26 k) (k0_off26_inb k),
      load_wt arg3.view X3 k.val 17 (by omega) _ (off27 k) (k0_off27_inb k),
      load_wt arg3.view X3 k.val 18 (by omega) _ (off28 k) (k0_off28_inb k),
      load_wt arg3.view X3 k.val 19 (by omega) _ (off29 k) (k0_off29_inb k),
      load_wt arg3.view X3 k.val 20 (by omega) _ (off30 k) (k0_off30_inb k),
      load_wt arg3.view X3 k.val 21 (by omega) _ (off31 k) (k0_off31_inb k),
      load_wt arg3.view X3 k.val 22 (by omega) _ (off32 k) (k0_off32_inb k),
      load_wt arg3.view X3 k.val 23 (by omega) _ (off34 k) (k0_off34_inb k),
      load_wt arg3.view X3 k.val 24 (by omega) _ (off35 k) (k0_off35_inb k),
      load_wt arg3.view X3 k.val 25 (by omega) _ (off36 k) (k0_off36_inb k),
      load_wt arg3.view X3 k.val 26 (by omega) _ (off37 k) (k0_off37_inb k),
      load_wt arg3.view X3 k.val 27 (by omega) _ (off38 k) (k0_off38_inb k),
      load_wt arg3.view X3 k.val 28 (by omega) _ (off39 k) (k0_off39_inb k),
      load_wt arg3.view X3 k.val 29 (by omega) _ (off40 k) (k0_off40_inb k),
      load_wt arg3.view X3 k.val 30 (by omega) _ (off41 k) (k0_off41_inb k),
      load_al arg9.view X9 k.val 7 (by omega) _ (off15 k) (k0_off15_inb k),
      load_al arg9.view X9 k.val 15 (by omega) _ (off24 k) (k0_off24_inb k),
      load_al arg9.view X9 k.val 23 (by omega) _ (off33 k) (k0_off33_inb k)]
    rfl
  rw [← e]
  iexists _
  isplitl [H3]; · iexact H3
  isplitl [H9]; · iexact H9
  isplitl [H10]; · iexact H10
  iexact H11

end Cert.ConformerRun
-- ==== Proof.Conformer.Run.lean ====
/- The launch of the conformer call: the convolution loop, what the body leaves at each grid point, and the run of the
   whole program with the array it ends with named. Written over any interpretation of the floating-point types. -/
module

public import proofs.«01_k».proof.Proof.Conformer.Trip

@[expose] public section

set_option maxRecDepth 16384

noncomputable section

namespace Cert.ConformerRun

open Cert.ConformerIdeal Cert.ConformerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of the convolution that one trip stores. -/
def blockOf (P : Vec F S4x8x96x256 .f32) (W : Vec F S8x32x256 .f32) (k : Fin k0_t1_loop.trips) : View.Piece (Elt F) S8x256x256 .f32 :=
  ⟨Rect.unit (s := S8x256x256) (k0_off42 k) S1x64x256.size (k0_off42_inb k), k0_pay126 (convBlock P W k.val)⟩

/-- The blocks of the first `n` trips, the last one first. -/
def blocks (P : Vec F S4x8x96x256 .f32) (W : Vec F S8x32x256 .f32) : ℕ → List (View.Piece (Elt F) S8x256x256 .f32)
  | 0 => []
  | n + 1 => if h : n < k0_t1_loop.trips then blockOf P W ⟨n, h⟩ :: blocks P W n else blocks P W n

theorem blocks_succ (P : Vec F S4x8x96x256 .f32) (W : Vec F S8x32x256 .f32) (k : Fin k0_t1_loop.trips) :
    blocks P W (k.val + 1) = [blockOf P W k] ++ blocks P W k.val := by
  rw [blocks, dif_pos k.isLt]; rfl

/-- The convolution loop: the padded rows and the taps stay, the blocks of the trips so far are stored. -/
@[sl_loop] def convLoop (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S8x32x256 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x2048 .bf16) (harg7 : arg7.IsWhole) (arg8 : Memref sig .tc .vmem S256x2048 .f32) (harg8 : arg8.IsWhole) (arg9 : Memref sig .tc .vmem S4x8x96x256 .f32) (harg9 : arg9.IsWhole) (arg10 : Memref sig .tc .vmem S8x256x256 .f32) (harg10 : arg10.IsWhole) (arg11 : Memref sig .tc .vmem S7x88x256 .f32) (harg11 : arg11.IsWhole) (v9 : FVec F S256x2048 .f32) (v10 : FVec F S16x256 .f32) (v314 : FVec F S64x256 .f32)
    (X3 : BufTy.Contents (Elt F) arg3.view.ty) (X9 : BufTy.Contents (Elt F) arg9.view.ty) (G10 : BufTy.Contents (Elt F) arg10.view.ty) (E : Set ℕ) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 v9 v10 v314 where
  inv k _ := iprop((arg3.view.loc (c : Thread nD τ) ↦[arg3.view.set]{fullShare} X3) ∗ (arg9.view.loc (c : Thread nD τ) ↦[arg9.view.set]{fullShare} X9)
    ∗ (∃ f, (arg10.view.loc (c : Thread nD τ) ↦[arg10.view.set]{fullShare} f) ∗ ⌜f = arg10.view.writes (Elt F) G10 (blocks (arg9.view.read (Elt F) X9) (arg3.view.read (Elt F) X3) k)⌝)
    ∗ (∃ f, arg11.view.loc (c : Thread nD τ) ↦[arg11.view.set]{fullShare} f))
  step k acc := by
    iintro ⟨H3, H9, ⟨%f10, H10, %h10⟩, ⟨%f11, H11⟩⟩
    subst h10
    iapply (wp_wand_r Idealize.ShloMosaic.frame (wpE (defs₀ (F := F)) Variants.none (c : Thread nD τ) none) E)
    isplitl [H3 H9 H10 H11]
    · iapply (trip (F := F) c i arg1 harg1 arg2 harg2 arg3 harg3 arg4 harg4 arg5 harg5 arg6 harg6 arg7 harg7 arg8 harg8 arg9 harg9 arg10 harg10 arg11 harg11 v9 v10 v314 X3 X9 _ f11 k E)
      isplitl [H3]; · iexact H3
      isplitl [H9]; · iexact H9
      isplitl [H10]; · iexact H10
      iexact H11
    · iintro %_ ⟨%g11, H3, H9, H10, H11⟩
      isplitl [H3]; · iexact H3
      isplitl [H9]; · iexact H9
      isplitl [H10]
      · iexists _
        isplitl [H10]; · iexact H10
        ipureintro
        rw [blocks_succ, View.writes_append]
        rfl
      iexists g11
      iexact H11

/-- The gated rows as they lie in the scratch: per image row and column block 64 rows, with 16 zero rows before and after. -/
def padded (u : FVec F S256x2048 .f32) : Vec F S4x8x96x256 .f32 := fun y =>
  if h : 16 ≤ (y 2).val ∧ (y 2).val < 80 then
    u (ix2 (⟨(y 0).val * 64 + ((y 2).val - 16), by have h0 : (y 0).val < 4 := (y 0).isLt; show _ < 256; omega⟩ : Fin 256)
      (⟨(y 1).val * 256 + (y 3).val, by have h1 : (y 1).val < 8 := (y 1).isLt; have h3 : (y 3).val < 256 := (y 3).isLt; show _ < 2048; omega⟩ : Fin 2048))
  else Scalar.ofBits .f32 0x00000000#32

/-- A block of zero rows, as it is stored. -/
theorem zero_piece (u : FVec F S256x2048 .f32) (r c b : ℕ) (hb : b = 0 ∨ b = 80) (inb : ∀ a, (![r, c, b, 0] : Fin 4 → ℕ) a + S1x1x16x256.size a ≤ S4x8x96x256.size a) (x : S1x1x16x256.Idx) :
    shapeCast S1x1x16x256 (k0_pay23 (F := F)) shapeCasts_S16x256_S1x1x16x256 x = padded u ((Rect.unit (s := S4x8x96x256) ![r, c, b, 0] S1x1x16x256.size inb).emb x) := by
  have h2 : (x 2).val < 16 := (x 2).isLt
  unfold padded
  rw [dif_neg (by
    show ¬ (16 ≤ b + 1 * (x 2).val ∧ b + 1 * (x 2).val < 80)
    omega)]
  rfl

/-- A block of gated rows, as it is stored. -/
theorem row_piece (u : FVec F S256x2048 .f32) (r c o0 o1 : ℕ) (h0 : o0 = r * 64) (h1 : o1 = c * 256) (sl : S256x2048.Slices ![o0, o1] S64x256) (inb : ∀ a, (![r, c, 16, 0] : Fin 4 → ℕ) a + S1x1x64x256.size a ≤ S4x8x96x256.size a) (x : S1x1x64x256.Idx) :
    shapeCast S1x1x64x256 (extractStridedSlice S64x256 ![o0, o1] u sl) shapeCasts_S64x256_S1x1x64x256 x = padded u ((Rect.unit (s := S4x8x96x256) ![r, c, 16, 0] S1x1x64x256.size inb).emb x) := by
  have hx0 : (x 0).val < 1 := (x 0).isLt
  have hx1 : (x 1).val < 1 := (x 1).isLt
  have hx2 : (x 2).val < 64 := (x 2).isLt
  have hx3 : (x 3).val < 256 := (x 3).isLt
  have e : shapeCast S1x1x64x256 (extractStridedSlice S64x256 ![o0, o1] u sl) shapeCasts_S64x256_S1x1x64x256 x
      = extractStridedSlice S64x256 ![o0, o1] u sl (ix2 (x 2 : Fin 64) (x 3 : Fin 256)) := by
    generalize extractStridedSlice S64x256 ![o0, o1] u sl = g
    rw [← ix4_eta x]
    generalize (x 0) = a; generalize (x 1) = b; generalize (x 2) = c'; generalize (x 3) = d
    pointwise
  rw [e]
  unfold padded
  rw [dif_pos (by
    show 16 ≤ 16 + 1 * (x 2).val ∧ 16 + 1 * (x 2).val < 80
    omega)]
  show u _ = u _
  congr 1
  funext a
  apply Fin.ext
  fin_cases a
  · show o0 + (x 2).val = (r + 1 * (x 0).val) * 64 + (16 + 1 * (x 2).val - 16); omega
  · show o1 + (x 3).val = (c + 1 * (x 1).val) * 256 + (0 + 1 * (x 3).val); omega

/-- The whole convolution as it lies in the scratch: per column block the 256 rows of the grid point. -/
def convAll (P : Vec F S4x8x96x256 .f32) (W : Vec F S8x32x256 .f32) : Vec F S8x256x256 .f32 := fun y =>
  k0_pay126 (convBlock P W ((y 1).val / 64 * 8 + (y 0).val)) (ix3 (0 : Fin 1) (⟨(y 1).val % 64, by show _ % 64 < 64; omega⟩ : Fin 64) (y 2 : Fin 256))

theorem mem_blocks (P : Vec F S4x8x96x256 .f32) (W : Vec F S8x32x256 .f32) (n : ℕ) (p : View.Piece (Elt F) S8x256x256 .f32) :
    p ∈ blocks P W n → ∃ k, p = blockOf P W k := by
  induction n with
  | zero => intro h; exact absurd h List.not_mem_nil
  | succ n ih =>
    intro h
    rw [blocks] at h
    split at h
    · rcases List.mem_cons.mp h with h | h
      · exact ⟨_, h⟩
      · exact ih h
    · exact ih h

theorem block_mem (P : Vec F S4x8x96x256 .f32) (W : Vec F S8x32x256 .f32) (k : Fin k0_t1_loop.trips) (n : ℕ) (h : k.val < n) : blockOf P W k ∈ blocks P W n := by
  induction n with
  | zero => omega
  | succ n ih =>
    rw [blocks]
    split
    · by_cases e : k.val = n
      · subst e; exact List.mem_cons_self
      · exact List.mem_cons_of_mem _ (ih (by omega))
    · have := k.isLt
      exact ih (by omega)

theorem trips_eq : k0_t1_loop.trips = 32 := by decide +kernel

theorem blocks_read (v : View sig .tc .vmem S8x256x256 .f32) (f : v.ty.Contents (Elt F)) (P : Vec F S4x8x96x256 .f32) (W : Vec F S8x32x256 .f32) (n : ℕ) (hn : n = 32) (y : S8x256x256.Idx) :
    v.read (Elt F) (v.writes (Elt F) f (blocks P W n)) y = convAll P W y := by
  refine View.read_writes_apply_of_pieces v f (convAll P W) _ ?_ y ?_
  · intro p hp
    obtain ⟨k, rfl⟩ := mem_blocks P W n p hp
    intro x
    have hk : k.val < 32 := Nat.lt_of_lt_of_eq k.isLt trips_eq
    have o0 : k0_off42 k 0 = k.val % 8 := congrFun (off42 k) 0
    have o1 : k0_off42 k 1 = k.val / 8 * 64 := congrFun (off42 k) 1
    have o2 : k0_off42 k 2 = 0 := congrFun (off42 k) 2
    have h0 : (x 0).val < 1 := (x 0).isLt
    have h1 : (x 1).val < 64 := (x 1).isLt
    have h2 : (x 2).val < 256 := (x 2).isLt
    unfold convAll
    show k0_pay126 (convBlock P W k.val) x = k0_pay126 (convBlock P W ((k0_off42 k 1 + 1 * (x 1).val) / 64 * 8 + (k0_off42 k 0 + 1 * (x 0).val))) (ix3 (0 : Fin 1) (⟨(k0_off42 k 1 + 1 * (x 1).val) % 64, _⟩ : Fin 64) (⟨k0_off42 k 2 + 1 * (x 2).val, _⟩ : Fin 256))
    have e : (k0_off42 k 1 + 1 * (x 1).val) / 64 * 8 + (k0_off42 k 0 + 1 * (x 0).val) = k.val := by omega
    rw [e]
    congr 1
    funext a
    apply Fin.ext
    fin_cases a
    · show (x 0).val = 0; omega
    · show (x 1).val = (k0_off42 k 1 + 1 * (x 1).val) % 64; omega
    · show (x 2).val = k0_off42 k 2 + 1 * (x 2).val; omega
  · have h0 : (y 0).val < 8 := (y 0).isLt
    have h1 : (y 1).val < 256 := (y 1).isLt
    have h2 : (y 2).val < 256 := (y 2).isLt
    have hk : (y 1).val / 64 * 8 + (y 0).val < k0_t1_loop.trips := by rw [trips_eq]; omega
    refine ⟨blockOf P W ⟨_, hk⟩, block_mem P W ⟨_, hk⟩ n (by show (y 1).val / 64 * 8 + (y 0).val < n; omega), ?_⟩
    have o := off42 ⟨_, hk⟩
    unfold blockOf
    rw [Rect.mem_set_unit]
    intro a
    rw [o]
    fin_cases a
    · show ((y 1).val / 64 * 8 + (y 0).val) % 8 ≤ (y 0).val ∧ (y 0).val < ((y 1).val / 64 * 8 + (y 0).val) % 8 + 1; omega
    · show ((y 1).val / 64 * 8 + (y 0).val) / 8 * 64 ≤ (y 1).val ∧ (y 1).val < ((y 1).val / 64 * 8 + (y 0).val) / 8 * 64 + 64; omega
    · show 0 ≤ (y 2).val ∧ (y 2).val < 0 + 256; omega

/-- One column block of the convolution. -/
def slab (Y : Vec F S8x256x256 .f32) (s : ℕ) : Vec F S1x256x256 .f32 := fun j =>
  Y (ix3 (⟨s % 8, by show s % 8 < 8; omega⟩ : Fin 8) (j 1 : Fin 256) (j 2 : Fin 256))

theorem load_slab (v : View sig .tc .vmem S8x256x256 .f32) (P : Vec F S4x8x96x256 .f32) (W : Vec F S8x32x256 .f32) (n : ℕ) (hn : n = 32) (s : ℕ) (hs : s < 8)
    (inb : ∀ a, (![s, 0, 0] : Fin 3 → ℕ) a + S1x256x256.size a ≤ S8x256x256.size a) :
    v.readCov (blocks P W n) (Rect.unit (s := S8x256x256) ![s, 0, 0] S1x256x256.size inb).toLoadRect = slab (convAll P W) s := by
  funext x
  refine (blocks_read v v.junk P W n hn _).trans ?_
  have h0 : (x 0).val < 1 := (x 0).isLt
  unfold slab
  congr 1
  funext a
  apply Fin.ext
  fin_cases a
  · show s + 1 * (x 0).val = s % 8; omega
  · show 0 + 1 * (x 1).val = (x 1).val; omega
  · show 0 + 1 * (x 2).val = (x 2).val; omega

/-- What the body stores into its output block. -/
def outOf (x0 x1 : Vec F S256x2048 .f32) (x2 : Vec F S8x32x256 .f32) (x3 x4 x5 : Vec F S1x2048 .f32) (x6 : Vec F S2048x2048 .bf16) : FVec F S256x2048 .f32 :=
  have Y : Vec F S8x256x256 .f32 := convAll (padded (k0_pay22 x0 x1)) x2
  k0_pay1 (k0_pay129 (k0_pay127 (slab Y 0)) (k0_pay128 (slab Y 1)) (slab Y 2) (slab Y 3) (slab Y 4) (slab Y 5) (slab Y 6) (slab Y 7) x3 x4) x5 x6

set_option maxHeartbeats 4000000 in
theorem body (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S8x32x256 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x2048 .bf16) (harg7 : arg7.IsWhole) (arg8 : Memref sig .tc .vmem S256x2048 .f32) (harg8 : arg8.IsWhole) (arg9 : Memref sig .tc .vmem S4x8x96x256 .f32) (harg9 : arg9.IsWhole) (arg10 : Memref sig .tc .vmem S8x256x256 .f32) (harg10 : arg10.IsWhole) (arg11 : Memref sig .tc .vmem S7x88x256 .f32) (harg11 : arg11.IsWhole)
    (x0 x1 : Vec F S256x2048 .f32) (x2 : Vec F S8x32x256 .f32) (x3 x4 x5 : Vec F S1x2048 .f32) (x6 : Vec F S2048x2048 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (outOf x0 x1 x2 x3 x4 x5 x6) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_conformer (F := F) i arg1 harg1 arg2 harg2 arg3 harg3 arg4 harg4 arg5 harg5 arg6 harg6 arg7 harg7 arg8 harg8 arg9 harg9 arg10 harg10 arg11 harg11) K := by
  simp only [cc0_conformer_eq_skeleton]; unfold cc0_conformer_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf1 hf2 hf3 hf4 hf5 hf6 hf7
  sl_exec
  sl_step
  have e1 : View.readAt (Elt F) arg1.view (Rect.unit (s := S256x2048) ![0, 0] S256x2048.size inb_S256x2048_S256x2048_0_0).toLoadRect f1 = View.read (Elt F) arg1.view f1 := View.ld_unit_lit _ _ (by decide)
  have e2 : View.readAt (Elt F) arg2.view (Rect.unit (s := S256x2048) ![0, 0] S256x2048.size inb_S256x2048_S256x2048_0_0).toLoadRect f2 = View.read (Elt F) arg2.view f2 := View.ld_unit_lit _ _ (by decide)
  have e4 : View.readAt (Elt F) arg4.view (Rect.unit (s := S1x2048) ![0, 0] S1x2048.size inb_S1x2048_S1x2048_0_0).toLoadRect f4 = View.read (Elt F) arg4.view f4 := View.ld_unit_lit _ _ (by decide)
  have e5 : View.readAt (Elt F) arg5.view (Rect.unit (s := S1x2048) ![0, 0] S1x2048.size inb_S1x2048_S1x2048_0_0).toLoadRect f5 = View.read (Elt F) arg5.view f5 := View.ld_unit_lit _ _ (by decide)
  have e6 : View.readAt (Elt F) arg6.view (Rect.unit (s := S1x2048) ![0, 0] S1x2048.size inb_S1x2048_S1x2048_0_0).toLoadRect f6 = View.read (Elt F) arg6.view f6 := View.ld_unit_lit _ _ (by decide)
  have e7 : View.readAt (Elt F) arg7.view (Rect.unit (s := S2048x2048) ![0, 0] S2048x2048.size inb_S2048x2048_S2048x2048_0_0).toLoadRect f7 = View.read (Elt F) arg7.view f7 := View.ld_unit_lit _ _ (by decide)
  have hP : View.read (Elt F) arg9.view (arg9.view.writes (Elt F) arg9.view.junk (body.sl.H9_96 c arg1 arg2 f1 f2)) = padded (k0_pay22 (View.read (Elt F) arg1.view f1) (View.read (Elt F) arg2.view f2)) := by
    funext y
    refine View.read_writes_apply_of_pieces arg9.view _ (padded (k0_pay22 (View.read (Elt F) arg1.view f1) (View.read (Elt F) arg2.view f2))) _ ?_ y (View.cover_of_tiledBy _ ![1, 1, 16, 256] (by sl_kernel_rfl) y)
    rw [← e1, ← e2]
    delta body.sl.H9_96
    try delta body.sl.v314
    try delta body.sl.v30
    try delta body.sl.v27
    try delta body.sl.v24
    try delta body.sl.v37
    try delta body.sl.v47
    try delta body.sl.v57
    try delta body.sl.v67
    try delta body.sl.v77
    try delta body.sl.v87
    try delta body.sl.v97
    try delta body.sl.v107
    try delta body.sl.v117
    try delta body.sl.v127
    try delta body.sl.v137
    try delta body.sl.v147
    try delta body.sl.v157
    try delta body.sl.v167
    try delta body.sl.v177
    try delta body.sl.v187
    try delta body.sl.v197
    try delta body.sl.v207
    try delta body.sl.v217
    try delta body.sl.v227
    try delta body.sl.v237
    try delta body.sl.v247
    try delta body.sl.v257
    try delta body.sl.v267
    try delta body.sl.v277
    try delta body.sl.v287
    try delta body.sl.v297
    try delta body.sl.v307
    try delta body.sl.v34
    try delta body.sl.v44
    try delta body.sl.v54
    try delta body.sl.v64
    try delta body.sl.v74
    try delta body.sl.v84
    try delta body.sl.v94
    try delta body.sl.v104
    try delta body.sl.v114
    try delta body.sl.v124
    try delta body.sl.v134
    try delta body.sl.v144
    try delta body.sl.v154
    try delta body.sl.v164
    try delta body.sl.v174
    try delta body.sl.v184
    try delta body.sl.v194
    try delta body.sl.v204
    try delta body.sl.v214
    try delta body.sl.v224
    try delta body.sl.v234
    try delta body.sl.v244
    try delta body.sl.v254
    try delta body.sl.v264
    try delta body.sl.v274
    try delta body.sl.v284
    try delta body.sl.v294
    try delta body.sl.v304
    try delta body.sl.r_1
    delta body.sl.r
    repeat first
      | refine List.forall_mem_cons.mpr ⟨fun x => zero_piece _ _ _ _ (by decide) (by decide) x, ?_⟩
      | refine List.forall_mem_cons.mpr ⟨fun x => row_piece (k0_pay22 (View.readAt (Elt F) arg1.view (Rect.unit (s := S256x2048) ![0, 0] S256x2048.size inb_S256x2048_S256x2048_0_0).toLoadRect f1) (View.readAt (Elt F) arg2.view (Rect.unit (s := S256x2048) ![0, 0] S256x2048.size inb_S256x2048_S256x2048_0_0).toLoadRect f2)) _ _ _ _ (by decide) (by decide) (by decide) (by decide) x, ?_⟩
    exact fun p hp => absurd hp List.not_mem_nil
  have hr : body.sl.r_4 c arg1 arg2 arg3 arg4 arg5 arg9 arg10 f1 f2 f3 f4 f5 = k0_pay129 (k0_pay127 (slab (convAll (padded (k0_pay22 (View.read (Elt F) arg1.view f1) (View.read (Elt F) arg2.view f2))) (View.read (Elt F) arg3.view f3)) 0))
      (k0_pay128 (slab (convAll (padded (k0_pay22 (View.read (Elt F) arg1.view f1) (View.read (Elt F) arg2.view f2))) (View.read (Elt F) arg3.view f3)) 1))
      (slab (convAll (padded (k0_pay22 (View.read (Elt F) arg1.view f1) (View.read (Elt F) arg2.view f2))) (View.read (Elt F) arg3.view f3)) 2)
      (slab (convAll (padded (k0_pay22 (View.read (Elt F) arg1.view f1) (View.read (Elt F) arg2.view f2))) (View.read (Elt F) arg3.view f3)) 3)
      (slab (convAll (padded (k0_pay22 (View.read (Elt F) arg1.view f1) (View.read (Elt F) arg2.view f2))) (View.read (Elt F) arg3.view f3)) 4)
      (slab (convAll (padded (k0_pay22 (View.read (Elt F) arg1.view f1) (View.read (Elt F) arg2.view f2))) (View.read (Elt F) arg3.view f3)) 5)
      (slab (convAll (padded (k0_pay22 (View.read (Elt F) arg1.view f1) (View.read (Elt F) arg2.view f2))) (View.read (Elt F) arg3.view f3)) 6)
      (slab (convAll (padded (k0_pay22 (View.read (Elt F) arg1.view f1) (View.read (Elt F) arg2.view f2))) (View.read (Elt F) arg3.view f3)) 7) (View.read (Elt F) arg4.view f4) (View.read (Elt F) arg5.view f5) := by
    have hs : ∀ (s : ℕ) (hs : s < 8) (inb : ∀ a, (![s, 0, 0] : Fin 3 → ℕ) a + S1x256x256.size a ≤ S8x256x256.size a),
        arg10.view.readCov (blocks (padded (k0_pay22 (View.read (Elt F) arg1.view f1) (View.read (Elt F) arg2.view f2))) (View.read (Elt F) arg3.view f3) (Scf.trips k0_t1_loop.lb k0_t1_loop.ub k0_t1_loop.st)) (Rect.unit (s := S8x256x256) ![s, 0, 0] S1x256x256.size inb).toLoadRect
          = slab (convAll (padded (k0_pay22 (View.read (Elt F) arg1.view f1) (View.read (Elt F) arg2.view f2))) (View.read (Elt F) arg3.view f3)) s :=
      fun s h inb => load_slab arg10.view _ _ _ trips_eq s h inb
    delta body.sl.r_4 body.sl.r_3 body.sl.r_2
    delta body.sl.v332 body.sl.v334 body.sl.v336 body.sl.v338 body.sl.v340 body.sl.v342 body.sl.v344 body.sl.v346
    rw [hP, e4, e5]
    simp only [hs 0 (by omega), hs 1 (by omega), hs 2 (by omega), hs 3 (by omega), hs 4 (by omega), hs 5 (by omega), hs 6 (by omega), hs 7 (by omega)]
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    refine (View.read_writes_eq_canon _ _ _ (View.cover_of_tiled _ S256x2048.size (by rfl))).trans ?_
    rw [View.canon_cons_unit_lit _ _ _ (by decide), hr, e6, e7]
    rfl
  isplitl [H9]
  · iexists _; iexists _; isplitr; swap; · iexact H9
    ipureintro; rfl
  isplitl [H10]
  · iexists _; iexists _; isplitr; swap; · iexact H10
    ipureintro; rfl
  iexists _; iexists _; isplitr; swap; · iexact H11
  ipureintro; rfl

end Cert.ConformerRun

end
-- ==== Proof.Conformer.Launch.lean ====
/- The launch of the conformer call: what each grid point finds and leaves in its buffers, and the run of the whole
   program with the array it ends with named. Written over any interpretation of the floating-point types. -/
module

public import proofs.«01_k».proof.Proof.Conformer.Run
public import proofs.«01_k».proof.Proof.Gen.ConformerIdeal.Frame
public import Idealize.ShloMosaic.Lib.Pipeline.ValueKit
public import Idealize.ShloMosaic.Lib.Pipeline.Value
public import Idealize.ShloMosaic.Lib.Claim
public import Idealize.ShloMosaic.Lib.Pipeline.TableIdle

@[expose] public section

set_option maxRecDepth 16384

noncomputable section

namespace Cert.ConformerRun

open Cert.ConformerIdeal Cert.ConformerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero-padded gated rows. -/
abbrev rows : Memref sig .tc .vmem S4x8x96x256 .f32 := Memref.whole (cc0_scratch0)
/-- The convolved rows, one slab per block of channels. -/
abbrev conv : Memref sig .tc .vmem S8x256x256 .f32 := Memref.whole (cc0_scratch1)
/-- The rows of one trip at the seven shifts. -/
abbrev shifts : Memref sig .tc .vmem S7x88x256 .f32 := Memref.whole (cc0_scratch2)

theorem invariant_eq (c : Dev nD) :
    (Pipeline.ΦA spec0 c : sProp 𝕄)
      = iprop(iprop((∃ d, owns (c : Thread nD τ) rows fullShare d) ∗ (∃ d, owns (c : Thread nD τ) conv fullShare d) ∗ (∃ d, owns (c : Thread nD τ) shifts fullShare d)) ∗ (∃ r, prngReg c r)) := by
  unfold Pipeline.ΦA; rw [scopedRest0_eq]; simp only [rows, conv, shifts, owns_whole]; try rfl

/-- What the output block of point `t` holds. -/
def left (c : Dev nD) (t : Fin cfg0.N) : Vec F S256x2048 .f32 :=
  outOf (iblk m c 0 t) (iblk m c 1 t) (iblk m c 2 t) (iblk m c 3 t) (iblk m c 4 t) (iblk m c 5 t) (iblk m c 6 t)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => left m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = left m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem live_7 : ∀ t : Fin cfg0.N, cfg0.idle 7 (grid0.coords t) = false :=
  (by decide +kernel : ∀ t : Fin grid0.N, cfg0.idle 7 (grid0.coords t) = false)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = Pipeline.ΦA spec0 c from rfl,
    show (dats m 0 c).Φ t.castSucc = Pipeline.ΦA spec0 c from rfl, invariant_eq,
    show (dats m 0 c).owesAt () t.succ = (dats m 0 c).owesAt () t.castSucc from rfl,
    show (dats m 0 c).leavesExact 0 t = owns (c : Thread nD τ) (st0_0 t) fullShare ((dats m 0 c).after 0 t) from rfl, after_0,
    show (dats m 0 c).leavesExact 1 t = owns (c : Thread nD τ) (st0_1 t) fullShare ((dats m 0 c).after 1 t) from rfl, after_1,
    show (dats m 0 c).leavesExact 2 t = owns (c : Thread nD τ) (st0_2 t) fullShare ((dats m 0 c).after 2 t) from rfl, after_2,
    show (dats m 0 c).leavesExact 3 t = owns (c : Thread nD τ) (st0_3 t) fullShare ((dats m 0 c).after 3 t) from rfl, after_3,
    show (dats m 0 c).leavesExact 4 t = owns (c : Thread nD τ) (st0_4 t) fullShare ((dats m 0 c).after 4 t) from rfl, after_4,
    show (dats m 0 c).leavesExact 5 t = owns (c : Thread nD τ) (st0_5 t) fullShare ((dats m 0 c).after 5 t) from rfl, after_5,
    show (dats m 0 c).leavesExact 6 t = owns (c : Thread nD τ) (st0_6 t) fullShare ((dats m 0 c).after 6 t) from rfl, after_6,
    show (dats m 0 c).leavesExact 7 t = owns (c : Thread nD τ) (st0_7 t) fullShare ((dats m 0 c).after 7 t) from by
      unfold Dat.leavesExact; rw [live_7 t], after_7]
  unfold left
  iintro ⟨⟨⟨HA, HB, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HA]; · iexact HA
  isplitl [HB]; · iexact HB
  isplitl [HC]; · iexact HC
  iintro ⟨H0, H1, H2, H3, H4, H5, H6, H7, HA, HB, HC⟩
  isplitl [HA HB HC Hg]
  · isplitl [HA HB HC]
    · isplitl [HA]; · iexact HA
      isplitl [HB]; · iexact HB
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem held_in (c : Dev nD) : Pipeline.ΦA spec0 c ⊢ (dats m 0 c).Φ 0 := by
  rw [show (dats m 0 c).Φ 0 = Pipeline.ΦA spec0 c from rfl]

theorem held_out (c : Dev nD) : (dats m 0 c).Φ (Fin.last cfg0.N) ⊢ Pipeline.ΦA spec0 c := by
  rw [show (dats m 0 c).Φ (Fin.last cfg0.N) = Pipeline.ΦA spec0 c from rfl]

set_option backward.isDefEq.respectTransparency.types false in
/-- The run: the output array at what the pipeline writes back, every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := held_in m) (hout := held_out m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.ConformerRun

end
-- ==== Proof.Conformer.Taps.lean ====
/- What the conformer's body computes from its blocks, over the extended reals: the depthwise convolution of the gated
   rows, its layer norm, and the product with the output weights. -/
module

public import proofs.«01_k».proof.Proof.Conformer.Launch
public import proofs.«01_k».proof.Proof.Merge.Value

@[expose] public section

set_option maxRecDepth 16384

noncomputable section

namespace Cert.ConformerRun

open Cert.ConformerIdeal Cert.ConformerIdeal.Gen
open Idealize.ShloMosaic Idealize.ShloMosaic.TcCoe Idealize.SL.Sem
open Cert.MergeRun (squash eq_at2 eq_at3)

/-- The first `n` terms added from zero, in order. -/
def tapSum (f : ℕ → EReal) : ℕ → EReal
  | 0 => 0
  | n + 1 => tapSum f n + f n

theorem tapSum_congr (f g : ℕ → EReal) (n : ℕ) (h : ∀ k < n, f k = g k) : tapSum f n = tapSum g n := by
  induction n with
  | zero => rfl
  | succ n ih => rw [tapSum, tapSum, ih fun k hk => h k (by omega), h n (by omega)]

theorem pay10_apply (x0 : Vec Ideal S1x64x256 .f32) (w0 : Vec Ideal S1x1x256 .f32) (x1 : Vec Ideal S1x64x256 .f32) (w1 : Vec Ideal S1x1x256 .f32) (x2 : Vec Ideal S1x64x256 .f32) (w2 : Vec Ideal S1x1x256 .f32) (l : Fin 64) (q : Fin 256) :
    k0_pay10 x0 w0 x1 w1 x2 w2 (ix2 l q) = 0 + x0 (ix3 0 l q) * w0 (ix3 0 0 q) + x1 (ix3 0 l q) * w1 (ix3 0 0 q) + x2 (ix3 0 l q) * w2 (ix3 0 0 q) := by
  pointwise [k0_pay10]

theorem pay11_apply (x : Vec Ideal S1x64x256 .f32) (l : Fin 64) (q : Fin 256) : k0_pay11 x (ix2 l q) = x (ix3 0 l q) := by pointwise [k0_pay11]
theorem pay14_apply (x : Vec Ideal S1x64x256 .f32) (l : Fin 64) (q : Fin 256) : k0_pay14 x (ix2 l q) = x (ix3 0 l q) := by pointwise [k0_pay14]
theorem pay17_apply (x : Vec Ideal S1x64x256 .f32) (l : Fin 64) (q : Fin 256) : k0_pay17 x (ix2 l q) = x (ix3 0 l q) := by pointwise [k0_pay17]
theorem pay18_apply (w : Vec Ideal S1x1x256 .f32) (l : Fin 64) (q : Fin 256) : k0_pay18 w (ix2 l q) = w (ix3 0 0 q) := by pointwise [k0_pay18]
theorem pay20_apply (x : Vec Ideal S1x64x256 .f32) (l : Fin 64) (q : Fin 256) : k0_pay20 x (ix2 l q) = x (ix3 0 l q) := by pointwise [k0_pay20]

theorem pay12_apply (a x : FVec Ideal S64x256 .f32) (w : Vec Ideal S1x1x256 .f32) (x1 : Vec Ideal S1x64x256 .f32) (w1 : Vec Ideal S1x1x256 .f32) (x2 : Vec Ideal S1x64x256 .f32) (w2 : Vec Ideal S1x1x256 .f32) (x3 : Vec Ideal S1x64x256 .f32) (w3 : Vec Ideal S1x1x256 .f32) (x4 : Vec Ideal S1x1x64x256 .f32) (w4 : Vec Ideal S1x1x256 .f32) (l : Fin 64) (q : Fin 256) :
    k0_pay12 a x w x1 w1 x2 w2 x3 w3 x4 w4 (ix2 l q) = a (ix2 l q) + x (ix2 l q) * w (ix3 0 0 q) + x1 (ix3 0 l q) * w1 (ix3 0 0 q) + x2 (ix3 0 l q) * w2 (ix3 0 0 q) + x3 (ix3 0 l q) * w3 (ix3 0 0 q) + x4 (ix4 0 0 l q) * w4 (ix3 0 0 q) := by
  pointwise [k0_pay12]

theorem pay13_apply (a : FVec Ideal S64x256 .f32) (x1 : Vec Ideal S1x64x256 .f32) (w1 : Vec Ideal S1x1x256 .f32) (x2 : Vec Ideal S1x64x256 .f32) (w2 : Vec Ideal S1x1x256 .f32) (x3 : Vec Ideal S1x64x256 .f32) (w3 : Vec Ideal S1x1x256 .f32) (x4 : Vec Ideal S1x64x256 .f32) (w4 : Vec Ideal S1x1x256 .f32) (l : Fin 64) (q : Fin 256) :
    k0_pay13 a x1 w1 x2 w2 x3 w3 x4 w4 (ix2 l q) = a (ix2 l q) + x1 (ix3 0 l q) * w1 (ix3 0 0 q) + x2 (ix3 0 l q) * w2 (ix3 0 0 q) + x3 (ix3 0 l q) * w3 (ix3 0 0 q) + x4 (ix3 0 l q) * w4 (ix3 0 0 q) := by
  pointwise [k0_pay13]

theorem pay15_apply (a x : FVec Ideal S64x256 .f32) (w : Vec Ideal S1x1x256 .f32) (x1 : Vec Ideal S1x64x256 .f32) (w1 : Vec Ideal S1x1x256 .f32) (x2 : Vec Ideal S1x64x256 .f32) (w2 : Vec Ideal S1x1x256 .f32) (x3 : Vec Ideal S1x1x64x256 .f32) (w3 : Vec Ideal S1x1x256 .f32) (x4 : Vec Ideal S1x64x256 .f32) (w4 : Vec Ideal S1x1x256 .f32) (l : Fin 64) (q : Fin 256) :
    k0_pay15 a x w x1 w1 x2 w2 x3 w3 x4 w4 (ix2 l q) = a (ix2 l q) + x (ix2 l q) * w (ix3 0 0 q) + x1 (ix3 0 l q) * w1 (ix3 0 0 q) + x2 (ix3 0 l q) * w2 (ix3 0 0 q) + x3 (ix4 0 0 l q) * w3 (ix3 0 0 q) + x4 (ix3 0 l q) * w4 (ix3 0 0 q) := by
  pointwise [k0_pay15]

theorem pay16_apply (a : FVec Ideal S64x256 .f32) (x1 : Vec Ideal S1x64x256 .f32) (w1 : Vec Ideal S1x1x256 .f32) (x2 : Vec Ideal S1x64x256 .f32) (w2 : Vec Ideal S1x1x256 .f32) (x3 : Vec Ideal S1x64x256 .f32) (w3 : Vec Ideal S1x1x256 .f32) (x4 : Vec Ideal S1x64x256 .f32) (w4 : Vec Ideal S1x1x256 .f32) (l : Fin 64) (q : Fin 256) :
    k0_pay16 a x1 w1 x2 w2 x3 w3 x4 w4 (ix2 l q) = a (ix2 l q) + x1 (ix3 0 l q) * w1 (ix3 0 0 q) + x2 (ix3 0 l q) * w2 (ix3 0 0 q) + x3 (ix3 0 l q) * w3 (ix3 0 0 q) + x4 (ix3 0 l q) * w4 (ix3 0 0 q) := by
  pointwise [k0_pay16]

theorem pay19_apply (a x w : FVec Ideal S64x256 .f32) (x1 : Vec Ideal S1x64x256 .f32) (w1 : Vec Ideal S1x1x256 .f32) (x2 : Vec Ideal S1x1x64x256 .f32) (w2 : Vec Ideal S1x1x256 .f32) (x3 : Vec Ideal S1x64x256 .f32) (w3 : Vec Ideal S1x1x256 .f32) (x4 : Vec Ideal S1x64x256 .f32) (w4 : Vec Ideal S1x1x256 .f32) (l : Fin 64) (q : Fin 256) :
    k0_pay19 a x w x1 w1 x2 w2 x3 w3 x4 w4 (ix2 l q) = a (ix2 l q) + x (ix2 l q) * w (ix2 l q) + x1 (ix3 0 l q) * w1 (ix3 0 0 q) + x2 (ix4 0 0 l q) * w2 (ix3 0 0 q) + x3 (ix3 0 l q) * w3 (ix3 0 0 q) + x4 (ix3 0 l q) * w4 (ix3 0 0 q) := by
  pointwise [k0_pay19]

theorem pay21_apply (a x : FVec Ideal S64x256 .f32) (w : Vec Ideal S1x1x256 .f32) (x1 : Vec Ideal S1x64x256 .f32) (w1 : Vec Ideal S1x1x256 .f32) (x2 : Vec Ideal S1x64x256 .f32) (w2 : Vec Ideal S1x1x256 .f32) (x3 : Vec Ideal S1x64x256 .f32) (w3 : Vec Ideal S1x1x256 .f32) (x4 : Vec Ideal S1x64x256 .f32) (w4 : Vec Ideal S1x1x256 .f32) (l : Fin 64) (q : Fin 256) :
    k0_pay21 a x w x1 w1 x2 w2 x3 w3 x4 w4 (ix2 l q) = a (ix2 l q) + x (ix2 l q) * w (ix3 0 0 q) + x1 (ix3 0 l q) * w1 (ix3 0 0 q) + x2 (ix3 0 l q) * w2 (ix3 0 0 q) + x3 (ix3 0 l q) * w3 (ix3 0 0 q) + x4 (ix3 0 l q) * w4 (ix3 0 0 q) := by
  pointwise [k0_pay21]

/-- One trip's block: the 31 taps in order. -/
theorem convBlock_apply (P : Vec Ideal S4x8x96x256 .f32) (W : Vec Ideal S8x32x256 .f32) (k : ℕ) (l : Fin 64) (q : Fin 256) :
    convBlock P W k (ix2 l q) = tapSum (fun n => rowsAt P k n l.val q * W (ix3 (⟨k % 8, by omega⟩ : Fin 8) (⟨n % 32, by omega⟩ : Fin 32) q)) 31 := by
  unfold convBlock
  rw [pay21_apply, pay19_apply, pay16_apply, pay15_apply, pay13_apply, pay12_apply, pay10_apply, pay11_apply, pay14_apply, pay17_apply, pay18_apply, pay20_apply]
  rfl

theorem pay126_apply (x : FVec Ideal S64x256 .f32) (l : Fin 64) (q : Fin 256) : k0_pay126 x (ix3 0 l q) = x (ix2 l q) := by pointwise [k0_pay126]

/-- The gated activations. -/
theorem pay22_apply (a b : Vec Ideal S256x2048 .f32) (r : Fin 256) (q : Fin 2048) : k0_pay22 a b (ix2 r q) = a (ix2 r q) * squash (b (ix2 r q)) := by
  pointwise [k0_pay22, squash]
  simp only [zero_sub]

/-- The rows a tap reads: the gated rows of the same block of 64, zero outside it. -/
theorem rowsAt_padded (u : FVec Ideal S256x2048 .f32) (k n l : ℕ) (hn : n < 31) (hl : l < 64) (q : Fin 256) :
    rowsAt (padded u) k n l q = if h : 15 ≤ n + l ∧ n + l < 79 then
      u (ix2 (⟨k / 8 % 4 * 64 + (n + l - 15), by omega⟩ : Fin 256) (⟨k % 8 * 256 + q.val, by omega⟩ : Fin 2048)) else 0 := by
  unfold rowsAt padded
  have e : (n + 1 + l) % 96 = n + 1 + l := Nat.mod_eq_of_lt (by omega)
  by_cases h : 15 ≤ n + l ∧ n + l < 79
  · rw [dif_pos h, dif_pos (by show 16 ≤ (n + 1 + l) % 96 ∧ (n + 1 + l) % 96 < 80; omega)]
    refine congrArg u (eq_at2 _ _ _ ?_ ?_)
    · show k / 8 % 4 * 64 + ((n + 1 + l) % 96 - 16) = k / 8 % 4 * 64 + (n + l - 15); omega
    · rfl
  · rw [dif_neg h, dif_neg (by show ¬ (16 ≤ (n + 1 + l) % 96 ∧ (n + 1 + l) % 96 < 80); omega)]
    exact Ideal.ofBits_zero_f32

end Cert.ConformerRun

end
-- ==== Proof.Conformer.Block.lean ====
/- What the conformer's body stores for one block of tokens, over the extended reals. -/
module

public import proofs.«01_k».proof.Proof.Conformer.Taps

@[expose] public section

set_option maxRecDepth 16384

noncomputable section

namespace Cert.ConformerRun

open Cert.ConformerIdeal Cert.ConformerIdeal.Gen
open Idealize.ShloMosaic Idealize.ShloMosaic.TcCoe Idealize.SL.Sem
open Cert.MergeRun (squash eq_at2 eq_at3)

/-- The eight slabs laid side by side. -/
def joined (Y : Vec Ideal S8x256x256 .f32) : FVec Ideal S256x2048 .f32 :=
  concatenate S256x2048 1 [⟨S256x256, k0_pay127 (slab Y 0)⟩, ⟨S256x256, k0_pay128 (slab Y 1)⟩,
      ⟨S256x256, shapeCast S256x256 (slab Y 2) shapeCasts_S1x256x256_S256x256⟩, ⟨S256x256, shapeCast S256x256 (slab Y 3) shapeCasts_S1x256x256_S256x256⟩,
      ⟨S256x256, shapeCast S256x256 (slab Y 4) shapeCasts_S1x256x256_S256x256⟩, ⟨S256x256, shapeCast S256x256 (slab Y 5) shapeCasts_S1x256x256_S256x256⟩,
      ⟨S256x256, shapeCast S256x256 (slab Y 6) shapeCasts_S1x256x256_S256x256⟩, ⟨S256x256, shapeCast S256x256 (slab Y 7) shapeCasts_S1x256x256_S256x256⟩]
    concatenates_S256x256_S256x256_S256x256_S256x256_S256x256_S256x256_S256x256_S256x256_S256x2048_d1

theorem slab_apply (Y : Vec Ideal S8x256x256 .f32) (s : ℕ) (r q : Fin 256) :
    (shapeCast S256x256 (slab Y s) shapeCasts_S1x256x256_S256x256 : FVec Ideal S256x256 .f32) (ix2 r q) = Y (ix3 (⟨s % 8, by omega⟩ : Fin 8) r q) := by
  have e : (shapeCast S256x256 (slab Y s) shapeCasts_S1x256x256_S256x256 : FVec Ideal S256x256 .f32) (ix2 r q) = slab Y s (ix3 0 r q) := by
    generalize slab Y s = g
    pointwise
  rw [e]; rfl

theorem joined_apply (Y : Vec Ideal S8x256x256 .f32) (r : Fin 256) (q : Fin 2048) :
    joined Y (ix2 r q) = Y (ix3 (⟨q.val / 256, by omega⟩ : Fin 8) r (⟨q.val % 256, by omega⟩ : Fin 256)) := by
  refine (concatenate_ofFn_apply (t := S256x2048) (s₁ := S256x256) 1 (fun n : Fin 8 => shapeCast S256x256 (slab Y n.val) shapeCasts_S1x256x256_S256x256)
    concatenates_S256x256_S256x256_S256x256_S256x256_S256x256_S256x256_S256x256_S256x256_S256x2048_d1 rfl 256 rfl (ix2 r q)
    (⟨q.val / 256, by omega⟩ : Fin 8) rfl (ix2 r (⟨q.val % 256, by omega⟩ : Fin 256)) rfl ?_).trans ?_
  · intro b hb
    match b with
    | ⟨0, _⟩ => rfl
    | ⟨1, _⟩ => exact absurd rfl hb
  · rw [slab_apply]
    refine congrArg Y (eq_at3 _ _ _ _ ?_ rfl rfl)
    show q.val / 256 % 8 = q.val / 256
    omega

/-- The mean of a row. -/
def mean (v : Fin 2048 → EReal) : EReal := Ideal.div (∑ j, v j) (Ideal.ofBits FTy.f32 1157627904#32)

/-- A row's entry over the row's standard deviation, its mean taken off. -/
def norm (v : Fin 2048 → EReal) (q : Fin 2048) : EReal :=
  (v q - mean v) * Ideal.rsqrt (mean (fun j => (v j - mean v) * (v j - mean v)) + Ideal.ofBits FTy.f32 897988541#32)

/-- The norm of the convolved rows, before its offset. -/
def scaled (v : FVec Ideal S256x2048 .f32) (b g : Vec Ideal S1x2048 .f32) : FVec Ideal S256x2048 .f32 :=
  have w : FVec Ideal S256x2048 .f32 := addf (F := Ideal) (φ := .f32) v (broadcastTo S256x2048 (shapeCast S1x2048 b shapeCasts_S1x2048_S1x2048) broadcasts_S1x2048_S256x2048)
  have d : FVec Ideal S256x2048 .f32 := subf (F := Ideal) (φ := .f32) w (broadcastTo S256x2048 (divf (F := Ideal) (φ := .f32) (shapeCast S256x1 (multiReduction (F := Ideal) (φ := .f32) .add [1] S256 w 0x00000000#32 reduces_S256x2048_S256 (.inl rfl) rfl) shapeCasts_S256_S256x1) (broadcast S256x1 (Scalar.ofBits (F := Ideal) .f32 0x45000000#32))) broadcasts_S256x1_S256x2048)
  mulf (F := Ideal) (φ := .f32) (mulf (F := Ideal) (φ := .f32) d (broadcastTo S256x2048 (rsqrt (F := Ideal) (φ := .f32) (addf (F := Ideal) (φ := .f32) (divf (F := Ideal) (φ := .f32) (shapeCast S256x1 (multiReduction (F := Ideal) (φ := .f32) .add [1] S256 (mulf (F := Ideal) (φ := .f32) d d) 0x00000000#32 reduces_S256x2048_S256 (.inl rfl) rfl) shapeCasts_S256_S256x1) (broadcast S256x1 (Scalar.ofBits (F := Ideal) .f32 0x45000000#32))) (broadcast S256x1 (Scalar.ofBits (F := Ideal) .f32 0x358637BD#32)))) broadcasts_S256x1_S256x2048))
    (broadcastTo S256x2048 (shapeCast S1x2048 g shapeCasts_S1x2048_S1x2048) broadcasts_S1x2048_S256x2048)

theorem pay129_eq (Y : Vec Ideal S8x256x256 .f32) (b g : Vec Ideal S1x2048 .f32) :
    k0_pay129 (k0_pay127 (slab Y 0)) (k0_pay128 (slab Y 1)) (slab Y 2) (slab Y 3) (slab Y 4) (slab Y 5) (slab Y 6) (slab Y 7) b g = scaled (joined Y) b g := rfl

theorem scaled_apply (v : FVec Ideal S256x2048 .f32) (b g : Vec Ideal S1x2048 .f32) (r : Fin 256) (q : Fin 2048) :
    scaled v b g (ix2 r q) = norm (fun j => v (ix2 r j) + b (ix2 0 j)) q * g (ix2 0 q) := by
  pointwise [scaled, norm, mean]

/-- A logistic linear unit. -/
def swish (x : EReal) : EReal := x * squash x

theorem pay1_apply (v : FVec Ideal S256x2048 .f32) (b : Vec Ideal S1x2048 .f32) (w : Vec Ideal S2048x2048 .bf16) (r : Fin 256) (q : Fin 2048) :
    k0_pay1 v b w (ix2 r q) = ∑ k : Fin 2048, swish (v (ix2 r k) + b (ix2 0 k)) * w (ix2 k q) := by
  pointwise [k0_pay1, swish, squash]
  simp only [zero_sub]

/-- One token's row through the conformer, where `y` is its convolved row. -/
def rowOf (y cb lg lb : Fin 2048 → EReal) (w : Fin 2048 → Fin 2048 → EReal) (q : Fin 2048) : EReal :=
  ∑ k : Fin 2048, swish (norm (fun j => y j + cb j) k * lg k + lb k) * w k q

/-- A channel of the convolution at place `l` of its block of 64 rows `u`. -/
def convRow (u : ℕ → EReal) (w : ℕ → EReal) (l : ℕ) : EReal :=
  tapSum (fun n => (if 15 ≤ n + l ∧ n + l < 79 then u (n + l - 15) else 0) * w n) 31

/-- The rows the body convolves, at block `b` of 64. -/
def gatedAt (x0 x1 : Vec Ideal S256x2048 .f32) (b : ℕ) (ch : Fin 2048) (l : ℕ) : EReal :=
  k0_pay22 x0 x1 (ix2 (⟨(b % 4 * 64 + l) % 256, by omega⟩ : Fin 256) ch)

theorem conv_apply (x0 x1 : Vec Ideal S256x2048 .f32) (x2 : Vec Ideal S8x32x256 .f32) (r : Fin 256) (q : Fin 2048) :
    convAll (padded (k0_pay22 x0 x1)) x2 (ix3 (⟨q.val / 256, by omega⟩ : Fin 8) r (⟨q.val % 256, by omega⟩ : Fin 256))
      = convRow (gatedAt x0 x1 (r.val / 64) q) (fun n => x2 (ix3 (⟨q.val / 256, by omega⟩ : Fin 8) (⟨n % 32, by omega⟩ : Fin 32) (⟨q.val % 256, by omega⟩ : Fin 256))) (r.val % 64) := by
  unfold convAll
  refine (pay126_apply _ _ _).trans ((convBlock_apply _ _ _ _ _).trans (tapSum_congr _ _ _ fun n hn => ?_))
  have hq := q.isLt
  have hr := r.isLt
  refine congrArg₂ (· * ·) ((rowsAt_padded _ _ _ _ hn (by show r.val % 64 < 64; omega) _).trans ?_) (congrArg x2 (eq_at3 _ _ _ _ ?_ rfl rfl))
  · show (if h : 15 ≤ n + r.val % 64 ∧ n + r.val % 64 < 79 then _ else _) = if 15 ≤ n + r.val % 64 ∧ n + r.val % 64 < 79 then _ else _
    by_cases h : 15 ≤ n + r.val % 64 ∧ n + r.val % 64 < 79
    · rw [dif_pos h, if_pos h]
      refine congrArg (k0_pay22 x0 x1) (eq_at2 _ _ _ ?_ ?_)
      · show (r.val / 64 * 8 + q.val / 256) / 8 % 4 * 64 + (n + r.val % 64 - 15) = (r.val / 64 % 4 * 64 + (n + r.val % 64 - 15)) % 256; omega
      · show (r.val / 64 * 8 + q.val / 256) % 8 * 256 + q.val % 256 = q.val; omega
    · rw [dif_neg h, if_neg h]
  · show (r.val / 64 * 8 + q.val / 256) % 8 = q.val / 256; omega

/-- What the body leaves, at one token and feature. -/
theorem out_apply (x0 x1 : Vec Ideal S256x2048 .f32) (x2 : Vec Ideal S8x32x256 .f32) (x3 x4 x5 : Vec Ideal S1x2048 .f32) (x6 : Vec Ideal S2048x2048 .bf16) (r : Fin 256) (q : Fin 2048) :
    outOf x0 x1 x2 x3 x4 x5 x6 (ix2 r q)
      = rowOf (fun j => convRow (gatedAt x0 x1 (r.val / 64) j) (fun n => x2 (ix3 (⟨j.val / 256, by omega⟩ : Fin 8) (⟨n % 32, by omega⟩ : Fin 32) (⟨j.val % 256, by omega⟩ : Fin 256))) (r.val % 64))
          (fun j => x3 (ix2 0 j)) (fun j => x4 (ix2 0 j)) (fun j => x5 (ix2 0 j)) (fun k q => x6 (ix2 k q)) q := by
  unfold outOf
  rw [pay129_eq, pay1_apply]
  unfold rowOf
  simp only [scaled_apply, joined_apply, conv_apply]

end Cert.ConformerRun

end
-- ==== Proof.Conformer.Value.lean ====
/- What the conformer call computes: the gated rows convolved within their blocks of 64, normed, and through the output
   weight. -/
module

public import proofs.«01_k».proof.Proof.Conformer.Block

@[expose] public section

set_option maxRecDepth 16384

noncomputable section

namespace Cert.ConformerRun

open Cert.ConformerIdeal Cert.ConformerIdeal.Gen
open Idealize.ShloMosaic Idealize.ShloMosaic.TcCoe Idealize.SL.Sem
open Idealize.ShloMosaic.Pipeline (Dat)
open Cert.MergeRun (squash eq_at2 eq_at3)

/-- Token `r`'s gated activation, channel `q`. -/
def gatedOf (p : S8192x16384.Idx → EReal) (r : ℕ) (q : Fin 2048) : EReal :=
  p (ix2 (⟨r % 8192, by omega⟩ : Fin 8192) (⟨q.val, by omega⟩ : Fin 16384)) * squash (p (ix2 (⟨r % 8192, by omega⟩ : Fin 8192) (⟨2048 + q.val, by omega⟩ : Fin 16384)))

/-- Token `r`'s convolved activation, channel `q`. -/
def convOf (p : S8192x16384.Idx → EReal) (w : S1x31x2048.Idx → EReal) (r : Fin 8192) (q : Fin 2048) : EReal :=
  convRow (fun l => gatedOf p (r.val / 64 * 64 + l) q) (fun n => w (ix3 0 (⟨n % 31, by omega⟩ : Fin 31) q)) (r.val % 64)

/-- The conformer's output. -/
def result (p : S8192x16384.Idx → EReal) (w : S1x31x2048.Idx → EReal) (cb lg lb : S1x2048.Idx → EReal) (wo : S1x2048x2048.Idx → EReal) : S8192x2048.Idx → EReal :=
  fun i => rowOf (convOf p w (i 0)) (fun j => cb (ix2 0 j)) (fun j => lg (ix2 0 j)) (fun j => lb (ix2 0 j)) (fun k q => wo (ix3 0 k q)) (i 1)

theorem convRow_congr (u u' w w' : ℕ → EReal) (l : ℕ) (hu : ∀ k < 64, u k = u' k) (hw : ∀ n < 31, w n = w' n) : convRow u w l = convRow u' w' l :=
  tapSum_congr _ _ _ fun n hn => by
    by_cases h : 15 ≤ n + l ∧ n + l < 79
    · rw [if_pos h, if_pos h, hu _ (by omega), hw n hn]
    · rw [if_neg h, if_neg h, hw n hn]

variable (m : (ℓ : Loc nD τ sig) → Buf (Elt Ideal) ℓ) (ρ : Dev nD → PrngReg)

/-- The arguments as launched. -/
abbrev P (c : Dev nD) : S8192x16384.Idx → EReal := m ((c : Thread nD τ).loc main_arg0)
abbrev Taps (c : Dev nD) : S1x31x2048.Idx → EReal := m ((c : Thread nD τ).loc main_arg1)
abbrev Bias (c : Dev nD) : S1x2048.Idx → EReal := m ((c : Thread nD τ).loc main_arg2)
abbrev Gain (c : Dev nD) : S1x2048.Idx → EReal := m ((c : Thread nD τ).loc main_arg3)
abbrev Offset (c : Dev nD) : S1x2048.Idx → EReal := m ((c : Thread nD τ).loc main_arg4)
abbrev Weight (c : Dev nD) : S1x2048x2048.Idx → EReal := m ((c : Thread nD τ).loc main_arg5)

theorem pad_taps (w : FVec Ideal S31x2048 .f32) (v : FVec Ideal S_ .f32) (n : Fin 32) (hn : n.val < 31) (q : Fin 2048) :
    (pad S32x2048 ![0, 0] ![1, 0] ![0, 0] w v pads_S31x2048_S32x2048_010_000 h_S_ : FVec Ideal S32x2048 .f32) (ix2 n q) = w (ix2 (⟨n.val, hn⟩ : Fin 31) q) := by
  have hq := q.isLt
  rw [pad_apply, dif_pos (fun a => by
    match a with
    | ⟨0, _⟩ => show 0 ≤ n.val ∧ (n.val - 0) % 1 = 0 ∧ (n.val - 0) / 1 < 31; omega
    | ⟨1, _⟩ => show 0 ≤ q.val ∧ (q.val - 0) % 1 = 0 ∧ (q.val - 0) / 1 < 2048; omega)]
  refine congrArg w (eq_at2 _ _ _ ?_ ?_)
  · show (n.val - 0) / 1 = n.val; omega
  · show (q.val - 0) / 1 = q.val; omega

theorem V_v8 (c : Dev nD) (a : Fin 8) (n : Fin 32) (hn : n.val < 31) (q : Fin 256) :
    V m c main_v8 (ix3 a n q) = Taps m c (ix3 0 ⟨n.val, hn⟩ (⟨a.val * 256 + q.val, by omega⟩ : Fin 2048)) := by
  have e : V m c main_v8 = transpose S8x32x256 [1, 0, 2] (shapeCast S32x8x256 (pad S32x2048 ![0, 0] ![1, 0] ![0, 0] (shapeCast S31x2048 (Taps m c) shapeCasts_S1x31x2048_S31x2048 : FVec Ideal S31x2048 .f32) (sitofp (F := Ideal) .f32 (constantI S_ 32 0#32)) pads_S31x2048_S32x2048_010_000 h_S_) shapeCasts_S32x2048_S32x8x256) transposes_S32x8x256_S8x32x256_1_0_2 := by
    unfold V; simp only [hostOps0, hostOps0_1, hostOps0_2, List.flatten_cons, List.flatten_nil, List.append_nil, List.cons_append, List.nil_append]; after_results <;> rfl
  rw [e]
  have f : ∀ g : FVec Ideal S32x2048 .f32, (transpose S8x32x256 [1, 0, 2] (shapeCast S32x8x256 g shapeCasts_S32x2048_S32x8x256) transposes_S32x8x256_S8x32x256_1_0_2 : FVec Ideal S8x32x256 .f32) (ix3 a n q) = g (ix2 n (⟨a.val * 256 + q.val, by omega⟩ : Fin 2048)) := by
    intro g
    pointwise
  rw [f, pad_taps _ _ n hn]
  pointwise

theorem V_v9 (c : Dev nD) (k : Fin 2048) : V m c main_v9 (ix2 0 k) = Bias m c (ix2 0 k) := by
  have e : V m c main_v9 = shapeCast S1x2048 (shapeCast S2048 (Bias m c) shapeCasts_S1x2048_S2048) shapeCasts_S2048_S1x2048 := by
    unfold V; simp only [hostOps0, hostOps0_1, hostOps0_2, List.flatten_cons, List.flatten_nil, List.append_nil, List.cons_append, List.nil_append]; after_results <;> rfl
  rw [e]
  pointwise

theorem V_v10 (c : Dev nD) (k : Fin 2048) : V m c main_v10 (ix2 0 k) = Gain m c (ix2 0 k) := by
  have e : V m c main_v10 = shapeCast S1x2048 (shapeCast S2048 (Gain m c) shapeCasts_S1x2048_S2048) shapeCasts_S2048_S1x2048 := by
    unfold V; simp only [hostOps0, hostOps0_1, hostOps0_2, List.flatten_cons, List.flatten_nil, List.append_nil, List.cons_append, List.nil_append]; after_results <;> rfl
  rw [e]
  pointwise

theorem V_v11 (c : Dev nD) (k : Fin 2048) : V m c main_v11 (ix2 0 k) = Offset m c (ix2 0 k) := by
  have e : V m c main_v11 = shapeCast S1x2048 (shapeCast S2048 (Offset m c) shapeCasts_S1x2048_S2048) shapeCasts_S2048_S1x2048 := by
    unfold V; simp only [hostOps0, hostOps0_1, hostOps0_2, List.flatten_cons, List.flatten_nil, List.append_nil, List.cons_append, List.nil_append]; after_results <;> rfl
  rw [e]
  pointwise

theorem V_v5 (c : Dev nD) (k q : Fin 2048) : V m c main_v5 (ix2 k q) = Weight m c (ix3 0 k q) := by
  have e : V m c main_v5 = truncf (F := Ideal) (φ := .f32) .bf16 (shapeCast S2048x2048 (Weight m c) shapeCasts_S1x2048x2048_S2048x2048) bitsLt_bf16_f32 := by
    unfold V; simp only [hostOps0, hostOps0_1, hostOps0_2, List.flatten_cons, List.flatten_nil, List.append_nil, List.cons_append, List.nil_append]; after_results <;> rfl
  rw [e]
  pointwise

/-- Where each window's block begins. -/
theorem idx_rows : ∀ t : Fin cfg0.N, (win0_0.index t 0 = t.val ∧ win0_0.index t 1 = 0) ∧ (win0_1.index t 0 = t.val ∧ win0_1.index t 1 = 1) ∧ (win0_7.index t 0 = t.val ∧ win0_7.index t 1 = 0) :=
  (by decide +kernel : ∀ t : Fin grid0.N, (win0_0.index t 0 = t.val ∧ win0_0.index t 1 = 0) ∧ (win0_1.index t 0 = t.val ∧ win0_1.index t 1 = 1) ∧ (win0_7.index t 0 = t.val ∧ win0_7.index t 1 = 0))
theorem idx_whole : ∀ t : Fin cfg0.N, (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_2.index t 0 = 0 ∧ win0_2.index t 1 = 0 ∧ win0_2.index t 2 = 0) :=
  (by decide +kernel : ∀ t : Fin grid0.N, (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_2.index t 0 = 0 ∧ win0_2.index t 1 = 0 ∧ win0_2.index t 2 = 0))

theorem lt_N (t : Fin cfg0.N) : t.val < 32 := Nat.lt_of_lt_of_eq t.isLt N_0

/-- A block read: the array at an index whose coordinates are the block's origin plus the block's. -/
theorem iblk_0 (c : Dev nD) (t : Fin cfg0.N) (r : Fin 256) (k : Fin 2048) (h : 256 * t.val + r.val < 8192) :
    (iblk m c 0 t : Vec Ideal S256x2048 .f32) (ix2 r k) = P m c (ix2 ⟨256 * t.val + r.val, h⟩ ⟨k.val, by omega⟩) := by
  rw [show P m c = V m c main_arg0 from (V_main_arg0 m c).symm]
  have e := (idx_rows t).1
  refine congrArg (V m c main_arg0) (eq_at2 _ _ _ ?_ ?_)
  · show win0_0.index t 0 * 256 + 1 * r.val = 256 * t.val + r.val; rw [e.1]; omega
  · show win0_0.index t 1 * 2048 + 1 * k.val = k.val; rw [e.2]; omega

theorem iblk_1 (c : Dev nD) (t : Fin cfg0.N) (r : Fin 256) (k : Fin 2048) (h : 256 * t.val + r.val < 8192) :
    (iblk m c 1 t : Vec Ideal S256x2048 .f32) (ix2 r k) = P m c (ix2 ⟨256 * t.val + r.val, h⟩ ⟨2048 + k.val, by omega⟩) := by
  rw [show P m c = V m c main_arg0 from (V_main_arg0 m c).symm]
  have e := (idx_rows t).2.1
  refine congrArg (V m c main_arg0) (eq_at2 _ _ _ ?_ ?_)
  · show win0_1.index t 0 * 256 + 1 * r.val = 256 * t.val + r.val; rw [e.1]; omega
  · show win0_1.index t 1 * 2048 + 1 * k.val = 2048 + k.val; rw [e.2]; omega

theorem iblk_2 (c : Dev nD) (t : Fin cfg0.N) (a : Fin 8) (n : Fin 32) (hn : n.val < 31) (q : Fin 256) :
    (iblk m c 2 t : Vec Ideal S8x32x256 .f32) (ix3 a n q) = Taps m c (ix3 0 ⟨n.val, hn⟩ (⟨a.val * 256 + q.val, by omega⟩ : Fin 2048)) := by
  rw [← V_v8 m c a n hn q]
  have e := (idx_whole t).2.2.2.2
  refine congrArg (V m c main_v8) (eq_at3 _ _ _ _ ?_ ?_ ?_)
  · show win0_2.index t 0 * 8 + 1 * a.val = a.val; rw [e.1]; omega
  · show win0_2.index t 1 * 32 + 1 * n.val = n.val; rw [e.2.1]; omega
  · show win0_2.index t 2 * 256 + 1 * q.val = q.val; rw [e.2.2]; omega

theorem iblk_3 (c : Dev nD) (t : Fin cfg0.N) (k : Fin 2048) : (iblk m c 3 t : Vec Ideal S1x2048 .f32) (ix2 0 k) = Bias m c (ix2 0 k) := by
  rw [← V_v9]
  have e := (idx_whole t).1
  refine congrArg (V m c main_v9) (eq_at2 _ _ _ ?_ ?_)
  · show win0_3.index t 0 * 1 + 1 * 0 = 0; rw [e.1]
  · show win0_3.index t 1 * 2048 + 1 * k.val = k.val; rw [e.2]; omega

theorem iblk_4 (c : Dev nD) (t : Fin cfg0.N) (k : Fin 2048) : (iblk m c 4 t : Vec Ideal S1x2048 .f32) (ix2 0 k) = Gain m c (ix2 0 k) := by
  rw [← V_v10]
  have e := (idx_whole t).2.1
  refine congrArg (V m c main_v10) (eq_at2 _ _ _ ?_ ?_)
  · show win0_4.index t 0 * 1 + 1 * 0 = 0; rw [e.1]
  · show win0_4.index t 1 * 2048 + 1 * k.val = k.val; rw [e.2]; omega

theorem iblk_5 (c : Dev nD) (t : Fin cfg0.N) (k : Fin 2048) : (iblk m c 5 t : Vec Ideal S1x2048 .f32) (ix2 0 k) = Offset m c (ix2 0 k) := by
  rw [← V_v11]
  have e := (idx_whole t).2.2.1
  refine congrArg (V m c main_v11) (eq_at2 _ _ _ ?_ ?_)
  · show win0_5.index t 0 * 1 + 1 * 0 = 0; rw [e.1]
  · show win0_5.index t 1 * 2048 + 1 * k.val = k.val; rw [e.2]; omega

theorem iblk_6 (c : Dev nD) (t : Fin cfg0.N) (k q : Fin 2048) : (iblk m c 6 t : Vec Ideal S2048x2048 .bf16) (ix2 k q) = Weight m c (ix3 0 k q) := by
  rw [← V_v5]
  have e := (idx_whole t).2.2.2.1
  refine congrArg (V m c main_v5) (eq_at2 _ _ _ ?_ ?_)
  · show win0_6.index t 0 * 2048 + 1 * k.val = k.val; rw [e.1]; omega
  · show win0_6.index t 1 * 2048 + 1 * q.val = q.val; rw [e.2]; omega

/-- A block's gated rows are the array's. -/
theorem gatedAt_eq (c : Dev nD) (t : Fin cfg0.N) (r : Fin 256) (q : Fin 2048) (l : ℕ) (hl : l < 64) :
    gatedAt (iblk m c 0 t) (iblk m c 1 t) (r.val / 64) q l = gatedOf (P m c) ((256 * t.val + r.val) / 64 * 64 + l) q := by
  have ht := lt_N t
  have hr := r.isLt
  have e : 256 * t.val + (r.val / 64 % 4 * 64 + l) % 256 = ((256 * t.val + r.val) / 64 * 64 + l) % 8192 := by omega
  unfold gatedAt gatedOf
  refine (pay22_apply _ _ _ _).trans ?_
  rw [iblk_0 m c t _ _ (by show 256 * t.val + (r.val / 64 % 4 * 64 + l) % 256 < 8192; omega), iblk_1 m c t _ _ (by show 256 * t.val + (r.val / 64 % 4 * 64 + l) % 256 < 8192; omega)]
  simp only [e]

/-- The output array. -/
abbrev Out (c : Dev nD) : S8192x2048.Idx → EReal := result (P m c) (Taps m c) (Bias m c) (Gain m c) (Offset m c) (Weight m c)

theorem flushed_7 (c : Dev nD) (t : Fin cfg0.N) :
    (dats m 0 c).flushed 7 t = ((cfg0.win 7).blk t).view.read (Elt Ideal) (Out m c) := by
  show (cfg0.win 7).cut (grid0.coords t) ((dats m 0 c).after 7 t) = _
  rw [after_7]
  funext j
  rw [View.read_apply]
  have ht := lt_N t
  obtain ⟨r, q, rfl⟩ : ∃ (r : Fin 256) (q : Fin 2048), j = ix2 r q := ⟨j 0, j 1, eq_ix2 j⟩
  have h : 256 * t.val + r.val < 8192 := by omega
  have e := (idx_rows t).2.2
  have hemb : (((cfg0.win 7).blk t).view.emb (ix2 r q) : S8192x2048.Idx) = ix2 ⟨256 * t.val + r.val, h⟩ q := by
    refine eq_at2 _ _ _ ?_ ?_
    · show win0_7.index t 0 * 256 + 1 * r.val = 256 * t.val + r.val; rw [e.1]; omega
    · show win0_7.index t 1 * 2048 + 1 * q.val = q.val; rw [e.2]; omega
  refine Eq.trans ?_ (congrArg (Out m c) hemb).symm
  refine (out_apply (iblk m c 0 t) (iblk m c 1 t) (iblk m c 2 t) (iblk m c 3 t) (iblk m c 4 t) (iblk m c 5 t) (iblk m c 6 t) r q).trans ?_
  show _ = rowOf (convOf (P m c) (Taps m c) ⟨256 * t.val + r.val, h⟩) (fun j => Bias m c (ix2 0 j)) (fun j => Gain m c (ix2 0 j)) (fun j => Offset m c (ix2 0 j)) (fun k q => Weight m c (ix3 0 k q)) q
  simp only [iblk_3, iblk_4, iblk_5, iblk_6]
  refine congrArg (fun y => rowOf y _ _ _ _ q) (funext fun j => ?_)
  unfold convOf
  rw [show (256 * t.val + r.val) % 64 = r.val % 64 from by omega]
  refine convRow_congr _ _ _ _ _ (fun l hl => gatedAt_eq m c t r j l hl) (fun n hn => ?_)
  have hj := j.isLt
  refine (iblk_2 m c t _ _ (by show n % 32 < 31; omega) _).trans (congrArg (Taps m c) (eq_at3 _ _ _ _ rfl ?_ ?_))
  · show n % 32 = n % 31; omega
  · show j.val / 256 * 256 + j.val % 256 = j.val; omega

theorem final_7 (c : Dev nD) : (dats m 0 c).arrAt 7 cfg0.N = Out m c :=
  (dats m 0 c).arrAt_eq_of_cover 7 _ (fun t _ => flushed_7 m c t) fun i => by
    have h0 : (i 0 : Nat) < 8192 := (i 0).isLt
    have h1 : (i 1 : Nat) < 2048 := (i 1).isLt
    have ht : (i 0 : Nat) / 256 < cfg0.N := by rw [show cfg0.N = 32 from N_0]; omega
    refine ⟨⟨(i 0 : Nat) / 256, ht⟩, flush0_7 _, ?_⟩
    show i ∈ ((View.whole main_v12).slice (win0_7.rect ⟨(i 0 : Nat) / 256, ht⟩)).set
    rw [View.set_slice_whole, Rect.mem_set_unit]
    have hi := (idx_rows ⟨(i 0 : Nat) / 256, ht⟩).2.2
    dsimp only at hi
    intro a
    match a with
    | ⟨0, _⟩ => show win0_7.index ⟨_, ht⟩ 0 * 256 ≤ (i 0 : Nat) ∧ (i 0 : Nat) < win0_7.index ⟨_, ht⟩ 0 * 256 + 256
                rw [hi.1]; omega
    | ⟨1, _⟩ => show win0_7.index ⟨_, ht⟩ 1 * 2048 ≤ (i 1 : Nat) ∧ (i 1 : Nat) < win0_7.index ⟨_, ht⟩ 1 * 2048 + 2048
                rw [hi.2]; omega

/-- The run read: the conformer's output, and every argument unchanged. -/
theorem run : θ_run defs (onTc (τ := τ) (main (F := Ideal))) ⟨m, fun _ => 0, ρ⟩ fun r => ∀ c : Dev nD,
      r.2.mem ((c : Thread nD τ).loc main_v12) = Out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h.2 c).1 7).trans (final_7 m c), h.1.1 c⟩) (θ_run_and (frame m ρ) (run_main m ρ))

end Cert.ConformerRun

end
-- ==== Proof.Conformer.Reference.lean ====
/- What the conformer call's reference computes. -/
module

public import proofs.«01_k».proof.Proof.Conformer.Value
public import proofs.«01_k».proof.Proof.Gen.ConformerRefIdeal.Run

@[expose] public section

set_option maxRecDepth 16384

noncomputable section

namespace Cert.ConformerRun.Ref

open Cert.ConformerRefIdeal Cert.ConformerRefIdeal.Gen Cert.ConformerRefIdeal.Value
open Idealize.ShloMosaic Idealize.ShloMosaic.TcCoe Idealize.SL.Sem Idealize.ShloMosaic.StableHlo
open Cert.MergeRun (squash eq_at2 eq_at3)

/-- The gated activations, one block of 64 rows after another. -/
def gated (p : S8192x16384.Idx → EReal) : FVec Ideal S128x64x2048 .f32 :=
  have s : FVec Ideal S4x2048x4096 .f32 := shapeCast _ (extractStridedSlice S8192x4096 ![0, 0] p slices_S8192x16384_S8192x4096_0_0) shapeCasts_S8192x4096_S4x2048x4096
  shapeCast _ (mulf (F := Ideal) (φ := .f32) (extractStridedSlice S4x2048x2048 ![0, 0, 0] s slices_S4x2048x4096_S4x2048x2048_0_0_0) (Host.divf (broadcastInDim S4x2048x2048 ![] bcast_S_S4x2048x2048 (constant (F := Ideal) S_ .f32 0x3F800000#32)) (addf (F := Ideal) (φ := .f32) (broadcastInDim S4x2048x2048 ![] bcast_S_S4x2048x2048 (constant (F := Ideal) S_ .f32 0x3F800000#32)) (Host.exp (Host.negf (extractStridedSlice S4x2048x2048 ![0, 0, 2048] s slices_S4x2048x4096_S4x2048x2048_0_0_2048)))))) shapeCasts_S4x2048x2048_S128x64x2048

theorem gated_apply (p : S8192x16384.Idx → EReal) (b : Fin 128) (l : Fin 64) (q : Fin 2048) :
    gated p (ix3 b l q) = gatedOf p (b.val * 64 + l.val) q := by
  have e : gated p (ix3 b l q) = p (ix2 (⟨b.val / 32 * 2048 + (b.val % 32 * 64 + l.val), by omega⟩ : Fin 8192) (⟨q.val, by omega⟩ : Fin 16384))
      * squash (p (ix2 (⟨b.val / 32 * 2048 + (b.val % 32 * 64 + l.val), by omega⟩ : Fin 8192) (⟨2048 + q.val, by omega⟩ : Fin 16384))) := by
    pointwise [gated, squash]
  have f : b.val / 32 * 2048 + (b.val % 32 * 64 + l.val) = (b.val * 64 + l.val) % 8192 := by omega
  rw [e]
  unfold gatedOf
  simp only [f]

/-- The blocks padded by 15 zero rows at each end. -/
theorem pad_rows (u : FVec Ideal S128x64x2048 .f32) (b : Fin 128) (y : Fin 94) (q : Fin 2048) :
    (pad S128x94x2048 ![0, 15, 0] ![0, 15, 0] ![0, 0, 0] u (sitofp (F := Ideal) .f32 (constantI S_ 32 0#32)) pads_S128x64x2048_S128x94x2048_000_15150_000 h_S_ : FVec Ideal S128x94x2048 .f32) (ix3 b y q)
      = if h : 15 ≤ y.val ∧ y.val < 79 then u (ix3 b (⟨y.val - 15, by omega⟩ : Fin 64) q) else 0 := by
  have hb := b.isLt
  have hq := q.isLt
  rw [pad_apply]
  by_cases h : 15 ≤ y.val ∧ y.val < 79
  · rw [dif_pos h, dif_pos (fun a => by
      match a with
      | ⟨0, _⟩ => show 0 ≤ b.val ∧ (b.val - 0) % 1 = 0 ∧ (b.val - 0) / 1 < 128; omega
      | ⟨1, _⟩ => show 15 ≤ y.val ∧ (y.val - 15) % 1 = 0 ∧ (y.val - 15) / 1 < 64; omega
      | ⟨2, _⟩ => show 0 ≤ q.val ∧ (q.val - 0) % 1 = 0 ∧ (q.val - 0) / 1 < 2048; omega)]
    refine congrArg u (eq_at3 _ _ _ _ ?_ ?_ ?_)
    · show (b.val - 0) / 1 = b.val; omega
    · show (y.val - 15) / 1 = y.val - 15; omega
    · show (q.val - 0) / 1 = q.val; omega
  · rw [dif_neg h, dif_neg (fun hin => h (by
      have h1 : 15 ≤ y.val ∧ (y.val - 15) % 1 = 0 ∧ (y.val - 15) / 1 < 64 := hin 1
      omega))]
    exact (congrArg (fun z : ℝ => (z : EReal)) Int.cast_zero)

/-- One tap: the padded rows from row `n`, times the tap's weights. -/
theorem tap_apply (x : FVec Ideal S128x94x2048 .f32) (w : FVec Ideal S31x2048 .f32) (n : ℕ) (hn : n < 31) (hs : S128x94x2048.Slices ![0, n, 0] S128x64x2048) (hw : S31x2048.Slices ![n, 0] S1x2048) (b : Fin 128) (l : Fin 64) (q : Fin 2048) :
    (mulf (F := Ideal) (φ := .f32) (extractStridedSlice S128x64x2048 ![0, n, 0] x hs) (broadcastInDim S128x64x2048 ![0, 1, 2] bcast_S1x1x2048_S128x64x2048_0_1_2 (broadcastInDim S1x1x2048 ![2] bcast_S2048_S1x1x2048_2 (shapeCast S2048 (extractStridedSlice S1x2048 ![n, 0] w hw) shapeCasts_S1x2048_S2048))) : FVec Ideal S128x64x2048 .f32) (ix3 b l q)
      = x (ix3 b (⟨(n + l.val) % 94, by omega⟩ : Fin 94) q) * w (ix2 (⟨n % 31, by omega⟩ : Fin 31) q) := by
  have hl := l.isLt
  have ex : extractStridedSlice S128x64x2048 ![0, n, 0] x hs (ix3 b l q) = x (ix3 b (⟨(n + l.val) % 94, by omega⟩ : Fin 94) q) := by
    refine congrArg x (eq_at3 _ _ _ _ ?_ ?_ ?_)
    · show 0 + b.val = b.val; omega
    · show n + l.val = (n + l.val) % 94; omega
    · show 0 + q.val = q.val; omega
  have ew : extractStridedSlice S1x2048 ![n, 0] w hw (ix2 0 q) = w (ix2 (⟨n % 31, by omega⟩ : Fin 31) q) := by
    refine congrArg w (eq_at2 _ _ _ ?_ ?_)
    · show n + 0 = n % 31; omega
    · show 0 + q.val = q.val; omega
  rw [← ex, ← ew]
  generalize extractStridedSlice S128x64x2048 ![0, n, 0] x hs = a
  generalize extractStridedSlice S1x2048 ![n, 0] w hw = d
  pointwise

theorem step (a t : FVec Ideal S128x64x2048 .f32) (f : ℕ → EReal) (n : ℕ) (i : S128x64x2048.Idx) (ha : a i = tapSum f n) (ht : t i = f n) :
    addf (F := Ideal) (φ := .f32) a t i = tapSum f (n + 1) := congrArg₂ (· + ·) ha ht

variable (V0 : Valuation τ sig (Elt Ideal))

/-- The reference's padded rows and its taps. -/
abbrev Rows : FVec Ideal S128x94x2048 .f32 := res_main_v13 V0
abbrev Wts : FVec Ideal S31x2048 .f32 := res_main_v12 V0

/-- The products of the taps, at one place. -/
def prods (b : Fin 128) (l : Fin 64) (q : Fin 2048) (n : ℕ) : EReal :=
  Rows V0 (ix3 b (⟨(n + l.val) % 94, by omega⟩ : Fin 94) q) * Wts V0 (ix2 (⟨n % 31, by omega⟩ : Fin 31) q)

theorem v91_apply (b : Fin 128) (l : Fin 64) (q : Fin 2048) : (res_main_v91 V0 : S128x64x2048.Idx → EReal) (ix3 b l q) = tapSum (prods V0 b l q) 11 := by
  unfold res_main_v91
  iterate 11 refine step _ _ (prods V0 b l q) _ _ ?_ (tap_apply (Rows V0) (Wts V0) _ (by decide) _ _ b l q)
  pointwise
  rfl

theorem v168_apply (b : Fin 128) (l : Fin 64) (q : Fin 2048) : (res_main_v168 V0 : S128x64x2048.Idx → EReal) (ix3 b l q) = tapSum (prods V0 b l q) 22 := by
  unfold res_main_v168
  iterate 11 refine step _ _ (prods V0 b l q) _ _ ?_ (tap_apply (Rows V0) (Wts V0) _ (by decide) _ _ b l q)
  exact v91_apply V0 b l q

/-- The convolved rows with their bias, back in the batch's shape. -/
def biased (y : FVec Ideal S128x64x2048 .f32) (cb : S1x2048.Idx → EReal) : FVec Ideal S4x2048x2048 .f32 :=
  shapeCast _ (addf (F := Ideal) (φ := .f32) y (broadcastInDim S128x64x2048 ![0, 1, 2] bcast_S1x1x2048_S128x64x2048_0_1_2 (broadcastInDim S1x1x2048 ![2] bcast_S2048_S1x1x2048_2 (shapeCast S2048 cb shapeCasts_S1x2048_S2048)))) shapeCasts_S128x64x2048_S4x2048x2048

theorem biased_apply (y : FVec Ideal S128x64x2048 .f32) (cb : S1x2048.Idx → EReal) (b : Fin 4) (s q : Fin 2048) :
    biased y cb (ix3 b s q) = y (ix3 (⟨b.val * 32 + s.val / 64, by omega⟩ : Fin 128) (⟨s.val % 64, by omega⟩ : Fin 64) q) + cb (ix2 0 q) := by
  pointwise [biased]

theorem v236_apply (b : Fin 4) (s q : Fin 2048) : (res_main_v236 V0 : S4x2048x2048.Idx → EReal) (ix3 b s q)
    = tapSum (prods V0 (⟨b.val * 32 + s.val / 64, by omega⟩ : Fin 128) (⟨s.val % 64, by omega⟩ : Fin 64) q) 31 + (V0 (Proc.devRef .tc main_arg2) : S1x2048.Idx → EReal) (ix2 0 q) := by
  unfold res_main_v236
  refine (biased_apply _ (V0 (Proc.devRef .tc main_arg2)) b s q).trans (congrArg₂ (· + ·) ?_ rfl)
  iterate 9 refine step _ _ (prods V0 _ _ q) _ _ ?_ (tap_apply (Rows V0) (Wts V0) _ (by decide) _ _ _ _ q)
  exact v168_apply V0 _ _ q

/-- The norm as the reference's lines compute it. -/
def normed (x : FVec Ideal S4x2048x2048 .f32) (g b : S1x2048.Idx → EReal) : FVec Ideal S4x2048x2048 .f32 :=
  have mu : FVec Ideal S4x2048x1 .f32 := Host.divf (broadcastInDim S4x2048x1 ![0, 1] bcast_S4x2048_S4x2048x1_0_1 (Host.reduceAdd x (constant (F := Ideal) S_ .f32 0x00000000#32) reducesTo_S4x2048x2048_S4x2048_d2 h_S_)) (broadcastInDim S4x2048x1 ![] bcast_S_S4x2048x1 (constant (F := Ideal) S_ .f32 0x45000000#32))
  have d : FVec Ideal S4x2048x2048 .f32 := subf (F := Ideal) (φ := .f32) x (broadcastInDim S4x2048x2048 ![0, 1, 2] bcast_S4x2048x1_S4x2048x2048_0_1_2 mu)
  addf (F := Ideal) (φ := .f32) (mulf (F := Ideal) (φ := .f32) (mulf (F := Ideal) (φ := .f32) d (broadcastInDim S4x2048x2048 ![0, 1, 2] bcast_S4x2048x1_S4x2048x2048_0_1_2 (Host.rsqrt (addf (F := Ideal) (φ := .f32) (Host.divf (broadcastInDim S4x2048x1 ![0, 1] bcast_S4x2048_S4x2048x1_0_1 (Host.reduceAdd (mulf (F := Ideal) (φ := .f32) d d) (constant (F := Ideal) S_ .f32 0x00000000#32) reducesTo_S4x2048x2048_S4x2048_d2 h_S_)) (broadcastInDim S4x2048x1 ![] bcast_S_S4x2048x1 (constant (F := Ideal) S_ .f32 0x45000000#32))) (broadcastInDim S4x2048x1 ![] bcast_S_S4x2048x1 (constant (F := Ideal) S_ .f32 0x358637BD#32)))))) (broadcastInDim S4x2048x2048 ![0, 1, 2] bcast_S1x1x2048_S4x2048x2048_0_1_2 (broadcastInDim S1x1x2048 ![2] bcast_S2048_S1x1x2048_2 (shapeCast S2048 g shapeCasts_S1x2048_S2048)))) (broadcastInDim S4x2048x2048 ![0, 1, 2] bcast_S1x1x2048_S4x2048x2048_0_1_2 (broadcastInDim S1x1x2048 ![2] bcast_S2048_S1x1x2048_2 (shapeCast S2048 b shapeCasts_S1x2048_S2048)))

theorem normed_apply (x : FVec Ideal S4x2048x2048 .f32) (g b : S1x2048.Idx → EReal) (a : Fin 4) (s q : Fin 2048) :
    normed x g b (ix3 a s q) = norm (fun j => x (ix3 a s j)) q * g (ix2 0 q) + b (ix2 0 q) := by
  pointwise [normed, norm, mean]

/-- The unit and the output product. -/
def last (x : FVec Ideal S4x2048x2048 .f32) (w : S1x2048x2048.Idx → EReal) : FVec Ideal S8192x2048 .f32 :=
  shapeCast _ (Host.dotGeneral (F := Ideal) (φ₁ := .f32) (φ₂ := .f32) dot_S4x2048x2048_S2048x2048_S4x2048x2048_2_0_01_1_n_n none (mulf (F := Ideal) (φ := .f32) x (Host.divf (broadcastInDim S4x2048x2048 ![] bcast_S_S4x2048x2048 (constant (F := Ideal) S_ .f32 0x3F800000#32)) (addf (F := Ideal) (φ := .f32) (broadcastInDim S4x2048x2048 ![] bcast_S_S4x2048x2048 (constant (F := Ideal) S_ .f32 0x3F800000#32)) (Host.exp (Host.negf x))))) (shapeCast S2048x2048 w shapeCasts_S1x2048x2048_S2048x2048)) shapeCasts_S4x2048x2048_S8192x2048

theorem last_apply (x : FVec Ideal S4x2048x2048 .f32) (w : S1x2048x2048.Idx → EReal) (r : Fin 8192) (q : Fin 2048) :
    last x w (ix2 r q) = ∑ k : Fin 2048, swish (x (ix3 (⟨r.val / 2048, by omega⟩ : Fin 4) (⟨r.val % 2048, by omega⟩ : Fin 2048) k)) * w (ix3 0 k q) := by
  pointwise [last, swish, squash]

theorem v13_apply (b : Fin 128) (y : Fin 94) (q : Fin 2048) :
    Rows V0 (ix3 b y q) = if 15 ≤ y.val ∧ y.val < 79 then gatedOf (V0 (Proc.devRef .tc main_arg0)) (b.val * 64 + (y.val - 15)) q else 0 := by
  refine (pad_rows (gated (V0 (Proc.devRef .tc main_arg0))) b y q).trans ?_
  by_cases h : 15 ≤ y.val ∧ y.val < 79
  · rw [dif_pos h, if_pos h, gated_apply]
  · rw [dif_neg h, if_neg h]

theorem v12_apply (n : Fin 31) (q : Fin 2048) : Wts V0 (ix2 n q) = (V0 (Proc.devRef .tc main_arg1) : S1x31x2048.Idx → EReal) (ix3 0 n q) := by
  unfold Wts res_main_v12
  generalize V0 (Proc.devRef .tc main_arg1) = g
  pointwise

/-- The reference's convolution is the kernel's. -/
theorem prods_sum (r : Fin 8192) (q : Fin 2048) (hb : r.val / 2048 * 32 + r.val % 2048 / 64 < 128) (hl : r.val % 2048 % 64 < 64) :
    tapSum (prods V0 ⟨r.val / 2048 * 32 + r.val % 2048 / 64, hb⟩ ⟨r.val % 2048 % 64, hl⟩ q) 31
      = convOf (V0 (Proc.devRef .tc main_arg0)) (V0 (Proc.devRef .tc main_arg1)) r q := by
  have e : r.val / 2048 * 32 + r.val % 2048 / 64 = r.val / 64 := by omega
  have e' : r.val % 2048 % 64 = r.val % 64 := by omega
  simp only [e, e']
  unfold convOf convRow
  refine tapSum_congr _ _ _ fun n hn => congrArg₂ (· * ·) ((v13_apply V0 _ _ q).trans ?_) (v12_apply V0 _ q)
  have f : (n + r.val % 64) % 94 = n + r.val % 64 := Nat.mod_eq_of_lt (by omega)
  simp only [f]

/-- The reference's lines, read at one token and feature. -/
theorem out_apply (r : Fin 8192) (q : Fin 2048) : last (res_main_v262 V0) (V0 (Proc.devRef .tc main_arg5)) (ix2 r q)
    = result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (ix2 r q) := by
  rw [last_apply]
  unfold result rowOf
  refine Finset.sum_congr rfl fun k _ => congrArg₂ (· * ·) (congrArg swish ?_) rfl
  refine (normed_apply (res_main_v236 V0) (V0 (Proc.devRef .tc main_arg3)) (V0 (Proc.devRef .tc main_arg4)) _ _ k).trans ?_
  refine congrArg₂ (· + ·) (congrArg₂ (· * ·) (congrArg (fun v => norm v k) (funext fun j => ?_)) rfl) rfl
  refine (v236_apply V0 _ _ j).trans (congrArg₂ (· + ·) ?_ rfl)
  exact prods_sum V0 r j _ _

/-- The reference's run: the conformer's output, and every argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v266) = result (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (funext fun i => by
    obtain ⟨r, k, rfl⟩ : ∃ (r : Fin 8192) (k : Fin 2048), i = ix2 r k := ⟨i 0, i 1, eq_ix2 i⟩
    exact out_apply (launchContents m c) r k), (h c).2⟩) (Cert.ConformerRefIdeal.Value.run m ρ)

end Cert.ConformerRun.Ref

end
-- ==== Proof.Tables.Value.lean ====
/- What the call that prepares the experts' tables computes: one table narrowed, the other narrowed and transposed, as a
   function of the arguments, and the reference's. -/
module

public import proofs.«01_k».proof.Defs
public import proofs.«01_k».proof.Proof.Gen.TablesIdeal.Value
public import proofs.«01_k».proof.Proof.Gen.TablesRefIdeal.Run
public import Idealize.ShloMosaic.Lib.Pipeline.ValueKit
public import Idealize.ShloMosaic.Lib.Pipeline.Value
public import Idealize.ShloMosaic.Lib.Pointwise

@[expose] public section

set_option maxRecDepth 16384

noncomputable section

namespace Cert.TablesRun

open Cert.TablesIdeal Cert.TablesIdeal.Gen
open Idealize.ShloMosaic Idealize.ShloMosaic.TcCoe Idealize.SL.Sem
open Idealize.ShloMosaic.Pipeline (Dat)

/-- The table of the experts' input rows. -/
def rowsOf (u : S1x16384x2048.Idx → EReal) : S16384x2048.Idx → EReal := fun i => u (ix3 0 (i 0) (i 1))

/-- The table of the experts' output rows, transposed. -/
def colsOf (v : S1x16384x2048.Idx → EReal) : S2048x16384.Idx → EReal := fun i => v (ix3 0 (i 1) (i 0))

theorem rowsOf_apply (u : S1x16384x2048.Idx → EReal) (e : Fin 16384) (k : Fin 2048) : rowsOf u (ix2 e k) = u (ix3 0 e k) := rfl
theorem colsOf_apply (v : S1x16384x2048.Idx → EReal) (e : Fin 16384) (k : Fin 2048) : colsOf v (ix2 k e) = v (ix3 0 e k) := rfl

theorem pay1_apply (x : Vec Ideal S512x2048 .f32) (r : Fin 512) (k : Fin 2048) : k0_pay1 x (ix2 r k) = x (ix2 r k) := by
  pointwise [k0_pay1]

theorem pay2_apply (x : Vec Ideal S512x2048 .f32) (r : Fin 512) (k : Fin 2048) : k0_pay2 x (ix2 k r) = x (ix2 r k) := by
  pointwise [k0_pay2]

/-- What the body leaves in its output blocks. -/
theorem out_2 (x y : Vec Ideal S512x2048 .f32) : out0_2 x y = k0_pay1 x := by
  have e0 : View.ld x r0_0 = x := View.ld_unit_lit _ _ (by decide)
  unfold out0_2
  rw [e0]
  exact View.canon_cons_unit_lit _ _ _ (by decide)

theorem out_3 (x y : Vec Ideal S512x2048 .f32) : out0_3 x y = k0_pay2 y := by
  have e0 : View.ld y r0_0 = y := View.ld_unit_lit _ _ (by decide)
  unfold out0_3
  rw [e0]
  exact View.canon_cons_unit_lit _ _ _ (by decide)

variable (m : (ℓ : Loc nD τ sig) → Buf (Elt Ideal) ℓ) (ρ : Dev nD → PrngReg)

/-- The arguments as launched. -/
abbrev U (c : Dev nD) : S1x16384x2048.Idx → EReal := m ((c : Thread nD τ).loc main_arg0)
abbrev W (c : Dev nD) : S1x16384x2048.Idx → EReal := m ((c : Thread nD τ).loc main_arg1)

theorem V_v0 (c : Dev nD) (e : Fin 16384) (k : Fin 2048) : V m c main_v0 (ix2 e k) = U m c (ix3 0 e k) := by
  have h : V m c main_v0 = shapeCast S16384x2048 (U m c) shapeCasts_S1x16384x2048_S16384x2048 := by
    unfold V; after_results <;> rfl
  rw [h]
  pointwise

theorem V_v1 (c : Dev nD) (e : Fin 16384) (k : Fin 2048) : V m c main_v1 (ix2 e k) = W m c (ix3 0 e k) := by
  have h : V m c main_v1 = shapeCast S16384x2048 (W m c) shapeCasts_S1x16384x2048_S16384x2048 := by
    unfold V; after_results <;> rfl
  rw [h]
  pointwise

/-- Where each window's block begins. -/
theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = t.val ∧ win0_1.index t 1 = 0 :=
  (by decide +kernel : ∀ t : Fin grid0.N, win0_1.index t 0 = t.val ∧ win0_1.index t 1 = 0)
theorem idx_2 : ∀ t : Fin cfg0.N, win0_2.index t 0 = t.val ∧ win0_2.index t 1 = 0 :=
  (by decide +kernel : ∀ t : Fin grid0.N, win0_2.index t 0 = t.val ∧ win0_2.index t 1 = 0)
theorem idx_3 : ∀ t : Fin cfg0.N, win0_3.index t 0 = 0 ∧ win0_3.index t 1 = t.val :=
  (by decide +kernel : ∀ t : Fin grid0.N, win0_3.index t 0 = 0 ∧ win0_3.index t 1 = t.val)

theorem lt_N (t : Fin cfg0.N) : t.val < 32 := Nat.lt_of_lt_of_eq t.isLt N_0

theorem iblk_0 (c : Dev nD) (t : Fin cfg0.N) (r : Fin 512) (k : Fin 2048) (h : 512 * t.val + r.val < 16384) :
    (iblk m c 0 t : Vec Ideal S512x2048 .f32) (ix2 r k) = U m c (ix3 0 ⟨512 * t.val + r.val, h⟩ k) := by
  rw [← V_v0]
  unfold iblk
  rw [View.read_apply]
  show V m c main_v0 _ = _
  congr 1
  funext a
  apply Fin.ext
  match a with
  | ⟨0, _⟩ => show win0_0.index t 0 * 512 + 1 * r.val = 512 * t.val + r.val; rw [(idx_0 t).1]; omega
  | ⟨1, _⟩ => show win0_0.index t 1 * 2048 + 1 * k.val = k.val; rw [(idx_0 t).2]; omega

theorem iblk_1 (c : Dev nD) (t : Fin cfg0.N) (r : Fin 512) (k : Fin 2048) (h : 512 * t.val + r.val < 16384) :
    (iblk m c 1 t : Vec Ideal S512x2048 .f32) (ix2 r k) = W m c (ix3 0 ⟨512 * t.val + r.val, h⟩ k) := by
  rw [← V_v1]
  unfold iblk
  rw [View.read_apply]
  show V m c main_v1 _ = _
  congr 1
  funext a
  apply Fin.ext
  match a with
  | ⟨0, _⟩ => show win0_1.index t 0 * 512 + 1 * r.val = 512 * t.val + r.val; rw [(idx_1 t).1]; omega
  | ⟨1, _⟩ => show win0_1.index t 1 * 2048 + 1 * k.val = k.val; rw [(idx_1 t).2]; omega

theorem flushed_2 (c : Dev nD) (t : Fin cfg0.N) :
    (dats m 0 c).flushed 2 t = ((cfg0.win 2).blk t).view.read (Elt Ideal) (rowsOf (U m c)) := by
  show (cfg0.win 2).cut (grid0.coords t) ((dats m 0 c).after 2 t) = _
  rw [after0_2, out_2]
  funext j
  rw [View.read_apply]
  have ht := lt_N t
  obtain ⟨r, k, rfl⟩ : ∃ (r : Fin 512) (k : Fin 2048), j = ix2 r k := ⟨j 0, j 1, eq_ix2 j⟩
  have hr : 512 * t.val + r.val < 16384 := by omega
  show k0_pay1 (iblk m c 0 t) (ix2 r k) = _
  rw [show (((cfg0.win 2).blk t).view.emb (ix2 r k) : S16384x2048.Idx) = ix2 ⟨512 * t.val + r.val, hr⟩ k from by
    funext a
    apply Fin.ext
    match a with
    | ⟨0, _⟩ => show win0_2.index t 0 * 512 + 1 * r.val = 512 * t.val + r.val; rw [(idx_2 t).1]; omega
    | ⟨1, _⟩ => show win0_2.index t 1 * 2048 + 1 * k.val = k.val; rw [(idx_2 t).2]; omega]
  rw [pay1_apply, rowsOf_apply]
  exact iblk_0 m c t r k hr

theorem flushed_3 (c : Dev nD) (t : Fin cfg0.N) :
    (dats m 0 c).flushed 3 t = ((cfg0.win 3).blk t).view.read (Elt Ideal) (colsOf (W m c)) := by
  show (cfg0.win 3).cut (grid0.coords t) ((dats m 0 c).after 3 t) = _
  rw [after0_3, out_3]
  funext j
  rw [View.read_apply]
  have ht := lt_N t
  obtain ⟨k, r, rfl⟩ : ∃ (k : Fin 2048) (r : Fin 512), j = ix2 k r := ⟨j 0, j 1, eq_ix2 j⟩
  have hr : 512 * t.val + r.val < 16384 := by omega
  show k0_pay2 (iblk m c 1 t) (ix2 k r) = _
  rw [show (((cfg0.win 3).blk t).view.emb (ix2 k r) : S2048x16384.Idx) = ix2 k ⟨512 * t.val + r.val, hr⟩ from by
    funext a
    apply Fin.ext
    match a with
    | ⟨0, _⟩ => show win0_3.index t 0 * 2048 + 1 * k.val = k.val; rw [(idx_3 t).1]; omega
    | ⟨1, _⟩ => show win0_3.index t 1 * 512 + 1 * r.val = 512 * t.val + r.val; rw [(idx_3 t).2]; omega]
  rw [pay2_apply, colsOf_apply]
  exact iblk_1 m c t r k hr

theorem final_2 (c : Dev nD) : (dats m 0 c).arrAt 2 cfg0.N = rowsOf (U m c) :=
  (dats m 0 c).arrAt_eq_of_cover 2 _ (fun t _ => flushed_2 m c t) fun i => by
    have h0 : (i 0 : Nat) < 16384 := (i 0).isLt
    have h1 : (i 1 : Nat) < 2048 := (i 1).isLt
    have ht : (i 0 : Nat) / 512 < cfg0.N := by rw [show cfg0.N = 32 from N_0]; omega
    refine ⟨⟨(i 0 : Nat) / 512, ht⟩, flush0_2 _, ?_⟩
    show i ∈ ((View.whole main_v2_0).slice (win0_2.rect ⟨(i 0 : Nat) / 512, ht⟩)).set
    rw [View.set_slice_whole, Rect.mem_set_unit]
    have hi := idx_2 ⟨(i 0 : Nat) / 512, ht⟩
    dsimp only at hi
    intro a
    match a with
    | ⟨0, _⟩ => show win0_2.index ⟨_, ht⟩ 0 * 512 ≤ (i 0 : Nat) ∧ (i 0 : Nat) < win0_2.index ⟨_, ht⟩ 0 * 512 + 512
                rw [hi.1]; omega
    | ⟨1, _⟩ => show win0_2.index ⟨_, ht⟩ 1 * 2048 ≤ (i 1 : Nat) ∧ (i 1 : Nat) < win0_2.index ⟨_, ht⟩ 1 * 2048 + 2048
                rw [hi.2]; omega

theorem final_3 (c : Dev nD) : (dats m 0 c).arrAt 3 cfg0.N = colsOf (W m c) :=
  (dats m 0 c).arrAt_eq_of_cover 3 _ (fun t _ => flushed_3 m c t) fun i => by
    have h0 : (i 0 : Nat) < 2048 := (i 0).isLt
    have h1 : (i 1 : Nat) < 16384 := (i 1).isLt
    have ht : (i 1 : Nat) / 512 < cfg0.N := by rw [show cfg0.N = 32 from N_0]; omega
    refine ⟨⟨(i 1 : Nat) / 512, ht⟩, flush0_3 _, ?_⟩
    show i ∈ ((View.whole main_v2_1).slice (win0_3.rect ⟨(i 1 : Nat) / 512, ht⟩)).set
    rw [View.set_slice_whole, Rect.mem_set_unit]
    have hi := idx_3 ⟨(i 1 : Nat) / 512, ht⟩
    dsimp only at hi
    intro a
    match a with
    | ⟨0, _⟩ => show win0_3.index ⟨_, ht⟩ 0 * 2048 ≤ (i 0 : Nat) ∧ (i 0 : Nat) < win0_3.index ⟨_, ht⟩ 0 * 2048 + 2048
                rw [hi.1]; omega
    | ⟨1, _⟩ => show win0_3.index ⟨_, ht⟩ 1 * 512 ≤ (i 1 : Nat) ∧ (i 1 : Nat) < win0_3.index ⟨_, ht⟩ 1 * 512 + 512
                rw [hi.2]; omega

/-- The run read: both tables, and the arguments unchanged. -/
theorem run : θ_run defs (onTc (τ := τ) (main (F := Ideal))) ⟨m, fun _ => 0, ρ⟩ fun r => ∀ c : Dev nD,
      r.2.mem ((c : Thread nD τ).loc main_v2_0) = rowsOf (U m c)
      ∧ r.2.mem ((c : Thread nD τ).loc main_v2_1) = colsOf (W m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_2 m c), (h c).2.1.trans (final_3 m c), (h c).2.2⟩)
    (Cert.TablesIdeal.Value.run_blocks m ρ)

end Cert.TablesRun

/-! ## The reference -/

namespace Cert.TablesRun.Ref

open Cert.TablesRefIdeal Cert.TablesRefIdeal.Gen
open Idealize.ShloMosaic Idealize.ShloMosaic.TcCoe Idealize.SL.Sem

theorem rows_apply (u : S1x16384x2048.Idx → EReal) (e : Fin 16384) (k : Fin 2048) :
    (truncf (F := Ideal) (φ := .f32) .bf16 (shapeCast _ u shapeCasts_S1x16384x2048_S16384x2048) bitsLt_bf16_f32 : S16384x2048.Idx → EReal) (ix2 e k) = rowsOf u (ix2 e k) := by
  rw [rowsOf_apply]
  pointwise

theorem cols_apply (v : S1x16384x2048.Idx → EReal) (e : Fin 16384) (k : Fin 2048) :
    (truncf (F := Ideal) (φ := .f32) .bf16 (transpose S2048x16384 [1, 0] (shapeCast _ v shapeCasts_S1x16384x2048_S16384x2048) transposes_S16384x2048_S2048x16384_1_0) bitsLt_bf16_f32 : S2048x16384.Idx → EReal) (ix2 k e) = colsOf v (ix2 k e) := by
  rw [colsOf_apply]
  pointwise

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = rowsOf (m ((c : Thread nD τ).loc main_arg0))
      ∧ r.2.mem ((c : Thread nD τ).loc main_v4) = colsOf (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (funext fun i => by
      obtain ⟨e, k, rfl⟩ : ∃ (e : Fin 16384) (k : Fin 2048), i = ix2 e k := ⟨i 0, i 1, eq_ix2 i⟩
      exact rows_apply _ e k), (h c).2.1.trans (funext fun i => by
      obtain ⟨k, e, rfl⟩ : ∃ (k : Fin 2048) (e : Fin 16384), i = ix2 k e := ⟨i 0, i 1, eq_ix2 i⟩
      exact cols_apply _ e k), (h c).2.2⟩)
    (Cert.TablesRefIdeal.Value.run m ρ)

end Cert.TablesRun.Ref

end
-- ==== Proof.Prep.Body.lean ====
/- The short convolution and the head norms, as functions of rows and taps, and how the calls' bodies read their padded
   rows. Shared by the call over the latent tokens and the call over the context. -/
module

public import proofs.«01_k».proof.Proof.Conformer.Taps
public import proofs.«01_k».proof.Proof.Conformer.Block
public import proofs.«01_k».proof.Proof.Gen.PrepCtxIdeal.Skeleton
public import Idealize.ShloMosaic.Lib.WritesUnit
public import Idealize.ShloMosaic.Lib.IdealHost

@[expose] public section

set_option maxRecDepth 16384

noncomputable section

namespace Cert.PrepRun

open Cert.PrepCtxIdeal Cert.PrepCtxIdeal.Gen
open Idealize.ShloMosaic Idealize.ShloMosaic.TcCoe Idealize.SL.Sem
open Cert.MergeRun (squash eq_at2 eq_at3)
open Cert.ConformerRun (swish tapSum tapSum_congr)

/-- Entry `i` of a column with two zeros before its first entry and zeros after its last. -/
def rowAt {L : ℕ} (x : Fin L → EReal) (i : ℕ) : EReal := if h : 2 ≤ i ∧ i < L + 2 then x ⟨i - 2, by omega⟩ else 0

/-- The five taps at row `s` of a column. -/
def conv {L : ℕ} (x : Fin L → EReal) (w : Fin 5 → EReal) (s : ℕ) : EReal :=
  tapSum (fun n => rowAt x (n + s) * w ⟨n % 5, Nat.mod_lt _ (by decide)⟩) 5

/-- Feature `d` of a head whose convolved features are `f`, scaled to unit length. -/
def head (f : Fin 128 → EReal) (d : Fin 128) : EReal :=
  swish (f d) * Ideal.rsqrt ((∑ j : Fin 128, swish (f j) * swish (f j)) + Ideal.ofBits FTy.f32 897988541#32)

/-- The queries' scale. -/
def scale : EReal := (((Real.sqrt 128)⁻¹ : ℝ) : EReal)

/-- Rows from row `o` of the padded rows. -/
def tap {L : ℕ} (x : (⟨2, ![L, 128]⟩ : Shape).Idx → EReal) (o : ℕ) : Vec Ideal S256x128 .f32 := fun j =>
  rowAt (fun s => x (ix2 s (j 1))) (o + (j 0).val - 6)

/-- One tap's weights. -/
def wrow (w : Vec Ideal S8x128 .f32) (n : ℕ) : Vec Ideal S1x128 .f32 := fun j => w (ix2 (⟨n % 8, by omega⟩ : Fin 8) (j 1))

/-- The convolution of a block's column. -/
def colConv {L : ℕ} (x : (⟨2, ![L, 128]⟩ : Shape).Idx → EReal) (w : Vec Ideal S8x128 .f32) (s : ℕ) (j : Fin 128) : EReal :=
  conv (fun r => x (ix2 r j)) (fun n => w (ix2 (⟨n.val, by omega⟩ : Fin 8) j)) s

/-- What a body leaves in its blocks of queries, keys and values. -/
def qBlock {L : ℕ} (x : (⟨2, ![L, 128]⟩ : Shape).Idx → EReal) (w : Vec Ideal S8x128 .f32) : (⟨3, ![1, L, 128]⟩ : Shape).Idx → EReal :=
  fun y => head (colConv x w (y 1).val) (y 2) * scale
def kBlock {L : ℕ} (x : (⟨2, ![L, 128]⟩ : Shape).Idx → EReal) (w : Vec Ideal S8x128 .f32) : (⟨3, ![1, L, 128]⟩ : Shape).Idx → EReal :=
  fun y => head (colConv x w (y 1).val) (y 2)
def vBlock {L : ℕ} (x : (⟨2, ![L, 128]⟩ : Shape).Idx → EReal) (w : Vec Ideal S8x128 .f32) : (⟨3, ![1, L, 128]⟩ : Shape).Idx → EReal :=
  fun y => swish (colConv x w (y 1).val (y 2))

/-- The scratch after the rows and the zeros at both ends are stored, whatever it held. -/
theorem filled {sig : RefSig} {M L E : ℕ} (hM : M = L + 16) (hE : E = L + 8) (v : View sig .tc .vmem (⟨2, ![M, 128]⟩ : Shape) .f32) (f : v.ty.Contents (Elt Ideal))
    (x : (⟨2, ![L, 128]⟩ : Shape).Idx → EReal) (z z' : (⟨2, ![8, 128]⟩ : Shape).Idx → EReal) (hz : ∀ i, z i = 0) (hz' : ∀ i, z' i = 0)
    (i8 : ∀ a, (![8, 0] : Fin 2 → ℕ) a + (![L, 128] : Fin 2 → ℕ) a ≤ (![M, 128] : Fin 2 → ℕ) a)
    (iE : ∀ a, (![E, 0] : Fin 2 → ℕ) a + (![8, 128] : Fin 2 → ℕ) a ≤ (![M, 128] : Fin 2 → ℕ) a)
    (i0 : ∀ a, (![0, 0] : Fin 2 → ℕ) a + (![8, 128] : Fin 2 → ℕ) a ≤ (![M, 128] : Fin 2 → ℕ) a)
    (rest : List (View.Piece (Elt Ideal) (⟨2, ![M, 128]⟩ : Shape) .f32)) (y : (⟨2, ![M, 128]⟩ : Shape).Idx) :
    v.read (Elt Ideal) (v.writes (Elt Ideal) f (⟨Rect.unit (s := ⟨2, ![M, 128]⟩) ![8, 0] ![L, 128] i8, x⟩ :: ⟨Rect.unit (s := ⟨2, ![M, 128]⟩) ![E, 0] ![8, 128] iE, z'⟩ :: ⟨Rect.unit (s := ⟨2, ![M, 128]⟩) ![0, 0] ![8, 128] i0, z⟩ :: rest)) y
      = rowAt (fun s => x (ix2 s (y 1))) ((y 0).val - 6) := by
  have hy : (y 0).val < M := (y 0).isLt
  unfold rowAt
  by_cases h : 8 ≤ (y 0).val ∧ (y 0).val < L + 8
  · rw [View.read_writes_cons_rows_of_mem v f (o := 8) i8 x _ y (ix2 (⟨(y 0).val - 8, by omega⟩ : Fin L) (y 1)) rfl (by show (y 0).val = 8 + ((y 0).val - 8); omega) rfl,
      dif_pos (by omega)]
    refine congrArg x (eq_at2 _ _ _ ?_ rfl)
    show (y 0).val - 8 = (y 0).val - 6 - 2; omega
  · rw [View.read_writes_cons_rows_of_not_mem v f (o := 8) (W := L) i8 x _ y rfl rfl (by omega), dif_neg (by omega)]
    by_cases h' : (y 0).val < 8
    · rw [View.read_writes_cons_rows_of_not_mem v f (o := E) (W := 8) iE z' _ y rfl rfl (by omega),
        View.read_writes_cons_rows_of_mem v f (o := 0) i0 z _ y (ix2 (⟨(y 0).val, by omega⟩ : Fin 8) (y 1)) rfl (by show (y 0).val = 0 + (y 0).val; omega) rfl]
      exact hz _
    · rw [View.read_writes_cons_rows_of_mem v f (o := E) iE z' _ y (ix2 (⟨(y 0).val - E, by omega⟩ : Fin 8) (y 1)) rfl (by show (y 0).val = E + ((y 0).val - E); omega) rfl]
      exact hz' _

/-- A read of 256 of the padded rows. -/
theorem load_tap {sig : RefSig} {M L : ℕ} (v : View sig .tc .vmem (⟨2, ![M, 128]⟩ : Shape) .f32) (x : (⟨2, ![L, 128]⟩ : Shape).Idx → EReal)
    (P : List (View.Piece (Elt Ideal) (⟨2, ![M, 128]⟩ : Shape) .f32)) (hP : ∀ y, v.read (Elt Ideal) (v.writes (Elt Ideal) v.junk P) y = rowAt (fun s => x (ix2 s (y 1))) ((y 0).val - 6))
    (o : ℕ) (inb : ∀ a, (![o, 0] : Fin 2 → ℕ) a + (![256, 128] : Fin 2 → ℕ) a ≤ (![M, 128] : Fin 2 → ℕ) a) :
    v.readCov P (Rect.unit (s := ⟨2, ![M, 128]⟩) ![o, 0] ![256, 128] inb).toLoadRect = tap x o := by
  funext j
  refine (hP _).trans ?_
  unfold tap
  have e0 : o + 1 * (j 0).val - 6 = o + (j 0).val - 6 := by omega
  have e1 : (⟨0 + 1 * (j 1).val, by have := (j 1).isLt; show 0 + 1 * (j 1).val < 128; have h : (j 1).val < 128 := (j 1).isLt; omega⟩ : Fin 128) = j 1 := Fin.ext (by show 0 + 1 * (j 1).val = (j 1).val; omega)
  show rowAt (fun s => x (ix2 s (⟨0 + 1 * (j 1).val, _⟩ : Fin 128))) (o + 1 * (j 0).val - 6) = _
  rw [e0, e1]

/-- A read of one tap's weights. -/
theorem load_wrow {sig : RefSig} (v : Memref sig .tc .vmem (⟨2, ![8, 128]⟩ : Shape) .f32) (hv : v.IsWhole) (w : Vec Ideal S8x128 .f32) (n : ℕ) (hn : n < 8)
    (inb : ∀ a, (![n, 0] : Fin 2 → ℕ) a + (![1, 128] : Fin 2 → ℕ) a ≤ (![8, 128] : Fin 2 → ℕ) a) :
    View.readAt (Elt Ideal) v.view (Rect.unit (s := ⟨2, ![8, 128]⟩) ![n, 0] ![1, 128] inb).toLoadRect (hv.unread w) = wrow w n := by
  funext j
  show v.view.read (Elt Ideal) (hv.unread w) _ = _
  rw [hv.read_unread]
  refine congrArg w (eq_at2 _ _ _ ?_ ?_)
  · have h0 : (j 0).val < 1 := (j 0).isLt
    show n + 1 * (j 0).val = n % 8; omega
  · show 0 + 1 * (j 1).val = (j 1).val; omega

/-- A read of a whole block. -/
theorem load_block {sig : RefSig} {L : ℕ} (v : Memref sig .tc .vmem (⟨2, ![L, 128]⟩ : Shape) .f32) (hv : v.IsWhole) (x : (⟨2, ![L, 128]⟩ : Shape).Idx → EReal)
    (inb : ∀ a, (![0, 0] : Fin 2 → ℕ) a + (![L, 128] : Fin 2 → ℕ) a ≤ (![L, 128] : Fin 2 → ℕ) a) :
    View.readAt (Elt Ideal) v.view (Rect.unit (s := ⟨2, ![L, 128]⟩) ![0, 0] ![L, 128] inb).toLoadRect (hv.unread x) = x := by
  funext j
  show v.view.read (Elt Ideal) (hv.unread x) _ = _
  rw [hv.read_unread]
  refine (congrArg x (eq_at2 _ (j 0) (j 1) ?_ ?_)).trans (congrArg x (eq_at2 _ _ _ rfl rfl).symm)
  · show 0 + 1 * (j 0).val = (j 0).val; omega
  · show 0 + 1 * (j 1).val = (j 1).val; omega

/-- The five products added from zero. -/
def sum5 (a0 a1 a2 a3 a4 : Vec Ideal S256x128 .f32) (b0 b1 b2 b3 b4 : Vec Ideal S1x128 .f32) (r : Fin 256) (j : Fin 128) : EReal :=
  0 + a0 (ix2 r j) * b0 (ix2 0 j) + a1 (ix2 r j) * b1 (ix2 0 j) + a2 (ix2 r j) * b2 (ix2 0 j) + a3 (ix2 r j) * b3 (ix2 0 j) + a4 (ix2 r j) * b4 (ix2 0 j)

theorem sum5_eq {L : ℕ} (x : (⟨2, ![L, 128]⟩ : Shape).Idx → EReal) (w : Vec Ideal S8x128 .f32) (o s : ℕ) (r : Fin 256) (j : Fin 128) (hs : o + r.val = 6 + s) :
    sum5 (tap x o) (tap x (o + 1)) (tap x (o + 2)) (tap x (o + 3)) (tap x (o + 4)) (wrow w 0) (wrow w 1) (wrow w 2) (wrow w 3) (wrow w 4) r j = colConv x w s j := by
  have e : ∀ n, tap x (o + n) (ix2 r j) = rowAt (fun s => x (ix2 s j)) (n + s) := fun n => by
    show rowAt (fun s => x (ix2 s j)) (o + n + r.val - 6) = _
    congr 1; omega
  unfold sum5 colConv conv
  rw [show tap x o = tap x (o + 0) from rfl, e, e, e, e, e]
  rfl

/-- The body's arithmetic on five blocks of rows and five rows of weights. -/
def qPay (a0 a1 a2 a3 a4 : Vec Ideal S256x128 .f32) (b0 b1 b2 b3 b4 : Vec Ideal S1x128 .f32) : FVec Ideal S1x256x128 .bf16 := k0_pay7 (k0_pay6 a0 b0 a1 b1 a2 b2) a3 b3 a4 b4
def kPay (a0 a1 a2 a3 a4 : Vec Ideal S256x128 .f32) (b0 b1 b2 b3 b4 : Vec Ideal S1x128 .f32) : FVec Ideal S1x256x128 .bf16 := k0_pay13 (k0_pay11 a0 b0 a1 b1 a2 b2 a3 b3) a4 (k0_pay12 b4)
def vPay (a0 a1 a2 a3 a4 : Vec Ideal S256x128 .f32) (b0 b1 b2 b3 b4 : Vec Ideal S1x128 .f32) : FVec Ideal S1x256x128 .bf16 := k0_pay1 (k0_pay18 k0_pay17 a0 b0 a1 b1 a2 b2 a3 b3 a4 b4)

theorem qPay_apply (a0 a1 a2 a3 a4 : Vec Ideal S256x128 .f32) (b0 b1 b2 b3 b4 : Vec Ideal S1x128 .f32) (r : Fin 256) (d : Fin 128) :
    qPay a0 a1 a2 a3 a4 b0 b1 b2 b3 b4 (ix3 0 r d) = head (sum5 a0 a1 a2 a3 a4 b0 b1 b2 b3 b4 r) d * scale := by
  have e : Named.named (F := Ideal) Cert.PrepCtxIdeal.κ "inv_sqrt_dk" (φ := .f32) 0x3DB504F3#32 = scale := IdealRules.named_const.ideal_named_scalar _ _ _ _ rfl
  rw [← e]
  pointwise [qPay, k0_pay6, k0_pay7, head, sum5, swish, squash]
  simp only [zero_sub]

theorem kPay_apply (a0 a1 a2 a3 a4 : Vec Ideal S256x128 .f32) (b0 b1 b2 b3 b4 : Vec Ideal S1x128 .f32) (r : Fin 256) (d : Fin 128) :
    kPay a0 a1 a2 a3 a4 b0 b1 b2 b3 b4 (ix3 0 r d) = head (sum5 a0 a1 a2 a3 a4 b0 b1 b2 b3 b4 r) d := by
  pointwise [kPay, k0_pay11, k0_pay12, k0_pay13, head, sum5, swish, squash]
  simp only [zero_sub]

theorem vPay_apply (a0 a1 a2 a3 a4 : Vec Ideal S256x128 .f32) (b0 b1 b2 b3 b4 : Vec Ideal S1x128 .f32) (r : Fin 256) (d : Fin 128) :
    vPay a0 a1 a2 a3 a4 b0 b1 b2 b3 b4 (ix3 0 r d) = swish (sum5 a0 a1 a2 a3 a4 b0 b1 b2 b3 b4 r d) := by
  pointwise [vPay, k0_pay1, k0_pay17, k0_pay18, sum5, swish, squash]
  simp only [zero_sub]

end Cert.PrepRun

end
-- ==== Proof.Prep.Spec.lean ====
/- The convolved and normed queries, keys and values of all rows, as functions of the channels and the taps, and when a
   block holds its part of them. Shared by the call over the latent tokens and the call over the context. -/
module

public import proofs.«01_k».proof.Proof.Prep.Body

@[expose] public section

set_option maxRecDepth 16384

noncomputable section

namespace Cert.PrepRun

open Cert.PrepCtxIdeal Cert.PrepCtxIdeal.Gen
open Idealize.ShloMosaic Idealize.ShloMosaic.TcCoe Idealize.SL.Sem
open Cert.MergeRun (squash eq_at2 eq_at3)
open Cert.ConformerRun (swish tapSum tapSum_congr)

/-- Feature `j` of head `h` among the channels: the queries' are part 0, the keys' part 1, the values' part 2. -/
def chan (k : Fin 3) (h : Fin 16) (j : Fin 128) : Fin 6144 := ⟨k.val * 2048 + h.val * 128 + j.val, by omega⟩

/-- A tap's row among the eight rows of padded taps. -/
def up (n : Fin 5) : Fin 8 := ⟨n.val, by omega⟩

/-- The head and the feature of a column of a result. -/
def headOf (q : Fin 2048) : Fin 16 := ⟨q.val / 128, by omega⟩
def featOf (q : Fin 2048) : Fin 128 := ⟨q.val % 128, by omega⟩

theorem headOf_at (h : Fin 16) (d : Fin 128) (hq : h.val * 128 + d.val < 2048) : headOf ⟨h.val * 128 + d.val, hq⟩ = h :=
  Fin.ext (by show (h.val * 128 + d.val) / 128 = h.val; omega)
theorem featOf_at (h : Fin 16) (d : Fin 128) (hq : h.val * 128 + d.val < 2048) : featOf ⟨h.val * 128 + d.val, hq⟩ = d :=
  Fin.ext (by show (h.val * 128 + d.val) % 128 = d.val; omega)

variable {L : ℕ} (X : Fin 4 → Fin L → Fin 6144 → EReal) (W : Fin 5 → Fin 6144 → EReal)

/-- One channel convolved along its batch's rows. -/
def cv (b : Fin 4) (s : ℕ) (j : Fin 6144) : EReal := conv (fun r => X b r j) (fun n => W n j) s

def qOf : (⟨3, ![4, L, 2048]⟩ : Shape).Idx → EReal := fun i => head (fun j => cv X W (i 0) (i 1).val (chan 0 (headOf (i 2)) j)) (featOf (i 2)) * scale
def kOf : (⟨3, ![4, L, 2048]⟩ : Shape).Idx → EReal := fun i => head (fun j => cv X W (i 0) (i 1).val (chan 1 (headOf (i 2)) j)) (featOf (i 2))
def vOf : (⟨3, ![4, L, 2048]⟩ : Shape).Idx → EReal := fun i => swish (cv X W (i 0) (i 1).val (chan 2 (headOf (i 2)) (featOf (i 2))))

section
variable {x : (⟨2, ![L, 128]⟩ : Shape).Idx → EReal} {w : Vec Ideal S8x128 .f32} {b : Fin 4} {k : Fin 3} {h : Fin 16}
    (hx : ∀ (r : Fin L) (j : Fin 128), x (ix2 r j) = X b r (chan k h j)) (hw : ∀ (n : Fin 5) (j : Fin 128), w (ix2 (up n) j) = W n (chan k h j))

include hx hw

theorem colConv_eq (s : ℕ) (j : Fin 128) : colConv x w s j = cv X W b s (chan k h j) := by
  show conv (fun r => x (ix2 r j)) (fun n => w (ix2 (up n) j)) s = _
  exact congrArg₂ (fun f g => conv f g s) (funext fun r => hx r j) (funext fun n => hw n j)

theorem qBlock_eq (hk : k = 0) (r : Fin L) (d : Fin 128) (hq : h.val * 128 + d.val < 2048) : qBlock x w (ix3 0 r d) = qOf X W (ix3 b r ⟨h.val * 128 + d.val, hq⟩) := by
  subst hk
  show head (colConv x w r.val) d * scale = head (fun j => cv X W b r.val (chan 0 (headOf ⟨_, hq⟩) j)) (featOf ⟨_, hq⟩) * scale
  rw [headOf_at, featOf_at, show colConv x w r.val = _ from funext fun j => colConv_eq X W hx hw r.val j]

theorem kBlock_eq (hk : k = 1) (r : Fin L) (d : Fin 128) (hq : h.val * 128 + d.val < 2048) : kBlock x w (ix3 0 r d) = kOf X W (ix3 b r ⟨h.val * 128 + d.val, hq⟩) := by
  subst hk
  show head (colConv x w r.val) d = head (fun j => cv X W b r.val (chan 1 (headOf ⟨_, hq⟩) j)) (featOf ⟨_, hq⟩)
  rw [headOf_at, featOf_at, show colConv x w r.val = _ from funext fun j => colConv_eq X W hx hw r.val j]

theorem vBlock_eq (hk : k = 2) (r : Fin L) (d : Fin 128) (hq : h.val * 128 + d.val < 2048) : vBlock x w (ix3 0 r d) = vOf X W (ix3 b r ⟨h.val * 128 + d.val, hq⟩) := by
  subst hk
  show swish (colConv x w r.val d) = swish (cv X W b r.val (chan 2 (headOf ⟨_, hq⟩) (featOf ⟨_, hq⟩)))
  rw [headOf_at, featOf_at, colConv_eq X W hx hw r.val d]

end

end Cert.PrepRun

end
-- ==== Proof.Prep.Lines.lean ====
/- The reference's short convolution read at one row and channel: the padded rows, one tap's product and the sum of five.
   For any number of rows, so the call over the latent tokens and the call over the context share it. -/
module

public import proofs.«01_k».proof.Proof.Prep.Spec
public import Idealize.ShloMosaic.Lib.Pointwise

@[expose] public section

set_option maxRecDepth 16384

noncomputable section

namespace Cert.PrepRun

open Idealize.ShloMosaic
open Cert.MergeRun (eq_at2 eq_at3)
open Cert.ConformerRun (tapSum tapSum_congr)

/-- The rows padded by two zero rows at each end. -/
theorem pad_rows {L M : ℕ} (u : FVec Ideal (⟨3, ![4, L, 6144]⟩ : Shape) .f32) {sc : Shape} (v : FVec Ideal sc .f32) (hu : 0 < sc.numel) (hv : v (Shape.Idx.first hu) = 0)
    (hp : (⟨3, ![4, L, 6144]⟩ : Shape).Pads (![0, 2, 0] : Fin 3 → ℕ) ![0, 2, 0] ![0, 0, 0] (⟨3, ![4, M, 6144]⟩ : Shape)) (b : Fin 4) (y : Fin M) (j : Fin 6144) :
    pad (⟨3, ![4, M, 6144]⟩ : Shape) ![0, 2, 0] ![0, 2, 0] ![0, 0, 0] u v hp hu (ix3 b y j) = rowAt (fun s => u (ix3 b s j)) y.val := by
  have hb := b.isLt
  have hj := j.isLt
  rw [pad_apply]
  unfold rowAt
  by_cases h : 2 ≤ y.val ∧ y.val < L + 2
  · rw [dif_pos h, dif_pos (fun a => by
      match a with
      | ⟨0, _⟩ => show 0 ≤ b.val ∧ (b.val - 0) % 1 = 0 ∧ (b.val - 0) / 1 < 4; omega
      | ⟨1, _⟩ => show 2 ≤ y.val ∧ (y.val - 2) % 1 = 0 ∧ (y.val - 2) / 1 < L; omega
      | ⟨2, _⟩ => show 0 ≤ j.val ∧ (j.val - 0) % 1 = 0 ∧ (j.val - 0) / 1 < 6144; omega)]
    refine congrArg u (eq_at3 _ _ _ _ ?_ ?_ ?_)
    · show (b.val - 0) / 1 = b.val; omega
    · show (y.val - 2) / 1 = y.val - 2; omega
    · show (j.val - 0) / 1 = j.val; omega
  · rw [dif_neg h, dif_neg (fun hin => h (by
      have h1 : 2 ≤ y.val ∧ (y.val - 2) % 1 = 0 ∧ (y.val - 2) / 1 < L := hin (1 : Fin 3)
      omega))]
    exact hv

theorem zero_int {sc : Shape} (i : sc.Idx) : sitofp (F := Ideal) .f32 (constantI sc 32 0#32) i = 0 := congrArg (fun z : ℝ => (z : EReal)) Int.cast_zero

/-- One tap: the padded rows from row `n`, times the tap's weights. -/
theorem tap_line {L M : ℕ} (hM : M = L + 4) (x : FVec Ideal (⟨3, ![4, M, 6144]⟩ : Shape) .f32) (w : FVec Ideal (⟨2, ![5, 6144]⟩ : Shape) .f32) (n : ℕ) (hn : n < 5)
    (hs : (⟨3, ![4, M, 6144]⟩ : Shape).Slices ![0, n, 0] (⟨3, ![4, L, 6144]⟩ : Shape)) (hw : (⟨2, ![5, 6144]⟩ : Shape).Slices ![n, 0] (⟨2, ![1, 6144]⟩ : Shape))
    (hc : (⟨2, ![1, 6144]⟩ : Shape).ShapeCasts (⟨1, ![6144]⟩ : Shape)) (h1 : (⟨1, ![6144]⟩ : Shape).BroadcastsInDim (⟨3, ![1, 1, 6144]⟩ : Shape) (![2] : Fin 1 → Fin 3))
    (h2 : (⟨3, ![1, 1, 6144]⟩ : Shape).BroadcastsInDim (⟨3, ![4, L, 6144]⟩ : Shape) (![0, 1, 2] : Fin 3 → Fin 3)) (b : Fin 4) (s : Fin L) (j : Fin 6144) :
    (mulf (F := Ideal) (φ := .f32) (extractStridedSlice (⟨3, ![4, L, 6144]⟩ : Shape) ![0, n, 0] x hs) (broadcastInDim (⟨3, ![4, L, 6144]⟩ : Shape) ![0, 1, 2] h2 (broadcastInDim (⟨3, ![1, 1, 6144]⟩ : Shape) ![2] h1 (shapeCast (⟨1, ![6144]⟩ : Shape) (extractStridedSlice (⟨2, ![1, 6144]⟩ : Shape) ![n, 0] w hw) hc))) : FVec Ideal (⟨3, ![4, L, 6144]⟩ : Shape) .f32) (ix3 b s j)
      = x (ix3 b (⟨n + s.val, by omega⟩ : Fin M) j) * w (ix2 (⟨n % 5, by omega⟩ : Fin 5) j) := by
  have ex : extractStridedSlice (⟨3, ![4, L, 6144]⟩ : Shape) ![0, n, 0] x hs (ix3 b s j) = x (ix3 b (⟨n + s.val, by omega⟩ : Fin M) j) := by
    refine congrArg x (eq_at3 _ _ _ _ ?_ ?_ ?_)
    · show 0 + b.val = b.val; omega
    · show n + s.val = n + s.val; rfl
    · show 0 + j.val = j.val; omega
  have ew : extractStridedSlice (⟨2, ![1, 6144]⟩ : Shape) ![n, 0] w hw (ix2 0 j) = w (ix2 (⟨n % 5, by omega⟩ : Fin 5) j) := by
    refine congrArg w (eq_at2 _ _ _ ?_ ?_)
    · show n + 0 = n % 5; omega
    · show 0 + j.val = j.val; omega
  rw [← ex, ← ew]
  generalize extractStridedSlice (⟨3, ![4, L, 6144]⟩ : Shape) ![0, n, 0] x hs = a
  generalize extractStridedSlice (⟨2, ![1, 6144]⟩ : Shape) ![n, 0] w hw = d
  pointwise

/-- One more product added. -/
theorem add_tap {s : Shape} (a t : FVec Ideal s .f32) (f : ℕ → EReal) (n : ℕ) (i : s.Idx) (ha : a i = tapSum f n) (ht : t i = f n) :
    addf (F := Ideal) (φ := .f32) a t i = tapSum f (n + 1) := congrArg₂ (· + ·) ha ht

/-- A number over the root is a number times the root's inverse. -/
theorem over_root (x : EReal) : Ideal.div x (Ideal.sqrt (Ideal.ofBits FTy.f32 1124073472#32)) = x * scale := by
  have e : Ideal.ofBits FTy.f32 1124073472#32 = ((128 : ℝ) : EReal) := by
    simp [Ideal.ofBits, Ideal.ieee, -EReal.coe_mul]; norm_num
  have h : Real.sqrt 128 ≠ 0 := Real.sqrt_ne_zero'.2 (by norm_num)
  rw [e, Ideal.sqrt_coe, if_neg (by norm_num), Ideal.div_coe h, one_div]
  rfl

end Cert.PrepRun

end
-- ==== Proof.Prep.Block.lean ====
/- What the call over the latent tokens leaves in its blocks of queries, keys and values: eight chunks of 256 rows each,
   every one the body's arithmetic at rows of the padded scratch. -/
module

public import proofs.«01_k».proof.Proof.Prep.Spec
public import proofs.«01_k».proof.Proof.Gen.PrepIdeal.Value

@[expose] public section

set_option maxRecDepth 16384

noncomputable section

namespace Cert.PrepRun

open Cert.PrepIdeal Cert.PrepIdeal.Gen
open Idealize.ShloMosaic Idealize.ShloMosaic.TcCoe Idealize.SL.Sem
open Cert.MergeRun (squash eq_at2 eq_at3)

/-- The scratch's stores before one of the three convolutions: zeros at both ends, then the rows. -/
def fill (x : Vec Ideal S2048x128 .f32) (rest : List (View.Piece (Elt Ideal) S2064x128 .f32)) : List (View.Piece (Elt Ideal) S2064x128 .f32) :=
  ⟨Rect.unit (s := S2064x128) ![8, 0] ![2048, 128] inb_S2064x128_S2048x128_8_0, k0_pay5 x⟩ :: ⟨Rect.unit (s := S2064x128) ![2056, 0] ![8, 128] inb_S2064x128_S8x128_2056_0, k0_pay4 (F := Ideal)⟩ :: ⟨Rect.unit (s := S2064x128) ![0, 0] ![8, 128] inb_S2064x128_S8x128_0_0, k0_pay3 (F := Ideal)⟩ :: rest

theorem pay5_eq (x : Vec Ideal S2048x128 .f32) : k0_pay5 x = x := by
  funext i
  obtain ⟨r, j, rfl⟩ : ∃ (r : Fin 2048) (j : Fin 128), i = ix2 r j := ⟨i 0, i 1, eq_ix2 i⟩
  pointwise [k0_pay5]

theorem pay3_zero (i : S8x128.Idx) : k0_pay3 (F := Ideal) i = 0 := by
  obtain ⟨r, j, rfl⟩ : ∃ (r : Fin 8) (j : Fin 128), i = ix2 r j := ⟨i 0, i 1, eq_ix2 i⟩
  pointwise [k0_pay3, k0_pay2]

theorem pay4_zero (i : S8x128.Idx) : k0_pay4 (F := Ideal) i = 0 := pay3_zero i

theorem load (v : View sig .tc .vmem S2064x128 .f32) (x : Vec Ideal S2048x128 .f32) (rest : List (View.Piece (Elt Ideal) S2064x128 .f32)) (o : ℕ) (inb : ∀ a, (![o, 0] : Fin 2 → ℕ) a + (![256, 128] : Fin 2 → ℕ) a ≤ (![2064, 128] : Fin 2 → ℕ) a) :
    v.readCov (fill x rest) (Rect.unit (s := S2064x128) ![o, 0] ![256, 128] inb).toLoadRect = tap x o :=
  load_tap (M := 2064) (L := 2048) v x (fill x rest) (fun y => by
    have h := filled (M := 2064) (L := 2048) (E := 2056) rfl rfl v v.junk x (k0_pay3 (F := Ideal)) (k0_pay4 (F := Ideal)) pay3_zero pay4_zero inb_S2064x128_S2048x128_8_0 inb_S2064x128_S8x128_2056_0 inb_S2064x128_S8x128_0_0 rest y
    rw [← h, fill, pay5_eq]) o inb

theorem inb_rows (n : Fin 8) (k : Fin 5) : ∀ a, (![256 * n.val + 6 + k.val, 0] : Fin 2 → ℕ) a + (![256, 128] : Fin 2 → ℕ) a ≤ (![2064, 128] : Fin 2 → ℕ) a := fun a => by
  match a with
  | ⟨0, _⟩ => show 256 * n.val + 6 + k.val + 256 ≤ 2064; omega
  | ⟨1, _⟩ => show 0 + 128 ≤ 128; omega

theorem inb_chunk (n : Fin 8) : ∀ a, (![0, 256 * n.val, 0] : Fin 3 → ℕ) a + (![1, 256, 128] : Fin 3 → ℕ) a ≤ (![1, 2048, 128] : Fin 3 → ℕ) a := fun a => by
  match a with
  | ⟨0, _⟩ => show 0 + 1 ≤ 1; omega
  | ⟨1, _⟩ => show 256 * n.val + 256 ≤ 2048; omega
  | ⟨2, _⟩ => show 0 + 128 ≤ 128; omega

/-- The rows chunk `n` reads for tap `k`. -/
def readRows (v : View sig .tc .vmem S2064x128 .f32) (P : List (View.Piece (Elt Ideal) S2064x128 .f32)) (n : Fin 8) (k : Fin 5) : Vec Ideal S256x128 .f32 :=
  v.readCov P (Rect.unit (s := S2064x128) ![256 * n.val + 6 + k.val, 0] ![256, 128] (inb_rows n k)).toLoadRect

theorem readRows_eq (v : View sig .tc .vmem S2064x128 .f32) (x : Vec Ideal S2048x128 .f32) (rest : List (View.Piece (Elt Ideal) S2064x128 .f32)) :
    readRows v (fill x rest) = fun n k => tap x (256 * n.val + 6 + k.val) :=
  funext fun n => funext fun k => load v x rest _ _

/-- The store of chunk `n`: the arithmetic `pay` on its rows. -/
def chunk (pay : (a0 a1 a2 a3 a4 : Vec Ideal S256x128 .f32) → (b0 b1 b2 b3 b4 : Vec Ideal S1x128 .f32) → FVec Ideal S1x256x128 .bf16)
    (rows : Fin 8 → Fin 5 → Vec Ideal S256x128 .f32) (b0 b1 b2 b3 b4 : Vec Ideal S1x128 .f32) (n : Fin 8) : View.Piece (Elt Ideal) S1x2048x128 .bf16 :=
  ⟨Rect.unit (s := S1x2048x128) ![0, 256 * n.val, 0] ![1, 256, 128] (inb_chunk n), pay (rows n 0) (rows n 1) (rows n 2) (rows n 3) (rows n 4) b0 b1 b2 b3 b4⟩

/-- Eight chunks hold `G` where each chunk's rows do. -/
theorem chunks_eq (pay : (a0 a1 a2 a3 a4 : Vec Ideal S256x128 .f32) → (b0 b1 b2 b3 b4 : Vec Ideal S1x128 .f32) → FVec Ideal S1x256x128 .bf16)
    (G : S1x2048x128.Idx → EReal) (x : Vec Ideal S2048x128 .f32) (w : Vec Ideal S8x128 .f32)
    (hp : ∀ (a0 a1 a2 a3 a4 : Vec Ideal S256x128 .f32) (b0 b1 b2 b3 b4 : Vec Ideal S1x128 .f32) (r : Fin 256) (d : Fin 128) (s : Fin 2048),
      sum5 a0 a1 a2 a3 a4 b0 b1 b2 b3 b4 r = colConv x w s.val → pay a0 a1 a2 a3 a4 b0 b1 b2 b3 b4 (ix3 0 r d) = G (ix3 0 s d))
    (Ls : List (Fin 8)) (p : View.Piece (Elt Ideal) S1x2048x128 .bf16) (hm : p ∈ Ls.map (chunk pay (fun n k => tap x (256 * n.val + 6 + k.val)) (wrow w 0) (wrow w 1) (wrow w 2) (wrow w 3) (wrow w 4)))
    (y : p.1.shape.Idx) : p.2 y = G (p.1.emb y) := by
  obtain ⟨n, -, rfl⟩ := List.mem_map.1 hm
  change S1x256x128.Idx at y
  obtain ⟨b, r, d, rfl⟩ : ∃ (b : Fin 1) (r : Fin 256) (d : Fin 128), y = ix3 b r d := ⟨y 0, y 1, y 2, eq_ix3 y⟩
  obtain rfl : b = 0 := Subsingleton.elim _ _
  refine (hp _ _ _ _ _ _ _ _ _ _ r d ⟨256 * n.val + r.val, by omega⟩ (funext fun j => sum5_eq x w (256 * n.val + 6) _ r j (by show 256 * n.val + 6 + r.val = 6 + (256 * n.val + r.val); omega))).trans ?_
  refine congrArg G (eq_at3 _ _ _ _ ?_ ?_ ?_).symm
  · show 0 + 1 * 0 = 0; omega
  · show 256 * n.val + 1 * r.val = 256 * n.val + r.val; omega
  · show 0 + 1 * d.val = d.val; omega

variable (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x2048x128 .bf16) (harg10 : arg10.IsWhole) (arg11 : Memref sig .tc .vmem S2064x128 .f32) (harg11 : arg11.IsWhole)
   (x0 x1 x2 : Vec Ideal S2048x128 .f32) (x3 x4 x5 : Vec Ideal S8x128 .f32)

theorem q_pieces : (kernelRun0_A c i arg2 harg2 arg3 harg3 arg4 harg4 arg5 harg5 arg6 harg6 arg7 harg7 arg8 harg8 arg9 harg9 arg10 harg10 arg11 harg11 x0 x1 x2 x3 x4 x5).1
    = List.map (chunk qPay (readRows arg11.view (fill (View.readAt (Elt Ideal) arg2.view (Rect.unit (s := S2048x128) ![0, 0] ![2048, 128] inb_S2048x128_S2048x128_0_0).toLoadRect (harg2.unread x0)) [])) (View.readAt (Elt Ideal) arg5.view (Rect.unit (s := S8x128) ![0, 0] ![1, 128] inb_S8x128_S1x128_0_0).toLoadRect (harg5.unread x3)) (View.readAt (Elt Ideal) arg5.view (Rect.unit (s := S8x128) ![1, 0] ![1, 128] inb_S8x128_S1x128_1_0).toLoadRect (harg5.unread x3)) (View.readAt (Elt Ideal) arg5.view (Rect.unit (s := S8x128) ![2, 0] ![1, 128] inb_S8x128_S1x128_2_0).toLoadRect (harg5.unread x3)) (View.readAt (Elt Ideal) arg5.view (Rect.unit (s := S8x128) ![3, 0] ![1, 128] inb_S8x128_S1x128_3_0).toLoadRect (harg5.unread x3)) (View.readAt (Elt Ideal) arg5.view (Rect.unit (s := S8x128) ![4, 0] ![1, 128] inb_S8x128_S1x128_4_0).toLoadRect (harg5.unread x3))) [7, 6, 5, 4, 3, 2, 1, 0] := by
  delta kernelRun0_A
  dsimp only
  rfl

theorem q_out : out0_A_6 c i arg2 harg2 arg3 harg3 arg4 harg4 arg5 harg5 arg6 harg6 arg7 harg7 arg8 harg8 arg9 harg9 arg10 harg10 arg11 harg11 x0 x1 x2 x3 x4 x5 = qBlock x0 x3 := by
  unfold out0_A_6
  rw [View.read_writes_junk_eq_canon]
  funext y
  refine View.canon_apply_of_pieces (qBlock x0 x3) _ (fun p hp z => ?_) y (cover0_A_6 c i arg2 harg2 arg3 harg3 arg4 harg4 arg5 harg5 arg6 harg6 arg7 harg7 arg8 harg8 arg9 harg9 arg10 harg10 arg11 harg11 x0 x1 x2 x3 x4 x5 y)
  rw [q_pieces, readRows_eq, load_block, load_wrow arg5 harg5 x3 0 (by decide), load_wrow arg5 harg5 x3 1 (by decide), load_wrow arg5 harg5 x3 2 (by decide), load_wrow arg5 harg5 x3 3 (by decide), load_wrow arg5 harg5 x3 4 (by decide)] at hp
  refine chunks_eq qPay (qBlock x0 x3) x0 x3 (fun a0 a1 a2 a3 a4 b0 b1 b2 b3 b4 r d s e => ?_) _ p hp z
  rw [qPay_apply, e]
  rfl

theorem k_pieces : (kernelRun0_A c i arg2 harg2 arg3 harg3 arg4 harg4 arg5 harg5 arg6 harg6 arg7 harg7 arg8 harg8 arg9 harg9 arg10 harg10 arg11 harg11 x0 x1 x2 x3 x4 x5).2.1
    = List.map (chunk kPay (readRows arg11.view (fill (View.readAt (Elt Ideal) arg3.view (Rect.unit (s := S2048x128) ![0, 0] ![2048, 128] inb_S2048x128_S2048x128_0_0).toLoadRect (harg3.unread x1)) (fill (View.readAt (Elt Ideal) arg2.view (Rect.unit (s := S2048x128) ![0, 0] ![2048, 128] inb_S2048x128_S2048x128_0_0).toLoadRect (harg2.unread x0)) []))) (View.readAt (Elt Ideal) arg6.view (Rect.unit (s := S8x128) ![0, 0] ![1, 128] inb_S8x128_S1x128_0_0).toLoadRect (harg6.unread x4)) (View.readAt (Elt Ideal) arg6.view (Rect.unit (s := S8x128) ![1, 0] ![1, 128] inb_S8x128_S1x128_1_0).toLoadRect (harg6.unread x4)) (View.readAt (Elt Ideal) arg6.view (Rect.unit (s := S8x128) ![2, 0] ![1, 128] inb_S8x128_S1x128_2_0).toLoadRect (harg6.unread x4)) (View.readAt (Elt Ideal) arg6.view (Rect.unit (s := S8x128) ![3, 0] ![1, 128] inb_S8x128_S1x128_3_0).toLoadRect (harg6.unread x4)) (View.readAt (Elt Ideal) arg6.view (Rect.unit (s := S8x128) ![4, 0] ![1, 128] inb_S8x128_S1x128_4_0).toLoadRect (harg6.unread x4))) [7, 6, 5, 4, 3, 2, 1, 0] := by
  delta kernelRun0_A
  dsimp only
  rfl

theorem k_out : out0_A_7 c i arg2 harg2 arg3 harg3 arg4 harg4 arg5 harg5 arg6 harg6 arg7 harg7 arg8 harg8 arg9 harg9 arg10 harg10 arg11 harg11 x0 x1 x2 x3 x4 x5 = kBlock x1 x4 := by
  unfold out0_A_7
  rw [View.read_writes_junk_eq_canon]
  funext y
  refine View.canon_apply_of_pieces (kBlock x1 x4) _ (fun p hp z => ?_) y (cover0_A_7 c i arg2 harg2 arg3 harg3 arg4 harg4 arg5 harg5 arg6 harg6 arg7 harg7 arg8 harg8 arg9 harg9 arg10 harg10 arg11 harg11 x0 x1 x2 x3 x4 x5 y)
  rw [k_pieces, readRows_eq, load_block, load_wrow arg6 harg6 x4 0 (by decide), load_wrow arg6 harg6 x4 1 (by decide), load_wrow arg6 harg6 x4 2 (by decide), load_wrow arg6 harg6 x4 3 (by decide), load_wrow arg6 harg6 x4 4 (by decide)] at hp
  refine chunks_eq kPay (kBlock x1 x4) x1 x4 (fun a0 a1 a2 a3 a4 b0 b1 b2 b3 b4 r d s e => ?_) _ p hp z
  rw [kPay_apply, e]
  rfl

theorem v_pieces : (kernelRun0_A c i arg2 harg2 arg3 harg3 arg4 harg4 arg5 harg5 arg6 harg6 arg7 harg7 arg8 harg8 arg9 harg9 arg10 harg10 arg11 harg11 x0 x1 x2 x3 x4 x5).2.2.1
    = List.map (chunk vPay (readRows arg11.view (fill (View.readAt (Elt Ideal) arg4.view (Rect.unit (s := S2048x128) ![0, 0] ![2048, 128] inb_S2048x128_S2048x128_0_0).toLoadRect (harg4.unread x2)) (fill (View.readAt (Elt Ideal) arg3.view (Rect.unit (s := S2048x128) ![0, 0] ![2048, 128] inb_S2048x128_S2048x128_0_0).toLoadRect (harg3.unread x1)) (fill (View.readAt (Elt Ideal) arg2.view (Rect.unit (s := S2048x128) ![0, 0] ![2048, 128] inb_S2048x128_S2048x128_0_0).toLoadRect (harg2.unread x0)) [])))) (View.readAt (Elt Ideal) arg7.view (Rect.unit (s := S8x128) ![0, 0] ![1, 128] inb_S8x128_S1x128_0_0).toLoadRect (harg7.unread x5)) (View.readAt (Elt Ideal) arg7.view (Rect.unit (s := S8x128) ![1, 0] ![1, 128] inb_S8x128_S1x128_1_0).toLoadRect (harg7.unread x5)) (View.readAt (Elt Ideal) arg7.view (Rect.unit (s := S8x128) ![2, 0] ![1, 128] inb_S8x128_S1x128_2_0).toLoadRect (harg7.unread x5)) (View.readAt (Elt Ideal) arg7.view (Rect.unit (s := S8x128) ![3, 0] ![1, 128] inb_S8x128_S1x128_3_0).toLoadRect (harg7.unread x5)) (View.readAt (Elt Ideal) arg7.view (Rect.unit (s := S8x128) ![4, 0] ![1, 128] inb_S8x128_S1x128_4_0).toLoadRect (harg7.unread x5))) [7, 6, 5, 4, 3, 2, 1, 0] := by
  delta kernelRun0_A
  dsimp only
  rfl

theorem v_out : out0_A_8 c i arg2 harg2 arg3 harg3 arg4 harg4 arg5 harg5 arg6 harg6 arg7 harg7 arg8 harg8 arg9 harg9 arg10 harg10 arg11 harg11 x0 x1 x2 x3 x4 x5 = vBlock x2 x5 := by
  unfold out0_A_8
  rw [View.read_writes_junk_eq_canon]
  funext y
  refine View.canon_apply_of_pieces (vBlock x2 x5) _ (fun p hp z => ?_) y (cover0_A_8 c i arg2 harg2 arg3 harg3 arg4 harg4 arg5 harg5 arg6 harg6 arg7 harg7 arg8 harg8 arg9 harg9 arg10 harg10 arg11 harg11 x0 x1 x2 x3 x4 x5 y)
  rw [v_pieces, readRows_eq, load_block, load_wrow arg7 harg7 x5 0 (by decide), load_wrow arg7 harg7 x5 1 (by decide), load_wrow arg7 harg7 x5 2 (by decide), load_wrow arg7 harg7 x5 3 (by decide), load_wrow arg7 harg7 x5 4 (by decide)] at hp
  refine chunks_eq vPay (vBlock x2 x5) x2 x5 (fun a0 a1 a2 a3 a4 b0 b1 b2 b3 b4 r d s e => ?_) _ p hp z
  rw [vPay_apply, e]
  rfl

end Cert.PrepRun

end
-- ==== Proof.Prep.Value.lean ====
/- What the call over the latent tokens computes: the queries, keys and values of every token, as a function of the arguments. -/
module

public import proofs.«01_k».proof.Proof.Prep.Spec
public import proofs.«01_k».proof.Proof.Prep.Block
public import Idealize.ShloMosaic.Lib.Pipeline.ValueKit
public import Idealize.ShloMosaic.Lib.Pipeline.Value
public import Idealize.ShloMosaic.Lib.Pointwise

@[expose] public section

set_option maxRecDepth 16384

noncomputable section

namespace Cert.PrepRun

open Cert.PrepIdeal Cert.PrepIdeal.Gen
open Idealize.ShloMosaic Idealize.ShloMosaic.TcCoe Idealize.SL.Sem
open Idealize.ShloMosaic.Pipeline (Dat)
open Cert.PrepRun
open Cert.MergeRun (eq_at2 eq_at3)

/-- The channels by batch and row, and the taps. -/
def chans (p : S8192x16384.Idx → EReal) : Fin 4 → Fin 2048 → Fin 6144 → EReal := fun b s j => p (ix2 (⟨b.val * 2048 + s.val, by omega⟩ : Fin 8192) (⟨4096 + j.val, by omega⟩ : Fin 16384))
def taps (w : S1x5x6144.Idx → EReal) : Fin 5 → Fin 6144 → EReal := fun n j => w (ix3 0 n j)

variable (m : (ℓ : Loc nD τ sig) → Buf (Elt Ideal) ℓ) (ρ : Dev nD → PrngReg)

/-- The arguments as launched. -/
abbrev P (c : Dev nD) : S8192x16384.Idx → EReal := m ((c : Thread nD τ).loc main_arg0)
abbrev T (c : Dev nD) : S1x5x6144.Idx → EReal := m ((c : Thread nD τ).loc main_arg1)

theorem padded (w : S1x5x6144.Idx → EReal) (n : Fin 5) (j : Fin 6144) :
    (pad S8x6144 ![0, 0] ![3, 0] ![0, 0] (shapeCast S5x6144 w shapeCasts_S1x5x6144_S5x6144) (sitofp (F := Ideal) .f32 (constantI S_ 32 0#32)) pads_S5x6144_S8x6144_030_000 h_S_ : FVec Ideal S8x6144 .f32) (ix2 (up n) j) = taps w n j := by
  have hn := n.isLt
  have hj := j.isLt
  rw [pad_apply, dif_pos (fun a => by
    match a with
    | ⟨0, _⟩ => show 0 ≤ n.val ∧ (n.val - 0) % 1 = 0 ∧ (n.val - 0) / 1 < 5; omega
    | ⟨1, _⟩ => show 0 ≤ j.val ∧ (j.val - 0) % 1 = 0 ∧ (j.val - 0) / 1 < 6144; omega)]
  refine (congrArg (shapeCast S5x6144 w shapeCasts_S1x5x6144_S5x6144) (eq_at2 _ n j ?_ ?_)).trans ?_
  · show (n.val - 0) / 1 = n.val; omega
  · show (j.val - 0) / 1 = j.val; omega
  · unfold taps; pointwise

theorem V_v1 (c : Dev nD) (n : Fin 5) (j : Fin 6144) : (V m c main_v1 : S8x6144.Idx → EReal) (ix2 (up n) j) = taps (T m c) n j := by
  refine Eq.trans (congrFun (?_ : V m c main_v1 = _) _) (padded (T m c) n j)
  unfold V
  simp only [hostOps0, hostOps0_1, List.flatten_cons, List.flatten_nil, List.append_nil, List.cons_append, List.nil_append]
  after_results <;> rfl

theorem lt_N (t : Fin cfg0.N) : t.val < 64 := Nat.lt_of_lt_of_eq t.isLt N_0

/-- The batch and the head of a grid point. -/
def batch (t : Fin cfg0.N) : Fin 4 := ⟨t.val / 16, by have := lt_N t; omega⟩
def hd (t : Fin cfg0.N) : Fin 16 := ⟨t.val % 16, by omega⟩

/-- Where each window's block begins. -/
theorem idx_0 : ∀ t : Fin cfg0.N, win0_0.index t 0 = t.val / 16 ∧ win0_0.index t 1 = 32 + t.val % 16 :=
  (by decide +kernel : ∀ t : Fin grid0.N, win0_0.index t 0 = t.val / 16 ∧ win0_0.index t 1 = 32 + t.val % 16)
theorem idx_1 : ∀ t : Fin cfg0.N, win0_1.index t 0 = t.val / 16 ∧ win0_1.index t 1 = 48 + t.val % 16 :=
  (by decide +kernel : ∀ t : Fin grid0.N, win0_1.index t 0 = t.val / 16 ∧ win0_1.index t 1 = 48 + t.val % 16)
theorem idx_2 : ∀ t : Fin cfg0.N, win0_2.index t 0 = t.val / 16 ∧ win0_2.index t 1 = 64 + t.val % 16 :=
  (by decide +kernel : ∀ t : Fin grid0.N, win0_2.index t 0 = t.val / 16 ∧ win0_2.index t 1 = 64 + t.val % 16)
theorem idx_3 : ∀ t : Fin cfg0.N, win0_3.index t 0 = 0 ∧ win0_3.index t 1 = 0 + t.val % 16 :=
  (by decide +kernel : ∀ t : Fin grid0.N, win0_3.index t 0 = 0 ∧ win0_3.index t 1 = 0 + t.val % 16)
theorem idx_4 : ∀ t : Fin cfg0.N, win0_4.index t 0 = 0 ∧ win0_4.index t 1 = 16 + t.val % 16 :=
  (by decide +kernel : ∀ t : Fin grid0.N, win0_4.index t 0 = 0 ∧ win0_4.index t 1 = 16 + t.val % 16)
theorem idx_5 : ∀ t : Fin cfg0.N, win0_5.index t 0 = 0 ∧ win0_5.index t 1 = 32 + t.val % 16 :=
  (by decide +kernel : ∀ t : Fin grid0.N, win0_5.index t 0 = 0 ∧ win0_5.index t 1 = 32 + t.val % 16)
theorem idx_6 : ∀ t : Fin cfg0.N, win0_6.index t 0 = t.val / 16 ∧ win0_6.index t 1 = 0 ∧ win0_6.index t 2 = t.val % 16 :=
  (by decide +kernel : ∀ t : Fin grid0.N, win0_6.index t 0 = t.val / 16 ∧ win0_6.index t 1 = 0 ∧ win0_6.index t 2 = t.val % 16)
theorem idx_7 : ∀ t : Fin cfg0.N, win0_7.index t 0 = t.val / 16 ∧ win0_7.index t 1 = 0 ∧ win0_7.index t 2 = t.val % 16 :=
  (by decide +kernel : ∀ t : Fin grid0.N, win0_7.index t 0 = t.val / 16 ∧ win0_7.index t 1 = 0 ∧ win0_7.index t 2 = t.val % 16)
theorem idx_8 : ∀ t : Fin cfg0.N, win0_8.index t 0 = t.val / 16 ∧ win0_8.index t 1 = 0 ∧ win0_8.index t 2 = t.val % 16 :=
  (by decide +kernel : ∀ t : Fin grid0.N, win0_8.index t 0 = t.val / 16 ∧ win0_8.index t 1 = 0 ∧ win0_8.index t 2 = t.val % 16)

theorem iblk_0 (c : Dev nD) (t : Fin cfg0.N) (r : Fin 2048) (j : Fin 128) : (iblk m c 0 t : Vec Ideal S2048x128 .f32) (ix2 r j) = chans (P m c) (batch t) r (chan 0 (hd t) j) := by
  unfold chans
  rw [show P m c = V m c main_arg0 from (V_main_arg0 m c).symm]
  have e := idx_0 t
  refine congrArg (V m c main_arg0) (eq_at2 _ _ _ ?_ ?_)
  · show win0_0.index t 0 * 2048 + 1 * r.val = t.val / 16 * 2048 + r.val; rw [e.1]; omega
  · show win0_0.index t 1 * 128 + 1 * j.val = 4096 + (0 * 2048 + t.val % 16 * 128 + j.val); rw [e.2]; omega

theorem iblk_3 (c : Dev nD) (t : Fin cfg0.N) (n : Fin 5) (j : Fin 128) : (iblk m c 3 t : Vec Ideal S8x128 .f32) (ix2 (up n) j) = taps (T m c) n (chan 0 (hd t) j) := by
  rw [← V_v1]
  have e := idx_3 t
  refine congrArg (V m c main_v1) (eq_at2 _ _ _ ?_ ?_)
  · show win0_3.index t 0 * 8 + 1 * n.val = n.val; rw [e.1]; omega
  · show win0_3.index t 1 * 128 + 1 * j.val = 0 * 2048 + t.val % 16 * 128 + j.val; rw [e.2]; omega

theorem iblk_1 (c : Dev nD) (t : Fin cfg0.N) (r : Fin 2048) (j : Fin 128) : (iblk m c 1 t : Vec Ideal S2048x128 .f32) (ix2 r j) = chans (P m c) (batch t) r (chan 1 (hd t) j) := by
  unfold chans
  rw [show P m c = V m c main_arg0 from (V_main_arg0 m c).symm]
  have e := idx_1 t
  refine congrArg (V m c main_arg0) (eq_at2 _ _ _ ?_ ?_)
  · show win0_1.index t 0 * 2048 + 1 * r.val = t.val / 16 * 2048 + r.val; rw [e.1]; omega
  · show win0_1.index t 1 * 128 + 1 * j.val = 4096 + (1 * 2048 + t.val % 16 * 128 + j.val); rw [e.2]; omega

theorem iblk_4 (c : Dev nD) (t : Fin cfg0.N) (n : Fin 5) (j : Fin 128) : (iblk m c 4 t : Vec Ideal S8x128 .f32) (ix2 (up n) j) = taps (T m c) n (chan 1 (hd t) j) := by
  rw [← V_v1]
  have e := idx_4 t
  refine congrArg (V m c main_v1) (eq_at2 _ _ _ ?_ ?_)
  · show win0_4.index t 0 * 8 + 1 * n.val = n.val; rw [e.1]; omega
  · show win0_4.index t 1 * 128 + 1 * j.val = 1 * 2048 + t.val % 16 * 128 + j.val; rw [e.2]; omega

theorem iblk_2 (c : Dev nD) (t : Fin cfg0.N) (r : Fin 2048) (j : Fin 128) : (iblk m c 2 t : Vec Ideal S2048x128 .f32) (ix2 r j) = chans (P m c) (batch t) r (chan 2 (hd t) j) := by
  unfold chans
  rw [show P m c = V m c main_arg0 from (V_main_arg0 m c).symm]
  have e := idx_2 t
  refine congrArg (V m c main_arg0) (eq_at2 _ _ _ ?_ ?_)
  · show win0_2.index t 0 * 2048 + 1 * r.val = t.val / 16 * 2048 + r.val; rw [e.1]; omega
  · show win0_2.index t 1 * 128 + 1 * j.val = 4096 + (2 * 2048 + t.val % 16 * 128 + j.val); rw [e.2]; omega

theorem iblk_5 (c : Dev nD) (t : Fin cfg0.N) (n : Fin 5) (j : Fin 128) : (iblk m c 5 t : Vec Ideal S8x128 .f32) (ix2 (up n) j) = taps (T m c) n (chan 2 (hd t) j) := by
  rw [← V_v1]
  have e := idx_5 t
  refine congrArg (V m c main_v1) (eq_at2 _ _ _ ?_ ?_)
  · show win0_5.index t 0 * 8 + 1 * n.val = n.val; rw [e.1]; omega
  · show win0_5.index t 1 * 128 + 1 * j.val = 2 * 2048 + t.val % 16 * 128 + j.val; rw [e.2]; omega

theorem flushed_6 (c : Dev nD) (t : Fin cfg0.N) :
    (dats m 0 c).flushed 6 t = ((cfg0.win 6).blk t).view.read (Elt Ideal) (qOf (chans (P m c)) (taps (T m c))) := by
  rw [Cert.PrepIdeal.Value.flushed6_A, q_out]
  funext y
  rw [View.read_apply]
  obtain ⟨b, r, d, rfl⟩ : ∃ (b : Fin 1) (r : Fin 2048) (d : Fin 128), y = ix3 b r d := ⟨y 0, y 1, y 2, eq_ix3 y⟩
  obtain rfl : b = 0 := Subsingleton.elim _ _
  have e := idx_6 t
  rw [show (((cfg0.win 6).blk t).view.emb (ix3 0 r d) : S4x2048x2048.Idx) = ix3 (batch t) r ⟨(hd t).val * 128 + d.val, by omega⟩ from eq_at3 _ _ _ _
    (by show win0_6.index t 0 * 1 + 1 * 0 = t.val / 16; rw [e.1]; omega)
    (by show win0_6.index t 1 * 2048 + 1 * r.val = r.val; rw [e.2.1]; omega)
    (by show win0_6.index t 2 * 128 + 1 * d.val = t.val % 16 * 128 + d.val; rw [e.2.2]; omega)]
  exact qBlock_eq _ _ (iblk_0 m c t) (iblk_3 m c t) rfl r d _

theorem final_6 (c : Dev nD) : (dats m 0 c).arrAt 6 cfg0.N = qOf (chans (P m c)) (taps (T m c)) :=
  (dats m 0 c).arrAt_eq_of_cover 6 _ (fun t _ => flushed_6 m c t) fun i => by
    have h0 : (i 0 : Nat) < 4 := (i 0).isLt
    have h1 : (i 1 : Nat) < 2048 := (i 1).isLt
    have h2 : (i 2 : Nat) < 2048 := (i 2).isLt
    have ht : (i 0 : Nat) * 16 + (i 2 : Nat) / 128 < cfg0.N := by rw [show cfg0.N = 64 from N_0]; omega
    refine ⟨⟨(i 0 : Nat) * 16 + (i 2 : Nat) / 128, ht⟩, flush0_6 _, ?_⟩
    show i ∈ ((View.whole main_v2_0).slice (win0_6.rect ⟨(i 0 : Nat) * 16 + (i 2 : Nat) / 128, ht⟩)).set
    rw [View.set_slice_whole, Rect.mem_set_unit]
    have hi := idx_6 ⟨(i 0 : Nat) * 16 + (i 2 : Nat) / 128, ht⟩
    dsimp only at hi
    intro a
    match a with
    | ⟨0, _⟩ => show win0_6.index ⟨_, ht⟩ 0 * 1 ≤ (i 0 : Nat) ∧ (i 0 : Nat) < win0_6.index ⟨_, ht⟩ 0 * 1 + 1
                rw [hi.1]; omega
    | ⟨1, _⟩ => show win0_6.index ⟨_, ht⟩ 1 * 2048 ≤ (i 1 : Nat) ∧ (i 1 : Nat) < win0_6.index ⟨_, ht⟩ 1 * 2048 + 2048
                rw [hi.2.1]; omega
    | ⟨2, _⟩ => show win0_6.index ⟨_, ht⟩ 2 * 128 ≤ (i 2 : Nat) ∧ (i 2 : Nat) < win0_6.index ⟨_, ht⟩ 2 * 128 + 128
                rw [hi.2.2]; omega

theorem flushed_7 (c : Dev nD) (t : Fin cfg0.N) :
    (dats m 0 c).flushed 7 t = ((cfg0.win 7).blk t).view.read (Elt Ideal) (kOf (chans (P m c)) (taps (T m c))) := by
  rw [Cert.PrepIdeal.Value.flushed7_A, k_out]
  funext y
  rw [View.read_apply]
  obtain ⟨b, r, d, rfl⟩ : ∃ (b : Fin 1) (r : Fin 2048) (d : Fin 128), y = ix3 b r d := ⟨y 0, y 1, y 2, eq_ix3 y⟩
  obtain rfl : b = 0 := Subsingleton.elim _ _
  have e := idx_7 t
  rw [show (((cfg0.win 7).blk t).view.emb (ix3 0 r d) : S4x2048x2048.Idx) = ix3 (batch t) r ⟨(hd t).val * 128 + d.val, by omega⟩ from eq_at3 _ _ _ _
    (by show win0_7.index t 0 * 1 + 1 * 0 = t.val / 16; rw [e.1]; omega)
    (by show win0_7.index t 1 * 2048 + 1 * r.val = r.val; rw [e.2.1]; omega)
    (by show win0_7.index t 2 * 128 + 1 * d.val = t.val % 16 * 128 + d.val; rw [e.2.2]; omega)]
  exact kBlock_eq _ _ (iblk_1 m c t) (iblk_4 m c t) rfl r d _

theorem final_7 (c : Dev nD) : (dats m 0 c).arrAt 7 cfg0.N = kOf (chans (P m c)) (taps (T m c)) :=
  (dats m 0 c).arrAt_eq_of_cover 7 _ (fun t _ => flushed_7 m c t) fun i => by
    have h0 : (i 0 : Nat) < 4 := (i 0).isLt
    have h1 : (i 1 : Nat) < 2048 := (i 1).isLt
    have h2 : (i 2 : Nat) < 2048 := (i 2).isLt
    have ht : (i 0 : Nat) * 16 + (i 2 : Nat) / 128 < cfg0.N := by rw [show cfg0.N = 64 from N_0]; omega
    refine ⟨⟨(i 0 : Nat) * 16 + (i 2 : Nat) / 128, ht⟩, flush0_7 _, ?_⟩
    show i ∈ ((View.whole main_v2_1).slice (win0_7.rect ⟨(i 0 : Nat) * 16 + (i 2 : Nat) / 128, ht⟩)).set
    rw [View.set_slice_whole, Rect.mem_set_unit]
    have hi := idx_7 ⟨(i 0 : Nat) * 16 + (i 2 : Nat) / 128, ht⟩
    dsimp only at hi
    intro a
    match a with
    | ⟨0, _⟩ => show win0_7.index ⟨_, ht⟩ 0 * 1 ≤ (i 0 : Nat) ∧ (i 0 : Nat) < win0_7.index ⟨_, ht⟩ 0 * 1 + 1
                rw [hi.1]; omega
    | ⟨1, _⟩ => show win0_7.index ⟨_, ht⟩ 1 * 2048 ≤ (i 1 : Nat) ∧ (i 1 : Nat) < win0_7.index ⟨_, ht⟩ 1 * 2048 + 2048
                rw [hi.2.1]; omega
    | ⟨2, _⟩ => show win0_7.index ⟨_, ht⟩ 2 * 128 ≤ (i 2 : Nat) ∧ (i 2 : Nat) < win0_7.index ⟨_, ht⟩ 2 * 128 + 128
                rw [hi.2.2]; omega

theorem flushed_8 (c : Dev nD) (t : Fin cfg0.N) :
    (dats m 0 c).flushed 8 t = ((cfg0.win 8).blk t).view.read (Elt Ideal) (vOf (chans (P m c)) (taps (T m c))) := by
  rw [Cert.PrepIdeal.Value.flushed8_A, v_out]
  funext y
  rw [View.read_apply]
  obtain ⟨b, r, d, rfl⟩ : ∃ (b : Fin 1) (r : Fin 2048) (d : Fin 128), y = ix3 b r d := ⟨y 0, y 1, y 2, eq_ix3 y⟩
  obtain rfl : b = 0 := Subsingleton.elim _ _
  have e := idx_8 t
  rw [show (((cfg0.win 8).blk t).view.emb (ix3 0 r d) : S4x2048x2048.Idx) = ix3 (batch t) r ⟨(hd t).val * 128 + d.val, by omega⟩ from eq_at3 _ _ _ _
    (by show win0_8.index t 0 * 1 + 1 * 0 = t.val / 16; rw [e.1]; omega)
    (by show win0_8.index t 1 * 2048 + 1 * r.val = r.val; rw [e.2.1]; omega)
    (by show win0_8.index t 2 * 128 + 1 * d.val = t.val % 16 * 128 + d.val; rw [e.2.2]; omega)]
  exact vBlock_eq _ _ (iblk_2 m c t) (iblk_5 m c t) rfl r d _

theorem final_8 (c : Dev nD) : (dats m 0 c).arrAt 8 cfg0.N = vOf (chans (P m c)) (taps (T m c)) :=
  (dats m 0 c).arrAt_eq_of_cover 8 _ (fun t _ => flushed_8 m c t) fun i => by
    have h0 : (i 0 : Nat) < 4 := (i 0).isLt
    have h1 : (i 1 : Nat) < 2048 := (i 1).isLt
    have h2 : (i 2 : Nat) < 2048 := (i 2).isLt
    have ht : (i 0 : Nat) * 16 + (i 2 : Nat) / 128 < cfg0.N := by rw [show cfg0.N = 64 from N_0]; omega
    refine ⟨⟨(i 0 : Nat) * 16 + (i 2 : Nat) / 128, ht⟩, flush0_8 _, ?_⟩
    show i ∈ ((View.whole main_v2_2).slice (win0_8.rect ⟨(i 0 : Nat) * 16 + (i 2 : Nat) / 128, ht⟩)).set
    rw [View.set_slice_whole, Rect.mem_set_unit]
    have hi := idx_8 ⟨(i 0 : Nat) * 16 + (i 2 : Nat) / 128, ht⟩
    dsimp only at hi
    intro a
    match a with
    | ⟨0, _⟩ => show win0_8.index ⟨_, ht⟩ 0 * 1 ≤ (i 0 : Nat) ∧ (i 0 : Nat) < win0_8.index ⟨_, ht⟩ 0 * 1 + 1
                rw [hi.1]; omega
    | ⟨1, _⟩ => show win0_8.index ⟨_, ht⟩ 1 * 2048 ≤ (i 1 : Nat) ∧ (i 1 : Nat) < win0_8.index ⟨_, ht⟩ 1 * 2048 + 2048
                rw [hi.2.1]; omega
    | ⟨2, _⟩ => show win0_8.index ⟨_, ht⟩ 2 * 128 ≤ (i 2 : Nat) ∧ (i 2 : Nat) < win0_8.index ⟨_, ht⟩ 2 * 128 + 128
                rw [hi.2.2]; omega

/-- The run read: queries, keys and values, and the arguments unchanged. -/
theorem run : θ_run defs (onTc (τ := τ) (main (F := Ideal))) ⟨m, fun _ => 0, ρ⟩ fun r => ∀ c : Dev nD,
      r.2.mem ((c : Thread nD τ).loc main_v2_0) = qOf (chans (P m c)) (taps (T m c))
      ∧ r.2.mem ((c : Thread nD τ).loc main_v2_1) = kOf (chans (P m c)) (taps (T m c))
      ∧ r.2.mem ((c : Thread nD τ).loc main_v2_2) = vOf (chans (P m c)) (taps (T m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_6 m c), (h c).2.1.trans (final_7 m c), (h c).2.2.1.trans (final_8 m c), (h c).2.2.2⟩)
    (Cert.PrepIdeal.Value.run_blocks m ρ)

end Cert.PrepRun

end
-- ==== Proof.Prep.Reference.lean ====
/- What the reference of the call over the latent tokens computes. -/
module

public import proofs.«01_k».proof.Proof.Prep.Lines
public import proofs.«01_k».proof.Proof.Prep.Value
public import proofs.«01_k».proof.Proof.Gen.PrepRefIdeal.Run

@[expose] public section

set_option maxRecDepth 16384

noncomputable section

namespace Cert.PrepRun.Ref

open Cert.PrepRefIdeal Cert.PrepRefIdeal.Gen Cert.PrepRefIdeal.Value
open Idealize.ShloMosaic Idealize.ShloMosaic.TcCoe Idealize.SL.Sem Idealize.ShloMosaic.StableHlo
open Cert.PrepRun
open Cert.MergeRun (squash eq_at2 eq_at3)
open Cert.ConformerRun (swish tapSum tapSum_congr)

/-- The padded rows and the taps. -/
def rows (p : S8192x16384.Idx → EReal) : FVec Ideal S4x2052x6144 .f32 :=
  pad S4x2052x6144 ![0, 2, 0] ![0, 2, 0] ![0, 0, 0] (shapeCast _ (extractStridedSlice S8192x6144 ![0, 4096] p slices_S8192x16384_S8192x6144_0_4096) shapeCasts_S8192x6144_S4x2048x6144) (sitofp (F := Ideal) .f32 (constantI S_ 32 0#32)) pads_S4x2048x6144_S4x2052x6144_000_220_000 h_S_
def wts (t : S1x5x6144.Idx → EReal) : FVec Ideal S5x6144 .f32 := shapeCast _ t shapeCasts_S1x5x6144_S5x6144

/-- The five taps added up. -/
def five (x : FVec Ideal S4x2052x6144 .f32) (w : FVec Ideal S5x6144 .f32) : FVec Ideal S4x2048x6144 .f32 :=
  (addf (F := Ideal) (φ := .f32) (addf (F := Ideal) (φ := .f32) (addf (F := Ideal) (φ := .f32) (addf (F := Ideal) (φ := .f32) (addf (F := Ideal) (φ := .f32) (broadcastInDim S4x2048x6144 ![] bcast_S_S4x2048x6144 (constant (F := Ideal) S_ .f32 0x00000000#32)) (mulf (F := Ideal) (φ := .f32) (extractStridedSlice S4x2048x6144 ![0, 0, 0] x slices_S4x2052x6144_S4x2048x6144_0_0_0) (broadcastInDim S4x2048x6144 ![0, 1, 2] bcast_S1x1x6144_S4x2048x6144_0_1_2 (broadcastInDim S1x1x6144 ![2] bcast_S6144_S1x1x6144_2 (shapeCast _ (extractStridedSlice S1x6144 ![0, 0] w slices_S5x6144_S1x6144_0_0) shapeCasts_S1x6144_S6144))))) (mulf (F := Ideal) (φ := .f32) (extractStridedSlice S4x2048x6144 ![0, 1, 0] x slices_S4x2052x6144_S4x2048x6144_0_1_0) (broadcastInDim S4x2048x6144 ![0, 1, 2] bcast_S1x1x6144_S4x2048x6144_0_1_2 (broadcastInDim S1x1x6144 ![2] bcast_S6144_S1x1x6144_2 (shapeCast _ (extractStridedSlice S1x6144 ![1, 0] w slices_S5x6144_S1x6144_1_0) shapeCasts_S1x6144_S6144))))) (mulf (F := Ideal) (φ := .f32) (extractStridedSlice S4x2048x6144 ![0, 2, 0] x slices_S4x2052x6144_S4x2048x6144_0_2_0) (broadcastInDim S4x2048x6144 ![0, 1, 2] bcast_S1x1x6144_S4x2048x6144_0_1_2 (broadcastInDim S1x1x6144 ![2] bcast_S6144_S1x1x6144_2 (shapeCast _ (extractStridedSlice S1x6144 ![2, 0] w slices_S5x6144_S1x6144_2_0) shapeCasts_S1x6144_S6144))))) (mulf (F := Ideal) (φ := .f32) (extractStridedSlice S4x2048x6144 ![0, 3, 0] x slices_S4x2052x6144_S4x2048x6144_0_3_0) (broadcastInDim S4x2048x6144 ![0, 1, 2] bcast_S1x1x6144_S4x2048x6144_0_1_2 (broadcastInDim S1x1x6144 ![2] bcast_S6144_S1x1x6144_2 (shapeCast _ (extractStridedSlice S1x6144 ![3, 0] w slices_S5x6144_S1x6144_3_0) shapeCasts_S1x6144_S6144))))) (mulf (F := Ideal) (φ := .f32) (extractStridedSlice S4x2048x6144 ![0, 4, 0] x slices_S4x2052x6144_S4x2048x6144_0_4_0) (broadcastInDim S4x2048x6144 ![0, 1, 2] bcast_S1x1x6144_S4x2048x6144_0_1_2 (broadcastInDim S1x1x6144 ![2] bcast_S6144_S1x1x6144_2 (shapeCast _ (extractStridedSlice S1x6144 ![4, 0] w slices_S5x6144_S1x6144_4_0) shapeCasts_S1x6144_S6144)))))

theorem src_apply (p : S8192x16384.Idx → EReal) (b : Fin 4) (s : Fin 2048) (j : Fin 6144) : (shapeCast _ (extractStridedSlice S8192x6144 ![0, 4096] p slices_S8192x16384_S8192x6144_0_4096) shapeCasts_S8192x6144_S4x2048x6144 : S4x2048x6144.Idx → EReal) (ix3 b s j) = chans p b s j := by
  unfold chans
  pointwise

theorem rows_apply (p : S8192x16384.Idx → EReal) (b : Fin 4) (y : Fin 2052) (j : Fin 6144) : rows p (ix3 b y j) = rowAt (fun s => chans p b s j) y.val :=
  (pad_rows _ _ h_S_ (zero_int _) _ b y j).trans (congrArg (fun f => rowAt f y.val) (funext fun s => src_apply p b s j))

theorem wts_apply (t : S1x5x6144.Idx → EReal) (n : Fin 5) (j : Fin 6144) : wts t (ix2 n j) = taps t n j := by
  unfold wts taps
  pointwise

theorem five_apply (p : S8192x16384.Idx → EReal) (t : S1x5x6144.Idx → EReal) (b : Fin 4) (s : Fin 2048) (j : Fin 6144) :
    five (rows p) (wts t) (ix3 b s j) = cv (chans p) (taps t) b s.val j := by
  unfold five cv conv
  iterate 5 refine add_tap _ _ _ _ _ ?_ ((tap_line (M := 2052) rfl (rows p) (wts t) _ (by decide) _ _ _ _ _ b s j).trans (congrArg₂ (· * ·) (rows_apply p b _ j) (wts_apply t _ j)))
  pointwise
  rfl

/-- The lines after the convolution: the activation, the head norm, the queries' scale. -/
def act (a : FVec Ideal S4x2048x6144 .f32) : FVec Ideal S4x2048x6144 .f32 :=
  mulf (F := Ideal) (φ := .f32) a (Host.divf (broadcastInDim S4x2048x6144 ![] bcast_S_S4x2048x6144 (constant (F := Ideal) S_ .f32 0x3F800000#32)) (addf (F := Ideal) (φ := .f32) (broadcastInDim S4x2048x6144 ![] bcast_S_S4x2048x6144 (constant (F := Ideal) S_ .f32 0x3F800000#32)) (Host.exp (Host.negf a))))
def unit (z : FVec Ideal S4x2048x2048 .f32) : FVec Ideal S4x2048x16x128 .f32 :=
  mulf (F := Ideal) (φ := .f32) (shapeCast _ z shapeCasts_S4x2048x2048_S4x2048x16x128) (broadcastInDim S4x2048x16x128 ![0, 1, 2, 3] bcast_S4x2048x16x1_S4x2048x16x128_0_1_2_3 (Host.rsqrt (addf (F := Ideal) (φ := .f32) (broadcastInDim S4x2048x16x1 ![0, 1, 2] bcast_S4x2048x16_S4x2048x16x1_0_1_2 (Host.reduceAdd (mulf (F := Ideal) (φ := .f32) (shapeCast _ z shapeCasts_S4x2048x2048_S4x2048x16x128) (shapeCast _ z shapeCasts_S4x2048x2048_S4x2048x16x128)) (constant (F := Ideal) S_ .f32 0x00000000#32) reducesTo_S4x2048x16x128_S4x2048x16_d3 h_S_)) (broadcastInDim S4x2048x16x1 ![] bcast_S_S4x2048x16x1 (constant (F := Ideal) S_ .f32 0x358637BD#32)))))
def qLine (a : FVec Ideal S4x2048x6144 .f32) : FVec Ideal S4x2048x2048 .bf16 :=
  truncf (F := Ideal) (φ := .f32) .bf16 (shapeCast _ (Host.divf (unit (extractStridedSlice S4x2048x2048 ![0, 0, 0] (act a) slices_S4x2048x6144_S4x2048x2048_0_0_0)) (broadcastInDim S4x2048x16x128 ![] bcast_S_S4x2048x16x128 (Host.sqrt (constant (F := Ideal) S_ .f32 0x43000000#32)))) shapeCasts_S4x2048x16x128_S4x2048x2048) bitsLt_bf16_f32
def kLine (a : FVec Ideal S4x2048x6144 .f32) : FVec Ideal S4x2048x2048 .bf16 :=
  truncf (F := Ideal) (φ := .f32) .bf16 (shapeCast _ (unit (extractStridedSlice S4x2048x2048 ![0, 0, 2048] (act a) slices_S4x2048x6144_S4x2048x2048_0_0_2048)) shapeCasts_S4x2048x16x128_S4x2048x2048) bitsLt_bf16_f32
def vLine (a : FVec Ideal S4x2048x6144 .f32) : FVec Ideal S4x2048x2048 .bf16 :=
  truncf (F := Ideal) (φ := .f32) .bf16 (extractStridedSlice S4x2048x2048 ![0, 0, 4096] (act a) slices_S4x2048x6144_S4x2048x2048_0_0_4096) bitsLt_bf16_f32

theorem act_apply (a : FVec Ideal S4x2048x6144 .f32) (b : Fin 4) (s : Fin 2048) (j : Fin 6144) : act a (ix3 b s j) = swish (a (ix3 b s j)) := by
  pointwise [act, swish, squash]

theorem part_apply (a : FVec Ideal S4x2048x6144 .f32) (k : Fin 3) (off : ℕ) (ho : off = k.val * 2048) (hs : S4x2048x6144.Slices ![0, 0, off] S4x2048x2048) (b : Fin 4) (s : Fin 2048) (q : Fin 2048) :
    extractStridedSlice S4x2048x2048 ![0, 0, off] (act a) hs (ix3 b s q) = swish (a (ix3 b s (chan k (headOf q) (featOf q)))) := by
  rw [← act_apply]
  refine congrArg (act a) (eq_at3 _ _ _ _ ?_ ?_ ?_)
  · show 0 + b.val = b.val; omega
  · show 0 + s.val = s.val; omega
  · show off + q.val = k.val * 2048 + q.val / 128 * 128 + q.val % 128; omega

theorem unit_apply (z : FVec Ideal S4x2048x2048 .f32) (b : Fin 4) (s : Fin 2048) (h : Fin 16) (d : Fin 128) :
    unit z (ix4 b s h d) = z (ix3 b s ⟨h.val * 128 + d.val, by omega⟩) * Ideal.rsqrt ((∑ j : Fin 128, z (ix3 b s ⟨h.val * 128 + j.val, by omega⟩) * z (ix3 b s ⟨h.val * 128 + j.val, by omega⟩)) + Ideal.ofBits FTy.f32 897988541#32) := by
  pointwise [unit]

theorem unit_head (a : FVec Ideal S4x2048x6144 .f32) (k : Fin 3) (off : ℕ) (ho : off = k.val * 2048) (hs : S4x2048x6144.Slices ![0, 0, off] S4x2048x2048) (b : Fin 4) (s : Fin 2048) (h : Fin 16) (d : Fin 128) :
    unit (extractStridedSlice S4x2048x2048 ![0, 0, off] (act a) hs) (ix4 b s h d) = head (fun j => a (ix3 b s (chan k h j))) d := by
  have e : ∀ j : Fin 128, extractStridedSlice S4x2048x2048 ![0, 0, off] (act a) hs (ix3 b s ⟨h.val * 128 + j.val, by omega⟩) = swish (a (ix3 b s (chan k h j))) := fun j => by
    rw [part_apply a k off ho hs, headOf_at, featOf_at]
  rw [unit_apply]
  unfold head
  simp only [e]

theorem fold_apply (u : FVec Ideal S4x2048x16x128 .f32) (b : Fin 4) (s : Fin 2048) (q : Fin 2048) : shapeCast S4x2048x2048 u shapeCasts_S4x2048x16x128_S4x2048x2048 (ix3 b s q) = u (ix4 b s (headOf q) (featOf q)) := by
  unfold headOf featOf
  pointwise

theorem root_apply (u : FVec Ideal S4x2048x16x128 .f32) (b : Fin 4) (s : Fin 2048) (h : Fin 16) (d : Fin 128) :
    Host.divf u (broadcastInDim S4x2048x16x128 ![] bcast_S_S4x2048x16x128 (Host.sqrt (constant (F := Ideal) S_ .f32 0x43000000#32))) (ix4 b s h d) = u (ix4 b s h d) * scale := by
  rw [← over_root]
  pointwise

theorem kLine_apply (a : FVec Ideal S4x2048x6144 .f32) (b : Fin 4) (s : Fin 2048) (q : Fin 2048) : kLine a (ix3 b s q) = head (fun j => a (ix3 b s (chan 1 (headOf q) j))) (featOf q) :=
  (fold_apply _ b s q).trans (unit_head a 1 2048 rfl _ b s _ _)

theorem qLine_apply (a : FVec Ideal S4x2048x6144 .f32) (b : Fin 4) (s : Fin 2048) (q : Fin 2048) : qLine a (ix3 b s q) = head (fun j => a (ix3 b s (chan 0 (headOf q) j))) (featOf q) * scale :=
  (fold_apply _ b s q).trans ((root_apply _ b s _ _).trans (congrArg (· * scale) (unit_head a 0 0 rfl _ b s _ _)))

theorem vLine_apply (a : FVec Ideal S4x2048x6144 .f32) (b : Fin 4) (s : Fin 2048) (q : Fin 2048) : vLine a (ix3 b s q) = swish (a (ix3 b s (chan 2 (headOf q) (featOf q)))) :=
  part_apply a 2 4096 rfl slices_S4x2048x6144_S4x2048x2048_0_0_4096 b s q

variable (m : (ℓ : Loc nD τ sig) → Buf (Elt Ideal) ℓ)

/-- The arguments as launched. -/
abbrev P (c : Dev nD) : S8192x16384.Idx → EReal := m ((c : Thread nD τ).loc main_arg0)
abbrev T (c : Dev nD) : S1x5x6144.Idx → EReal := m ((c : Thread nD τ).loc main_arg1)

theorem q_res (c : Dev nD) : res_main_v66 m c = qOf (chans (P m c)) (taps (T m c)) := by
  have e : res_main_v66 m c = qLine (five (rows (P m c)) (wts (T m c))) := rfl
  rw [e]
  funext i
  obtain ⟨b, s, q, rfl⟩ : ∃ (b : Fin 4) (s : Fin 2048) (q : Fin 2048), i = ix3 b s q := ⟨i 0, i 1, i 2, eq_ix3 i⟩
  rw [qLine_apply]
  simp only [five_apply]
  rfl

theorem k_res (c : Dev nD) : res_main_v68 m c = kOf (chans (P m c)) (taps (T m c)) := by
  have e : res_main_v68 m c = kLine (five (rows (P m c)) (wts (T m c))) := rfl
  rw [e]
  funext i
  obtain ⟨b, s, q, rfl⟩ : ∃ (b : Fin 4) (s : Fin 2048) (q : Fin 2048), i = ix3 b s q := ⟨i 0, i 1, i 2, eq_ix3 i⟩
  rw [kLine_apply]
  simp only [five_apply]
  rfl

theorem v_res (c : Dev nD) : res_main_v69 m c = vOf (chans (P m c)) (taps (T m c)) := by
  have e : res_main_v69 m c = vLine (five (rows (P m c)) (wts (T m c))) := rfl
  rw [e]
  funext i
  obtain ⟨b, s, q, rfl⟩ : ∃ (b : Fin 4) (s : Fin 2048) (q : Fin 2048), i = ix3 b s q := ⟨i 0, i 1, i 2, eq_ix3 i⟩
  rw [vLine_apply, five_apply]
  rfl

/-- The reference's run: queries, keys and values, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v66) = qOf (chans (P m c)) (taps (T m c))
      ∧ r.2.mem ((c : Thread nD τ).loc main_v68) = kOf (chans (P m c)) (taps (T m c))
      ∧ r.2.mem ((c : Thread nD τ).loc main_v69) = vOf (chans (P m c)) (taps (T m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (q_res m c), (h c).2.1.trans (k_res m c), (h c).2.2.1.trans (v_res m c), (h c).2.2.2⟩) (Cert.PrepRefIdeal.Value.run m ρ)

end Cert.PrepRun.Ref

end
-- ==== Proof.PrepCtx.Block.lean ====
/- What the context's call leaves in its blocks of queries, keys and values. -/
module

public import proofs.«01_k».proof.Proof.Prep.Body
public import proofs.«01_k».proof.Proof.Gen.PrepCtxIdeal.Value

@[expose] public section

set_option maxRecDepth 16384

noncomputable section

namespace Cert.PrepCtxRun

open Cert.PrepCtxIdeal Cert.PrepCtxIdeal.Gen
open Idealize.ShloMosaic Idealize.ShloMosaic.TcCoe Idealize.SL.Sem
open Cert.PrepRun
open Cert.MergeRun (squash eq_at2 eq_at3)

/-- The scratch's stores before one of the three convolutions: zeros at both ends, then the rows. -/
def fill (x : Vec Ideal S256x128 .f32) (rest : List (View.Piece (Elt Ideal) S272x128 .f32)) : List (View.Piece (Elt Ideal) S272x128 .f32) :=
  ⟨Rect.unit (s := S272x128) ![8, 0] ![256, 128] inb_S272x128_S256x128_8_0, k0_pay5 x⟩ :: ⟨Rect.unit (s := S272x128) ![264, 0] ![8, 128] inb_S272x128_S8x128_264_0, k0_pay4 (F := Ideal)⟩ :: ⟨Rect.unit (s := S272x128) ![0, 0] ![8, 128] inb_S272x128_S8x128_0_0, k0_pay3 (F := Ideal)⟩ :: rest

theorem pay5_eq (x : Vec Ideal S256x128 .f32) : k0_pay5 x = x := by
  funext i
  obtain ⟨r, j, rfl⟩ : ∃ (r : Fin 256) (j : Fin 128), i = ix2 r j := ⟨i 0, i 1, eq_ix2 i⟩
  pointwise [k0_pay5]

theorem pay3_zero (i : S8x128.Idx) : k0_pay3 (F := Ideal) i = 0 := by
  obtain ⟨r, j, rfl⟩ : ∃ (r : Fin 8) (j : Fin 128), i = ix2 r j := ⟨i 0, i 1, eq_ix2 i⟩
  pointwise [k0_pay3, k0_pay2]

theorem pay4_zero (i : S8x128.Idx) : k0_pay4 (F := Ideal) i = 0 := pay3_zero i

theorem load (v : View sig .tc .vmem S272x128 .f32) (x : Vec Ideal S256x128 .f32) (rest : List (View.Piece (Elt Ideal) S272x128 .f32)) (o : ℕ) (inb : ∀ a, (![o, 0] : Fin 2 → ℕ) a + (![256, 128] : Fin 2 → ℕ) a ≤ (![272, 128] : Fin 2 → ℕ) a) :
    v.readCov (fill x rest) (Rect.unit (s := S272x128) ![o, 0] ![256, 128] inb).toLoadRect = tap x o :=
  load_tap (M := 272) (L := 256) v x (fill x rest) (fun y => by
    have h := filled (M := 272) (L := 256) (E := 264) rfl rfl v v.junk x (k0_pay3 (F := Ideal)) (k0_pay4 (F := Ideal)) pay3_zero pay4_zero inb_S272x128_S256x128_8_0 inb_S272x128_S8x128_264_0 inb_S272x128_S8x128_0_0 rest y
    rw [← h, fill, pay5_eq]) o inb

variable (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x256x128 .bf16) (harg8 : arg8.IsWhole) (arg9 : Memref sig .tc .vmem S1x256x128 .bf16) (harg9 : arg9.IsWhole) (arg10 : Memref sig .tc .vmem S1x256x128 .bf16) (harg10 : arg10.IsWhole) (arg11 : Memref sig .tc .vmem S272x128 .f32) (harg11 : arg11.IsWhole)
   (x0 x1 x2 : Vec Ideal S256x128 .f32) (x3 x4 x5 : Vec Ideal S8x128 .f32)

theorem q_pieces : (kernelRun0_A c i arg2 harg2 arg3 harg3 arg4 harg4 arg5 harg5 arg6 harg6 arg7 harg7 arg8 harg8 arg9 harg9 arg10 harg10 arg11 harg11 x0 x1 x2 x3 x4 x5).1
    = [⟨Rect.unit (s := S1x256x128) ![0, 0, 0] ![1, 256, 128] inb_S1x256x128_S1x256x128_0_0_0, qPay (arg11.view.readCov (fill (View.readAt (Elt Ideal) arg2.view (Rect.unit (s := S256x128) ![0, 0] ![256, 128] inb_S256x128_S256x128_0_0).toLoadRect (harg2.unread x0)) []) (Rect.unit (s := S272x128) ![6, 0] ![256, 128] inb_S272x128_S256x128_6_0).toLoadRect) (arg11.view.readCov (fill (View.readAt (Elt Ideal) arg2.view (Rect.unit (s := S256x128) ![0, 0] ![256, 128] inb_S256x128_S256x128_0_0).toLoadRect (harg2.unread x0)) []) (Rect.unit (s := S272x128) ![7, 0] ![256, 128] inb_S272x128_S256x128_7_0).toLoadRect) (arg11.view.readCov (fill (View.readAt (Elt Ideal) arg2.view (Rect.unit (s := S256x128) ![0, 0] ![256, 128] inb_S256x128_S256x128_0_0).toLoadRect (harg2.unread x0)) []) (Rect.unit (s := S272x128) ![8, 0] ![256, 128] inb_S272x128_S256x128_8_0).toLoadRect) (arg11.view.readCov (fill (View.readAt (Elt Ideal) arg2.view (Rect.unit (s := S256x128) ![0, 0] ![256, 128] inb_S256x128_S256x128_0_0).toLoadRect (harg2.unread x0)) []) (Rect.unit (s := S272x128) ![9, 0] ![256, 128] inb_S272x128_S256x128_9_0).toLoadRect) (arg11.view.readCov (fill (View.readAt (Elt Ideal) arg2.view (Rect.unit (s := S256x128) ![0, 0] ![256, 128] inb_S256x128_S256x128_0_0).toLoadRect (harg2.unread x0)) []) (Rect.unit (s := S272x128) ![10, 0] ![256, 128] inb_S272x128_S256x128_10_0).toLoadRect) (View.readAt (Elt Ideal) arg5.view (Rect.unit (s := S8x128) ![0, 0] ![1, 128] inb_S8x128_S1x128_0_0).toLoadRect (harg5.unread x3)) (View.readAt (Elt Ideal) arg5.view (Rect.unit (s := S8x128) ![1, 0] ![1, 128] inb_S8x128_S1x128_1_0).toLoadRect (harg5.unread x3)) (View.readAt (Elt Ideal) arg5.view (Rect.unit (s := S8x128) ![2, 0] ![1, 128] inb_S8x128_S1x128_2_0).toLoadRect (harg5.unread x3)) (View.readAt (Elt Ideal) arg5.view (Rect.unit (s := S8x128) ![3, 0] ![1, 128] inb_S8x128_S1x128_3_0).toLoadRect (harg5.unread x3)) (View.readAt (Elt Ideal) arg5.view (Rect.unit (s := S8x128) ![4, 0] ![1, 128] inb_S8x128_S1x128_4_0).toLoadRect (harg5.unread x3))⟩] := by
  delta kernelRun0_A
  dsimp only
  rfl

theorem q_out : out0_A_6 c i arg2 harg2 arg3 harg3 arg4 harg4 arg5 harg5 arg6 harg6 arg7 harg7 arg8 harg8 arg9 harg9 arg10 harg10 arg11 harg11 x0 x1 x2 x3 x4 x5 = qBlock x0 x3 := by
  unfold out0_A_6
  rw [View.read_writes_junk_eq_canon, q_pieces, load, load, load, load, load, load_block, load_wrow arg5 harg5 x3 0 (by decide), load_wrow arg5 harg5 x3 1 (by decide), load_wrow arg5 harg5 x3 2 (by decide), load_wrow arg5 harg5 x3 3 (by decide), load_wrow arg5 harg5 x3 4 (by decide)]
  refine (View.canon_cons_unit_lit _ _ _ (by decide)).trans ?_
  funext y
  obtain ⟨b, r, d, rfl⟩ : ∃ (b : Fin 1) (r : Fin 256) (d : Fin 128), y = ix3 b r d := ⟨y 0, y 1, y 2, eq_ix3 y⟩
  obtain rfl : b = 0 := Subsingleton.elim _ _
  rw [qPay_apply]
  have e : sum5 (tap x0 6) (tap x0 7) (tap x0 8) (tap x0 9) (tap x0 10) (wrow x3 0) (wrow x3 1) (wrow x3 2) (wrow x3 3) (wrow x3 4) r = colConv x0 x3 r.val :=
    funext fun j => sum5_eq x0 x3 6 r.val r j rfl
  rw [e]
  rfl

theorem k_pieces : (kernelRun0_A c i arg2 harg2 arg3 harg3 arg4 harg4 arg5 harg5 arg6 harg6 arg7 harg7 arg8 harg8 arg9 harg9 arg10 harg10 arg11 harg11 x0 x1 x2 x3 x4 x5).2.1
    = [⟨Rect.unit (s := S1x256x128) ![0, 0, 0] ![1, 256, 128] inb_S1x256x128_S1x256x128_0_0_0, kPay (arg11.view.readCov (fill (View.readAt (Elt Ideal) arg3.view (Rect.unit (s := S256x128) ![0, 0] ![256, 128] inb_S256x128_S256x128_0_0).toLoadRect (harg3.unread x1)) (fill (View.readAt (Elt Ideal) arg2.view (Rect.unit (s := S256x128) ![0, 0] ![256, 128] inb_S256x128_S256x128_0_0).toLoadRect (harg2.unread x0)) [])) (Rect.unit (s := S272x128) ![6, 0] ![256, 128] inb_S272x128_S256x128_6_0).toLoadRect) (arg11.view.readCov (fill (View.readAt (Elt Ideal) arg3.view (Rect.unit (s := S256x128) ![0, 0] ![256, 128] inb_S256x128_S256x128_0_0).toLoadRect (harg3.unread x1)) (fill (View.readAt (Elt Ideal) arg2.view (Rect.unit (s := S256x128) ![0, 0] ![256, 128] inb_S256x128_S256x128_0_0).toLoadRect (harg2.unread x0)) [])) (Rect.unit (s := S272x128) ![7, 0] ![256, 128] inb_S272x128_S256x128_7_0).toLoadRect) (arg11.view.readCov (fill (View.readAt (Elt Ideal) arg3.view (Rect.unit (s := S256x128) ![0, 0] ![256, 128] inb_S256x128_S256x128_0_0).toLoadRect (harg3.unread x1)) (fill (View.readAt (Elt Ideal) arg2.view (Rect.unit (s := S256x128) ![0, 0] ![256, 128] inb_S256x128_S256x128_0_0).toLoadRect (harg2.unread x0)) [])) (Rect.unit (s := S272x128) ![8, 0] ![256, 128] inb_S272x128_S256x128_8_0).toLoadRect) (arg11.view.readCov (fill (View.readAt (Elt Ideal) arg3.view (Rect.unit (s := S256x128) ![0, 0] ![256, 128] inb_S256x128_S256x128_0_0).toLoadRect (harg3.unread x1)) (fill (View.readAt (Elt Ideal) arg2.view (Rect.unit (s := S256x128) ![0, 0] ![256, 128] inb_S256x128_S256x128_0_0).toLoadRect (harg2.unread x0)) [])) (Rect.unit (s := S272x128) ![9, 0] ![256, 128] inb_S272x128_S256x128_9_0).toLoadRect) (arg11.view.readCov (fill (View.readAt (Elt Ideal) arg3.view (Rect.unit (s := S256x128) ![0, 0] ![256, 128] inb_S256x128_S256x128_0_0).toLoadRect (harg3.unread x1)) (fill (View.readAt (Elt Ideal) arg2.view (Rect.unit (s := S256x128) ![0, 0] ![256, 128] inb_S256x128_S256x128_0_0).toLoadRect (harg2.unread x0)) [])) (Rect.unit (s := S272x128) ![10, 0] ![256, 128] inb_S272x128_S256x128_10_0).toLoadRect) (View.readAt (Elt Ideal) arg6.view (Rect.unit (s := S8x128) ![0, 0] ![1, 128] inb_S8x128_S1x128_0_0).toLoadRect (harg6.unread x4)) (View.readAt (Elt Ideal) arg6.view (Rect.unit (s := S8x128) ![1, 0] ![1, 128] inb_S8x128_S1x128_1_0).toLoadRect (harg6.unread x4)) (View.readAt (Elt Ideal) arg6.view (Rect.unit (s := S8x128) ![2, 0] ![1, 128] inb_S8x128_S1x128_2_0).toLoadRect (harg6.unread x4)) (View.readAt (Elt Ideal) arg6.view (Rect.unit (s := S8x128) ![3, 0] ![1, 128] inb_S8x128_S1x128_3_0).toLoadRect (harg6.unread x4)) (View.readAt (Elt Ideal) arg6.view (Rect.unit (s := S8x128) ![4, 0] ![1, 128] inb_S8x128_S1x128_4_0).toLoadRect (harg6.unread x4))⟩] := by
  delta kernelRun0_A
  dsimp only
  rfl

theorem k_out : out0_A_7 c i arg2 harg2 arg3 harg3 arg4 harg4 arg5 harg5 arg6 harg6 arg7 harg7 arg8 harg8 arg9 harg9 arg10 harg10 arg11 harg11 x0 x1 x2 x3 x4 x5 = kBlock x1 x4 := by
  unfold out0_A_7
  rw [View.read_writes_junk_eq_canon, k_pieces, load, load, load, load, load, load_block, load_wrow arg6 harg6 x4 0 (by decide), load_wrow arg6 harg6 x4 1 (by decide), load_wrow arg6 harg6 x4 2 (by decide), load_wrow arg6 harg6 x4 3 (by decide), load_wrow arg6 harg6 x4 4 (by decide)]
  refine (View.canon_cons_unit_lit _ _ _ (by decide)).trans ?_
  funext y
  obtain ⟨b, r, d, rfl⟩ : ∃ (b : Fin 1) (r : Fin 256) (d : Fin 128), y = ix3 b r d := ⟨y 0, y 1, y 2, eq_ix3 y⟩
  obtain rfl : b = 0 := Subsingleton.elim _ _
  rw [kPay_apply]
  have e : sum5 (tap x1 6) (tap x1 7) (tap x1 8) (tap x1 9) (tap x1 10) (wrow x4 0) (wrow x4 1) (wrow x4 2) (wrow x4 3) (wrow x4 4) r = colConv x1 x4 r.val :=
    funext fun j => sum5_eq x1 x4 6 r.val r j rfl
  rw [e]
  rfl

theorem v_pieces : (kernelRun0_A c i arg2 harg2 arg3 harg3 arg4 harg4 arg5 harg5 arg6 harg6 arg7 harg7 arg8 harg8 arg9 harg9 arg10 harg10 arg11 harg11 x0 x1 x2 x3 x4 x5).2.2.1
    = [⟨Rect.unit (s := S1x256x128) ![0, 0, 0] ![1, 256, 128] inb_S1x256x128_S1x256x128_0_0_0, vPay (arg11.view.readCov (fill (View.readAt (Elt Ideal) arg4.view (Rect.unit (s := S256x128) ![0, 0] ![256, 128] inb_S256x128_S256x128_0_0).toLoadRect (harg4.unread x2)) (fill (View.readAt (Elt Ideal) arg3.view (Rect.unit (s := S256x128) ![0, 0] ![256, 128] inb_S256x128_S256x128_0_0).toLoadRect (harg3.unread x1)) (fill (View.readAt (Elt Ideal) arg2.view (Rect.unit (s := S256x128) ![0, 0] ![256, 128] inb_S256x128_S256x128_0_0).toLoadRect (harg2.unread x0)) []))) (Rect.unit (s := S272x128) ![6, 0] ![256, 128] inb_S272x128_S256x128_6_0).toLoadRect) (arg11.view.readCov (fill (View.readAt (Elt Ideal) arg4.view (Rect.unit (s := S256x128) ![0, 0] ![256, 128] inb_S256x128_S256x128_0_0).toLoadRect (harg4.unread x2)) (fill (View.readAt (Elt Ideal) arg3.view (Rect.unit (s := S256x128) ![0, 0] ![256, 128] inb_S256x128_S256x128_0_0).toLoadRect (harg3.unread x1)) (fill (View.readAt (Elt Ideal) arg2.view (Rect.unit (s := S256x128) ![0, 0] ![256, 128] inb_S256x128_S256x128_0_0).toLoadRect (harg2.unread x0)) []))) (Rect.unit (s := S272x128) ![7, 0] ![256, 128] inb_S272x128_S256x128_7_0).toLoadRect) (arg11.view.readCov (fill (View.readAt (Elt Ideal) arg4.view (Rect.unit (s := S256x128) ![0, 0] ![256, 128] inb_S256x128_S256x128_0_0).toLoadRect (harg4.unread x2)) (fill (View.readAt (Elt Ideal) arg3.view (Rect.unit (s := S256x128) ![0, 0] ![256, 128] inb_S256x128_S256x128_0_0).toLoadRect (harg3.unread x1)) (fill (View.readAt (Elt Ideal) arg2.view (Rect.unit (s := S256x128) ![0, 0] ![256, 128] inb_S256x128_S256x128_0_0).toLoadRect (harg2.unread x0)) []))) (Rect.unit (s := S272x128) ![8, 0] ![256, 128] inb_S272x128_S256x128_8_0).toLoadRect) (arg11.view.readCov (fill (View.readAt (Elt Ideal) arg4.view (Rect.unit (s := S256x128) ![0, 0] ![256, 128] inb_S256x128_S256x128_0_0).toLoadRect (harg4.unread x2)) (fill (View.readAt (Elt Ideal) arg3.view (Rect.unit (s := S256x128) ![0, 0] ![256, 128] inb_S256x128_S256x128_0_0).toLoadRect (harg3.unread x1)) (fill (View.readAt (Elt Ideal) arg2.view (Rect.unit (s := S256x128) ![0, 0] ![256, 128] inb_S256x128_S256x128_0_0).toLoadRect (harg2.unread x0)) []))) (Rect.unit (s := S272x128) ![9, 0] ![256, 128] inb_S272x128_S256x128_9_0).toLoadRect) (arg11.view.readCov (fill (View.readAt (Elt Ideal) arg4.view (Rect.unit (s := S256x128) ![0, 0] ![256, 128] inb_S256x128_S256x128_0_0).toLoadRect (harg4.unread x2)) (fill (View.readAt (Elt Ideal) arg3.view (Rect.unit (s := S256x128) ![0, 0] ![256, 128] inb_S256x128_S256x128_0_0).toLoadRect (harg3.unread x1)) (fill (View.readAt (Elt Ideal) arg2.view (Rect.unit (s := S256x128) ![0, 0] ![256, 128] inb_S256x128_S256x128_0_0).toLoadRect (harg2.unread x0)) []))) (Rect.unit (s := S272x128) ![10, 0] ![256, 128] inb_S272x128_S256x128_10_0).toLoadRect) (View.readAt (Elt Ideal) arg7.view (Rect.unit (s := S8x128) ![0, 0] ![1, 128] inb_S8x128_S1x128_0_0).toLoadRect (harg7.unread x5)) (View.readAt (Elt Ideal) arg7.view (Rect.unit (s := S8x128) ![1, 0] ![1, 128] inb_S8x128_S1x128_1_0).toLoadRect (harg7.unread x5)) (View.readAt (Elt Ideal) arg7.view (Rect.unit (s := S8x128) ![2, 0] ![1, 128] inb_S8x128_S1x128_2_0).toLoadRect (harg7.unread x5)) (View.readAt (Elt Ideal) arg7.view (Rect.unit (s := S8x128) ![3, 0] ![1, 128] inb_S8x128_S1x128_3_0).toLoadRect (harg7.unread x5)) (View.readAt (Elt Ideal) arg7.view (Rect.unit (s := S8x128) ![4, 0] ![1, 128] inb_S8x128_S1x128_4_0).toLoadRect (harg7.unread x5))⟩] := by
  delta kernelRun0_A
  dsimp only
  rfl

theorem v_out : out0_A_8 c i arg2 harg2 arg3 harg3 arg4 harg4 arg5 harg5 arg6 harg6 arg7 harg7 arg8 harg8 arg9 harg9 arg10 harg10 arg11 harg11 x0 x1 x2 x3 x4 x5 = vBlock x2 x5 := by
  unfold out0_A_8
  rw [View.read_writes_junk_eq_canon, v_pieces, load, load, load, load, load, load_block, load_wrow arg7 harg7 x5 0 (by decide), load_wrow arg7 harg7 x5 1 (by decide), load_wrow arg7 harg7 x5 2 (by decide), load_wrow arg7 harg7 x5 3 (by decide), load_wrow arg7 harg7 x5 4 (by decide)]
  refine (View.canon_cons_unit_lit _ _ _ (by decide)).trans ?_
  funext y
  obtain ⟨b, r, d, rfl⟩ : ∃ (b : Fin 1) (r : Fin 256) (d : Fin 128), y = ix3 b r d := ⟨y 0, y 1, y 2, eq_ix3 y⟩
  obtain rfl : b = 0 := Subsingleton.elim _ _
  rw [vPay_apply]
  have e : sum5 (tap x2 6) (tap x2 7) (tap x2 8) (tap x2 9) (tap x2 10) (wrow x5 0) (wrow x5 1) (wrow x5 2) (wrow x5 3) (wrow x5 4) r = colConv x2 x5 r.val :=
    funext fun j => sum5_eq x2 x5 6 r.val r j rfl
  rw [e]
  rfl

end Cert.PrepCtxRun

end
-- ==== Proof.PrepCtx.Value.lean ====
/- What the call over the context computes: the queries, keys and values of every token, as a function of the arguments. -/
module

public import proofs.«01_k».proof.Proof.Prep.Spec
public import proofs.«01_k».proof.Proof.PrepCtx.Block
public import Idealize.ShloMosaic.Lib.Pipeline.ValueKit
public import Idealize.ShloMosaic.Lib.Pipeline.Value
public import Idealize.ShloMosaic.Lib.Pointwise

@[expose] public section

set_option maxRecDepth 16384

noncomputable section

namespace Cert.PrepCtxRun

open Cert.PrepCtxIdeal Cert.PrepCtxIdeal.Gen
open Idealize.ShloMosaic Idealize.ShloMosaic.TcCoe Idealize.SL.Sem
open Idealize.ShloMosaic.Pipeline (Dat)
open Cert.PrepRun
open Cert.MergeRun (eq_at2 eq_at3)

/-- The channels by batch and row, and the taps. -/
def chans (p : S1024x6144.Idx → EReal) : Fin 4 → Fin 256 → Fin 6144 → EReal := fun b s j => p (ix2 (⟨b.val * 256 + s.val, by omega⟩ : Fin 1024) (⟨j.val, by omega⟩ : Fin 6144))
def taps (w : S1x5x6144.Idx → EReal) : Fin 5 → Fin 6144 → EReal := fun n j => w (ix3 0 n j)

variable (m : (ℓ : Loc nD τ sig) → Buf (Elt Ideal) ℓ) (ρ : Dev nD → PrngReg)

/-- The arguments as launched. -/
abbrev P (c : Dev nD) : S1024x6144.Idx → EReal := m ((c : Thread nD τ).loc main_arg0)
abbrev T (c : Dev nD) : S1x5x6144.Idx → EReal := m ((c : Thread nD τ).loc main_arg1)

theorem padded (w : S1x5x6144.Idx → EReal) (n : Fin 5) (j : Fin 6144) :
    (pad S8x6144 ![0, 0] ![3, 0] ![0, 0] (shapeCast S5x6144 w shapeCasts_S1x5x6144_S5x6144) (sitofp (F := Ideal) .f32 (constantI S_ 32 0#32)) pads_S5x6144_S8x6144_030_000 h_S_ : FVec Ideal S8x6144 .f32) (ix2 (up n) j) = taps w n j := by
  have hn := n.isLt
  have hj := j.isLt
  rw [pad_apply, dif_pos (fun a => by
    match a with
    | ⟨0, _⟩ => show 0 ≤ n.val ∧ (n.val - 0) % 1 = 0 ∧ (n.val - 0) / 1 < 5; omega
    | ⟨1, _⟩ => show 0 ≤ j.val ∧ (j.val - 0) % 1 = 0 ∧ (j.val - 0) / 1 < 6144; omega)]
  refine (congrArg (shapeCast S5x6144 w shapeCasts_S1x5x6144_S5x6144) (eq_at2 _ n j ?_ ?_)).trans ?_
  · show (n.val - 0) / 1 = n.val; omega
  · show (j.val - 0) / 1 = j.val; omega
  · unfold taps; pointwise

theorem V_v1 (c : Dev nD) (n : Fin 5) (j : Fin 6144) : (V m c main_v1 : S8x6144.Idx → EReal) (ix2 (up n) j) = taps (T m c) n j := by
  refine Eq.trans (congrFun (?_ : V m c main_v1 = _) _) (padded (T m c) n j)
  unfold V
  simp only [hostOps0, hostOps0_1, List.flatten_cons, List.flatten_nil, List.append_nil, List.cons_append, List.nil_append]
  after_results <;> rfl

theorem lt_N (t : Fin cfg0.N) : t.val < 64 := Nat.lt_of_lt_of_eq t.isLt N_0

/-- The batch and the head of a grid point. -/
def batch (t : Fin cfg0.N) : Fin 4 := ⟨t.val / 16, by have := lt_N t; omega⟩
def hd (t : Fin cfg0.N) : Fin 16 := ⟨t.val % 16, by omega⟩

/-- Where each window's block begins. -/
theorem idx_0 : ∀ t : Fin cfg0.N, win0_0.index t 0 = t.val / 16 ∧ win0_0.index t 1 = 0 + t.val % 16 :=
  (by decide +kernel : ∀ t : Fin grid0.N, win0_0.index t 0 = t.val / 16 ∧ win0_0.index t 1 = 0 + t.val % 16)
theorem idx_1 : ∀ t : Fin cfg0.N, win0_1.index t 0 = t.val / 16 ∧ win0_1.index t 1 = 16 + t.val % 16 :=
  (by decide +kernel : ∀ t : Fin grid0.N, win0_1.index t 0 = t.val / 16 ∧ win0_1.index t 1 = 16 + t.val % 16)
theorem idx_2 : ∀ t : Fin cfg0.N, win0_2.index t 0 = t.val / 16 ∧ win0_2.index t 1 = 32 + t.val % 16 :=
  (by decide +kernel : ∀ t : Fin grid0.N, win0_2.index t 0 = t.val / 16 ∧ win0_2.index t 1 = 32 + t.val % 16)
theorem idx_3 : ∀ t : Fin cfg0.N, win0_3.index t 0 = 0 ∧ win0_3.index t 1 = 0 + t.val % 16 :=
  (by decide +kernel : ∀ t : Fin grid0.N, win0_3.index t 0 = 0 ∧ win0_3.index t 1 = 0 + t.val % 16)
theorem idx_4 : ∀ t : Fin cfg0.N, win0_4.index t 0 = 0 ∧ win0_4.index t 1 = 16 + t.val % 16 :=
  (by decide +kernel : ∀ t : Fin grid0.N, win0_4.index t 0 = 0 ∧ win0_4.index t 1 = 16 + t.val % 16)
theorem idx_5 : ∀ t : Fin cfg0.N, win0_5.index t 0 = 0 ∧ win0_5.index t 1 = 32 + t.val % 16 :=
  (by decide +kernel : ∀ t : Fin grid0.N, win0_5.index t 0 = 0 ∧ win0_5.index t 1 = 32 + t.val % 16)
theorem idx_6 : ∀ t : Fin cfg0.N, win0_6.index t 0 = t.val / 16 ∧ win0_6.index t 1 = 0 ∧ win0_6.index t 2 = t.val % 16 :=
  (by decide +kernel : ∀ t : Fin grid0.N, win0_6.index t 0 = t.val / 16 ∧ win0_6.index t 1 = 0 ∧ win0_6.index t 2 = t.val % 16)
theorem idx_7 : ∀ t : Fin cfg0.N, win0_7.index t 0 = t.val / 16 ∧ win0_7.index t 1 = 0 ∧ win0_7.index t 2 = t.val % 16 :=
  (by decide +kernel : ∀ t : Fin grid0.N, win0_7.index t 0 = t.val / 16 ∧ win0_7.index t 1 = 0 ∧ win0_7.index t 2 = t.val % 16)
theorem idx_8 : ∀ t : Fin cfg0.N, win0_8.index t 0 = t.val / 16 ∧ win0_8.index t 1 = 0 ∧ win0_8.index t 2 = t.val % 16 :=
  (by decide +kernel : ∀ t : Fin grid0.N, win0_8.index t 0 = t.val / 16 ∧ win0_8.index t 1 = 0 ∧ win0_8.index t 2 = t.val % 16)

theorem iblk_0 (c : Dev nD) (t : Fin cfg0.N) (r : Fin 256) (j : Fin 128) : (iblk m c 0 t : Vec Ideal S256x128 .f32) (ix2 r j) = chans (P m c) (batch t) r (chan 0 (hd t) j) := by
  unfold chans
  rw [show P m c = V m c main_arg0 from (V_main_arg0 m c).symm]
  have e := idx_0 t
  refine congrArg (V m c main_arg0) (eq_at2 _ _ _ ?_ ?_)
  · show win0_0.index t 0 * 256 + 1 * r.val = t.val / 16 * 256 + r.val; rw [e.1]; omega
  · show win0_0.index t 1 * 128 + 1 * j.val = (0 * 2048 + t.val % 16 * 128 + j.val); rw [e.2]; omega

theorem iblk_3 (c : Dev nD) (t : Fin cfg0.N) (n : Fin 5) (j : Fin 128) : (iblk m c 3 t : Vec Ideal S8x128 .f32) (ix2 (up n) j) = taps (T m c) n (chan 0 (hd t) j) := by
  rw [← V_v1]
  have e := idx_3 t
  refine congrArg (V m c main_v1) (eq_at2 _ _ _ ?_ ?_)
  · show win0_3.index t 0 * 8 + 1 * n.val = n.val; rw [e.1]; omega
  · show win0_3.index t 1 * 128 + 1 * j.val = 0 * 2048 + t.val % 16 * 128 + j.val; rw [e.2]; omega

theorem iblk_1 (c : Dev nD) (t : Fin cfg0.N) (r : Fin 256) (j : Fin 128) : (iblk m c 1 t : Vec Ideal S256x128 .f32) (ix2 r j) = chans (P m c) (batch t) r (chan 1 (hd t) j) := by
  unfold chans
  rw [show P m c = V m c main_arg0 from (V_main_arg0 m c).symm]
  have e := idx_1 t
  refine congrArg (V m c main_arg0) (eq_at2 _ _ _ ?_ ?_)
  · show win0_1.index t 0 * 256 + 1 * r.val = t.val / 16 * 256 + r.val; rw [e.1]; omega
  · show win0_1.index t 1 * 128 + 1 * j.val = (1 * 2048 + t.val % 16 * 128 + j.val); rw [e.2]; omega

theorem iblk_4 (c : Dev nD) (t : Fin cfg0.N) (n : Fin 5) (j : Fin 128) : (iblk m c 4 t : Vec Ideal S8x128 .f32) (ix2 (up n) j) = taps (T m c) n (chan 1 (hd t) j) := by
  rw [← V_v1]
  have e := idx_4 t
  refine congrArg (V m c main_v1) (eq_at2 _ _ _ ?_ ?_)
  · show win0_4.index t 0 * 8 + 1 * n.val = n.val; rw [e.1]; omega
  · show win0_4.index t 1 * 128 + 1 * j.val = 1 * 2048 + t.val % 16 * 128 + j.val; rw [e.2]; omega

theorem iblk_2 (c : Dev nD) (t : Fin cfg0.N) (r : Fin 256) (j : Fin 128) : (iblk m c 2 t : Vec Ideal S256x128 .f32) (ix2 r j) = chans (P m c) (batch t) r (chan 2 (hd t) j) := by
  unfold chans
  rw [show P m c = V m c main_arg0 from (V_main_arg0 m c).symm]
  have e := idx_2 t
  refine congrArg (V m c main_arg0) (eq_at2 _ _ _ ?_ ?_)
  · show win0_2.index t 0 * 256 + 1 * r.val = t.val / 16 * 256 + r.val; rw [e.1]; omega
  · show win0_2.index t 1 * 128 + 1 * j.val = (2 * 2048 + t.val % 16 * 128 + j.val); rw [e.2]; omega

theorem iblk_5 (c : Dev nD) (t : Fin cfg0.N) (n : Fin 5) (j : Fin 128) : (iblk m c 5 t : Vec Ideal S8x128 .f32) (ix2 (up n) j) = taps (T m c) n (chan 2 (hd t) j) := by
  rw [← V_v1]
  have e := idx_5 t
  refine congrArg (V m c main_v1) (eq_at2 _ _ _ ?_ ?_)
  · show win0_5.index t 0 * 8 + 1 * n.val = n.val; rw [e.1]; omega
  · show win0_5.index t 1 * 128 + 1 * j.val = 2 * 2048 + t.val % 16 * 128 + j.val; rw [e.2]; omega

theorem flushed_6 (c : Dev nD) (t : Fin cfg0.N) :
    (dats m 0 c).flushed 6 t = ((cfg0.win 6).blk t).view.read (Elt Ideal) (qOf (chans (P m c)) (taps (T m c))) := by
  rw [Cert.PrepCtxIdeal.Value.flushed6_A, q_out]
  funext y
  rw [View.read_apply]
  obtain ⟨b, r, d, rfl⟩ : ∃ (b : Fin 1) (r : Fin 256) (d : Fin 128), y = ix3 b r d := ⟨y 0, y 1, y 2, eq_ix3 y⟩
  obtain rfl : b = 0 := Subsingleton.elim _ _
  have e := idx_6 t
  rw [show (((cfg0.win 6).blk t).view.emb (ix3 0 r d) : S4x256x2048.Idx) = ix3 (batch t) r ⟨(hd t).val * 128 + d.val, by omega⟩ from eq_at3 _ _ _ _
    (by show win0_6.index t 0 * 1 + 1 * 0 = t.val / 16; rw [e.1]; omega)
    (by show win0_6.index t 1 * 256 + 1 * r.val = r.val; rw [e.2.1]; omega)
    (by show win0_6.index t 2 * 128 + 1 * d.val = t.val % 16 * 128 + d.val; rw [e.2.2]; omega)]
  exact qBlock_eq _ _ (iblk_0 m c t) (iblk_3 m c t) rfl r d _

theorem final_6 (c : Dev nD) : (dats m 0 c).arrAt 6 cfg0.N = qOf (chans (P m c)) (taps (T m c)) :=
  (dats m 0 c).arrAt_eq_of_cover 6 _ (fun t _ => flushed_6 m c t) fun i => by
    have h0 : (i 0 : Nat) < 4 := (i 0).isLt
    have h1 : (i 1 : Nat) < 256 := (i 1).isLt
    have h2 : (i 2 : Nat) < 2048 := (i 2).isLt
    have ht : (i 0 : Nat) * 16 + (i 2 : Nat) / 128 < cfg0.N := by rw [show cfg0.N = 64 from N_0]; omega
    refine ⟨⟨(i 0 : Nat) * 16 + (i 2 : Nat) / 128, ht⟩, flush0_6 _, ?_⟩
    show i ∈ ((View.whole main_v2_0).slice (win0_6.rect ⟨(i 0 : Nat) * 16 + (i 2 : Nat) / 128, ht⟩)).set
    rw [View.set_slice_whole, Rect.mem_set_unit]
    have hi := idx_6 ⟨(i 0 : Nat) * 16 + (i 2 : Nat) / 128, ht⟩
    dsimp only at hi
    intro a
    match a with
    | ⟨0, _⟩ => show win0_6.index ⟨_, ht⟩ 0 * 1 ≤ (i 0 : Nat) ∧ (i 0 : Nat) < win0_6.index ⟨_, ht⟩ 0 * 1 + 1
                rw [hi.1]; omega
    | ⟨1, _⟩ => show win0_6.index ⟨_, ht⟩ 1 * 256 ≤ (i 1 : Nat) ∧ (i 1 : Nat) < win0_6.index ⟨_, ht⟩ 1 * 256 + 256
                rw [hi.2.1]; omega
    | ⟨2, _⟩ => show win0_6.index ⟨_, ht⟩ 2 * 128 ≤ (i 2 : Nat) ∧ (i 2 : Nat) < win0_6.index ⟨_, ht⟩ 2 * 128 + 128
                rw [hi.2.2]; omega

theorem flushed_7 (c : Dev nD) (t : Fin cfg0.N) :
    (dats m 0 c).flushed 7 t = ((cfg0.win 7).blk t).view.read (Elt Ideal) (kOf (chans (P m c)) (taps (T m c))) := by
  rw [Cert.PrepCtxIdeal.Value.flushed7_A, k_out]
  funext y
  rw [View.read_apply]
  obtain ⟨b, r, d, rfl⟩ : ∃ (b : Fin 1) (r : Fin 256) (d : Fin 128), y = ix3 b r d := ⟨y 0, y 1, y 2, eq_ix3 y⟩
  obtain rfl : b = 0 := Subsingleton.elim _ _
  have e := idx_7 t
  rw [show (((cfg0.win 7).blk t).view.emb (ix3 0 r d) : S4x256x2048.Idx) = ix3 (batch t) r ⟨(hd t).val * 128 + d.val, by omega⟩ from eq_at3 _ _ _ _
    (by show win0_7.index t 0 * 1 + 1 * 0 = t.val / 16; rw [e.1]; omega)
    (by show win0_7.index t 1 * 256 + 1 * r.val = r.val; rw [e.2.1]; omega)
    (by show win0_7.index t 2 * 128 + 1 * d.val = t.val % 16 * 128 + d.val; rw [e.2.2]; omega)]
  exact kBlock_eq _ _ (iblk_1 m c t) (iblk_4 m c t) rfl r d _

theorem final_7 (c : Dev nD) : (dats m 0 c).arrAt 7 cfg0.N = kOf (chans (P m c)) (taps (T m c)) :=
  (dats m 0 c).arrAt_eq_of_cover 7 _ (fun t _ => flushed_7 m c t) fun i => by
    have h0 : (i 0 : Nat) < 4 := (i 0).isLt
    have h1 : (i 1 : Nat) < 256 := (i 1).isLt
    have h2 : (i 2 : Nat) < 2048 := (i 2).isLt
    have ht : (i 0 : Nat) * 16 + (i 2 : Nat) / 128 < cfg0.N := by rw [show cfg0.N = 64 from N_0]; omega
    refine ⟨⟨(i 0 : Nat) * 16 + (i 2 : Nat) / 128, ht⟩, flush0_7 _, ?_⟩
    show i ∈ ((View.whole main_v2_1).slice (win0_7.rect ⟨(i 0 : Nat) * 16 + (i 2 : Nat) / 128, ht⟩)).set
    rw [View.set_slice_whole, Rect.mem_set_unit]
    have hi := idx_7 ⟨(i 0 : Nat) * 16 + (i 2 : Nat) / 128, ht⟩
    dsimp only at hi
    intro a
    match a with
    | ⟨0, _⟩ => show win0_7.index ⟨_, ht⟩ 0 * 1 ≤ (i 0 : Nat) ∧ (i 0 : Nat) < win0_7.index ⟨_, ht⟩ 0 * 1 + 1
                rw [hi.1]; omega
    | ⟨1, _⟩ => show win0_7.index ⟨_, ht⟩ 1 * 256 ≤ (i 1 : Nat) ∧ (i 1 : Nat) < win0_7.index ⟨_, ht⟩ 1 * 256 + 256
                rw [hi.2.1]; omega
    | ⟨2, _⟩ => show win0_7.index ⟨_, ht⟩ 2 * 128 ≤ (i 2 : Nat) ∧ (i 2 : Nat) < win0_7.index ⟨_, ht⟩ 2 * 128 + 128
                rw [hi.2.2]; omega

theorem flushed_8 (c : Dev nD) (t : Fin cfg0.N) :
    (dats m 0 c).flushed 8 t = ((cfg0.win 8).blk t).view.read (Elt Ideal) (vOf (chans (P m c)) (taps (T m c))) := by
  rw [Cert.PrepCtxIdeal.Value.flushed8_A, v_out]
  funext y
  rw [View.read_apply]
  obtain ⟨b, r, d, rfl⟩ : ∃ (b : Fin 1) (r : Fin 256) (d : Fin 128), y = ix3 b r d := ⟨y 0, y 1, y 2, eq_ix3 y⟩
  obtain rfl : b = 0 := Subsingleton.elim _ _
  have e := idx_8 t
  rw [show (((cfg0.win 8).blk t).view.emb (ix3 0 r d) : S4x256x2048.Idx) = ix3 (batch t) r ⟨(hd t).val * 128 + d.val, by omega⟩ from eq_at3 _ _ _ _
    (by show win0_8.index t 0 * 1 + 1 * 0 = t.val / 16; rw [e.1]; omega)
    (by show win0_8.index t 1 * 256 + 1 * r.val = r.val; rw [e.2.1]; omega)
    (by show win0_8.index t 2 * 128 + 1 * d.val = t.val % 16 * 128 + d.val; rw [e.2.2]; omega)]
  exact vBlock_eq _ _ (iblk_2 m c t) (iblk_5 m c t) rfl r d _

theorem final_8 (c : Dev nD) : (dats m 0 c).arrAt 8 cfg0.N = vOf (chans (P m c)) (taps (T m c)) :=
  (dats m 0 c).arrAt_eq_of_cover 8 _ (fun t _ => flushed_8 m c t) fun i => by
    have h0 : (i 0 : Nat) < 4 := (i 0).isLt
    have h1 : (i 1 : Nat) < 256 := (i 1).isLt
    have h2 : (i 2 : Nat) < 2048 := (i 2).isLt
    have ht : (i 0 : Nat) * 16 + (i 2 : Nat) / 128 < cfg0.N := by rw [show cfg0.N = 64 from N_0]; omega
    refine ⟨⟨(i 0 : Nat) * 16 + (i 2 : Nat) / 128, ht⟩, flush0_8 _, ?_⟩
    show i ∈ ((View.whole main_v2_2).slice (win0_8.rect ⟨(i 0 : Nat) * 16 + (i 2 : Nat) / 128, ht⟩)).set
    rw [View.set_slice_whole, Rect.mem_set_unit]
    have hi := idx_8 ⟨(i 0 : Nat) * 16 + (i 2 : Nat) / 128, ht⟩
    dsimp only at hi
    intro a
    match a with
    | ⟨0, _⟩ => show win0_8.index ⟨_, ht⟩ 0 * 1 ≤ (i 0 : Nat) ∧ (i 0 : Nat) < win0_8.index ⟨_, ht⟩ 0 * 1 + 1
                rw [hi.1]; omega
    | ⟨1, _⟩ => show win0_8.index ⟨_, ht⟩ 1 * 256 ≤ (i 1 : Nat) ∧ (i 1 : Nat) < win0_8.index ⟨_, ht⟩ 1 * 256 + 256
                rw [hi.2.1]; omega
    | ⟨2, _⟩ => show win0_8.index ⟨_, ht⟩ 2 * 128 ≤ (i 2 : Nat) ∧ (i 2 : Nat) < win0_8.index ⟨_, ht⟩ 2 * 128 + 128
                rw [hi.2.2]; omega

/-- The run read: queries, keys and values, and the arguments unchanged. -/
theorem run : θ_run defs (onTc (τ := τ) (main (F := Ideal))) ⟨m, fun _ => 0, ρ⟩ fun r => ∀ c : Dev nD,
      r.2.mem ((c : Thread nD τ).loc main_v2_0) = qOf (chans (P m c)) (taps (T m c))
      ∧ r.2.mem ((c : Thread nD τ).loc main_v2_1) = kOf (chans (P m c)) (taps (T m c))
      ∧ r.2.mem ((c : Thread nD τ).loc main_v2_2) = vOf (chans (P m c)) (taps (T m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_6 m c), (h c).2.1.trans (final_7 m c), (h c).2.2.1.trans (final_8 m c), (h c).2.2.2⟩)
    (Cert.PrepCtxIdeal.Value.run_blocks m ρ)

end Cert.PrepCtxRun

end
-- ==== Proof.PrepCtx.Reference.lean ====
/- What the reference of the call over the context computes. -/
module

public import proofs.«01_k».proof.Proof.Prep.Lines
public import proofs.«01_k».proof.Proof.PrepCtx.Value
public import proofs.«01_k».proof.Proof.Gen.PrepCtxRefIdeal.Run

@[expose] public section

set_option maxRecDepth 16384

noncomputable section

namespace Cert.PrepCtxRun.Ref

open Cert.PrepCtxRefIdeal Cert.PrepCtxRefIdeal.Gen Cert.PrepCtxRefIdeal.Value
open Idealize.ShloMosaic Idealize.ShloMosaic.TcCoe Idealize.SL.Sem Idealize.ShloMosaic.StableHlo
open Cert.PrepRun
open Cert.MergeRun (squash eq_at2 eq_at3)
open Cert.ConformerRun (swish tapSum tapSum_congr)

/-- The padded rows and the taps. -/
def rows (p : S1024x6144.Idx → EReal) : FVec Ideal S4x260x6144 .f32 :=
  pad S4x260x6144 ![0, 2, 0] ![0, 2, 0] ![0, 0, 0] (shapeCast _ p shapeCasts_S1024x6144_S4x256x6144) (sitofp (F := Ideal) .f32 (constantI S_ 32 0#32)) pads_S4x256x6144_S4x260x6144_000_220_000 h_S_
def wts (t : S1x5x6144.Idx → EReal) : FVec Ideal S5x6144 .f32 := shapeCast _ t shapeCasts_S1x5x6144_S5x6144

/-- The five taps added up. -/
def five (x : FVec Ideal S4x260x6144 .f32) (w : FVec Ideal S5x6144 .f32) : FVec Ideal S4x256x6144 .f32 :=
  (addf (F := Ideal) (φ := .f32) (addf (F := Ideal) (φ := .f32) (addf (F := Ideal) (φ := .f32) (addf (F := Ideal) (φ := .f32) (addf (F := Ideal) (φ := .f32) (broadcastInDim S4x256x6144 ![] bcast_S_S4x256x6144 (constant (F := Ideal) S_ .f32 0x00000000#32)) (mulf (F := Ideal) (φ := .f32) (extractStridedSlice S4x256x6144 ![0, 0, 0] x slices_S4x260x6144_S4x256x6144_0_0_0) (broadcastInDim S4x256x6144 ![0, 1, 2] bcast_S1x1x6144_S4x256x6144_0_1_2 (broadcastInDim S1x1x6144 ![2] bcast_S6144_S1x1x6144_2 (shapeCast _ (extractStridedSlice S1x6144 ![0, 0] w slices_S5x6144_S1x6144_0_0) shapeCasts_S1x6144_S6144))))) (mulf (F := Ideal) (φ := .f32) (extractStridedSlice S4x256x6144 ![0, 1, 0] x slices_S4x260x6144_S4x256x6144_0_1_0) (broadcastInDim S4x256x6144 ![0, 1, 2] bcast_S1x1x6144_S4x256x6144_0_1_2 (broadcastInDim S1x1x6144 ![2] bcast_S6144_S1x1x6144_2 (shapeCast _ (extractStridedSlice S1x6144 ![1, 0] w slices_S5x6144_S1x6144_1_0) shapeCasts_S1x6144_S6144))))) (mulf (F := Ideal) (φ := .f32) (extractStridedSlice S4x256x6144 ![0, 2, 0] x slices_S4x260x6144_S4x256x6144_0_2_0) (broadcastInDim S4x256x6144 ![0, 1, 2] bcast_S1x1x6144_S4x256x6144_0_1_2 (broadcastInDim S1x1x6144 ![2] bcast_S6144_S1x1x6144_2 (shapeCast _ (extractStridedSlice S1x6144 ![2, 0] w slices_S5x6144_S1x6144_2_0) shapeCasts_S1x6144_S6144))))) (mulf (F := Ideal) (φ := .f32) (extractStridedSlice S4x256x6144 ![0, 3, 0] x slices_S4x260x6144_S4x256x6144_0_3_0) (broadcastInDim S4x256x6144 ![0, 1, 2] bcast_S1x1x6144_S4x256x6144_0_1_2 (broadcastInDim S1x1x6144 ![2] bcast_S6144_S1x1x6144_2 (shapeCast _ (extractStridedSlice S1x6144 ![3, 0] w slices_S5x6144_S1x6144_3_0) shapeCasts_S1x6144_S6144))))) (mulf (F := Ideal) (φ := .f32) (extractStridedSlice S4x256x6144 ![0, 4, 0] x slices_S4x260x6144_S4x256x6144_0_4_0) (broadcastInDim S4x256x6144 ![0, 1, 2] bcast_S1x1x6144_S4x256x6144_0_1_2 (broadcastInDim S1x1x6144 ![2] bcast_S6144_S1x1x6144_2 (shapeCast _ (extractStridedSlice S1x6144 ![4, 0] w slices_S5x6144_S1x6144_4_0) shapeCasts_S1x6144_S6144)))))

theorem src_apply (p : S1024x6144.Idx → EReal) (b : Fin 4) (s : Fin 256) (j : Fin 6144) : (shapeCast _ p shapeCasts_S1024x6144_S4x256x6144 : S4x256x6144.Idx → EReal) (ix3 b s j) = chans p b s j := by
  unfold chans
  pointwise

theorem rows_apply (p : S1024x6144.Idx → EReal) (b : Fin 4) (y : Fin 260) (j : Fin 6144) : rows p (ix3 b y j) = rowAt (fun s => chans p b s j) y.val :=
  (pad_rows _ _ h_S_ (zero_int _) _ b y j).trans (congrArg (fun f => rowAt f y.val) (funext fun s => src_apply p b s j))

theorem wts_apply (t : S1x5x6144.Idx → EReal) (n : Fin 5) (j : Fin 6144) : wts t (ix2 n j) = taps t n j := by
  unfold wts taps
  pointwise

theorem five_apply (p : S1024x6144.Idx → EReal) (t : S1x5x6144.Idx → EReal) (b : Fin 4) (s : Fin 256) (j : Fin 6144) :
    five (rows p) (wts t) (ix3 b s j) = cv (chans p) (taps t) b s.val j := by
  unfold five cv conv
  iterate 5 refine add_tap _ _ _ _ _ ?_ ((tap_line (M := 260) rfl (rows p) (wts t) _ (by decide) _ _ _ _ _ b s j).trans (congrArg₂ (· * ·) (rows_apply p b _ j) (wts_apply t _ j)))
  pointwise
  rfl

/-- The lines after the convolution: the activation, the head norm, the queries' scale. -/
def act (a : FVec Ideal S4x256x6144 .f32) : FVec Ideal S4x256x6144 .f32 :=
  mulf (F := Ideal) (φ := .f32) a (Host.divf (broadcastInDim S4x256x6144 ![] bcast_S_S4x256x6144 (constant (F := Ideal) S_ .f32 0x3F800000#32)) (addf (F := Ideal) (φ := .f32) (broadcastInDim S4x256x6144 ![] bcast_S_S4x256x6144 (constant (F := Ideal) S_ .f32 0x3F800000#32)) (Host.exp (Host.negf a))))
def unit (z : FVec Ideal S4x256x2048 .f32) : FVec Ideal S4x256x16x128 .f32 :=
  mulf (F := Ideal) (φ := .f32) (shapeCast _ z shapeCasts_S4x256x2048_S4x256x16x128) (broadcastInDim S4x256x16x128 ![0, 1, 2, 3] bcast_S4x256x16x1_S4x256x16x128_0_1_2_3 (Host.rsqrt (addf (F := Ideal) (φ := .f32) (broadcastInDim S4x256x16x1 ![0, 1, 2] bcast_S4x256x16_S4x256x16x1_0_1_2 (Host.reduceAdd (mulf (F := Ideal) (φ := .f32) (shapeCast _ z shapeCasts_S4x256x2048_S4x256x16x128) (shapeCast _ z shapeCasts_S4x256x2048_S4x256x16x128)) (constant (F := Ideal) S_ .f32 0x00000000#32) reducesTo_S4x256x16x128_S4x256x16_d3 h_S_)) (broadcastInDim S4x256x16x1 ![] bcast_S_S4x256x16x1 (constant (F := Ideal) S_ .f32 0x358637BD#32)))))
def qLine (a : FVec Ideal S4x256x6144 .f32) : FVec Ideal S4x256x2048 .bf16 :=
  truncf (F := Ideal) (φ := .f32) .bf16 (shapeCast _ (Host.divf (unit (extractStridedSlice S4x256x2048 ![0, 0, 0] (act a) slices_S4x256x6144_S4x256x2048_0_0_0)) (broadcastInDim S4x256x16x128 ![] bcast_S_S4x256x16x128 (Host.sqrt (constant (F := Ideal) S_ .f32 0x43000000#32)))) shapeCasts_S4x256x16x128_S4x256x2048) bitsLt_bf16_f32
def kLine (a : FVec Ideal S4x256x6144 .f32) : FVec Ideal S4x256x2048 .bf16 :=
  truncf (F := Ideal) (φ := .f32) .bf16 (shapeCast _ (unit (extractStridedSlice S4x256x2048 ![0, 0, 2048] (act a) slices_S4x256x6144_S4x256x2048_0_0_2048)) shapeCasts_S4x256x16x128_S4x256x2048) bitsLt_bf16_f32
def vLine (a : FVec Ideal S4x256x6144 .f32) : FVec Ideal S4x256x2048 .bf16 :=
  truncf (F := Ideal) (φ := .f32) .bf16 (extractStridedSlice S4x256x2048 ![0, 0, 4096] (act a) slices_S4x256x6144_S4x256x2048_0_0_4096) bitsLt_bf16_f32

theorem act_apply (a : FVec Ideal S4x256x6144 .f32) (b : Fin 4) (s : Fin 256) (j : Fin 6144) : act a (ix3 b s j) = swish (a (ix3 b s j)) := by
  pointwise [act, swish, squash]

theorem part_apply (a : FVec Ideal S4x256x6144 .f32) (k : Fin 3) (off : ℕ) (ho : off = k.val * 2048) (hs : S4x256x6144.Slices ![0, 0, off] S4x256x2048) (b : Fin 4) (s : Fin 256) (q : Fin 2048) :
    extractStridedSlice S4x256x2048 ![0, 0, off] (act a) hs (ix3 b s q) = swish (a (ix3 b s (chan k (headOf q) (featOf q)))) := by
  rw [← act_apply]
  refine congrArg (act a) (eq_at3 _ _ _ _ ?_ ?_ ?_)
  · show 0 + b.val = b.val; omega
  · show 0 + s.val = s.val; omega
  · show off + q.val = k.val * 2048 + q.val / 128 * 128 + q.val % 128; omega

theorem unit_apply (z : FVec Ideal S4x256x2048 .f32) (b : Fin 4) (s : Fin 256) (h : Fin 16) (d : Fin 128) :
    unit z (ix4 b s h d) = z (ix3 b s ⟨h.val * 128 + d.val, by omega⟩) * Ideal.rsqrt ((∑ j : Fin 128, z (ix3 b s ⟨h.val * 128 + j.val, by omega⟩) * z (ix3 b s ⟨h.val * 128 + j.val, by omega⟩)) + Ideal.ofBits FTy.f32 897988541#32) := by
  pointwise [unit]

theorem unit_head (a : FVec Ideal S4x256x6144 .f32) (k : Fin 3) (off : ℕ) (ho : off = k.val * 2048) (hs : S4x256x6144.Slices ![0, 0, off] S4x256x2048) (b : Fin 4) (s : Fin 256) (h : Fin 16) (d : Fin 128) :
    unit (extractStridedSlice S4x256x2048 ![0, 0, off] (act a) hs) (ix4 b s h d) = head (fun j => a (ix3 b s (chan k h j))) d := by
  have e : ∀ j : Fin 128, extractStridedSlice S4x256x2048 ![0, 0, off] (act a) hs (ix3 b s ⟨h.val * 128 + j.val, by omega⟩) = swish (a (ix3 b s (chan k h j))) := fun j => by
    rw [part_apply a k off ho hs, headOf_at, featOf_at]
  rw [unit_apply]
  unfold head
  simp only [e]

theorem fold_apply (u : FVec Ideal S4x256x16x128 .f32) (b : Fin 4) (s : Fin 256) (q : Fin 2048) : shapeCast S4x256x2048 u shapeCasts_S4x256x16x128_S4x256x2048 (ix3 b s q) = u (ix4 b s (headOf q) (featOf q)) := by
  unfold headOf featOf
  pointwise

theorem root_apply (u : FVec Ideal S4x256x16x128 .f32) (b : Fin 4) (s : Fin 256) (h : Fin 16) (d : Fin 128) :
    Host.divf u (broadcastInDim S4x256x16x128 ![] bcast_S_S4x256x16x128 (Host.sqrt (constant (F := Ideal) S_ .f32 0x43000000#32))) (ix4 b s h d) = u (ix4 b s h d) * scale := by
  rw [← over_root]
  pointwise

theorem kLine_apply (a : FVec Ideal S4x256x6144 .f32) (b : Fin 4) (s : Fin 256) (q : Fin 2048) : kLine a (ix3 b s q) = head (fun j => a (ix3 b s (chan 1 (headOf q) j))) (featOf q) :=
  (fold_apply _ b s q).trans (unit_head a 1 2048 rfl _ b s _ _)

theorem qLine_apply (a : FVec Ideal S4x256x6144 .f32) (b : Fin 4) (s : Fin 256) (q : Fin 2048) : qLine a (ix3 b s q) = head (fun j => a (ix3 b s (chan 0 (headOf q) j))) (featOf q) * scale :=
  (fold_apply _ b s q).trans ((root_apply _ b s _ _).trans (congrArg (· * scale) (unit_head a 0 0 rfl _ b s _ _)))

theorem vLine_apply (a : FVec Ideal S4x256x6144 .f32) (b : Fin 4) (s : Fin 256) (q : Fin 2048) : vLine a (ix3 b s q) = swish (a (ix3 b s (chan 2 (headOf q) (featOf q)))) :=
  part_apply a 2 4096 rfl slices_S4x256x6144_S4x256x2048_0_0_4096 b s q

variable (m : (ℓ : Loc nD τ sig) → Buf (Elt Ideal) ℓ)

/-- The arguments as launched. -/
abbrev P (c : Dev nD) : S1024x6144.Idx → EReal := m ((c : Thread nD τ).loc main_arg0)
abbrev T (c : Dev nD) : S1x5x6144.Idx → EReal := m ((c : Thread nD τ).loc main_arg1)

theorem q_res (c : Dev nD) : res_main_v65 m c = qOf (chans (P m c)) (taps (T m c)) := by
  have e : res_main_v65 m c = qLine (five (rows (P m c)) (wts (T m c))) := rfl
  rw [e]
  funext i
  obtain ⟨b, s, q, rfl⟩ : ∃ (b : Fin 4) (s : Fin 256) (q : Fin 2048), i = ix3 b s q := ⟨i 0, i 1, i 2, eq_ix3 i⟩
  rw [qLine_apply]
  simp only [five_apply]
  rfl

theorem k_res (c : Dev nD) : res_main_v67 m c = kOf (chans (P m c)) (taps (T m c)) := by
  have e : res_main_v67 m c = kLine (five (rows (P m c)) (wts (T m c))) := rfl
  rw [e]
  funext i
  obtain ⟨b, s, q, rfl⟩ : ∃ (b : Fin 4) (s : Fin 256) (q : Fin 2048), i = ix3 b s q := ⟨i 0, i 1, i 2, eq_ix3 i⟩
  rw [kLine_apply]
  simp only [five_apply]
  rfl

theorem v_res (c : Dev nD) : res_main_v68 m c = vOf (chans (P m c)) (taps (T m c)) := by
  have e : res_main_v68 m c = vLine (five (rows (P m c)) (wts (T m c))) := rfl
  rw [e]
  funext i
  obtain ⟨b, s, q, rfl⟩ : ∃ (b : Fin 4) (s : Fin 256) (q : Fin 2048), i = ix3 b s q := ⟨i 0, i 1, i 2, eq_ix3 i⟩
  rw [vLine_apply, five_apply]
  rfl

/-- The reference's run: queries, keys and values, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v65) = qOf (chans (P m c)) (taps (T m c))
      ∧ r.2.mem ((c : Thread nD τ).loc main_v67) = kOf (chans (P m c)) (taps (T m c))
      ∧ r.2.mem ((c : Thread nD τ).loc main_v68) = vOf (chans (P m c)) (taps (T m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (q_res m c), (h c).2.1.trans (k_res m c), (h c).2.2.1.trans (v_res m c), (h c).2.2.2⟩) (Cert.PrepCtxRefIdeal.Value.run m ρ)

end Cert.PrepCtxRun.Ref

end
-- ==== Proof.Experts.Body.lean ====
/- The experts' arithmetic on one block of 128 experts and 256 tokens, and the stores of the kernel's body as sixteen
   such blocks. -/
module

public import proofs.«01_k».proof.Proof.Merge.Value
public import proofs.«01_k».proof.Proof.Gen.ExpertsIdeal.Value

@[expose] public section

set_option maxRecDepth 16384

noncomputable section

namespace Cert.ExpertsRun

open Cert.ExpertsIdeal Cert.ExpertsIdeal.Gen
open Idealize.ShloMosaic Idealize.ShloMosaic.TcCoe Idealize.SL.Sem
open Cert.MergeRun (eq_at2 eq_at3)

/-- One head's weights, added to those of the heads before it. -/
def headPay (thr p1 : Vec Ideal S1x1x256 .f32) (s2 p2 : Vec Ideal S1x128x256 .f32) (wd : FVec Ideal S128x256 .f32) : FVec Ideal S128x256 .f32 :=
  addf wd (select (cmpf .oge (shapeCast S128x256 s2 shapeCasts_S1x128x256_S128x256) (broadcastTo S128x256 (shapeCast S1x256 thr shapeCasts_S1x1x256_S1x256 : FVec Ideal S1x256 .f32) broadcasts_S1x256_S128x256))
    (mulf (broadcastTo S128x256 (shapeCast S1x256 p1 shapeCasts_S1x1x256_S1x256 : FVec Ideal S1x256 .f32) broadcasts_S1x256_S128x256) (shapeCast S128x256 p2 shapeCasts_S1x128x256_S128x256))
    (broadcast S128x256 (Scalar.ofBits (F := Ideal) .f32 0x00000000#32)))

/-- The eight heads' weights. -/
def weightPay (thr p1 : Fin 8 → Vec Ideal S1x1x256 .f32) (s2 p2 : Fin 8 → Vec Ideal S1x128x256 .f32) : FVec Ideal S128x256 .f32 :=
  headPay (thr 7) (p1 7) (s2 7) (p2 7) <| headPay (thr 6) (p1 6) (s2 6) (p2 6) <| headPay (thr 5) (p1 5) (s2 5) (p2 5) <| headPay (thr 4) (p1 4) (s2 4) (p2 4) <|
  headPay (thr 3) (p1 3) (s2 3) (p2 3) <| headPay (thr 2) (p1 2) (s2 2) (p2 2) <| headPay (thr 1) (p1 1) (s2 1) (p2 1) <| headPay (thr 0) (p1 0) (s2 0) (p2 0) <|
  broadcast S128x256 (Scalar.ofBits (F := Ideal) .f32 0x00000000#32)

/-- The activation of a block, times its weights. -/
def actPay (x wd : FVec Ideal S128x256 .f32) : FVec Ideal S128x256 .bf16 :=
  shapeCast S128x256 (truncf .bf16 (mulf (addf (mulf (broadcast S128x256 (Scalar.ofBits (F := Ideal) .f32 0x3F000000#32)) x)
    (mulf (mulf (broadcast S128x256 (Scalar.ofBits (F := Ideal) .f32 0x3F000000#32)) x)
      (tanh (mulf x (addf (broadcast S128x256 (Scalar.ofBits (F := Ideal) .f32 0x3F4C422A#32)) (mulf (broadcast S128x256 (Named.named (F := Ideal) κ "gelu_cubic" 0x3D122279#32)) (mulf x x))))))) wd) bitsLt_bf16_f32) shapeCasts_S128x256_S128x256

theorem inb_blk (a : Fin 8) (b : Fin 2) : ∀ d, (![128 * a.val, 256 * b.val] : Fin 2 → ℕ) d + (![128, 256] : Fin 2 → ℕ) d ≤ (![1024, 512] : Fin 2 → ℕ) d := fun d => by
  match d with
  | ⟨0, _⟩ => show 128 * a.val + 128 ≤ 1024; omega
  | ⟨1, _⟩ => show 256 * b.val + 256 ≤ 512; omega

theorem inb_one (h a : Fin 8) (b : Fin 2) : ∀ d, (![h.val, a.val, 256 * b.val] : Fin 3 → ℕ) d + (![1, 1, 256] : Fin 3 → ℕ) d ≤ (![8, 8, 512] : Fin 3 → ℕ) d := fun d => by
  match d with
  | ⟨0, _⟩ => show h.val + 1 ≤ 8; omega
  | ⟨1, _⟩ => show a.val + 1 ≤ 8; omega
  | ⟨2, _⟩ => show 256 * b.val + 256 ≤ 512; omega

theorem inb_all (h : Fin 8) (b : Fin 2) : ∀ d, (![h.val, 0, 256 * b.val] : Fin 3 → ℕ) d + (![1, 128, 256] : Fin 3 → ℕ) d ≤ (![8, 128, 512] : Fin 3 → ℕ) d := fun d => by
  match d with
  | ⟨0, _⟩ => show h.val + 1 ≤ 8; omega
  | ⟨1, _⟩ => show 0 + 128 ≤ 128; omega
  | ⟨2, _⟩ => show 256 * b.val + 256 ≤ 512; omega

theorem slices_blk (a : Fin 8) (b : Fin 2) : Shape.Slices S1024x512 ![128 * a.val, 256 * b.val] S128x256 := by
  revert a b; decide

/-- What the body reads for key `a` of the first table and the tokens' half `b`. -/
def thrAt (v : Memref sig .tc .vmem S8x8x512 .f32) (f : v.view.ty.Contents (Elt Ideal)) (a : Fin 8) (b : Fin 2) (h : Fin 8) : Vec Ideal S1x1x256 .f32 :=
  View.readAt (Elt Ideal) v.view (Rect.unit (s := S8x8x512) ![h.val, a.val, 256 * b.val] ![1, 1, 256] (inb_one h a b)).toLoadRect f
def keyAt (v : Memref sig .tc .vmem S8x128x512 .f32) (f : v.view.ty.Contents (Elt Ideal)) (b : Fin 2) (h : Fin 8) : Vec Ideal S1x128x256 .f32 :=
  View.readAt (Elt Ideal) v.view (Rect.unit (s := S8x128x512) ![h.val, 0, 256 * b.val] ![1, 128, 256] (inb_all h b)).toLoadRect f

/-- The store of block `(a, b)`. -/
def blk (x : FVec Ideal S1024x512 .f32) (thr p1 : Fin 8 → Fin 2 → Fin 8 → Vec Ideal S1x1x256 .f32) (s2 p2 : Fin 2 → Fin 8 → Vec Ideal S1x128x256 .f32) (q : Fin 8 × Fin 2) : View.Piece (Elt Ideal) S1024x512 .bf16 :=
  ⟨Rect.unit (s := S1024x512) ![128 * q.1.val, 256 * q.2.val] ![128, 256] (inb_blk q.1 q.2),
    actPay (extractStridedSlice S128x256 ![128 * q.1.val, 256 * q.2.val] x (slices_blk q.1 q.2)) (weightPay (thr q.1 q.2) (p1 q.1 q.2) (s2 q.2) (p2 q.2))⟩

/-- The blocks, the last stored first. -/
def order : List (Fin 8 × Fin 2) :=
  [(7, 1), (7, 0), (6, 1), (6, 0), (5, 1), (5, 0), (4, 1), (4, 0), (3, 1), (3, 0), (2, 1), (2, 0), (1, 1), (1, 0), (0, 1), (0, 0)]

variable (c : Dev nD) (i : grid0.Coords) (arg2 : Memref sig .tc .vmem S2048x512 .bf16) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S8x8x512 .f32) (harg5 : arg5.IsWhole) (arg6 : Memref sig .tc .vmem S8x128x512 .f32) (harg6 : arg6.IsWhole) (arg7 : Memref sig .tc .vmem S8x8x512 .f32) (harg7 : arg7.IsWhole) (arg8 : Memref sig .tc .vmem S8x128x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S1024x512 .bf16) (harg11 : arg11.IsWhole)
   (x0 : Vec Ideal S2048x512 .bf16) (x1 : Vec Ideal S1024x2048 .bf16) (x2 : Vec Ideal S2048x1024 .bf16) (x3 : Vec Ideal S8x8x512 .f32) (x4 : Vec Ideal S8x128x512 .f32) (x5 : Vec Ideal S8x8x512 .f32) (x6 : Vec Ideal S8x128x512 .f32) (xs0 : Vec Ideal S2048x512 .f32)

/-- The scratch of activations after the sixteen stores. -/
def acts : List (View.Piece (Elt Ideal) S1024x512 .bf16) :=
  order.map (blk (k0_pay2 (View.readAt (Elt Ideal) arg3.view (Rect.unit (s := S1024x2048) ![0, 0] ![1024, 2048] inb_S1024x2048_S1024x2048_0_0).toLoadRect (harg3.unread x1)) (View.readAt (Elt Ideal) arg2.view (Rect.unit (s := S2048x512) ![0, 0] ![2048, 512] inb_S2048x512_S2048x512_0_0).toLoadRect (harg2.unread x0)))
    (thrAt arg5 (harg5.unread x3)) (thrAt arg7 (harg7.unread x5)) (keyAt arg6 (harg6.unread x4)) (keyAt arg8 (harg8.unread x6)))

/-- The sum the body stores, over what the scratch of sums held. -/
def sumPay (prev : Vec Ideal S2048x512 .f32) : FVec Ideal S2048x512 .f32 :=
  k0_pay191 prev (View.readAt (Elt Ideal) arg4.view (Rect.unit (s := S2048x1024) ![0, 0] ![2048, 1024] inb_S2048x1024_S2048x1024_0_0).toLoadRect (harg4.unread x2))
    (arg11.view.readCov (acts arg2 harg2 arg3 harg3 arg5 harg5 arg6 harg6 arg7 harg7 arg8 harg8 x0 x1 x3 x4 x5 x6) (Rect.unit (s := S1024x512) ![0, 0] ![1024, 512] inb_S1024x512_S1024x512_0_0).toLoadRect)

set_option maxHeartbeats 2000000 in
theorem sum_pieces_B (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.1
    = [⟨Rect.unit (s := S2048x512) ![0, 0] ![2048, 512] inb_S2048x512_S2048x512_0_0,
        sumPay arg2 harg2 arg3 harg3 arg4 harg4 arg5 harg5 arg6 harg6 arg7 harg7 arg8 harg8 arg11 x0 x1 x2 x3 x4 x5 x6 (View.readAt (Elt Ideal) arg10.view (Rect.unit (s := S2048x512) ![0, 0] ![2048, 512] inb_S2048x512_S2048x512_0_0).toLoadRect (harg10.unread xs0))⟩] := by
  delta kernelRun0_B
  dsimp only
  rfl

set_option maxHeartbeats 2000000 in
theorem sum_pieces_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 hc0 hc1 x0 x1 x2 x3 x4 x5 x6).2.1
    = [⟨Rect.unit (s := S2048x512) ![0, 0] ![2048, 512] inb_S2048x512_S2048x512_0_0,
        sumPay arg2 harg2 arg3 harg3 arg4 harg4 arg5 harg5 arg6 harg6 arg7 harg7 arg8 harg8 arg11 x0 x1 x2 x3 x4 x5 x6
          (arg10.view.readCov [⟨Rect.unit (s := S2048x512) ![0, 0] ![2048, 512] inb_S2048x512_S2048x512_0_0, k0_pay1 (F := Ideal)⟩] (Rect.unit (s := S2048x512) ![0, 0] ![2048, 512] inb_S2048x512_S2048x512_0_0).toLoadRect)⟩,
       ⟨Rect.unit (s := S2048x512) ![0, 0] ![2048, 512] inb_S2048x512_S2048x512_0_0, k0_pay1 (F := Ideal)⟩] := by
  delta kernelRun0_A
  dsimp only
  rfl

set_option maxHeartbeats 2000000 in
theorem sum_pieces_C (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1
    = [⟨Rect.unit (s := S2048x512) ![0, 0] ![2048, 512] inb_S2048x512_S2048x512_0_0,
        sumPay arg2 harg2 arg3 harg3 arg4 harg4 arg5 harg5 arg6 harg6 arg7 harg7 arg8 harg8 arg11 x0 x1 x2 x3 x4 x5 x6 (View.readAt (Elt Ideal) arg10.view (Rect.unit (s := S2048x512) ![0, 0] ![2048, 512] inb_S2048x512_S2048x512_0_0).toLoadRect (harg10.unread xs0))⟩] := by
  delta kernelRun0_C
  dsimp only
  rfl

set_option maxHeartbeats 2000000 in
theorem out_pieces_C (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1
    = [⟨Rect.unit (s := S2048x512) ![0, 0] ![2048, 512] inb_S2048x512_S2048x512_0_0,
        arg10.view.readCov [⟨Rect.unit (s := S2048x512) ![0, 0] ![2048, 512] inb_S2048x512_S2048x512_0_0,
          sumPay arg2 harg2 arg3 harg3 arg4 harg4 arg5 harg5 arg6 harg6 arg7 harg7 arg8 harg8 arg11 x0 x1 x2 x3 x4 x5 x6 (View.readAt (Elt Ideal) arg10.view (Rect.unit (s := S2048x512) ![0, 0] ![2048, 512] inb_S2048x512_S2048x512_0_0).toLoadRect (harg10.unread xs0))⟩] (Rect.unit (s := S2048x512) ![0, 0] ![2048, 512] inb_S2048x512_S2048x512_0_0).toLoadRect⟩] := by
  delta kernelRun0_C
  dsimp only
  rfl

end Cert.ExpertsRun

end
-- ==== Proof.Experts.Block.lean ====
/- What the body leaves in its blocks: the scratch of activations holds every expert's activation times its weights, and
   the scratch of sums the experts' outputs added to what it held. -/
module

public import proofs.«01_k».proof.Proof.Experts.Body

@[expose] public section

set_option maxRecDepth 16384

noncomputable section

namespace Cert.ExpertsRun

open Cert.ExpertsIdeal Cert.ExpertsIdeal.Gen
open Idealize.ShloMosaic Idealize.ShloMosaic.TcCoe Idealize.SL.Sem
open Cert.MergeRun (eq_at2 eq_at3)

/-- The activation. -/
def gelu (x : EReal) : EReal :=
  Ideal.ofBits FTy.f32 1056964608#32 * x + Ideal.ofBits FTy.f32 1056964608#32 * x
    * Ideal.tanh (x * (Ideal.ofBits FTy.f32 1061962282#32 + Named.named (F := Ideal) κ "gelu_cubic" 1024598649#32 * (x * x)))

/-- The weights of one expert for one token, over the heads that chose the expert. -/
def weight (thr s p q : Fin 8 → EReal) : EReal := ∑ h : Fin 8, if thr h ≤ s h then p h * q h else 0

theorem head_apply (thr p1 : Vec Ideal S1x1x256 .f32) (s2 p2 : Vec Ideal S1x128x256 .f32) (wd : FVec Ideal S128x256 .f32) (r : Fin 128) (t : Fin 256) :
    headPay thr p1 s2 p2 wd (ix2 r t) = wd (ix2 r t) + if thr (ix3 0 0 t) ≤ s2 (ix3 0 r t) then p1 (ix3 0 0 t) * p2 (ix3 0 r t) else 0 := by
  pointwise [headPay]

theorem weight_apply (thr p1 : Fin 8 → Vec Ideal S1x1x256 .f32) (s2 p2 : Fin 8 → Vec Ideal S1x128x256 .f32) (r : Fin 128) (t : Fin 256) :
    weightPay thr p1 s2 p2 (ix2 r t) = weight (fun h => thr h (ix3 0 0 t)) (fun h => s2 h (ix3 0 r t)) (fun h => p1 h (ix3 0 0 t)) (fun h => p2 h (ix3 0 r t)) := by
  unfold weightPay weight
  simp only [head_apply, Fin.sum_univ_eight]
  have z : broadcast S128x256 (Scalar.ofBits (F := Ideal) .f32 0x00000000#32) (ix2 r t) = (0 : EReal) := by pointwise
  rw [z, zero_add]

theorem act_apply (x wd : FVec Ideal S128x256 .f32) (r : Fin 128) (t : Fin 256) : actPay x wd (ix2 r t) = gelu (x (ix2 r t)) * wd (ix2 r t) := by
  pointwise [actPay, gelu]

theorem prod_apply (u : Vec Ideal S1024x2048 .bf16) (h : Vec Ideal S2048x512 .bf16) (e : Fin 1024) (t : Fin 512) : k0_pay2 u h (ix2 e t) = ∑ k, u (ix2 e k) * h (ix2 k t) := by
  pointwise [k0_pay2]

theorem sum_apply (p : Vec Ideal S2048x512 .f32) (v : Vec Ideal S2048x1024 .bf16) (g : Vec Ideal S1024x512 .bf16) (d : Fin 2048) (t : Fin 512) :
    k0_pay191 p v g (ix2 d t) = p (ix2 d t) + ∑ e, v (ix2 d e) * g (ix2 e t) := by
  pointwise [k0_pay191]

theorem pay1_zero (d : Fin 2048) (t : Fin 512) : k0_pay1 (F := Ideal) (ix2 d t) = 0 := by
  pointwise [k0_pay1]

/-- The activations of a tile of experts, times their weights. -/
def gBlock (x0 : Vec Ideal S2048x512 .bf16) (x1 : Vec Ideal S1024x2048 .bf16) (x3 : Vec Ideal S8x8x512 .f32) (x4 : Vec Ideal S8x128x512 .f32) (x5 : Vec Ideal S8x8x512 .f32) (x6 : Vec Ideal S8x128x512 .f32) (e : Fin 1024) (t : Fin 512) : EReal :=
  gelu (∑ k, x1 (ix2 e k) * x0 (ix2 k t))
    * weight (fun h => x3 (ix3 h ⟨e.val / 128, by omega⟩ t)) (fun h => x4 (ix3 h ⟨e.val % 128, by omega⟩ t)) (fun h => x5 (ix3 h ⟨e.val / 128, by omega⟩ t)) (fun h => x6 (ix3 h ⟨e.val % 128, by omega⟩ t))

/-- A load of a whole block. -/
theorem load_whole {sig : RefSig} {A B : ℕ} {ε : EltTy} (v : Memref sig .tc .vmem (⟨2, ![A, B]⟩ : Shape) ε) (hv : v.IsWhole) (x : Vec Ideal (⟨2, ![A, B]⟩ : Shape) ε)
    (inb : ∀ a, (![0, 0] : Fin 2 → ℕ) a + (![A, B] : Fin 2 → ℕ) a ≤ (![A, B] : Fin 2 → ℕ) a) :
    View.readAt (Elt Ideal) v.view (Rect.unit (s := ⟨2, ![A, B]⟩) ![0, 0] ![A, B] inb).toLoadRect (hv.unread x) = x := by
  funext j
  show v.view.read (Elt Ideal) (hv.unread x) _ = _
  rw [hv.read_unread]
  refine (congrArg x (eq_at2 _ (j 0) (j 1) ?_ ?_)).trans (congrArg x (eq_at2 _ _ _ rfl rfl).symm)
  · show 0 + 1 * (j 0).val = (j 0).val; omega
  · show 0 + 1 * (j 1).val = (j 1).val; omega

theorem thrAt_apply (v : Memref sig .tc .vmem S8x8x512 .f32) (hv : v.IsWhole) (x : Vec Ideal S8x8x512 .f32) (a : Fin 8) (b : Fin 2) (h : Fin 8) (t : Fin 256) :
    thrAt v (hv.unread x) a b h (ix3 0 0 t) = x (ix3 h a ⟨256 * b.val + t.val, by omega⟩) := by
  show v.view.read (Elt Ideal) (hv.unread x) _ = _
  rw [hv.read_unread]
  refine congrArg x (eq_at3 _ _ _ _ ?_ ?_ ?_)
  · show h.val + 1 * 0 = h.val; omega
  · show a.val + 1 * 0 = a.val; omega
  · show 256 * b.val + 1 * t.val = 256 * b.val + t.val; omega

theorem keyAt_apply (v : Memref sig .tc .vmem S8x128x512 .f32) (hv : v.IsWhole) (x : Vec Ideal S8x128x512 .f32) (b : Fin 2) (h : Fin 8) (r : Fin 128) (t : Fin 256) :
    keyAt v (hv.unread x) b h (ix3 0 r t) = x (ix3 h r ⟨256 * b.val + t.val, by omega⟩) := by
  show v.view.read (Elt Ideal) (hv.unread x) _ = _
  rw [hv.read_unread]
  refine congrArg x (eq_at3 _ _ _ _ ?_ ?_ ?_)
  · show h.val + 1 * 0 = h.val; omega
  · show 0 + 1 * r.val = r.val; omega
  · show 256 * b.val + 1 * t.val = 256 * b.val + t.val; omega

theorem slice_apply (x : FVec Ideal S1024x512 .f32) (a : Fin 8) (b : Fin 2) (r : Fin 128) (t : Fin 256) :
    extractStridedSlice S128x256 ![128 * a.val, 256 * b.val] x (slices_blk a b) (ix2 r t) = x (ix2 ⟨128 * a.val + r.val, by omega⟩ ⟨256 * b.val + t.val, by omega⟩) := by
  refine congrArg x (eq_at2 _ _ _ ?_ ?_)
  · show 128 * a.val + r.val = _; rfl
  · show 256 * b.val + t.val = _; rfl

variable (c : Dev nD) (i : grid0.Coords) (arg2 : Memref sig .tc .vmem S2048x512 .bf16) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S8x8x512 .f32) (harg5 : arg5.IsWhole) (arg6 : Memref sig .tc .vmem S8x128x512 .f32) (harg6 : arg6.IsWhole) (arg7 : Memref sig .tc .vmem S8x8x512 .f32) (harg7 : arg7.IsWhole) (arg8 : Memref sig .tc .vmem S8x128x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S1024x512 .bf16) (harg11 : arg11.IsWhole)
   (x0 : Vec Ideal S2048x512 .bf16) (x1 : Vec Ideal S1024x2048 .bf16) (x2 : Vec Ideal S2048x1024 .bf16) (x3 : Vec Ideal S8x8x512 .f32) (x4 : Vec Ideal S8x128x512 .f32) (x5 : Vec Ideal S8x8x512 .f32) (x6 : Vec Ideal S8x128x512 .f32) (xs0 : Vec Ideal S2048x512 .f32)

theorem acts_at (p : View.Piece (Elt Ideal) S1024x512 .bf16) (hp : p ∈ acts arg2 harg2 arg3 harg3 arg5 harg5 arg6 harg6 arg7 harg7 arg8 harg8 x0 x1 x3 x4 x5 x6) (y : p.1.shape.Idx) :
    p.2 y = (fun z : S1024x512.Idx => gBlock x0 x1 x3 x4 x5 x6 (z 0) (z 1)) (p.1.emb y) := by
  obtain ⟨⟨a, b⟩, -, rfl⟩ := List.mem_map.1 hp
  change S128x256.Idx at y
  obtain ⟨r, t, rfl⟩ : ∃ (r : Fin 128) (t : Fin 256), y = ix2 r t := ⟨y 0, y 1, eq_ix2 y⟩
  have he : ((Rect.unit (s := S1024x512) ![128 * a.val, 256 * b.val] ![128, 256] (inb_blk a b)).emb (ix2 r t)) = ix2 (⟨128 * a.val + r.val, by omega⟩ : Fin 1024) (⟨256 * b.val + t.val, by omega⟩ : Fin 512) := by
    refine eq_at2 _ _ _ ?_ ?_
    · show 128 * a.val + 1 * r.val = 128 * a.val + r.val; omega
    · show 256 * b.val + 1 * t.val = 256 * b.val + t.val; omega
  refine Eq.trans ?_ (congrArg (fun z : S1024x512.Idx => gBlock x0 x1 x3 x4 x5 x6 (z 0) (z 1)) he).symm
  refine (act_apply _ _ r t).trans ?_
  rw [slice_apply, weight_apply, prod_apply, load_whole, load_whole]
  simp only [thrAt_apply, keyAt_apply]
  show _ = gBlock x0 x1 x3 x4 x5 x6 ⟨128 * a.val + r.val, _⟩ ⟨256 * b.val + t.val, _⟩
  have e1 : (128 * a.val + r.val) / 128 = a.val := by omega
  have e2 : (128 * a.val + r.val) % 128 = r.val := by omega
  simp only [gBlock, e1, e2]

theorem acts_read : arg11.view.readCov (acts arg2 harg2 arg3 harg3 arg5 harg5 arg6 harg6 arg7 harg7 arg8 harg8 x0 x1 x3 x4 x5 x6) (Rect.unit (s := S1024x512) ![0, 0] ![1024, 512] inb_S1024x512_S1024x512_0_0).toLoadRect
    = fun y => gBlock x0 x1 x3 x4 x5 x6 (y 0) (y 1) := by
  have hc : ∀ y, ∃ p ∈ acts arg2 harg2 arg3 harg3 arg5 harg5 arg6 harg6 arg7 harg7 arg8 harg8 x0 x1 x3 x4 x5 x6, y ∈ p.1.set := fun y =>
    View.cover_of_tiledL (acts arg2 harg2 arg3 harg3 arg5 harg5 arg6 harg6 arg7 harg7 arg8 harg8 x0 x1 x3 x4 x5 x6) S128x256.size (by sl_kernel_rfl) y
  rw [View.readCov_eq_canon _ _ _ (fun j => hc _)]
  funext j
  refine (View.canon_apply_of_pieces (fun z : S1024x512.Idx => gBlock x0 x1 x3 x4 x5 x6 (z 0) (z 1)) _ (fun p hp z => acts_at arg2 harg2 arg3 harg3 arg5 harg5 arg6 harg6 arg7 harg7 arg8 harg8 x0 x1 x3 x4 x5 x6 p hp z) _ (hc _)).trans ?_
  refine congrArg (fun z : S1024x512.Idx => gBlock x0 x1 x3 x4 x5 x6 (z 0) (z 1)) ((eq_at2 _ (j 0) (j 1) ?_ ?_).trans (eq_at2 _ _ _ rfl rfl).symm)
  · show 0 + 1 * (j 0).val = (j 0).val; omega
  · show 0 + 1 * (j 1).val = (j 1).val; omega

/-- One point's sums, over the sums before it. -/
def step (x0 : Vec Ideal S2048x512 .bf16) (x1 : Vec Ideal S1024x2048 .bf16) (x2 : Vec Ideal S2048x1024 .bf16) (x3 : Vec Ideal S8x8x512 .f32) (x4 : Vec Ideal S8x128x512 .f32) (x5 : Vec Ideal S8x8x512 .f32) (x6 : Vec Ideal S8x128x512 .f32) (p : Vec Ideal S2048x512 .f32) : Vec Ideal S2048x512 .f32 :=
  fun y => p y + ∑ e : Fin 1024, x2 (ix2 (y 0) e) * gBlock x0 x1 x3 x4 x5 x6 e (y 1)

theorem sumPay_eq (p : Vec Ideal S2048x512 .f32) : sumPay arg2 harg2 arg3 harg3 arg4 harg4 arg5 harg5 arg6 harg6 arg7 harg7 arg8 harg8 arg11 x0 x1 x2 x3 x4 x5 x6 p = step x0 x1 x2 x3 x4 x5 x6 p := by
  funext y
  obtain ⟨d, t, rfl⟩ : ∃ (d : Fin 2048) (t : Fin 512), y = ix2 d t := ⟨y 0, y 1, eq_ix2 y⟩
  unfold sumPay
  rw [sum_apply, acts_read, load_whole]
  rfl

theorem zeros (y : S2048x512.Idx) : k0_pay1 (F := Ideal) y = 0 := by
  obtain ⟨d, t, rfl⟩ : ∃ (d : Fin 2048) (t : Fin 512), y = ix2 d t := ⟨y 0, y 1, eq_ix2 y⟩
  exact pay1_zero d t

theorem sout_A (hc0 : cond0_0 i) (hc1 : ¬cond0_1 i) :
    sout0_A_0 c i arg2 harg2 arg3 harg3 arg4 harg4 arg5 harg5 arg6 harg6 arg7 harg7 arg8 harg8 arg9 harg9 arg10 harg10 arg11 harg11 hc0 hc1 x0 x1 x2 x3 x4 x5 x6 = step x0 x1 x2 x3 x4 x5 x6 (fun _ => 0) := by
  unfold sout0_A_0
  rw [View.read_writes_junk_eq_canon, sum_pieces_A, View.canon_cons_unit_lit' (S := S2048x512) inb_S2048x512_S2048x512_0_0 _ _ (by decide), sumPay_eq]
  refine congrArg (step x0 x1 x2 x3 x4 x5 x6) ?_
  refine (View.readCov_unit_lit' (S := S2048x512) _ inb_S2048x512_S2048x512_0_0 _ (by decide)).trans (funext zeros)

theorem sout_B (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 hc0 hc1 x0 x1 x2 x3 x4 x5 x6 xs0 = step x0 x1 x2 x3 x4 x5 x6 xs0 := by
  unfold sout0_B_0
  rw [View.read_writes_junk_eq_canon, sum_pieces_B, View.canon_cons_unit_lit' (S := S2048x512) inb_S2048x512_S2048x512_0_0 _ _ (by decide), sumPay_eq, load_whole]

theorem sout_C (hc0 : ¬cond0_0 i) (hc1 : cond0_1 i) :
    sout0_C_0 c i arg2 harg2 arg3 harg3 arg4 harg4 arg5 harg5 arg6 harg6 arg7 harg7 arg8 harg8 arg9 harg9 arg10 harg10 arg11 harg11 hc0 hc1 x0 x1 x2 x3 x4 x5 x6 xs0 = step x0 x1 x2 x3 x4 x5 x6 xs0 := by
  unfold sout0_C_0
  rw [View.read_writes_junk_eq_canon, sum_pieces_C, View.canon_cons_unit_lit' (S := S2048x512) inb_S2048x512_S2048x512_0_0 _ _ (by decide), sumPay_eq, load_whole]

theorem out_C (hc0 : ¬cond0_0 i) (hc1 : cond0_1 i) :
    out0_C_7 c i arg2 harg2 arg3 harg3 arg4 harg4 arg5 harg5 arg6 harg6 arg7 harg7 arg8 harg8 arg9 harg9 arg10 harg10 arg11 harg11 hc0 hc1 x0 x1 x2 x3 x4 x5 x6 xs0 = step x0 x1 x2 x3 x4 x5 x6 xs0 := by
  unfold out0_C_7
  rw [View.read_writes_junk_eq_canon, out_pieces_C, View.canon_cons_unit_lit' (S := S2048x512) inb_S2048x512_S2048x512_0_0 _ _ (by decide)]
  refine (View.readCov_unit_lit' (S := S2048x512) _ inb_S2048x512_S2048x512_0_0 _ (by decide)).trans ?_
  rw [sumPay_eq, load_whole]

end Cert.ExpertsRun

end
-- ==== Proof.Experts.Value.lean ====
/- What the kernel leaves in its output: the sum over all experts, tile by tile of 1024. -/
module

public import proofs.«01_k».proof.Proof.Experts.Block

@[expose] public section

set_option maxRecDepth 16384

noncomputable section

namespace Cert.ExpertsRun

open Cert.ExpertsIdeal Cert.ExpertsIdeal.Gen Cert.ExpertsIdeal.Value
open Idealize.ShloMosaic Idealize.ShloMosaic.TcCoe Idealize.SL.Sem
open Cert.MergeRun (eq_at2 eq_at3)

/-- One expert's activation for one token, times its weights. -/
def actOf (h : S2048x8192.Idx → EReal) (u : S16384x2048.Idx → EReal) (thr s2 p1 p2 : S8x128x8192.Idx → EReal) (e : Fin 16384) (t : Fin 8192) : EReal :=
  gelu (∑ k, u (ix2 e k) * h (ix2 k t))
    * weight (fun n => thr (ix3 n ⟨e.val / 128, by omega⟩ t)) (fun n => s2 (ix3 n ⟨e.val % 128, by omega⟩ t)) (fun n => p1 (ix3 n ⟨e.val / 128, by omega⟩ t)) (fun n => p2 (ix3 n ⟨e.val % 128, by omega⟩ t))

/-- The experts' output. -/
def outOf (h : S2048x8192.Idx → EReal) (u : S16384x2048.Idx → EReal) (vt : S2048x16384.Idx → EReal) (thr s2 p1 p2 : S8x128x8192.Idx → EReal) : S2048x8192.Idx → EReal :=
  fun y => ∑ e : Fin 16384, vt (ix2 (y 0) e) * actOf h u thr s2 p1 p2 e (y 1)

variable (m : (ℓ : Loc nD τ sig) → Buf (Elt Ideal) ℓ) (ρ : Dev nD → PrngReg)

/-- The arguments as launched. -/
abbrev H (c : Dev nD) : S2048x8192.Idx → EReal := m ((c : Thread nD τ).loc main_arg0)
abbrev U (c : Dev nD) : S16384x2048.Idx → EReal := m ((c : Thread nD τ).loc main_arg1)
abbrev Vt (c : Dev nD) : S2048x16384.Idx → EReal := m ((c : Thread nD τ).loc main_arg2)
abbrev Thr (c : Dev nD) : S8x128x8192.Idx → EReal := m ((c : Thread nD τ).loc main_arg3)
abbrev S2 (c : Dev nD) : S8x128x8192.Idx → EReal := m ((c : Thread nD τ).loc main_arg4)
abbrev P1 (c : Dev nD) : S8x128x8192.Idx → EReal := m ((c : Thread nD τ).loc main_arg5)
abbrev P2 (c : Dev nD) : S8x128x8192.Idx → EReal := m ((c : Thread nD τ).loc main_arg6)

/-- Where each window's block begins. -/
theorem idx_mats : ∀ t : Fin cfg0.N, (win0_0.index t 0 = 0 ∧ win0_0.index t 1 = t.val / 16) ∧ (win0_1.index t 0 = t.val % 16 ∧ win0_1.index t 1 = 0) ∧ (win0_2.index t 0 = 0 ∧ win0_2.index t 1 = t.val % 16) :=
  (by decide +kernel : ∀ t : Fin grid0.N, (win0_0.index t 0 = 0 ∧ win0_0.index t 1 = t.val / 16) ∧ (win0_1.index t 0 = t.val % 16 ∧ win0_1.index t 1 = 0) ∧ (win0_2.index t 0 = 0 ∧ win0_2.index t 1 = t.val % 16))
theorem idx_keys : ∀ t : Fin cfg0.N, (win0_3.index t 0 = 0 ∧ win0_3.index t 1 = t.val % 16 ∧ win0_3.index t 2 = t.val / 16) ∧ (win0_4.index t 0 = 0 ∧ win0_4.index t 1 = 0 ∧ win0_4.index t 2 = t.val / 16)
      ∧ (win0_5.index t 0 = 0 ∧ win0_5.index t 1 = t.val % 16 ∧ win0_5.index t 2 = t.val / 16) ∧ (win0_6.index t 0 = 0 ∧ win0_6.index t 1 = 0 ∧ win0_6.index t 2 = t.val / 16) :=
  (by decide +kernel : ∀ t : Fin grid0.N, (win0_3.index t 0 = 0 ∧ win0_3.index t 1 = t.val % 16 ∧ win0_3.index t 2 = t.val / 16) ∧ (win0_4.index t 0 = 0 ∧ win0_4.index t 1 = 0 ∧ win0_4.index t 2 = t.val / 16)
      ∧ (win0_5.index t 0 = 0 ∧ win0_5.index t 1 = t.val % 16 ∧ win0_5.index t 2 = t.val / 16) ∧ (win0_6.index t 0 = 0 ∧ win0_6.index t 1 = 0 ∧ win0_6.index t 2 = t.val / 16))

theorem lt_N (t : Fin cfg0.N) : t.val < 256 := Nat.lt_of_lt_of_eq t.isLt N_0

/-- The token and the expert a point's block entry stands for. -/
def tok (n : ℕ) (s : Fin 512) : Fin 8192 := ⟨(512 * (n / 16) + s.val) % 8192, Nat.mod_lt _ (by decide)⟩
def expert (n : ℕ) (x : Fin 1024) : Fin 16384 := ⟨(1024 * n + x.val) % 16384, Nat.mod_lt _ (by decide)⟩

theorem tok_val (t : Fin cfg0.N) (s : Fin 512) : (tok t.val s).val = 512 * (t.val / 16) + s.val := by
  have h := lt_N t
  show (512 * (t.val / 16) + s.val) % 8192 = _
  omega
theorem expert_val (n : ℕ) (x : Fin 1024) : (expert (n % 16) x).val = 1024 * (n % 16) + x.val := by
  show (1024 * (n % 16) + x.val) % 16384 = _
  omega

/-- A block read: the array at an index whose coordinates are the block's origin plus the block's. -/
theorem iblk_0 (c : Dev nD) (t : Fin cfg0.N) (k : Fin 2048) (s : Fin 512) : (iblk m c 0 t : Vec Ideal S2048x512 .bf16) (ix2 k s) = H m c (ix2 k (tok t.val s)) := by
  rw [show H m c = V m c main_arg0 from (V_main_arg0 m c).symm]
  have e := (idx_mats t).1
  refine congrArg (V m c main_arg0) (eq_at2 _ _ _ ?_ ?_)
  · show win0_0.index t 0 * 2048 + 1 * k.val = k.val; rw [e.1]; omega
  · show win0_0.index t 1 * 512 + 1 * s.val = _; rw [e.2, tok_val]; omega

theorem iblk_1 (c : Dev nD) (t : Fin cfg0.N) (x : Fin 1024) (k : Fin 2048) : (iblk m c 1 t : Vec Ideal S1024x2048 .bf16) (ix2 x k) = U m c (ix2 (expert (t.val % 16) x) k) := by
  rw [show U m c = V m c main_arg1 from (V_main_arg1 m c).symm]
  have e := (idx_mats t).2.1
  refine congrArg (V m c main_arg1) (eq_at2 _ _ _ ?_ ?_)
  · show win0_1.index t 0 * 1024 + 1 * x.val = _; rw [e.1, expert_val]; omega
  · show win0_1.index t 1 * 2048 + 1 * k.val = k.val; rw [e.2]; omega

theorem iblk_2 (c : Dev nD) (t : Fin cfg0.N) (d : Fin 2048) (x : Fin 1024) : (iblk m c 2 t : Vec Ideal S2048x1024 .bf16) (ix2 d x) = Vt m c (ix2 d (expert (t.val % 16) x)) := by
  rw [show Vt m c = V m c main_arg2 from (V_main_arg2 m c).symm]
  have e := (idx_mats t).2.2
  refine congrArg (V m c main_arg2) (eq_at2 _ _ _ ?_ ?_)
  · show win0_2.index t 0 * 2048 + 1 * d.val = d.val; rw [e.1]; omega
  · show win0_2.index t 1 * 1024 + 1 * x.val = _; rw [e.2, expert_val]; omega

theorem iblk_3 (c : Dev nD) (t : Fin cfg0.N) (n : Fin 8) (x : Fin 1024) (s : Fin 512) :
    (iblk m c 3 t : Vec Ideal S8x8x512 .f32) (ix3 n ⟨x.val / 128, by omega⟩ s) = Thr m c (ix3 n ⟨(expert (t.val % 16) x).val / 128, by omega⟩ (tok t.val s)) := by
  rw [show Thr m c = V m c main_arg3 from (V_main_arg3 m c).symm]
  have e := (idx_keys t).1
  refine congrArg (V m c main_arg3) (eq_at3 _ _ _ _ ?_ ?_ ?_)
  · show win0_3.index t 0 * 8 + 1 * n.val = n.val; rw [e.1]; omega
  · show win0_3.index t 1 * 8 + 1 * (x.val / 128) = (expert (t.val % 16) x).val / 128; rw [e.2.1, expert_val]; omega
  · show win0_3.index t 2 * 512 + 1 * s.val = _; rw [e.2.2, tok_val]; omega

theorem iblk_4 (c : Dev nD) (t : Fin cfg0.N) (n : Fin 8) (x : Fin 1024) (s : Fin 512) :
    (iblk m c 4 t : Vec Ideal S8x128x512 .f32) (ix3 n ⟨x.val % 128, by omega⟩ s) = S2 m c (ix3 n ⟨(expert (t.val % 16) x).val % 128, by omega⟩ (tok t.val s)) := by
  rw [show S2 m c = V m c main_arg4 from (V_main_arg4 m c).symm]
  have e := (idx_keys t).2.1
  refine congrArg (V m c main_arg4) (eq_at3 _ _ _ _ ?_ ?_ ?_)
  · show win0_4.index t 0 * 8 + 1 * n.val = n.val; rw [e.1]; omega
  · show win0_4.index t 1 * 128 + 1 * (x.val % 128) = (expert (t.val % 16) x).val % 128; rw [e.2.1, expert_val]; omega
  · show win0_4.index t 2 * 512 + 1 * s.val = _; rw [e.2.2, tok_val]; omega

theorem iblk_5 (c : Dev nD) (t : Fin cfg0.N) (n : Fin 8) (x : Fin 1024) (s : Fin 512) :
    (iblk m c 5 t : Vec Ideal S8x8x512 .f32) (ix3 n ⟨x.val / 128, by omega⟩ s) = P1 m c (ix3 n ⟨(expert (t.val % 16) x).val / 128, by omega⟩ (tok t.val s)) := by
  rw [show P1 m c = V m c main_arg5 from (V_main_arg5 m c).symm]
  have e := (idx_keys t).2.2.1
  refine congrArg (V m c main_arg5) (eq_at3 _ _ _ _ ?_ ?_ ?_)
  · show win0_5.index t 0 * 8 + 1 * n.val = n.val; rw [e.1]; omega
  · show win0_5.index t 1 * 8 + 1 * (x.val / 128) = (expert (t.val % 16) x).val / 128; rw [e.2.1, expert_val]; omega
  · show win0_5.index t 2 * 512 + 1 * s.val = _; rw [e.2.2, tok_val]; omega

theorem iblk_6 (c : Dev nD) (t : Fin cfg0.N) (n : Fin 8) (x : Fin 1024) (s : Fin 512) :
    (iblk m c 6 t : Vec Ideal S8x128x512 .f32) (ix3 n ⟨x.val % 128, by omega⟩ s) = P2 m c (ix3 n ⟨(expert (t.val % 16) x).val % 128, by omega⟩ (tok t.val s)) := by
  rw [show P2 m c = V m c main_arg6 from (V_main_arg6 m c).symm]
  have e := (idx_keys t).2.2.2
  refine congrArg (V m c main_arg6) (eq_at3 _ _ _ _ ?_ ?_ ?_)
  · show win0_6.index t 0 * 8 + 1 * n.val = n.val; rw [e.1]; omega
  · show win0_6.index t 1 * 128 + 1 * (x.val % 128) = (expert (t.val % 16) x).val % 128; rw [e.2.1, expert_val]; omega
  · show win0_6.index t 2 * 512 + 1 * s.val = _; rw [e.2.2, tok_val]; omega

/-- One tile's share of the sum. -/
def share (c : Dev nD) (d : Fin 2048) (s : Fin 8192) (n : ℕ) : EReal :=
  ∑ x : Fin 1024, Vt m c (ix2 d (expert n x)) * actOf (H m c) (U m c) (Thr m c) (S2 m c) (P1 m c) (P2 m c) (expert n x) s

theorem step_at (c : Dev nD) (t : Fin cfg0.N) (p : Vec Ideal S2048x512 .f32) (d : Fin 2048) (s : Fin 512) :
    step (iblk m c 0 t) (iblk m c 1 t) (iblk m c 2 t) (iblk m c 3 t) (iblk m c 4 t) (iblk m c 5 t) (iblk m c 6 t) p (ix2 d s) = p (ix2 d s) + share m c d (tok t.val s) (t.val % 16) := by
  refine congrArg (p (ix2 d s) + ·) (Finset.sum_congr rfl fun x _ => ?_)
  refine congrArg₂ (· * ·) (iblk_2 m c t d x) (congrArg₂ (· * ·) (congrArg gelu (Finset.sum_congr rfl fun k _ => congrArg₂ (· * ·) (iblk_1 m c t x k) (iblk_0 m c t k s))) ?_)
  refine Finset.sum_congr rfl fun n _ => ?_
  have e3 := iblk_3 m c t n x s
  have e4 := iblk_4 m c t n x s
  have e5 := iblk_5 m c t n x s
  have e6 := iblk_6 m c t n x s
  exact if_congr (iff_of_eq (congrArg₂ (· ≤ ·) e3 e4)) (congrArg₂ (· * ·) e5 e6) rfl

/-- What a point leaves in the scratch of sums. -/
theorem next (c : Dev nD) (t : Fin cfg0.N) (acc : Vec Ideal S2048x512 .f32 × Vec Ideal S2048x512 .f32) :
    (stAt0 m c t.val t.isLt acc).2 = step (iblk m c 0 t) (iblk m c 1 t) (iblk m c 2 t) (iblk m c 3 t) (iblk m c 4 t) (iblk m c 5 t) (iblk m c 6 t) (if t.val % 16 = 0 then fun _ => 0 else acc.2) := by
  by_cases h0 : t.val % 16 = 0
  · have h1 : ¬t.val % 16 = 15 := by omega
    rw [if_pos h0, stAt0_A m c t acc h0 h1]
    dsimp only
    rw [sout_A]
  · rw [if_neg h0]
    by_cases h1 : t.val % 16 = 15
    · rw [stAt0_C m c t acc h0 h1]
      dsimp only
      rw [sout_C]
    · rw [stAt0_B m c t acc h0 h1]
      dsimp only
      rw [sout_B]

/-- The last point of a row writes the sums out. -/
theorem last (c : Dev nD) (t : Fin cfg0.N) (acc : Vec Ideal S2048x512 .f32 × Vec Ideal S2048x512 .f32) (h1 : t.val % 16 = 15) :
    (stAt0 m c t.val t.isLt acc).1 = (stAt0 m c t.val t.isLt acc).2 := by
  have h0 : ¬t.val % 16 = 0 := by omega
  rw [stAt0_C m c t acc h0 h1]
  dsimp only
  rw [out_C, sout_C]

/-- The sums after a point: the tiles of its row so far. -/
theorem sums (c : Dev nD) (d : Fin 2048) (s : Fin 512) : ∀ (n : ℕ) (hn : n < cfg0.N), (outsAt0 m c n hn).2 (ix2 d s) = ∑ e ∈ Finset.range (n % 16 + 1), share m c d (tok n s) e
  | 0, hn => by
    rw [outsAt0_zero, next m c ⟨0, hn⟩, step_at, if_pos (Nat.zero_mod _)]
    rw [show 0 % 16 + 1 = 1 from rfl, Finset.sum_range_one, zero_add]
    rfl
  | n + 1, hn => by
    have ih := sums c d s n (Nat.lt_of_succ_lt hn)
    rw [outsAt0_succ, next m c ⟨n + 1, hn⟩, step_at]
    by_cases h0 : (n + 1) % 16 = 0
    · rw [if_pos h0]
      show (0 : EReal) + share m c d (tok (n + 1) s) ((n + 1) % 16) = _
      rw [h0, zero_add, Finset.sum_range_one]
    · have e1 : (n + 1) % 16 = n % 16 + 1 := by omega
      have e2 : tok (n + 1) s = tok n s := Fin.ext (by show (512 * ((n + 1) / 16) + s.val) % 8192 = (512 * (n / 16) + s.val) % 8192; rw [show (n + 1) / 16 = n / 16 by omega])
      rw [if_neg h0, ih]
      show _ + share m c d (tok (n + 1) s) ((n + 1) % 16) = _
      rw [e1, e2, ← Finset.sum_range_succ]

/-- Sixteen tiles of 1024 are all the experts. -/
theorem tiles (f : Fin 16384 → EReal) : ∑ e ∈ Finset.range 16, ∑ x : Fin 1024, f (expert e x) = ∑ e, f e := by
  rw [Finset.sum_range, ← Fintype.sum_prod_type' (fun (e : Fin 16) (x : Fin 1024) => f (expert e.val x))]
  refine (Equiv.sum_comp (finProdFinEquiv (m := 16) (n := 1024)) (fun e => f e)).symm.trans ?_ |>.symm
  refine Finset.sum_congr rfl fun p _ => congrArg f (Fin.ext ?_)
  show p.2.val + 1024 * p.1.val = (1024 * p.1.val + p.2.val) % 16384
  omega

theorem result (c : Dev nD) : G7 m c = outOf (H m c) (U m c) (Vt m c) (Thr m c) (S2 m c) (P1 m c) (P2 m c) := by
  funext y
  change S2048x8192.Idx at y
  obtain ⟨d, t, rfl⟩ : ∃ (d : Fin 2048) (t : Fin 8192), y = ix2 d t := ⟨y 0, y 1, eq_ix2 y⟩
  have hp : pt7Of (ix2 d t) = 16 * (t.val / 512) + 15 := by
    show 16 * (16 * (d.val / 2048 - 0) + 1 * (t.val / 512 - 0)) + 15 = _
    omega
  have hN : pt7Of (ix2 d t) < cfg0.N := by rw [hp]; exact lt_of_lt_of_eq (by omega) (show cfg0.N = 256 from N_0).symm
  unfold G7
  rw [dif_pos hN, ← outsAt0_sweep m c (pt7Of (ix2 d t)) hN]
  have hl : loc7Of (ix2 d t) = ix2 d (⟨t.val % 512, Nat.mod_lt _ (by decide)⟩ : Fin 512) := by
    refine eq_at2 _ _ _ ?_ rfl
    show d.val % 2048 = d.val
    omega
  rw [hl]
  have key : ∀ (n : ℕ) (hn : n < cfg0.N), n % 16 = 15 → (outsAt0 m c n hn).1 = (outsAt0 m c n hn).2 := fun n hn h => by
    match n, hn, h with
    | n + 1, hn, h =>
      rw [outsAt0_succ]
      exact last m c ⟨n + 1, hn⟩ _ h
  rw [key _ hN (by rw [hp]; omega), sums, hp]
  have e1 : (16 * (t.val / 512) + 15) % 16 + 1 = 16 := by omega
  have e2 : tok (16 * (t.val / 512) + 15) ⟨t.val % 512, Nat.mod_lt _ (by decide)⟩ = t := by
    refine Fin.ext ?_
    show (512 * ((16 * (t.val / 512) + 15) / 16) + t.val % 512) % 8192 = t.val
    omega
  rw [e1, e2]
  exact tiles fun e => Vt m c (ix2 d e) * actOf (H m c) (U m c) (Thr m c) (S2 m c) (P1 m c) (P2 m c) e t

/-- The kernel's run: the experts' output, and the arguments unchanged. -/
theorem run : θ_run defs (onTc (τ := τ) (main (F := Ideal))) ⟨m, fun _ => 0, ρ⟩ fun r => ∀ c : Dev nD,
      r.2.mem ((c : Thread nD τ).loc main_v0) = outOf (H m c) (U m c) (Vt m c) (Thr m c) (S2 m c) (P1 m c) (P2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (result m c), (h c).2⟩) (Cert.ExpertsIdeal.Value.run m ρ)

end Cert.ExpertsRun

end
-- ==== Proof.Experts.Reference.lean ====
/- What the experts' reference computes, and that its activation is the kernel's. -/
module

public import proofs.«01_k».proof.Proof.Experts.Value
public import proofs.«01_k».proof.Proof.Gen.ExpertsRefIdeal.Run
public import proofs.«01_k».proof.Pre_above_minus_infinity
public import proofs.«01_k».proof.Proof.Gen.Pre_above_minus_infinity

@[expose] public section

set_option maxRecDepth 16384

noncomputable section

namespace Cert.ExpertsRun.Ref

open Cert.ExpertsRefIdeal Cert.ExpertsRefIdeal.Gen Cert.ExpertsRefIdeal.Value
open Idealize.ShloMosaic Idealize.ShloMosaic.TcCoe Idealize.SL.Sem Idealize.ShloMosaic.StableHlo
open Cert.ExpertsRun (gelu weight actOf outOf)

/-- The two constants of the activation as real numbers, and the product of the two that the kernel names. -/
theorem root_val : Ideal.ofBits FTy.f32 1061962282#32 = ((13386282 / 16777216 : ℝ) : EReal) := by
  simp [Ideal.ofBits, Ideal.ieee, -EReal.coe_mul]; norm_num
theorem cubic_val : Ideal.ofBits FTy.f32 1027024659#32 = ((12003091 / 268435456 : ℝ) : EReal) := by
  simp [Ideal.ofBits, Ideal.ieee, -EReal.coe_mul]; norm_num
theorem named_val : Named.named (F := Ideal) Cert.ExpertsIdeal.κ "gelu_cubic" (φ := .f32) 1024598649#32 = ((80338380498831 / 2251799813685248 : ℝ) : EReal) :=
  IdealRules.named_const.ideal_named_scalar _ _ _ _ rfl

/-- The argument of the hyperbolic tangent, as the kernel and as the reference writes it. -/
theorem inner (x : EReal) :
    x * (Ideal.ofBits FTy.f32 1061962282#32 + Named.named (F := Ideal) Cert.ExpertsIdeal.κ "gelu_cubic" (φ := .f32) 1024598649#32 * (x * x))
      = Ideal.ofBits FTy.f32 1061962282#32 * (x + Ideal.ofBits FTy.f32 1027024659#32 * (x * x * x)) := by
  rw [root_val, cubic_val, named_val]
  have pc : (0 : ℝ) < 13386282 / 16777216 := by norm_num
  have pk : (0 : ℝ) < 12003091 / 268435456 := by norm_num
  have pn : (0 : ℝ) < 80338380498831 / 2251799813685248 := by norm_num
  induction x with
  | bot => rw [EReal.bot_mul_bot, EReal.coe_mul_top_of_pos pn, EReal.coe_add_top, EReal.bot_mul_top, EReal.top_mul_bot, EReal.coe_mul_bot_of_pos pk, EReal.bot_add, EReal.coe_mul_bot_of_pos pc]
  | top => rw [EReal.top_mul_top, EReal.coe_mul_top_of_pos pn, EReal.coe_add_top, EReal.top_mul_top, EReal.coe_mul_top_of_pos pk, EReal.top_add_top, EReal.coe_mul_top_of_pos pc]
  | coe x =>
    norm_cast
    ring

/-- The reference's activation. -/
def refGelu (x : EReal) : EReal :=
  x * (Ideal.ofBits FTy.f32 1056964608#32 * (Ideal.ofBits FTy.f32 1065353216#32
    + Ideal.tanh (Ideal.ofBits FTy.f32 1061962282#32 * (x + Ideal.ofBits FTy.f32 1027024659#32 * (x * x * x)))))

theorem half_val : Ideal.ofBits FTy.f32 1056964608#32 = ((1 / 2 : ℝ) : EReal) := by
  simp [Ideal.ofBits, Ideal.ieee, -EReal.coe_mul]; norm_num
theorem one_val : Ideal.ofBits FTy.f32 1065353216#32 = ((1 : ℝ) : EReal) := by
  simp [Ideal.ofBits, Ideal.ieee, -EReal.coe_mul]; norm_num

/-- Away from minus infinity the two activations agree. -/
theorem gelu_eq (x : EReal) (hx : x ≠ ⊥) : refGelu x = gelu x := by
  unfold refGelu gelu
  rw [inner, half_val, one_val, root_val, cubic_val]
  have pc : (0 : ℝ) < 13386282 / 16777216 := by norm_num
  have pk : (0 : ℝ) < 12003091 / 268435456 := by norm_num
  have ph : (0 : ℝ) < 1 / 2 := by norm_num
  induction x with
  | bot => exact absurd rfl hx
  | top =>
    rw [EReal.top_mul_top, EReal.top_mul_top, EReal.coe_mul_top_of_pos pk, EReal.top_add_top, EReal.coe_mul_top_of_pos pc, EReal.coe_mul_top_of_pos ph]
    have e : Ideal.tanh (⊤ : EReal) = ((1 : ℝ) : EReal) := rfl
    rw [e, EReal.top_mul_coe_of_pos one_pos, EReal.top_add_top, ← EReal.coe_add, ← EReal.coe_mul, EReal.top_mul_coe_of_pos (by norm_num)]
  | coe x =>
    have e : ∀ y : ℝ, Ideal.tanh (y : EReal) = ((Real.tanh y : ℝ) : EReal) := fun _ => rfl
    have a : ((13386282 / 16777216 : ℝ) : EReal) * ((x : EReal) + ((12003091 / 268435456 : ℝ) : EReal) * ((x : EReal) * x * x)) = ((13386282 / 16777216 * (x + 12003091 / 268435456 * (x * x * x)) : ℝ) : EReal) := by
      norm_cast
    rw [a, e]
    norm_cast
    ring

/-- The reference's lines: the products with the first table, the activation, the weights, the product with the second table. -/
def prodLine (h : S2048x8192.Idx → EReal) (u : S16384x2048.Idx → EReal) : FVec Ideal S16384x8192 .f32 :=
  Host.dotGeneral (F := Ideal) dot_S16384x2048_S2048x8192_S16384x8192_1_0_0_1_n_n none (extf (F := Ideal) (φ := .bf16) .f32 u bitsLt_bf16_f32) (extf (F := Ideal) (φ := .bf16) .f32 h bitsLt_bf16_f32)
def geluLine (a : FVec Ideal S16384x8192 .f32) : FVec Ideal S16384x8192 .f32 :=
  mulf a (mulf (broadcastInDim S16384x8192 ![] bcast_S_S16384x8192 (constant (F := Ideal) S_ .f32 0x3F000000#32)) (addf (broadcastInDim S16384x8192 ![] bcast_S_S16384x8192 (constant (F := Ideal) S_ .f32 0x3F800000#32)) (Host.tanh (mulf (broadcastInDim S16384x8192 ![] bcast_S_S16384x8192 (constant (F := Ideal) S_ .f32 0x3F4C422A#32)) (addf a (mulf (broadcastInDim S16384x8192 ![] bcast_S_S16384x8192 (constant (F := Ideal) S_ .f32 0x3D372713#32)) (mulf (mulf a a) a)))))))
def pickLine (thr s2 p1 p2 : FVec Ideal S8x128x8192 .f32) : FVec Ideal S8x128x128x8192 .f32 :=
  select (cmpf .oge (broadcastInDim S8x128x128x8192 ![0, 1, 2, 3] bcast_S8x1x128x8192_S8x128x128x8192_0_1_2_3 (broadcastInDim S8x1x128x8192 ![0, 2, 3] bcast_S8x128x8192_S8x1x128x8192_0_2_3 s2) : FVec Ideal S8x128x128x8192 .f32) (broadcastInDim S8x128x128x8192 ![0, 1, 2, 3] bcast_S8x128x1x8192_S8x128x128x8192_0_1_2_3 (broadcastInDim S8x128x1x8192 ![0, 1, 3] bcast_S8x128x8192_S8x128x1x8192_0_1_3 thr))) (mulf (broadcastInDim S8x128x128x8192 ![0, 1, 2, 3] bcast_S8x128x1x8192_S8x128x128x8192_0_1_2_3 (broadcastInDim S8x128x1x8192 ![0, 1, 3] bcast_S8x128x8192_S8x128x1x8192_0_1_3 p1) : FVec Ideal S8x128x128x8192 .f32) (broadcastInDim S8x128x128x8192 ![0, 1, 2, 3] bcast_S8x1x128x8192_S8x128x128x8192_0_1_2_3 (broadcastInDim S8x1x128x8192 ![0, 2, 3] bcast_S8x128x8192_S8x1x128x8192_0_2_3 p2))) (broadcastInDim S8x128x128x8192 ![] bcast_S_S8x128x128x8192 (id (constant (F := Ideal) S_ .f32 0x00000000#32)))
def weightLine (thr s2 p1 p2 : FVec Ideal S8x128x8192 .f32) : FVec Ideal S16384x8192 .f32 :=
  shapeCast _ (Host.reduceAdd (pickLine thr s2 p1 p2) (constant (F := Ideal) S_ .f32 0x00000000#32) reducesTo_S8x128x128x8192_S128x128x8192_d0 h_S_ : FVec Ideal S128x128x8192 .f32) shapeCasts_S128x128x8192_S16384x8192
def outLine (h : S2048x8192.Idx → EReal) (u : S16384x2048.Idx → EReal) (vt : S2048x16384.Idx → EReal) (thr s2 p1 p2 : FVec Ideal S8x128x8192 .f32) : FVec Ideal S2048x8192 .f32 :=
  Host.dotGeneral (F := Ideal) dot_S2048x16384_S16384x8192_S2048x8192_1_0_0_1_n_n none (extf (F := Ideal) (φ := .bf16) .f32 vt bitsLt_bf16_f32) (mulf (geluLine (prodLine h u)) (weightLine thr s2 p1 p2))

theorem prodLine_apply (h : S2048x8192.Idx → EReal) (u : S16384x2048.Idx → EReal) (e : Fin 16384) (t : Fin 8192) : prodLine h u (ix2 e t) = ∑ k, u (ix2 e k) * h (ix2 k t) := by
  pointwise [prodLine]

theorem geluLine_apply (a : FVec Ideal S16384x8192 .f32) (e : Fin 16384) (t : Fin 8192) : geluLine a (ix2 e t) = refGelu (a (ix2 e t)) := by
  pointwise [geluLine, refGelu]

theorem pickLine_apply (thr s2 p1 p2 : FVec Ideal S8x128x8192 .f32) (n : Fin 8) (a b : Fin 128) (t : Fin 8192) :
    pickLine thr s2 p1 p2 (ix4 n a b t) = if thr (ix3 n a t) ≤ s2 (ix3 n b t) then p1 (ix3 n a t) * p2 (ix3 n b t) else 0 := by
  pointwise [pickLine, id]

theorem weightLine_apply (thr s2 p1 p2 : FVec Ideal S8x128x8192 .f32) (e : Fin 16384) (t : Fin 8192) :
    weightLine thr s2 p1 p2 (ix2 e t) = weight (fun n => thr (ix3 n ⟨e.val / 128, by omega⟩ t)) (fun n => s2 (ix3 n ⟨e.val % 128, by omega⟩ t)) (fun n => p1 (ix3 n ⟨e.val / 128, by omega⟩ t)) (fun n => p2 (ix3 n ⟨e.val % 128, by omega⟩ t)) := by
  pointwise [weightLine, weight]
  simp only [pickLine_apply]

theorem outLine_apply (h : S2048x8192.Idx → EReal) (u : S16384x2048.Idx → EReal) (vt : S2048x16384.Idx → EReal) (thr s2 p1 p2 : FVec Ideal S8x128x8192 .f32)
    (hx : ∀ (e : Fin 16384) (t : Fin 8192), ∑ k, u (ix2 e k) * h (ix2 k t) ≠ ⊥) : outLine h u vt thr s2 p1 p2 = outOf h u vt thr s2 p1 p2 := by
  funext y
  obtain ⟨d, t, rfl⟩ : ∃ (d : Fin 2048) (t : Fin 8192), y = ix2 d t := ⟨y 0, y 1, eq_ix2 y⟩
  have e : outLine h u vt thr s2 p1 p2 (ix2 d t) = ∑ e : Fin 16384, vt (ix2 d e) * (geluLine (prodLine h u) (ix2 e t) * weightLine thr s2 p1 p2 (ix2 e t)) := by
    pointwise [outLine]
  rw [e]
  refine Finset.sum_congr rfl fun x _ => ?_
  rw [geluLine_apply, prodLine_apply, weightLine_apply, gelu_eq _ (hx x t)]
  rfl

/-- The precondition says that no product of an expert's row with a token is minus infinity. -/
theorem above (h : FVec Ideal S2048x8192 .bf16) (u : FVec Ideal S16384x2048 .bf16) (vt : FVec Ideal S2048x16384 .bf16) (thr s2 p1 p2 : FVec Ideal S8x128x8192 .f32)
    (hp : Cert.Pre_above_minus_infinity.fn (F := Ideal) h u vt thr s2 p1 p2 = fun _ => 1#1) (e : Fin 16384) (t : Fin 8192) : ∑ k, u (ix2 e k) * h (ix2 k t) ≠ ⊥ := by
  have h1 : cmpf (F := Ideal) (φ := .f32) .ogt (prodLine h u) (broadcastInDim S16384x8192 ![] bcast_S_S16384x8192 (constant (F := Ideal) S_ .f32 0xFF800000#32)) (ix2 e t) = 1#1 := congrFun hp (ix2 e t)
  have h2 : Ideal.ofBits FTy.f32 4286578688#32 < prodLine h u (ix2 e t) := by
    by_contra hn
    have h3 : cmpf (F := Ideal) (φ := .f32) .ogt (prodLine h u) (broadcastInDim S16384x8192 ![] bcast_S_S16384x8192 (constant (F := Ideal) S_ .f32 0xFF800000#32)) (ix2 e t) = 0#1 := by
      pointwise
      rw [decide_eq_false hn]
      rfl
    rw [h3] at h1
    exact absurd h1 (by decide)
  rw [prodLine_apply] at h2
  exact ne_bot_of_gt h2

variable (m : (ℓ : Loc nD τ sig) → Buf (Elt Ideal) ℓ)

/-- The arguments as launched. -/
abbrev H (c : Dev nD) : S2048x8192.Idx → EReal := m ((c : Thread nD τ).loc main_arg0)
abbrev U (c : Dev nD) : S16384x2048.Idx → EReal := m ((c : Thread nD τ).loc main_arg1)
abbrev Vt (c : Dev nD) : S2048x16384.Idx → EReal := m ((c : Thread nD τ).loc main_arg2)
abbrev Thr (c : Dev nD) : S8x128x8192.Idx → EReal := m ((c : Thread nD τ).loc main_arg3)
abbrev S2 (c : Dev nD) : S8x128x8192.Idx → EReal := m ((c : Thread nD τ).loc main_arg4)
abbrev P1 (c : Dev nD) : S8x128x8192.Idx → EReal := m ((c : Thread nD τ).loc main_arg5)
abbrev P2 (c : Dev nD) : S8x128x8192.Idx → EReal := m ((c : Thread nD τ).loc main_arg6)

/-- The reference's run: the experts' output, and the arguments unchanged. -/
theorem run (ρ : Dev nD → PrngReg) (hx : ∀ (c : Dev nD) (e : Fin 16384) (t : Fin 8192), ∑ k, U m c (ix2 e k) * H m c (ix2 k t) ≠ ⊥) : θ_run defs (onTc (τ := τ) (main (F := Ideal))) ⟨m, fun _ => 0, ρ⟩ fun r => ∀ c : Dev nD,
      r.2.mem ((c : Thread nD τ).loc main_v31) = outOf (H m c) (U m c) (Vt m c) (Thr m c) (S2 m c) (P1 m c) (P2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (outLine_apply (H m c) (U m c) (Vt m c) (Thr m c) (S2 m c) (P1 m c) (P2 m c) (hx c)), (h c).2⟩) (Cert.ExpertsRefIdeal.Value.run m ρ)

end Cert.ExpertsRun.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.InProj
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalIdeal.Value
public import proofs.«01_k».proof.Proof.Gen.FinalRefIdeal
public import proofs.«01_k».proof.Proof.Gen.FinalRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.PeerQ
public import proofs.«01_k».proof.Proof.Gen.PeerQIdeal
public import proofs.«01_k».proof.Proof.Gen.PeerQIdeal.Skeleton
public import proofs.«01_k».proof.Proof.Gen.PeerQIdeal.Launch
public import proofs.«01_k».proof.Proof.Gen.PeerQIdeal.Points
public import proofs.«01_k».proof.Proof.Gen.PeerQIdeal.Frame
public import proofs.«01_k».proof.Proof.Gen.PeerQRefIdeal
public import proofs.«01_k».proof.Proof.Gen.PeerQRefIdeal.Run
public import proofs.«01_k».proof.Proof.Gen.InProjCtx
public import proofs.«01_k».proof.Proof.Gen.InProjCtxIdeal
public import proofs.«01_k».proof.Proof.Gen.InProjCtxIdeal.Skeleton
public import proofs.«01_k».proof.Proof.Gen.InProjCtxIdeal.Launch
public import proofs.«01_k».proof.Proof.Gen.InProjCtxIdeal.Points
public import proofs.«01_k».proof.Proof.Gen.InProjCtxIdeal.Frame
public import proofs.«01_k».proof.Proof.Gen.InProjCtxRefIdeal
public import proofs.«01_k».proof.Proof.Gen.InProjCtxRefIdeal.Run
public import proofs.«01_k».proof.Proof.Gen.Conformer
public import proofs.«01_k».proof.Proof.Gen.ConformerIdeal
public import proofs.«01_k».proof.Proof.Gen.ConformerIdeal.Skeleton
public import proofs.«01_k».proof.Proof.Gen.ConformerIdeal.Launch
public import proofs.«01_k».proof.Proof.Gen.ConformerIdeal.Points
public import proofs.«01_k».proof.Proof.Gen.ConformerIdeal.Frame
public import proofs.«01_k».proof.Proof.Gen.ConformerIdeal.Loops
public import proofs.«01_k».proof.Proof.Gen.ConformerRefIdeal
public import proofs.«01_k».proof.Proof.Gen.ConformerRefIdeal.Run
public import proofs.«01_k».proof.Proof.Gen.Tables
public import proofs.«01_k».proof.Proof.Gen.Tables.Skeleton
public import proofs.«01_k».proof.Proof.Gen.Tables.Launch
public import proofs.«01_k».proof.Proof.Gen.Tables.Points
public import proofs.«01_k».proof.Proof.Gen.Tables.Frame
public import proofs.«01_k».proof.Proof.Gen.TablesIdeal
public import proofs.«01_k».proof.Proof.Gen.TablesIdeal.Skeleton
public import proofs.«01_k».proof.Proof.Gen.TablesIdeal.Launch
public import proofs.«01_k».proof.Proof.Gen.TablesIdeal.Points
public import proofs.«01_k».proof.Proof.Gen.TablesIdeal.Frame
public import proofs.«01_k».proof.Proof.Gen.TablesIdeal.Value
public import proofs.«01_k».proof.Proof.Gen.TablesRefIdeal
public import proofs.«01_k».proof.Proof.Gen.TablesRefIdeal.Run
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.PrepCtx
public import proofs.«01_k».proof.Proof.Gen.PrepCtx.Skeleton
public import proofs.«01_k».proof.Proof.Gen.PrepCtx.Launch
public import proofs.«01_k».proof.Proof.Gen.PrepCtx.Points
public import proofs.«01_k».proof.Proof.Gen.PrepCtx.Frame
public import proofs.«01_k».proof.Proof.Gen.PrepCtxIdeal
public import proofs.«01_k».proof.Proof.Gen.PrepCtxIdeal.Skeleton
public import proofs.«01_k».proof.Proof.Gen.PrepCtxIdeal.Launch
public import proofs.«01_k».proof.Proof.Gen.PrepCtxIdeal.Points
public import proofs.«01_k».proof.Proof.Gen.PrepCtxIdeal.Frame
public import proofs.«01_k».proof.Proof.Gen.PrepCtxIdeal.Value
public import proofs.«01_k».proof.Proof.Gen.PrepCtxRefIdeal
public import proofs.«01_k».proof.Proof.Gen.PrepCtxRefIdeal.Run
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsIdeal.Value
public import proofs.«01_k».proof.Proof.Gen.ExpertsRefIdeal
public import proofs.«01_k».proof.Proof.Gen.ExpertsRefIdeal.Run
public import proofs.«01_k».proof.Proof.Weights.Value
public import proofs.«01_k».proof.Proof.InProj.Value
public import proofs.«01_k».proof.Proof.Final.Value
public import proofs.«01_k».proof.Proof.Merge.Reference
public import proofs.«01_k».proof.Proof.Mod.Value
public import proofs.«01_k».proof.Proof.PeerQ.Value
public import proofs.«01_k».proof.Proof.InProjCtx.Value
public import proofs.«01_k».proof.Proof.Conformer.Reference
public import proofs.«01_k».proof.Proof.Tables.Value
public import proofs.«01_k».proof.Proof.Prep.Reference
public import proofs.«01_k».proof.Proof.PrepCtx.Reference
public import proofs.«01_k».proof.Proof.Experts.Reference
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference changes no argument and leaves every counter at zero. -/
theorem frame_reference : Cert.quiescent_ReferenceIdeal := fun m ρ _ =>
  (θ_run Cert.ReferenceIdeal.defs _ _).mono (fun r h => ⟨fun c => (h c).2.2, sem_eq_zero_of_no_sems rfl r.2⟩)
    (Cert.ReferenceIdeal.Value.run m ρ)

/-- The printed program and its ideal printing have the same body table. -/
theorem defs₀_eq : Cert.Kernel.defs₀ (F := Bits) = Cert.KernelIdeal.defs₀ (F := Bits) := by
  unfold Cert.Kernel.defs₀ Cert.KernelIdeal.defs₀
  congr 1
  funext l a
  match l, a with
  | 0, (t, s) => rfl

theorem defs_eq : Cert.Kernel.defs (F := Bits) = Cert.KernelIdeal.defs (F := Bits) := by
  unfold Cert.Kernel.defs Cert.KernelIdeal.defs
  exact congrArg (Pipeline.defs _) defs₀_eq

/-- The kernel at its bit patterns: the same program text, run at the bits. -/
theorem frame_kernel : Cert.quiescent_Kernel := fun m ρ _ => by
  rw [defs_eq]
  exact (θ_run Cert.KernelIdeal.defs _ _).mono (fun _ h => h) (Cert.Weights.frame (F := Bits) m ρ)

/-- The kernel's two layouts are the reference's. -/
theorem algebraic : Cert.algebraic_KernelIdeal_ReferenceIdeal := by
  intro m g m' g' _ hagree
  refine ⟨_, _, Cert.Weights.run m g, ?_⟩
  refine (θ_run Cert.ReferenceIdeal.defs _ _).mono (fun _ h c => ?_) (Cert.Weights.Ref.run m' g')
  exact ⟨(h c).1.trans (congrArg Cert.Weights.mainOf (hagree c)), (h c).2.1.trans (congrArg Cert.Weights.gateOf (hagree c)), (h c).2.2⟩

/-! ## The input projection -/

theorem frame_inProjReference : Cert.quiescent_InProjRefIdeal := fun m ρ _ =>
  (θ_run Cert.InProjRefIdeal.defs _ _).mono (fun r h => ⟨fun c => (h c).2.2, sem_eq_zero_of_no_sems rfl r.2⟩)
    (Cert.InProjRefIdeal.Value.run m ρ)

theorem inProj_defs₀_eq : Cert.InProj.defs₀ (F := Bits) = Cert.InProjIdeal.defs₀ (F := Bits) := by
  unfold Cert.InProj.defs₀ Cert.InProjIdeal.defs₀
  congr 1
  funext l a
  match l, a with
  | 0, (t, s) => rfl

theorem inProj_defs_eq : Cert.InProj.defs (F := Bits) = Cert.InProjIdeal.defs (F := Bits) := by
  unfold Cert.InProj.defs Cert.InProjIdeal.defs
  exact congrArg (Pipeline.defs _) inProj_defs₀_eq

theorem frame_inProj : Cert.quiescent_InProj := fun m ρ _ => by
  rw [inProj_defs_eq]
  exact (θ_run Cert.InProjIdeal.defs _ _).mono (fun _ h => h) (Cert.InProjRun.frame (F := Bits) m ρ)

/-- Both projections are the reference's. -/
theorem algebraic_inProj : Cert.algebraic_InProjIdeal_InProjRefIdeal := by
  intro m g m' g' _ hagree
  refine ⟨_, _, Cert.InProjRun.run m g, ?_⟩
  refine (θ_run Cert.InProjRefIdeal.defs _ _).mono (fun _ h c => ?_) (Cert.InProjRun.Ref.run m' g')
  obtain ⟨e0, e1, e2, e3, e4⟩ := hagree c
  have h0 := (h c).1
  have h1 := (h c).2.1
  rw [e0, e1, e2, e3] at h0
  rw [e0, e1, e2, e4] at h1
  exact ⟨h0, h1, (h c).2.2⟩

/-! ## The final normalisation -/

theorem frame_finalReference : Cert.quiescent_FinalRefIdeal := fun m ρ _ =>
  (θ_run Cert.FinalRefIdeal.defs _ _).mono (fun r h => ⟨fun c => (h c).2, sem_eq_zero_of_no_sems rfl r.2⟩) (Cert.FinalRefIdeal.Value.run m ρ)

/-- The gated residual, normalised, is the reference's. -/
theorem algebraic_final : Cert.algebraic_FinalIdeal_FinalRefIdeal := by
  intro m g m' g' _ hagree
  refine ⟨_, Cert.FinalRun.run m g, ?_⟩
  refine (θ_run Cert.FinalRefIdeal.defs _ _).mono (fun _ h c => ?_) (Cert.FinalRun.Ref.run m' g')
  obtain ⟨e0, e1, e2, e3⟩ := hagree c
  have h0 := (h c).1
  rw [e0, e1, e2, e3] at h0
  exact ⟨h0, (h c).2⟩

/-! ## The merge -/

theorem frame_mergeReference : Cert.quiescent_MergeRefIdeal := fun m ρ _ =>
  (θ_run Cert.MergeRefIdeal.defs _ _).mono (fun r h => ⟨fun c => (h c).2, sem_eq_zero_of_no_sems rfl r.2⟩) (Cert.MergeRefIdeal.Value.run m ρ)

/-- The mixed branches on the residual are the reference's. -/
theorem algebraic_merge : Cert.algebraic_MergeIdeal_MergeRefIdeal := by
  intro m g m' g' _ hagree
  refine ⟨_, Cert.MergeRun.run m g, ?_⟩
  refine (θ_run Cert.MergeRefIdeal.defs _ _).mono (fun _ h c => ?_) (Cert.MergeRun.Ref.run m' g')
  obtain ⟨e0, e1, e2, e3, e4, e5, e6, e7⟩ := hagree c
  have h0 := (h c).1
  rw [e0, e1, e2, e3, e4, e5, e6, e7] at h0
  exact ⟨h0, (h c).2⟩

/-! ## The modulation rows -/

theorem frame_modReference : Cert.quiescent_ModRefIdeal := fun m ρ _ =>
  (θ_run Cert.ModRefIdeal.defs _ _).mono (fun r h => ⟨fun c => (h c).2, sem_eq_zero_of_no_sems rfl r.2⟩) (Cert.ModRefIdeal.Value.run m ρ)

/-- The modulation rows are the reference's. -/
theorem algebraic_mod : Cert.algebraic_ModIdeal_ModRefIdeal := by
  intro m g m' g' _ hagree
  refine ⟨_, Cert.ModRun.run m g, ?_⟩
  refine (θ_run Cert.ModRefIdeal.defs _ _).mono (fun _ h c => ?_) (Cert.ModRun.Ref.run m' g')
  obtain ⟨e0, e1, e2, e3⟩ := hagree c
  have h0 := (h c).1
  rw [e0, e1, e2, e3] at h0
  exact ⟨h0, (h c).2⟩

/-! ## The query projection -/

theorem frame_peerQReference : Cert.quiescent_PeerQRefIdeal := fun m ρ _ =>
  (θ_run Cert.PeerQRefIdeal.defs _ _).mono (fun r h => ⟨fun c => (h c).2.2, sem_eq_zero_of_no_sems rfl r.2⟩)
    (Cert.PeerQRefIdeal.Value.run m ρ)

theorem peerQ_defs₀_eq : Cert.PeerQ.defs₀ (F := Bits) = Cert.PeerQIdeal.defs₀ (F := Bits) := by
  unfold Cert.PeerQ.defs₀ Cert.PeerQIdeal.defs₀
  congr 1
  funext l a
  match l, a with
  | 0, (t, s) => rfl

theorem peerQ_defs_eq : Cert.PeerQ.defs (F := Bits) = Cert.PeerQIdeal.defs (F := Bits) := by
  unfold Cert.PeerQ.defs Cert.PeerQIdeal.defs
  exact congrArg (Pipeline.defs _) peerQ_defs₀_eq

theorem frame_peerQ : Cert.quiescent_PeerQ := fun m ρ _ => by
  rw [peerQ_defs_eq]
  exact (θ_run Cert.PeerQIdeal.defs _ _).mono (fun _ h => h) (Cert.PeerQRun.frame (F := Bits) m ρ)

/-- The queries and the turned activations are the reference's. -/
theorem algebraic_peerQ : Cert.algebraic_PeerQIdeal_PeerQRefIdeal := by
  intro m g m' g' _ hagree
  refine ⟨_, _, Cert.PeerQRun.run m g, ?_⟩
  refine (θ_run Cert.PeerQRefIdeal.defs _ _).mono (fun _ h c => ?_) (Cert.PeerQRun.Ref.run m' g')
  obtain ⟨e0, e1, e2, e3⟩ := hagree c
  have h0 := (h c).1
  have h1 := (h c).2.1
  rw [e0, e1, e2, e3] at h0
  rw [e0, e1, e2] at h1
  exact ⟨h0, h1, (h c).2.2⟩

/-! ## The context projection -/

theorem frame_inProjCtxReference : Cert.quiescent_InProjCtxRefIdeal := fun m ρ _ =>
  (θ_run Cert.InProjCtxRefIdeal.defs _ _).mono (fun r h => ⟨fun c => (h c).2.2, sem_eq_zero_of_no_sems rfl r.2⟩)
    (Cert.InProjCtxRefIdeal.Value.run m ρ)

theorem inProjCtx_defs₀_eq : Cert.InProjCtx.defs₀ (F := Bits) = Cert.InProjCtxIdeal.defs₀ (F := Bits) := by
  unfold Cert.InProjCtx.defs₀ Cert.InProjCtxIdeal.defs₀
  congr 1
  funext l a
  match l, a with
  | 0, (t, s) => rfl

theorem inProjCtx_defs_eq : Cert.InProjCtx.defs (F := Bits) = Cert.InProjCtxIdeal.defs (F := Bits) := by
  unfold Cert.InProjCtx.defs Cert.InProjCtxIdeal.defs
  exact congrArg (Pipeline.defs _) inProjCtx_defs₀_eq

theorem frame_inProjCtx : Cert.quiescent_InProjCtx := fun m ρ _ => by
  rw [inProjCtx_defs_eq]
  exact (θ_run Cert.InProjCtxIdeal.defs _ _).mono (fun _ h => h) (Cert.InProjCtxRun.frame (F := Bits) m ρ)

/-- Both context projections are the reference's. -/
theorem algebraic_inProjCtx : Cert.algebraic_InProjCtxIdeal_InProjCtxRefIdeal := by
  intro m g m' g' _ hagree
  refine ⟨_, _, Cert.InProjCtxRun.run m g, ?_⟩
  refine (θ_run Cert.InProjCtxRefIdeal.defs _ _).mono (fun _ h c => ?_) (Cert.InProjCtxRun.Ref.run m' g')
  obtain ⟨e0, e1, e2, e3, e4⟩ := hagree c
  have h0 := (h c).1
  have h1 := (h c).2.1
  rw [e0, e1, e2, e3] at h0
  rw [e0, e1, e2, e4] at h1
  exact ⟨h0, h1, (h c).2.2⟩

/-! ## The Conformer branch -/

theorem frame_conformerReference : Cert.quiescent_ConformerRefIdeal := fun m ρ _ =>
  (θ_run Cert.ConformerRefIdeal.defs _ _).mono (fun r h => ⟨fun c => (h c).2, sem_eq_zero_of_no_sems rfl r.2⟩)
    (Cert.ConformerRefIdeal.Value.run m ρ)

theorem conformer_defs₀_eq : Cert.Conformer.defs₀ (F := Bits) = Cert.ConformerIdeal.defs₀ (F := Bits) := by
  unfold Cert.Conformer.defs₀ Cert.ConformerIdeal.defs₀
  congr 1
  funext l a
  match l, a with
  | 0, (t, s) => rfl

theorem conformer_defs_eq : Cert.Conformer.defs (F := Bits) = Cert.ConformerIdeal.defs (F := Bits) := by
  unfold Cert.Conformer.defs Cert.ConformerIdeal.defs
  exact congrArg (Pipeline.defs _) conformer_defs₀_eq

theorem frame_conformer : Cert.quiescent_Conformer := fun m ρ _ => by
  rw [conformer_defs_eq]
  exact (θ_run Cert.ConformerIdeal.defs _ _).mono (fun _ h => h) (Cert.ConformerRun.frame (F := Bits) m ρ)

/-- The convolved, normalised and projected rows are the reference's. -/
theorem algebraic_conformer : Cert.algebraic_ConformerIdeal_ConformerRefIdeal := by
  intro m g m' g' _ hagree
  refine ⟨_, Cert.ConformerRun.run m g, ?_⟩
  refine (θ_run Cert.ConformerRefIdeal.defs _ _).mono (fun _ h c => ?_) (Cert.ConformerRun.Ref.run m' g')
  obtain ⟨e0, e1, e2, e3, e4, e5⟩ := hagree c
  have h0 := (h c).1
  rw [e0, e1, e2, e3, e4, e5] at h0
  exact ⟨h0, (h c).2⟩

/-! ## The experts' tables -/

theorem frame_tablesReference : Cert.quiescent_TablesRefIdeal := fun m ρ _ =>
  (θ_run Cert.TablesRefIdeal.defs _ _).mono (fun r h => ⟨fun c => (h c).2.2, sem_eq_zero_of_no_sems rfl r.2⟩)
    (Cert.TablesRefIdeal.Value.run m ρ)

/-- Both tables are the reference's. -/
theorem algebraic_tables : Cert.algebraic_TablesIdeal_TablesRefIdeal := by
  intro m g m' g' _ hagree
  refine ⟨_, _, Cert.TablesRun.run m g, ?_⟩
  refine (θ_run Cert.TablesRefIdeal.defs _ _).mono (fun _ h c => ?_) (Cert.TablesRun.Ref.run m' g')
  obtain ⟨e0, e1⟩ := hagree c
  have h0 := (h c).1
  have h1 := (h c).2.1
  rw [e0] at h0
  rw [e1] at h1
  exact ⟨h0, h1, (h c).2.2⟩

/-! ## The queries, keys and values of the latent tokens -/

theorem frame_prepReference : Cert.quiescent_PrepRefIdeal := fun m ρ _ =>
  (θ_run Cert.PrepRefIdeal.defs _ _).mono (fun r h => ⟨fun c => (h c).2.2.2, sem_eq_zero_of_no_sems rfl r.2⟩)
    (Cert.PrepRefIdeal.Value.run m ρ)

/-- The convolved and normed queries, keys and values are the reference's. -/
theorem algebraic_prep : Cert.algebraic_PrepIdeal_PrepRefIdeal := by
  intro m g m' g' _ hagree
  refine ⟨_, _, _, Cert.PrepRun.run m g, ?_⟩
  refine (θ_run Cert.PrepRefIdeal.defs _ _).mono (fun _ h c => ?_) (Cert.PrepRun.Ref.run m' g')
  obtain ⟨e0, e1⟩ := hagree c
  have h0 := (h c).1
  have h1 := (h c).2.1
  have h2 := (h c).2.2.1
  unfold Cert.PrepRun.Ref.P Cert.PrepRun.Ref.T at h0 h1 h2
  rw [e0, e1] at h0 h1 h2
  exact ⟨h0, h1, h2, (h c).2.2.2⟩

/-! ## The queries, keys and values of the context -/

theorem frame_prepCtxReference : Cert.quiescent_PrepCtxRefIdeal := fun m ρ _ =>
  (θ_run Cert.PrepCtxRefIdeal.defs _ _).mono (fun r h => ⟨fun c => (h c).2.2.2, sem_eq_zero_of_no_sems rfl r.2⟩)
    (Cert.PrepCtxRefIdeal.Value.run m ρ)

/-- The convolved and normed queries, keys and values are the reference's. -/
theorem algebraic_prepCtx : Cert.algebraic_PrepCtxIdeal_PrepCtxRefIdeal := by
  intro m g m' g' _ hagree
  refine ⟨_, _, _, Cert.PrepCtxRun.run m g, ?_⟩
  refine (θ_run Cert.PrepCtxRefIdeal.defs _ _).mono (fun _ h c => ?_) (Cert.PrepCtxRun.Ref.run m' g')
  obtain ⟨e0, e1⟩ := hagree c
  have h0 := (h c).1
  have h1 := (h c).2.1
  have h2 := (h c).2.2.1
  unfold Cert.PrepCtxRun.Ref.P Cert.PrepCtxRun.Ref.T at h0 h1 h2
  rw [e0, e1] at h0 h1 h2
  exact ⟨h0, h1, h2, (h c).2.2.2⟩

/-! ## The experts -/

theorem frame_expertsReference : Cert.quiescent_ExpertsRefIdeal := fun m ρ _ =>
  (θ_run Cert.ExpertsRefIdeal.defs _ _).mono (fun r h => ⟨fun c => (h c).2, sem_eq_zero_of_no_sems rfl r.2⟩)
    (Cert.ExpertsRefIdeal.Value.run m ρ)

/-- The experts' output is the reference's, where no product of an expert's row with a token is minus infinity. -/
theorem algebraic_experts : Cert.algebraic_ExpertsIdeal_ExpertsRefIdeal_pre_above_minus_infinity := by
  intro m g m' g' hpre hagree
  have hx : ∀ (c : Dev Cert.ExpertsRefIdeal.nD) (e : Fin 16384) (t : Fin 8192), ∑ k, Cert.ExpertsRun.Ref.U m' c (ix2 e k) * Cert.ExpertsRun.Ref.H m' c (ix2 k t) ≠ ⊥ := by
    intro c
    obtain ⟨e0, e1, _⟩ := hagree c
    unfold Cert.ExpertsRun.Ref.H Cert.ExpertsRun.Ref.U
    rw [e0, e1]
    exact Cert.ExpertsRun.Ref.above _ _ _ _ _ _ _ (hpre c)
  refine ⟨_, Cert.ExpertsRun.run m g, ?_⟩
  refine (θ_run Cert.ExpertsRefIdeal.defs _ _).mono (fun _ h c => ?_) (Cert.ExpertsRun.Ref.run m' g' hx)
  obtain ⟨e0, e1, e2, e3, e4, e5, e6⟩ := hagree c
  have h0 := (h c).1
  unfold Cert.ExpertsRun.Ref.H Cert.ExpertsRun.Ref.U Cert.ExpertsRun.Ref.Vt Cert.ExpertsRun.Ref.Thr Cert.ExpertsRun.Ref.S2 Cert.ExpertsRun.Ref.P1 Cert.ExpertsRun.Ref.P2 at h0
  rw [e0, e1, e2, e3, e4, e5, e6] at h0
  exact ⟨h0, (h c).2⟩

theorem claim : Cert.Claim := ⟨Cert.Kernel.Gen.facts, Cert.KernelIdeal.Gen.facts, Cert.ReferenceIdeal.Gen.facts,
  Cert.InProj.Gen.facts, Cert.InProjIdeal.Gen.facts, Cert.InProjRefIdeal.Gen.facts,
  Cert.Final.Gen.facts, Cert.FinalIdeal.Gen.facts, Cert.FinalRefIdeal.Gen.facts,
  Cert.Merge.Gen.facts, Cert.MergeIdeal.Gen.facts, Cert.MergeRefIdeal.Gen.facts,
  Cert.Mod.Gen.facts, Cert.ModIdeal.Gen.facts, Cert.ModRefIdeal.Gen.facts,
  Cert.PeerQ.Gen.facts, Cert.PeerQIdeal.Gen.facts, Cert.PeerQRefIdeal.Gen.facts,
  Cert.InProjCtx.Gen.facts, Cert.InProjCtxIdeal.Gen.facts, Cert.InProjCtxRefIdeal.Gen.facts,
  Cert.Conformer.Gen.facts, Cert.ConformerIdeal.Gen.facts, Cert.ConformerRefIdeal.Gen.facts,
  Cert.Tables.Gen.facts, Cert.TablesIdeal.Gen.facts, Cert.TablesRefIdeal.Gen.facts,
  Cert.Prep.Gen.facts, Cert.PrepIdeal.Gen.facts, Cert.PrepRefIdeal.Gen.facts,
  Cert.PrepCtx.Gen.facts, Cert.PrepCtxIdeal.Gen.facts, Cert.PrepCtxRefIdeal.Gen.facts,
  Cert.Experts.Gen.facts, Cert.ExpertsIdeal.Gen.facts, Cert.ExpertsRefIdeal.Gen.facts, Cert.Pre_above_minus_infinity.Gen.facts,
  frame_kernel, fun m ρ _ => Cert.Weights.frame m ρ, frame_reference,
  frame_inProj, fun m ρ _ => Cert.InProjRun.frame m ρ, frame_inProjReference,
  fun m ρ _ => Cert.Final.Gen.frame m ρ, fun m ρ _ => Cert.FinalIdeal.Gen.frame m ρ, frame_finalReference,
  fun m ρ _ => Cert.Merge.Gen.frame m ρ, fun m ρ _ => Cert.MergeIdeal.Gen.frame m ρ, frame_mergeReference,
  fun m ρ _ => Cert.Mod.Gen.frame m ρ, fun m ρ _ => Cert.ModIdeal.Gen.frame m ρ, frame_modReference,
  frame_peerQ, fun m ρ _ => Cert.PeerQRun.frame m ρ, frame_peerQReference,
  frame_inProjCtx, fun m ρ _ => Cert.InProjCtxRun.frame m ρ, frame_inProjCtxReference,
  frame_conformer, fun m ρ _ => Cert.ConformerRun.frame m ρ, frame_conformerReference,
  fun m ρ _ => Cert.Tables.Gen.frame m ρ, fun m ρ _ => Cert.TablesIdeal.Gen.frame m ρ, frame_tablesReference,
  fun m ρ _ => Cert.Prep.Gen.frame m ρ, fun m ρ _ => Cert.PrepIdeal.Gen.frame m ρ, frame_prepReference,
  fun m ρ _ => Cert.PrepCtx.Gen.frame m ρ, fun m ρ _ => Cert.PrepCtxIdeal.Gen.frame m ρ, frame_prepCtxReference,
  fun m ρ _ => Cert.Experts.Gen.frame m ρ, fun m ρ _ => Cert.ExpertsIdeal.Gen.frame m ρ, fun m ρ _ => Cert.ExpertsIdeal.Gen.frame m ρ,
  frame_expertsReference, fun m ρ _ => frame_expertsReference m ρ trivial,
  trivial, algebraic, trivial, algebraic_inProj, trivial, algebraic_final, trivial, algebraic_merge, trivial, algebraic_mod,
  trivial, algebraic_peerQ, trivial, algebraic_inProjCtx, trivial, algebraic_conformer,
  trivial, algebraic_tables,
  IdealRules.named_const.statement Cert.PrepIdeal.κ "inv_sqrt_dk" .f32 0x3DB504F3#32 (((Real.sqrt 128)⁻¹ : ℝ) : EReal) rfl, algebraic_prep,
  IdealRules.named_const.statement Cert.PrepCtxIdeal.κ "inv_sqrt_dk" .f32 0x3DB504F3#32 (((Real.sqrt 128)⁻¹ : ℝ) : EReal) rfl, algebraic_prepCtx,
  IdealRules.named_const.statement Cert.ExpertsIdeal.κ "gelu_cubic" .f32 0x3D122279#32 ((80338380498831 / 2251799813685248 : ℝ) : EReal) rfl, algebraic_experts⟩

end Cert.Proof

end
